-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8)
      ∧ r.2.mem ((c.tc : Thread Cert.Kernel25.nD Cert.Kernel25.τ).loc Cert.Kernel25.main_arg9) = m ((c.tc : Thread Cert.Kernel25.nD Cert.Kernel25.τ).loc Cert.Kernel25.main_arg9)
      ∧ r.2.mem ((c.tc : Thread Cert.Kernel25.nD Cert.Kernel25.τ).loc Cert.Kernel25.main_arg10) = m ((c.tc : Thread Cert.Kernel25.nD Cert.Kernel25.τ).loc Cert.Kernel25.main_arg10)
      ∧ r.2.mem ((c.tc : Thread Cert.Kernel25.nD Cert.Kernel25.τ).loc Cert.Kernel25.main_arg11) = m ((c.tc : Thread Cert.Kernel25.nD Cert.Kernel25.τ).loc Cert.Kernel25.main_arg11)
      ∧ r.2.mem ((c.tc : Thread Cert.Kernel25.nD Cert.Kernel25.τ).loc Cert.Kernel25.main_arg12) = m ((c.tc : Thread Cert.Kernel25.nD Cert.Kernel25.τ).loc Cert.Kernel25.main_arg12))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
      ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
      ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
      ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11)
      ∧ r.2.mem ((c.tc : Thread Cert.Kernel25Ideal.nD Cert.Kernel25Ideal.τ).loc Cert.Kernel25Ideal.main_arg12) = m ((c.tc : Thread Cert.Kernel25Ideal.nD Cert.Kernel25Ideal.τ).loc Cert.Kernel25Ideal.main_arg12))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9)
      ∧ r.2.mem ((c.tc : Thread Cert.Reference25Ideal.nD Cert.Reference25Ideal.τ).loc Cert.Reference25Ideal.main_arg10) = m ((c.tc : Thread Cert.Reference25Ideal.nD Cert.Reference25Ideal.τ).loc Cert.Reference25Ideal.main_arg10)
      ∧ r.2.mem ((c.tc : Thread Cert.Reference25Ideal.nD Cert.Reference25Ideal.τ).loc Cert.Reference25Ideal.main_arg11) = m ((c.tc : Thread Cert.Reference25Ideal.nD Cert.Reference25Ideal.τ).loc Cert.Reference25Ideal.main_arg11)
      ∧ r.2.mem ((c.tc : Thread Cert.Reference25Ideal.nD Cert.Reference25Ideal.τ).loc Cert.Reference25Ideal.main_arg12) = m ((c.tc : Thread Cert.Reference25Ideal.nD Cert.Reference25Ideal.τ).loc Cert.Reference25Ideal.main_arg12))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7)
      ∧ r.2.mem ((c.tc : Thread Cert.Kernel26.nD Cert.Kernel26.τ).loc Cert.Kernel26.main_arg8) = m ((c.tc : Thread Cert.Kernel26.nD Cert.Kernel26.τ).loc Cert.Kernel26.main_arg8)
      ∧ r.2.mem ((c.tc : Thread Cert.Kernel26.nD Cert.Kernel26.τ).loc Cert.Kernel26.main_arg9) = m ((c.tc : Thread Cert.Kernel26.nD Cert.Kernel26.τ).loc Cert.Kernel26.main_arg9)
      ∧ r.2.mem ((c.tc : Thread Cert.Kernel26.nD Cert.Kernel26.τ).loc Cert.Kernel26.main_arg10) = m ((c.tc : Thread Cert.Kernel26.nD Cert.Kernel26.τ).loc Cert.Kernel26.main_arg10)
      ∧ r.2.mem ((c.tc : Thread Cert.Kernel26.nD Cert.Kernel26.τ).loc Cert.Kernel26.main_arg11) = m ((c.tc : Thread Cert.Kernel26.nD Cert.Kernel26.τ).loc Cert.Kernel26.main_arg11)
      ∧ r.2.mem ((c.tc : Thread Cert.Kernel26.nD Cert.Kernel26.τ).loc Cert.Kernel26.main_arg12) = m ((c.tc : Thread Cert.Kernel26.nD Cert.Kernel26.τ).loc Cert.Kernel26.main_arg12)
      ∧ r.2.mem ((c.tc : Thread Cert.Kernel26.nD Cert.Kernel26.τ).loc Cert.Kernel26.main_arg13) = m ((c.tc : Thread Cert.Kernel26.nD Cert.Kernel26.τ).loc Cert.Kernel26.main_arg13)
      ∧ r.2.mem ((c.tc : Thread Cert.Kernel26.nD Cert.Kernel26.τ).loc Cert.Kernel26.main_arg14) = m ((c.tc : Thread Cert.Kernel26.nD Cert.Kernel26.τ).loc Cert.Kernel26.main_arg14)
      ∧ r.2.mem ((c.tc : Thread Cert.Kernel26.nD Cert.Kernel26.τ).loc Cert.Kernel26.main_arg15) = m ((c.tc : Thread Cert.Kernel26.nD Cert.Kernel26.τ).loc Cert.Kernel26.main_arg15)
      ∧ r.2.mem ((c.tc : Thread Cert.Kernel26.nD Cert.Kernel26.τ).loc Cert.Kernel26.main_arg16) = m ((c.tc : Thread Cert.Kernel26.nD Cert.Kernel26.τ).loc Cert.Kernel26.main_arg16)
      ∧ r.2.mem ((c.tc : Thread Cert.Kernel26.nD Cert.Kernel26.τ).loc Cert.Kernel26.main_arg17) = m ((c.tc : Thread Cert.Kernel26.nD Cert.Kernel26.τ).loc Cert.Kernel26.main_arg17)
      ∧ r.2.mem ((c.tc : Thread Cert.Kernel26.nD Cert.Kernel26.τ).loc Cert.Kernel26.main_arg18) = m ((c.tc : Thread Cert.Kernel26.nD Cert.Kernel26.τ).loc Cert.Kernel26.main_arg18)
      ∧ r.2.mem ((c.tc : Thread Cert.Kernel26.nD Cert.Kernel26.τ).loc Cert.Kernel26.main_arg19) = m ((c.tc : Thread Cert.Kernel26.nD Cert.Kernel26.τ).loc Cert.Kernel26.main_arg19)
      ∧ r.2.mem ((c.tc : Thread Cert.Kernel26.nD Cert.Kernel26.τ).loc Cert.Kernel26.main_arg20) = m ((c.tc : Thread Cert.Kernel26.nD Cert.Kernel26.τ).loc Cert.Kernel26.main_arg20)
      ∧ r.2.mem ((c.tc : Thread Cert.Kernel26.nD Cert.Kernel26.τ).loc Cert.Kernel26.main_arg21) = m ((c.tc : Thread Cert.Kernel26.nD Cert.Kernel26.τ).loc Cert.Kernel26.main_arg21)
      ∧ r.2.mem ((c.tc : Thread Cert.Kernel26.nD Cert.Kernel26.τ).loc Cert.Kernel26.main_arg22) = m ((c.tc : Thread Cert.Kernel26.nD Cert.Kernel26.τ).loc Cert.Kernel26.main_arg22)
      ∧ r.2.mem ((c.tc : Thread Cert.Kernel26.nD Cert.Kernel26.τ).loc Cert.Kernel26.main_arg23) = m ((c.tc : Thread Cert.Kernel26.nD Cert.Kernel26.τ).loc Cert.Kernel26.main_arg23)
      ∧ r.2.mem ((c.tc : Thread Cert.Kernel26.nD Cert.Kernel26.τ).loc Cert.Kernel26.main_arg24) = m ((c.tc : Thread Cert.Kernel26.nD Cert.Kernel26.τ).loc Cert.Kernel26.main_arg24)
      ∧ r.2.mem ((c.tc : Thread Cert.Kernel26.nD Cert.Kernel26.τ).loc Cert.Kernel26.main_arg25) = m ((c.tc : Thread Cert.Kernel26.nD Cert.Kernel26.τ).loc Cert.Kernel26.main_arg25)
      ∧ r.2.mem ((c.tc : Thread Cert.Kernel26.nD Cert.Kernel26.τ).loc Cert.Kernel26.main_arg26) = m ((c.tc : Thread Cert.Kernel26.nD Cert.Kernel26.τ).loc Cert.Kernel26.main_arg26)
      ∧ r.2.mem ((c.tc : Thread Cert.Kernel26.nD Cert.Kernel26.τ).loc Cert.Kernel26.main_arg27) = m ((c.tc : Thread Cert.Kernel26.nD Cert.Kernel26.τ).loc Cert.Kernel26.main_arg27)
      ∧ r.2.mem ((c.tc : Thread Cert.Kernel26.nD Cert.Kernel26.τ).loc Cert.Kernel26.main_arg28) = m ((c.tc : Thread Cert.Kernel26.nD Cert.Kernel26.τ).loc Cert.Kernel26.main_arg28)
      ∧ r.2.mem ((c.tc : Thread Cert.Kernel26.nD Cert.Kernel26.τ).loc Cert.Kernel26.main_arg29) = m ((c.tc : Thread Cert.Kernel26.nD Cert.Kernel26.τ).loc Cert.Kernel26.main_arg29)
      ∧ r.2.mem ((c.tc : Thread Cert.Kernel26.nD Cert.Kernel26.τ).loc Cert.Kernel26.main_arg30) = m ((c.tc : Thread Cert.Kernel26.nD Cert.Kernel26.τ).loc Cert.Kernel26.main_arg30)
      ∧ r.2.mem ((c.tc : Thread Cert.Kernel26.nD Cert.Kernel26.τ).loc Cert.Kernel26.main_arg31) = m ((c.tc : Thread Cert.Kernel26.nD Cert.Kernel26.τ).loc Cert.Kernel26.main_arg31)
      ∧ r.2.mem ((c.tc : Thread Cert.Kernel26.nD Cert.Kernel26.τ).loc Cert.Kernel26.main_arg32) = m ((c.tc : Thread Cert.Kernel26.nD Cert.Kernel26.τ).loc Cert.Kernel26.main_arg32)
      ∧ r.2.mem ((c.tc : Thread Cert.Kernel26.nD Cert.Kernel26.τ).loc Cert.Kernel26.main_arg33) = m ((c.tc : Thread Cert.Kernel26.nD Cert.Kernel26.τ).loc Cert.Kernel26.main_arg33)
      ∧ r.2.mem ((c.tc : Thread Cert.Kernel26.nD Cert.Kernel26.τ).loc Cert.Kernel26.main_arg34) = m ((c.tc : Thread Cert.Kernel26.nD Cert.Kernel26.τ).loc Cert.Kernel26.main_arg34)
      ∧ r.2.mem ((c.tc : Thread Cert.Kernel26.nD Cert.Kernel26.τ).loc Cert.Kernel26.main_arg35) = m ((c.tc : Thread Cert.Kernel26.nD Cert.Kernel26.τ).loc Cert.Kernel26.main_arg35)
      ∧ r.2.mem ((c.tc : Thread Cert.Kernel26.nD Cert.Kernel26.τ).loc Cert.Kernel26.main_arg36) = m ((c.tc : Thread Cert.Kernel26.nD Cert.Kernel26.τ).loc Cert.Kernel26.main_arg36)
      ∧ r.2.mem ((c.tc : Thread Cert.Kernel26.nD Cert.Kernel26.τ).loc Cert.Kernel26.main_arg37) = m ((c.tc : Thread Cert.Kernel26.nD Cert.Kernel26.τ).loc Cert.Kernel26.main_arg37)
      ∧ r.2.mem ((c.tc : Thread Cert.Kernel26.nD Cert.Kernel26.τ).loc Cert.Kernel26.main_arg38) = m ((c.tc : Thread Cert.Kernel26.nD Cert.Kernel26.τ).loc Cert.Kernel26.main_arg38)
      ∧ r.2.mem ((c.tc : Thread Cert.Kernel26.nD Cert.Kernel26.τ).loc Cert.Kernel26.main_arg39) = m ((c.tc : Thread Cert.Kernel26.nD Cert.Kernel26.τ).loc Cert.Kernel26.main_arg39)
      ∧ r.2.mem ((c.tc : Thread Cert.Kernel26.nD Cert.Kernel26.τ).loc Cert.Kernel26.main_arg40) = m ((c.tc : Thread Cert.Kernel26.nD Cert.Kernel26.τ).loc Cert.Kernel26.main_arg40)
      ∧ r.2.mem ((c.tc : Thread Cert.Kernel26.nD Cert.Kernel26.τ).loc Cert.Kernel26.main_arg41) = m ((c.tc : Thread Cert.Kernel26.nD Cert.Kernel26.τ).loc Cert.Kernel26.main_arg41)
      ∧ r.2.mem ((c.tc : Thread Cert.Kernel26.nD Cert.Kernel26.τ).loc Cert.Kernel26.main_arg42) = m ((c.tc : Thread Cert.Kernel26.nD Cert.Kernel26.τ).loc Cert.Kernel26.main_arg42)
      ∧ r.2.mem ((c.tc : Thread Cert.Kernel26.nD Cert.Kernel26.τ).loc Cert.Kernel26.main_arg43) = m ((c.tc : Thread Cert.Kernel26.nD Cert.Kernel26.τ).loc Cert.Kernel26.main_arg43)
      ∧ r.2.mem ((c.tc : Thread Cert.Kernel26.nD Cert.Kernel26.τ).loc Cert.Kernel26.main_arg44) = m ((c.tc : Thread Cert.Kernel26.nD Cert.Kernel26.τ).loc Cert.Kernel26.main_arg44)
      ∧ r.2.mem ((c.tc : Thread Cert.Kernel26.nD Cert.Kernel26.τ).loc Cert.Kernel26.main_arg45) = m ((c.tc : Thread Cert.Kernel26.nD Cert.Kernel26.τ).loc Cert.Kernel26.main_arg45)
      ∧ r.2.mem ((c.tc : Thread Cert.Kernel26.nD Cert.Kernel26.τ).loc Cert.Kernel26.main_arg46) = m ((c.tc : Thread Cert.Kernel26.nD Cert.Kernel26.τ).loc Cert.Kernel26.main_arg46)
      ∧ r.2.mem ((c.tc : Thread Cert.Kernel26.nD Cert.Kernel26.τ).loc Cert.Kernel26.main_arg47) = m ((c.tc : Thread Cert.Kernel26.nD Cert.Kernel26.τ).loc Cert.Kernel26.main_arg47)
      ∧ r.2.mem ((c.tc : Thread Cert.Kernel26.nD Cert.Kernel26.τ).loc Cert.Kernel26.main_arg48) = m ((c.tc : Thread Cert.Kernel26.nD Cert.Kernel26.τ).loc Cert.Kernel26.main_arg48))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
      ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
      ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9)
      ∧ r.2.mem ((c.tc : Thread Cert.Kernel26Ideal.nD Cert.Kernel26Ideal.τ).loc Cert.Kernel26Ideal.main_arg10) = m ((c.tc : Thread Cert.Kernel26Ideal.nD Cert.Kernel26Ideal.τ).loc Cert.Kernel26Ideal.main_arg10)
      ∧ r.2.mem ((c.tc : Thread Cert.Kernel26Ideal.nD Cert.Kernel26Ideal.τ).loc Cert.Kernel26Ideal.main_arg11) = m ((c.tc : Thread Cert.Kernel26Ideal.nD Cert.Kernel26Ideal.τ).loc Cert.Kernel26Ideal.main_arg11)
      ∧ r.2.mem ((c.tc : Thread Cert.Kernel26Ideal.nD Cert.Kernel26Ideal.τ).loc Cert.Kernel26Ideal.main_arg12) = m ((c.tc : Thread Cert.Kernel26Ideal.nD Cert.Kernel26Ideal.τ).loc Cert.Kernel26Ideal.main_arg12)
      ∧ r.2.mem ((c.tc : Thread Cert.Kernel26Ideal.nD Cert.Kernel26Ideal.τ).loc Cert.Kernel26Ideal.main_arg13) = m ((c.tc : Thread Cert.Kernel26Ideal.nD Cert.Kernel26Ideal.τ).loc Cert.Kernel26Ideal.main_arg13)
      ∧ r.2.mem ((c.tc : Thread Cert.Kernel26Ideal.nD Cert.Kernel26Ideal.τ).loc Cert.Kernel26Ideal.main_arg14) = m ((c.tc : Thread Cert.Kernel26Ideal.nD Cert.Kernel26Ideal.τ).loc Cert.Kernel26Ideal.main_arg14)
      ∧ r.2.mem ((c.tc : Thread Cert.Kernel26Ideal.nD Cert.Kernel26Ideal.τ).loc Cert.Kernel26Ideal.main_arg15) = m ((c.tc : Thread Cert.Kernel26Ideal.nD Cert.Kernel26Ideal.τ).loc Cert.Kernel26Ideal.main_arg15)
      ∧ r.2.mem ((c.tc : Thread Cert.Kernel26Ideal.nD Cert.Kernel26Ideal.τ).loc Cert.Kernel26Ideal.main_arg16) = m ((c.tc : Thread Cert.Kernel26Ideal.nD Cert.Kernel26Ideal.τ).loc Cert.Kernel26Ideal.main_arg16)
      ∧ r.2.mem ((c.tc : Thread Cert.Kernel26Ideal.nD Cert.Kernel26Ideal.τ).loc Cert.Kernel26Ideal.main_arg17) = m ((c.tc : Thread Cert.Kernel26Ideal.nD Cert.Kernel26Ideal.τ).loc Cert.Kernel26Ideal.main_arg17)
      ∧ r.2.mem ((c.tc : Thread Cert.Kernel26Ideal.nD Cert.Kernel26Ideal.τ).loc Cert.Kernel26Ideal.main_arg18) = m ((c.tc : Thread Cert.Kernel26Ideal.nD Cert.Kernel26Ideal.τ).loc Cert.Kernel26Ideal.main_arg18)
      ∧ r.2.mem ((c.tc : Thread Cert.Kernel26Ideal.nD Cert.Kernel26Ideal.τ).loc Cert.Kernel26Ideal.main_arg19) = m ((c.tc : Thread Cert.Kernel26Ideal.nD Cert.Kernel26Ideal.τ).loc Cert.Kernel26Ideal.main_arg19)
      ∧ r.2.mem ((c.tc : Thread Cert.Kernel26Ideal.nD Cert.Kernel26Ideal.τ).loc Cert.Kernel26Ideal.main_arg20) = m ((c.tc : Thread Cert.Kernel26Ideal.nD Cert.Kernel26Ideal.τ).loc Cert.Kernel26Ideal.main_arg20)
      ∧ r.2.mem ((c.tc : Thread Cert.Kernel26Ideal.nD Cert.Kernel26Ideal.τ).loc Cert.Kernel26Ideal.main_arg21) = m ((c.tc : Thread Cert.Kernel26Ideal.nD Cert.Kernel26Ideal.τ).loc Cert.Kernel26Ideal.main_arg21)
      ∧ r.2.mem ((c.tc : Thread Cert.Kernel26Ideal.nD Cert.Kernel26Ideal.τ).loc Cert.Kernel26Ideal.main_arg22) = m ((c.tc : Thread Cert.Kernel26Ideal.nD Cert.Kernel26Ideal.τ).loc Cert.Kernel26Ideal.main_arg22)
      ∧ r.2.mem ((c.tc : Thread Cert.Kernel26Ideal.nD Cert.Kernel26Ideal.τ).loc Cert.Kernel26Ideal.main_arg23) = m ((c.tc : Thread Cert.Kernel26Ideal.nD Cert.Kernel26Ideal.τ).loc Cert.Kernel26Ideal.main_arg23)
      ∧ r.2.mem ((c.tc : Thread Cert.Kernel26Ideal.nD Cert.Kernel26Ideal.τ).loc Cert.Kernel26Ideal.main_arg24) = m ((c.tc : Thread Cert.Kernel26Ideal.nD Cert.Kernel26Ideal.τ).loc Cert.Kernel26Ideal.main_arg24)
      ∧ r.2.mem ((c.tc : Thread Cert.Kernel26Ideal.nD Cert.Kernel26Ideal.τ).loc Cert.Kernel26Ideal.main_arg25) = m ((c.tc : Thread Cert.Kernel26Ideal.nD Cert.Kernel26Ideal.τ).loc Cert.Kernel26Ideal.main_arg25)
      ∧ r.2.mem ((c.tc : Thread Cert.Kernel26Ideal.nD Cert.Kernel26Ideal.τ).loc Cert.Kernel26Ideal.main_arg26) = m ((c.tc : Thread Cert.Kernel26Ideal.nD Cert.Kernel26Ideal.τ).loc Cert.Kernel26Ideal.main_arg26)
      ∧ r.2.mem ((c.tc : Thread Cert.Kernel26Ideal.nD Cert.Kernel26Ideal.τ).loc Cert.Kernel26Ideal.main_arg27) = m ((c.tc : Thread Cert.Kernel26Ideal.nD Cert.Kernel26Ideal.τ).loc Cert.Kernel26Ideal.main_arg27)
      ∧ r.2.mem ((c.tc : Thread Cert.Kernel26Ideal.nD Cert.Kernel26Ideal.τ).loc Cert.Kernel26Ideal.main_arg28) = m ((c.tc : Thread Cert.Kernel26Ideal.nD Cert.Kernel26Ideal.τ).loc Cert.Kernel26Ideal.main_arg28)
      ∧ r.2.mem ((c.tc : Thread Cert.Kernel26Ideal.nD Cert.Kernel26Ideal.τ).loc Cert.Kernel26Ideal.main_arg29) = m ((c.tc : Thread Cert.Kernel26Ideal.nD Cert.Kernel26Ideal.τ).loc Cert.Kernel26Ideal.main_arg29)
      ∧ r.2.mem ((c.tc : Thread Cert.Kernel26Ideal.nD Cert.Kernel26Ideal.τ).loc Cert.Kernel26Ideal.main_arg30) = m ((c.tc : Thread Cert.Kernel26Ideal.nD Cert.Kernel26Ideal.τ).loc Cert.Kernel26Ideal.main_arg30)
      ∧ r.2.mem ((c.tc : Thread Cert.Kernel26Ideal.nD Cert.Kernel26Ideal.τ).loc Cert.Kernel26Ideal.main_arg31) = m ((c.tc : Thread Cert.Kernel26Ideal.nD Cert.Kernel26Ideal.τ).loc Cert.Kernel26Ideal.main_arg31)
      ∧ r.2.mem ((c.tc : Thread Cert.Kernel26Ideal.nD Cert.Kernel26Ideal.τ).loc Cert.Kernel26Ideal.main_arg32) = m ((c.tc : Thread Cert.Kernel26Ideal.nD Cert.Kernel26Ideal.τ).loc Cert.Kernel26Ideal.main_arg32)
      ∧ r.2.mem ((c.tc : Thread Cert.Kernel26Ideal.nD Cert.Kernel26Ideal.τ).loc Cert.Kernel26Ideal.main_arg33) = m ((c.tc : Thread Cert.Kernel26Ideal.nD Cert.Kernel26Ideal.τ).loc Cert.Kernel26Ideal.main_arg33)
      ∧ r.2.mem ((c.tc : Thread Cert.Kernel26Ideal.nD Cert.Kernel26Ideal.τ).loc Cert.Kernel26Ideal.main_arg34) = m ((c.tc : Thread Cert.Kernel26Ideal.nD Cert.Kernel26Ideal.τ).loc Cert.Kernel26Ideal.main_arg34)
      ∧ r.2.mem ((c.tc : Thread Cert.Kernel26Ideal.nD Cert.Kernel26Ideal.τ).loc Cert.Kernel26Ideal.main_arg35) = m ((c.tc : Thread Cert.Kernel26Ideal.nD Cert.Kernel26Ideal.τ).loc Cert.Kernel26Ideal.main_arg35)
      ∧ r.2.mem ((c.tc : Thread Cert.Kernel26Ideal.nD Cert.Kernel26Ideal.τ).loc Cert.Kernel26Ideal.main_arg36) = m ((c.tc : Thread Cert.Kernel26Ideal.nD Cert.Kernel26Ideal.τ).loc Cert.Kernel26Ideal.main_arg36)
      ∧ r.2.mem ((c.tc : Thread Cert.Kernel26Ideal.nD Cert.Kernel26Ideal.τ).loc Cert.Kernel26Ideal.main_arg37) = m ((c.tc : Thread Cert.Kernel26Ideal.nD Cert.Kernel26Ideal.τ).loc Cert.Kernel26Ideal.main_arg37)
      ∧ r.2.mem ((c.tc : Thread Cert.Kernel26Ideal.nD Cert.Kernel26Ideal.τ).loc Cert.Kernel26Ideal.main_arg38) = m ((c.tc : Thread Cert.Kernel26Ideal.nD Cert.Kernel26Ideal.τ).loc Cert.Kernel26Ideal.main_arg38)
      ∧ r.2.mem ((c.tc : Thread Cert.Kernel26Ideal.nD Cert.Kernel26Ideal.τ).loc Cert.Kernel26Ideal.main_arg39) = m ((c.tc : Thread Cert.Kernel26Ideal.nD Cert.Kernel26Ideal.τ).loc Cert.Kernel26Ideal.main_arg39)
      ∧ r.2.mem ((c.tc : Thread Cert.Kernel26Ideal.nD Cert.Kernel26Ideal.τ).loc Cert.Kernel26Ideal.main_arg40) = m ((c.tc : Thread Cert.Kernel26Ideal.nD Cert.Kernel26Ideal.τ).loc Cert.Kernel26Ideal.main_arg40)
      ∧ r.2.mem ((c.tc : Thread Cert.Kernel26Ideal.nD Cert.Kernel26Ideal.τ).loc Cert.Kernel26Ideal.main_arg41) = m ((c.tc : Thread Cert.Kernel26Ideal.nD Cert.Kernel26Ideal.τ).loc Cert.Kernel26Ideal.main_arg41)
      ∧ r.2.mem ((c.tc : Thread Cert.Kernel26Ideal.nD Cert.Kernel26Ideal.τ).loc Cert.Kernel26Ideal.main_arg42) = m ((c.tc : Thread Cert.Kernel26Ideal.nD Cert.Kernel26Ideal.τ).loc Cert.Kernel26Ideal.main_arg42)
      ∧ r.2.mem ((c.tc : Thread Cert.Kernel26Ideal.nD Cert.Kernel26Ideal.τ).loc Cert.Kernel26Ideal.main_arg43) = m ((c.tc : Thread Cert.Kernel26Ideal.nD Cert.Kernel26Ideal.τ).loc Cert.Kernel26Ideal.main_arg43)
      ∧ r.2.mem ((c.tc : Thread Cert.Kernel26Ideal.nD Cert.Kernel26Ideal.τ).loc Cert.Kernel26Ideal.main_arg44) = m ((c.tc : Thread Cert.Kernel26Ideal.nD Cert.Kernel26Ideal.τ).loc Cert.Kernel26Ideal.main_arg44)
      ∧ r.2.mem ((c.tc : Thread Cert.Kernel26Ideal.nD Cert.Kernel26Ideal.τ).loc Cert.Kernel26Ideal.main_arg45) = m ((c.tc : Thread Cert.Kernel26Ideal.nD Cert.Kernel26Ideal.τ).loc Cert.Kernel26Ideal.main_arg45)
      ∧ r.2.mem ((c.tc : Thread Cert.Kernel26Ideal.nD Cert.Kernel26Ideal.τ).loc Cert.Kernel26Ideal.main_arg46) = m ((c.tc : Thread Cert.Kernel26Ideal.nD Cert.Kernel26Ideal.τ).loc Cert.Kernel26Ideal.main_arg46)
      ∧ r.2.mem ((c.tc : Thread Cert.Kernel26Ideal.nD Cert.Kernel26Ideal.τ).loc Cert.Kernel26Ideal.main_arg47) = m ((c.tc : Thread Cert.Kernel26Ideal.nD Cert.Kernel26Ideal.τ).loc Cert.Kernel26Ideal.main_arg47)
      ∧ r.2.mem ((c.tc : Thread Cert.Kernel26Ideal.nD Cert.Kernel26Ideal.τ).loc Cert.Kernel26Ideal.main_arg48) = m ((c.tc : Thread Cert.Kernel26Ideal.nD Cert.Kernel26Ideal.τ).loc Cert.Kernel26Ideal.main_arg48))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7)
      ∧ r.2.mem ((c.tc : Thread Cert.Reference26Ideal.nD Cert.Reference26Ideal.τ).loc Cert.Reference26Ideal.main_arg8) = m ((c.tc : Thread Cert.Reference26Ideal.nD Cert.Reference26Ideal.τ).loc Cert.Reference26Ideal.main_arg8)
      ∧ r.2.mem ((c.tc : Thread Cert.Reference26Ideal.nD Cert.Reference26Ideal.τ).loc Cert.Reference26Ideal.main_arg9) = m ((c.tc : Thread Cert.Reference26Ideal.nD Cert.Reference26Ideal.τ).loc Cert.Reference26Ideal.main_arg9)
      ∧ r.2.mem ((c.tc : Thread Cert.Reference26Ideal.nD Cert.Reference26Ideal.τ).loc Cert.Reference26Ideal.main_arg10) = m ((c.tc : Thread Cert.Reference26Ideal.nD Cert.Reference26Ideal.τ).loc Cert.Reference26Ideal.main_arg10)
      ∧ r.2.mem ((c.tc : Thread Cert.Reference26Ideal.nD Cert.Reference26Ideal.τ).loc Cert.Reference26Ideal.main_arg11) = m ((c.tc : Thread Cert.Reference26Ideal.nD Cert.Reference26Ideal.τ).loc Cert.Reference26Ideal.main_arg11)
      ∧ r.2.mem ((c.tc : Thread Cert.Reference26Ideal.nD Cert.Reference26Ideal.τ).loc Cert.Reference26Ideal.main_arg12) = m ((c.tc : Thread Cert.Reference26Ideal.nD Cert.Reference26Ideal.τ).loc Cert.Reference26Ideal.main_arg12)
      ∧ r.2.mem ((c.tc : Thread Cert.Reference26Ideal.nD Cert.Reference26Ideal.τ).loc Cert.Reference26Ideal.main_arg13) = m ((c.tc : Thread Cert.Reference26Ideal.nD Cert.Reference26Ideal.τ).loc Cert.Reference26Ideal.main_arg13)
      ∧ r.2.mem ((c.tc : Thread Cert.Reference26Ideal.nD Cert.Reference26Ideal.τ).loc Cert.Reference26Ideal.main_arg14) = m ((c.tc : Thread Cert.Reference26Ideal.nD Cert.Reference26Ideal.τ).loc Cert.Reference26Ideal.main_arg14)
      ∧ r.2.mem ((c.tc : Thread Cert.Reference26Ideal.nD Cert.Reference26Ideal.τ).loc Cert.Reference26Ideal.main_arg15) = m ((c.tc : Thread Cert.Reference26Ideal.nD Cert.Reference26Ideal.τ).loc Cert.Reference26Ideal.main_arg15)
      ∧ r.2.mem ((c.tc : Thread Cert.Reference26Ideal.nD Cert.Reference26Ideal.τ).loc Cert.Reference26Ideal.main_arg16) = m ((c.tc : Thread Cert.Reference26Ideal.nD Cert.Reference26Ideal.τ).loc Cert.Reference26Ideal.main_arg16)
      ∧ r.2.mem ((c.tc : Thread Cert.Reference26Ideal.nD Cert.Reference26Ideal.τ).loc Cert.Reference26Ideal.main_arg17) = m ((c.tc : Thread Cert.Reference26Ideal.nD Cert.Reference26Ideal.τ).loc Cert.Reference26Ideal.main_arg17)
      ∧ r.2.mem ((c.tc : Thread Cert.Reference26Ideal.nD Cert.Reference26Ideal.τ).loc Cert.Reference26Ideal.main_arg18) = m ((c.tc : Thread Cert.Reference26Ideal.nD Cert.Reference26Ideal.τ).loc Cert.Reference26Ideal.main_arg18)
      ∧ r.2.mem ((c.tc : Thread Cert.Reference26Ideal.nD Cert.Reference26Ideal.τ).loc Cert.Reference26Ideal.main_arg19) = m ((c.tc : Thread Cert.Reference26Ideal.nD Cert.Reference26Ideal.τ).loc Cert.Reference26Ideal.main_arg19)
      ∧ r.2.mem ((c.tc : Thread Cert.Reference26Ideal.nD Cert.Reference26Ideal.τ).loc Cert.Reference26Ideal.main_arg20) = m ((c.tc : Thread Cert.Reference26Ideal.nD Cert.Reference26Ideal.τ).loc Cert.Reference26Ideal.main_arg20)
      ∧ r.2.mem ((c.tc : Thread Cert.Reference26Ideal.nD Cert.Reference26Ideal.τ).loc Cert.Reference26Ideal.main_arg21) = m ((c.tc : Thread Cert.Reference26Ideal.nD Cert.Reference26Ideal.τ).loc Cert.Reference26Ideal.main_arg21)
      ∧ r.2.mem ((c.tc : Thread Cert.Reference26Ideal.nD Cert.Reference26Ideal.τ).loc Cert.Reference26Ideal.main_arg22) = m ((c.tc : Thread Cert.Reference26Ideal.nD Cert.Reference26Ideal.τ).loc Cert.Reference26Ideal.main_arg22)
      ∧ r.2.mem ((c.tc : Thread Cert.Reference26Ideal.nD Cert.Reference26Ideal.τ).loc Cert.Reference26Ideal.main_arg23) = m ((c.tc : Thread Cert.Reference26Ideal.nD Cert.Reference26Ideal.τ).loc Cert.Reference26Ideal.main_arg23)
      ∧ r.2.mem ((c.tc : Thread Cert.Reference26Ideal.nD Cert.Reference26Ideal.τ).loc Cert.Reference26Ideal.main_arg24) = m ((c.tc : Thread Cert.Reference26Ideal.nD Cert.Reference26Ideal.τ).loc Cert.Reference26Ideal.main_arg24)
      ∧ r.2.mem ((c.tc : Thread Cert.Reference26Ideal.nD Cert.Reference26Ideal.τ).loc Cert.Reference26Ideal.main_arg25) = m ((c.tc : Thread Cert.Reference26Ideal.nD Cert.Reference26Ideal.τ).loc Cert.Reference26Ideal.main_arg25)
      ∧ r.2.mem ((c.tc : Thread Cert.Reference26Ideal.nD Cert.Reference26Ideal.τ).loc Cert.Reference26Ideal.main_arg26) = m ((c.tc : Thread Cert.Reference26Ideal.nD Cert.Reference26Ideal.τ).loc Cert.Reference26Ideal.main_arg26)
      ∧ r.2.mem ((c.tc : Thread Cert.Reference26Ideal.nD Cert.Reference26Ideal.τ).loc Cert.Reference26Ideal.main_arg27) = m ((c.tc : Thread Cert.Reference26Ideal.nD Cert.Reference26Ideal.τ).loc Cert.Reference26Ideal.main_arg27)
      ∧ r.2.mem ((c.tc : Thread Cert.Reference26Ideal.nD Cert.Reference26Ideal.τ).loc Cert.Reference26Ideal.main_arg28) = m ((c.tc : Thread Cert.Reference26Ideal.nD Cert.Reference26Ideal.τ).loc Cert.Reference26Ideal.main_arg28)
      ∧ r.2.mem ((c.tc : Thread Cert.Reference26Ideal.nD Cert.Reference26Ideal.τ).loc Cert.Reference26Ideal.main_arg29) = m ((c.tc : Thread Cert.Reference26Ideal.nD Cert.Reference26Ideal.τ).loc Cert.Reference26Ideal.main_arg29)
      ∧ r.2.mem ((c.tc : Thread Cert.Reference26Ideal.nD Cert.Reference26Ideal.τ).loc Cert.Reference26Ideal.main_arg30) = m ((c.tc : Thread Cert.Reference26Ideal.nD Cert.Reference26Ideal.τ).loc Cert.Reference26Ideal.main_arg30)
      ∧ r.2.mem ((c.tc : Thread Cert.Reference26Ideal.nD Cert.Reference26Ideal.τ).loc Cert.Reference26Ideal.main_arg31) = m ((c.tc : Thread Cert.Reference26Ideal.nD Cert.Reference26Ideal.τ).loc Cert.Reference26Ideal.main_arg31)
      ∧ r.2.mem ((c.tc : Thread Cert.Reference26Ideal.nD Cert.Reference26Ideal.τ).loc Cert.Reference26Ideal.main_arg32) = m ((c.tc : Thread Cert.Reference26Ideal.nD Cert.Reference26Ideal.τ).loc Cert.Reference26Ideal.main_arg32)
      ∧ r.2.mem ((c.tc : Thread Cert.Reference26Ideal.nD Cert.Reference26Ideal.τ).loc Cert.Reference26Ideal.main_arg33) = m ((c.tc : Thread Cert.Reference26Ideal.nD Cert.Reference26Ideal.τ).loc Cert.Reference26Ideal.main_arg33)
      ∧ r.2.mem ((c.tc : Thread Cert.Reference26Ideal.nD Cert.Reference26Ideal.τ).loc Cert.Reference26Ideal.main_arg34) = m ((c.tc : Thread Cert.Reference26Ideal.nD Cert.Reference26Ideal.τ).loc Cert.Reference26Ideal.main_arg34)
      ∧ r.2.mem ((c.tc : Thread Cert.Reference26Ideal.nD Cert.Reference26Ideal.τ).loc Cert.Reference26Ideal.main_arg35) = m ((c.tc : Thread Cert.Reference26Ideal.nD Cert.Reference26Ideal.τ).loc Cert.Reference26Ideal.main_arg35)
      ∧ r.2.mem ((c.tc : Thread Cert.Reference26Ideal.nD Cert.Reference26Ideal.τ).loc Cert.Reference26Ideal.main_arg36) = m ((c.tc : Thread Cert.Reference26Ideal.nD Cert.Reference26Ideal.τ).loc Cert.Reference26Ideal.main_arg36)
      ∧ r.2.mem ((c.tc : Thread Cert.Reference26Ideal.nD Cert.Reference26Ideal.τ).loc Cert.Reference26Ideal.main_arg37) = m ((c.tc : Thread Cert.Reference26Ideal.nD Cert.Reference26Ideal.τ).loc Cert.Reference26Ideal.main_arg37)
      ∧ r.2.mem ((c.tc : Thread Cert.Reference26Ideal.nD Cert.Reference26Ideal.τ).loc Cert.Reference26Ideal.main_arg38) = m ((c.tc : Thread Cert.Reference26Ideal.nD Cert.Reference26Ideal.τ).loc Cert.Reference26Ideal.main_arg38)
      ∧ r.2.mem ((c.tc : Thread Cert.Reference26Ideal.nD Cert.Reference26Ideal.τ).loc Cert.Reference26Ideal.main_arg39) = m ((c.tc : Thread Cert.Reference26Ideal.nD Cert.Reference26Ideal.τ).loc Cert.Reference26Ideal.main_arg39)
      ∧ r.2.mem ((c.tc : Thread Cert.Reference26Ideal.nD Cert.Reference26Ideal.τ).loc Cert.Reference26Ideal.main_arg40) = m ((c.tc : Thread Cert.Reference26Ideal.nD Cert.Reference26Ideal.τ).loc Cert.Reference26Ideal.main_arg40)
      ∧ r.2.mem ((c.tc : Thread Cert.Reference26Ideal.nD Cert.Reference26Ideal.τ).loc Cert.Reference26Ideal.main_arg41) = m ((c.tc : Thread Cert.Reference26Ideal.nD Cert.Reference26Ideal.τ).loc Cert.Reference26Ideal.main_arg41)
      ∧ r.2.mem ((c.tc : Thread Cert.Reference26Ideal.nD Cert.Reference26Ideal.τ).loc Cert.Reference26Ideal.main_arg42) = m ((c.tc : Thread Cert.Reference26Ideal.nD Cert.Reference26Ideal.τ).loc Cert.Reference26Ideal.main_arg42)
      ∧ r.2.mem ((c.tc : Thread Cert.Reference26Ideal.nD Cert.Reference26Ideal.τ).loc Cert.Reference26Ideal.main_arg43) = m ((c.tc : Thread Cert.Reference26Ideal.nD Cert.Reference26Ideal.τ).loc Cert.Reference26Ideal.main_arg43)
      ∧ r.2.mem ((c.tc : Thread Cert.Reference26Ideal.nD Cert.Reference26Ideal.τ).loc Cert.Reference26Ideal.main_arg44) = m ((c.tc : Thread Cert.Reference26Ideal.nD Cert.Reference26Ideal.τ).loc Cert.Reference26Ideal.main_arg44)
      ∧ r.2.mem ((c.tc : Thread Cert.Reference26Ideal.nD Cert.Reference26Ideal.τ).loc Cert.Reference26Ideal.main_arg45) = m ((c.tc : Thread Cert.Reference26Ideal.nD Cert.Reference26Ideal.τ).loc Cert.Reference26Ideal.main_arg45)
      ∧ r.2.mem ((c.tc : Thread Cert.Reference26Ideal.nD Cert.Reference26Ideal.τ).loc Cert.Reference26Ideal.main_arg46) = m ((c.tc : Thread Cert.Reference26Ideal.nD Cert.Reference26Ideal.τ).loc Cert.Reference26Ideal.main_arg46)
      ∧ r.2.mem ((c.tc : Thread Cert.Reference26Ideal.nD Cert.Reference26Ideal.τ).loc Cert.Reference26Ideal.main_arg47) = m ((c.tc : Thread Cert.Reference26Ideal.nD Cert.Reference26Ideal.τ).loc Cert.Reference26Ideal.main_arg47)
      ∧ r.2.mem ((c.tc : Thread Cert.Reference26Ideal.nD Cert.Reference26Ideal.τ).loc Cert.Reference26Ideal.main_arg48) = m ((c.tc : Thread Cert.Reference26Ideal.nD Cert.Reference26Ideal.τ).loc Cert.Reference26Ideal.main_arg48))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_v13) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v17_0)) (v1 : (c : Dev Cert.Kernel13Ideal.nD) → Buf (Elt Ideal) ((c.tc : Thread Cert.Kernel13Ideal.nD Cert.Kernel13Ideal.τ).loc Cert.Kernel13Ideal.main_v17_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v17_0) = v0 c
          ∧ r.2.mem ((c.tc : Thread Cert.Kernel13Ideal.nD Cert.Kernel13Ideal.τ).loc Cert.Kernel13Ideal.main_v17_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v28) = v0 c
          ∧ r.2.mem ((c.tc : Thread Cert.Reference13Ideal.nD Cert.Reference13Ideal.τ).loc Cert.Reference13Ideal.main_v29) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v6_0)) (v1 : (c : Dev Cert.Kernel14Ideal.nD) → Buf (Elt Ideal) ((c.tc : Thread Cert.Kernel14Ideal.nD Cert.Kernel14Ideal.τ).loc Cert.Kernel14Ideal.main_v6_1)) (v2 : (c : Dev Cert.Kernel14Ideal.nD) → Buf (Elt Ideal) ((c.tc : Thread Cert.Kernel14Ideal.nD Cert.Kernel14Ideal.τ).loc Cert.Kernel14Ideal.main_v6_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6_0) = v0 c
          ∧ r.2.mem ((c.tc : Thread Cert.Kernel14Ideal.nD Cert.Kernel14Ideal.τ).loc Cert.Kernel14Ideal.main_v6_1) = v1 c
          ∧ r.2.mem ((c.tc : Thread Cert.Kernel14Ideal.nD Cert.Kernel14Ideal.τ).loc Cert.Kernel14Ideal.main_v6_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v26) = v0 c
          ∧ r.2.mem ((c.tc : Thread Cert.Reference14Ideal.nD Cert.Reference14Ideal.τ).loc Cert.Reference14Ideal.main_v22) = v1 c
          ∧ r.2.mem ((c.tc : Thread Cert.Reference14Ideal.nD Cert.Reference14Ideal.τ).loc Cert.Reference14Ideal.main_v33) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v9_0)) (v1 : (c : Dev Cert.Kernel15Ideal.nD) → Buf (Elt Ideal) ((c.tc : Thread Cert.Kernel15Ideal.nD Cert.Kernel15Ideal.τ).loc Cert.Kernel15Ideal.main_v9_1)) (v2 : (c : Dev Cert.Kernel15Ideal.nD) → Buf (Elt Ideal) ((c.tc : Thread Cert.Kernel15Ideal.nD Cert.Kernel15Ideal.τ).loc Cert.Kernel15Ideal.main_v9_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v9_0) = v0 c
          ∧ r.2.mem ((c.tc : Thread Cert.Kernel15Ideal.nD Cert.Kernel15Ideal.τ).loc Cert.Kernel15Ideal.main_v9_1) = v1 c
          ∧ r.2.mem ((c.tc : Thread Cert.Kernel15Ideal.nD Cert.Kernel15Ideal.τ).loc Cert.Kernel15Ideal.main_v9_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v35) = v0 c
          ∧ r.2.mem ((c.tc : Thread Cert.Reference15Ideal.nD Cert.Reference15Ideal.τ).loc Cert.Reference15Ideal.main_v31) = v1 c
          ∧ r.2.mem ((c.tc : Thread Cert.Reference15Ideal.nD Cert.Reference15Ideal.τ).loc Cert.Reference15Ideal.main_v42) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v6)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v16) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)) →
    ∃ (v0 : (c : Dev Cert.Kernel17Ideal.nD) → Buf (Elt Ideal) ((c.tc : Thread Cert.Kernel17Ideal.nD Cert.Kernel17Ideal.τ).loc Cert.Kernel17Ideal.main_v16_0)) (v1 : (c : Dev Cert.Kernel17Ideal.nD) → Buf (Elt Ideal) ((c.tc : Thread Cert.Kernel17Ideal.nD Cert.Kernel17Ideal.τ).loc Cert.Kernel17Ideal.main_v16_1)) (v2 : (c : Dev Cert.Kernel17Ideal.nD) → Buf (Elt Ideal) ((c.tc : Thread Cert.Kernel17Ideal.nD Cert.Kernel17Ideal.τ).loc Cert.Kernel17Ideal.main_v16_2)) (v3 : (c : Dev Cert.Kernel17Ideal.nD) → Buf (Elt Ideal) ((c.tc : Thread Cert.Kernel17Ideal.nD Cert.Kernel17Ideal.τ).loc Cert.Kernel17Ideal.main_v16_3)) (v4 : (c : Dev Cert.Kernel17Ideal.nD) → Buf (Elt Ideal) ((c.tc : Thread Cert.Kernel17Ideal.nD Cert.Kernel17Ideal.τ).loc Cert.Kernel17Ideal.main_v16_4)) (v5 : (c : Dev Cert.Kernel17Ideal.nD) → Buf (Elt Ideal) ((c.tc : Thread Cert.Kernel17Ideal.nD Cert.Kernel17Ideal.τ).loc Cert.Kernel17Ideal.main_v16_5)) (v6 : (c : Dev Cert.Kernel17Ideal.nD) → Buf (Elt Ideal) ((c.tc : Thread Cert.Kernel17Ideal.nD Cert.Kernel17Ideal.τ).loc Cert.Kernel17Ideal.main_v16_6)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v16_0) = v0 c
          ∧ r.2.mem ((c.tc : Thread Cert.Kernel17Ideal.nD Cert.Kernel17Ideal.τ).loc Cert.Kernel17Ideal.main_v16_1) = v1 c
          ∧ r.2.mem ((c.tc : Thread Cert.Kernel17Ideal.nD Cert.Kernel17Ideal.τ).loc Cert.Kernel17Ideal.main_v16_2) = v2 c
          ∧ r.2.mem ((c.tc : Thread Cert.Kernel17Ideal.nD Cert.Kernel17Ideal.τ).loc Cert.Kernel17Ideal.main_v16_3) = v3 c
          ∧ r.2.mem ((c.tc : Thread Cert.Kernel17Ideal.nD Cert.Kernel17Ideal.τ).loc Cert.Kernel17Ideal.main_v16_4) = v4 c
          ∧ r.2.mem ((c.tc : Thread Cert.Kernel17Ideal.nD Cert.Kernel17Ideal.τ).loc Cert.Kernel17Ideal.main_v16_5) = v5 c
          ∧ r.2.mem ((c.tc : Thread Cert.Kernel17Ideal.nD Cert.Kernel17Ideal.τ).loc Cert.Kernel17Ideal.main_v16_6) = v6 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v66) = v0 c
          ∧ r.2.mem ((c.tc : Thread Cert.Reference17Ideal.nD Cert.Reference17Ideal.τ).loc Cert.Reference17Ideal.main_v67) = v1 c
          ∧ r.2.mem ((c.tc : Thread Cert.Reference17Ideal.nD Cert.Reference17Ideal.τ).loc Cert.Reference17Ideal.main_v68) = v2 c
          ∧ r.2.mem ((c.tc : Thread Cert.Reference17Ideal.nD Cert.Reference17Ideal.τ).loc Cert.Reference17Ideal.main_v69) = v3 c
          ∧ r.2.mem ((c.tc : Thread Cert.Reference17Ideal.nD Cert.Reference17Ideal.τ).loc Cert.Reference17Ideal.main_v70) = v4 c
          ∧ r.2.mem ((c.tc : Thread Cert.Reference17Ideal.nD Cert.Reference17Ideal.τ).loc Cert.Reference17Ideal.main_v71) = v5 c
          ∧ r.2.mem ((c.tc : Thread Cert.Reference17Ideal.nD Cert.Reference17Ideal.τ).loc Cert.Reference17Ideal.main_v72) = v6 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v28) = v0 c
          ∧ r.2.mem ((c.tc : Thread Cert.Reference18Ideal.nD Cert.Reference18Ideal.τ).loc Cert.Reference18Ideal.main_v29) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v27) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)) (v3 : (c : Dev Cert.Kernel20Ideal.nD) → Buf (Elt Ideal) ((c.tc : Thread Cert.Kernel20Ideal.nD Cert.Kernel20Ideal.τ).loc Cert.Kernel20Ideal.main_v4_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_v4_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_v35) = v1 c
          ∧ r.2.mem ((c.tc : Thread Cert.Reference20Ideal.nD Cert.Reference20Ideal.τ).loc Cert.Reference20Ideal.main_v16) = v2 c
          ∧ r.2.mem ((c.tc : Thread Cert.Reference20Ideal.nD Cert.Reference20Ideal.τ).loc Cert.Reference20Ideal.main_v22) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)) (v3 : (c : Dev Cert.Kernel21Ideal.nD) → Buf (Elt Ideal) ((c.tc : Thread Cert.Kernel21Ideal.nD Cert.Kernel21Ideal.τ).loc Cert.Kernel21Ideal.main_v4_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_v4_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_v31) = v1 c
          ∧ r.2.mem ((c.tc : Thread Cert.Reference21Ideal.nD Cert.Reference21Ideal.τ).loc Cert.Reference21Ideal.main_v12) = v2 c
          ∧ r.2.mem ((c.tc : Thread Cert.Reference21Ideal.nD Cert.Reference21Ideal.τ).loc Cert.Reference21Ideal.main_v18) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)) (v3 : (c : Dev Cert.Kernel22Ideal.nD) → Buf (Elt Ideal) ((c.tc : Thread Cert.Kernel22Ideal.nD Cert.Kernel22Ideal.τ).loc Cert.Kernel22Ideal.main_v4_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_v4_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_v31) = v1 c
          ∧ r.2.mem ((c.tc : Thread Cert.Reference22Ideal.nD Cert.Reference22Ideal.τ).loc Cert.Reference22Ideal.main_v12) = v2 c
          ∧ r.2.mem ((c.tc : Thread Cert.Reference22Ideal.nD Cert.Reference22Ideal.τ).loc Cert.Reference22Ideal.main_v18) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)) →
    ∃ (v0 : (c : Dev Cert.Kernel23Ideal.nD) → Buf (Elt Ideal) ((c.tc : Thread Cert.Kernel23Ideal.nD Cert.Kernel23Ideal.τ).loc Cert.Kernel23Ideal.main_v8_0)) (v1 : (c : Dev Cert.Kernel23Ideal.nD) → Buf (Elt Ideal) ((c.tc : Thread Cert.Kernel23Ideal.nD Cert.Kernel23Ideal.τ).loc Cert.Kernel23Ideal.main_v8_1)) (v2 : (c : Dev Cert.Kernel23Ideal.nD) → Buf (Elt Ideal) ((c.tc : Thread Cert.Kernel23Ideal.nD Cert.Kernel23Ideal.τ).loc Cert.Kernel23Ideal.main_v8_2)) (v3 : (c : Dev Cert.Kernel23Ideal.nD) → Buf (Elt Ideal) ((c.tc : Thread Cert.Kernel23Ideal.nD Cert.Kernel23Ideal.τ).loc Cert.Kernel23Ideal.main_v8_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v8_0) = v0 c
          ∧ r.2.mem ((c.tc : Thread Cert.Kernel23Ideal.nD Cert.Kernel23Ideal.τ).loc Cert.Kernel23Ideal.main_v8_1) = v1 c
          ∧ r.2.mem ((c.tc : Thread Cert.Kernel23Ideal.nD Cert.Kernel23Ideal.τ).loc Cert.Kernel23Ideal.main_v8_2) = v2 c
          ∧ r.2.mem ((c.tc : Thread Cert.Kernel23Ideal.nD Cert.Kernel23Ideal.τ).loc Cert.Kernel23Ideal.main_v8_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v12) = v0 c
          ∧ r.2.mem ((c.tc : Thread Cert.Reference23Ideal.nD Cert.Reference23Ideal.τ).loc Cert.Reference23Ideal.main_v39) = v1 c
          ∧ r.2.mem ((c.tc : Thread Cert.Reference23Ideal.nD Cert.Reference23Ideal.τ).loc Cert.Reference23Ideal.main_v20) = v2 c
          ∧ r.2.mem ((c.tc : Thread Cert.Reference23Ideal.nD Cert.Reference23Ideal.τ).loc Cert.Reference23Ideal.main_v26) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)) →
    ∃ (v0 : (c : Dev Cert.Kernel24Ideal.nD) → Buf (Elt Ideal) ((c.tc : Thread Cert.Kernel24Ideal.nD Cert.Kernel24Ideal.τ).loc Cert.Kernel24Ideal.main_v8_0)) (v1 : (c : Dev Cert.Kernel24Ideal.nD) → Buf (Elt Ideal) ((c.tc : Thread Cert.Kernel24Ideal.nD Cert.Kernel24Ideal.τ).loc Cert.Kernel24Ideal.main_v8_1)) (v2 : (c : Dev Cert.Kernel24Ideal.nD) → Buf (Elt Ideal) ((c.tc : Thread Cert.Kernel24Ideal.nD Cert.Kernel24Ideal.τ).loc Cert.Kernel24Ideal.main_v8_2)) (v3 : (c : Dev Cert.Kernel24Ideal.nD) → Buf (Elt Ideal) ((c.tc : Thread Cert.Kernel24Ideal.nD Cert.Kernel24Ideal.τ).loc Cert.Kernel24Ideal.main_v8_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v8_0) = v0 c
          ∧ r.2.mem ((c.tc : Thread Cert.Kernel24Ideal.nD Cert.Kernel24Ideal.τ).loc Cert.Kernel24Ideal.main_v8_1) = v1 c
          ∧ r.2.mem ((c.tc : Thread Cert.Kernel24Ideal.nD Cert.Kernel24Ideal.τ).loc Cert.Kernel24Ideal.main_v8_2) = v2 c
          ∧ r.2.mem ((c.tc : Thread Cert.Kernel24Ideal.nD Cert.Kernel24Ideal.τ).loc Cert.Kernel24Ideal.main_v8_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v12) = v0 c
          ∧ r.2.mem ((c.tc : Thread Cert.Reference24Ideal.nD Cert.Reference24Ideal.τ).loc Cert.Reference24Ideal.main_v39) = v1 c
          ∧ r.2.mem ((c.tc : Thread Cert.Reference24Ideal.nD Cert.Reference24Ideal.τ).loc Cert.Reference24Ideal.main_v20) = v2 c
          ∧ r.2.mem ((c.tc : Thread Cert.Reference24Ideal.nD Cert.Reference24Ideal.τ).loc Cert.Reference24Ideal.main_v26) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)
      ∧ m' ((c.tc : Thread Cert.Reference25Ideal.nD Cert.Reference25Ideal.τ).loc Cert.Reference25Ideal.main_arg9) = m ((c.tc : Thread Cert.Kernel25Ideal.nD Cert.Kernel25Ideal.τ).loc Cert.Kernel25Ideal.main_arg9)
      ∧ m' ((c.tc : Thread Cert.Reference25Ideal.nD Cert.Reference25Ideal.τ).loc Cert.Reference25Ideal.main_arg10) = m ((c.tc : Thread Cert.Kernel25Ideal.nD Cert.Kernel25Ideal.τ).loc Cert.Kernel25Ideal.main_arg10)
      ∧ m' ((c.tc : Thread Cert.Reference25Ideal.nD Cert.Reference25Ideal.τ).loc Cert.Reference25Ideal.main_arg11) = m ((c.tc : Thread Cert.Kernel25Ideal.nD Cert.Kernel25Ideal.τ).loc Cert.Kernel25Ideal.main_arg11)
      ∧ m' ((c.tc : Thread Cert.Reference25Ideal.nD Cert.Reference25Ideal.τ).loc Cert.Reference25Ideal.main_arg12) = m ((c.tc : Thread Cert.Kernel25Ideal.nD Cert.Kernel25Ideal.τ).loc Cert.Kernel25Ideal.main_arg12)) →
    ∃ (v0 : (c : Dev Cert.Kernel25Ideal.nD) → Buf (Elt Ideal) ((c.tc : Thread Cert.Kernel25Ideal.nD Cert.Kernel25Ideal.τ).loc Cert.Kernel25Ideal.main_v42_0)) (v1 : (c : Dev Cert.Kernel25Ideal.nD) → Buf (Elt Ideal) ((c.tc : Thread Cert.Kernel25Ideal.nD Cert.Kernel25Ideal.τ).loc Cert.Kernel25Ideal.main_v42_1)) (v2 : (c : Dev Cert.Kernel25Ideal.nD) → Buf (Elt Ideal) ((c.tc : Thread Cert.Kernel25Ideal.nD Cert.Kernel25Ideal.τ).loc Cert.Kernel25Ideal.main_v42_2)) (v3 : (c : Dev Cert.Kernel25Ideal.nD) → Buf (Elt Ideal) ((c.tc : Thread Cert.Kernel25Ideal.nD Cert.Kernel25Ideal.τ).loc Cert.Kernel25Ideal.main_v42_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v42_0) = v0 c
          ∧ r.2.mem ((c.tc : Thread Cert.Kernel25Ideal.nD Cert.Kernel25Ideal.τ).loc Cert.Kernel25Ideal.main_v42_1) = v1 c
          ∧ r.2.mem ((c.tc : Thread Cert.Kernel25Ideal.nD Cert.Kernel25Ideal.τ).loc Cert.Kernel25Ideal.main_v42_2) = v2 c
          ∧ r.2.mem ((c.tc : Thread Cert.Kernel25Ideal.nD Cert.Kernel25Ideal.τ).loc Cert.Kernel25Ideal.main_v42_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
          ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
          ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
          ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11)
          ∧ r.2.mem ((c.tc : Thread Cert.Kernel25Ideal.nD Cert.Kernel25Ideal.τ).loc Cert.Kernel25Ideal.main_arg12) = m ((c.tc : Thread Cert.Kernel25Ideal.nD Cert.Kernel25Ideal.τ).loc Cert.Kernel25Ideal.main_arg12))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v67) = v1 c
          ∧ r.2.mem ((c.tc : Thread Cert.Reference25Ideal.nD Cert.Reference25Ideal.τ).loc Cert.Reference25Ideal.main_v48) = v2 c
          ∧ r.2.mem ((c.tc : Thread Cert.Reference25Ideal.nD Cert.Reference25Ideal.τ).loc Cert.Reference25Ideal.main_v54) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8)
          ∧ r.2.mem ((c.tc : Thread Cert.Reference25Ideal.nD Cert.Reference25Ideal.τ).loc Cert.Reference25Ideal.main_arg9) = m' ((c.tc : Thread Cert.Reference25Ideal.nD Cert.Reference25Ideal.τ).loc Cert.Reference25Ideal.main_arg9)
          ∧ r.2.mem ((c.tc : Thread Cert.Reference25Ideal.nD Cert.Reference25Ideal.τ).loc Cert.Reference25Ideal.main_arg10) = m' ((c.tc : Thread Cert.Reference25Ideal.nD Cert.Reference25Ideal.τ).loc Cert.Reference25Ideal.main_arg10)
          ∧ r.2.mem ((c.tc : Thread Cert.Reference25Ideal.nD Cert.Reference25Ideal.τ).loc Cert.Reference25Ideal.main_arg11) = m' ((c.tc : Thread Cert.Reference25Ideal.nD Cert.Reference25Ideal.τ).loc Cert.Reference25Ideal.main_arg11)
          ∧ r.2.mem ((c.tc : Thread Cert.Reference25Ideal.nD Cert.Reference25Ideal.τ).loc Cert.Reference25Ideal.main_arg12) = m' ((c.tc : Thread Cert.Reference25Ideal.nD Cert.Reference25Ideal.τ).loc Cert.Reference25Ideal.main_arg12))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)
      ∧ m' ((c.tc : Thread Cert.Reference26Ideal.nD Cert.Reference26Ideal.τ).loc Cert.Reference26Ideal.main_arg8) = m ((c.tc : Thread Cert.Kernel26Ideal.nD Cert.Kernel26Ideal.τ).loc Cert.Kernel26Ideal.main_arg8)
      ∧ m' ((c.tc : Thread Cert.Reference26Ideal.nD Cert.Reference26Ideal.τ).loc Cert.Reference26Ideal.main_arg9) = m ((c.tc : Thread Cert.Kernel26Ideal.nD Cert.Kernel26Ideal.τ).loc Cert.Kernel26Ideal.main_arg9)
      ∧ m' ((c.tc : Thread Cert.Reference26Ideal.nD Cert.Reference26Ideal.τ).loc Cert.Reference26Ideal.main_arg10) = m ((c.tc : Thread Cert.Kernel26Ideal.nD Cert.Kernel26Ideal.τ).loc Cert.Kernel26Ideal.main_arg10)
      ∧ m' ((c.tc : Thread Cert.Reference26Ideal.nD Cert.Reference26Ideal.τ).loc Cert.Reference26Ideal.main_arg11) = m ((c.tc : Thread Cert.Kernel26Ideal.nD Cert.Kernel26Ideal.τ).loc Cert.Kernel26Ideal.main_arg11)
      ∧ m' ((c.tc : Thread Cert.Reference26Ideal.nD Cert.Reference26Ideal.τ).loc Cert.Reference26Ideal.main_arg12) = m ((c.tc : Thread Cert.Kernel26Ideal.nD Cert.Kernel26Ideal.τ).loc Cert.Kernel26Ideal.main_arg12)
      ∧ m' ((c.tc : Thread Cert.Reference26Ideal.nD Cert.Reference26Ideal.τ).loc Cert.Reference26Ideal.main_arg13) = m ((c.tc : Thread Cert.Kernel26Ideal.nD Cert.Kernel26Ideal.τ).loc Cert.Kernel26Ideal.main_arg13)
      ∧ m' ((c.tc : Thread Cert.Reference26Ideal.nD Cert.Reference26Ideal.τ).loc Cert.Reference26Ideal.main_arg14) = m ((c.tc : Thread Cert.Kernel26Ideal.nD Cert.Kernel26Ideal.τ).loc Cert.Kernel26Ideal.main_arg14)
      ∧ m' ((c.tc : Thread Cert.Reference26Ideal.nD Cert.Reference26Ideal.τ).loc Cert.Reference26Ideal.main_arg15) = m ((c.tc : Thread Cert.Kernel26Ideal.nD Cert.Kernel26Ideal.τ).loc Cert.Kernel26Ideal.main_arg15)
      ∧ m' ((c.tc : Thread Cert.Reference26Ideal.nD Cert.Reference26Ideal.τ).loc Cert.Reference26Ideal.main_arg16) = m ((c.tc : Thread Cert.Kernel26Ideal.nD Cert.Kernel26Ideal.τ).loc Cert.Kernel26Ideal.main_arg16)
      ∧ m' ((c.tc : Thread Cert.Reference26Ideal.nD Cert.Reference26Ideal.τ).loc Cert.Reference26Ideal.main_arg17) = m ((c.tc : Thread Cert.Kernel26Ideal.nD Cert.Kernel26Ideal.τ).loc Cert.Kernel26Ideal.main_arg17)
      ∧ m' ((c.tc : Thread Cert.Reference26Ideal.nD Cert.Reference26Ideal.τ).loc Cert.Reference26Ideal.main_arg18) = m ((c.tc : Thread Cert.Kernel26Ideal.nD Cert.Kernel26Ideal.τ).loc Cert.Kernel26Ideal.main_arg18)
      ∧ m' ((c.tc : Thread Cert.Reference26Ideal.nD Cert.Reference26Ideal.τ).loc Cert.Reference26Ideal.main_arg19) = m ((c.tc : Thread Cert.Kernel26Ideal.nD Cert.Kernel26Ideal.τ).loc Cert.Kernel26Ideal.main_arg19)
      ∧ m' ((c.tc : Thread Cert.Reference26Ideal.nD Cert.Reference26Ideal.τ).loc Cert.Reference26Ideal.main_arg20) = m ((c.tc : Thread Cert.Kernel26Ideal.nD Cert.Kernel26Ideal.τ).loc Cert.Kernel26Ideal.main_arg20)
      ∧ m' ((c.tc : Thread Cert.Reference26Ideal.nD Cert.Reference26Ideal.τ).loc Cert.Reference26Ideal.main_arg21) = m ((c.tc : Thread Cert.Kernel26Ideal.nD Cert.Kernel26Ideal.τ).loc Cert.Kernel26Ideal.main_arg21)
      ∧ m' ((c.tc : Thread Cert.Reference26Ideal.nD Cert.Reference26Ideal.τ).loc Cert.Reference26Ideal.main_arg22) = m ((c.tc : Thread Cert.Kernel26Ideal.nD Cert.Kernel26Ideal.τ).loc Cert.Kernel26Ideal.main_arg22)
      ∧ m' ((c.tc : Thread Cert.Reference26Ideal.nD Cert.Reference26Ideal.τ).loc Cert.Reference26Ideal.main_arg23) = m ((c.tc : Thread Cert.Kernel26Ideal.nD Cert.Kernel26Ideal.τ).loc Cert.Kernel26Ideal.main_arg23)
      ∧ m' ((c.tc : Thread Cert.Reference26Ideal.nD Cert.Reference26Ideal.τ).loc Cert.Reference26Ideal.main_arg24) = m ((c.tc : Thread Cert.Kernel26Ideal.nD Cert.Kernel26Ideal.τ).loc Cert.Kernel26Ideal.main_arg24)
      ∧ m' ((c.tc : Thread Cert.Reference26Ideal.nD Cert.Reference26Ideal.τ).loc Cert.Reference26Ideal.main_arg25) = m ((c.tc : Thread Cert.Kernel26Ideal.nD Cert.Kernel26Ideal.τ).loc Cert.Kernel26Ideal.main_arg25)
      ∧ m' ((c.tc : Thread Cert.Reference26Ideal.nD Cert.Reference26Ideal.τ).loc Cert.Reference26Ideal.main_arg26) = m ((c.tc : Thread Cert.Kernel26Ideal.nD Cert.Kernel26Ideal.τ).loc Cert.Kernel26Ideal.main_arg26)
      ∧ m' ((c.tc : Thread Cert.Reference26Ideal.nD Cert.Reference26Ideal.τ).loc Cert.Reference26Ideal.main_arg27) = m ((c.tc : Thread Cert.Kernel26Ideal.nD Cert.Kernel26Ideal.τ).loc Cert.Kernel26Ideal.main_arg27)
      ∧ m' ((c.tc : Thread Cert.Reference26Ideal.nD Cert.Reference26Ideal.τ).loc Cert.Reference26Ideal.main_arg28) = m ((c.tc : Thread Cert.Kernel26Ideal.nD Cert.Kernel26Ideal.τ).loc Cert.Kernel26Ideal.main_arg28)
      ∧ m' ((c.tc : Thread Cert.Reference26Ideal.nD Cert.Reference26Ideal.τ).loc Cert.Reference26Ideal.main_arg29) = m ((c.tc : Thread Cert.Kernel26Ideal.nD Cert.Kernel26Ideal.τ).loc Cert.Kernel26Ideal.main_arg29)
      ∧ m' ((c.tc : Thread Cert.Reference26Ideal.nD Cert.Reference26Ideal.τ).loc Cert.Reference26Ideal.main_arg30) = m ((c.tc : Thread Cert.Kernel26Ideal.nD Cert.Kernel26Ideal.τ).loc Cert.Kernel26Ideal.main_arg30)
      ∧ m' ((c.tc : Thread Cert.Reference26Ideal.nD Cert.Reference26Ideal.τ).loc Cert.Reference26Ideal.main_arg31) = m ((c.tc : Thread Cert.Kernel26Ideal.nD Cert.Kernel26Ideal.τ).loc Cert.Kernel26Ideal.main_arg31)
      ∧ m' ((c.tc : Thread Cert.Reference26Ideal.nD Cert.Reference26Ideal.τ).loc Cert.Reference26Ideal.main_arg32) = m ((c.tc : Thread Cert.Kernel26Ideal.nD Cert.Kernel26Ideal.τ).loc Cert.Kernel26Ideal.main_arg32)
      ∧ m' ((c.tc : Thread Cert.Reference26Ideal.nD Cert.Reference26Ideal.τ).loc Cert.Reference26Ideal.main_arg33) = m ((c.tc : Thread Cert.Kernel26Ideal.nD Cert.Kernel26Ideal.τ).loc Cert.Kernel26Ideal.main_arg33)
      ∧ m' ((c.tc : Thread Cert.Reference26Ideal.nD Cert.Reference26Ideal.τ).loc Cert.Reference26Ideal.main_arg34) = m ((c.tc : Thread Cert.Kernel26Ideal.nD Cert.Kernel26Ideal.τ).loc Cert.Kernel26Ideal.main_arg34)
      ∧ m' ((c.tc : Thread Cert.Reference26Ideal.nD Cert.Reference26Ideal.τ).loc Cert.Reference26Ideal.main_arg35) = m ((c.tc : Thread Cert.Kernel26Ideal.nD Cert.Kernel26Ideal.τ).loc Cert.Kernel26Ideal.main_arg35)
      ∧ m' ((c.tc : Thread Cert.Reference26Ideal.nD Cert.Reference26Ideal.τ).loc Cert.Reference26Ideal.main_arg36) = m ((c.tc : Thread Cert.Kernel26Ideal.nD Cert.Kernel26Ideal.τ).loc Cert.Kernel26Ideal.main_arg36)
      ∧ m' ((c.tc : Thread Cert.Reference26Ideal.nD Cert.Reference26Ideal.τ).loc Cert.Reference26Ideal.main_arg37) = m ((c.tc : Thread Cert.Kernel26Ideal.nD Cert.Kernel26Ideal.τ).loc Cert.Kernel26Ideal.main_arg37)
      ∧ m' ((c.tc : Thread Cert.Reference26Ideal.nD Cert.Reference26Ideal.τ).loc Cert.Reference26Ideal.main_arg38) = m ((c.tc : Thread Cert.Kernel26Ideal.nD Cert.Kernel26Ideal.τ).loc Cert.Kernel26Ideal.main_arg38)
      ∧ m' ((c.tc : Thread Cert.Reference26Ideal.nD Cert.Reference26Ideal.τ).loc Cert.Reference26Ideal.main_arg39) = m ((c.tc : Thread Cert.Kernel26Ideal.nD Cert.Kernel26Ideal.τ).loc Cert.Kernel26Ideal.main_arg39)
      ∧ m' ((c.tc : Thread Cert.Reference26Ideal.nD Cert.Reference26Ideal.τ).loc Cert.Reference26Ideal.main_arg40) = m ((c.tc : Thread Cert.Kernel26Ideal.nD Cert.Kernel26Ideal.τ).loc Cert.Kernel26Ideal.main_arg40)
      ∧ m' ((c.tc : Thread Cert.Reference26Ideal.nD Cert.Reference26Ideal.τ).loc Cert.Reference26Ideal.main_arg41) = m ((c.tc : Thread Cert.Kernel26Ideal.nD Cert.Kernel26Ideal.τ).loc Cert.Kernel26Ideal.main_arg41)
      ∧ m' ((c.tc : Thread Cert.Reference26Ideal.nD Cert.Reference26Ideal.τ).loc Cert.Reference26Ideal.main_arg42) = m ((c.tc : Thread Cert.Kernel26Ideal.nD Cert.Kernel26Ideal.τ).loc Cert.Kernel26Ideal.main_arg42)
      ∧ m' ((c.tc : Thread Cert.Reference26Ideal.nD Cert.Reference26Ideal.τ).loc Cert.Reference26Ideal.main_arg43) = m ((c.tc : Thread Cert.Kernel26Ideal.nD Cert.Kernel26Ideal.τ).loc Cert.Kernel26Ideal.main_arg43)
      ∧ m' ((c.tc : Thread Cert.Reference26Ideal.nD Cert.Reference26Ideal.τ).loc Cert.Reference26Ideal.main_arg44) = m ((c.tc : Thread Cert.Kernel26Ideal.nD Cert.Kernel26Ideal.τ).loc Cert.Kernel26Ideal.main_arg44)
      ∧ m' ((c.tc : Thread Cert.Reference26Ideal.nD Cert.Reference26Ideal.τ).loc Cert.Reference26Ideal.main_arg45) = m ((c.tc : Thread Cert.Kernel26Ideal.nD Cert.Kernel26Ideal.τ).loc Cert.Kernel26Ideal.main_arg45)
      ∧ m' ((c.tc : Thread Cert.Reference26Ideal.nD Cert.Reference26Ideal.τ).loc Cert.Reference26Ideal.main_arg46) = m ((c.tc : Thread Cert.Kernel26Ideal.nD Cert.Kernel26Ideal.τ).loc Cert.Kernel26Ideal.main_arg46)
      ∧ m' ((c.tc : Thread Cert.Reference26Ideal.nD Cert.Reference26Ideal.τ).loc Cert.Reference26Ideal.main_arg47) = m ((c.tc : Thread Cert.Kernel26Ideal.nD Cert.Kernel26Ideal.τ).loc Cert.Kernel26Ideal.main_arg47)
      ∧ m' ((c.tc : Thread Cert.Reference26Ideal.nD Cert.Reference26Ideal.τ).loc Cert.Reference26Ideal.main_arg48) = m ((c.tc : Thread Cert.Kernel26Ideal.nD Cert.Kernel26Ideal.τ).loc Cert.Kernel26Ideal.main_arg48)) →
    ∃ (v0 : (c : Dev Cert.Kernel26Ideal.nD) → Buf (Elt Ideal) ((c.tc : Thread Cert.Kernel26Ideal.nD Cert.Kernel26Ideal.τ).loc Cert.Kernel26Ideal.main_v166_0)) (v1 : (c : Dev Cert.Kernel26Ideal.nD) → Buf (Elt Ideal) ((c.tc : Thread Cert.Kernel26Ideal.nD Cert.Kernel26Ideal.τ).loc Cert.Kernel26Ideal.main_v166_1)) (v2 : (c : Dev Cert.Kernel26Ideal.nD) → Buf (Elt Ideal) ((c.tc : Thread Cert.Kernel26Ideal.nD Cert.Kernel26Ideal.τ).loc Cert.Kernel26Ideal.main_v166_2)) (v3 : (c : Dev Cert.Kernel26Ideal.nD) → Buf (Elt Ideal) ((c.tc : Thread Cert.Kernel26Ideal.nD Cert.Kernel26Ideal.τ).loc Cert.Kernel26Ideal.main_v166_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v166_0) = v0 c
          ∧ r.2.mem ((c.tc : Thread Cert.Kernel26Ideal.nD Cert.Kernel26Ideal.τ).loc Cert.Kernel26Ideal.main_v166_1) = v1 c
          ∧ r.2.mem ((c.tc : Thread Cert.Kernel26Ideal.nD Cert.Kernel26Ideal.τ).loc Cert.Kernel26Ideal.main_v166_2) = v2 c
          ∧ r.2.mem ((c.tc : Thread Cert.Kernel26Ideal.nD Cert.Kernel26Ideal.τ).loc Cert.Kernel26Ideal.main_v166_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
          ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
          ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9)
          ∧ r.2.mem ((c.tc : Thread Cert.Kernel26Ideal.nD Cert.Kernel26Ideal.τ).loc Cert.Kernel26Ideal.main_arg10) = m ((c.tc : Thread Cert.Kernel26Ideal.nD Cert.Kernel26Ideal.τ).loc Cert.Kernel26Ideal.main_arg10)
          ∧ r.2.mem ((c.tc : Thread Cert.Kernel26Ideal.nD Cert.Kernel26Ideal.τ).loc Cert.Kernel26Ideal.main_arg11) = m ((c.tc : Thread Cert.Kernel26Ideal.nD Cert.Kernel26Ideal.τ).loc Cert.Kernel26Ideal.main_arg11)
          ∧ r.2.mem ((c.tc : Thread Cert.Kernel26Ideal.nD Cert.Kernel26Ideal.τ).loc Cert.Kernel26Ideal.main_arg12) = m ((c.tc : Thread Cert.Kernel26Ideal.nD Cert.Kernel26Ideal.τ).loc Cert.Kernel26Ideal.main_arg12)
          ∧ r.2.mem ((c.tc : Thread Cert.Kernel26Ideal.nD Cert.Kernel26Ideal.τ).loc Cert.Kernel26Ideal.main_arg13) = m ((c.tc : Thread Cert.Kernel26Ideal.nD Cert.Kernel26Ideal.τ).loc Cert.Kernel26Ideal.main_arg13)
          ∧ r.2.mem ((c.tc : Thread Cert.Kernel26Ideal.nD Cert.Kernel26Ideal.τ).loc Cert.Kernel26Ideal.main_arg14) = m ((c.tc : Thread Cert.Kernel26Ideal.nD Cert.Kernel26Ideal.τ).loc Cert.Kernel26Ideal.main_arg14)
          ∧ r.2.mem ((c.tc : Thread Cert.Kernel26Ideal.nD Cert.Kernel26Ideal.τ).loc Cert.Kernel26Ideal.main_arg15) = m ((c.tc : Thread Cert.Kernel26Ideal.nD Cert.Kernel26Ideal.τ).loc Cert.Kernel26Ideal.main_arg15)
          ∧ r.2.mem ((c.tc : Thread Cert.Kernel26Ideal.nD Cert.Kernel26Ideal.τ).loc Cert.Kernel26Ideal.main_arg16) = m ((c.tc : Thread Cert.Kernel26Ideal.nD Cert.Kernel26Ideal.τ).loc Cert.Kernel26Ideal.main_arg16)
          ∧ r.2.mem ((c.tc : Thread Cert.Kernel26Ideal.nD Cert.Kernel26Ideal.τ).loc Cert.Kernel26Ideal.main_arg17) = m ((c.tc : Thread Cert.Kernel26Ideal.nD Cert.Kernel26Ideal.τ).loc Cert.Kernel26Ideal.main_arg17)
          ∧ r.2.mem ((c.tc : Thread Cert.Kernel26Ideal.nD Cert.Kernel26Ideal.τ).loc Cert.Kernel26Ideal.main_arg18) = m ((c.tc : Thread Cert.Kernel26Ideal.nD Cert.Kernel26Ideal.τ).loc Cert.Kernel26Ideal.main_arg18)
          ∧ r.2.mem ((c.tc : Thread Cert.Kernel26Ideal.nD Cert.Kernel26Ideal.τ).loc Cert.Kernel26Ideal.main_arg19) = m ((c.tc : Thread Cert.Kernel26Ideal.nD Cert.Kernel26Ideal.τ).loc Cert.Kernel26Ideal.main_arg19)
          ∧ r.2.mem ((c.tc : Thread Cert.Kernel26Ideal.nD Cert.Kernel26Ideal.τ).loc Cert.Kernel26Ideal.main_arg20) = m ((c.tc : Thread Cert.Kernel26Ideal.nD Cert.Kernel26Ideal.τ).loc Cert.Kernel26Ideal.main_arg20)
          ∧ r.2.mem ((c.tc : Thread Cert.Kernel26Ideal.nD Cert.Kernel26Ideal.τ).loc Cert.Kernel26Ideal.main_arg21) = m ((c.tc : Thread Cert.Kernel26Ideal.nD Cert.Kernel26Ideal.τ).loc Cert.Kernel26Ideal.main_arg21)
          ∧ r.2.mem ((c.tc : Thread Cert.Kernel26Ideal.nD Cert.Kernel26Ideal.τ).loc Cert.Kernel26Ideal.main_arg22) = m ((c.tc : Thread Cert.Kernel26Ideal.nD Cert.Kernel26Ideal.τ).loc Cert.Kernel26Ideal.main_arg22)
          ∧ r.2.mem ((c.tc : Thread Cert.Kernel26Ideal.nD Cert.Kernel26Ideal.τ).loc Cert.Kernel26Ideal.main_arg23) = m ((c.tc : Thread Cert.Kernel26Ideal.nD Cert.Kernel26Ideal.τ).loc Cert.Kernel26Ideal.main_arg23)
          ∧ r.2.mem ((c.tc : Thread Cert.Kernel26Ideal.nD Cert.Kernel26Ideal.τ).loc Cert.Kernel26Ideal.main_arg24) = m ((c.tc : Thread Cert.Kernel26Ideal.nD Cert.Kernel26Ideal.τ).loc Cert.Kernel26Ideal.main_arg24)
          ∧ r.2.mem ((c.tc : Thread Cert.Kernel26Ideal.nD Cert.Kernel26Ideal.τ).loc Cert.Kernel26Ideal.main_arg25) = m ((c.tc : Thread Cert.Kernel26Ideal.nD Cert.Kernel26Ideal.τ).loc Cert.Kernel26Ideal.main_arg25)
          ∧ r.2.mem ((c.tc : Thread Cert.Kernel26Ideal.nD Cert.Kernel26Ideal.τ).loc Cert.Kernel26Ideal.main_arg26) = m ((c.tc : Thread Cert.Kernel26Ideal.nD Cert.Kernel26Ideal.τ).loc Cert.Kernel26Ideal.main_arg26)
          ∧ r.2.mem ((c.tc : Thread Cert.Kernel26Ideal.nD Cert.Kernel26Ideal.τ).loc Cert.Kernel26Ideal.main_arg27) = m ((c.tc : Thread Cert.Kernel26Ideal.nD Cert.Kernel26Ideal.τ).loc Cert.Kernel26Ideal.main_arg27)
          ∧ r.2.mem ((c.tc : Thread Cert.Kernel26Ideal.nD Cert.Kernel26Ideal.τ).loc Cert.Kernel26Ideal.main_arg28) = m ((c.tc : Thread Cert.Kernel26Ideal.nD Cert.Kernel26Ideal.τ).loc Cert.Kernel26Ideal.main_arg28)
          ∧ r.2.mem ((c.tc : Thread Cert.Kernel26Ideal.nD Cert.Kernel26Ideal.τ).loc Cert.Kernel26Ideal.main_arg29) = m ((c.tc : Thread Cert.Kernel26Ideal.nD Cert.Kernel26Ideal.τ).loc Cert.Kernel26Ideal.main_arg29)
          ∧ r.2.mem ((c.tc : Thread Cert.Kernel26Ideal.nD Cert.Kernel26Ideal.τ).loc Cert.Kernel26Ideal.main_arg30) = m ((c.tc : Thread Cert.Kernel26Ideal.nD Cert.Kernel26Ideal.τ).loc Cert.Kernel26Ideal.main_arg30)
          ∧ r.2.mem ((c.tc : Thread Cert.Kernel26Ideal.nD Cert.Kernel26Ideal.τ).loc Cert.Kernel26Ideal.main_arg31) = m ((c.tc : Thread Cert.Kernel26Ideal.nD Cert.Kernel26Ideal.τ).loc Cert.Kernel26Ideal.main_arg31)
          ∧ r.2.mem ((c.tc : Thread Cert.Kernel26Ideal.nD Cert.Kernel26Ideal.τ).loc Cert.Kernel26Ideal.main_arg32) = m ((c.tc : Thread Cert.Kernel26Ideal.nD Cert.Kernel26Ideal.τ).loc Cert.Kernel26Ideal.main_arg32)
          ∧ r.2.mem ((c.tc : Thread Cert.Kernel26Ideal.nD Cert.Kernel26Ideal.τ).loc Cert.Kernel26Ideal.main_arg33) = m ((c.tc : Thread Cert.Kernel26Ideal.nD Cert.Kernel26Ideal.τ).loc Cert.Kernel26Ideal.main_arg33)
          ∧ r.2.mem ((c.tc : Thread Cert.Kernel26Ideal.nD Cert.Kernel26Ideal.τ).loc Cert.Kernel26Ideal.main_arg34) = m ((c.tc : Thread Cert.Kernel26Ideal.nD Cert.Kernel26Ideal.τ).loc Cert.Kernel26Ideal.main_arg34)
          ∧ r.2.mem ((c.tc : Thread Cert.Kernel26Ideal.nD Cert.Kernel26Ideal.τ).loc Cert.Kernel26Ideal.main_arg35) = m ((c.tc : Thread Cert.Kernel26Ideal.nD Cert.Kernel26Ideal.τ).loc Cert.Kernel26Ideal.main_arg35)
          ∧ r.2.mem ((c.tc : Thread Cert.Kernel26Ideal.nD Cert.Kernel26Ideal.τ).loc Cert.Kernel26Ideal.main_arg36) = m ((c.tc : Thread Cert.Kernel26Ideal.nD Cert.Kernel26Ideal.τ).loc Cert.Kernel26Ideal.main_arg36)
          ∧ r.2.mem ((c.tc : Thread Cert.Kernel26Ideal.nD Cert.Kernel26Ideal.τ).loc Cert.Kernel26Ideal.main_arg37) = m ((c.tc : Thread Cert.Kernel26Ideal.nD Cert.Kernel26Ideal.τ).loc Cert.Kernel26Ideal.main_arg37)
          ∧ r.2.mem ((c.tc : Thread Cert.Kernel26Ideal.nD Cert.Kernel26Ideal.τ).loc Cert.Kernel26Ideal.main_arg38) = m ((c.tc : Thread Cert.Kernel26Ideal.nD Cert.Kernel26Ideal.τ).loc Cert.Kernel26Ideal.main_arg38)
          ∧ r.2.mem ((c.tc : Thread Cert.Kernel26Ideal.nD Cert.Kernel26Ideal.τ).loc Cert.Kernel26Ideal.main_arg39) = m ((c.tc : Thread Cert.Kernel26Ideal.nD Cert.Kernel26Ideal.τ).loc Cert.Kernel26Ideal.main_arg39)
          ∧ r.2.mem ((c.tc : Thread Cert.Kernel26Ideal.nD Cert.Kernel26Ideal.τ).loc Cert.Kernel26Ideal.main_arg40) = m ((c.tc : Thread Cert.Kernel26Ideal.nD Cert.Kernel26Ideal.τ).loc Cert.Kernel26Ideal.main_arg40)
          ∧ r.2.mem ((c.tc : Thread Cert.Kernel26Ideal.nD Cert.Kernel26Ideal.τ).loc Cert.Kernel26Ideal.main_arg41) = m ((c.tc : Thread Cert.Kernel26Ideal.nD Cert.Kernel26Ideal.τ).loc Cert.Kernel26Ideal.main_arg41)
          ∧ r.2.mem ((c.tc : Thread Cert.Kernel26Ideal.nD Cert.Kernel26Ideal.τ).loc Cert.Kernel26Ideal.main_arg42) = m ((c.tc : Thread Cert.Kernel26Ideal.nD Cert.Kernel26Ideal.τ).loc Cert.Kernel26Ideal.main_arg42)
          ∧ r.2.mem ((c.tc : Thread Cert.Kernel26Ideal.nD Cert.Kernel26Ideal.τ).loc Cert.Kernel26Ideal.main_arg43) = m ((c.tc : Thread Cert.Kernel26Ideal.nD Cert.Kernel26Ideal.τ).loc Cert.Kernel26Ideal.main_arg43)
          ∧ r.2.mem ((c.tc : Thread Cert.Kernel26Ideal.nD Cert.Kernel26Ideal.τ).loc Cert.Kernel26Ideal.main_arg44) = m ((c.tc : Thread Cert.Kernel26Ideal.nD Cert.Kernel26Ideal.τ).loc Cert.Kernel26Ideal.main_arg44)
          ∧ r.2.mem ((c.tc : Thread Cert.Kernel26Ideal.nD Cert.Kernel26Ideal.τ).loc Cert.Kernel26Ideal.main_arg45) = m ((c.tc : Thread Cert.Kernel26Ideal.nD Cert.Kernel26Ideal.τ).loc Cert.Kernel26Ideal.main_arg45)
          ∧ r.2.mem ((c.tc : Thread Cert.Kernel26Ideal.nD Cert.Kernel26Ideal.τ).loc Cert.Kernel26Ideal.main_arg46) = m ((c.tc : Thread Cert.Kernel26Ideal.nD Cert.Kernel26Ideal.τ).loc Cert.Kernel26Ideal.main_arg46)
          ∧ r.2.mem ((c.tc : Thread Cert.Kernel26Ideal.nD Cert.Kernel26Ideal.τ).loc Cert.Kernel26Ideal.main_arg47) = m ((c.tc : Thread Cert.Kernel26Ideal.nD Cert.Kernel26Ideal.τ).loc Cert.Kernel26Ideal.main_arg47)
          ∧ r.2.mem ((c.tc : Thread Cert.Kernel26Ideal.nD Cert.Kernel26Ideal.τ).loc Cert.Kernel26Ideal.main_arg48) = m ((c.tc : Thread Cert.Kernel26Ideal.nD Cert.Kernel26Ideal.τ).loc Cert.Kernel26Ideal.main_arg48))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v190) = v1 c
          ∧ r.2.mem ((c.tc : Thread Cert.Reference26Ideal.nD Cert.Reference26Ideal.τ).loc Cert.Reference26Ideal.main_v171) = v2 c
          ∧ r.2.mem ((c.tc : Thread Cert.Reference26Ideal.nD Cert.Reference26Ideal.τ).loc Cert.Reference26Ideal.main_v177) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7)
          ∧ r.2.mem ((c.tc : Thread Cert.Reference26Ideal.nD Cert.Reference26Ideal.τ).loc Cert.Reference26Ideal.main_arg8) = m' ((c.tc : Thread Cert.Reference26Ideal.nD Cert.Reference26Ideal.τ).loc Cert.Reference26Ideal.main_arg8)
          ∧ r.2.mem ((c.tc : Thread Cert.Reference26Ideal.nD Cert.Reference26Ideal.τ).loc Cert.Reference26Ideal.main_arg9) = m' ((c.tc : Thread Cert.Reference26Ideal.nD Cert.Reference26Ideal.τ).loc Cert.Reference26Ideal.main_arg9)
          ∧ r.2.mem ((c.tc : Thread Cert.Reference26Ideal.nD Cert.Reference26Ideal.τ).loc Cert.Reference26Ideal.main_arg10) = m' ((c.tc : Thread Cert.Reference26Ideal.nD Cert.Reference26Ideal.τ).loc Cert.Reference26Ideal.main_arg10)
          ∧ r.2.mem ((c.tc : Thread Cert.Reference26Ideal.nD Cert.Reference26Ideal.τ).loc Cert.Reference26Ideal.main_arg11) = m' ((c.tc : Thread Cert.Reference26Ideal.nD Cert.Reference26Ideal.τ).loc Cert.Reference26Ideal.main_arg11)
          ∧ r.2.mem ((c.tc : Thread Cert.Reference26Ideal.nD Cert.Reference26Ideal.τ).loc Cert.Reference26Ideal.main_arg12) = m' ((c.tc : Thread Cert.Reference26Ideal.nD Cert.Reference26Ideal.τ).loc Cert.Reference26Ideal.main_arg12)
          ∧ r.2.mem ((c.tc : Thread Cert.Reference26Ideal.nD Cert.Reference26Ideal.τ).loc Cert.Reference26Ideal.main_arg13) = m' ((c.tc : Thread Cert.Reference26Ideal.nD Cert.Reference26Ideal.τ).loc Cert.Reference26Ideal.main_arg13)
          ∧ r.2.mem ((c.tc : Thread Cert.Reference26Ideal.nD Cert.Reference26Ideal.τ).loc Cert.Reference26Ideal.main_arg14) = m' ((c.tc : Thread Cert.Reference26Ideal.nD Cert.Reference26Ideal.τ).loc Cert.Reference26Ideal.main_arg14)
          ∧ r.2.mem ((c.tc : Thread Cert.Reference26Ideal.nD Cert.Reference26Ideal.τ).loc Cert.Reference26Ideal.main_arg15) = m' ((c.tc : Thread Cert.Reference26Ideal.nD Cert.Reference26Ideal.τ).loc Cert.Reference26Ideal.main_arg15)
          ∧ r.2.mem ((c.tc : Thread Cert.Reference26Ideal.nD Cert.Reference26Ideal.τ).loc Cert.Reference26Ideal.main_arg16) = m' ((c.tc : Thread Cert.Reference26Ideal.nD Cert.Reference26Ideal.τ).loc Cert.Reference26Ideal.main_arg16)
          ∧ r.2.mem ((c.tc : Thread Cert.Reference26Ideal.nD Cert.Reference26Ideal.τ).loc Cert.Reference26Ideal.main_arg17) = m' ((c.tc : Thread Cert.Reference26Ideal.nD Cert.Reference26Ideal.τ).loc Cert.Reference26Ideal.main_arg17)
          ∧ r.2.mem ((c.tc : Thread Cert.Reference26Ideal.nD Cert.Reference26Ideal.τ).loc Cert.Reference26Ideal.main_arg18) = m' ((c.tc : Thread Cert.Reference26Ideal.nD Cert.Reference26Ideal.τ).loc Cert.Reference26Ideal.main_arg18)
          ∧ r.2.mem ((c.tc : Thread Cert.Reference26Ideal.nD Cert.Reference26Ideal.τ).loc Cert.Reference26Ideal.main_arg19) = m' ((c.tc : Thread Cert.Reference26Ideal.nD Cert.Reference26Ideal.τ).loc Cert.Reference26Ideal.main_arg19)
          ∧ r.2.mem ((c.tc : Thread Cert.Reference26Ideal.nD Cert.Reference26Ideal.τ).loc Cert.Reference26Ideal.main_arg20) = m' ((c.tc : Thread Cert.Reference26Ideal.nD Cert.Reference26Ideal.τ).loc Cert.Reference26Ideal.main_arg20)
          ∧ r.2.mem ((c.tc : Thread Cert.Reference26Ideal.nD Cert.Reference26Ideal.τ).loc Cert.Reference26Ideal.main_arg21) = m' ((c.tc : Thread Cert.Reference26Ideal.nD Cert.Reference26Ideal.τ).loc Cert.Reference26Ideal.main_arg21)
          ∧ r.2.mem ((c.tc : Thread Cert.Reference26Ideal.nD Cert.Reference26Ideal.τ).loc Cert.Reference26Ideal.main_arg22) = m' ((c.tc : Thread Cert.Reference26Ideal.nD Cert.Reference26Ideal.τ).loc Cert.Reference26Ideal.main_arg22)
          ∧ r.2.mem ((c.tc : Thread Cert.Reference26Ideal.nD Cert.Reference26Ideal.τ).loc Cert.Reference26Ideal.main_arg23) = m' ((c.tc : Thread Cert.Reference26Ideal.nD Cert.Reference26Ideal.τ).loc Cert.Reference26Ideal.main_arg23)
          ∧ r.2.mem ((c.tc : Thread Cert.Reference26Ideal.nD Cert.Reference26Ideal.τ).loc Cert.Reference26Ideal.main_arg24) = m' ((c.tc : Thread Cert.Reference26Ideal.nD Cert.Reference26Ideal.τ).loc Cert.Reference26Ideal.main_arg24)
          ∧ r.2.mem ((c.tc : Thread Cert.Reference26Ideal.nD Cert.Reference26Ideal.τ).loc Cert.Reference26Ideal.main_arg25) = m' ((c.tc : Thread Cert.Reference26Ideal.nD Cert.Reference26Ideal.τ).loc Cert.Reference26Ideal.main_arg25)
          ∧ r.2.mem ((c.tc : Thread Cert.Reference26Ideal.nD Cert.Reference26Ideal.τ).loc Cert.Reference26Ideal.main_arg26) = m' ((c.tc : Thread Cert.Reference26Ideal.nD Cert.Reference26Ideal.τ).loc Cert.Reference26Ideal.main_arg26)
          ∧ r.2.mem ((c.tc : Thread Cert.Reference26Ideal.nD Cert.Reference26Ideal.τ).loc Cert.Reference26Ideal.main_arg27) = m' ((c.tc : Thread Cert.Reference26Ideal.nD Cert.Reference26Ideal.τ).loc Cert.Reference26Ideal.main_arg27)
          ∧ r.2.mem ((c.tc : Thread Cert.Reference26Ideal.nD Cert.Reference26Ideal.τ).loc Cert.Reference26Ideal.main_arg28) = m' ((c.tc : Thread Cert.Reference26Ideal.nD Cert.Reference26Ideal.τ).loc Cert.Reference26Ideal.main_arg28)
          ∧ r.2.mem ((c.tc : Thread Cert.Reference26Ideal.nD Cert.Reference26Ideal.τ).loc Cert.Reference26Ideal.main_arg29) = m' ((c.tc : Thread Cert.Reference26Ideal.nD Cert.Reference26Ideal.τ).loc Cert.Reference26Ideal.main_arg29)
          ∧ r.2.mem ((c.tc : Thread Cert.Reference26Ideal.nD Cert.Reference26Ideal.τ).loc Cert.Reference26Ideal.main_arg30) = m' ((c.tc : Thread Cert.Reference26Ideal.nD Cert.Reference26Ideal.τ).loc Cert.Reference26Ideal.main_arg30)
          ∧ r.2.mem ((c.tc : Thread Cert.Reference26Ideal.nD Cert.Reference26Ideal.τ).loc Cert.Reference26Ideal.main_arg31) = m' ((c.tc : Thread Cert.Reference26Ideal.nD Cert.Reference26Ideal.τ).loc Cert.Reference26Ideal.main_arg31)
          ∧ r.2.mem ((c.tc : Thread Cert.Reference26Ideal.nD Cert.Reference26Ideal.τ).loc Cert.Reference26Ideal.main_arg32) = m' ((c.tc : Thread Cert.Reference26Ideal.nD Cert.Reference26Ideal.τ).loc Cert.Reference26Ideal.main_arg32)
          ∧ r.2.mem ((c.tc : Thread Cert.Reference26Ideal.nD Cert.Reference26Ideal.τ).loc Cert.Reference26Ideal.main_arg33) = m' ((c.tc : Thread Cert.Reference26Ideal.nD Cert.Reference26Ideal.τ).loc Cert.Reference26Ideal.main_arg33)
          ∧ r.2.mem ((c.tc : Thread Cert.Reference26Ideal.nD Cert.Reference26Ideal.τ).loc Cert.Reference26Ideal.main_arg34) = m' ((c.tc : Thread Cert.Reference26Ideal.nD Cert.Reference26Ideal.τ).loc Cert.Reference26Ideal.main_arg34)
          ∧ r.2.mem ((c.tc : Thread Cert.Reference26Ideal.nD Cert.Reference26Ideal.τ).loc Cert.Reference26Ideal.main_arg35) = m' ((c.tc : Thread Cert.Reference26Ideal.nD Cert.Reference26Ideal.τ).loc Cert.Reference26Ideal.main_arg35)
          ∧ r.2.mem ((c.tc : Thread Cert.Reference26Ideal.nD Cert.Reference26Ideal.τ).loc Cert.Reference26Ideal.main_arg36) = m' ((c.tc : Thread Cert.Reference26Ideal.nD Cert.Reference26Ideal.τ).loc Cert.Reference26Ideal.main_arg36)
          ∧ r.2.mem ((c.tc : Thread Cert.Reference26Ideal.nD Cert.Reference26Ideal.τ).loc Cert.Reference26Ideal.main_arg37) = m' ((c.tc : Thread Cert.Reference26Ideal.nD Cert.Reference26Ideal.τ).loc Cert.Reference26Ideal.main_arg37)
          ∧ r.2.mem ((c.tc : Thread Cert.Reference26Ideal.nD Cert.Reference26Ideal.τ).loc Cert.Reference26Ideal.main_arg38) = m' ((c.tc : Thread Cert.Reference26Ideal.nD Cert.Reference26Ideal.τ).loc Cert.Reference26Ideal.main_arg38)
          ∧ r.2.mem ((c.tc : Thread Cert.Reference26Ideal.nD Cert.Reference26Ideal.τ).loc Cert.Reference26Ideal.main_arg39) = m' ((c.tc : Thread Cert.Reference26Ideal.nD Cert.Reference26Ideal.τ).loc Cert.Reference26Ideal.main_arg39)
          ∧ r.2.mem ((c.tc : Thread Cert.Reference26Ideal.nD Cert.Reference26Ideal.τ).loc Cert.Reference26Ideal.main_arg40) = m' ((c.tc : Thread Cert.Reference26Ideal.nD Cert.Reference26Ideal.τ).loc Cert.Reference26Ideal.main_arg40)
          ∧ r.2.mem ((c.tc : Thread Cert.Reference26Ideal.nD Cert.Reference26Ideal.τ).loc Cert.Reference26Ideal.main_arg41) = m' ((c.tc : Thread Cert.Reference26Ideal.nD Cert.Reference26Ideal.τ).loc Cert.Reference26Ideal.main_arg41)
          ∧ r.2.mem ((c.tc : Thread Cert.Reference26Ideal.nD Cert.Reference26Ideal.τ).loc Cert.Reference26Ideal.main_arg42) = m' ((c.tc : Thread Cert.Reference26Ideal.nD Cert.Reference26Ideal.τ).loc Cert.Reference26Ideal.main_arg42)
          ∧ r.2.mem ((c.tc : Thread Cert.Reference26Ideal.nD Cert.Reference26Ideal.τ).loc Cert.Reference26Ideal.main_arg43) = m' ((c.tc : Thread Cert.Reference26Ideal.nD Cert.Reference26Ideal.τ).loc Cert.Reference26Ideal.main_arg43)
          ∧ r.2.mem ((c.tc : Thread Cert.Reference26Ideal.nD Cert.Reference26Ideal.τ).loc Cert.Reference26Ideal.main_arg44) = m' ((c.tc : Thread Cert.Reference26Ideal.nD Cert.Reference26Ideal.τ).loc Cert.Reference26Ideal.main_arg44)
          ∧ r.2.mem ((c.tc : Thread Cert.Reference26Ideal.nD Cert.Reference26Ideal.τ).loc Cert.Reference26Ideal.main_arg45) = m' ((c.tc : Thread Cert.Reference26Ideal.nD Cert.Reference26Ideal.τ).loc Cert.Reference26Ideal.main_arg45)
          ∧ r.2.mem ((c.tc : Thread Cert.Reference26Ideal.nD Cert.Reference26Ideal.τ).loc Cert.Reference26Ideal.main_arg46) = m' ((c.tc : Thread Cert.Reference26Ideal.nD Cert.Reference26Ideal.τ).loc Cert.Reference26Ideal.main_arg46)
          ∧ r.2.mem ((c.tc : Thread Cert.Reference26Ideal.nD Cert.Reference26Ideal.τ).loc Cert.Reference26Ideal.main_arg47) = m' ((c.tc : Thread Cert.Reference26Ideal.nD Cert.Reference26Ideal.τ).loc Cert.Reference26Ideal.main_arg47)
          ∧ r.2.mem ((c.tc : Thread Cert.Reference26Ideal.nD Cert.Reference26Ideal.τ).loc Cert.Reference26Ideal.main_arg48) = m' ((c.tc : Thread Cert.Reference26Ideal.nD Cert.Reference26Ideal.τ).loc Cert.Reference26Ideal.main_arg48))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Kernel.lean ====
abbrev S16384x512 : Shape := ⟨2, ![16384, 512]⟩
abbrev S16384x2048 : Shape := ⟨2, ![16384, 2048]⟩
abbrev S2x3x512 : Shape := ⟨3, ![2, 3, 512]⟩
abbrev S8x512 : Shape := ⟨2, ![8, 512]⟩
abbrev S512x512 : Shape := ⟨2, ![512, 512]⟩
abbrev S1x3x512 : Shape := ⟨3, ![1, 3, 512]⟩
abbrev S512x2048 : Shape := ⟨2, ![512, 2048]⟩
abbrev S520x512 : Shape := ⟨2, ![520, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 6
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x2048, .f32⟩
  | .hbm, ⟨2, _⟩ => ⟨S16384x512, .f32⟩
  | .hbm, ⟨3, _⟩ => ⟨S2x3x512, .f32⟩
  | .hbm, ⟨4, _⟩ => ⟨S16384x2048, .bf16⟩
  | .hbm, ⟨5, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S512x512, .f32⟩
  | .local _ .vmem, ⟨17, _⟩ => ⟨S512x512, .f32⟩
  | .local _ .vmem, ⟨18, _⟩ => ⟨S1x3x512, .f32⟩
  | .local _ .vmem, ⟨19, _⟩ => ⟨S512x2048, .bf16⟩
  | .local _ .vmem, ⟨20, _⟩ => ⟨S512x2048, .bf16⟩
  | .local _ .vmem, ⟨21, _⟩ => ⟨S8x512, .f32⟩
  | .local _ .vmem, ⟨22, _⟩ => ⟨S520x512, .f32⟩
  | .local _ .vmem, ⟨23, _⟩ => ⟨S520x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c1_i32_0 : BitVec 32 := 1#32
  let c0_i32 : BitVec 32 := 0#32
  ![v2.toNat, c1_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S16384x512 : Shape := ⟨2, ![16384, 512]⟩
abbrev S16384x2048 : Shape := ⟨2, ![16384, 2048]⟩
abbrev S2x3x512 : Shape := ⟨3, ![2, 3, 512]⟩
abbrev S1x16384x2048 : Shape := ⟨3, ![1, 16384, 2048]⟩
abbrev S1x3x512 : Shape := ⟨3, ![1, 3, 512]⟩
abbrev S3x512 : Shape := ⟨2, ![3, 512]⟩
abbrev S1x16384x512 : Shape := ⟨3, ![1, 16384, 512]⟩
abbrev S_ : Shape := ⟨0, ![]⟩
abbrev S1x2x512 : Shape := ⟨3, ![1, 2, 512]⟩
abbrev S1x16386x512 : Shape := ⟨3, ![1, 16386, 512]⟩
abbrev S1x512 : Shape := ⟨2, ![1, 512]⟩
abbrev S512 : Shape := ⟨1, ![512]⟩
abbrev S1x1x512 : Shape := ⟨3, ![1, 1, 512]⟩
abbrev S8x512 : Shape := ⟨2, ![8, 512]⟩

abbrev nBuf : Space → Nat
  | .hbm => 101
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x2048, .f32⟩
  | .hbm, ⟨2, _⟩ => ⟨S16384x512, .f32⟩
  | .hbm, ⟨3, _⟩ => ⟨S2x3x512, .f32⟩
  | .hbm, ⟨4, _⟩ => ⟨S1x16384x2048, .f32⟩
  | .hbm, ⟨5, _⟩ => ⟨S1x3x512, .f32⟩
  | .hbm, ⟨6, _⟩ => ⟨S3x512, .f32⟩
  | .hbm, ⟨7, _⟩ => ⟨S1x16384x512, .f32⟩
  | .hbm, ⟨8, _⟩ => ⟨S1x16384x512, .f32⟩
  | .hbm, ⟨9, _⟩ => ⟨S1x16384x512, .f32⟩
  | .hbm, ⟨10, _⟩ => ⟨S1x16384x512, .f32⟩
  | .hbm, ⟨11, _⟩ => ⟨S1x16384x512, .f32⟩
  | .hbm, ⟨12, _⟩ => ⟨S_, .f32⟩
  | .hbm, ⟨13, _⟩ => ⟨S1x2x512, .f32⟩
  | .hbm, ⟨14, _⟩ => ⟨S1x16386x512, .f32⟩
  | .hbm, ⟨15, _⟩ => ⟨S_, .f32⟩
  | .hbm, ⟨16, _⟩ => ⟨S1x2x512, .f32⟩
  | .hbm, ⟨17, _⟩ => ⟨S1x512, .f32⟩
  | .hbm, ⟨18, _⟩ => ⟨S512, .f32⟩
  | .hbm, ⟨19, _⟩ => ⟨S1x16384x512, .f32⟩
  | .hbm, ⟨20, _⟩ => ⟨S1x1x512, .f32⟩
  | .hbm, ⟨21, _⟩ => ⟨S1x16384x512, .f32⟩
  | .hbm, ⟨22, _⟩ => ⟨S1x16384x512, .f32⟩
  | .hbm, ⟨23, _⟩ => ⟨S1x512, .f32⟩
  | .hbm, ⟨24, _⟩ => ⟨S512, .f32⟩
  | .hbm, ⟨25, _⟩ => ⟨S1x16384x512, .f32⟩
  | .hbm, ⟨26, _⟩ => ⟨S1x1x512, .f32⟩
  | .hbm, ⟨27, _⟩ => ⟨S1x16384x512, .f32⟩
  | .hbm, ⟨28, _⟩ => ⟨S1x16384x512, .f32⟩
  | .hbm, ⟨29, _⟩ => ⟨S1x16384x512, .f32⟩
  | .hbm, ⟨30, _⟩ => ⟨S1x512, .f32⟩
  | .hbm, ⟨31, _⟩ => ⟨S512, .f32⟩
  | .hbm, ⟨32, _⟩ => ⟨S1x16384x512, .f32⟩
  | .hbm, ⟨33, _⟩ => ⟨S1x1x512, .f32⟩
  | .hbm, ⟨34, _⟩ => ⟨S1x16384x512, .f32⟩
  | .hbm, ⟨35, _⟩ => ⟨S1x16384x512, .f32⟩
  | .hbm, ⟨36, _⟩ => ⟨S1x16384x512, .f32⟩
  | .hbm, ⟨37, _⟩ => ⟨S1x16384x512, .f32⟩
  | .hbm, ⟨38, _⟩ => ⟨S1x16384x512, .f32⟩
  | .hbm, ⟨39, _⟩ => ⟨S1x16384x512, .f32⟩
  | .hbm, ⟨40, _⟩ => ⟨S1x16384x512, .f32⟩
  | .hbm, ⟨41, _⟩ => ⟨S1x16384x512, .f32⟩
  | .hbm, ⟨42, _⟩ => ⟨S1x16384x512, .f32⟩
  | .hbm, ⟨43, _⟩ => ⟨S1x16384x512, .f32⟩
  | .hbm, ⟨44, _⟩ => ⟨S1x16384x512, .f32⟩
  | .hbm, ⟨45, _⟩ => ⟨S_, .f32⟩
  | .hbm, ⟨46, _⟩ => ⟨S1x512, .f32⟩
  | .hbm, ⟨47, _⟩ => ⟨S1x1x512, .f32⟩
  | .hbm, ⟨48, _⟩ => ⟨S_, .f32⟩
  | .hbm, ⟨49, _⟩ => ⟨S512, .f32⟩
  | .hbm, ⟨50, _⟩ => ⟨S_, .f32⟩
  | .hbm, ⟨51, _⟩ => ⟨S1x16386x512, .f32⟩
  | .hbm, ⟨52, _⟩ => ⟨S1x512, .f32⟩
  | .hbm, ⟨53, _⟩ => ⟨S_, .f32⟩
  | .hbm, ⟨54, _⟩ => ⟨S3x512, .f32⟩
  | .hbm, ⟨55, _⟩ => ⟨S1x16384x512, .f32⟩
  | .hbm, ⟨56, _⟩ => ⟨S1x16384x512, .f32⟩
  | .hbm, ⟨57, _⟩ => ⟨S1x16384x512, .f32⟩
  | .hbm, ⟨58, _⟩ => ⟨S_, .f32⟩
  | .hbm, ⟨59, _⟩ => ⟨S1x512, .f32⟩
  | .hbm, ⟨60, _⟩ => ⟨S1x1x512, .f32⟩
  | .hbm, ⟨61, _⟩ => ⟨S_, .f32⟩
  | .hbm, ⟨62, _⟩ => ⟨S512, .f32⟩
  | .hbm, ⟨63, _⟩ => ⟨S_, .f32⟩
  | .hbm, ⟨64, _⟩ => ⟨S1x16386x512, .f32⟩
  | .hbm, ⟨65, _⟩ => ⟨S1x16386x512, .f32⟩
  | .hbm, ⟨66, _⟩ => ⟨S1x512, .f32⟩
  | .hbm, ⟨67, _⟩ => ⟨S_, .f32⟩
  | .hbm, ⟨68, _⟩ => ⟨S3x512, .f32⟩
  | .hbm, ⟨69, _⟩ => ⟨S3x512, .f32⟩
  | .hbm, ⟨70, _⟩ => ⟨S1x16384x512, .f32⟩
  | .hbm, ⟨71, _⟩ => ⟨S1x16384x512, .f32⟩
  | .hbm, ⟨72, _⟩ => ⟨S1x16384x512, .f32⟩
  | .hbm, ⟨73, _⟩ => ⟨S_, .f32⟩
  | .hbm, ⟨74, _⟩ => ⟨S1x512, .f32⟩
  | .hbm, ⟨75, _⟩ => ⟨S1x1x512, .f32⟩
  | .hbm, ⟨76, _⟩ => ⟨S_, .f32⟩
  | .hbm, ⟨77, _⟩ => ⟨S512, .f32⟩
  | .hbm, ⟨78, _⟩ => ⟨S_, .f32⟩
  | .hbm, ⟨79, _⟩ => ⟨S1x16386x512, .f32⟩
  | .hbm, ⟨80, _⟩ => ⟨S1x16386x512, .f32⟩
  | .hbm, ⟨81, _⟩ => ⟨S1x512, .f32⟩
  | .hbm, ⟨82, _⟩ => ⟨S_, .f32⟩
  | .hbm, ⟨83, _⟩ => ⟨S3x512, .f32⟩
  | .hbm, ⟨84, _⟩ => ⟨S3x512, .f32⟩
  | .hbm, ⟨85, _⟩ => ⟨S1x2x512, .f32⟩
  | .hbm, ⟨86, _⟩ => ⟨S1x16384x512, .f32⟩
  | .hbm, ⟨87, _⟩ => ⟨S1x16384x512, .f32⟩
  | .hbm, ⟨88, _⟩ => ⟨S1x16384x512, .f32⟩
  | .hbm, ⟨89, _⟩ => ⟨S1x16384x2048, .f32⟩
  | .hbm, ⟨90, _⟩ => ⟨S1x3x512, .f32⟩
  | .hbm, ⟨91, _⟩ => ⟨S_, .f32⟩
  | .hbm, ⟨92, _⟩ => ⟨S2x3x512, .f32⟩
  | .hbm, ⟨93, _⟩ => ⟨S_, .f32⟩
  | .hbm, ⟨94, _⟩ => ⟨S16384x2048, .f32⟩
  | .hbm, ⟨95, _⟩ => ⟨S16384x2048, .bf16⟩
  | .hbm, ⟨96, _⟩ => ⟨S1x3x512, .f32⟩
  | .hbm, ⟨97, _⟩ => ⟨S3x512, .f32⟩
  | .hbm, ⟨98, _⟩ => ⟨S_, .i32⟩
  | .hbm, ⟨99, _⟩ => ⟨S_, .f32⟩
  | .hbm, ⟨100, _⟩ => ⟨S8x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_1 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_v59 : Ref sig .tc := ⟨.hbm, 74, rfl⟩
abbrev main_v60 : Ref sig .tc := ⟨.hbm, 75, rfl⟩
abbrev main_cst_10 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_13 : Ref sig .tc := ⟨.hbm, 91, rfl⟩
abbrev main_v73 : Ref sig .tc := ⟨.hbm, 92, rfl⟩
abbrev main_cst_14 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_c : Ref sig .tc := ⟨.hbm, 98, rfl⟩
abbrev main_call0_v0 : Ref sig .tc := ⟨.hbm, 99, rfl⟩
abbrev main_v78 : Ref sig .tc := ⟨.hbm, 100, rfl⟩

abbrev nD : Nat := 1
abbrev τ : Topo := Topo.v7x

variable {F : FTy → Type} [FloatOps F]
-- ==== Kernel2.lean ====
abbrev S16384x1024 : Shape := ⟨2, ![16384, 1024]⟩
abbrev S1024x5632 : Shape := ⟨2, ![1024, 5632]⟩
abbrev S16384x5632 : Shape := ⟨2, ![16384, 5632]⟩
abbrev S16384x8x704 : Shape := ⟨3, ![16384, 8, 704]⟩
abbrev S8x16384x704 : Shape := ⟨3, ![8, 16384, 704]⟩
abbrev S8x1024x704 : Shape := ⟨3, ![8, 1024, 704]⟩
abbrev S2048x1024 : Shape := ⟨2, ![2048, 1024]⟩
abbrev S2x2048x704 : Shape := ⟨3, ![2, 2048, 704]⟩
abbrev S2x1024x704 : Shape := ⟨3, ![2, 1024, 704]⟩
abbrev S1x1024x704 : Shape := ⟨3, ![1, 1024, 704]⟩
abbrev S1024x704 : Shape := ⟨2, ![1024, 704]⟩
abbrev S1x2048x704 : Shape := ⟨3, ![1, 2048, 704]⟩
abbrev S2048x704 : Shape := ⟨2, ![2048, 704]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x1024, .bf16⟩
  | .hbm, ⟨4, _⟩ => ⟨S16384x5632, .bf16⟩
  | .hbm, ⟨5, _⟩ => ⟨S16384x8x704, .bf16⟩
  | .hbm, ⟨6, _⟩ => ⟨S8x16384x704, .bf16⟩
  | .hbm, ⟨7, _⟩ => ⟨S8x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S2x2048x704, .bf16⟩
  | .local _ .vmem, ⟨3, _⟩ => ⟨S2x2048x704, .bf16⟩
  | .local _ .vmem, ⟨4, _⟩ => ⟨S2x1024x704, .bf16⟩
  | .local _ .vmem, ⟨5, _⟩ => ⟨S2x1024x704, .bf16⟩
  | .local _ .vmem, ⟨6, _⟩ => ⟨S2x1024x704, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_20 : BitVec 32 := 0#32
  let v25 : BitVec 1 := Scalar.cmpi .ne v24 c0_i32_20
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S16384x1024 : Shape := ⟨2, ![16384, 1024]⟩
abbrev S1024x5632 : Shape := ⟨2, ![1024, 5632]⟩
abbrev S16384x5632 : Shape := ⟨2, ![16384, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x5632, .f32⟩
  | .hbm, ⟨4, _⟩ => ⟨S5632x1024, .f32⟩
  | .hbm, ⟨5, _⟩ => ⟨S1024x5632, .f32⟩
  | .hbm, ⟨6, _⟩ => ⟨S1024x8x704, .f32⟩
  | .hbm, ⟨7, _⟩ => ⟨S8x1024x704, .f32⟩
  | .hbm, ⟨8, _⟩ => ⟨S8x1024x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S16384x2816 : Shape := ⟨2, ![16384, 2816]⟩
abbrev S2816x1024 : Shape := ⟨2, ![2816, 1024]⟩
abbrev S16384x1024 : Shape := ⟨2, ![16384, 1024]⟩
abbrev S16384x4x704 : Shape := ⟨3, ![16384, 4, 704]⟩
abbrev S4x16384x704 : Shape := ⟨3, ![4, 16384, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 8
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x2816, .bf16⟩
  | .hbm, ⟨4, _⟩ => ⟨S16384x4x704, .bf16⟩
  | .hbm, ⟨5, _⟩ => ⟨S4x16384x704, .bf16⟩
  | .hbm, ⟨6, _⟩ => ⟨S16384x1024, .bf16⟩
  | .hbm, ⟨7, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x1024, .f32⟩
  | .hbm, ⟨4, _⟩ => ⟨S1024x2816, .f32⟩
  | .hbm, ⟨5, _⟩ => ⟨S2816x1024, .f32⟩
  | .hbm, ⟨6, _⟩ => ⟨S4x704x1024, .f32⟩
  | .hbm, ⟨7, _⟩ => ⟨S4x704x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S16384x1024 : Shape := ⟨2, ![16384, 1024]⟩
abbrev S1024x2048 : Shape := ⟨2, ![1024, 2048]⟩
abbrev S16384x2048 : Shape := ⟨2, ![16384, 2048]⟩
abbrev S8x1024x256 : Shape := ⟨3, ![8, 1024, 256]⟩
abbrev S2048x1024 : Shape := ⟨2, ![2048, 1024]⟩
abbrev S2048x512 : Shape := ⟨2, ![2048, 512]⟩
abbrev S2x1024x256 : Shape := ⟨3, ![2, 1024, 256]⟩
abbrev S1024x512 : Shape := ⟨2, ![1024, 512]⟩
abbrev S1024x256 : Shape := ⟨2, ![1024, 256]⟩
abbrev S1x1024x256 : Shape := ⟨3, ![1, 1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x1024, .bf16⟩
  | .hbm, ⟨4, _⟩ => ⟨S16384x2048, .bf16⟩
  | .hbm, ⟨5, _⟩ => ⟨S8x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2x1024x256, .bf16⟩
  | .local _ .vmem, ⟨5, _⟩ => ⟨S2x1024x256, .bf16⟩
  | .local _ .vmem, ⟨6, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S1024x2048 : Shape := ⟨2, ![1024, 2048]⟩
abbrev S16384x2048 : Shape := ⟨2, ![16384, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x2048, .f32⟩
  | .hbm, ⟨4, _⟩ => ⟨S2048x1024, .f32⟩
  | .hbm, ⟨5, _⟩ => ⟨S1024x2048, .f32⟩
  | .hbm, ⟨6, _⟩ => ⟨S1024x8x256, .f32⟩
  | .hbm, ⟨7, _⟩ => ⟨S8x1024x256, .f32⟩
  | .hbm, ⟨8, _⟩ => ⟨S8x1024x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S16384x1024 : Shape := ⟨2, ![16384, 1024]⟩
abbrev S1024x2048 : Shape := ⟨2, ![1024, 2048]⟩
abbrev S16384x2048 : Shape := ⟨2, ![16384, 2048]⟩
abbrev S1024x8x256 : Shape := ⟨3, ![1024, 8, 256]⟩
abbrev S8x1024x256 : Shape := ⟨3, ![8, 1024, 256]⟩
abbrev S8x1x1024x256 : Shape := ⟨4, ![8, 1, 1024, 256]⟩
abbrev S512x2048 : Shape := ⟨2, ![512, 2048]⟩
abbrev S512x1024 : Shape := ⟨2, ![512, 1024]⟩
abbrev S512x256 : Shape := ⟨2, ![512, 256]⟩
abbrev S1x1x1024x256 : Shape := ⟨4, ![1, 1, 1024, 256]⟩
abbrev S1024x256 : Shape := ⟨2, ![1024, 256]⟩

abbrev nBuf : Space → Nat
  | .hbm => 10
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x1024, .f32⟩
  | .hbm, ⟨4, _⟩ => ⟨S1024x2048, .bf16⟩
  | .hbm, ⟨5, _⟩ => ⟨S1024x8x256, .bf16⟩
  | .hbm, ⟨6, _⟩ => ⟨S8x1024x256, .bf16⟩
  | .hbm, ⟨7, _⟩ => ⟨S8x1x1024x256, .bf16⟩
  | .hbm, ⟨8, _⟩ => ⟨S16384x2048, .bf16⟩
  | .hbm, ⟨9, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S8x1x1024x256, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384x1024 : Shape := ⟨2, ![16384, 1024]⟩
abbrev S1024x2048 : Shape := ⟨2, ![1024, 2048]⟩
abbrev S16384x2048 : Shape := ⟨2, ![16384, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel6.lean ====
abbrev S16384x512 : Shape := ⟨2, ![16384, 512]⟩
abbrev S1024x1024 : Shape := ⟨2, ![1024, 1024]⟩
abbrev S16384x1024 : Shape := ⟨2, ![16384, 1024]⟩
abbrev S1x1024x1024 : Shape := ⟨3, ![1, 1024, 1024]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 9
  | .vmem => 7
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S16384x1024, .bf16⟩
  | .hbm, ⟨5, _⟩ => ⟨S1024x1024, .bf16⟩
  | .hbm, ⟨6, _⟩ => ⟨S1x1024x1024, .bf16⟩
  | .hbm, ⟨7, _⟩ => ⟨S16384x512, .f32⟩
  | .hbm, ⟨8, _⟩ => ⟨S16384x512, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16384x512 : Shape := ⟨2, ![16384, 512]⟩
abbrev S1024x1024 : Shape := ⟨2, ![1024, 1024]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x512, .f32⟩
  | .hbm, ⟨8, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S16384x512 : Shape := ⟨2, ![16384, 512]⟩
abbrev S512x1024 : Shape := ⟨2, ![512, 1024]⟩
abbrev S16384x1024 : Shape := ⟨2, ![16384, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x512, .bf16⟩
  | .hbm, ⟨4, _⟩ => ⟨S16384x1024, .bf16⟩
  | .hbm, ⟨5, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x1024 : Shape := ⟨2, ![16384, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S16384x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4x16384x256 : Shape := ⟨3, ![4, 16384, 256]⟩
abbrev S256x1024 : Shape := ⟨2, ![256, 1024]⟩
abbrev S16384x1024 : Shape := ⟨2, ![16384, 1024]⟩
abbrev S1x2048x256 : Shape := ⟨3, ![1, 2048, 256]⟩
abbrev S2048x1024 : Shape := ⟨2, ![2048, 1024]⟩
abbrev S2048x256 : Shape := ⟨2, ![2048, 256]⟩

abbrev nBuf : Space → Nat
  | .hbm => 5
  | .vmem => 6
  | .smem => 0
  | _ => 0

abbrev bufTy : (tb : Table) → Fin (tcTables nBuf tb) → BufTy
  | .hbm, ⟨0, _⟩ => ⟨S4x16384x256, .f32⟩
  | .hbm, ⟨1, _⟩ => ⟨S256x1024, .f32⟩
  | .hbm, ⟨2, _⟩ => ⟨S16384x1024, .f32⟩
  | .hbm, ⟨3, _⟩ => ⟨S16384x1024, .bf16⟩
  | .hbm, ⟨4, _⟩ => ⟨S256x1024, .bf16⟩
  | .local _ .vmem, ⟨0, _⟩ => ⟨S1x2048x256, .f32⟩
  | .local _ .vmem, ⟨1, _⟩ => ⟨S1x2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S4x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_9 : BitVec 32 := 0#32
  let v16 : BitVec 1 := Scalar.cmpi .ne v15 c0_i32_9
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4x16384x256 : Shape := ⟨3, ![4, 16384, 256]⟩
abbrev S256x1024 : Shape := ⟨2, ![256, 1024]⟩
abbrev S16384x1024 : Shape := ⟨2, ![16384, 1024]⟩
abbrev S1x16384x256 : Shape := ⟨3, ![1, 16384, 256]⟩
abbrev S16384x256 : Shape := ⟨2, ![16384, 256]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4x16384x256, .f32⟩
  | .hbm, ⟨1, _⟩ => ⟨S256x1024, .f32⟩
  | .hbm, ⟨2, _⟩ => ⟨S16384x1024, .f32⟩
  | .hbm, ⟨3, _⟩ => ⟨S1x16384x256, .f32⟩
  | .hbm, ⟨4, _⟩ => ⟨S16384x256, .f32⟩
  | .hbm, ⟨5, _⟩ => ⟨S16384x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S4x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S16384x512 : Shape := ⟨2, ![16384, 512]⟩
abbrev S512x512 : Shape := ⟨2, ![512, 512]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S16384x512, .f32⟩
  | .hbm, ⟨3, _⟩ => ⟨S16384x512, .bf16⟩
  | .hbm, ⟨4, _⟩ => ⟨S16384x512, .bf16⟩
  | .hbm, ⟨5, _⟩ => ⟨S512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S16384x512 : Shape := ⟨2, ![16384, 512]⟩
abbrev S512x512 : Shape := ⟨2, ![512, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S16384x512, .f32⟩
  | .hbm, ⟨3, _⟩ => ⟨S16384x512, .f32⟩
  | .hbm, ⟨4, _⟩ => ⟨S512x512, .f32⟩
  | .hbm, ⟨5, _⟩ => ⟨S512x512, .f32⟩
  | .hbm, ⟨6, _⟩ => ⟨S512x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S16384x1024 : Shape := ⟨2, ![16384, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S8x1x1024x256 : Shape := ⟨4, ![8, 1, 1024, 256]⟩
abbrev S16384x2048 : Shape := ⟨2, ![16384, 2048]⟩
abbrev S512x1024 : Shape := ⟨2, ![512, 1024]⟩
abbrev S512x2048 : Shape := ⟨2, ![512, 2048]⟩
abbrev S1x1x1024x256 : Shape := ⟨4, ![1, 1, 1024, 256]⟩
abbrev S1024x256 : Shape := ⟨2, ![1024, 256]⟩
abbrev S512x256 : Shape := ⟨2, ![512, 256]⟩

abbrev nBuf : Space → Nat
  | .hbm => 8
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S1024x2048, .bf16⟩
  | .hbm, ⟨3, _⟩ => ⟨S1024x8x256, .bf16⟩
  | .hbm, ⟨4, _⟩ => ⟨S8x1024x256, .bf16⟩
  | .hbm, ⟨5, _⟩ => ⟨S8x1x1024x256, .bf16⟩
  | .hbm, ⟨6, _⟩ => ⟨S16384x1024, .bf16⟩
  | .hbm, ⟨7, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S8x1x1024x256, .bf16⟩
  | .local _ .vmem, ⟨3, _⟩ => ⟨S512x2048, .f32⟩
  | .local _ .vmem, ⟨4, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S16384x1024 : Shape := ⟨2, ![16384, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S2x4x1x1024x704 : Shape := ⟨5, ![2, 4, 1, 1024, 704]⟩
abbrev S2x4x16384x704 : Shape := ⟨4, ![2, 4, 16384, 704]⟩
abbrev S4x16384x704 : Shape := ⟨3, ![4, 16384, 704]⟩
abbrev S1024x1024 : Shape := ⟨2, ![1024, 1024]⟩
abbrev S2x1x1x1024x704 : Shape := ⟨5, ![2, 1, 1, 1024, 704]⟩
abbrev S2x1x1024x704 : Shape := ⟨4, ![2, 1, 1024, 704]⟩
abbrev S1x1024x704 : Shape := ⟨3, ![1, 1024, 704]⟩
abbrev S1x1x1x1024x704 : Shape := ⟨5, ![1, 1, 1, 1024, 704]⟩
abbrev S1024x704 : Shape := ⟨2, ![1024, 704]⟩
abbrev S1x1x1024x704 : Shape := ⟨4, ![1, 1, 1024, 704]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024x5632, .bf16⟩
  | .hbm, ⟨3, _⟩ => ⟨S1024x8x704, .bf16⟩
  | .hbm, ⟨4, _⟩ => ⟨S8x1024x704, .bf16⟩
  | .hbm, ⟨5, _⟩ => ⟨S16384x1024, .bf16⟩
  | .hbm, ⟨6, _⟩ => ⟨S2x4x1x1024x704, .bf16⟩
  | .hbm, ⟨7, _⟩ => ⟨S2x4x16384x704, .bf16⟩
  | .hbm, ⟨8, _⟩ => ⟨S4x16384x704, .bf16⟩
  | .local _ .vmem, ⟨0, _⟩ => ⟨S1024x1024, .bf16⟩
  | .local _ .vmem, ⟨1, _⟩ => ⟨S1024x1024, .bf16⟩
  | .local _ .vmem, ⟨2, _⟩ => ⟨S2x1x1x1024x704, .bf16⟩
  | .local _ .vmem, ⟨3, _⟩ => ⟨S2x1x1x1024x704, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S1x1024x704, .bf16⟩
  | .local _ .vmem, ⟨7, _⟩ => ⟨S1x1024x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩
abbrev S1x16384x2816 : Shape := ⟨3, ![1, 16384, 2816]⟩
abbrev S2x16384x2816 : Shape := ⟨3, ![2, 16384, 2816]⟩
abbrev S2x16384x4x704 : Shape := ⟨4, ![2, 16384, 4, 704]⟩
abbrev S2x4x16384x704 : Shape := ⟨4, ![2, 4, 16384, 704]⟩
abbrev S16384x4x704 : Shape := ⟨3, ![16384, 4, 704]⟩
abbrev S4x16384x704 : Shape := ⟨3, ![4, 16384, 704]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S1x16384x2816, .f32⟩
  | .hbm, ⟨16, _⟩ => ⟨S1x16384x2816, .f32⟩
  | .hbm, ⟨17, _⟩ => ⟨S2x16384x2816, .f32⟩
  | .hbm, ⟨18, _⟩ => ⟨S2x16384x4x704, .f32⟩
  | .hbm, ⟨19, _⟩ => ⟨S2x4x16384x704, .f32⟩
  | .hbm, ⟨20, _⟩ => ⟨S2x4x16384x704, .bf16⟩
  | .hbm, ⟨21, _⟩ => ⟨S16384x4x704, .f32⟩
  | .hbm, ⟨22, _⟩ => ⟨S4x16384x704, .f32⟩
  | .hbm, ⟨23, _⟩ => ⟨S4x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel13.lean ====
abbrev S16384x1024 : Shape := ⟨2, ![16384, 1024]⟩
abbrev S4x1024 : Shape := ⟨2, ![4, 1024]⟩
abbrev S4x16384x256 : Shape := ⟨3, ![4, 16384, 256]⟩
abbrev S1024x1024 : Shape := ⟨2, ![1024, 1024]⟩
abbrev S4x256x1024 : Shape := ⟨3, ![4, 256, 1024]⟩
abbrev S1x1024 : Shape := ⟨2, ![1, 1024]⟩
abbrev S1024 : Shape := ⟨1, ![1024]⟩
abbrev S4x1x1024 : Shape := ⟨3, ![4, 1, 1024]⟩
abbrev S1x1024x1024 : Shape := ⟨3, ![1, 1024, 1024]⟩
abbrev S512x1024 : Shape := ⟨2, ![512, 1024]⟩
abbrev S1x1x1024 : Shape := ⟨3, ![1, 1, 1024]⟩
abbrev S1x512x256 : Shape := ⟨3, ![1, 512, 256]⟩
abbrev S1x256x1024 : Shape := ⟨3, ![1, 256, 1024]⟩
abbrev S512x256 : Shape := ⟨2, ![512, 256]⟩
abbrev S256x1024 : Shape := ⟨2, ![256, 1024]⟩

abbrev nBuf : Space → Nat
  | .hbm => 26
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024, .f32⟩
  | .hbm, ⟨3, _⟩ => ⟨S4x16384x256, .f32⟩
  | .hbm, ⟨4, _⟩ => ⟨S1024x1024, .f32⟩
  | .hbm, ⟨5, _⟩ => ⟨S4x1024, .f32⟩
  | .hbm, ⟨6, _⟩ => ⟨S4x256x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S16384x1024, .bf16⟩
  | .hbm, ⟨18, _⟩ => ⟨S4x1x1024, .f32⟩
  | .hbm, ⟨19, _⟩ => ⟨S4x1x1024, .f32⟩
  | .hbm, ⟨20, _⟩ => ⟨S1024x1024, .bf16⟩
  | .hbm, ⟨21, _⟩ => ⟨S1x1024x1024, .bf16⟩
  | .hbm, ⟨22, _⟩ => ⟨S4x1x1024, .f32⟩
  | .hbm, ⟨23, _⟩ => ⟨S4x256x1024, .bf16⟩
  | .hbm, ⟨24, _⟩ => ⟨S16384x1024, .f32⟩
  | .hbm, ⟨25, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x256, .f32⟩
  | .local _ .vmem, ⟨7, _⟩ => ⟨S1x512x256, .f32⟩
  | .local _ .vmem, ⟨8, _⟩ => ⟨S1x1024x1024, .bf16⟩
  | .local _ .vmem, ⟨9, _⟩ => ⟨S1x1x1024, .f32⟩
  | .local _ .vmem, ⟨10, _⟩ => ⟨S1x256x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S16384x1024 : Shape := ⟨2, ![16384, 1024]⟩
abbrev S4x1024 : Shape := ⟨2, ![4, 1024]⟩
abbrev S4x16384x256 : Shape := ⟨3, ![4, 16384, 256]⟩
abbrev S1024x1024 : Shape := ⟨2, ![1024, 1024]⟩
abbrev S4x256x1024 : Shape := ⟨3, ![4, 256, 1024]⟩
abbrev S1x1024 : Shape := ⟨2, ![1, 1024]⟩
abbrev S1024 : Shape := ⟨1, ![1024]⟩
abbrev S_ : Shape := ⟨0, ![]⟩
abbrev S1x16384x256 : Shape := ⟨3, ![1, 16384, 256]⟩
abbrev S16384x256 : Shape := ⟨2, ![16384, 256]⟩
abbrev S1x256x1024 : Shape := ⟨3, ![1, 256, 1024]⟩
abbrev S256x1024 : Shape := ⟨2, ![256, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024, .f32⟩
  | .hbm, ⟨3, _⟩ => ⟨S4x16384x256, .f32⟩
  | .hbm, ⟨4, _⟩ => ⟨S1024x1024, .f32⟩
  | .hbm, ⟨5, _⟩ => ⟨S4x1024, .f32⟩
  | .hbm, ⟨6, _⟩ => ⟨S4x256x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S1x16384x256, .f32⟩
  | .hbm, ⟨32, _⟩ => ⟨S16384x256, .f32⟩
  | .hbm, ⟨33, _⟩ => ⟨S1x256x1024, .f32⟩
  | .hbm, ⟨34, _⟩ => ⟨S256x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel14.lean ====
abbrev S16384x512 : Shape := ⟨2, ![16384, 512]⟩
abbrev S1024x1024 : Shape := ⟨2, ![1024, 1024]⟩
abbrev S16384x1024 : Shape := ⟨2, ![16384, 1024]⟩
abbrev S4x1024 : Shape := ⟨2, ![4, 1024]⟩
abbrev S1x1024x1024 : Shape := ⟨3, ![1, 1024, 1024]⟩
abbrev S4x1x1024 : Shape := ⟨3, ![4, 1, 1024]⟩
abbrev S16384x1 : Shape := ⟨2, ![16384, 1]⟩
abbrev S512x512 : Shape := ⟨2, ![512, 512]⟩
abbrev S512x1024 : Shape := ⟨2, ![512, 1024]⟩
abbrev S1x1x1024 : Shape := ⟨3, ![1, 1, 1024]⟩
abbrev S512x1 : Shape := ⟨2, ![512, 1]⟩
abbrev S1x512x1024 : Shape := ⟨3, ![1, 512, 1024]⟩
abbrev S1x1024 : Shape := ⟨2, ![1, 1024]⟩
abbrev S512 : Shape := ⟨1, ![512]⟩

abbrev nBuf : Space → Nat
  | .hbm => 15
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S4x1024, .f32⟩
  | .hbm, ⟨5, _⟩ => ⟨S4x1024, .f32⟩
  | .hbm, ⟨6, _⟩ => ⟨S16384x512, .bf16⟩
  | .hbm, ⟨7, _⟩ => ⟨S16384x512, .bf16⟩
  | .hbm, ⟨8, _⟩ => ⟨S1024x1024, .bf16⟩
  | .hbm, ⟨9, _⟩ => ⟨S1x1024x1024, .bf16⟩
  | .hbm, ⟨10, _⟩ => ⟨S4x1x1024, .f32⟩
  | .hbm, ⟨11, _⟩ => ⟨S4x1x1024, .f32⟩
  | .hbm, ⟨12, _⟩ => ⟨S16384x1024, .f32⟩
  | .hbm, ⟨13, _⟩ => ⟨S16384x1, .f32⟩
  | .hbm, ⟨14, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S16384x512 : Shape := ⟨2, ![16384, 512]⟩
abbrev S1024x1024 : Shape := ⟨2, ![1024, 1024]⟩
abbrev S16384x1024 : Shape := ⟨2, ![16384, 1024]⟩
abbrev S4x1024 : Shape := ⟨2, ![4, 1024]⟩
abbrev S_ : Shape := ⟨0, ![]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩

abbrev nBuf : Space → Nat
  | .hbm => 46
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel15.lean ====
abbrev S16384x2816 : Shape := ⟨2, ![16384, 2816]⟩
abbrev S2816x1024 : Shape := ⟨2, ![2816, 1024]⟩
abbrev S16384x1024 : Shape := ⟨2, ![16384, 1024]⟩
abbrev S4x1024 : Shape := ⟨2, ![4, 1024]⟩
abbrev S16384x4x704 : Shape := ⟨3, ![16384, 4, 704]⟩
abbrev S4x16384x704 : Shape := ⟨3, ![4, 16384, 704]⟩
abbrev S1x4x704x1024 : Shape := ⟨4, ![1, 4, 704, 1024]⟩
abbrev S4x1x1024 : Shape := ⟨3, ![4, 1, 1024]⟩
abbrev S16384x1 : Shape := ⟨2, ![16384, 1]⟩
abbrev S4x512x704 : Shape := ⟨3, ![4, 512, 704]⟩
abbrev S512x1024 : Shape := ⟨2, ![512, 1024]⟩
abbrev S1x1x1024 : Shape := ⟨3, ![1, 1, 1024]⟩
abbrev S512x1 : Shape := ⟨2, ![512, 1]⟩
abbrev S1x1024 : Shape := ⟨2, ![1, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩

abbrev nBuf : Space → Nat
  | .hbm => 19
  | .vmem => 15
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S16384x2816, .bf16⟩
  | .hbm, ⟨8, _⟩ => ⟨S16384x4x704, .bf16⟩
  | .hbm, ⟨9, _⟩ => ⟨S4x16384x704, .bf16⟩
  | .hbm, ⟨10, _⟩ => ⟨S2816x1024, .bf16⟩
  | .hbm, ⟨11, _⟩ => ⟨S1x4x704x1024, .bf16⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S16384x1024, .f32⟩
  | .hbm, ⟨17, _⟩ => ⟨S16384x1, .f32⟩
  | .hbm, ⟨18, _⟩ => ⟨S16384x1024, .bf16⟩
  | .local _ .vmem, ⟨0, _⟩ => ⟨S4x512x704, .bf16⟩
  | .local _ .vmem, ⟨1, _⟩ => ⟨S4x512x704, .bf16⟩
  | .local _ .vmem, ⟨2, _⟩ => ⟨S1x4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S16384x2816 : Shape := ⟨2, ![16384, 2816]⟩
abbrev S2816x1024 : Shape := ⟨2, ![2816, 1024]⟩
abbrev S16384x1024 : Shape := ⟨2, ![16384, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel16.lean ====
abbrev S16384x5632 : Shape := ⟨2, ![16384, 5632]⟩
abbrev S2816x1024 : Shape := ⟨2, ![2816, 1024]⟩
abbrev S16384x1024 : Shape := ⟨2, ![16384, 1024]⟩
abbrev S16384x2x4x704 : Shape := ⟨4, ![16384, 2, 4, 704]⟩
abbrev S2x4x16384x704 : Shape := ⟨4, ![2, 4, 16384, 704]⟩
abbrev S1x4x704x1024 : Shape := ⟨4, ![1, 4, 704, 1024]⟩
abbrev S1024x1024 : Shape := ⟨2, ![1024, 1024]⟩
abbrev S1x1x704x1024 : Shape := ⟨4, ![1, 1, 704, 1024]⟩
abbrev S2x1x1024x704 : Shape := ⟨4, ![2, 1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 10
  | .vmem => 8
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S16384x1024, .f32⟩
  | .hbm, ⟨3, _⟩ => ⟨S16384x5632, .bf16⟩
  | .hbm, ⟨4, _⟩ => ⟨S16384x2x4x704, .bf16⟩
  | .hbm, ⟨5, _⟩ => ⟨S2x4x16384x704, .bf16⟩
  | .hbm, ⟨6, _⟩ => ⟨S16384x1024, .bf16⟩
  | .hbm, ⟨7, _⟩ => ⟨S2816x1024, .bf16⟩
  | .hbm, ⟨8, _⟩ => ⟨S1x4x704x1024, .bf16⟩
  | .hbm, ⟨9, _⟩ => ⟨S2x4x16384x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x1024x704, .bf16⟩
  | .local _ .vmem, ⟨7, _⟩ => ⟨S2x1x1024x704, .bf16⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference16Ideal.lean ====
abbrev S16384x5632 : Shape := ⟨2, ![16384, 5632]⟩
abbrev S2816x1024 : Shape := ⟨2, ![2816, 1024]⟩
abbrev S16384x1024 : Shape := ⟨2, ![16384, 1024]⟩
abbrev S16384x2816 : Shape := ⟨2, ![16384, 2816]⟩
abbrev S_ : Shape := ⟨0, ![]⟩
abbrev S1x16384x2816 : Shape := ⟨3, ![1, 16384, 2816]⟩
abbrev S2x16384x2816 : Shape := ⟨3, ![2, 16384, 2816]⟩
abbrev S2x16384x4x704 : Shape := ⟨4, ![2, 16384, 4, 704]⟩
abbrev S2x4x16384x704 : Shape := ⟨4, ![2, 4, 16384, 704]⟩

abbrev nBuf : Space → Nat
  | .hbm => 36
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S16384x1024, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S1x16384x2816, .f32⟩
  | .hbm, ⟨31, _⟩ => ⟨S1x16384x2816, .f32⟩
  | .hbm, ⟨32, _⟩ => ⟨S2x16384x2816, .f32⟩
  | .hbm, ⟨33, _⟩ => ⟨S2x16384x4x704, .f32⟩
  | .hbm, ⟨34, _⟩ => ⟨S2x4x16384x704, .f32⟩
  | .hbm, ⟨35, _⟩ => ⟨S2x4x16384x704, .bf16⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_cst : Ref sig .tc := ⟨.hbm, 18, rfl⟩
abbrev main_v3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Kernel17.lean ====
abbrev S16384x1024 : Shape := ⟨2, ![16384, 1024]⟩
abbrev S16384x1 : Shape := ⟨2, ![16384, 1]⟩
abbrev S4x1024 : Shape := ⟨2, ![4, 1024]⟩
abbrev S4x16384x256 : Shape := ⟨3, ![4, 16384, 256]⟩
abbrev S1024x1024 : Shape := ⟨2, ![1024, 1024]⟩
abbrev S4x256x1024 : Shape := ⟨3, ![4, 256, 1024]⟩
abbrev S1x1024 : Shape := ⟨2, ![1, 1024]⟩
abbrev S1024 : Shape := ⟨1, ![1024]⟩
abbrev S1x1024x1024 : Shape := ⟨3, ![1, 1024, 1024]⟩
abbrev S4x1x1024 : Shape := ⟨3, ![4, 1, 1024]⟩
abbrev S512x1024 : Shape := ⟨2, ![512, 1024]⟩
abbrev S1x512x256 : Shape := ⟨3, ![1, 512, 256]⟩
abbrev S1x1x1024 : Shape := ⟨3, ![1, 1, 1024]⟩
abbrev S1x256x1024 : Shape := ⟨3, ![1, 256, 1024]⟩
abbrev S512x1 : Shape := ⟨2, ![512, 1]⟩
abbrev S512x256 : Shape := ⟨2, ![512, 256]⟩
abbrev S256x1024 : Shape := ⟨2, ![256, 1024]⟩
abbrev S512 : Shape := ⟨1, ![512]⟩

abbrev nBuf : Space → Nat
  | .hbm => 32
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1, .f32⟩
  | .hbm, ⟨3, _⟩ => ⟨S4x1024, .f32⟩
  | .hbm, ⟨4, _⟩ => ⟨S4x1024, .f32⟩
  | .hbm, ⟨5, _⟩ => ⟨S4x16384x256, .f32⟩
  | .hbm, ⟨6, _⟩ => ⟨S1024x1024, .f32⟩
  | .hbm, ⟨7, _⟩ => ⟨S4x1024, .f32⟩
  | .hbm, ⟨8, _⟩ => ⟨S4x256x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S1024x1024, .bf16⟩
  | .hbm, ⟨21, _⟩ => ⟨S1x1024x1024, .bf16⟩
  | .hbm, ⟨22, _⟩ => ⟨S4x1x1024, .f32⟩
  | .hbm, ⟨23, _⟩ => ⟨S4x256x1024, .bf16⟩
  | .hbm, ⟨24, _⟩ => ⟨S4x1x1024, .f32⟩
  | .hbm, ⟨25, _⟩ => ⟨S16384x1024, .f32⟩
  | .hbm, ⟨26, _⟩ => ⟨S16384x1024, .bf16⟩
  | .hbm, ⟨27, _⟩ => ⟨S16384x1024, .bf16⟩
  | .hbm, ⟨28, _⟩ => ⟨S16384x1024, .bf16⟩
  | .hbm, ⟨29, _⟩ => ⟨S1x1024, .f32⟩
  | .hbm, ⟨30, _⟩ => ⟨S1x1024, .f32⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x512x256, .f32⟩
  | .local _ .vmem, ⟨5, _⟩ => ⟨S1x512x256, .f32⟩
  | .local _ .vmem, ⟨6, _⟩ => ⟨S1x1024x1024, .bf16⟩
  | .local _ .vmem, ⟨7, _⟩ => ⟨S1x1x1024, .f32⟩
  | .local _ .vmem, ⟨8, _⟩ => ⟨S1x256x1024, .bf16⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference17Ideal.lean ====
abbrev S16384x1024 : Shape := ⟨2, ![16384, 1024]⟩
abbrev S16384x1 : Shape := ⟨2, ![16384, 1]⟩
abbrev S4x1024 : Shape := ⟨2, ![4, 1024]⟩
abbrev S4x16384x256 : Shape := ⟨3, ![4, 16384, 256]⟩
abbrev S1024x1024 : Shape := ⟨2, ![1024, 1024]⟩
abbrev S4x256x1024 : Shape := ⟨3, ![4, 256, 1024]⟩
abbrev S1x1024 : Shape := ⟨2, ![1, 1024]⟩
abbrev S1024 : Shape := ⟨1, ![1024]⟩
abbrev S1x16384x256 : Shape := ⟨3, ![1, 16384, 256]⟩
abbrev S16384x256 : Shape := ⟨2, ![16384, 256]⟩
abbrev S1x256x1024 : Shape := ⟨3, ![1, 256, 1024]⟩
abbrev S256x1024 : Shape := ⟨2, ![256, 1024]⟩
abbrev S_ : Shape := ⟨0, ![]⟩
abbrev S16384 : Shape := ⟨1, ![16384]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1, .f32⟩
  | .hbm, ⟨3, _⟩ => ⟨S4x1024, .f32⟩
  | .hbm, ⟨4, _⟩ => ⟨S4x1024, .f32⟩
  | .hbm, ⟨5, _⟩ => ⟨S4x16384x256, .f32⟩
  | .hbm, ⟨6, _⟩ => ⟨S1024x1024, .f32⟩
  | .hbm, ⟨7, _⟩ => ⟨S4x1024, .f32⟩
  | .hbm, ⟨8, _⟩ => ⟨S4x256x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1x16384x256, .f32⟩
  | .hbm, ⟨26, _⟩ => ⟨S16384x256, .f32⟩
  | .hbm, ⟨27, _⟩ => ⟨S1x256x1024, .f32⟩
  | .hbm, ⟨28, _⟩ => ⟨S256x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1024, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .bf16⟩
  | .hbm, ⟨90, _⟩ => ⟨S16384x1024, .bf16⟩
  | .hbm, ⟨91, _⟩ => ⟨S16384x1024, .bf16⟩
  | .hbm, ⟨92, _⟩ => ⟨S1x1024, .f32⟩
  | .hbm, ⟨93, _⟩ => ⟨S1x1024, .f32⟩
  | .hbm, ⟨94, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Kernel18.lean ====
abbrev S16384x512 : Shape := ⟨2, ![16384, 512]⟩
abbrev S2x512x512 : Shape := ⟨3, ![2, 512, 512]⟩
abbrev S2x512 : Shape := ⟨2, ![2, 512]⟩
abbrev S2x1x512 : Shape := ⟨3, ![2, 1, 512]⟩
abbrev S512x512 : Shape := ⟨2, ![512, 512]⟩
abbrev S1x512x512 : Shape := ⟨3, ![1, 512, 512]⟩
abbrev S1x1x512 : Shape := ⟨3, ![1, 1, 512]⟩
abbrev S1x512 : Shape := ⟨2, ![1, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S2x512x512, .f32⟩
  | .hbm, ⟨2, _⟩ => ⟨S2x512, .f32⟩
  | .hbm, ⟨3, _⟩ => ⟨S2x512x512, .bf16⟩
  | .hbm, ⟨4, _⟩ => ⟨S2x1x512, .f32⟩
  | .hbm, ⟨5, _⟩ => ⟨S16384x512, .bf16⟩
  | .hbm, ⟨6, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S1x512x512, .bf16⟩
  | .local _ .vmem, ⟨3, _⟩ => ⟨S1x1x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S16384x512 : Shape := ⟨2, ![16384, 512]⟩
abbrev S2x512x512 : Shape := ⟨3, ![2, 512, 512]⟩
abbrev S2x512 : Shape := ⟨2, ![2, 512]⟩
abbrev S_ : Shape := ⟨0, ![]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 39
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2x512x512, .f32⟩
  | .hbm, ⟨2, _⟩ => ⟨S2x512, .f32⟩
  | .hbm, ⟨3, _⟩ => ⟨S16384x512, .f32⟩
  | .hbm, ⟨4, _⟩ => ⟨S16384x512, .f32⟩
  | .hbm, ⟨5, _⟩ => ⟨S_, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S_, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S1x512x512, .f32⟩
  | .hbm, ⟨21, _⟩ => ⟨S512x512, .f32⟩
  | .hbm, ⟨22, _⟩ => ⟨S16384x512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .bf16⟩
  | .hbm, ⟨38, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel19.lean ====
abbrev S16384x2048 : Shape := ⟨2, ![16384, 2048]⟩
abbrev S2x3x512 : Shape := ⟨3, ![2, 3, 512]⟩
abbrev S16384x512 : Shape := ⟨2, ![16384, 512]⟩
abbrev S512x512 : Shape := ⟨2, ![512, 512]⟩
abbrev S8x512 : Shape := ⟨2, ![8, 512]⟩
abbrev S1x3x512 : Shape := ⟨3, ![1, 3, 512]⟩
abbrev S520x512 : Shape := ⟨2, ![520, 512]⟩
abbrev S1x1x512 : Shape := ⟨3, ![1, 1, 512]⟩
abbrev S1x512 : Shape := ⟨2, ![1, 512]⟩

abbrev nBuf : Space → Nat
  | .hbm => 3
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2x3x512, .f32⟩
  | .hbm, ⟨2, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S1x3x512, .f32⟩
  | .local _ .vmem, ⟨11, _⟩ => ⟨S512x512, .bf16⟩
  | .local _ .vmem, ⟨12, _⟩ => ⟨S512x512, .bf16⟩
  | .local _ .vmem, ⟨13, _⟩ => ⟨S520x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S16384x2048 : Shape := ⟨2, ![16384, 2048]⟩
abbrev S2x3x512 : Shape := ⟨3, ![2, 3, 512]⟩
abbrev S16384x512 : Shape := ⟨2, ![16384, 512]⟩
abbrev S_ : Shape := ⟨0, ![]⟩
abbrev S16386x512 : Shape := ⟨2, ![16386, 512]⟩
abbrev S1x1x512 : Shape := ⟨3, ![1, 1, 512]⟩
abbrev S512 : Shape := ⟨1, ![512]⟩
abbrev S1x512 : Shape := ⟨2, ![1, 512]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x3x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S_, .i32⟩
  | .hbm, ⟨8, _⟩ => ⟨S_, .f32⟩
  | .hbm, ⟨9, _⟩ => ⟨S16386x512, .f32⟩
  | .hbm, ⟨10, _⟩ => ⟨S1x1x512, .f32⟩
  | .hbm, ⟨11, _⟩ => ⟨S512, .f32⟩
  | .hbm, ⟨12, _⟩ => ⟨S16384x512, .f32⟩
  | .hbm, ⟨13, _⟩ => ⟨S1x512, .f32⟩
  | .hbm, ⟨14, _⟩ => ⟨S16384x512, .f32⟩
  | .hbm, ⟨15, _⟩ => ⟨S16384x512, .f32⟩
  | .hbm, ⟨16, _⟩ => ⟨S1x1x512, .f32⟩
  | .hbm, ⟨17, _⟩ => ⟨S512, .f32⟩
  | .hbm, ⟨18, _⟩ => ⟨S16384x512, .f32⟩
  | .hbm, ⟨19, _⟩ => ⟨S1x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S1x1x512, .f32⟩
  | .hbm, ⟨24, _⟩ => ⟨S512, .f32⟩
  | .hbm, ⟨25, _⟩ => ⟨S16384x512, .f32⟩
  | .hbm, ⟨26, _⟩ => ⟨S1x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== Kernel20.lean ====
abbrev S8x1024x704 : Shape := ⟨3, ![8, 1024, 704]⟩
abbrev S4x1024x704 : Shape := ⟨3, ![4, 1024, 704]⟩
abbrev S8x4096x704 : Shape := ⟨3, ![8, 4096, 704]⟩
abbrev S4096x704 : Shape := ⟨2, ![4096, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 15
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S8x4096x704, .bf16⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S4096x704, .f32⟩
  | .hbm, ⟨12, _⟩ => ⟨S4096x704, .f32⟩
  | .hbm, ⟨13, _⟩ => ⟨S4096x704, .f32⟩
  | .hbm, ⟨14, _⟩ => ⟨S4096x704, .f32⟩
  | .local _ .vmem, ⟨0, _⟩ => ⟨S8x128x704, .bf16⟩
  | .local _ .vmem, ⟨1, _⟩ => ⟨S8x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x1024x704 : Shape := ⟨3, ![8, 1024, 704]⟩
abbrev S4x1024x704 : Shape := ⟨3, ![4, 1024, 704]⟩
abbrev S_ : Shape := ⟨0, ![]⟩
abbrev S1024x704 : Shape := ⟨2, ![1024, 704]⟩
abbrev S4096x704 : Shape := ⟨2, ![4096, 704]⟩

abbrev nBuf : Space → Nat
  | .hbm => 56
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S8x1024x704, .f32⟩
  | .hbm, ⟨8, _⟩ => ⟨S_, .f32⟩
  | .hbm, ⟨9, _⟩ => ⟨S1024x704, .f32⟩
  | .hbm, ⟨10, _⟩ => ⟨S8x1024x704, .f32⟩
  | .hbm, ⟨11, _⟩ => ⟨S_, .f32⟩
  | .hbm, ⟨12, _⟩ => ⟨S1024x704, .f32⟩
  | .hbm, ⟨13, _⟩ => ⟨S8x1024x704, .f32⟩
  | .hbm, ⟨14, _⟩ => ⟨S_, .f32⟩
  | .hbm, ⟨15, _⟩ => ⟨S1024x704, .f32⟩
  | .hbm, ⟨16, _⟩ => ⟨S8x1024x704, .f32⟩
  | .hbm, ⟨17, _⟩ => ⟨S_, .f32⟩
  | .hbm, ⟨18, _⟩ => ⟨S1024x704, .f32⟩
  | .hbm, ⟨19, _⟩ => ⟨S4096x704, .f32⟩
  | .hbm, ⟨20, _⟩ => ⟨S4096x704, .f32⟩
  | .hbm, ⟨21, _⟩ => ⟨S4096x704, .f32⟩
  | .hbm, ⟨22, _⟩ => ⟨S4096x704, .f32⟩
  | .hbm, ⟨23, _⟩ => ⟨S_, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | .hbm, ⟨37, _⟩ => ⟨S4096x704, .f32⟩
  | .hbm, ⟨38, _⟩ => ⟨S_, .f32⟩
  | .hbm, ⟨39, _⟩ => ⟨S4096x704, .f32⟩
  | .hbm, ⟨40, _⟩ => ⟨S4096x704, .f32⟩
  | .hbm, ⟨41, _⟩ => ⟨S_, .f32⟩
  | .hbm, ⟨42, _⟩ => ⟨S4096x704, .f32⟩
  | .hbm, ⟨43, _⟩ => ⟨S4096x704, .f32⟩
  | .hbm, ⟨44, _⟩ => ⟨S4096x704, .f32⟩
  | .hbm, ⟨45, _⟩ => ⟨S_, .f32⟩
  | .hbm, ⟨46, _⟩ => ⟨S4096x704, .f32⟩
  | .hbm, ⟨47, _⟩ => ⟨S4096x704, .f32⟩
  | .hbm, ⟨48, _⟩ => ⟨S4096x704, .f32⟩
  | .hbm, ⟨49, _⟩ => ⟨S_, .f32⟩
  | .hbm, ⟨50, _⟩ => ⟨S4096x704, .f32⟩
  | .hbm, ⟨51, _⟩ => ⟨S4096x704, .f32⟩
  | .hbm, ⟨52, _⟩ => ⟨S4096x704, .f32⟩
  | .hbm, ⟨53, _⟩ => ⟨S_, .f32⟩
  | .hbm, ⟨54, _⟩ => ⟨S4096x704, .f32⟩
  | .hbm, ⟨55, _⟩ => ⟨S4096x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_11 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel21.lean ====
abbrev S8x1024x256 : Shape := ⟨3, ![8, 1024, 256]⟩
abbrev S2x1024x256 : Shape := ⟨3, ![2, 1024, 256]⟩
abbrev S8x2048x256 : Shape := ⟨3, ![8, 2048, 256]⟩
abbrev S2048x256 : Shape := ⟨2, ![2048, 256]⟩
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 13
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S8x2048x256, .bf16⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S2048x256, .f32⟩
  | .local _ .vmem, ⟨0, _⟩ => ⟨S8x512x256, .bf16⟩
  | .local _ .vmem, ⟨1, _⟩ => ⟨S8x512x256, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8x1024x256 : Shape := ⟨3, ![8, 1024, 256]⟩
abbrev S2x1024x256 : Shape := ⟨3, ![2, 1024, 256]⟩
abbrev S_ : Shape := ⟨0, ![]⟩
abbrev S1024x256 : Shape := ⟨2, ![1024, 256]⟩
abbrev S2048x256 : Shape := ⟨2, ![2048, 256]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S8x1024x256, .f32⟩
  | .hbm, ⟨6, _⟩ => ⟨S_, .f32⟩
  | .hbm, ⟨7, _⟩ => ⟨S1024x256, .f32⟩
  | .hbm, ⟨8, _⟩ => ⟨S8x1024x256, .f32⟩
  | .hbm, ⟨9, _⟩ => ⟨S_, .f32⟩
  | .hbm, ⟨10, _⟩ => ⟨S1024x256, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S2048x256, .f32⟩
  | .hbm, ⟨15, _⟩ => ⟨S_, .f32⟩
  | .hbm, ⟨16, _⟩ => ⟨S2048x256, .f32⟩
  | .hbm, ⟨17, _⟩ => ⟨S2048x256, .f32⟩
  | .hbm, ⟨18, _⟩ => ⟨S_, .f32⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S_, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S_, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S_, .f32⟩
  | .hbm, ⟨31, _⟩ => ⟨S2048x256, .f32⟩
  | .hbm, ⟨32, _⟩ => ⟨S2048x256, .f32⟩
  | .hbm, ⟨33, _⟩ => ⟨S_, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S_, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S_, .f32⟩
  | .hbm, ⟨42, _⟩ => ⟨S2048x256, .f32⟩
  | .hbm, ⟨43, _⟩ => ⟨S2048x256, .f32⟩
  | .hbm, ⟨44, _⟩ => ⟨S2048x256, .f32⟩
  | .hbm, ⟨45, _⟩ => ⟨S_, .f32⟩
  | .hbm, ⟨46, _⟩ => ⟨S2048x256, .f32⟩
  | .hbm, ⟨47, _⟩ => ⟨S2048x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel22.lean ====
abbrev S8x128x1024 : Shape := ⟨3, ![8, 128, 1024]⟩
abbrev S2x128x1024 : Shape := ⟨3, ![2, 128, 1024]⟩
abbrev S8x256x1024 : Shape := ⟨3, ![8, 256, 1024]⟩
abbrev S256x1024 : Shape := ⟨2, ![256, 1024]⟩
abbrev S128x1024 : Shape := ⟨2, ![128, 1024]⟩
abbrev S1x128x1024 : Shape := ⟨3, ![1, 128, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x256x1024, .bf16⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S256x1024 : Shape := ⟨2, ![256, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel23.lean ====
abbrev S8x480x1024 : Shape := ⟨3, ![8, 480, 1024]⟩
abbrev S4x352x1024 : Shape := ⟨3, ![4, 352, 1024]⟩
abbrev S8x352x1024 : Shape := ⟨3, ![8, 352, 1024]⟩
abbrev S8x1408x1024 : Shape := ⟨3, ![8, 1408, 1024]⟩
abbrev S1408x1024 : Shape := ⟨2, ![1408, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 19
  | .vmem => 16
  | .smem => 0
  | _ => 0

abbrev bufTy : (tb : Table) → Fin (tcTables nBuf tb) → BufTy
  | .hbm, ⟨0, _⟩ => ⟨S8x480x1024, .bf16⟩
  | .hbm, ⟨1, _⟩ => ⟨S8x480x1024, .bf16⟩
  | .hbm, ⟨2, _⟩ => ⟨S8x480x1024, .bf16⟩
  | .hbm, ⟨3, _⟩ => ⟨S8x480x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S8x352x1024, .bf16⟩
  | .hbm, ⟨8, _⟩ => ⟨S8x352x1024, .bf16⟩
  | .hbm, ⟨9, _⟩ => ⟨S8x352x1024, .bf16⟩
  | .hbm, ⟨10, _⟩ => ⟨S8x352x1024, .bf16⟩
  | .hbm, ⟨11, _⟩ => ⟨S8x1408x1024, .bf16⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S1408x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8x480x1024 : Shape := ⟨3, ![8, 480, 1024]⟩
abbrev S4x352x1024 : Shape := ⟨3, ![4, 352, 1024]⟩
abbrev S8x352x1024 : Shape := ⟨3, ![8, 352, 1024]⟩
abbrev S_ : Shape := ⟨0, ![]⟩
abbrev S352x1024 : Shape := ⟨2, ![352, 1024]⟩
abbrev S1408x1024 : Shape := ⟨2, ![1408, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x480x1024, .bf16⟩
  | .hbm, ⟨1, _⟩ => ⟨S8x480x1024, .bf16⟩
  | .hbm, ⟨2, _⟩ => ⟨S8x480x1024, .bf16⟩
  | .hbm, ⟨3, _⟩ => ⟨S8x480x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S8x352x1024, .bf16⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S8x352x1024, .bf16⟩
  | .hbm, ⟨12, _⟩ => ⟨S8x352x1024, .f32⟩
  | .hbm, ⟨13, _⟩ => ⟨S_, .f32⟩
  | .hbm, ⟨14, _⟩ => ⟨S352x1024, .f32⟩
  | .hbm, ⟨15, _⟩ => ⟨S8x352x1024, .bf16⟩
  | .hbm, ⟨16, _⟩ => ⟨S8x352x1024, .f32⟩
  | .hbm, ⟨17, _⟩ => ⟨S_, .f32⟩
  | .hbm, ⟨18, _⟩ => ⟨S352x1024, .f32⟩
  | .hbm, ⟨19, _⟩ => ⟨S8x352x1024, .bf16⟩
  | .hbm, ⟨20, _⟩ => ⟨S8x352x1024, .f32⟩
  | .hbm, ⟨21, _⟩ => ⟨S_, .f32⟩
  | .hbm, ⟨22, _⟩ => ⟨S352x1024, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S1408x1024, .f32⟩
  | .hbm, ⟨27, _⟩ => ⟨S_, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | .hbm, ⟨37, _⟩ => ⟨S1408x1024, .f32⟩
  | .hbm, ⟨38, _⟩ => ⟨S_, .f32⟩
  | .hbm, ⟨39, _⟩ => ⟨S1408x1024, .f32⟩
  | .hbm, ⟨40, _⟩ => ⟨S1408x1024, .f32⟩
  | .hbm, ⟨41, _⟩ => ⟨S1408x1024, .f32⟩
  | .hbm, ⟨42, _⟩ => ⟨S_, .f32⟩
  | .hbm, ⟨43, _⟩ => ⟨S1408x1024, .f32⟩
  | .hbm, ⟨44, _⟩ => ⟨S1408x1024, .f32⟩
  | .hbm, ⟨45, _⟩ => ⟨S_, .f32⟩
  | .hbm, ⟨46, _⟩ => ⟨S1408x1024, .f32⟩
  | .hbm, ⟨47, _⟩ => ⟨S1408x1024, .f32⟩
  | .hbm, ⟨48, _⟩ => ⟨S1408x1024, .f32⟩
  | .hbm, ⟨49, _⟩ => ⟨S_, .f32⟩
  | .hbm, ⟨50, _⟩ => ⟨S1408x1024, .f32⟩
  | .hbm, ⟨51, _⟩ => ⟨S1408x1024, .f32⟩
  | .hbm, ⟨52, _⟩ => ⟨S1408x1024, .f32⟩
  | .hbm, ⟨53, _⟩ => ⟨S_, .f32⟩
  | .hbm, ⟨54, _⟩ => ⟨S1408x1024, .f32⟩
  | .hbm, ⟨55, _⟩ => ⟨S1408x1024, .f32⟩
  | .hbm, ⟨56, _⟩ => ⟨S1408x1024, .f32⟩
  | .hbm, ⟨57, _⟩ => ⟨S_, .f32⟩
  | .hbm, ⟨58, _⟩ => ⟨S1408x1024, .f32⟩
  | .hbm, ⟨59, _⟩ => ⟨S1408x1024, .f32⟩
  | _, _ => ⟨S8x480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel24.lean ====
abbrev S8x480x1024 : Shape := ⟨3, ![8, 480, 1024]⟩
abbrev S4x128x1024 : Shape := ⟨3, ![4, 128, 1024]⟩
abbrev S8x128x1024 : Shape := ⟨3, ![8, 128, 1024]⟩
abbrev S8x512x1024 : Shape := ⟨3, ![8, 512, 1024]⟩
abbrev S512x1024 : Shape := ⟨2, ![512, 1024]⟩
abbrev S128x1024 : Shape := ⟨2, ![128, 1024]⟩
abbrev S1x128x1024 : Shape := ⟨3, ![1, 128, 1024]⟩

abbrev nBuf : Space → Nat
  | .hbm => 19
  | .vmem => 16
  | .smem => 0
  | _ => 0

abbrev bufTy : (tb : Table) → Fin (tcTables nBuf tb) → BufTy
  | .hbm, ⟨0, _⟩ => ⟨S8x480x1024, .bf16⟩
  | .hbm, ⟨1, _⟩ => ⟨S8x480x1024, .bf16⟩
  | .hbm, ⟨2, _⟩ => ⟨S8x480x1024, .bf16⟩
  | .hbm, ⟨3, _⟩ => ⟨S8x480x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S8x128x1024, .bf16⟩
  | .hbm, ⟨8, _⟩ => ⟨S8x128x1024, .bf16⟩
  | .hbm, ⟨9, _⟩ => ⟨S8x128x1024, .bf16⟩
  | .hbm, ⟨10, _⟩ => ⟨S8x128x1024, .bf16⟩
  | .hbm, ⟨11, _⟩ => ⟨S8x512x1024, .bf16⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S8x480x1024 : Shape := ⟨3, ![8, 480, 1024]⟩
abbrev S4x128x1024 : Shape := ⟨3, ![4, 128, 1024]⟩
abbrev S8x128x1024 : Shape := ⟨3, ![8, 128, 1024]⟩
abbrev S_ : Shape := ⟨0, ![]⟩
abbrev S128x1024 : Shape := ⟨2, ![128, 1024]⟩
abbrev S512x1024 : Shape := ⟨2, ![512, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x480x1024, .bf16⟩
  | .hbm, ⟨1, _⟩ => ⟨S8x480x1024, .bf16⟩
  | .hbm, ⟨2, _⟩ => ⟨S8x480x1024, .bf16⟩
  | .hbm, ⟨3, _⟩ => ⟨S8x480x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S8x128x1024, .bf16⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S8x128x1024, .bf16⟩
  | .hbm, ⟨12, _⟩ => ⟨S8x128x1024, .f32⟩
  | .hbm, ⟨13, _⟩ => ⟨S_, .f32⟩
  | .hbm, ⟨14, _⟩ => ⟨S128x1024, .f32⟩
  | .hbm, ⟨15, _⟩ => ⟨S8x128x1024, .bf16⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S8x128x1024, .bf16⟩
  | .hbm, ⟨20, _⟩ => ⟨S8x128x1024, .f32⟩
  | .hbm, ⟨21, _⟩ => ⟨S_, .f32⟩
  | .hbm, ⟨22, _⟩ => ⟨S128x1024, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | .hbm, ⟨45, _⟩ => ⟨S_, .f32⟩
  | .hbm, ⟨46, _⟩ => ⟨S512x1024, .f32⟩
  | .hbm, ⟨47, _⟩ => ⟨S512x1024, .f32⟩
  | .hbm, ⟨48, _⟩ => ⟨S512x1024, .f32⟩
  | .hbm, ⟨49, _⟩ => ⟨S_, .f32⟩
  | .hbm, ⟨50, _⟩ => ⟨S512x1024, .f32⟩
  | .hbm, ⟨51, _⟩ => ⟨S512x1024, .f32⟩
  | .hbm, ⟨52, _⟩ => ⟨S512x1024, .f32⟩
  | .hbm, ⟨53, _⟩ => ⟨S_, .f32⟩
  | .hbm, ⟨54, _⟩ => ⟨S512x1024, .f32⟩
  | .hbm, ⟨55, _⟩ => ⟨S512x1024, .f32⟩
  | .hbm, ⟨56, _⟩ => ⟨S512x1024, .f32⟩
  | .hbm, ⟨57, _⟩ => ⟨S_, .f32⟩
  | .hbm, ⟨58, _⟩ => ⟨S512x1024, .f32⟩
  | .hbm, ⟨59, _⟩ => ⟨S512x1024, .f32⟩
  | _, _ => ⟨S8x480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel25.lean ====
abbrev S8x256x1024 : Shape := ⟨3, ![8, 256, 1024]⟩
abbrev S2x64x512 : Shape := ⟨3, ![2, 64, 512]⟩
abbrev S2x3x64 : Shape := ⟨3, ![2, 3, 64]⟩
abbrev S2x64 : Shape := ⟨2, ![2, 64]⟩
abbrev S4x256x128 : Shape := ⟨3, ![4, 256, 128]⟩
abbrev S65536 : Shape := ⟨1, ![65536]⟩
abbrev S_ : Shape := ⟨0, ![]⟩
abbrev S64x1024 : Shape := ⟨2, ![64, 1024]⟩
abbrev S384 : Shape := ⟨1, ![384]⟩
abbrev S16384 : Shape := ⟨1, ![16384]⟩
abbrev S16x1024 : Shape := ⟨2, ![16, 1024]⟩
abbrev S128 : Shape := ⟨1, ![128]⟩
abbrev S131072 : Shape := ⟨1, ![131072]⟩
abbrev S128x1024 : Shape := ⟨2, ![128, 1024]⟩
abbrev S32x1024 : Shape := ⟨2, ![32, 1024]⟩
abbrev S256x1024 : Shape := ⟨2, ![256, 1024]⟩
abbrev S8x128x1024 : Shape := ⟨3, ![8, 128, 1024]⟩
abbrev S1x128x1024 : Shape := ⟨3, ![1, 128, 1024]⟩

abbrev nBuf : Space → Nat
  | .hbm => 86
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S2x64x512, .f32⟩
  | .hbm, ⟨2, _⟩ => ⟨S2x3x64, .f32⟩
  | .hbm, ⟨3, _⟩ => ⟨S2x64, .f32⟩
  | .hbm, ⟨4, _⟩ => ⟨S4x256x128, .f32⟩
  | .hbm, ⟨5, _⟩ => ⟨S2x64x512, .f32⟩
  | .hbm, ⟨6, _⟩ => ⟨S2x3x64, .f32⟩
  | .hbm, ⟨7, _⟩ => ⟨S2x64, .f32⟩
  | .hbm, ⟨8, _⟩ => ⟨S4x256x128, .f32⟩
  | .hbm, ⟨9, _⟩ => ⟨S2x64x512, .f32⟩
  | .hbm, ⟨10, _⟩ => ⟨S2x3x64, .f32⟩
  | .hbm, ⟨11, _⟩ => ⟨S2x64, .f32⟩
  | .hbm, ⟨12, _⟩ => ⟨S4x256x128, .f32⟩
  | .hbm, ⟨13, _⟩ => ⟨S65536, .f32⟩
  | .hbm, ⟨14, _⟩ => ⟨S_, .i32⟩
  | .hbm, ⟨15, _⟩ => ⟨S_, .f32⟩
  | .hbm, ⟨16, _⟩ => ⟨S65536, .f32⟩
  | .hbm, ⟨17, _⟩ => ⟨S64x1024, .f32⟩
  | .hbm, ⟨18, _⟩ => ⟨S384, .f32⟩
  | .hbm, ⟨19, _⟩ => ⟨S_, .i32⟩
  | .hbm, ⟨20, _⟩ => ⟨S_, .f32⟩
  | .hbm, ⟨21, _⟩ => ⟨S16384, .f32⟩
  | .hbm, ⟨22, _⟩ => ⟨S16x1024, .f32⟩
  | .hbm, ⟨23, _⟩ => ⟨S128, .f32⟩
  | .hbm, ⟨24, _⟩ => ⟨S_, .i32⟩
  | .hbm, ⟨25, _⟩ => ⟨S_, .f32⟩
  | .hbm, ⟨26, _⟩ => ⟨S16384, .f32⟩
  | .hbm, ⟨27, _⟩ => ⟨S16x1024, .f32⟩
  | .hbm, ⟨28, _⟩ => ⟨S131072, .f32⟩
  | .hbm, ⟨29, _⟩ => ⟨S_, .i32⟩
  | .hbm, ⟨30, _⟩ => ⟨S_, .f32⟩
  | .hbm, ⟨31, _⟩ => ⟨S131072, .f32⟩
  | .hbm, ⟨32, _⟩ => ⟨S128x1024, .f32⟩
  | .hbm, ⟨33, _⟩ => ⟨S_, .f32⟩
  | .hbm, ⟨34, _⟩ => ⟨S32x1024, .f32⟩
  | .hbm, ⟨35, _⟩ => ⟨S256x1024, .f32⟩
  | .hbm, ⟨36, _⟩ => ⟨S65536, .f32⟩
  | .hbm, ⟨37, _⟩ => ⟨S_, .i32⟩
  | .hbm, ⟨38, _⟩ => ⟨S_, .f32⟩
  | .hbm, ⟨39, _⟩ => ⟨S65536, .f32⟩
  | .hbm, ⟨40, _⟩ => ⟨S64x1024, .f32⟩
  | .hbm, ⟨41, _⟩ => ⟨S384, .f32⟩
  | .hbm, ⟨42, _⟩ => ⟨S_, .i32⟩
  | .hbm, ⟨43, _⟩ => ⟨S_, .f32⟩
  | .hbm, ⟨44, _⟩ => ⟨S16384, .f32⟩
  | .hbm, ⟨45, _⟩ => ⟨S16x1024, .f32⟩
  | .hbm, ⟨46, _⟩ => ⟨S128, .f32⟩
  | .hbm, ⟨47, _⟩ => ⟨S_, .i32⟩
  | .hbm, ⟨48, _⟩ => ⟨S_, .f32⟩
  | .hbm, ⟨49, _⟩ => ⟨S16384, .f32⟩
  | .hbm, ⟨50, _⟩ => ⟨S16x1024, .f32⟩
  | .hbm, ⟨51, _⟩ => ⟨S131072, .f32⟩
  | .hbm, ⟨52, _⟩ => ⟨S_, .i32⟩
  | .hbm, ⟨53, _⟩ => ⟨S_, .f32⟩
  | .hbm, ⟨54, _⟩ => ⟨S131072, .f32⟩
  | .hbm, ⟨55, _⟩ => ⟨S128x1024, .f32⟩
  | .hbm, ⟨56, _⟩ => ⟨S_, .f32⟩
  | .hbm, ⟨57, _⟩ => ⟨S32x1024, .f32⟩
  | .hbm, ⟨58, _⟩ => ⟨S256x1024, .f32⟩
  | .hbm, ⟨59, _⟩ => ⟨S65536, .f32⟩
  | .hbm, ⟨60, _⟩ => ⟨S_, .i32⟩
  | .hbm, ⟨61, _⟩ => ⟨S_, .f32⟩
  | .hbm, ⟨62, _⟩ => ⟨S65536, .f32⟩
  | .hbm, ⟨63, _⟩ => ⟨S64x1024, .f32⟩
  | .hbm, ⟨64, _⟩ => ⟨S384, .f32⟩
  | .hbm, ⟨65, _⟩ => ⟨S_, .i32⟩
  | .hbm, ⟨66, _⟩ => ⟨S_, .f32⟩
  | .hbm, ⟨67, _⟩ => ⟨S16384, .f32⟩
  | .hbm, ⟨68, _⟩ => ⟨S16x1024, .f32⟩
  | .hbm, ⟨69, _⟩ => ⟨S128, .f32⟩
  | .hbm, ⟨70, _⟩ => ⟨S_, .i32⟩
  | .hbm, ⟨71, _⟩ => ⟨S_, .f32⟩
  | .hbm, ⟨72, _⟩ => ⟨S16384, .f32⟩
  | .hbm, ⟨73, _⟩ => ⟨S16x1024, .f32⟩
  | .hbm, ⟨74, _⟩ => ⟨S131072, .f32⟩
  | .hbm, ⟨75, _⟩ => ⟨S_, .i32⟩
  | .hbm, ⟨76, _⟩ => ⟨S_, .f32⟩
  | .hbm, ⟨77, _⟩ => ⟨S131072, .f32⟩
  | .hbm, ⟨78, _⟩ => ⟨S128x1024, .f32⟩
  | .hbm, ⟨79, _⟩ => ⟨S_, .f32⟩
  | .hbm, ⟨80, _⟩ => ⟨S32x1024, .f32⟩
  | .hbm, ⟨81, _⟩ => ⟨S256x1024, .f32⟩
  | .hbm, ⟨82, _⟩ => ⟨S256x1024, .f32⟩
  | .hbm, ⟨83, _⟩ => ⟨S256x1024, .f32⟩
  | .hbm, ⟨84, _⟩ => ⟨S256x1024, .f32⟩
  | .hbm, ⟨85, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_call1_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_call2_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_call3_v0 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_call4_v0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_4 : Ref sig .tc := ⟨.hbm, 42, rfl⟩
abbrev main_call5_v0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_call6_v0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_call7_v0 : Ref sig .tc := ⟨.hbm, 53, rfl⟩
abbrev main_v24 : Ref sig .tc := ⟨.hbm, 54, rfl⟩
abbrev main_v25 : Ref sig .tc := ⟨.hbm, 55, rfl⟩
abbrev main_cst_7 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_8 : Ref sig .tc := ⟨.hbm, 60, rfl⟩
abbrev main_call8_v0 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_9 : Ref sig .tc := ⟨.hbm, 65, rfl⟩
abbrev main_call9_v0 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_10 : Ref sig .tc := ⟨.hbm, 70, rfl⟩
abbrev main_call10_v0 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_11 : Ref sig .tc := ⟨.hbm, 75, rfl⟩
abbrev main_call11_v0 : Ref sig .tc := ⟨.hbm, 76, rfl⟩
abbrev main_v38 : Ref sig .tc := ⟨.hbm, 77, rfl⟩
abbrev main_v39 : Ref sig .tc := ⟨.hbm, 78, rfl⟩
abbrev main_cst_12 : Ref sig .tc := ⟨.hbm, 79, rfl⟩
abbrev main_v40 : Ref sig .tc := ⟨.hbm, 80, rfl⟩
abbrev main_v41 : Ref sig .tc := ⟨.hbm, 81, rfl⟩
abbrev main_v42_0 : Ref sig .tc := ⟨.hbm, 82, rfl⟩
abbrev main_v42_1 : Ref sig .tc := ⟨.hbm, 83, rfl⟩
abbrev main_v42_2 : Ref sig .tc := ⟨.hbm, 84, rfl⟩
abbrev main_v42_3 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S8x256x1024 : Shape := ⟨3, ![8, 256, 1024]⟩
abbrev S2x64x512 : Shape := ⟨3, ![2, 64, 512]⟩
abbrev S2x3x64 : Shape := ⟨3, ![2, 3, 64]⟩
abbrev S2x64 : Shape := ⟨2, ![2, 64]⟩
abbrev S4x256x128 : Shape := ⟨3, ![4, 256, 128]⟩
abbrev S_ : Shape := ⟨0, ![]⟩
abbrev S256x1024 : Shape := ⟨2, ![256, 1024]⟩
abbrev S65536 : Shape := ⟨1, ![65536]⟩
abbrev S64x1024 : Shape := ⟨2, ![64, 1024]⟩
abbrev S384 : Shape := ⟨1, ![384]⟩
abbrev S16384 : Shape := ⟨1, ![16384]⟩
abbrev S16x1024 : Shape := ⟨2, ![16, 1024]⟩
abbrev S128 : Shape := ⟨1, ![128]⟩
abbrev S131072 : Shape := ⟨1, ![131072]⟩
abbrev S128x1024 : Shape := ⟨2, ![128, 1024]⟩
abbrev S32x1024 : Shape := ⟨2, ![32, 1024]⟩

abbrev nBuf : Space → Nat
  | .hbm => 118
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S2x64x512, .f32⟩
  | .hbm, ⟨2, _⟩ => ⟨S2x3x64, .f32⟩
  | .hbm, ⟨3, _⟩ => ⟨S2x64, .f32⟩
  | .hbm, ⟨4, _⟩ => ⟨S4x256x128, .f32⟩
  | .hbm, ⟨5, _⟩ => ⟨S2x64x512, .f32⟩
  | .hbm, ⟨6, _⟩ => ⟨S2x3x64, .f32⟩
  | .hbm, ⟨7, _⟩ => ⟨S2x64, .f32⟩
  | .hbm, ⟨8, _⟩ => ⟨S4x256x128, .f32⟩
  | .hbm, ⟨9, _⟩ => ⟨S2x64x512, .f32⟩
  | .hbm, ⟨10, _⟩ => ⟨S2x3x64, .f32⟩
  | .hbm, ⟨11, _⟩ => ⟨S2x64, .f32⟩
  | .hbm, ⟨12, _⟩ => ⟨S4x256x128, .f32⟩
  | .hbm, ⟨13, _⟩ => ⟨S8x256x1024, .f32⟩
  | .hbm, ⟨14, _⟩ => ⟨S_, .f32⟩
  | .hbm, ⟨15, _⟩ => ⟨S256x1024, .f32⟩
  | .hbm, ⟨16, _⟩ => ⟨S65536, .f32⟩
  | .hbm, ⟨17, _⟩ => ⟨S_, .i32⟩
  | .hbm, ⟨18, _⟩ => ⟨S_, .f32⟩
  | .hbm, ⟨19, _⟩ => ⟨S65536, .f32⟩
  | .hbm, ⟨20, _⟩ => ⟨S64x1024, .f32⟩
  | .hbm, ⟨21, _⟩ => ⟨S384, .f32⟩
  | .hbm, ⟨22, _⟩ => ⟨S_, .i32⟩
  | .hbm, ⟨23, _⟩ => ⟨S_, .f32⟩
  | .hbm, ⟨24, _⟩ => ⟨S16384, .f32⟩
  | .hbm, ⟨25, _⟩ => ⟨S16x1024, .f32⟩
  | .hbm, ⟨26, _⟩ => ⟨S128, .f32⟩
  | .hbm, ⟨27, _⟩ => ⟨S_, .i32⟩
  | .hbm, ⟨28, _⟩ => ⟨S_, .f32⟩
  | .hbm, ⟨29, _⟩ => ⟨S16384, .f32⟩
  | .hbm, ⟨30, _⟩ => ⟨S16x1024, .f32⟩
  | .hbm, ⟨31, _⟩ => ⟨S131072, .f32⟩
  | .hbm, ⟨32, _⟩ => ⟨S_, .i32⟩
  | .hbm, ⟨33, _⟩ => ⟨S_, .f32⟩
  | .hbm, ⟨34, _⟩ => ⟨S131072, .f32⟩
  | .hbm, ⟨35, _⟩ => ⟨S128x1024, .f32⟩
  | .hbm, ⟨36, _⟩ => ⟨S_, .f32⟩
  | .hbm, ⟨37, _⟩ => ⟨S32x1024, .f32⟩
  | .hbm, ⟨38, _⟩ => ⟨S256x1024, .f32⟩
  | .hbm, ⟨39, _⟩ => ⟨S65536, .f32⟩
  | .hbm, ⟨40, _⟩ => ⟨S_, .i32⟩
  | .hbm, ⟨41, _⟩ => ⟨S_, .f32⟩
  | .hbm, ⟨42, _⟩ => ⟨S65536, .f32⟩
  | .hbm, ⟨43, _⟩ => ⟨S64x1024, .f32⟩
  | .hbm, ⟨44, _⟩ => ⟨S384, .f32⟩
  | .hbm, ⟨45, _⟩ => ⟨S_, .i32⟩
  | .hbm, ⟨46, _⟩ => ⟨S_, .f32⟩
  | .hbm, ⟨47, _⟩ => ⟨S16384, .f32⟩
  | .hbm, ⟨48, _⟩ => ⟨S16x1024, .f32⟩
  | .hbm, ⟨49, _⟩ => ⟨S128, .f32⟩
  | .hbm, ⟨50, _⟩ => ⟨S_, .i32⟩
  | .hbm, ⟨51, _⟩ => ⟨S_, .f32⟩
  | .hbm, ⟨52, _⟩ => ⟨S16384, .f32⟩
  | .hbm, ⟨53, _⟩ => ⟨S16x1024, .f32⟩
  | .hbm, ⟨54, _⟩ => ⟨S131072, .f32⟩
  | .hbm, ⟨55, _⟩ => ⟨S_, .i32⟩
  | .hbm, ⟨56, _⟩ => ⟨S_, .f32⟩
  | .hbm, ⟨57, _⟩ => ⟨S131072, .f32⟩
  | .hbm, ⟨58, _⟩ => ⟨S128x1024, .f32⟩
  | .hbm, ⟨59, _⟩ => ⟨S_, .f32⟩
  | .hbm, ⟨60, _⟩ => ⟨S32x1024, .f32⟩
  | .hbm, ⟨61, _⟩ => ⟨S256x1024, .f32⟩
  | .hbm, ⟨62, _⟩ => ⟨S65536, .f32⟩
  | .hbm, ⟨63, _⟩ => ⟨S_, .i32⟩
  | .hbm, ⟨64, _⟩ => ⟨S_, .f32⟩
  | .hbm, ⟨65, _⟩ => ⟨S65536, .f32⟩
  | .hbm, ⟨66, _⟩ => ⟨S64x1024, .f32⟩
  | .hbm, ⟨67, _⟩ => ⟨S384, .f32⟩
  | .hbm, ⟨68, _⟩ => ⟨S_, .i32⟩
  | .hbm, ⟨69, _⟩ => ⟨S_, .f32⟩
  | .hbm, ⟨70, _⟩ => ⟨S16384, .f32⟩
  | .hbm, ⟨71, _⟩ => ⟨S16x1024, .f32⟩
  | .hbm, ⟨72, _⟩ => ⟨S128, .f32⟩
  | .hbm, ⟨73, _⟩ => ⟨S_, .i32⟩
  | .hbm, ⟨74, _⟩ => ⟨S_, .f32⟩
  | .hbm, ⟨75, _⟩ => ⟨S16384, .f32⟩
  | .hbm, ⟨76, _⟩ => ⟨S16x1024, .f32⟩
  | .hbm, ⟨77, _⟩ => ⟨S131072, .f32⟩
  | .hbm, ⟨78, _⟩ => ⟨S_, .i32⟩
  | .hbm, ⟨79, _⟩ => ⟨S_, .f32⟩
  | .hbm, ⟨80, _⟩ => ⟨S131072, .f32⟩
  | .hbm, ⟨81, _⟩ => ⟨S128x1024, .f32⟩
  | .hbm, ⟨82, _⟩ => ⟨S_, .f32⟩
  | .hbm, ⟨83, _⟩ => ⟨S32x1024, .f32⟩
  | .hbm, ⟨84, _⟩ => ⟨S256x1024, .f32⟩
  | .hbm, ⟨85, _⟩ => ⟨S_, .f32⟩
  | .hbm, ⟨86, _⟩ => ⟨S256x1024, .f32⟩
  | .hbm, ⟨87, _⟩ => ⟨S256x1024, .f32⟩
  | .hbm, ⟨88, _⟩ => ⟨S_, .f32⟩
  | .hbm, ⟨89, _⟩ => ⟨S256x1024, .f32⟩
  | .hbm, ⟨90, _⟩ => ⟨S256x1024, .f32⟩
  | .hbm, ⟨91, _⟩ => ⟨S256x1024, .f32⟩
  | .hbm, ⟨92, _⟩ => ⟨S_, .f32⟩
  | .hbm, ⟨93, _⟩ => ⟨S256x1024, .f32⟩
  | .hbm, ⟨94, _⟩ => ⟨S256x1024, .f32⟩
  | .hbm, ⟨95, _⟩ => ⟨S256x1024, .f32⟩
  | .hbm, ⟨96, _⟩ => ⟨S_, .f32⟩
  | .hbm, ⟨97, _⟩ => ⟨S256x1024, .f32⟩
  | .hbm, ⟨98, _⟩ => ⟨S256x1024, .f32⟩
  | .hbm, ⟨99, _⟩ => ⟨S256x1024, .f32⟩
  | .hbm, ⟨100, _⟩ => ⟨S_, .f32⟩
  | .hbm, ⟨101, _⟩ => ⟨S256x1024, .f32⟩
  | .hbm, ⟨102, _⟩ => ⟨S256x1024, .f32⟩
  | .hbm, ⟨103, _⟩ => ⟨S_, .f32⟩
  | .hbm, ⟨104, _⟩ => ⟨S256x1024, .f32⟩
  | .hbm, ⟨105, _⟩ => ⟨S256x1024, .f32⟩
  | .hbm, ⟨106, _⟩ => ⟨S256x1024, .f32⟩
  | .hbm, ⟨107, _⟩ => ⟨S_, .f32⟩
  | .hbm, ⟨108, _⟩ => ⟨S256x1024, .f32⟩
  | .hbm, ⟨109, _⟩ => ⟨S256x1024, .f32⟩
  | .hbm, ⟨110, _⟩ => ⟨S256x1024, .f32⟩
  | .hbm, ⟨111, _⟩ => ⟨S_, .f32⟩
  | .hbm, ⟨112, _⟩ => ⟨S256x1024, .f32⟩
  | .hbm, ⟨113, _⟩ => ⟨S256x1024, .f32⟩
  | .hbm, ⟨114, _⟩ => ⟨S256x1024, .f32⟩
  | .hbm, ⟨115, _⟩ => ⟨S_, .f32⟩
  | .hbm, ⟨116, _⟩ => ⟨S256x1024, .f32⟩
  | .hbm, ⟨117, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_call1_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_call2_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_call3_v0 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_call4_v0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_5 : Ref sig .tc := ⟨.hbm, 45, rfl⟩
abbrev main_call5_v0 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_6 : Ref sig .tc := ⟨.hbm, 50, rfl⟩
abbrev main_call6_v0 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_7 : Ref sig .tc := ⟨.hbm, 55, rfl⟩
abbrev main_call7_v0 : Ref sig .tc := ⟨.hbm, 56, rfl⟩
abbrev main_v26 : Ref sig .tc := ⟨.hbm, 57, rfl⟩
abbrev main_v27 : Ref sig .tc := ⟨.hbm, 58, rfl⟩
abbrev main_cst_8 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_9 : Ref sig .tc := ⟨.hbm, 63, rfl⟩
abbrev main_call8_v0 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_10 : Ref sig .tc := ⟨.hbm, 68, rfl⟩
abbrev main_call9_v0 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_11 : Ref sig .tc := ⟨.hbm, 73, rfl⟩
abbrev main_call10_v0 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_12 : Ref sig .tc := ⟨.hbm, 78, rfl⟩
abbrev main_call11_v0 : Ref sig .tc := ⟨.hbm, 79, rfl⟩
abbrev main_v40 : Ref sig .tc := ⟨.hbm, 80, rfl⟩
abbrev main_v41 : Ref sig .tc := ⟨.hbm, 81, rfl⟩
abbrev main_cst_13 : Ref sig .tc := ⟨.hbm, 82, rfl⟩
abbrev main_v42 : Ref sig .tc := ⟨.hbm, 83, rfl⟩
abbrev main_v43 : Ref sig .tc := ⟨.hbm, 84, rfl⟩
abbrev main_cst_14 : Ref sig .tc := ⟨.hbm, 85, rfl⟩
abbrev main_v44 : Ref sig .tc := ⟨.hbm, 86, rfl⟩
abbrev main_v45 : Ref sig .tc := ⟨.hbm, 87, rfl⟩
abbrev main_cst_15 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_16 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_17 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_18 : Ref sig .tc := ⟨.hbm, 100, rfl⟩
abbrev main_v55 : Ref sig .tc := ⟨.hbm, 101, rfl⟩
abbrev main_v56 : Ref sig .tc := ⟨.hbm, 102, rfl⟩
abbrev main_cst_19 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_20 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_21 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_22 : Ref sig .tc := ⟨.hbm, 115, rfl⟩
abbrev main_v66 : Ref sig .tc := ⟨.hbm, 116, rfl⟩
abbrev main_v67 : Ref sig .tc := ⟨.hbm, 117, rfl⟩

abbrev nD : Nat := 1
abbrev τ : Topo := Topo.v7x

variable {F : FTy → Type} [FloatOps F]
-- ==== Kernel26.lean ====
abbrev S8x768x1024 : Shape := ⟨3, ![8, 768, 1024]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S2x512 : Shape := ⟨2, ![2, 512]⟩
abbrev S2x8x257 : Shape := ⟨3, ![2, 8, 257]⟩
abbrev S2x4x128x128 : Shape := ⟨4, ![2, 4, 128, 128]⟩
abbrev S4x1024 : Shape := ⟨2, ![4, 1024]⟩
abbrev S_ : Shape := ⟨0, ![]⟩
abbrev S1x1 : Shape := ⟨2, ![1, 1]⟩
abbrev S4096 : Shape := ⟨1, ![4096]⟩
abbrev S16384 : Shape := ⟨1, ![16384]⟩
abbrev S16x1024 : Shape := ⟨2, ![16, 1024]⟩
abbrev S64 : Shape := ⟨1, ![64]⟩
abbrev S65536 : Shape := ⟨1, ![65536]⟩
abbrev S64x1024 : Shape := ⟨2, ![64, 1024]⟩
abbrev S1024 : Shape := ⟨1, ![1024]⟩
abbrev S4112 : Shape := ⟨1, ![4112]⟩
abbrev S131072 : Shape := ⟨1, ![131072]⟩
abbrev S128x1024 : Shape := ⟨2, ![128, 1024]⟩
abbrev S1 : Shape := ⟨1, ![1]⟩
abbrev S192x1024 : Shape := ⟨2, ![192, 1024]⟩
abbrev S560x1024 : Shape := ⟨2, ![560, 1024]⟩
abbrev S208x1024 : Shape := ⟨2, ![208, 1024]⟩
abbrev S768x1024 : Shape := ⟨2, ![768, 1024]⟩
abbrev S8x64x1024 : Shape := ⟨3, ![8, 64, 1024]⟩
abbrev S1x64x1024 : Shape := ⟨3, ![1, 64, 1024]⟩

abbrev nBuf : Space → Nat
  | .hbm => 325
  | .vmem => 16
  | .smem => 0
  | _ => 0

abbrev hbmTy0_0 (i : Nat) : BufTy := match i % 128 with
  | 0 => ⟨S8x768x1024, .f32⟩
  | 1 => ⟨S2x32x64, .f32⟩
  | 2 => ⟨S2x32x64, .f32⟩
  | 3 => ⟨S2x32, .f32⟩
  | 4 => ⟨S2x32x64x16, .f32⟩
  | 5 => ⟨S2x32x64x16, .f32⟩
  | 6 => ⟨S2x32x16x64, .f32⟩
  | 7 => ⟨S2x32x16x64, .f32⟩
  | 8 => ⟨S2x512, .f32⟩
  | 9 => ⟨S2x512, .f32⟩
  | 10 => ⟨S2x8x257, .f32⟩
  | 11 => ⟨S2x4x128x128, .f32⟩
  | 12 => ⟨S4x1024, .f32⟩
  | 13 => ⟨S4x1024, .f32⟩
  | 14 => ⟨S4x1024, .f32⟩
  | 15 => ⟨S4x1024, .f32⟩
  | 16 => ⟨S4x1024, .f32⟩
  | 17 => ⟨S2x32x64, .f32⟩
  | 18 => ⟨S2x32x64, .f32⟩
  | 19 => ⟨S2x32, .f32⟩
  | 20 => ⟨S2x32x64x16, .f32⟩
  | 21 => ⟨S2x32x64x16, .f32⟩
  | 22 => ⟨S2x32x16x64, .f32⟩
  | 23 => ⟨S2x32x16x64, .f32⟩
  | 24 => ⟨S2x512, .f32⟩
  | 25 => ⟨S2x512, .f32⟩
  | 26 => ⟨S2x8x257, .f32⟩
  | 27 => ⟨S2x4x128x128, .f32⟩
  | 28 => ⟨S4x1024, .f32⟩
  | 29 => ⟨S4x1024, .f32⟩
  | 30 => ⟨S4x1024, .f32⟩
  | 31 => ⟨S4x1024, .f32⟩
  | 32 => ⟨S4x1024, .f32⟩
  | 33 => ⟨S2x32x64, .f32⟩
  | 34 => ⟨S2x32x64, .f32⟩
  | 35 => ⟨S2x32, .f32⟩
  | 36 => ⟨S2x32x64x16, .f32⟩
  | 37 => ⟨S2x32x64x16, .f32⟩
  | 38 => ⟨S2x32x16x64, .f32⟩
  | 39 => ⟨S2x32x16x64, .f32⟩
  | 40 => ⟨S2x512, .f32⟩
  | 41 => ⟨S2x512, .f32⟩
  | 42 => ⟨S2x8x257, .f32⟩
  | 43 => ⟨S2x4x128x128, .f32⟩
  | 44 => ⟨S4x1024, .f32⟩
  | 45 => ⟨S4x1024, .f32⟩
  | 46 => ⟨S4x1024, .f32⟩
  | 47 => ⟨S4x1024, .f32⟩
  | 48 => ⟨S4x1024, .f32⟩
  | 49 => ⟨S_, .f32⟩
  | 50 => ⟨S1x1, .f32⟩
  | 51 => ⟨S4096, .f32⟩
  | 52 => ⟨S_, .i32⟩
  | 53 => ⟨S_, .f32⟩
  | 54 => ⟨S16384, .f32⟩
  | 55 => ⟨S16x1024, .f32⟩
  | 56 => ⟨S4096, .f32⟩
  | 57 => ⟨S_, .i32⟩
  | 58 => ⟨S_, .f32⟩
  | 59 => ⟨S16384, .f32⟩
  | 60 => ⟨S16x1024, .f32⟩
  | 61 => ⟨S64, .f32⟩
  | 62 => ⟨S_, .i32⟩
  | 63 => ⟨S_, .f32⟩
  | 64 => ⟨S16384, .f32⟩
  | 65 => ⟨S16x1024, .f32⟩
  | 66 => ⟨S65536, .f32⟩
  | 67 => ⟨S_, .i32⟩
  | 68 => ⟨S_, .f32⟩
  | 69 => ⟨S65536, .f32⟩
  | 70 => ⟨S64x1024, .f32⟩
  | 71 => ⟨S65536, .f32⟩
  | 72 => ⟨S_, .i32⟩
  | 73 => ⟨S_, .f32⟩
  | 74 => ⟨S65536, .f32⟩
  | 75 => ⟨S64x1024, .f32⟩
  | 76 => ⟨S65536, .f32⟩
  | 77 => ⟨S_, .i32⟩
  | 78 => ⟨S_, .f32⟩
  | 79 => ⟨S65536, .f32⟩
  | 80 => ⟨S64x1024, .f32⟩
  | 81 => ⟨S65536, .f32⟩
  | 82 => ⟨S_, .i32⟩
  | 83 => ⟨S_, .f32⟩
  | 84 => ⟨S65536, .f32⟩
  | 85 => ⟨S64x1024, .f32⟩
  | 86 => ⟨S1024, .f32⟩
  | 87 => ⟨S_, .i32⟩
  | 88 => ⟨S_, .f32⟩
  | 89 => ⟨S16384, .f32⟩
  | 90 => ⟨S16x1024, .f32⟩
  | 91 => ⟨S1024, .f32⟩
  | 92 => ⟨S_, .i32⟩
  | 93 => ⟨S_, .f32⟩
  | 94 => ⟨S16384, .f32⟩
  | 95 => ⟨S16x1024, .f32⟩
  | 96 => ⟨S4112, .f32⟩
  | 97 => ⟨S_, .i32⟩
  | 98 => ⟨S_, .f32⟩
  | 99 => ⟨S16384, .f32⟩
  | 100 => ⟨S16x1024, .f32⟩
  | 101 => ⟨S131072, .f32⟩
  | 102 => ⟨S_, .i32⟩
  | 103 => ⟨S_, .f32⟩
  | 104 => ⟨S131072, .f32⟩
  | 105 => ⟨S128x1024, .f32⟩
  | 106 => ⟨S4096, .f32⟩
  | 107 => ⟨S_, .i32⟩
  | 108 => ⟨S_, .f32⟩
  | 109 => ⟨S16384, .f32⟩
  | 110 => ⟨S16x1024, .f32⟩
  | 111 => ⟨S4096, .f32⟩
  | 112 => ⟨S_, .i32⟩
  | 113 => ⟨S_, .f32⟩
  | 114 => ⟨S16384, .f32⟩
  | 115 => ⟨S16x1024, .f32⟩
  | 116 => ⟨S4096, .f32⟩
  | 117 => ⟨S_, .i32⟩
  | 118 => ⟨S_, .f32⟩
  | 119 => ⟨S16384, .f32⟩
  | 120 => ⟨S16x1024, .f32⟩
  | 121 => ⟨S4096, .f32⟩
  | 122 => ⟨S_, .i32⟩
  | 123 => ⟨S_, .f32⟩
  | 124 => ⟨S16384, .f32⟩
  | 125 => ⟨S16x1024, .f32⟩
  | 126 => ⟨S4096, .f32⟩
  | 127 => ⟨S_, .i32⟩
  | _ => ⟨S8x768x1024, .f32⟩

abbrev hbmTy0_1 (i : Nat) : BufTy := match i % 128 with
  | 0 => ⟨S_, .f32⟩
  | 1 => ⟨S16384, .f32⟩
  | 2 => ⟨S16x1024, .f32⟩
  | 3 => ⟨S1, .f32⟩
  | 4 => ⟨S_, .i32⟩
  | 5 => ⟨S_, .f32⟩
  | 6 => ⟨S16384, .f32⟩
  | 7 => ⟨S16x1024, .f32⟩
  | 8 => ⟨S_, .f32⟩
  | 9 => ⟨S192x1024, .f32⟩
  | 10 => ⟨S560x1024, .f32⟩
  | 11 => ⟨S208x1024, .f32⟩
  | 12 => ⟨S768x1024, .f32⟩
  | 13 => ⟨S4096, .f32⟩
  | 14 => ⟨S_, .i32⟩
  | 15 => ⟨S_, .f32⟩
  | 16 => ⟨S16384, .f32⟩
  | 17 => ⟨S16x1024, .f32⟩
  | 18 => ⟨S4096, .f32⟩
  | 19 => ⟨S_, .i32⟩
  | 20 => ⟨S_, .f32⟩
  | 21 => ⟨S16384, .f32⟩
  | 22 => ⟨S16x1024, .f32⟩
  | 23 => ⟨S64, .f32⟩
  | 24 => ⟨S_, .i32⟩
  | 25 => ⟨S_, .f32⟩
  | 26 => ⟨S16384, .f32⟩
  | 27 => ⟨S16x1024, .f32⟩
  | 28 => ⟨S65536, .f32⟩
  | 29 => ⟨S_, .i32⟩
  | 30 => ⟨S_, .f32⟩
  | 31 => ⟨S65536, .f32⟩
  | 32 => ⟨S64x1024, .f32⟩
  | 33 => ⟨S65536, .f32⟩
  | 34 => ⟨S_, .i32⟩
  | 35 => ⟨S_, .f32⟩
  | 36 => ⟨S65536, .f32⟩
  | 37 => ⟨S64x1024, .f32⟩
  | 38 => ⟨S65536, .f32⟩
  | 39 => ⟨S_, .i32⟩
  | 40 => ⟨S_, .f32⟩
  | 41 => ⟨S65536, .f32⟩
  | 42 => ⟨S64x1024, .f32⟩
  | 43 => ⟨S65536, .f32⟩
  | 44 => ⟨S_, .i32⟩
  | 45 => ⟨S_, .f32⟩
  | 46 => ⟨S65536, .f32⟩
  | 47 => ⟨S64x1024, .f32⟩
  | 48 => ⟨S1024, .f32⟩
  | 49 => ⟨S_, .i32⟩
  | 50 => ⟨S_, .f32⟩
  | 51 => ⟨S16384, .f32⟩
  | 52 => ⟨S16x1024, .f32⟩
  | 53 => ⟨S1024, .f32⟩
  | 54 => ⟨S_, .i32⟩
  | 55 => ⟨S_, .f32⟩
  | 56 => ⟨S16384, .f32⟩
  | 57 => ⟨S16x1024, .f32⟩
  | 58 => ⟨S4112, .f32⟩
  | 59 => ⟨S_, .i32⟩
  | 60 => ⟨S_, .f32⟩
  | 61 => ⟨S16384, .f32⟩
  | 62 => ⟨S16x1024, .f32⟩
  | 63 => ⟨S131072, .f32⟩
  | 64 => ⟨S_, .i32⟩
  | 65 => ⟨S_, .f32⟩
  | 66 => ⟨S131072, .f32⟩
  | 67 => ⟨S128x1024, .f32⟩
  | 68 => ⟨S4096, .f32⟩
  | 69 => ⟨S_, .i32⟩
  | 70 => ⟨S_, .f32⟩
  | 71 => ⟨S16384, .f32⟩
  | 72 => ⟨S16x1024, .f32⟩
  | 73 => ⟨S4096, .f32⟩
  | 74 => ⟨S_, .i32⟩
  | 75 => ⟨S_, .f32⟩
  | 76 => ⟨S16384, .f32⟩
  | 77 => ⟨S16x1024, .f32⟩
  | 78 => ⟨S4096, .f32⟩
  | 79 => ⟨S_, .i32⟩
  | 80 => ⟨S_, .f32⟩
  | 81 => ⟨S16384, .f32⟩
  | 82 => ⟨S16x1024, .f32⟩
  | 83 => ⟨S4096, .f32⟩
  | 84 => ⟨S_, .i32⟩
  | 85 => ⟨S_, .f32⟩
  | 86 => ⟨S16384, .f32⟩
  | 87 => ⟨S16x1024, .f32⟩
  | 88 => ⟨S4096, .f32⟩
  | 89 => ⟨S_, .i32⟩
  | 90 => ⟨S_, .f32⟩
  | 91 => ⟨S16384, .f32⟩
  | 92 => ⟨S16x1024, .f32⟩
  | 93 => ⟨S1, .f32⟩
  | 94 => ⟨S_, .i32⟩
  | 95 => ⟨S_, .f32⟩
  | 96 => ⟨S16384, .f32⟩
  | 97 => ⟨S16x1024, .f32⟩
  | 98 => ⟨S_, .f32⟩
  | 99 => ⟨S192x1024, .f32⟩
  | 100 => ⟨S560x1024, .f32⟩
  | 101 => ⟨S208x1024, .f32⟩
  | 102 => ⟨S768x1024, .f32⟩
  | 103 => ⟨S4096, .f32⟩
  | 104 => ⟨S_, .i32⟩
  | 105 => ⟨S_, .f32⟩
  | 106 => ⟨S16384, .f32⟩
  | 107 => ⟨S16x1024, .f32⟩
  | 108 => ⟨S4096, .f32⟩
  | 109 => ⟨S_, .i32⟩
  | 110 => ⟨S_, .f32⟩
  | 111 => ⟨S16384, .f32⟩
  | 112 => ⟨S16x1024, .f32⟩
  | 113 => ⟨S64, .f32⟩
  | 114 => ⟨S_, .i32⟩
  | 115 => ⟨S_, .f32⟩
  | 116 => ⟨S16384, .f32⟩
  | 117 => ⟨S16x1024, .f32⟩
  | 118 => ⟨S65536, .f32⟩
  | 119 => ⟨S_, .i32⟩
  | 120 => ⟨S_, .f32⟩
  | 121 => ⟨S65536, .f32⟩
  | 122 => ⟨S64x1024, .f32⟩
  | 123 => ⟨S65536, .f32⟩
  | 124 => ⟨S_, .i32⟩
  | 125 => ⟨S_, .f32⟩
  | 126 => ⟨S65536, .f32⟩
  | 127 => ⟨S64x1024, .f32⟩
  | _ => ⟨S8x768x1024, .f32⟩

abbrev hbmTy0_2 (i : Nat) : BufTy := match i % 128 with
  | 0 => ⟨S65536, .f32⟩
  | 1 => ⟨S_, .i32⟩
  | 2 => ⟨S_, .f32⟩
  | 3 => ⟨S65536, .f32⟩
  | 4 => ⟨S64x1024, .f32⟩
  | 5 => ⟨S65536, .f32⟩
  | 6 => ⟨S_, .i32⟩
  | 7 => ⟨S_, .f32⟩
  | 8 => ⟨S65536, .f32⟩
  | 9 => ⟨S64x1024, .f32⟩
  | 10 => ⟨S1024, .f32⟩
  | 11 => ⟨S_, .i32⟩
  | 12 => ⟨S_, .f32⟩
  | 13 => ⟨S16384, .f32⟩
  | 14 => ⟨S16x1024, .f32⟩
  | 15 => ⟨S1024, .f32⟩
  | 16 => ⟨S_, .i32⟩
  | 17 => ⟨S_, .f32⟩
  | 18 => ⟨S16384, .f32⟩
  | 19 => ⟨S16x1024, .f32⟩
  | 20 => ⟨S4112, .f32⟩
  | 21 => ⟨S_, .i32⟩
  | 22 => ⟨S_, .f32⟩
  | 23 => ⟨S16384, .f32⟩
  | 24 => ⟨S16x1024, .f32⟩
  | 25 => ⟨S131072, .f32⟩
  | 26 => ⟨S_, .i32⟩
  | 27 => ⟨S_, .f32⟩
  | 28 => ⟨S131072, .f32⟩
  | 29 => ⟨S128x1024, .f32⟩
  | 30 => ⟨S4096, .f32⟩
  | 31 => ⟨S_, .i32⟩
  | 32 => ⟨S_, .f32⟩
  | 33 => ⟨S16384, .f32⟩
  | 34 => ⟨S16x1024, .f32⟩
  | 35 => ⟨S4096, .f32⟩
  | 36 => ⟨S_, .i32⟩
  | 37 => ⟨S_, .f32⟩
  | 38 => ⟨S16384, .f32⟩
  | 39 => ⟨S16x1024, .f32⟩
  | 40 => ⟨S4096, .f32⟩
  | 41 => ⟨S_, .i32⟩
  | 42 => ⟨S_, .f32⟩
  | 43 => ⟨S16384, .f32⟩
  | 44 => ⟨S16x1024, .f32⟩
  | 45 => ⟨S4096, .f32⟩
  | 46 => ⟨S_, .i32⟩
  | 47 => ⟨S_, .f32⟩
  | 48 => ⟨S16384, .f32⟩
  | 49 => ⟨S16x1024, .f32⟩
  | 50 => ⟨S4096, .f32⟩
  | 51 => ⟨S_, .i32⟩
  | 52 => ⟨S_, .f32⟩
  | 53 => ⟨S16384, .f32⟩
  | 54 => ⟨S16x1024, .f32⟩
  | 55 => ⟨S1, .f32⟩
  | 56 => ⟨S_, .i32⟩
  | 57 => ⟨S_, .f32⟩
  | 58 => ⟨S16384, .f32⟩
  | 59 => ⟨S16x1024, .f32⟩
  | 60 => ⟨S_, .f32⟩
  | 61 => ⟨S192x1024, .f32⟩
  | 62 => ⟨S560x1024, .f32⟩
  | 63 => ⟨S208x1024, .f32⟩
  | 64 => ⟨S768x1024, .f32⟩
  | 65 => ⟨S768x1024, .f32⟩
  | 66 => ⟨S768x1024, .f32⟩
  | 67 => ⟨S768x1024, .f32⟩
  | 68 => ⟨S768x1024, .f32⟩
  | _ => ⟨S8x768x1024, .f32⟩

abbrev hbmTy (i : Nat) : BufTy := match i / 128 with
  | 0 => hbmTy0_0 i
  | 1 => hbmTy0_1 i
  | 2 => hbmTy0_2 i
  | _ => ⟨S8x768x1024, .f32⟩

abbrev bufTy : (tb : Table) → Fin (tcTables nBuf tb) → BufTy
  | .hbm, ⟨i, _⟩ => hbmTy i
  | .local _ .vmem, ⟨0, _⟩ => ⟨S8x64x1024, .f32⟩
  | .local _ .vmem, ⟨1, _⟩ => ⟨S8x64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_cst : Ref sig .tc := ⟨.hbm, 49, rfl⟩
abbrev main_v0 : Ref sig .tc := ⟨.hbm, 50, rfl⟩
abbrev main_v1 : Ref sig .tc := ⟨.hbm, 51, rfl⟩
abbrev main_c : Ref sig .tc := ⟨.hbm, 52, rfl⟩
abbrev main_call0_v0 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_c_0 : Ref sig .tc := ⟨.hbm, 57, rfl⟩
abbrev main_call1_v0 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_c_1 : Ref sig .tc := ⟨.hbm, 62, rfl⟩
abbrev main_call2_v0 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_c_2 : Ref sig .tc := ⟨.hbm, 67, rfl⟩
abbrev main_call3_v0 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_c_3 : Ref sig .tc := ⟨.hbm, 72, rfl⟩
abbrev main_call4_v0 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_c_4 : Ref sig .tc := ⟨.hbm, 77, rfl⟩
abbrev main_call5_v0 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_c_5 : Ref sig .tc := ⟨.hbm, 82, rfl⟩
abbrev main_call6_v0 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_c_6 : Ref sig .tc := ⟨.hbm, 87, rfl⟩
abbrev main_call7_v0 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_c_7 : Ref sig .tc := ⟨.hbm, 92, rfl⟩
abbrev main_call8_v0 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_c_8 : Ref sig .tc := ⟨.hbm, 97, rfl⟩
abbrev main_call9_v0 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_c_9 : Ref sig .tc := ⟨.hbm, 102, rfl⟩
abbrev main_call10_v0 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_c_10 : Ref sig .tc := ⟨.hbm, 107, rfl⟩
abbrev main_call11_v0 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_c_11 : Ref sig .tc := ⟨.hbm, 112, rfl⟩
abbrev main_call12_v0 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_c_12 : Ref sig .tc := ⟨.hbm, 117, rfl⟩
abbrev main_call13_v0 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_c_13 : Ref sig .tc := ⟨.hbm, 122, rfl⟩
abbrev main_call14_v0 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_c_14 : Ref sig .tc := ⟨.hbm, 127, rfl⟩
abbrev main_call15_v0 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_c_15 : Ref sig .tc := ⟨.hbm, 132, rfl⟩
abbrev main_call16_v0 : Ref sig .tc := ⟨.hbm, 133, rfl⟩
abbrev main_v50 : Ref sig .tc := ⟨.hbm, 134, rfl⟩
abbrev main_v51 : Ref sig .tc := ⟨.hbm, 135, rfl⟩
abbrev main_cst_16 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_c_17 : Ref sig .tc := ⟨.hbm, 142, rfl⟩
abbrev main_call17_v0 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_c_18 : Ref sig .tc := ⟨.hbm, 147, rfl⟩
abbrev main_call18_v0 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_c_19 : Ref sig .tc := ⟨.hbm, 152, rfl⟩
abbrev main_call19_v0 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_c_20 : Ref sig .tc := ⟨.hbm, 157, rfl⟩
abbrev main_call20_v0 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_c_21 : Ref sig .tc := ⟨.hbm, 162, rfl⟩
abbrev main_call21_v0 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_c_22 : Ref sig .tc := ⟨.hbm, 167, rfl⟩
abbrev main_call22_v0 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_c_23 : Ref sig .tc := ⟨.hbm, 172, rfl⟩
abbrev main_call23_v0 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_c_24 : Ref sig .tc := ⟨.hbm, 177, rfl⟩
abbrev main_call24_v0 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_c_25 : Ref sig .tc := ⟨.hbm, 182, rfl⟩
abbrev main_call25_v0 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_c_26 : Ref sig .tc := ⟨.hbm, 187, rfl⟩
abbrev main_call26_v0 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_c_27 : Ref sig .tc := ⟨.hbm, 192, rfl⟩
abbrev main_call27_v0 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩
abbrev main_c_28 : Ref sig .tc := ⟨.hbm, 197, rfl⟩
abbrev main_call28_v0 : Ref sig .tc := ⟨.hbm, 198, rfl⟩
abbrev main_v90 : Ref sig .tc := ⟨.hbm, 199, rfl⟩
abbrev main_v91 : Ref sig .tc := ⟨.hbm, 200, rfl⟩
abbrev main_v92 : Ref sig .tc := ⟨.hbm, 201, rfl⟩
abbrev main_c_29 : Ref sig .tc := ⟨.hbm, 202, rfl⟩
abbrev main_call29_v0 : Ref sig .tc := ⟨.hbm, 203, rfl⟩
abbrev main_v93 : Ref sig .tc := ⟨.hbm, 204, rfl⟩
abbrev main_v94 : Ref sig .tc := ⟨.hbm, 205, rfl⟩
abbrev main_v95 : Ref sig .tc := ⟨.hbm, 206, rfl⟩
abbrev main_c_30 : Ref sig .tc := ⟨.hbm, 207, rfl⟩
abbrev main_call30_v0 : Ref sig .tc := ⟨.hbm, 208, rfl⟩
abbrev main_v96 : Ref sig .tc := ⟨.hbm, 209, rfl⟩
abbrev main_v97 : Ref sig .tc := ⟨.hbm, 210, rfl⟩
abbrev main_v98 : Ref sig .tc := ⟨.hbm, 211, rfl⟩
abbrev main_c_31 : Ref sig .tc := ⟨.hbm, 212, rfl⟩
abbrev main_call31_v0 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩
abbrev main_c_32 : Ref sig .tc := ⟨.hbm, 217, rfl⟩
abbrev main_call32_v0 : Ref sig .tc := ⟨.hbm, 218, rfl⟩
abbrev main_v102 : Ref sig .tc := ⟨.hbm, 219, rfl⟩
abbrev main_v103 : Ref sig .tc := ⟨.hbm, 220, rfl⟩
abbrev main_v104 : Ref sig .tc := ⟨.hbm, 221, rfl⟩
abbrev main_c_33 : Ref sig .tc := ⟨.hbm, 222, rfl⟩
abbrev main_call33_v0 : Ref sig .tc := ⟨.hbm, 223, rfl⟩
abbrev main_v105 : Ref sig .tc := ⟨.hbm, 224, rfl⟩
abbrev main_v106 : Ref sig .tc := ⟨.hbm, 225, rfl⟩
abbrev main_cst_34 : Ref sig .tc := ⟨.hbm, 226, rfl⟩
abbrev main_v107 : Ref sig .tc := ⟨.hbm, 227, rfl⟩
abbrev main_v108 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_c_35 : Ref sig .tc := ⟨.hbm, 232, rfl⟩
abbrev main_call34_v0 : Ref sig .tc := ⟨.hbm, 233, rfl⟩
abbrev main_v112 : Ref sig .tc := ⟨.hbm, 234, rfl⟩
abbrev main_v113 : Ref sig .tc := ⟨.hbm, 235, rfl⟩
abbrev main_v114 : Ref sig .tc := ⟨.hbm, 236, rfl⟩
abbrev main_c_36 : Ref sig .tc := ⟨.hbm, 237, rfl⟩
abbrev main_call35_v0 : Ref sig .tc := ⟨.hbm, 238, rfl⟩
abbrev main_v115 : Ref sig .tc := ⟨.hbm, 239, rfl⟩
abbrev main_v116 : Ref sig .tc := ⟨.hbm, 240, rfl⟩
abbrev main_v117 : Ref sig .tc := ⟨.hbm, 241, rfl⟩
abbrev main_c_37 : Ref sig .tc := ⟨.hbm, 242, rfl⟩
abbrev main_call36_v0 : Ref sig .tc := ⟨.hbm, 243, rfl⟩
abbrev main_v118 : Ref sig .tc := ⟨.hbm, 244, rfl⟩
abbrev main_v119 : Ref sig .tc := ⟨.hbm, 245, rfl⟩
abbrev main_v120 : Ref sig .tc := ⟨.hbm, 246, rfl⟩
abbrev main_c_38 : Ref sig .tc := ⟨.hbm, 247, rfl⟩
abbrev main_call37_v0 : Ref sig .tc := ⟨.hbm, 248, rfl⟩
abbrev main_v121 : Ref sig .tc := ⟨.hbm, 249, rfl⟩
abbrev main_v122 : Ref sig .tc := ⟨.hbm, 250, rfl⟩
abbrev main_v123 : Ref sig .tc := ⟨.hbm, 251, rfl⟩
abbrev main_c_39 : Ref sig .tc := ⟨.hbm, 252, rfl⟩
abbrev main_call38_v0 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_c_40 : Ref sig .tc := ⟨.hbm, 257, rfl⟩
abbrev main_call39_v0 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_c_41 : Ref sig .tc := ⟨.hbm, 262, rfl⟩
abbrev main_call40_v0 : Ref sig .tc := ⟨.hbm, 263, rfl⟩
abbrev main_v130 : Ref sig .tc := ⟨.hbm, 264, rfl⟩
abbrev main_v131 : Ref sig .tc := ⟨.hbm, 265, rfl⟩
abbrev main_v132 : Ref sig .tc := ⟨.hbm, 266, rfl⟩
abbrev main_c_42 : Ref sig .tc := ⟨.hbm, 267, rfl⟩
abbrev main_call41_v0 : Ref sig .tc := ⟨.hbm, 268, rfl⟩
abbrev main_v133 : Ref sig .tc := ⟨.hbm, 269, rfl⟩
abbrev main_v134 : Ref sig .tc := ⟨.hbm, 270, rfl⟩
abbrev main_v135 : Ref sig .tc := ⟨.hbm, 271, rfl⟩
abbrev main_c_43 : Ref sig .tc := ⟨.hbm, 272, rfl⟩
abbrev main_call42_v0 : Ref sig .tc := ⟨.hbm, 273, rfl⟩
abbrev main_v136 : Ref sig .tc := ⟨.hbm, 274, rfl⟩
abbrev main_v137 : Ref sig .tc := ⟨.hbm, 275, rfl⟩
abbrev main_v138 : Ref sig .tc := ⟨.hbm, 276, rfl⟩
abbrev main_c_44 : Ref sig .tc := ⟨.hbm, 277, rfl⟩
abbrev main_call43_v0 : Ref sig .tc := ⟨.hbm, 278, rfl⟩
abbrev main_v139 : Ref sig .tc := ⟨.hbm, 279, rfl⟩
abbrev main_v140 : Ref sig .tc := ⟨.hbm, 280, rfl⟩
abbrev main_v141 : Ref sig .tc := ⟨.hbm, 281, rfl⟩
abbrev main_c_45 : Ref sig .tc := ⟨.hbm, 282, rfl⟩
abbrev main_call44_v0 : Ref sig .tc := ⟨.hbm, 283, rfl⟩
abbrev main_v142 : Ref sig .tc := ⟨.hbm, 284, rfl⟩
abbrev main_v143 : Ref sig .tc := ⟨.hbm, 285, rfl⟩
abbrev main_v144 : Ref sig .tc := ⟨.hbm, 286, rfl⟩
abbrev main_c_46 : Ref sig .tc := ⟨.hbm, 287, rfl⟩
abbrev main_call45_v0 : Ref sig .tc := ⟨.hbm, 288, rfl⟩
abbrev main_v145 : Ref sig .tc := ⟨.hbm, 289, rfl⟩
abbrev main_v146 : Ref sig .tc := ⟨.hbm, 290, rfl⟩
abbrev main_v147 : Ref sig .tc := ⟨.hbm, 291, rfl⟩
abbrev main_c_47 : Ref sig .tc := ⟨.hbm, 292, rfl⟩
abbrev main_call46_v0 : Ref sig .tc := ⟨.hbm, 293, rfl⟩
abbrev main_v148 : Ref sig .tc := ⟨.hbm, 294, rfl⟩
abbrev main_v149 : Ref sig .tc := ⟨.hbm, 295, rfl⟩
abbrev main_v150 : Ref sig .tc := ⟨.hbm, 296, rfl⟩
abbrev main_c_48 : Ref sig .tc := ⟨.hbm, 297, rfl⟩
abbrev main_call47_v0 : Ref sig .tc := ⟨.hbm, 298, rfl⟩
abbrev main_v151 : Ref sig .tc := ⟨.hbm, 299, rfl⟩
abbrev main_v152 : Ref sig .tc := ⟨.hbm, 300, rfl⟩
abbrev main_v153 : Ref sig .tc := ⟨.hbm, 301, rfl⟩
abbrev main_c_49 : Ref sig .tc := ⟨.hbm, 302, rfl⟩
abbrev main_call48_v0 : Ref sig .tc := ⟨.hbm, 303, rfl⟩
abbrev main_v154 : Ref sig .tc := ⟨.hbm, 304, rfl⟩
abbrev main_v155 : Ref sig .tc := ⟨.hbm, 305, rfl⟩
abbrev main_v156 : Ref sig .tc := ⟨.hbm, 306, rfl⟩
abbrev main_c_50 : Ref sig .tc := ⟨.hbm, 307, rfl⟩
abbrev main_call49_v0 : Ref sig .tc := ⟨.hbm, 308, rfl⟩
abbrev main_v157 : Ref sig .tc := ⟨.hbm, 309, rfl⟩
abbrev main_v158 : Ref sig .tc := ⟨.hbm, 310, rfl⟩
abbrev main_v159 : Ref sig .tc := ⟨.hbm, 311, rfl⟩
abbrev main_c_51 : Ref sig .tc := ⟨.hbm, 312, rfl⟩
abbrev main_call50_v0 : Ref sig .tc := ⟨.hbm, 313, rfl⟩
abbrev main_v160 : Ref sig .tc := ⟨.hbm, 314, rfl⟩
abbrev main_v161 : Ref sig .tc := ⟨.hbm, 315, rfl⟩
abbrev main_cst_52 : Ref sig .tc := ⟨.hbm, 316, rfl⟩
abbrev main_v162 : Ref sig .tc := ⟨.hbm, 317, rfl⟩
abbrev main_v163 : Ref sig .tc := ⟨.hbm, 318, rfl⟩
abbrev main_v164 : Ref sig .tc := ⟨.hbm, 319, rfl⟩
abbrev main_v165 : Ref sig .tc := ⟨.hbm, 320, rfl⟩
abbrev main_v166_0 : Ref sig .tc := ⟨.hbm, 321, rfl⟩
abbrev main_v166_1 : Ref sig .tc := ⟨.hbm, 322, rfl⟩
abbrev main_v166_2 : Ref sig .tc := ⟨.hbm, 323, rfl⟩
abbrev main_v166_3 : Ref sig .tc := ⟨.hbm, 324, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S8x768x1024 : Shape := ⟨3, ![8, 768, 1024]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S2x512 : Shape := ⟨2, ![2, 512]⟩
abbrev S2x8x257 : Shape := ⟨3, ![2, 8, 257]⟩
abbrev S2x4x128x128 : Shape := ⟨4, ![2, 4, 128, 128]⟩
abbrev S4x1024 : Shape := ⟨2, ![4, 1024]⟩
abbrev S_ : Shape := ⟨0, ![]⟩
abbrev S1x1 : Shape := ⟨2, ![1, 1]⟩
abbrev S768x1024 : Shape := ⟨2, ![768, 1024]⟩
abbrev S4096 : Shape := ⟨1, ![4096]⟩
abbrev S16384 : Shape := ⟨1, ![16384]⟩
abbrev S16x1024 : Shape := ⟨2, ![16, 1024]⟩
abbrev S64 : Shape := ⟨1, ![64]⟩
abbrev S65536 : Shape := ⟨1, ![65536]⟩
abbrev S64x1024 : Shape := ⟨2, ![64, 1024]⟩
abbrev S1024 : Shape := ⟨1, ![1024]⟩
abbrev S4112 : Shape := ⟨1, ![4112]⟩
abbrev S131072 : Shape := ⟨1, ![131072]⟩
abbrev S128x1024 : Shape := ⟨2, ![128, 1024]⟩
abbrev S1 : Shape := ⟨1, ![1]⟩
abbrev S192x1024 : Shape := ⟨2, ![192, 1024]⟩
abbrev S560x1024 : Shape := ⟨2, ![560, 1024]⟩
abbrev S208x1024 : Shape := ⟨2, ![208, 1024]⟩

abbrev nBuf : Space → Nat
  | .hbm => 356
  | .vmem => 0
  | .smem => 0
  | _ => 0

abbrev hbmTy0_0 (i : Nat) : BufTy := match i % 128 with
  | 0 => ⟨S8x768x1024, .f32⟩
  | 1 => ⟨S2x32x64, .f32⟩
  | 2 => ⟨S2x32x64, .f32⟩
  | 3 => ⟨S2x32, .f32⟩
  | 4 => ⟨S2x32x64x16, .f32⟩
  | 5 => ⟨S2x32x64x16, .f32⟩
  | 6 => ⟨S2x32x16x64, .f32⟩
  | 7 => ⟨S2x32x16x64, .f32⟩
  | 8 => ⟨S2x512, .f32⟩
  | 9 => ⟨S2x512, .f32⟩
  | 10 => ⟨S2x8x257, .f32⟩
  | 11 => ⟨S2x4x128x128, .f32⟩
  | 12 => ⟨S4x1024, .f32⟩
  | 13 => ⟨S4x1024, .f32⟩
  | 14 => ⟨S4x1024, .f32⟩
  | 15 => ⟨S4x1024, .f32⟩
  | 16 => ⟨S4x1024, .f32⟩
  | 17 => ⟨S2x32x64, .f32⟩
  | 18 => ⟨S2x32x64, .f32⟩
  | 19 => ⟨S2x32, .f32⟩
  | 20 => ⟨S2x32x64x16, .f32⟩
  | 21 => ⟨S2x32x64x16, .f32⟩
  | 22 => ⟨S2x32x16x64, .f32⟩
  | 23 => ⟨S2x32x16x64, .f32⟩
  | 24 => ⟨S2x512, .f32⟩
  | 25 => ⟨S2x512, .f32⟩
  | 26 => ⟨S2x8x257, .f32⟩
  | 27 => ⟨S2x4x128x128, .f32⟩
  | 28 => ⟨S4x1024, .f32⟩
  | 29 => ⟨S4x1024, .f32⟩
  | 30 => ⟨S4x1024, .f32⟩
  | 31 => ⟨S4x1024, .f32⟩
  | 32 => ⟨S4x1024, .f32⟩
  | 33 => ⟨S2x32x64, .f32⟩
  | 34 => ⟨S2x32x64, .f32⟩
  | 35 => ⟨S2x32, .f32⟩
  | 36 => ⟨S2x32x64x16, .f32⟩
  | 37 => ⟨S2x32x64x16, .f32⟩
  | 38 => ⟨S2x32x16x64, .f32⟩
  | 39 => ⟨S2x32x16x64, .f32⟩
  | 40 => ⟨S2x512, .f32⟩
  | 41 => ⟨S2x512, .f32⟩
  | 42 => ⟨S2x8x257, .f32⟩
  | 43 => ⟨S2x4x128x128, .f32⟩
  | 44 => ⟨S4x1024, .f32⟩
  | 45 => ⟨S4x1024, .f32⟩
  | 46 => ⟨S4x1024, .f32⟩
  | 47 => ⟨S4x1024, .f32⟩
  | 48 => ⟨S4x1024, .f32⟩
  | 49 => ⟨S_, .f32⟩
  | 50 => ⟨S1x1, .f32⟩
  | 51 => ⟨S_, .f32⟩
  | 52 => ⟨S768x1024, .f32⟩
  | 53 => ⟨S4096, .f32⟩
  | 54 => ⟨S_, .i32⟩
  | 55 => ⟨S_, .f32⟩
  | 56 => ⟨S16384, .f32⟩
  | 57 => ⟨S16x1024, .f32⟩
  | 58 => ⟨S4096, .f32⟩
  | 59 => ⟨S_, .i32⟩
  | 60 => ⟨S_, .f32⟩
  | 61 => ⟨S16384, .f32⟩
  | 62 => ⟨S16x1024, .f32⟩
  | 63 => ⟨S64, .f32⟩
  | 64 => ⟨S_, .i32⟩
  | 65 => ⟨S_, .f32⟩
  | 66 => ⟨S16384, .f32⟩
  | 67 => ⟨S16x1024, .f32⟩
  | 68 => ⟨S65536, .f32⟩
  | 69 => ⟨S_, .i32⟩
  | 70 => ⟨S_, .f32⟩
  | 71 => ⟨S65536, .f32⟩
  | 72 => ⟨S64x1024, .f32⟩
  | 73 => ⟨S65536, .f32⟩
  | 74 => ⟨S_, .i32⟩
  | 75 => ⟨S_, .f32⟩
  | 76 => ⟨S65536, .f32⟩
  | 77 => ⟨S64x1024, .f32⟩
  | 78 => ⟨S65536, .f32⟩
  | 79 => ⟨S_, .i32⟩
  | 80 => ⟨S_, .f32⟩
  | 81 => ⟨S65536, .f32⟩
  | 82 => ⟨S64x1024, .f32⟩
  | 83 => ⟨S65536, .f32⟩
  | 84 => ⟨S_, .i32⟩
  | 85 => ⟨S_, .f32⟩
  | 86 => ⟨S65536, .f32⟩
  | 87 => ⟨S64x1024, .f32⟩
  | 88 => ⟨S1024, .f32⟩
  | 89 => ⟨S_, .i32⟩
  | 90 => ⟨S_, .f32⟩
  | 91 => ⟨S16384, .f32⟩
  | 92 => ⟨S16x1024, .f32⟩
  | 93 => ⟨S1024, .f32⟩
  | 94 => ⟨S_, .i32⟩
  | 95 => ⟨S_, .f32⟩
  | 96 => ⟨S16384, .f32⟩
  | 97 => ⟨S16x1024, .f32⟩
  | 98 => ⟨S4112, .f32⟩
  | 99 => ⟨S_, .i32⟩
  | 100 => ⟨S_, .f32⟩
  | 101 => ⟨S16384, .f32⟩
  | 102 => ⟨S16x1024, .f32⟩
  | 103 => ⟨S131072, .f32⟩
  | 104 => ⟨S_, .i32⟩
  | 105 => ⟨S_, .f32⟩
  | 106 => ⟨S131072, .f32⟩
  | 107 => ⟨S128x1024, .f32⟩
  | 108 => ⟨S4096, .f32⟩
  | 109 => ⟨S_, .i32⟩
  | 110 => ⟨S_, .f32⟩
  | 111 => ⟨S16384, .f32⟩
  | 112 => ⟨S16x1024, .f32⟩
  | 113 => ⟨S4096, .f32⟩
  | 114 => ⟨S_, .i32⟩
  | 115 => ⟨S_, .f32⟩
  | 116 => ⟨S16384, .f32⟩
  | 117 => ⟨S16x1024, .f32⟩
  | 118 => ⟨S4096, .f32⟩
  | 119 => ⟨S_, .i32⟩
  | 120 => ⟨S_, .f32⟩
  | 121 => ⟨S16384, .f32⟩
  | 122 => ⟨S16x1024, .f32⟩
  | 123 => ⟨S4096, .f32⟩
  | 124 => ⟨S_, .i32⟩
  | 125 => ⟨S_, .f32⟩
  | 126 => ⟨S16384, .f32⟩
  | 127 => ⟨S16x1024, .f32⟩
  | _ => ⟨S8x768x1024, .f32⟩

abbrev hbmTy0_1 (i : Nat) : BufTy := match i % 128 with
  | 0 => ⟨S4096, .f32⟩
  | 1 => ⟨S_, .i32⟩
  | 2 => ⟨S_, .f32⟩
  | 3 => ⟨S16384, .f32⟩
  | 4 => ⟨S16x1024, .f32⟩
  | 5 => ⟨S1, .f32⟩
  | 6 => ⟨S_, .i32⟩
  | 7 => ⟨S_, .f32⟩
  | 8 => ⟨S16384, .f32⟩
  | 9 => ⟨S16x1024, .f32⟩
  | 10 => ⟨S_, .f32⟩
  | 11 => ⟨S192x1024, .f32⟩
  | 12 => ⟨S560x1024, .f32⟩
  | 13 => ⟨S208x1024, .f32⟩
  | 14 => ⟨S768x1024, .f32⟩
  | 15 => ⟨S4096, .f32⟩
  | 16 => ⟨S_, .i32⟩
  | 17 => ⟨S_, .f32⟩
  | 18 => ⟨S16384, .f32⟩
  | 19 => ⟨S16x1024, .f32⟩
  | 20 => ⟨S4096, .f32⟩
  | 21 => ⟨S_, .i32⟩
  | 22 => ⟨S_, .f32⟩
  | 23 => ⟨S16384, .f32⟩
  | 24 => ⟨S16x1024, .f32⟩
  | 25 => ⟨S64, .f32⟩
  | 26 => ⟨S_, .i32⟩
  | 27 => ⟨S_, .f32⟩
  | 28 => ⟨S16384, .f32⟩
  | 29 => ⟨S16x1024, .f32⟩
  | 30 => ⟨S65536, .f32⟩
  | 31 => ⟨S_, .i32⟩
  | 32 => ⟨S_, .f32⟩
  | 33 => ⟨S65536, .f32⟩
  | 34 => ⟨S64x1024, .f32⟩
  | 35 => ⟨S65536, .f32⟩
  | 36 => ⟨S_, .i32⟩
  | 37 => ⟨S_, .f32⟩
  | 38 => ⟨S65536, .f32⟩
  | 39 => ⟨S64x1024, .f32⟩
  | 40 => ⟨S65536, .f32⟩
  | 41 => ⟨S_, .i32⟩
  | 42 => ⟨S_, .f32⟩
  | 43 => ⟨S65536, .f32⟩
  | 44 => ⟨S64x1024, .f32⟩
  | 45 => ⟨S65536, .f32⟩
  | 46 => ⟨S_, .i32⟩
  | 47 => ⟨S_, .f32⟩
  | 48 => ⟨S65536, .f32⟩
  | 49 => ⟨S64x1024, .f32⟩
  | 50 => ⟨S1024, .f32⟩
  | 51 => ⟨S_, .i32⟩
  | 52 => ⟨S_, .f32⟩
  | 53 => ⟨S16384, .f32⟩
  | 54 => ⟨S16x1024, .f32⟩
  | 55 => ⟨S1024, .f32⟩
  | 56 => ⟨S_, .i32⟩
  | 57 => ⟨S_, .f32⟩
  | 58 => ⟨S16384, .f32⟩
  | 59 => ⟨S16x1024, .f32⟩
  | 60 => ⟨S4112, .f32⟩
  | 61 => ⟨S_, .i32⟩
  | 62 => ⟨S_, .f32⟩
  | 63 => ⟨S16384, .f32⟩
  | 64 => ⟨S16x1024, .f32⟩
  | 65 => ⟨S131072, .f32⟩
  | 66 => ⟨S_, .i32⟩
  | 67 => ⟨S_, .f32⟩
  | 68 => ⟨S131072, .f32⟩
  | 69 => ⟨S128x1024, .f32⟩
  | 70 => ⟨S4096, .f32⟩
  | 71 => ⟨S_, .i32⟩
  | 72 => ⟨S_, .f32⟩
  | 73 => ⟨S16384, .f32⟩
  | 74 => ⟨S16x1024, .f32⟩
  | 75 => ⟨S4096, .f32⟩
  | 76 => ⟨S_, .i32⟩
  | 77 => ⟨S_, .f32⟩
  | 78 => ⟨S16384, .f32⟩
  | 79 => ⟨S16x1024, .f32⟩
  | 80 => ⟨S4096, .f32⟩
  | 81 => ⟨S_, .i32⟩
  | 82 => ⟨S_, .f32⟩
  | 83 => ⟨S16384, .f32⟩
  | 84 => ⟨S16x1024, .f32⟩
  | 85 => ⟨S4096, .f32⟩
  | 86 => ⟨S_, .i32⟩
  | 87 => ⟨S_, .f32⟩
  | 88 => ⟨S16384, .f32⟩
  | 89 => ⟨S16x1024, .f32⟩
  | 90 => ⟨S4096, .f32⟩
  | 91 => ⟨S_, .i32⟩
  | 92 => ⟨S_, .f32⟩
  | 93 => ⟨S16384, .f32⟩
  | 94 => ⟨S16x1024, .f32⟩
  | 95 => ⟨S1, .f32⟩
  | 96 => ⟨S_, .i32⟩
  | 97 => ⟨S_, .f32⟩
  | 98 => ⟨S16384, .f32⟩
  | 99 => ⟨S16x1024, .f32⟩
  | 100 => ⟨S_, .f32⟩
  | 101 => ⟨S192x1024, .f32⟩
  | 102 => ⟨S560x1024, .f32⟩
  | 103 => ⟨S208x1024, .f32⟩
  | 104 => ⟨S768x1024, .f32⟩
  | 105 => ⟨S4096, .f32⟩
  | 106 => ⟨S_, .i32⟩
  | 107 => ⟨S_, .f32⟩
  | 108 => ⟨S16384, .f32⟩
  | 109 => ⟨S16x1024, .f32⟩
  | 110 => ⟨S4096, .f32⟩
  | 111 => ⟨S_, .i32⟩
  | 112 => ⟨S_, .f32⟩
  | 113 => ⟨S16384, .f32⟩
  | 114 => ⟨S16x1024, .f32⟩
  | 115 => ⟨S64, .f32⟩
  | 116 => ⟨S_, .i32⟩
  | 117 => ⟨S_, .f32⟩
  | 118 => ⟨S16384, .f32⟩
  | 119 => ⟨S16x1024, .f32⟩
  | 120 => ⟨S65536, .f32⟩
  | 121 => ⟨S_, .i32⟩
  | 122 => ⟨S_, .f32⟩
  | 123 => ⟨S65536, .f32⟩
  | 124 => ⟨S64x1024, .f32⟩
  | 125 => ⟨S65536, .f32⟩
  | 126 => ⟨S_, .i32⟩
  | 127 => ⟨S_, .f32⟩
  | _ => ⟨S8x768x1024, .f32⟩

abbrev hbmTy0_2 (i : Nat) : BufTy := match i % 128 with
  | 0 => ⟨S65536, .f32⟩
  | 1 => ⟨S64x1024, .f32⟩
  | 2 => ⟨S65536, .f32⟩
  | 3 => ⟨S_, .i32⟩
  | 4 => ⟨S_, .f32⟩
  | 5 => ⟨S65536, .f32⟩
  | 6 => ⟨S64x1024, .f32⟩
  | 7 => ⟨S65536, .f32⟩
  | 8 => ⟨S_, .i32⟩
  | 9 => ⟨S_, .f32⟩
  | 10 => ⟨S65536, .f32⟩
  | 11 => ⟨S64x1024, .f32⟩
  | 12 => ⟨S1024, .f32⟩
  | 13 => ⟨S_, .i32⟩
  | 14 => ⟨S_, .f32⟩
  | 15 => ⟨S16384, .f32⟩
  | 16 => ⟨S16x1024, .f32⟩
  | 17 => ⟨S1024, .f32⟩
  | 18 => ⟨S_, .i32⟩
  | 19 => ⟨S_, .f32⟩
  | 20 => ⟨S16384, .f32⟩
  | 21 => ⟨S16x1024, .f32⟩
  | 22 => ⟨S4112, .f32⟩
  | 23 => ⟨S_, .i32⟩
  | 24 => ⟨S_, .f32⟩
  | 25 => ⟨S16384, .f32⟩
  | 26 => ⟨S16x1024, .f32⟩
  | 27 => ⟨S131072, .f32⟩
  | 28 => ⟨S_, .i32⟩
  | 29 => ⟨S_, .f32⟩
  | 30 => ⟨S131072, .f32⟩
  | 31 => ⟨S128x1024, .f32⟩
  | 32 => ⟨S4096, .f32⟩
  | 33 => ⟨S_, .i32⟩
  | 34 => ⟨S_, .f32⟩
  | 35 => ⟨S16384, .f32⟩
  | 36 => ⟨S16x1024, .f32⟩
  | 37 => ⟨S4096, .f32⟩
  | 38 => ⟨S_, .i32⟩
  | 39 => ⟨S_, .f32⟩
  | 40 => ⟨S16384, .f32⟩
  | 41 => ⟨S16x1024, .f32⟩
  | 42 => ⟨S4096, .f32⟩
  | 43 => ⟨S_, .i32⟩
  | 44 => ⟨S_, .f32⟩
  | 45 => ⟨S16384, .f32⟩
  | 46 => ⟨S16x1024, .f32⟩
  | 47 => ⟨S4096, .f32⟩
  | 48 => ⟨S_, .i32⟩
  | 49 => ⟨S_, .f32⟩
  | 50 => ⟨S16384, .f32⟩
  | 51 => ⟨S16x1024, .f32⟩
  | 52 => ⟨S4096, .f32⟩
  | 53 => ⟨S_, .i32⟩
  | 54 => ⟨S_, .f32⟩
  | 55 => ⟨S16384, .f32⟩
  | 56 => ⟨S16x1024, .f32⟩
  | 57 => ⟨S1, .f32⟩
  | 58 => ⟨S_, .i32⟩
  | 59 => ⟨S_, .f32⟩
  | 60 => ⟨S16384, .f32⟩
  | 61 => ⟨S16x1024, .f32⟩
  | 62 => ⟨S_, .f32⟩
  | 63 => ⟨S192x1024, .f32⟩
  | 64 => ⟨S560x1024, .f32⟩
  | 65 => ⟨S208x1024, .f32⟩
  | 66 => ⟨S768x1024, .f32⟩
  | 67 => ⟨S_, .f32⟩
  | 68 => ⟨S768x1024, .f32⟩
  | 69 => ⟨S768x1024, .f32⟩
  | 70 => ⟨S_, .f32⟩
  | 71 => ⟨S768x1024, .f32⟩
  | 72 => ⟨S768x1024, .f32⟩
  | 73 => ⟨S768x1024, .f32⟩
  | 74 => ⟨S_, .f32⟩
  | 75 => ⟨S768x1024, .f32⟩
  | 76 => ⟨S768x1024, .f32⟩
  | 77 => ⟨S768x1024, .f32⟩
  | 78 => ⟨S_, .f32⟩
  | 79 => ⟨S768x1024, .f32⟩
  | 80 => ⟨S768x1024, .f32⟩
  | 81 => ⟨S768x1024, .f32⟩
  | 82 => ⟨S_, .f32⟩
  | 83 => ⟨S768x1024, .f32⟩
  | 84 => ⟨S768x1024, .f32⟩
  | 85 => ⟨S_, .f32⟩
  | 86 => ⟨S768x1024, .f32⟩
  | 87 => ⟨S768x1024, .f32⟩
  | 88 => ⟨S768x1024, .f32⟩
  | 89 => ⟨S_, .f32⟩
  | 90 => ⟨S768x1024, .f32⟩
  | 91 => ⟨S768x1024, .f32⟩
  | 92 => ⟨S768x1024, .f32⟩
  | 93 => ⟨S_, .f32⟩
  | 94 => ⟨S768x1024, .f32⟩
  | 95 => ⟨S768x1024, .f32⟩
  | 96 => ⟨S768x1024, .f32⟩
  | 97 => ⟨S_, .f32⟩
  | 98 => ⟨S768x1024, .f32⟩
  | 99 => ⟨S768x1024, .f32⟩
  | _ => ⟨S8x768x1024, .f32⟩

abbrev hbmTy (i : Nat) : BufTy := match i / 128 with
  | 0 => hbmTy0_0 i
  | 1 => hbmTy0_1 i
  | 2 => hbmTy0_2 i
  | _ => ⟨S8x768x1024, .f32⟩

abbrev bufTy : (tb : Table) → Fin (tcTables nBuf tb) → BufTy
  | .hbm, ⟨i, _⟩ => hbmTy i
  | _, _ => ⟨S8x768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_cst : Ref sig .tc := ⟨.hbm, 49, rfl⟩
abbrev main_v0 : Ref sig .tc := ⟨.hbm, 50, rfl⟩
abbrev main_cst_0 : Ref sig .tc := ⟨.hbm, 51, rfl⟩
abbrev main_v1 : Ref sig .tc := ⟨.hbm, 52, rfl⟩
abbrev main_v2 : Ref sig .tc := ⟨.hbm, 53, rfl⟩
abbrev main_c : Ref sig .tc := ⟨.hbm, 54, rfl⟩
abbrev main_call0_v0 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_c_1 : Ref sig .tc := ⟨.hbm, 59, rfl⟩
abbrev main_call1_v0 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_c_2 : Ref sig .tc := ⟨.hbm, 64, rfl⟩
abbrev main_call2_v0 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_c_3 : Ref sig .tc := ⟨.hbm, 69, rfl⟩
abbrev main_call3_v0 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_c_4 : Ref sig .tc := ⟨.hbm, 74, rfl⟩
abbrev main_call4_v0 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_c_5 : Ref sig .tc := ⟨.hbm, 79, rfl⟩
abbrev main_call5_v0 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_c_6 : Ref sig .tc := ⟨.hbm, 84, rfl⟩
abbrev main_call6_v0 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_c_7 : Ref sig .tc := ⟨.hbm, 89, rfl⟩
abbrev main_call7_v0 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_c_8 : Ref sig .tc := ⟨.hbm, 94, rfl⟩
abbrev main_call8_v0 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_c_9 : Ref sig .tc := ⟨.hbm, 99, rfl⟩
abbrev main_call9_v0 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_c_10 : Ref sig .tc := ⟨.hbm, 104, rfl⟩
abbrev main_call10_v0 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_c_11 : Ref sig .tc := ⟨.hbm, 109, rfl⟩
abbrev main_call11_v0 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_c_12 : Ref sig .tc := ⟨.hbm, 114, rfl⟩
abbrev main_call12_v0 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_c_13 : Ref sig .tc := ⟨.hbm, 119, rfl⟩
abbrev main_call13_v0 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_c_14 : Ref sig .tc := ⟨.hbm, 124, rfl⟩
abbrev main_call14_v0 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_c_15 : Ref sig .tc := ⟨.hbm, 129, rfl⟩
abbrev main_call15_v0 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_c_16 : Ref sig .tc := ⟨.hbm, 134, rfl⟩
abbrev main_call16_v0 : Ref sig .tc := ⟨.hbm, 135, rfl⟩
abbrev main_v51 : Ref sig .tc := ⟨.hbm, 136, rfl⟩
abbrev main_v52 : Ref sig .tc := ⟨.hbm, 137, rfl⟩
abbrev main_cst_17 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_c_18 : Ref sig .tc := ⟨.hbm, 144, rfl⟩
abbrev main_call17_v0 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_c_19 : Ref sig .tc := ⟨.hbm, 149, rfl⟩
abbrev main_call18_v0 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_c_20 : Ref sig .tc := ⟨.hbm, 154, rfl⟩
abbrev main_call19_v0 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_c_21 : Ref sig .tc := ⟨.hbm, 159, rfl⟩
abbrev main_call20_v0 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_c_22 : Ref sig .tc := ⟨.hbm, 164, rfl⟩
abbrev main_call21_v0 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_c_23 : Ref sig .tc := ⟨.hbm, 169, rfl⟩
abbrev main_call22_v0 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_c_24 : Ref sig .tc := ⟨.hbm, 174, rfl⟩
abbrev main_call23_v0 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_c_25 : Ref sig .tc := ⟨.hbm, 179, rfl⟩
abbrev main_call24_v0 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_c_26 : Ref sig .tc := ⟨.hbm, 184, rfl⟩
abbrev main_call25_v0 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_c_27 : Ref sig .tc := ⟨.hbm, 189, rfl⟩
abbrev main_call26_v0 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_c_28 : Ref sig .tc := ⟨.hbm, 194, rfl⟩
abbrev main_call27_v0 : Ref sig .tc := ⟨.hbm, 195, rfl⟩
abbrev main_v88 : Ref sig .tc := ⟨.hbm, 196, rfl⟩
abbrev main_v89 : Ref sig .tc := ⟨.hbm, 197, rfl⟩
abbrev main_v90 : Ref sig .tc := ⟨.hbm, 198, rfl⟩
abbrev main_c_29 : Ref sig .tc := ⟨.hbm, 199, rfl⟩
abbrev main_call28_v0 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_c_30 : Ref sig .tc := ⟨.hbm, 204, rfl⟩
abbrev main_call29_v0 : Ref sig .tc := ⟨.hbm, 205, rfl⟩
abbrev main_v94 : Ref sig .tc := ⟨.hbm, 206, rfl⟩
abbrev main_v95 : Ref sig .tc := ⟨.hbm, 207, rfl⟩
abbrev main_v96 : Ref sig .tc := ⟨.hbm, 208, rfl⟩
abbrev main_c_31 : Ref sig .tc := ⟨.hbm, 209, rfl⟩
abbrev main_call30_v0 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_c_32 : Ref sig .tc := ⟨.hbm, 214, rfl⟩
abbrev main_call31_v0 : Ref sig .tc := ⟨.hbm, 215, rfl⟩
abbrev main_v100 : Ref sig .tc := ⟨.hbm, 216, rfl⟩
abbrev main_v101 : Ref sig .tc := ⟨.hbm, 217, rfl⟩
abbrev main_v102 : Ref sig .tc := ⟨.hbm, 218, rfl⟩
abbrev main_c_33 : Ref sig .tc := ⟨.hbm, 219, rfl⟩
abbrev main_call32_v0 : Ref sig .tc := ⟨.hbm, 220, rfl⟩
abbrev main_v103 : Ref sig .tc := ⟨.hbm, 221, rfl⟩
abbrev main_v104 : Ref sig .tc := ⟨.hbm, 222, rfl⟩
abbrev main_v105 : Ref sig .tc := ⟨.hbm, 223, rfl⟩
abbrev main_c_34 : Ref sig .tc := ⟨.hbm, 224, rfl⟩
abbrev main_call33_v0 : Ref sig .tc := ⟨.hbm, 225, rfl⟩
abbrev main_v106 : Ref sig .tc := ⟨.hbm, 226, rfl⟩
abbrev main_v107 : Ref sig .tc := ⟨.hbm, 227, rfl⟩
abbrev main_cst_35 : Ref sig .tc := ⟨.hbm, 228, rfl⟩
abbrev main_v108 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩
abbrev main_v112 : Ref sig .tc := ⟨.hbm, 233, rfl⟩
abbrev main_c_36 : Ref sig .tc := ⟨.hbm, 234, rfl⟩
abbrev main_call34_v0 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_c_37 : Ref sig .tc := ⟨.hbm, 239, rfl⟩
abbrev main_call35_v0 : Ref sig .tc := ⟨.hbm, 240, rfl⟩
abbrev main_v116 : Ref sig .tc := ⟨.hbm, 241, rfl⟩
abbrev main_v117 : Ref sig .tc := ⟨.hbm, 242, rfl⟩
abbrev main_v118 : Ref sig .tc := ⟨.hbm, 243, rfl⟩
abbrev main_c_38 : Ref sig .tc := ⟨.hbm, 244, rfl⟩
abbrev main_call36_v0 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_c_39 : Ref sig .tc := ⟨.hbm, 249, rfl⟩
abbrev main_call37_v0 : Ref sig .tc := ⟨.hbm, 250, rfl⟩
abbrev main_v122 : Ref sig .tc := ⟨.hbm, 251, rfl⟩
abbrev main_v123 : Ref sig .tc := ⟨.hbm, 252, rfl⟩
abbrev main_v124 : Ref sig .tc := ⟨.hbm, 253, rfl⟩
abbrev main_c_40 : Ref sig .tc := ⟨.hbm, 254, rfl⟩
abbrev main_call38_v0 : Ref sig .tc := ⟨.hbm, 255, rfl⟩
abbrev main_v125 : Ref sig .tc := ⟨.hbm, 256, rfl⟩
abbrev main_v126 : Ref sig .tc := ⟨.hbm, 257, rfl⟩
abbrev main_v127 : Ref sig .tc := ⟨.hbm, 258, rfl⟩
abbrev main_c_41 : Ref sig .tc := ⟨.hbm, 259, rfl⟩
abbrev main_call39_v0 : Ref sig .tc := ⟨.hbm, 260, rfl⟩
abbrev main_v128 : Ref sig .tc := ⟨.hbm, 261, rfl⟩
abbrev main_v129 : Ref sig .tc := ⟨.hbm, 262, rfl⟩
abbrev main_v130 : Ref sig .tc := ⟨.hbm, 263, rfl⟩
abbrev main_c_42 : Ref sig .tc := ⟨.hbm, 264, rfl⟩
abbrev main_call40_v0 : Ref sig .tc := ⟨.hbm, 265, rfl⟩
abbrev main_v131 : Ref sig .tc := ⟨.hbm, 266, rfl⟩
abbrev main_v132 : Ref sig .tc := ⟨.hbm, 267, rfl⟩
abbrev main_v133 : Ref sig .tc := ⟨.hbm, 268, rfl⟩
abbrev main_c_43 : Ref sig .tc := ⟨.hbm, 269, rfl⟩
abbrev main_call41_v0 : Ref sig .tc := ⟨.hbm, 270, rfl⟩
abbrev main_v134 : Ref sig .tc := ⟨.hbm, 271, rfl⟩
abbrev main_v135 : Ref sig .tc := ⟨.hbm, 272, rfl⟩
abbrev main_v136 : Ref sig .tc := ⟨.hbm, 273, rfl⟩
abbrev main_c_44 : Ref sig .tc := ⟨.hbm, 274, rfl⟩
abbrev main_call42_v0 : Ref sig .tc := ⟨.hbm, 275, rfl⟩
abbrev main_v137 : Ref sig .tc := ⟨.hbm, 276, rfl⟩
abbrev main_v138 : Ref sig .tc := ⟨.hbm, 277, rfl⟩
abbrev main_v139 : Ref sig .tc := ⟨.hbm, 278, rfl⟩
abbrev main_c_45 : Ref sig .tc := ⟨.hbm, 279, rfl⟩
abbrev main_call43_v0 : Ref sig .tc := ⟨.hbm, 280, rfl⟩
abbrev main_v140 : Ref sig .tc := ⟨.hbm, 281, rfl⟩
abbrev main_v141 : Ref sig .tc := ⟨.hbm, 282, rfl⟩
abbrev main_v142 : Ref sig .tc := ⟨.hbm, 283, rfl⟩
abbrev main_c_46 : Ref sig .tc := ⟨.hbm, 284, rfl⟩
abbrev main_call44_v0 : Ref sig .tc := ⟨.hbm, 285, rfl⟩
abbrev main_v143 : Ref sig .tc := ⟨.hbm, 286, rfl⟩
abbrev main_v144 : Ref sig .tc := ⟨.hbm, 287, rfl⟩
abbrev main_v145 : Ref sig .tc := ⟨.hbm, 288, rfl⟩
abbrev main_c_47 : Ref sig .tc := ⟨.hbm, 289, rfl⟩
abbrev main_call45_v0 : Ref sig .tc := ⟨.hbm, 290, rfl⟩
abbrev main_v146 : Ref sig .tc := ⟨.hbm, 291, rfl⟩
abbrev main_v147 : Ref sig .tc := ⟨.hbm, 292, rfl⟩
abbrev main_v148 : Ref sig .tc := ⟨.hbm, 293, rfl⟩
abbrev main_c_48 : Ref sig .tc := ⟨.hbm, 294, rfl⟩
abbrev main_call46_v0 : Ref sig .tc := ⟨.hbm, 295, rfl⟩
abbrev main_v149 : Ref sig .tc := ⟨.hbm, 296, rfl⟩
abbrev main_v150 : Ref sig .tc := ⟨.hbm, 297, rfl⟩
abbrev main_v151 : Ref sig .tc := ⟨.hbm, 298, rfl⟩
abbrev main_c_49 : Ref sig .tc := ⟨.hbm, 299, rfl⟩
abbrev main_call47_v0 : Ref sig .tc := ⟨.hbm, 300, rfl⟩
abbrev main_v152 : Ref sig .tc := ⟨.hbm, 301, rfl⟩
abbrev main_v153 : Ref sig .tc := ⟨.hbm, 302, rfl⟩
abbrev main_v154 : Ref sig .tc := ⟨.hbm, 303, rfl⟩
abbrev main_c_50 : Ref sig .tc := ⟨.hbm, 304, rfl⟩
abbrev main_call48_v0 : Ref sig .tc := ⟨.hbm, 305, rfl⟩
abbrev main_v155 : Ref sig .tc := ⟨.hbm, 306, rfl⟩
abbrev main_v156 : Ref sig .tc := ⟨.hbm, 307, rfl⟩
abbrev main_v157 : Ref sig .tc := ⟨.hbm, 308, rfl⟩
abbrev main_c_51 : Ref sig .tc := ⟨.hbm, 309, rfl⟩
abbrev main_call49_v0 : Ref sig .tc := ⟨.hbm, 310, rfl⟩
abbrev main_v158 : Ref sig .tc := ⟨.hbm, 311, rfl⟩
abbrev main_v159 : Ref sig .tc := ⟨.hbm, 312, rfl⟩
abbrev main_v160 : Ref sig .tc := ⟨.hbm, 313, rfl⟩
abbrev main_c_52 : Ref sig .tc := ⟨.hbm, 314, rfl⟩
abbrev main_call50_v0 : Ref sig .tc := ⟨.hbm, 315, rfl⟩
abbrev main_v161 : Ref sig .tc := ⟨.hbm, 316, rfl⟩
abbrev main_v162 : Ref sig .tc := ⟨.hbm, 317, rfl⟩
abbrev main_cst_53 : Ref sig .tc := ⟨.hbm, 318, rfl⟩
abbrev main_v163 : Ref sig .tc := ⟨.hbm, 319, rfl⟩
abbrev main_v164 : Ref sig .tc := ⟨.hbm, 320, rfl⟩
abbrev main_v165 : Ref sig .tc := ⟨.hbm, 321, rfl⟩
abbrev main_v166 : Ref sig .tc := ⟨.hbm, 322, rfl⟩
abbrev main_cst_54 : Ref sig .tc := ⟨.hbm, 323, rfl⟩
abbrev main_v167 : Ref sig .tc := ⟨.hbm, 324, rfl⟩
abbrev main_v168 : Ref sig .tc := ⟨.hbm, 325, rfl⟩
abbrev main_cst_55 : Ref sig .tc := ⟨.hbm, 326, rfl⟩
abbrev main_v169 : Ref sig .tc := ⟨.hbm, 327, rfl⟩
abbrev main_v170 : Ref sig .tc := ⟨.hbm, 328, rfl⟩
abbrev main_v171 : Ref sig .tc := ⟨.hbm, 329, rfl⟩
abbrev main_cst_56 : Ref sig .tc := ⟨.hbm, 330, rfl⟩
abbrev main_v172 : Ref sig .tc := ⟨.hbm, 331, rfl⟩
abbrev main_v173 : Ref sig .tc := ⟨.hbm, 332, rfl⟩
abbrev main_v174 : Ref sig .tc := ⟨.hbm, 333, rfl⟩
abbrev main_cst_57 : Ref sig .tc := ⟨.hbm, 334, rfl⟩
abbrev main_v175 : Ref sig .tc := ⟨.hbm, 335, rfl⟩
abbrev main_v176 : Ref sig .tc := ⟨.hbm, 336, rfl⟩
abbrev main_v177 : Ref sig .tc := ⟨.hbm, 337, rfl⟩
abbrev main_cst_58 : Ref sig .tc := ⟨.hbm, 338, rfl⟩
abbrev main_v178 : Ref sig .tc := ⟨.hbm, 339, rfl⟩
abbrev main_v179 : Ref sig .tc := ⟨.hbm, 340, rfl⟩
abbrev main_cst_59 : Ref sig .tc := ⟨.hbm, 341, rfl⟩
abbrev main_v180 : Ref sig .tc := ⟨.hbm, 342, rfl⟩
abbrev main_v181 : Ref sig .tc := ⟨.hbm, 343, rfl⟩
abbrev main_v182 : Ref sig .tc := ⟨.hbm, 344, rfl⟩
abbrev main_cst_60 : Ref sig .tc := ⟨.hbm, 345, rfl⟩
abbrev main_v183 : Ref sig .tc := ⟨.hbm, 346, rfl⟩
abbrev main_v184 : Ref sig .tc := ⟨.hbm, 347, rfl⟩
abbrev main_v185 : Ref sig .tc := ⟨.hbm, 348, rfl⟩
abbrev main_cst_61 : Ref sig .tc := ⟨.hbm, 349, rfl⟩
abbrev main_v186 : Ref sig .tc := ⟨.hbm, 350, rfl⟩
abbrev main_v187 : Ref sig .tc := ⟨.hbm, 351, rfl⟩
abbrev main_v188 : Ref sig .tc := ⟨.hbm, 352, rfl⟩
abbrev main_cst_62 : Ref sig .tc := ⟨.hbm, 353, rfl⟩
abbrev main_v189 : Ref sig .tc := ⟨.hbm, 354, rfl⟩
abbrev main_v190 : Ref sig .tc := ⟨.hbm, 355, rfl⟩

abbrev nD : Nat := 1
abbrev τ : Topo := Topo.v7x

variable {F : FTy → Type} [FloatOps F]
-- ==== Proof.Rows.lean ====
/-
  A block of a matrix cut into blocks of whole rows, read at an index of the block.
-/
module

public import Idealize.ShloMosaic.Lib.Pointwise

@[expose] public section

namespace Cert.Rows

open Idealize.ShloMosaic

/-- Indices with the same coordinates, read at one place's block: block index times block length plus the coordinate. -/
theorem ix2_of {n0 n1 w0 w1 k0 k1 b0 b1 j0 j1 : ℕ} {z : (⟨2, ![n0, n1]⟩ : Shape).Idx} {r0 : Fin n0} {r1 : Fin n1} (hi : w0 = k0 ∧ w1 = k1)
    (h0 : r0.val = k0 * b0 + j0) (h1 : r1.val = k1 * b1 + j1) (e0 : (z 0 : ℕ) = w0 * b0 + 1 * j0) (e1 : (z 1 : ℕ) = w1 * b1 + 1 * j1) :
    z = ix2 r0 r1 := by
  funext a
  apply Fin.ext
  match a with
  | ⟨0, _⟩ => show (z 0 : ℕ) = r0.val; rw [e0, h0, hi.1]; omega
  | ⟨1, _⟩ => show (z 1 : ℕ) = r1.val; rw [e1, h1, hi.2]; omega

/-- The same with three axes. -/
theorem ix3_of {n0 n1 n2 w0 w1 w2 k0 k1 k2 b0 b1 b2 j0 j1 j2 : ℕ} {z : (⟨3, ![n0, n1, n2]⟩ : Shape).Idx} {r0 : Fin n0} {r1 : Fin n1} {r2 : Fin n2}
    (hi : w0 = k0 ∧ w1 = k1 ∧ w2 = k2)
    (h0 : r0.val = k0 * b0 + j0) (h1 : r1.val = k1 * b1 + j1) (h2 : r2.val = k2 * b2 + j2)
    (e0 : (z 0 : ℕ) = w0 * b0 + 1 * j0) (e1 : (z 1 : ℕ) = w1 * b1 + 1 * j1) (e2 : (z 2 : ℕ) = w2 * b2 + 1 * j2) : z = ix3 r0 r1 r2 := by
  funext a
  apply Fin.ext
  match a with
  | ⟨0, _⟩ => show (z 0 : ℕ) = r0.val; rw [e0, h0, hi.1]; omega
  | ⟨1, _⟩ => show (z 1 : ℕ) = r1.val; rw [e1, h1, hi.2.1]; omega
  | ⟨2, _⟩ => show (z 2 : ℕ) = r2.val; rw [e2, h2, hi.2.2]; omega

/-- A block's contents `o` agree with the matrix `e` at every index, if they do at a row and a column. -/
theorem at_rows {α : Type} {n0 n1 b0 b1 w0 w1 k0 k1 : ℕ} (o : (⟨2, ![b0, b1]⟩ : Shape).Idx → α) (e : (⟨2, ![n0, n1]⟩ : Shape).Idx → α)
    (hi : w0 = k0 ∧ w1 = k1)
    (h : ∀ (j : Fin b0) (p : Fin b1) (r : Fin n0) (q : Fin n1), r.val = k0 * b0 + j.val → q.val = k1 * b1 + p.val → o (ix2 j p) = e (ix2 r q))
    (y : (⟨2, ![b0, b1]⟩ : Shape).Idx) (z : (⟨2, ![n0, n1]⟩ : Shape).Idx)
    (e0 : (z 0 : ℕ) = w0 * b0 + 1 * (y 0 : ℕ)) (e1 : (z 1 : ℕ) = w1 * b1 + 1 * (y 1 : ℕ)) : o y = e z := by
  have hy : y = ix2 (y 0) (y 1) := by
    funext a
    match a with
    | ⟨0, _⟩ => rfl
    | ⟨1, _⟩ => rfl
  have h0 : (z 0).val = k0 * b0 + (y 0).val := by rw [e0, hi.1]; omega
  have h1 : (z 1).val = k1 * b1 + (y 1).val := by rw [e1, hi.2]; omega
  exact (congrArg o hy).trans ((h (y 0) (y 1) (z 0) (z 1) h0 h1).trans (congrArg e (ix2_of hi h0 h1 e0 e1)).symm)

end Cert.Rows

end
-- ==== Proof.Canon.lean ====
/-
  Two readings of the contents that a list of rectangular stores leaves (`View.canon`), at one index: inside the last
  store's rectangle, and beside it.
-/
module

public import Idealize.ShloMosaic.Lib.Pipeline.Value
public import Idealize.ShloMosaic.Lib.Pointwise

@[expose] public section

namespace Cert.Canon

open Idealize.ShloMosaic

variable {Val : EltTy → Type} {S : Shape} {e : EltTy}

/-- At an index `y` that lies in the last store's rectangle at its local index `x`, the contents are that store's value at `x`. -/
theorem canon_in [∀ e, Nonempty (Val e)] (off size : Fin S.rank → ℕ) (inb : ∀ a, off a + size a ≤ S.size a)
    (w : (Rect.unit off size inb).shape.Idx → Val e) (L : List (View.Piece Val S e)) (y : S.Idx)
    (x : (Rect.unit off size inb).shape.Idx) (h : ∀ a, (y a).val = off a + (x a).val) :
    View.canon ((⟨Rect.unit off size inb, w⟩ : View.Piece Val S e) :: L) y = w x := by
  have hy : y = (Rect.unit off size inb).emb x := by
    funext a
    apply Fin.ext
    rw [h a]
    show off a + (x a).val = off a + 1 * (x a).val
    omega
  rw [hy, View.canon_cons_emb]

/-- At an index that the last store's rectangle does not hold, the contents are what the earlier stores left. -/
theorem canon_out [∀ e, Nonempty (Val e)] (off size : Fin S.rank → ℕ) (inb : ∀ a, off a + size a ≤ S.size a)
    (w : (Rect.unit off size inb).shape.Idx → Val e) (L : List (View.Piece Val S e)) (y : S.Idx)
    (a : Fin S.rank) (h : (y a).val < off a ∨ off a + size a ≤ (y a).val) :
    View.canon ((⟨Rect.unit off size inb, w⟩ : View.Piece Val S e) :: L) y = View.canon L y := by
  refine View.canon_cons_of_not_mem _ _ ?_
  rw [Rect.mem_set_unit]
  intro hm
  have := hm a
  omega

/-- The same inside the last store's rectangle, for stores made over any contents `f` and read through a view. -/
theorem read_in {sig : RefSig} {κ : Kind} {sp : Space} (v : View sig κ sp S e) (f : v.ty.Contents Val)
    (off size : Fin S.rank → ℕ) (inb : ∀ a, off a + size a ≤ S.size a)
    (w : (Rect.unit off size inb).shape.Idx → Val e) (L : List (View.Piece Val S e)) (y : S.Idx)
    (x : (Rect.unit off size inb).shape.Idx) (h : ∀ a, (y a).val = off a + (x a).val) :
    v.read Val (v.writes Val f ((⟨Rect.unit off size inb, w⟩ : View.Piece Val S e) :: L)) y = w x := by
  have hy : y = (Rect.unit off size inb).emb x := by
    funext a
    apply Fin.ext
    rw [h a]
    show off a + (x a).val = off a + 1 * (x a).val
    omega
  rw [hy, View.read_writes_cons_emb]

/-- The same beside the last store's rectangle, for stores made over any contents `f` and read through a view. -/
theorem read_out {sig : RefSig} {κ : Kind} {sp : Space} (v : View sig κ sp S e) (f : v.ty.Contents Val)
    (off size : Fin S.rank → ℕ) (inb : ∀ a, off a + size a ≤ S.size a)
    (w : (Rect.unit off size inb).shape.Idx → Val e) (L : List (View.Piece Val S e)) (y : S.Idx)
    (a : Fin S.rank) (h : (y a).val < off a ∨ off a + size a ≤ (y a).val) :
    v.read Val (v.writes Val f ((⟨Rect.unit off size inb, w⟩ : View.Piece Val S e) :: L)) y = v.read Val (v.writes Val f L) y := by
  have hm : y ∉ Finset.univ.map (Rect.unit off size inb).emb := by
    rw [Rect.map_emb_univ, Rect.mem_set_unit]
    intro hm
    have := hm a
    omega
  rw [View.writes_cons, View.read_slice_write_of_not_mem _ _ _ _ hm]

/-- A sum over `a` blocks of `b` consecutive numbers is the sum over the `a * b` numbers. -/
theorem sum_blocks {M : Type} [AddCommMonoid M] (a b : ℕ) (f : ℕ → M) :
    ∑ p ∈ Finset.range a, ∑ j : Fin b, f (b * p + j.val) = ∑ r : Fin (a * b), f r.val := by
  rw [Finset.sum_range, ← finProdFinEquiv.sum_comp, Fintype.sum_prod_type]
  refine Finset.sum_congr rfl fun p _ => Finset.sum_congr rfl fun j _ => ?_
  rw [finProdFinEquiv_apply_val, Nat.add_comm]

end Cert.Canon

end
-- ==== Proof.ConvBlock.lean ====
/-
  What one grid point of the convolution's backward call leaves in its two output blocks, at an index and over the
  extended reals. The body keeps, in one scratch buffer, the products `c * x` of its 512 rows below those of the 8 rows
  before them, and in another the products `do * b` of its rows above those of the 8 rows after them; `above` and `below`
  read these two buffers. The three taps of the filter are then read at the row offsets 6, 7, 8 of the first buffer (the
  forward convolution) and 0, 1, 2 of the second (its transpose).
-/
module

public import proofs.«01_k».proof.Proof.Gen.KernelIdeal.Value
public import proofs.«01_k».proof.Proof.Canon
public import Idealize.ShloMosaic.Lib.Tactic
public import Idealize.ShloMosaic.Lib.Pointwise

@[expose] public section

set_option maxRecDepth 16384

noncomputable section

namespace Cert.KernelIdeal.Conv

open Cert.KernelIdeal Cert.KernelIdeal.Gen Idealize.ShloMosaic Idealize.ShloMosaic.TcCoe Idealize.SL.Sem
open Cert.Canon

/-- Row `n` of the first scratch buffer: the products `c * x` of the 8 rows before the block (zero at the first block), then
    those of the block's own rows. -/
def above (i : grid0.Coords) (x2 x3 : Vec Ideal S512x512 .f32) (x4 x5 : Vec Ideal S8x512 .f32) (n : ℕ) (l : Fin 512) : EReal :=
  if h : n < 8 then (if 0 < (i 0).val then x4 (ix2 ⟨n, h⟩ l) * x5 (ix2 ⟨n, h⟩ l) else 0)
  else if h' : n - 8 < 512 then x2 (ix2 ⟨n - 8, h'⟩ l) * x3 (ix2 ⟨n - 8, h'⟩ l) else 0

/-- Row `n` of the second scratch buffer: the products `do * b` of the block's own rows, then those of the 8 rows after it (zero
    at the last block). -/
def below (i : grid0.Coords) (x0 x1 : Vec Ideal S512x512 .f32) (x6 x7 : Vec Ideal S8x512 .f32) (n : ℕ) (l : Fin 512) : EReal :=
  if h : n < 512 then x0 (ix2 ⟨n, h⟩ l) * x1 (ix2 ⟨n, h⟩ l)
  else if h' : n - 512 < 8 then (if (i 0).val < 31 then x6 (ix2 ⟨n - 512, h'⟩ l) * x7 (ix2 ⟨n - 512, h'⟩ l) else 0) else 0

/-- The forward convolution at row `j` of the block. -/
def convY (w : Vec Ideal S1x3x512 .f32) (z : ℕ → Fin 512 → EReal) (j : ℕ) (l : Fin 512) : EReal :=
  w (ix3 0 0 l) * z (j + 6) l + w (ix3 0 1 l) * z (j + 7) l + w (ix3 0 2 l) * z (j + 8) l

/-- The transposed convolution at row `j` of the block. -/
def convZ (w : Vec Ideal S1x3x512 .f32) (d : ℕ → Fin 512 → EReal) (j : ℕ) (l : Fin 512) : EReal :=
  w (ix3 0 2 l) * d j l + w (ix3 0 1 l) * d (j + 1) l + w (ix3 0 0 l) * d (j + 2) l

/-- The `scf` guard of the rows before the block: the point's coordinate is positive. -/
theorem guard_above (i : grid0.Coords) (a b : EReal) :
    Scalar.select (Scalar.cmpi .sgt (BitVec.ofNat 32 (i 0).val) 0#32) a b = if 0 < (i 0).val then a else b := by
  have hi : (i 0).val < 32 := (i 0).isLt
  generalize (i 0).val = n at hi
  interval_cases n <;> rfl

/-- The guard of the rows after the block: the point's coordinate is not the last. -/
theorem guard_below (i : grid0.Coords) (a b : EReal) :
    Scalar.select (Scalar.cmpi .slt (BitVec.ofNat 32 (i 0).val) 31#32) a b = if (i 0).val < 31 then a else b := by
  have hi : (i 0).val < 32 := (i 0).isLt
  generalize (i 0).val = n at hi
  interval_cases n <;> rfl

/-- A read of 512 rows of the first scratch buffer from row `k` on (`k` at most 8). -/
theorem read_above (v : View sig .tc .vmem S520x512 .f32) (i : grid0.Coords) (x2 x3 : Vec Ideal S512x512 .f32)
    (x4 x5 : Vec Ideal S8x512 .f32) (k : ℕ) (hk : k ≤ 8) (i1 i2 i3) (j l : Fin 512) :
    v.readCov (Val := Elt Ideal) [⟨Rect.unit ![8, 0] S512x512.size i1, k0_pay9 x2 x3⟩, ⟨Rect.unit ![0, 0] S8x512.size i2, k0_pay8 i x4 x5⟩]
      (Rect.unit (s := S520x512) ![k, 0] S512x512.size i3).toLoadRect (ix2 j l) = above i x2 x3 x4 x5 (j.val + k) l := by
  rw [View.readCov_eq_canon']
  dsimp only
  unfold above
  have hj := j.isLt
  by_cases h : j.val + k < 8
  · rw [dif_pos h, canon_out _ _ _ _ _ _ (0 : Fin 2) (Or.inl (by show k + 1 * j.val < 8; omega)),
      canon_in (Val := Elt Ideal) (S := S520x512) (e := .f32) ![0, 0] ![8, 512] i2 (k0_pay8 i x4 x5) [] _ (ix2 (⟨j.val + k, h⟩ : Fin 8) l)
        (fun a => by match a with
          | ⟨0, _⟩ => show k + 1 * j.val = 0 + (j.val + k); omega
          | ⟨1, _⟩ => show 0 + 1 * l.val = 0 + l.val; omega)]
    pointwise [k0_pay8]
    exact guard_above i _ _
  · have h' : j.val + k - 8 < 512 := by omega
    rw [dif_neg h, dif_pos h', canon_in (Val := Elt Ideal) (S := S520x512) (e := .f32) ![8, 0] ![512, 512] i1 (k0_pay9 x2 x3) _ _ (ix2 (⟨j.val + k - 8, h'⟩ : Fin 512) l)
        (fun a => by match a with
          | ⟨0, _⟩ => show k + 1 * j.val = 8 + (j.val + k - 8); omega
          | ⟨1, _⟩ => show 0 + 1 * l.val = 0 + l.val; omega)]
    pointwise [k0_pay9, k0_pay7]

/-- A read of 512 rows of the second scratch buffer from row `k` on (`k` at most 8). -/
theorem read_below (v : View sig .tc .vmem S520x512 .f32) (i : grid0.Coords) (x0 x1 : Vec Ideal S512x512 .f32)
    (x6 x7 : Vec Ideal S8x512 .f32) (k : ℕ) (hk : k ≤ 8) (i1 i2 i3) (j l : Fin 512) :
    v.readCov (Val := Elt Ideal) [⟨Rect.unit ![512, 0] S8x512.size i1, k0_pay17 (BitVec.ofNat 32 (i 0).val) x6 x7⟩, ⟨Rect.unit ![0, 0] S512x512.size i2, k0_pay16 x0 x1⟩]
      (Rect.unit (s := S520x512) ![k, 0] S512x512.size i3).toLoadRect (ix2 j l) = below i x0 x1 x6 x7 (j.val + k) l := by
  rw [View.readCov_eq_canon']
  dsimp only
  unfold below
  have hj := j.isLt
  by_cases h : j.val + k < 512
  · rw [dif_pos h, canon_out _ _ _ _ _ _ (0 : Fin 2) (Or.inl (by show k + 1 * j.val < 512; omega)),
      canon_in (Val := Elt Ideal) (S := S520x512) (e := .f32) ![0, 0] ![512, 512] i2 (k0_pay16 x0 x1) [] _ (ix2 (⟨j.val + k, h⟩ : Fin 512) l)
        (fun a => by match a with
          | ⟨0, _⟩ => show k + 1 * j.val = 0 + (j.val + k); omega
          | ⟨1, _⟩ => show 0 + 1 * l.val = 0 + l.val; omega)]
    pointwise [k0_pay16, k0_pay15]
  · have h' : j.val + k - 512 < 8 := by omega
    rw [dif_neg h, dif_pos h', canon_in (Val := Elt Ideal) (S := S520x512) (e := .f32) ![512, 0] ![8, 512] i1 (k0_pay17 (BitVec.ofNat 32 (i 0).val) x6 x7) _ _ (ix2 (⟨j.val + k - 512, h'⟩ : Fin 8) l)
        (fun a => by match a with
          | ⟨0, _⟩ => show k + 1 * j.val = 512 + (j.val + k - 512); omega
          | ⟨1, _⟩ => show 0 + 1 * l.val = 0 + l.val; omega)]
    pointwise [k0_pay17]
    exact guard_below i _ _

theorem hz : (![0, 0] : Fin 2 → ℕ) = fun _ => 0 := funext fun a => by fin_cases a <;> rfl

/-- At the block's own rows the first buffer holds the block's products. -/
theorem above_own (i : grid0.Coords) (x2 x3 : Vec Ideal S512x512 .f32) (x4 x5 : Vec Ideal S8x512 .f32) (j l : Fin 512) :
    above i x2 x3 x4 x5 (j.val + 8) l = x2 (ix2 j l) * x3 (ix2 j l) := by
  unfold above
  rw [dif_neg (by omega), dif_pos (by have := j.isLt; omega)]
  simp only [Nat.add_sub_cancel]

/-- At the block's own rows the second buffer holds the block's products. -/
theorem below_own (i : grid0.Coords) (x0 x1 : Vec Ideal S512x512 .f32) (x6 x7 : Vec Ideal S8x512 .f32) (j l : Fin 512) :
    below i x0 x1 x6 x7 j.val l = x0 (ix2 j l) * x1 (ix2 j l) := by
  unfold below
  rw [dif_pos j.isLt]

/-- What a block adds to row `k` of the filter's gradient: the sum over the block's rows of `do * b` against the products `c * x` of the row
that tap `k` reads; nothing beyond the three taps. -/
def taps (d z : ℕ → Fin 512 → EReal) (k : ℕ) (l : Fin 512) : EReal :=
  if k < 3 then ∑ j : Fin 512, d j.val l * z (j.val + (6 + k)) l else 0

theorem taps_lt (d z : ℕ → Fin 512 → EReal) (k : ℕ) (h : k < 3) (l : Fin 512) :
    taps d z k l = ∑ j : Fin 512, d j.val l * z (j.val + (6 + k)) l := if_pos h
theorem taps_ge (d z : ℕ → Fin 512 → EReal) (k : ℕ) (h : ¬k < 3) (l : Fin 512) : taps d z k l = 0 := if_neg h

/-- The gradient block that a point leaves (the first point): the passed-through gradient, then those of the gate `b`, of `c` and
    of `x`. -/
theorem dh_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S512x512 .f32) (harg9 : arg9.IsWhole) (arg10 : Memref sig .tc .vmem S1x3x512 .f32) (harg10 : arg10.IsWhole) (arg11 : Memref sig .tc .vmem S512x2048 .bf16) (harg11 : arg11.IsWhole) (arg12 : Memref sig .tc .vmem S8x512 .f32) (harg12 : arg12.IsWhole) (arg13 : Memref sig .tc .vmem S520x512 .f32) (harg13 : arg13.IsWhole) (arg14 : Memref sig .tc .vmem S520x512 .f32) (harg14 : arg14.IsWhole) (hc0 : cond0_0 i)
    (x0 : Vec Ideal S512x512 .f32) (x1 : Vec Ideal S512x512 .f32) (x2 : Vec Ideal S512x512 .f32) (x3 : Vec Ideal S512x512 .f32) (x4 : Vec Ideal S8x512 .f32) (x5 : Vec Ideal S8x512 .f32) (x6 : Vec Ideal S8x512 .f32) (x7 : Vec Ideal S8x512 .f32) (x8 : Vec Ideal S512x512 .f32) (x9 : Vec Ideal S1x3x512 .f32) (j : Fin 512) (q : Fin 2048) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 j q)
      = if h : q.val < 512 then x8 (ix2 j ⟨q.val, h⟩)
        else if h : q.val - 512 < 512 then x0 (ix2 j ⟨q.val - 512, h⟩) * convY x9 (above i x2 x3 x4 x5) j.val ⟨q.val - 512, h⟩
        else if h : q.val - 1024 < 512 then convZ x9 (below i x0 x1 x6 x7) j.val ⟨q.val - 1024, h⟩ * x3 (ix2 j ⟨q.val - 1024, h⟩)
        else if h : q.val - 1536 < 512 then convZ x9 (below i x0 x1 x6 x7) j.val ⟨q.val - 1536, h⟩ * x2 (ix2 j ⟨q.val - 1536, h⟩) else 0 := by
  have hq := q.isLt
  have hj := j.isLt
  unfold out0_A_10
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S8x512) hz]
  by_cases h1 : q.val < 512
  · rw [dif_pos h1, canon_out _ _ _ _ _ _ (1 : Fin 2) (Or.inl (by show q.val < 1536; omega)), canon_out _ _ _ _ _ _ (1 : Fin 2) (Or.inl (by show q.val < 1024; omega)),
      canon_out _ _ _ _ _ _ (1 : Fin 2) (Or.inl (by show q.val < 512; omega)),
      canon_in _ _ _ _ _ _ (ix2 j (⟨q.val, h1⟩ : Fin 512)) (fun a => by match a with
        | ⟨0, _⟩ => show j.val = 0 + j.val; omega
        | ⟨1, _⟩ => show q.val = 0 + q.val; omega)]
    pointwise [k0_pay19]
  rw [dif_neg h1]
  by_cases h2 : q.val - 512 < 512
  · rw [dif_pos h2, canon_out _ _ _ _ _ _ (1 : Fin 2) (Or.inl (by show q.val < 1536; omega)), canon_out _ _ _ _ _ _ (1 : Fin 2) (Or.inl (by show q.val < 1024; omega)),
      canon_in _ _ _ _ _ _ (ix2 j (⟨q.val - 512, h2⟩ : Fin 512)) (fun a => by match a with
        | ⟨0, _⟩ => show j.val = 0 + j.val; omega
        | ⟨1, _⟩ => show q.val = 512 + (q.val - 512); omega)]
    unfold convY
    rw [above_own]
    pointwise [k0_pay20, k0_pay13, k0_pay14, k0_pay10, k0_pay11, k0_pay12, k0_pay7]
    rw [read_above _ _ _ _ _ _ 6 (by omega), read_above _ _ _ _ _ _ 7 (by omega)]
  rw [dif_neg h2]
  by_cases h3 : q.val - 1024 < 512
  · rw [dif_pos h3, canon_out _ _ _ _ _ _ (1 : Fin 2) (Or.inl (by show q.val < 1536; omega)),
      canon_in _ _ _ _ _ _ (ix2 j (⟨q.val - 1024, h3⟩ : Fin 512)) (fun a => by match a with
        | ⟨0, _⟩ => show j.val = 0 + j.val; omega
        | ⟨1, _⟩ => show q.val = 1024 + (q.val - 1024); omega)]
    unfold convZ
    rw [below_own]
    pointwise [k0_pay1, k0_pay18, k0_pay10, k0_pay11, k0_pay12, k0_pay15]
    rw [read_below _ _ _ _ _ _ 1 (by omega), read_below _ _ _ _ _ _ 2 (by omega)]
  rw [dif_neg h3]
  have h4 : q.val - 1536 < 512 := by omega
  rw [dif_pos h4, canon_in _ _ _ _ _ _ (ix2 j (⟨q.val - 1536, h4⟩ : Fin 512)) (fun a => by match a with
        | ⟨0, _⟩ => show j.val = 0 + j.val; omega
        | ⟨1, _⟩ => show q.val = 1536 + (q.val - 1536); omega)]
  unfold convZ
  rw [below_own]
  pointwise [k0_pay2, k0_pay18, k0_pay10, k0_pay11, k0_pay12, k0_pay15]
  rw [read_below _ _ _ _ _ _ 1 (by omega), read_below _ _ _ _ _ _ 2 (by omega)]

/-- The gradient block that a point leaves (a later point): the passed-through gradient, then those of the gate `b`, of `c` and
    of `x`. -/
theorem dh_B (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S512x512 .f32) (harg9 : arg9.IsWhole) (arg10 : Memref sig .tc .vmem S1x3x512 .f32) (harg10 : arg10.IsWhole) (arg11 : Memref sig .tc .vmem S512x2048 .bf16) (harg11 : arg11.IsWhole) (arg12 : Memref sig .tc .vmem S8x512 .f32) (harg12 : arg12.IsWhole) (arg13 : Memref sig .tc .vmem S520x512 .f32) (harg13 : arg13.IsWhole) (arg14 : Memref sig .tc .vmem S520x512 .f32) (harg14 : arg14.IsWhole) (hc0 : ¬cond0_0 i)
    (x0 : Vec Ideal S512x512 .f32) (x1 : Vec Ideal S512x512 .f32) (x2 : Vec Ideal S512x512 .f32) (x3 : Vec Ideal S512x512 .f32) (x4 : Vec Ideal S8x512 .f32) (x5 : Vec Ideal S8x512 .f32) (x6 : Vec Ideal S8x512 .f32) (x7 : Vec Ideal S8x512 .f32) (x8 : Vec Ideal S512x512 .f32) (x9 : Vec Ideal S1x3x512 .f32) (xo11 : Vec Ideal S8x512 .f32) (j : Fin 512) (q : Fin 2048) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 (ix2 j q)
      = if h : q.val < 512 then x8 (ix2 j ⟨q.val, h⟩)
        else if h : q.val - 512 < 512 then x0 (ix2 j ⟨q.val - 512, h⟩) * convY x9 (above i x2 x3 x4 x5) j.val ⟨q.val - 512, h⟩
        else if h : q.val - 1024 < 512 then convZ x9 (below i x0 x1 x6 x7) j.val ⟨q.val - 1024, h⟩ * x3 (ix2 j ⟨q.val - 1024, h⟩)
        else if h : q.val - 1536 < 512 then convZ x9 (below i x0 x1 x6 x7) j.val ⟨q.val - 1536, h⟩ * x2 (ix2 j ⟨q.val - 1536, h⟩) else 0 := by
  have hq := q.isLt
  have hj := j.isLt
  unfold out0_B_10
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S8x512) hz]
  by_cases h1 : q.val < 512
  · rw [dif_pos h1, canon_out _ _ _ _ _ _ (1 : Fin 2) (Or.inl (by show q.val < 1536; omega)), canon_out _ _ _ _ _ _ (1 : Fin 2) (Or.inl (by show q.val < 1024; omega)),
      canon_out _ _ _ _ _ _ (1 : Fin 2) (Or.inl (by show q.val < 512; omega)),
      canon_in _ _ _ _ _ _ (ix2 j (⟨q.val, h1⟩ : Fin 512)) (fun a => by match a with
        | ⟨0, _⟩ => show j.val = 0 + j.val; omega
        | ⟨1, _⟩ => show q.val = 0 + q.val; omega)]
    pointwise [k0_pay19]
  rw [dif_neg h1]
  by_cases h2 : q.val - 512 < 512
  · rw [dif_pos h2, canon_out _ _ _ _ _ _ (1 : Fin 2) (Or.inl (by show q.val < 1536; omega)), canon_out _ _ _ _ _ _ (1 : Fin 2) (Or.inl (by show q.val < 1024; omega)),
      canon_in _ _ _ _ _ _ (ix2 j (⟨q.val - 512, h2⟩ : Fin 512)) (fun a => by match a with
        | ⟨0, _⟩ => show j.val = 0 + j.val; omega
        | ⟨1, _⟩ => show q.val = 512 + (q.val - 512); omega)]
    unfold convY
    rw [above_own]
    pointwise [k0_pay20, k0_pay13, k0_pay14, k0_pay10, k0_pay11, k0_pay12, k0_pay7]
    rw [read_above _ _ _ _ _ _ 6 (by omega), read_above _ _ _ _ _ _ 7 (by omega)]
  rw [dif_neg h2]
  by_cases h3 : q.val - 1024 < 512
  · rw [dif_pos h3, canon_out _ _ _ _ _ _ (1 : Fin 2) (Or.inl (by show q.val < 1536; omega)),
      canon_in _ _ _ _ _ _ (ix2 j (⟨q.val - 1024, h3⟩ : Fin 512)) (fun a => by match a with
        | ⟨0, _⟩ => show j.val = 0 + j.val; omega
        | ⟨1, _⟩ => show q.val = 1024 + (q.val - 1024); omega)]
    unfold convZ
    rw [below_own]
    pointwise [k0_pay1, k0_pay18, k0_pay10, k0_pay11, k0_pay12, k0_pay15]
    rw [read_below _ _ _ _ _ _ 1 (by omega), read_below _ _ _ _ _ _ 2 (by omega)]
  rw [dif_neg h3]
  have h4 : q.val - 1536 < 512 := by omega
  rw [dif_pos h4, canon_in _ _ _ _ _ _ (ix2 j (⟨q.val - 1536, h4⟩ : Fin 512)) (fun a => by match a with
        | ⟨0, _⟩ => show j.val = 0 + j.val; omega
        | ⟨1, _⟩ => show q.val = 1536 + (q.val - 1536); omega)]
  unfold convZ
  rw [below_own]
  pointwise [k0_pay2, k0_pay18, k0_pay10, k0_pay11, k0_pay12, k0_pay15]
  rw [read_below _ _ _ _ _ _ 1 (by omega), read_below _ _ _ _ _ _ 2 (by omega)]

/-- The filter's gradient after a point (the first point: over zero). -/
theorem dw_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S512x512 .f32) (harg9 : arg9.IsWhole) (arg10 : Memref sig .tc .vmem S1x3x512 .f32) (harg10 : arg10.IsWhole) (arg11 : Memref sig .tc .vmem S512x2048 .bf16) (harg11 : arg11.IsWhole) (arg12 : Memref sig .tc .vmem S8x512 .f32) (harg12 : arg12.IsWhole) (arg13 : Memref sig .tc .vmem S520x512 .f32) (harg13 : arg13.IsWhole) (arg14 : Memref sig .tc .vmem S520x512 .f32) (harg14 : arg14.IsWhole) (hc0 : cond0_0 i)
    (x0 : Vec Ideal S512x512 .f32) (x1 : Vec Ideal S512x512 .f32) (x2 : Vec Ideal S512x512 .f32) (x3 : Vec Ideal S512x512 .f32) (x4 : Vec Ideal S8x512 .f32) (x5 : Vec Ideal S8x512 .f32) (x6 : Vec Ideal S8x512 .f32) (x7 : Vec Ideal S8x512 .f32) (x8 : Vec Ideal S512x512 .f32) (x9 : Vec Ideal S1x3x512 .f32) (k : Fin 8) (l : Fin 512) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 k l) = 0 + taps (below i x0 x1 x6 x7) (above i x2 x3 x4 x5) k.val l := by
  have hk := k.isLt
  unfold out0_A_11
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S8x512) hz]
  by_cases h2 : k.val = 2
  · obtain rfl : k = (⟨2, by decide⟩ : Fin 8) := Fin.ext h2
    rw [taps_lt _ _ _ (by decide)]
    rw [canon_in _ _ _ _ _ _ (ix2 (0 : Fin 1) l) (fun a => by match a with
        | ⟨0, _⟩ => rfl
        | ⟨1, _⟩ => show l.val = 0 + l.val; omega)]
    pointwise [k0_pay6]
    refine Eq.trans (congrArg₂ (· + ·) (?_ : _ = (0 : EReal)) ?_) (zero_add _)
    · rw [View.readCov_eq_canon']
      dsimp only
      rw [canon_out _ _ _ _ _ _ (0 : Fin 2) (by show 2 + 1 * 0 < 1 ∨ 1 + 1 ≤ 2 + 1 * 0; omega), canon_out _ _ _ _ _ _ (0 : Fin 2) (by show 2 + 1 * 0 < 0 ∨ 0 + 1 ≤ 2 + 1 * 0; omega), canon_in (Val := Elt Ideal) (S := S8x512) (e := .f32) ![0, 0] ![8, 512] inb_S8x512_S8x512_0_0 (k0_pay3 (F := Ideal)) [] _ (ix2 (⟨2, by decide⟩ : Fin 8) l) (fun a => by match a with
        | ⟨0, _⟩ => rfl
        | ⟨1, _⟩ => show 0 + 1 * l.val = 0 + l.val; omega)]
      pointwise [k0_pay3]
    refine Finset.sum_congr rfl fun x _ => ?_
    rw [below_own]
    refine Eq.trans ?_ (congrArg _ (above_own i x2 x3 x4 x5 x l).symm)
    pointwise [k0_pay15, k0_pay7]
  by_cases h1 : k.val = 1
  · obtain rfl : k = (⟨1, by decide⟩ : Fin 8) := Fin.ext h1
    rw [taps_lt _ _ _ (by decide)]
    rw [canon_out _ _ _ _ _ _ (0 : Fin 2) (by show 1 < 2 ∨ 2 + 1 ≤ 1; omega), canon_in _ _ _ _ _ _ (ix2 (0 : Fin 1) l) (fun a => by match a with
        | ⟨0, _⟩ => rfl
        | ⟨1, _⟩ => show l.val = 0 + l.val; omega)]
    pointwise [k0_pay5]
    refine Eq.trans (congrArg₂ (· + ·) (?_ : _ = (0 : EReal)) ?_) (zero_add _)
    · rw [View.readCov_eq_canon']
      dsimp only
      rw [canon_out _ _ _ _ _ _ (0 : Fin 2) (by show 1 + 1 * 0 < 0 ∨ 0 + 1 ≤ 1 + 1 * 0; omega), canon_in (Val := Elt Ideal) (S := S8x512) (e := .f32) ![0, 0] ![8, 512] inb_S8x512_S8x512_0_0 (k0_pay3 (F := Ideal)) [] _ (ix2 (⟨1, by decide⟩ : Fin 8) l) (fun a => by match a with
        | ⟨0, _⟩ => rfl
        | ⟨1, _⟩ => show 0 + 1 * l.val = 0 + l.val; omega)]
      pointwise [k0_pay3]
    refine Finset.sum_congr rfl fun x _ => ?_
    rw [below_own, read_above _ _ _ _ _ _ 7 (by omega)]
    pointwise [k0_pay15]
  by_cases h0 : k.val = 0
  · obtain rfl : k = (⟨0, by decide⟩ : Fin 8) := Fin.ext h0
    rw [taps_lt _ _ _ (by decide)]
    rw [canon_out _ _ _ _ _ _ (0 : Fin 2) (by show 0 < 2 ∨ 2 + 1 ≤ 0; omega), canon_out _ _ _ _ _ _ (0 : Fin 2) (by show 0 < 1 ∨ 1 + 1 ≤ 0; omega), canon_in _ _ _ _ _ _ (ix2 (0 : Fin 1) l) (fun a => by match a with
        | ⟨0, _⟩ => rfl
        | ⟨1, _⟩ => show l.val = 0 + l.val; omega)]
    pointwise [k0_pay4]
    refine Eq.trans (congrArg₂ (· + ·) (?_ : _ = (0 : EReal)) ?_) (zero_add _)
    · rw [View.readCov_eq_canon']
      dsimp only
      rw [canon_in (Val := Elt Ideal) (S := S8x512) (e := .f32) ![0, 0] ![8, 512] inb_S8x512_S8x512_0_0 (k0_pay3 (F := Ideal)) [] _ (ix2 (⟨0, by decide⟩ : Fin 8) l) (fun a => by match a with
        | ⟨0, _⟩ => rfl
        | ⟨1, _⟩ => show 0 + 1 * l.val = 0 + l.val; omega)]
      pointwise [k0_pay3]
    refine Finset.sum_congr rfl fun x _ => ?_
    rw [below_own, read_above _ _ _ _ _ _ 6 (by omega)]
    pointwise [k0_pay15]
  rw [taps_ge _ _ _ (by omega), canon_out _ _ _ _ _ _ (0 : Fin 2) (by show k.val < 2 ∨ 2 + 1 ≤ k.val; omega), canon_out _ _ _ _ _ _ (0 : Fin 2) (by show k.val < 1 ∨ 1 + 1 ≤ k.val; omega), canon_out _ _ _ _ _ _ (0 : Fin 2) (by show k.val < 0 ∨ 0 + 1 ≤ k.val; omega)]
  rw [canon_in (Val := Elt Ideal) (S := S8x512) (e := .f32) ![0, 0] ![8, 512] inb_S8x512_S8x512_0_0 (k0_pay3 (F := Ideal)) [] _ (ix2 k l) (fun a => by match a with
        | ⟨0, _⟩ => show k.val = 0 + k.val; omega
        | ⟨1, _⟩ => show l.val = 0 + l.val; omega)]
  pointwise [k0_pay3]

/-- The filter's gradient after a point (a later point: over what the point before left). -/
theorem dw_B (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S512x512 .f32) (harg9 : arg9.IsWhole) (arg10 : Memref sig .tc .vmem S1x3x512 .f32) (harg10 : arg10.IsWhole) (arg11 : Memref sig .tc .vmem S512x2048 .bf16) (harg11 : arg11.IsWhole) (arg12 : Memref sig .tc .vmem S8x512 .f32) (harg12 : arg12.IsWhole) (arg13 : Memref sig .tc .vmem S520x512 .f32) (harg13 : arg13.IsWhole) (arg14 : Memref sig .tc .vmem S520x512 .f32) (harg14 : arg14.IsWhole) (hc0 : ¬cond0_0 i)
    (x0 : Vec Ideal S512x512 .f32) (x1 : Vec Ideal S512x512 .f32) (x2 : Vec Ideal S512x512 .f32) (x3 : Vec Ideal S512x512 .f32) (x4 : Vec Ideal S8x512 .f32) (x5 : Vec Ideal S8x512 .f32) (x6 : Vec Ideal S8x512 .f32) (x7 : Vec Ideal S8x512 .f32) (x8 : Vec Ideal S512x512 .f32) (x9 : Vec Ideal S1x3x512 .f32) (xo11 : Vec Ideal S8x512 .f32) (k : Fin 8) (l : Fin 512) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 (ix2 k l) = xo11 (ix2 k l) + taps (below i x0 x1 x6 x7) (above i x2 x3 x4 x5) k.val l := by
  have hk := k.isLt
  unfold out0_B_11
  skip
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S8x512) hz]
  by_cases h2 : k.val = 2
  · obtain rfl : k = (⟨2, by decide⟩ : Fin 8) := Fin.ext h2
    rw [taps_lt _ _ _ (by decide)]
    rw [read_in _ _ _ _ _ _ _ _ (ix2 (0 : Fin 1) l) (fun a => by match a with
        | ⟨0, _⟩ => rfl
        | ⟨1, _⟩ => show l.val = 0 + l.val; omega)]
    pointwise [k0_pay6]
    refine congrArg₂ (· + ·) rfl (Finset.sum_congr rfl fun x _ => ?_)
    rw [below_own]
    refine Eq.trans ?_ (congrArg _ (above_own i x2 x3 x4 x5 x l).symm)
    pointwise [k0_pay15, k0_pay7]
  by_cases h1 : k.val = 1
  · obtain rfl : k = (⟨1, by decide⟩ : Fin 8) := Fin.ext h1
    rw [taps_lt _ _ _ (by decide)]
    rw [read_out _ _ _ _ _ _ _ _ (0 : Fin 2) (by show 1 < 2 ∨ 2 + 1 ≤ 1; omega), read_in _ _ _ _ _ _ _ _ (ix2 (0 : Fin 1) l) (fun a => by match a with
        | ⟨0, _⟩ => rfl
        | ⟨1, _⟩ => show l.val = 0 + l.val; omega)]
    pointwise [k0_pay5]
    refine congrArg₂ (· + ·) rfl (Finset.sum_congr rfl fun x _ => ?_)
    rw [below_own, read_above _ _ _ _ _ _ 7 (by omega)]
    pointwise [k0_pay15]
  by_cases h0 : k.val = 0
  · obtain rfl : k = (⟨0, by decide⟩ : Fin 8) := Fin.ext h0
    rw [taps_lt _ _ _ (by decide)]
    rw [read_out _ _ _ _ _ _ _ _ (0 : Fin 2) (by show 0 < 2 ∨ 2 + 1 ≤ 0; omega), read_out _ _ _ _ _ _ _ _ (0 : Fin 2) (by show 0 < 1 ∨ 1 + 1 ≤ 0; omega), read_in _ _ _ _ _ _ _ _ (ix2 (0 : Fin 1) l) (fun a => by match a with
        | ⟨0, _⟩ => rfl
        | ⟨1, _⟩ => show l.val = 0 + l.val; omega)]
    pointwise [k0_pay4]
    refine congrArg₂ (· + ·) rfl (Finset.sum_congr rfl fun x _ => ?_)
    rw [below_own, read_above _ _ _ _ _ _ 6 (by omega)]
    pointwise [k0_pay15]
  rw [taps_ge _ _ _ (by omega), read_out _ _ _ _ _ _ _ _ (0 : Fin 2) (by show k.val < 2 ∨ 2 + 1 ≤ k.val; omega), read_out _ _ _ _ _ _ _ _ (0 : Fin 2) (by show k.val < 1 ∨ 1 + 1 ≤ k.val; omega), read_out _ _ _ _ _ _ _ _ (0 : Fin 2) (by show k.val < 0 ∨ 0 + 1 ≤ k.val; omega), View.writes_nil, harg12.read_unread, add_zero]

end Cert.KernelIdeal.Conv

end
-- ==== Proof.ConvKernel.lean ====
/-
  The two result arrays of the convolution's backward call, at an index and over the extended reals. `zp` is the product
  `c * x` of the arrays with two zero rows before it, `dy` the product `do * b` with zero rows after it; the gradient of the
  projections `h` is read off them by the filter's three taps, and the filter's gradient is a sum over all rows, which the
  grid accumulates block by block.
-/
module

public import proofs.«01_k».proof.Proof.Rows
public import Idealize.ShloMosaic.Lib.Pipeline.ValueKit
public import proofs.«01_k».proof.Proof.ConvBlock

@[expose] public section

set_option maxRecDepth 16384

noncomputable section

namespace Cert.KernelIdeal.Conv

open Cert.KernelIdeal Cert.KernelIdeal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

/-- Row `n` of the padded products `c * x` of `h`'s column blocks: two zero rows, then the 16384 rows. -/
def zp (h : Vec Ideal S16384x2048 .f32) (n : ℕ) (l : Fin 512) : EReal :=
  if hn : 2 ≤ n ∧ n - 2 < 16384 then h (ix2 ⟨n - 2, hn.2⟩ ⟨1024 + l.val, by omega⟩) * h (ix2 ⟨n - 2, hn.2⟩ ⟨1536 + l.val, by omega⟩) else 0

/-- Row `n` of the products `do * b`: the 16384 rows, then zero rows. -/
def dy (d : Vec Ideal S16384x512 .f32) (h : Vec Ideal S16384x2048 .f32) (n : ℕ) (l : Fin 512) : EReal :=
  if hn : n < 16384 then d (ix2 ⟨n, hn⟩ l) * h (ix2 ⟨n, hn⟩ ⟨512 + l.val, by omega⟩) else 0

/-- The forward convolution at row `r`. -/
def yAt (w : Vec Ideal S2x3x512 .f32) (z : ℕ → Fin 512 → EReal) (r : ℕ) (l : Fin 512) : EReal :=
  w (ix3 0 0 l) * z r l + w (ix3 0 1 l) * z (r + 1) l + w (ix3 0 2 l) * z (r + 2) l

/-- The transposed convolution at row `r`. -/
def dzAt (w : Vec Ideal S2x3x512 .f32) (d : ℕ → Fin 512 → EReal) (r : ℕ) (l : Fin 512) : EReal :=
  w (ix3 0 2 l) * d r l + w (ix3 0 1 l) * d (r + 1) l + w (ix3 0 0 l) * d (r + 2) l

/-- The gradient of `h`: of the four column blocks `u`, `b`, `c` and `x`. -/
def dhOf (d : Vec Ideal S16384x512 .f32) (h : Vec Ideal S16384x2048 .f32) (u : Vec Ideal S16384x512 .f32) (w : Vec Ideal S2x3x512 .f32)
    (r : Fin 16384) (q : Fin 2048) : EReal :=
  if hq : q.val < 512 then u (ix2 r ⟨q.val, hq⟩)
  else if hq : q.val - 512 < 512 then d (ix2 r ⟨q.val - 512, hq⟩) * yAt w (zp h) r.val ⟨q.val - 512, hq⟩
  else if hq : q.val - 1024 < 512 then dzAt w (dy d h) r.val ⟨q.val - 1024, hq⟩ * h (ix2 r ⟨1536 + (q.val - 1024), by omega⟩)
  else if hq : q.val - 1536 < 512 then dzAt w (dy d h) r.val ⟨q.val - 1536, hq⟩ * h (ix2 r ⟨1024 + (q.val - 1536), by omega⟩) else 0

/-- The filter's gradient: tap `k` pairs row `r` of `do * b` with row `r + k` of the padded products; the rows past the taps are zero. -/
def dwOf (d : Vec Ideal S16384x512 .f32) (h : Vec Ideal S16384x2048 .f32) (k : ℕ) (l : Fin 512) : EReal :=
  if k < 3 then ∑ r : Fin 16384, dy d h r.val l * zp h (r.val + k) l else 0

/-- The arguments as launched. -/
abbrev argD (c : Dev nD) : Vec Ideal S16384x512 .f32 := m ((c : Thread nD τ).loc main_arg0)
abbrev argH (c : Dev nD) : Vec Ideal S16384x2048 .f32 := m ((c : Thread nD τ).loc main_arg1)
abbrev argU (c : Dev nD) : Vec Ideal S16384x512 .f32 := m ((c : Thread nD τ).loc main_arg2)
abbrev argW (c : Dev nD) : Vec Ideal S2x3x512 .f32 := m ((c : Thread nD τ).loc main_arg3)

/-! The arrays that the input windows read, their blocks at point `t`, and both at an index. -/

abbrev X0 (c : Dev nD) (t : Fin cfg0.N) : Vec Ideal S512x512 .f32 := iblk m c 0 t
abbrev X1 (c : Dev nD) (t : Fin cfg0.N) : Vec Ideal S512x512 .f32 := iblk m c 1 t
abbrev X2 (c : Dev nD) (t : Fin cfg0.N) : Vec Ideal S512x512 .f32 := iblk m c 2 t
abbrev X3 (c : Dev nD) (t : Fin cfg0.N) : Vec Ideal S512x512 .f32 := iblk m c 3 t
abbrev X4 (c : Dev nD) (t : Fin cfg0.N) : Vec Ideal S8x512 .f32 := iblk m c 4 t
abbrev X5 (c : Dev nD) (t : Fin cfg0.N) : Vec Ideal S8x512 .f32 := iblk m c 5 t
abbrev X6 (c : Dev nD) (t : Fin cfg0.N) : Vec Ideal S8x512 .f32 := iblk m c 6 t
abbrev X7 (c : Dev nD) (t : Fin cfg0.N) : Vec Ideal S8x512 .f32 := iblk m c 7 t
abbrev X8 (c : Dev nD) (t : Fin cfg0.N) : Vec Ideal S512x512 .f32 := iblk m c 8 t
abbrev X9 (c : Dev nD) (t : Fin cfg0.N) : Vec Ideal S1x3x512 .f32 := iblk m c 9 t

theorem coord_0 : ∀ t : Fin cfg0.N, (grid0.coords t 0).val = t.val :=
  (by decide +kernel : ∀ t : Fin grid0.N, (grid0.coords t 0).val = t.val)

theorem index_0 : ∀ t : Fin cfg0.N, win0_0.index t 0 = t.val ∧ win0_0.index t 1 = 0 :=
  (by decide +kernel : ∀ t : Fin grid0.N, _)

theorem iblk_0 (c : Dev nD) (t : Fin cfg0.N) (j : Fin 512) (l : Fin 512) (r : Fin 16384) (q : Fin 512)
    (hr : r.val = (t.val) * 512 + j.val) (hq : q.val = 0 * 512 + l.val) :
    X0 m c t (ix2 j l) = argD m c (ix2 r q) := by
  unfold X0 iblk
  rw [View.read_apply]
  exact congrArg (m (c.tc.loc main_arg0)) (Cert.Rows.ix2_of (index_0 t) hr hq rfl rfl)

theorem index_1 : ∀ t : Fin cfg0.N, win0_1.index t 0 = t.val ∧ win0_1.index t 1 = 1 :=
  (by decide +kernel : ∀ t : Fin grid0.N, _)

theorem iblk_1 (c : Dev nD) (t : Fin cfg0.N) (j : Fin 512) (l : Fin 512) (r : Fin 16384) (q : Fin 2048)
    (hr : r.val = (t.val) * 512 + j.val) (hq : q.val = 1 * 512 + l.val) :
    X1 m c t (ix2 j l) = argH m c (ix2 r q) := by
  unfold X1 iblk
  rw [View.read_apply]
  exact congrArg (m (c.tc.loc main_arg1)) (Cert.Rows.ix2_of (index_1 t) hr hq rfl rfl)

theorem index_2 : ∀ t : Fin cfg0.N, win0_2.index t 0 = t.val ∧ win0_2.index t 1 = 2 :=
  (by decide +kernel : ∀ t : Fin grid0.N, _)

theorem iblk_2 (c : Dev nD) (t : Fin cfg0.N) (j : Fin 512) (l : Fin 512) (r : Fin 16384) (q : Fin 2048)
    (hr : r.val = (t.val) * 512 + j.val) (hq : q.val = 2 * 512 + l.val) :
    X2 m c t (ix2 j l) = argH m c (ix2 r q) := by
  unfold X2 iblk
  rw [View.read_apply]
  exact congrArg (m (c.tc.loc main_arg1)) (Cert.Rows.ix2_of (index_2 t) hr hq rfl rfl)

theorem index_3 : ∀ t : Fin cfg0.N, win0_3.index t 0 = t.val ∧ win0_3.index t 1 = 3 :=
  (by decide +kernel : ∀ t : Fin grid0.N, _)

theorem iblk_3 (c : Dev nD) (t : Fin cfg0.N) (j : Fin 512) (l : Fin 512) (r : Fin 16384) (q : Fin 2048)
    (hr : r.val = (t.val) * 512 + j.val) (hq : q.val = 3 * 512 + l.val) :
    X3 m c t (ix2 j l) = argH m c (ix2 r q) := by
  unfold X3 iblk
  rw [View.read_apply]
  exact congrArg (m (c.tc.loc main_arg1)) (Cert.Rows.ix2_of (index_3 t) hr hq rfl rfl)

theorem index_4 : ∀ t : Fin cfg0.N, win0_4.index t 0 = 64 * t.val - 1 ∧ win0_4.index t 1 = 2 :=
  (by decide +kernel : ∀ t : Fin grid0.N, _)

theorem iblk_4 (c : Dev nD) (t : Fin cfg0.N) (j : Fin 8) (l : Fin 512) (r : Fin 16384) (q : Fin 2048)
    (hr : r.val = (64 * t.val - 1) * 8 + j.val) (hq : q.val = 2 * 512 + l.val) :
    X4 m c t (ix2 j l) = argH m c (ix2 r q) := by
  unfold X4 iblk
  rw [View.read_apply]
  exact congrArg (m (c.tc.loc main_arg1)) (Cert.Rows.ix2_of (index_4 t) hr hq rfl rfl)

theorem index_5 : ∀ t : Fin cfg0.N, win0_5.index t 0 = 64 * t.val - 1 ∧ win0_5.index t 1 = 3 :=
  (by decide +kernel : ∀ t : Fin grid0.N, _)

theorem iblk_5 (c : Dev nD) (t : Fin cfg0.N) (j : Fin 8) (l : Fin 512) (r : Fin 16384) (q : Fin 2048)
    (hr : r.val = (64 * t.val - 1) * 8 + j.val) (hq : q.val = 3 * 512 + l.val) :
    X5 m c t (ix2 j l) = argH m c (ix2 r q) := by
  unfold X5 iblk
  rw [View.read_apply]
  exact congrArg (m (c.tc.loc main_arg1)) (Cert.Rows.ix2_of (index_5 t) hr hq rfl rfl)

theorem index_6 : ∀ t : Fin cfg0.N, win0_6.index t 0 = min (64 * t.val + 64) 2047 ∧ win0_6.index t 1 = 0 :=
  (by decide +kernel : ∀ t : Fin grid0.N, _)

theorem iblk_6 (c : Dev nD) (t : Fin cfg0.N) (j : Fin 8) (l : Fin 512) (r : Fin 16384) (q : Fin 512)
    (hr : r.val = (min (64 * t.val + 64) 2047) * 8 + j.val) (hq : q.val = 0 * 512 + l.val) :
    X6 m c t (ix2 j l) = argD m c (ix2 r q) := by
  unfold X6 iblk
  rw [View.read_apply]
  exact congrArg (m (c.tc.loc main_arg0)) (Cert.Rows.ix2_of (index_6 t) hr hq rfl rfl)

theorem index_7 : ∀ t : Fin cfg0.N, win0_7.index t 0 = min (64 * t.val + 64) 2047 ∧ win0_7.index t 1 = 1 :=
  (by decide +kernel : ∀ t : Fin grid0.N, _)

theorem iblk_7 (c : Dev nD) (t : Fin cfg0.N) (j : Fin 8) (l : Fin 512) (r : Fin 16384) (q : Fin 2048)
    (hr : r.val = (min (64 * t.val + 64) 2047) * 8 + j.val) (hq : q.val = 1 * 512 + l.val) :
    X7 m c t (ix2 j l) = argH m c (ix2 r q) := by
  unfold X7 iblk
  rw [View.read_apply]
  exact congrArg (m (c.tc.loc main_arg1)) (Cert.Rows.ix2_of (index_7 t) hr hq rfl rfl)

theorem index_8 : ∀ t : Fin cfg0.N, win0_8.index t 0 = t.val ∧ win0_8.index t 1 = 0 :=
  (by decide +kernel : ∀ t : Fin grid0.N, _)

theorem iblk_8 (c : Dev nD) (t : Fin cfg0.N) (j : Fin 512) (l : Fin 512) (r : Fin 16384) (q : Fin 512)
    (hr : r.val = (t.val) * 512 + j.val) (hq : q.val = 0 * 512 + l.val) :
    X8 m c t (ix2 j l) = argU m c (ix2 r q) := by
  unfold X8 iblk
  rw [View.read_apply]
  exact congrArg (m (c.tc.loc main_arg2)) (Cert.Rows.ix2_of (index_8 t) hr hq rfl rfl)

theorem index_9 : ∀ t : Fin cfg0.N, win0_9.index t 0 = 0 ∧ win0_9.index t 1 = 0 ∧ win0_9.index t 2 = 0 :=
  (by decide +kernel : ∀ t : Fin grid0.N, _)

/-- Input window 9's block at every point: the filter of layer 0. -/
theorem iblk_9 (c : Dev nD) (t : Fin cfg0.N) (k : Fin 3) (l : Fin 512) :
    X9 m c t (ix3 0 k l) = argW m c (ix3 0 k l) := by
  have hi := index_9 t
  unfold X9 iblk
  rw [View.read_apply]
  show V m c main_arg3 _ = m (c.tc.loc main_arg3) _
  unfold V
  congr 1
  funext a
  apply Fin.ext
  match a with
  | ⟨0, _⟩ => show win0_9.index t 0 * 1 + 1 * 0 = 0; rw [hi.1]
  | ⟨1, _⟩ => show win0_9.index t 1 * 3 + 1 * k.val = k.val; rw [hi.2.1]; omega
  | ⟨2, _⟩ => show win0_9.index t 2 * 512 + 1 * l.val = l.val; rw [hi.2.2]; omega

/-- The first scratch buffer at point `t` holds rows `512 t - 6` on of the padded products. -/
theorem above_eq (c : Dev nD) (t : Fin cfg0.N) (n : ℕ) (h6 : 6 ≤ n) (hn : n < 520) (l : Fin 512) :
    above (grid0.coords t) (X2 m c t) (X3 m c t) (X4 m c t) (X5 m c t) n l = zp (argH m c) (512 * t.val + n - 6) l := by
  have ht : t.val < 32 := t.isLt
  have hl := l.isLt
  unfold above zp
  rw [coord_0]
  by_cases h : n < 8
  · rw [dif_pos h]
    by_cases h0 : 0 < t.val
    · rw [if_pos h0, dif_pos (by omega)]
      rw [iblk_4 m c t ⟨n, h⟩ l ⟨512 * t.val + n - 6 - 2, by omega⟩ ⟨1024 + l.val, by omega⟩ (by show 512 * t.val + n - 6 - 2 = (64 * t.val - 1) * 8 + n; omega) (by show 1024 + l.val = 2 * 512 + l.val; omega),
        iblk_5 m c t ⟨n, h⟩ l ⟨512 * t.val + n - 6 - 2, by omega⟩ ⟨1536 + l.val, by omega⟩ (by show 512 * t.val + n - 6 - 2 = (64 * t.val - 1) * 8 + n; omega) (by show 1536 + l.val = 3 * 512 + l.val; omega)]
    · rw [if_neg h0, dif_neg (by omega)]
  · have h' : n - 8 < 512 := by omega
    rw [dif_neg h, dif_pos h', dif_pos (by omega)]
    rw [iblk_2 m c t ⟨n - 8, h'⟩ l ⟨512 * t.val + n - 6 - 2, by omega⟩ ⟨1024 + l.val, by omega⟩ (by show 512 * t.val + n - 6 - 2 = t.val * 512 + (n - 8); omega) (by show 1024 + l.val = 2 * 512 + l.val; omega),
      iblk_3 m c t ⟨n - 8, h'⟩ l ⟨512 * t.val + n - 6 - 2, by omega⟩ ⟨1536 + l.val, by omega⟩ (by show 512 * t.val + n - 6 - 2 = t.val * 512 + (n - 8); omega) (by show 1536 + l.val = 3 * 512 + l.val; omega)]

/-- The second scratch buffer at point `t` holds rows `512 t` on of the products `do * b`. -/
theorem below_eq (c : Dev nD) (t : Fin cfg0.N) (n : ℕ) (hn : n < 520) (l : Fin 512) :
    below (grid0.coords t) (X0 m c t) (X1 m c t) (X6 m c t) (X7 m c t) n l = dy (argD m c) (argH m c) (512 * t.val + n) l := by
  have ht : t.val < 32 := t.isLt
  have hl := l.isLt
  unfold below dy
  rw [coord_0]
  by_cases h : n < 512
  · rw [dif_pos h, dif_pos (by omega)]
    rw [iblk_0 m c t ⟨n, h⟩ l ⟨512 * t.val + n, by omega⟩ l (by show 512 * t.val + n = t.val * 512 + n; omega) (by omega),
      iblk_1 m c t ⟨n, h⟩ l ⟨512 * t.val + n, by omega⟩ ⟨512 + l.val, by omega⟩ (by show 512 * t.val + n = t.val * 512 + n; omega) (by show 512 + l.val = 1 * 512 + l.val; omega)]
  · have h' : n - 512 < 8 := by omega
    rw [dif_neg h, dif_pos h']
    by_cases h0 : t.val < 31
    · rw [if_pos h0, dif_pos (by omega)]
      rw [iblk_6 m c t ⟨n - 512, h'⟩ l ⟨512 * t.val + n, by omega⟩ l (by show 512 * t.val + n = (min (64 * t.val + 64) 2047) * 8 + (n - 512); omega) (by omega),
        iblk_7 m c t ⟨n - 512, h'⟩ l ⟨512 * t.val + n, by omega⟩ ⟨512 + l.val, by omega⟩ (by show 512 * t.val + n = (min (64 * t.val + 64) 2047) * 8 + (n - 512); omega) (by show 512 + l.val = 1 * 512 + l.val; omega)]
    · rw [if_neg h0, dif_neg (by omega)]

/-- What a point writes back of the gradient of `h`, at a row of its block: the same at both cases. -/
theorem blockDh (c : Dev nD) (t : Fin cfg0.N) (j : Fin 512) (q : Fin 2048) (r : Fin 16384) (hr : r.val = 512 * t.val + j.val) :
    (if h : q.val < 512 then X8 m c t (ix2 j ⟨q.val, h⟩)
        else if h : q.val - 512 < 512 then X0 m c t (ix2 j ⟨q.val - 512, h⟩) * convY (X9 m c t) (above (grid0.coords t) (X2 m c t) (X3 m c t) (X4 m c t) (X5 m c t)) j.val ⟨q.val - 512, h⟩
        else if h : q.val - 1024 < 512 then convZ (X9 m c t) (below (grid0.coords t) (X0 m c t) (X1 m c t) (X6 m c t) (X7 m c t)) j.val ⟨q.val - 1024, h⟩ * X3 m c t (ix2 j ⟨q.val - 1024, h⟩)
        else if h : q.val - 1536 < 512 then convZ (X9 m c t) (below (grid0.coords t) (X0 m c t) (X1 m c t) (X6 m c t) (X7 m c t)) j.val ⟨q.val - 1536, h⟩ * X2 m c t (ix2 j ⟨q.val - 1536, h⟩) else 0)
      = dhOf (argD m c) (argH m c) (argU m c) (argW m c) r q := by
  have hj := j.isLt
  have hq := q.isLt
  unfold dhOf
  by_cases h1 : q.val < 512
  · rw [dif_pos h1, dif_pos h1, iblk_8 m c t j ⟨q.val, h1⟩ r ⟨q.val, h1⟩ (by omega) (by show q.val = 0 * 512 + q.val; omega)]
  rw [dif_neg h1, dif_neg h1]
  by_cases h2 : q.val - 512 < 512
  · rw [dif_pos h2, dif_pos h2, iblk_0 m c t j ⟨q.val - 512, h2⟩ r ⟨q.val - 512, h2⟩ (by omega) (by show q.val - 512 = 0 * 512 + (q.val - 512); omega)]
    unfold convY yAt
    rw [above_eq m c t _ (by omega) (by omega), above_eq m c t _ (by omega) (by omega), above_eq m c t _ (by omega) (by omega), iblk_9, iblk_9, iblk_9, hr,
      show 512 * t.val + (j.val + 6) - 6 = 512 * t.val + j.val from by omega, show 512 * t.val + (j.val + 7) - 6 = 512 * t.val + j.val + 1 from by omega,
      show 512 * t.val + (j.val + 8) - 6 = 512 * t.val + j.val + 2 from by omega]
  rw [dif_neg h2, dif_neg h2]
  by_cases h3 : q.val - 1024 < 512
  · rw [dif_pos h3, dif_pos h3, iblk_3 m c t j ⟨q.val - 1024, h3⟩ r ⟨1536 + (q.val - 1024), by omega⟩ (by omega) (by show 1536 + (q.val - 1024) = 3 * 512 + (q.val - 1024); omega)]
    unfold convZ dzAt
    rw [below_eq m c t _ (by omega), below_eq m c t _ (by omega), below_eq m c t _ (by omega), iblk_9, iblk_9, iblk_9, hr,
      show 512 * t.val + (j.val + 1) = 512 * t.val + j.val + 1 from by omega, show 512 * t.val + (j.val + 2) = 512 * t.val + j.val + 2 from by omega]
  have h4 : q.val - 1536 < 512 := by omega
  rw [dif_neg h3, dif_neg h3, dif_pos h4, dif_pos h4, iblk_2 m c t j ⟨q.val - 1536, h4⟩ r ⟨1024 + (q.val - 1536), by omega⟩ (by omega) (by show 1024 + (q.val - 1536) = 2 * 512 + (q.val - 1536); omega)]
  unfold convZ dzAt
  rw [below_eq m c t _ (by omega), below_eq m c t _ (by omega), below_eq m c t _ (by omega), iblk_9, iblk_9, iblk_9, hr,
      show 512 * t.val + (j.val + 1) = 512 * t.val + j.val + 1 from by omega, show 512 * t.val + (j.val + 2) = 512 * t.val + j.val + 2 from by omega]

/-- What point `t` leaves in the block of the gradient of `h`. -/
theorem after_dh (c : Dev nD) (t : Fin cfg0.N) (j : Fin 512) (q : Fin 2048) (r : Fin 16384) (hr : r.val = 512 * t.val + j.val) :
    (outsAt0 m c t.val t.isLt).1 (ix2 j q) = dhOf (argD m c) (argH m c) (argU m c) (argW m c) r q := by
  by_cases h0 : t.val % 32 = 0
  · rw [outsAt0_A m c t h0]
    have e := dh_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (X0 m c t) (X1 m c t) (X2 m c t) (X3 m c t) (X4 m c t) (X5 m c t) (X6 m c t) (X7 m c t) (X8 m c t) (X9 m c t) j q
    dsimp only
    refine Eq.trans e ?_
    exact blockDh m c t j q r hr
  · rw [outsAt0_B m c t h0]
    have e := dh_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (X0 m c t) (X1 m c t) (X2 m c t) (X3 m c t) (X4 m c t) (X5 m c t) (X6 m c t) (X7 m c t) (X8 m c t) (X9 m c t) ((outsAt0 m c (t.val - 1) (Nat.lt_of_le_of_lt (Nat.sub_le _ _) t.isLt)).2) j q
    dsimp only
    refine Eq.trans e ?_
    exact blockDh m c t j q r hr

/-- The gradient of `h` as an array. -/
def resultDh (c : Dev nD) : Vec Ideal S16384x2048 .bf16 := fun i => dhOf (argD m c) (argH m c) (argU m c) (argW m c) (i 0) (i 1)

theorem index_10 : ∀ t : Fin cfg0.N, win0_10.index t 0 = t.val ∧ win0_10.index t 1 = 0 :=
  (by decide +kernel : ∀ t : Fin grid0.N, _)

theorem index_11 : ∀ t : Fin cfg0.N, win0_11.index t 0 = 0 ∧ win0_11.index t 1 = 0 :=
  (by decide +kernel : ∀ t : Fin grid0.N, _)

theorem flushed_dh (c : Dev nD) (t : Fin cfg0.N) :
    (dats m 0 c).flushed 10 t = ((cfg0.win 10).blk t).view.read (Elt Ideal) (resultDh m c) := by
  rw [Value.flushed10]
  have hi := index_10 t
  have ht : t.val < 32 := t.isLt
  funext y
  rw [View.read_apply]
  have hy0 : (y 0 : ℕ) < 512 := (y 0).isLt
  have hy1 : (y 1 : ℕ) < 2048 := (y 1).isLt
  have e0 : ((((cfg0.win 10).blk t).view.emb y) 0 : ℕ) = 512 * t.val + (y 0 : ℕ) := by
    show win0_10.index t 0 * 512 + 1 * (y 0 : ℕ) = _
    rw [hi.1]; omega
  have e1 : ((((cfg0.win 10).blk t).view.emb y) 1 : ℕ) = (y 1 : ℕ) := by
    show win0_10.index t 1 * 2048 + 1 * (y 1 : ℕ) = _
    rw [hi.2]; omega
  have hy : (y : S512x2048.Idx) = ix2 (⟨(y 0 : ℕ), hy0⟩ : Fin 512) (⟨(y 1 : ℕ), hy1⟩ : Fin 2048) := by
    funext a
    match a with
    | ⟨0, _⟩ => rfl
    | ⟨1, _⟩ => rfl
  show (outsAt0 m c t.val t.isLt).1 y = dhOf (argD m c) (argH m c) (argU m c) (argW m c) (((cfg0.win 10).blk t).view.emb y 0) (((cfg0.win 10).blk t).view.emb y 1)
  rw [show (outsAt0 m c t.val t.isLt).1 y = (outsAt0 m c t.val t.isLt).1 (ix2 (⟨(y 0 : ℕ), hy0⟩ : Fin 512) (⟨(y 1 : ℕ), hy1⟩ : Fin 2048)) from congrArg _ hy]
  refine (after_dh m c t (⟨(y 0 : ℕ), hy0⟩ : Fin 512) (⟨(y 1 : ℕ), hy1⟩ : Fin 2048) (((cfg0.win 10).blk t).view.emb y 0) e0).trans ?_
  congr 1
  exact Fin.ext e1.symm

theorem final_dh (c : Dev nD) : (dats m 0 c).arrAt 10 cfg0.N = resultDh m c :=
  (dats m 0 c).arrAt_eq_of_cover 10 (resultDh m c) (fun t _ => flushed_dh m c t)
    ((show (cfg0.win 10).Covers by decide +kernel).cover _ (Memref.isWhole_whole _))

/-- What point `t` adds to the filter's gradient. -/
theorem taps_eq (c : Dev nD) (t : Fin cfg0.N) (k : Fin 8) (l : Fin 512) :
    taps (below (grid0.coords t) (X0 m c t) (X1 m c t) (X6 m c t) (X7 m c t)) (above (grid0.coords t) (X2 m c t) (X3 m c t) (X4 m c t) (X5 m c t)) k.val l
      = if k.val < 3 then ∑ j : Fin 512, dy (argD m c) (argH m c) (512 * t.val + j.val) l * zp (argH m c) (512 * t.val + j.val + k.val) l else 0 := by
  have hk := k.isLt
  by_cases h : k.val < 3
  · rw [if_pos h, taps_lt _ _ _ h]
    refine Finset.sum_congr rfl fun j _ => ?_
    have hj := j.isLt
    rw [below_eq m c t _ (by omega), above_eq m c t _ (by omega) (by omega), show 512 * t.val + (j.val + (6 + k.val)) - 6 = 512 * t.val + j.val + k.val from by omega]
  · rw [if_neg h, taps_ge _ _ _ (by omega)]

/-- What the block of the filter's gradient holds after point `n`: the sum over the points up to it. -/
theorem after_dw (c : Dev nD) (k : Fin 8) (l : Fin 512) : ∀ (n : ℕ) (hn : n < cfg0.N),
    (outsAt0 m c n hn).2 (ix2 k l)
      = ∑ p ∈ Finset.range (n + 1), if k.val < 3 then ∑ j : Fin 512, dy (argD m c) (argH m c) (512 * p + j.val) l * zp (argH m c) (512 * p + j.val + k.val) l else 0
  | 0, hn => by
    obtain ⟨t, ht⟩ : ∃ t : Fin cfg0.N, t = ⟨0, hn⟩ := ⟨_, rfl⟩
    have h0 : t.val % 32 = 0 := by rw [ht]; rfl
    have e := dw_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (X0 m c t) (X1 m c t) (X2 m c t) (X3 m c t) (X4 m c t) (X5 m c t) (X6 m c t) (X7 m c t) (X8 m c t) (X9 m c t) k l
    have e2 := congrArg (fun o => o.2 (ix2 k l)) (outsAt0_A m c t h0)
    dsimp only at e2
    have e3 := (e2.trans e).trans (congrArg (0 + ·) (taps_eq m c t k l))
    subst ht
    refine e3.trans ?_
    rw [Finset.sum_range_one, zero_add]
  | n + 1, hn => by
    obtain ⟨t, ht⟩ : ∃ t : Fin cfg0.N, t = ⟨n + 1, hn⟩ := ⟨_, rfl⟩
    have hn' : n + 1 < 32 := hn
    have h0 : ¬ t.val % 32 = 0 := by rw [ht]; show ¬ (n + 1) % 32 = 0; omega
    have e := dw_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (X0 m c t) (X1 m c t) (X2 m c t) (X3 m c t) (X4 m c t) (X5 m c t) (X6 m c t) (X7 m c t) (X8 m c t) (X9 m c t) ((outsAt0 m c (t.val - 1) (Nat.lt_of_le_of_lt (Nat.sub_le _ _) t.isLt)).2) k l
    have e2 := congrArg (fun o => o.2 (ix2 k l)) (outsAt0_B m c t h0)
    dsimp only at e2
    have e3 := e2.trans e
    rw [taps_eq] at e3
    subst ht
    refine e3.trans ?_
    rw [Finset.sum_range_succ]
    exact congrArg (· + _) (after_dw c k l n (Nat.lt_of_succ_lt hn))

/-- The filter's gradient as an array. -/
def resultDw (c : Dev nD) : Vec Ideal S8x512 .f32 := fun i => dwOf (argD m c) (argH m c) (i 0 : ℕ) (i 1)

/-- After the last point the block holds the sum over all rows. -/
theorem last_dw (c : Dev nD) (n : ℕ) (h : n < cfg0.N) (hn : n = 31) (k : Fin 8) (l : Fin 512) :
    (outsAt0 m c n h).2 (ix2 k l) = dwOf (argD m c) (argH m c) k.val l := by
  subst hn
  rw [after_dw]
  unfold dwOf
  by_cases hk : k.val < 3
  · simp only [if_pos hk]
    exact sum_blocks 32 512 fun r => dy (argD m c) (argH m c) r l * zp (argH m c) (r + k.val) l
  · simp only [if_neg hk]
    exact Finset.sum_const_zero

theorem flushed_dw (c : Dev nD) (t : Fin cfg0.N) (hf : (cfg0.win 11).flush t = true) :
    (dats m 0 c).flushed 11 t = ((cfg0.win 11).blk t).view.read (Elt Ideal) (resultDw m c) := by
  rw [Value.flushed11]
  have hi := index_11 t
  have ht : t.val < 32 := t.isLt
  have hl : t.val = 31 := by have := (flush0_11 t).mp hf; omega
  funext y
  rw [View.read_apply]
  have hy0 : (y 0 : ℕ) < 8 := (y 0).isLt
  have hy1 : (y 1 : ℕ) < 512 := (y 1).isLt
  have e0 : ((((cfg0.win 11).blk t).view.emb y) 0 : ℕ) = (y 0 : ℕ) := by
    show win0_11.index t 0 * 8 + 1 * (y 0 : ℕ) = _
    rw [hi.1]; omega
  have e1 : ((((cfg0.win 11).blk t).view.emb y) 1 : ℕ) = (y 1 : ℕ) := by
    show win0_11.index t 1 * 512 + 1 * (y 1 : ℕ) = _
    rw [hi.2]; omega
  have hy : (y : S8x512.Idx) = ix2 (⟨(y 0 : ℕ), hy0⟩ : Fin 8) (⟨(y 1 : ℕ), hy1⟩ : Fin 512) := by
    funext a
    match a with
    | ⟨0, _⟩ => rfl
    | ⟨1, _⟩ => rfl
  show (outsAt0 m c t.val t.isLt).2 y = dwOf (argD m c) (argH m c) (((cfg0.win 11).blk t).view.emb y 0 : ℕ) (((cfg0.win 11).blk t).view.emb y 1)
  rw [show (outsAt0 m c t.val t.isLt).2 y = (outsAt0 m c t.val t.isLt).2 (ix2 (⟨(y 0 : ℕ), hy0⟩ : Fin 8) (⟨(y 1 : ℕ), hy1⟩ : Fin 512)) from congrArg _ hy]
  refine (last_dw m c t.val t.isLt hl (⟨(y 0 : ℕ), hy0⟩ : Fin 8) (⟨(y 1 : ℕ), hy1⟩ : Fin 512)).trans ?_
  refine congrArg₂ (dwOf (argD m c) (argH m c)) e0.symm ?_
  exact Fin.ext e1.symm

theorem final_dw (c : Dev nD) : (dats m 0 c).arrAt 11 cfg0.N = resultDw m c :=
  (dats m 0 c).arrAt_eq_of_cover 11 (resultDw m c) (flushed_dw m c)
    ((show (cfg0.win 11).Covers by decide +kernel).cover _ (Memref.isWhole_whole _))

/-- THE KERNEL'S RUN, READ: both results at their formulas, the arguments unchanged. -/
theorem run : θ_run defs (onTc (τ := τ) (main (F := Ideal))) ⟨m, fun _ => 0, ρ⟩ fun r => ∀ c : Dev nD,
      r.2.mem ((c : Thread nD τ).loc main_v0_0) = resultDh m c
      ∧ r.2.mem ((c : Thread nD τ).loc main_v0_1) = resultDw m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_dh m c), (h c).2.1.trans (final_dw m c), (h c).2.2⟩) (Value.run_blocks m ρ)

end Cert.KernelIdeal.Conv

end
-- ==== Proof.ConvRef.lean ====
/-
  The two results of the reference's transposed convolution, at an index and over the extended reals.
-/
module

public import proofs.«01_k».proof.Proof.Gen.ReferenceIdeal.Read
public import proofs.«01_k».proof.Proof.ConvKernel

@[expose] public section

set_option maxRecDepth 16384

noncomputable section

namespace Cert.ReferenceIdeal.Conv

open Cert.ReferenceIdeal Cert.ReferenceIdeal.Gen Cert.ReferenceIdeal.Read Idealize.ShloMosaic Idealize.ShloMosaic.TcCoe Idealize.SL.Sem

open Cert.KernelIdeal.Conv (zp dy yAt dzAt dhOf dwOf)

variable (d : Vec Ideal S16384x512 .f32) (h : Vec Ideal S16384x2048 .f32) (u : Vec Ideal S16384x512 .f32) (w : Vec Ideal S2x3x512 .f32)

/-- A sum over two axes of length one. -/
theorem reduce_units (v : S1x1x512.Idx → EReal) (l : Fin 512) :
    Ideal.hostReduceAdd reducesTo_S1x1x512_S512_d0_1 v 0 (ix1 l) = v (ix3 0 0 l) := by
  have hd : ∀ k : Fin 512, reducesTo_S1x1x512_S512_d0_1.drop (ix3 0 0 k) = ix1 k := fun k => by
    funext a
    match a with
    | ⟨0, _⟩ => rfl
  unfold Ideal.hostReduceAdd
  rw [zero_add]
  refine Finset.sum_eq_single_of_mem (ix3 0 0 l) (Finset.mem_filter.mpr ⟨Finset.mem_univ _, hd l⟩) fun i hm hne => ?_
  obtain ⟨k, rfl⟩ : ∃ k : Fin 512, i = ix3 0 0 k := ⟨i 2, by
    funext a
    match a with
    | ⟨0, _⟩ => exact Subsingleton.elim (α := Fin 1) _ _
    | ⟨1, _⟩ => exact Subsingleton.elim (α := Fin 1) _ _
    | ⟨2, _⟩ => rfl⟩
  have e : k = l := congrFun ((hd k).symm.trans (Finset.mem_filter.mp hm).2) 0
  exact absurd (by rw [e]) hne

/-- The padded products. -/
theorem zp_ref (n : Fin 16386) (l : Fin 512) : val_main_v9 (F := Ideal) h (ix3 0 n l) = zp h n.val l := by
  have hn := n.isLt
  pointwise [val_main_v9, val_main_v8, val_main_v7, val_main_v6, val_main_v5, val_main_v0, val_main_cst]
  unfold zp
  by_cases h2 : n.val < 2
  · rw [dif_pos h2, dif_neg (by omega)]
  · rw [dif_neg h2, dif_pos (by omega)]

/-- The products `do * b`. -/
theorem dy_ref (r : Fin 16384) (l : Fin 512) : val_main_v34 (F := Ideal) d h (ix3 0 r l) = dy d h r.val l := by
  pointwise [val_main_v34, val_main_v33, val_main_v4, val_main_v0]
  unfold dy
  rw [dif_pos r.isLt]
  exact mul_comm _ _

/-- The forward convolution. -/
theorem y_ref (r : Fin 16384) (l : Fin 512) : val_main_v30 (F := Ideal) h w (ix3 0 r l) = yAt w (zp h) r.val l := by
  have hr := r.isLt
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v2, val_main_v1]
  unfold yAt
  rw [zp_ref, zp_ref, zp_ref]
  dsimp only
  rw [Nat.add_comm 1 r.val, Nat.add_comm 2 r.val]

/-- The transposed convolution: the rows past the end give nothing. -/
theorem dz_ref (r : Fin 16384) (l : Fin 512) : val_main_v68 (F := Ideal) d h w (ix3 0 r l) = dzAt w (dy d h) r.val l := by
  have hr := r.isLt
  pointwise [val_main_v68, val_main_v63, val_main_v62, val_main_v57, val_main_v56, val_main_v14, val_main_v12, val_main_v11, val_main_v52, val_main_v51, val_main_v46, val_main_v45, val_main_v20, val_main_v18, val_main_v17, val_main_v42, val_main_v37, val_main_v36, val_main_v27, val_main_v25, val_main_v24, val_main_v2, val_main_v1, val_main_cst_3, val_main_cst_7, val_main_cst_11]
  unfold dzAt
  rw [dy_ref]
  refine congrArg₂ (· + ·) (congrArg₂ (· + ·) rfl ?_) ?_
  · by_cases h1 : r.val + 1 < 16384
    · rw [dif_pos (by omega), dy_ref]
      dsimp only
      rw [show 2 + r.val - 1 = r.val + 1 from by omega]
    · rw [dif_neg (by omega), show dy d h (r.val + 1) l = 0 from dif_neg h1, mul_zero]
  · by_cases h2 : r.val + 2 < 16384
    · rw [dif_pos (by omega), dy_ref]
      dsimp only
      rw [Nat.add_comm 2 r.val]
    · rw [dif_neg (by omega), show dy d h (r.val + 2) l = 0 from dif_neg h2, mul_zero]

/-- The gradient of `h`. -/
theorem dh_ref (r : Fin 16384) (q : Fin 2048) : val_main_v75 (F := Ideal) d h u w (ix2 r q) = dhOf d h u w r q := by
  have hq := q.isLt
  pointwise [val_main_v75, val_main_v74, val_main_v71, val_main_cst_14]
  unfold dhOf
  rw [Fin.sum_univ_one]
  by_cases h1 : q.val < 512
  · rw [dif_pos h1, dif_pos h1]
    pointwise [val_main_v32]
  rw [dif_neg h1, dif_neg h1]
  by_cases h2 : q.val - 512 < 512
  · rw [dif_pos h2, dif_pos h2]
    pointwise [val_main_v35, val_main_v33]
    rw [y_ref]
  rw [dif_neg h2, dif_neg h2]
  by_cases h3 : q.val - 1024 < 512
  · rw [dif_pos (show q.val - 512 - 512 < 512 by omega), dif_pos h3]
    pointwise [val_main_v70, val_main_v6, val_main_v0]
    rw [dz_ref]
    exact congrArg₂ (· * ·) (congrArg (dzAt w (dy d h) r.val) (Fin.ext (by show q.val - 512 - 512 = q.val - 1024; omega))) <| congrArg (fun k => h (ix2 r k)) (Fin.ext (by show 1536 + (q.val - 512 - 512) = 1536 + (q.val - 1024); omega))
  rw [dif_neg (show ¬ q.val - 512 - 512 < 512 by omega), dif_neg h3, dif_pos (show q.val - 1536 < 512 by omega)]
  pointwise [val_main_v69, val_main_v5, val_main_v0]
  rw [dz_ref, mul_comm]
  exact congrArg₂ (· * ·) (congrArg (dzAt w (dy d h) r.val) (Fin.ext (by show q.val - 512 - 512 - 512 = q.val - 1536; omega))) <| congrArg (fun k => h (ix2 r k)) (Fin.ext (by show 1024 + (q.val - 512 - 512 - 512) = 1024 + (q.val - 1536); omega))

/-- The three taps' gradients. -/
theorem tap2_ref (l : Fin 512) : val_main_v41 (F := Ideal) d h (ix1 l) = dwOf d h 2 l := by
  pointwise [val_main_v41, val_main_cst_2]
  rw [reduce_units]
  pointwise [val_main_v40, val_main_v39, val_main_v38, val_main_cst_1, val_main_v26]
  unfold dwOf
  rw [if_pos (by decide)]
  refine Finset.sum_congr rfl fun r _ => ?_
  rw [dy_ref, zp_ref]
  dsimp only
  rw [Nat.add_comm _ r.val]
theorem tap1_ref (l : Fin 512) : val_main_v50 (F := Ideal) d h (ix1 l) = dwOf d h 1 l := by
  pointwise [val_main_v50, val_main_cst_6]
  rw [reduce_units]
  pointwise [val_main_v49, val_main_v48, val_main_v47, val_main_cst_5, val_main_v19]
  unfold dwOf
  rw [if_pos (by decide)]
  refine Finset.sum_congr rfl fun r _ => ?_
  rw [dy_ref, zp_ref]
  dsimp only
  rw [Nat.add_comm _ r.val]
theorem tap0_ref (l : Fin 512) : val_main_v61 (F := Ideal) d h (ix1 l) = dwOf d h 0 l := by
  pointwise [val_main_v61, val_main_cst_10]
  rw [reduce_units]
  pointwise [val_main_v60, val_main_v59, val_main_v58, val_main_cst_9, val_main_v13]
  unfold dwOf
  rw [if_pos (by decide)]
  refine Finset.sum_congr rfl fun r _ => ?_
  rw [dy_ref, zp_ref]
  rfl

/-- The filter's gradient. -/
theorem dw_ref (k : Fin 8) (l : Fin 512) : val_main_v78 (F := Ideal) d h (ix2 k l) = dwOf d h k.val l := by
  have hk := k.isLt
  pointwise [val_main_v78, val_main_v77, val_main_v76, val_main_v73, val_main_v72, val_main_v66, val_main_v65, val_main_v64, val_main_v55, val_main_v54, val_main_v53, val_main_v44, val_main_v43, val_main_call0_v0, val_main_c, val_main_cst_4, val_main_cst_8, val_main_cst_12, val_main_cst_13]
  by_cases h3 : k.val < 3
  · rw [dif_pos h3, dif_pos h3]
    by_cases h0 : k.val = 0
    · rw [dif_neg (by omega), dif_neg (by omega), dif_pos (by omega), tap0_ref, zero_add, zero_add, h0]
    by_cases h1 : k.val = 1
    · rw [dif_neg (by omega), dif_pos (by omega), dif_neg (by omega), tap1_ref, zero_add, add_zero, h1]
    rw [dif_pos (by omega), dif_neg (by omega), dif_neg (by omega), tap2_ref, add_zero, add_zero, show k.val = 2 from by omega]
  · rw [dif_neg h3]
    unfold dwOf
    rw [if_neg h3]
    show (((0#32 : BitVec 32).toInt : ℝ) : EReal) = 0
    simp

end Cert.ReferenceIdeal.Conv

end
-- ==== Proof.UpBlock.lean ====
/-
  What one grid point of the up projection's weight gradient leaves in its scratch buffer and in its output block, at an
  index and over the extended reals: two column blocks of the gradient at a time, each the sum over the rows seen so far.
-/
module

public import proofs.«01_k».proof.Proof.Gen.Kernel2Ideal.Frame
public import proofs.«01_k».proof.Proof.Canon
public import Idealize.ShloMosaic.Lib.Tactic
public import Idealize.ShloMosaic.Lib.Pointwise

@[expose] public section

set_option maxRecDepth 16384

noncomputable section

namespace Cert.Kernel2Ideal.Prod

open Cert.Kernel2Ideal Cert.Kernel2Ideal.Gen Idealize.ShloMosaic Idealize.ShloMosaic.TcCoe Idealize.SL.Sem
open Cert.Canon

theorem hz2 : (![0, 0] : Fin 2 → ℕ) = fun _ => 0 := funext fun a => by fin_cases a <;> rfl
theorem hz3 : (![0, 0, 0] : Fin 3 → ℕ) = fun _ => 0 := funext fun a => by fin_cases a <;> rfl

/-- What a point adds at `(s, p, q)`: the products of its 2048 rows. -/
def part (x0 : Vec Ideal S2048x1024 .bf16) (x1 : Vec Ideal S2x2048x704 .bf16) (s : Fin 2) (p : Fin 1024) (q : Fin 704) : EReal :=
  ∑ r : Fin 2048, x0 (ix2 r p) * x1 (ix3 s r q)

/-- The scratch buffer after a point of case A. -/
theorem sc_A (c : Dev nD) (i : grid0.Coords) (arg2 : Memref sig .tc .vmem S2048x1024 .bf16) (harg2 : arg2.IsWhole) (arg3 : Memref sig .tc .vmem S2x2048x704 .bf16) (harg3 : arg3.IsWhole) (arg4 : Memref sig .tc .vmem S2x1024x704 .bf16) (harg4 : arg4.IsWhole) (arg5 : Memref sig .tc .vmem S2x1024x704 .f32) (harg5 : arg5.IsWhole) (hc0 : cond0_0 i) (hc1 : ¬cond0_1 i)
    (x0 : Vec Ideal S2048x1024 .bf16) (x1 : Vec Ideal S2x2048x704 .bf16) (s : Fin 2) (p : Fin 1024) (q : Fin 704) :
    sout0_A_0 c i arg2 harg2 arg3 harg3 arg4 harg4 arg5 harg5 hc0 hc1 x0 x1 (ix3 s p q) = part x0 x1 s p q := by
  unfold sout0_A_0
  rw [View.read_writes_junk_eq_canon]
  unfold kernelRun0_A
  dsimp only
  sl_unfold_words
  simp only [View.readAt_eq_ld, harg2.read_unread, harg3.read_unread, harg4.read_unread, harg5.read_unread, View.ld_unit_zero (S := S2048x1024) hz2, View.ld_unit_zero (S := S2x1024x704) hz3]
  by_cases hs : s.val = 1
  · obtain rfl : s = (1 : Fin 2) := Fin.ext hs
    rw [canon_in _ _ _ _ _ _ (ix3 (0 : Fin 1) p q) (fun a => by match a with
        | ⟨0, _⟩ => rfl
        | ⟨1, _⟩ => show p.val = 0 + p.val; omega
        | ⟨2, _⟩ => show q.val = 0 + q.val; omega)]
    pointwise [k0_pay4, k0_pay2]
    refine Eq.trans (congrArg₂ (· + ·) (?_ : _ = (0 : EReal)) rfl) (zero_add _)
    rw [View.readCov_eq_canon']
    dsimp only
    rw [canon_out _ _ _ _ _ _ (0 : Fin 3) (by show 1 + 1 * 0 < 0 ∨ 0 + 1 ≤ 1 + 1 * 0; omega), canon_in (Val := Elt Ideal) (S := S2x1024x704) (e := .f32) ![0, 0, 0] ![2, 1024, 704] inb_S2x1024x704_S2x1024x704_0_0_0 (k0_pay1 (F := Ideal)) [] _ (ix3 (1 : Fin 2) p q) (fun a => by match a with
        | ⟨0, _⟩ => rfl
        | ⟨1, _⟩ => show 0 + 1 * p.val = 0 + p.val; omega
        | ⟨2, _⟩ => show 0 + 1 * q.val = 0 + q.val; omega)]
    pointwise [k0_pay1]
  · obtain rfl : s = (0 : Fin 2) := Fin.ext (by have := s.isLt; show s.val = 0; omega)
    rw [canon_out _ _ _ _ _ _ (0 : Fin 3) (by show 0 < 1 ∨ 1 + 1 ≤ 0; omega), canon_in _ _ _ _ _ _ (ix3 (0 : Fin 1) p q) (fun a => by match a with
        | ⟨0, _⟩ => rfl
        | ⟨1, _⟩ => show p.val = 0 + p.val; omega
        | ⟨2, _⟩ => show q.val = 0 + q.val; omega)]
    pointwise [k0_pay3, k0_pay2]
    refine Eq.trans (congrArg₂ (· + ·) (?_ : _ = (0 : EReal)) rfl) (zero_add _)
    rw [View.readCov_eq_canon']
    dsimp only
    rw [canon_in (Val := Elt Ideal) (S := S2x1024x704) (e := .f32) ![0, 0, 0] ![2, 1024, 704] inb_S2x1024x704_S2x1024x704_0_0_0 (k0_pay1 (F := Ideal)) [] _ (ix3 (0 : Fin 2) p q) (fun a => by match a with
        | ⟨0, _⟩ => rfl
        | ⟨1, _⟩ => show 0 + 1 * p.val = 0 + p.val; omega
        | ⟨2, _⟩ => show 0 + 1 * q.val = 0 + q.val; omega)]
    pointwise [k0_pay1]

/-- The scratch buffer after a point of case B. -/
theorem sc_B (c : Dev nD) (i : grid0.Coords) (arg2 : Memref sig .tc .vmem S2048x1024 .bf16) (harg2 : arg2.IsWhole) (arg3 : Memref sig .tc .vmem S2x2048x704 .bf16) (harg3 : arg3.IsWhole) (arg4 : Memref sig .tc .vmem S2x1024x704 .bf16) (harg4 : arg4.IsWhole) (arg5 : Memref sig .tc .vmem S2x1024x704 .f32) (harg5 : arg5.IsWhole) (hc0 : ¬cond0_0 i) (hc1 : ¬cond0_1 i)
    (x0 : Vec Ideal S2048x1024 .bf16) (x1 : Vec Ideal S2x2048x704 .bf16) (xs0 : Vec Ideal S2x1024x704 .f32) (s : Fin 2) (p : Fin 1024) (q : Fin 704) :
    sout0_B_0 c i arg2 harg2 arg3 harg3 arg4 harg4 arg5 harg5 hc0 hc1 x0 x1 xs0 (ix3 s p q) = xs0 (ix3 s p q) + part x0 x1 s p q := by
  unfold sout0_B_0
  rw [View.read_writes_junk_eq_canon]
  unfold kernelRun0_B
  dsimp only
  sl_unfold_words
  simp only [View.readAt_eq_ld, harg2.read_unread, harg3.read_unread, harg4.read_unread, harg5.read_unread, View.ld_unit_zero (S := S2048x1024) hz2, View.ld_unit_zero (S := S2x1024x704) hz3]
  by_cases hs : s.val = 1
  · obtain rfl : s = (1 : Fin 2) := Fin.ext hs
    rw [canon_in _ _ _ _ _ _ (ix3 (0 : Fin 1) p q) (fun a => by match a with
        | ⟨0, _⟩ => rfl
        | ⟨1, _⟩ => show p.val = 0 + p.val; omega
        | ⟨2, _⟩ => show q.val = 0 + q.val; omega)]
    pointwise [k0_pay4, k0_pay2]
    rfl
  · obtain rfl : s = (0 : Fin 2) := Fin.ext (by have := s.isLt; show s.val = 0; omega)
    rw [canon_out _ _ _ _ _ _ (0 : Fin 3) (by show 0 < 1 ∨ 1 + 1 ≤ 0; omega), canon_in _ _ _ _ _ _ (ix3 (0 : Fin 1) p q) (fun a => by match a with
        | ⟨0, _⟩ => rfl
        | ⟨1, _⟩ => show p.val = 0 + p.val; omega
        | ⟨2, _⟩ => show q.val = 0 + q.val; omega)]
    pointwise [k0_pay3, k0_pay2]
    rfl

/-- The scratch buffer after a point of case C. -/
theorem sc_C (c : Dev nD) (i : grid0.Coords) (arg2 : Memref sig .tc .vmem S2048x1024 .bf16) (harg2 : arg2.IsWhole) (arg3 : Memref sig .tc .vmem S2x2048x704 .bf16) (harg3 : arg3.IsWhole) (arg4 : Memref sig .tc .vmem S2x1024x704 .bf16) (harg4 : arg4.IsWhole) (arg5 : Memref sig .tc .vmem S2x1024x704 .f32) (harg5 : arg5.IsWhole) (hc0 : ¬cond0_0 i) (hc1 : cond0_1 i)
    (x0 : Vec Ideal S2048x1024 .bf16) (x1 : Vec Ideal S2x2048x704 .bf16) (xs0 : Vec Ideal S2x1024x704 .f32) (s : Fin 2) (p : Fin 1024) (q : Fin 704) :
    sout0_C_0 c i arg2 harg2 arg3 harg3 arg4 harg4 arg5 harg5 hc0 hc1 x0 x1 xs0 (ix3 s p q) = xs0 (ix3 s p q) + part x0 x1 s p q := by
  unfold sout0_C_0
  rw [View.read_writes_junk_eq_canon]
  unfold kernelRun0_C
  dsimp only
  sl_unfold_words
  simp only [View.readAt_eq_ld, harg2.read_unread, harg3.read_unread, harg4.read_unread, harg5.read_unread, View.ld_unit_zero (S := S2048x1024) hz2, View.ld_unit_zero (S := S2x1024x704) hz3]
  by_cases hs : s.val = 1
  · obtain rfl : s = (1 : Fin 2) := Fin.ext hs
    rw [canon_in _ _ _ _ _ _ (ix3 (0 : Fin 1) p q) (fun a => by match a with
        | ⟨0, _⟩ => rfl
        | ⟨1, _⟩ => show p.val = 0 + p.val; omega
        | ⟨2, _⟩ => show q.val = 0 + q.val; omega)]
    pointwise [k0_pay4, k0_pay2]
    rfl
  · obtain rfl : s = (0 : Fin 2) := Fin.ext (by have := s.isLt; show s.val = 0; omega)
    rw [canon_out _ _ _ _ _ _ (0 : Fin 3) (by show 0 < 1 ∨ 1 + 1 ≤ 0; omega), canon_in _ _ _ _ _ _ (ix3 (0 : Fin 1) p q) (fun a => by match a with
        | ⟨0, _⟩ => rfl
        | ⟨1, _⟩ => show p.val = 0 + p.val; omega
        | ⟨2, _⟩ => show q.val = 0 + q.val; omega)]
    pointwise [k0_pay3, k0_pay2]
    rfl

/-- The output block of a point of case C: the scratch buffer's contents. -/
theorem out_C (c : Dev nD) (i : grid0.Coords) (arg2 : Memref sig .tc .vmem S2048x1024 .bf16) (harg2 : arg2.IsWhole) (arg3 : Memref sig .tc .vmem S2x2048x704 .bf16) (harg3 : arg3.IsWhole) (arg4 : Memref sig .tc .vmem S2x1024x704 .bf16) (harg4 : arg4.IsWhole) (arg5 : Memref sig .tc .vmem S2x1024x704 .f32) (harg5 : arg5.IsWhole) (hc0 : ¬cond0_0 i) (hc1 : cond0_1 i)
    (x0 : Vec Ideal S2048x1024 .bf16) (x1 : Vec Ideal S2x2048x704 .bf16) (xs0 : Vec Ideal S2x1024x704 .f32) (s : Fin 2) (p : Fin 1024) (q : Fin 704) :
    out0_C_2 c i arg2 harg2 arg3 harg3 arg4 harg4 arg5 harg5 hc0 hc1 x0 x1 xs0 (ix3 s p q) = xs0 (ix3 s p q) + part x0 x1 s p q := by
  unfold out0_C_2
  rw [View.read_writes_junk_eq_canon]
  unfold kernelRun0_C
  dsimp only
  sl_unfold_words
  simp only [View.readAt_eq_ld, harg2.read_unread, harg3.read_unread, harg4.read_unread, harg5.read_unread, View.ld_unit_zero (S := S2048x1024) hz2, View.ld_unit_zero (S := S2x1024x704) hz3]
  rw [canon_in _ _ _ _ _ _ (ix3 s p q) (fun a => by match a with
        | ⟨0, _⟩ => show s.val = 0 + s.val; omega
        | ⟨1, _⟩ => show p.val = 0 + p.val; omega
        | ⟨2, _⟩ => show q.val = 0 + q.val; omega)]
  pointwise [k0_pay5]
  rw [View.readCov_eq_canon']
  dsimp only
  by_cases hs : s.val = 1
  · obtain rfl : s = (1 : Fin 2) := Fin.ext hs
    rw [canon_in _ _ _ _ _ _ (ix3 (0 : Fin 1) p q) (fun a => by match a with
        | ⟨0, _⟩ => rfl
        | ⟨1, _⟩ => show 0 + 1 * p.val = 0 + p.val; omega
        | ⟨2, _⟩ => show 0 + 1 * q.val = 0 + q.val; omega)]
    pointwise [k0_pay4, k0_pay2]
    rfl
  · obtain rfl : s = (0 : Fin 2) := Fin.ext (by have := s.isLt; show s.val = 0; omega)
    rw [canon_out _ _ _ _ _ _ (0 : Fin 3) (by show 0 + 1 * 0 < 1 ∨ 1 + 1 ≤ 0 + 1 * 0; omega), canon_in _ _ _ _ _ _ (ix3 (0 : Fin 1) p q) (fun a => by match a with
        | ⟨0, _⟩ => rfl
        | ⟨1, _⟩ => show 0 + 1 * p.val = 0 + p.val; omega
        | ⟨2, _⟩ => show 0 + 1 * q.val = 0 + q.val; omega)]
    pointwise [k0_pay3, k0_pay2]
    rfl

end Cert.Kernel2Ideal.Prod

end
-- ==== Proof.UpKernel.lean ====
/-
  The weight gradient of the feed-forward block's up projection, as the accumulating call leaves it: entry `(k, p, q)` is the
  sum over the 16384 rows of the input's column `p` times the cotangent's column `704 k + q`.
-/
module

public import proofs.«01_k».proof.Proof.Rows
public import Idealize.ShloMosaic.Lib.Pipeline.ValueKit
public import proofs.«01_k».proof.Proof.UpBlock
public import proofs.«01_k».proof.Proof.Gen.Kernel2Ideal.Value

@[expose] public section

set_option maxRecDepth 16384

noncomputable section

namespace Cert.Kernel2Ideal.Prod

open Cert.Kernel2Ideal Cert.Kernel2Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

abbrev arg_0 (c : Dev nD) : Vec Ideal S16384x1024 .f32 := m ((c : Thread nD τ).loc main_arg0)
abbrev arg_1 (c : Dev nD) : Vec Ideal S1024x5632 .f32 := m ((c : Thread nD τ).loc main_arg1)
abbrev arg_2 (c : Dev nD) : Vec Ideal S16384x5632 .f32 := m ((c : Thread nD τ).loc main_arg2)

/-! The arrays that the input windows read, their blocks at point `t`, and both at an index. -/

abbrev Arr0 (c : Dev nD) : Vec Ideal S16384x1024 .bf16 := V m c main_v0
abbrev X0 (c : Dev nD) (t : Fin cfg0.N) : Vec Ideal S2048x1024 .bf16 := iblk m c 0 t

theorem arr_0 (c : Dev nD) (r : Fin 16384) (p : Fin 1024) :
    Arr0 m c (ix2 r p) = arg_0 m c (ix2 r p) := by
  unfold Arr0 V
  after_results
  pointwise

abbrev Arr1 (c : Dev nD) : Vec Ideal S8x16384x704 .bf16 := V m c main_v3
abbrev X1 (c : Dev nD) (t : Fin cfg0.N) : Vec Ideal S2x2048x704 .bf16 := iblk m c 1 t

theorem arr_1 (c : Dev nD) (k : Fin 8) (r : Fin 16384) (q : Fin 704) (l : Fin 5632) (hl : l.val = 704 * k.val + q.val) :
    Arr1 m c (ix3 k r q) = arg_2 m c (ix2 r l) := by
  unfold Arr1 V
  after_results
  pointwise
  exact congrArg (fun z => arg_2 m c (ix2 r z)) (Fin.ext (by show k.val * 704 + q.val = l.val; omega))

theorem index_0 : ∀ t : Fin cfg0.N, win0_0.index t 0 = t.val % 8 ∧ win0_0.index t 1 = 0 :=
  (by decide +kernel : ∀ t : Fin grid0.N, _)

theorem iblk_0 (c : Dev nD) (t : Fin cfg0.N) (j0 : Fin 2048) (j1 : Fin 1024) (r0 : Fin 16384) (r1 : Fin 1024)
    (h0 : r0.val = (t.val % 8) * 2048 + j0.val) (h1 : r1.val = (0) * 1024 + j1.val) :
    X0 m c t (ix2 j0 j1) = Arr0 m c (ix2 r0 r1) := by
  unfold X0 iblk
  rw [View.read_apply]
  exact congrArg (V m c main_v0) (Cert.Rows.ix2_of (index_0 t) h0 h1 rfl rfl)

theorem index_1 : ∀ t : Fin cfg0.N, win0_1.index t 0 = t.val / 8 ∧ win0_1.index t 1 = t.val % 8 ∧ win0_1.index t 2 = 0 :=
  (by decide +kernel : ∀ t : Fin grid0.N, _)

theorem iblk_1 (c : Dev nD) (t : Fin cfg0.N) (j0 : Fin 2) (j1 : Fin 2048) (j2 : Fin 704) (r0 : Fin 8) (r1 : Fin 16384) (r2 : Fin 704)
    (h0 : r0.val = (t.val / 8) * 2 + j0.val) (h1 : r1.val = (t.val % 8) * 2048 + j1.val) (h2 : r2.val = (0) * 704 + j2.val) :
    X1 m c t (ix3 j0 j1 j2) = Arr1 m c (ix3 r0 r1 r2) := by
  unfold X1 iblk
  rw [View.read_apply]
  exact congrArg (V m c main_v3) (Cert.Rows.ix3_of (index_1 t) h0 h1 h2 rfl rfl rfl)

theorem index_2 : ∀ t : Fin cfg0.N, win0_2.index t 0 = t.val / 8 ∧ win0_2.index t 1 = 0 ∧ win0_2.index t 2 = 0 :=
  (by decide +kernel : ∀ t : Fin grid0.N, _)

/-- The product of row `r` that the gradient's entry of column block `k` sums. -/
def term (c : Dev nD) (k : ℕ) (s : Fin 2) (p : Fin 1024) (q : Fin 704) (r : ℕ) : EReal :=
  if h : k < 4 ∧ r < 16384 then Arr0 m c (ix2 ⟨r, h.2⟩ p) * Arr1 m c (ix3 ⟨2 * k + s.val, by omega⟩ ⟨r, h.2⟩ q) else 0

/-- What point `t` adds. -/
theorem part_eq (c : Dev nD) (t : Fin cfg0.N) (s : Fin 2) (p : Fin 1024) (q : Fin 704) :
    part (X0 m c t) (X1 m c t) s p q = ∑ j : Fin 2048, term m c (t.val / 8) s p q (2048 * (t.val % 8) + j.val) := by
  have ht : t.val < 32 := t.isLt
  unfold part term
  refine Finset.sum_congr rfl fun j _ => ?_
  have hj := j.isLt
  rw [dif_pos (show t.val / 8 < 4 ∧ 2048 * (t.val % 8) + j.val < 16384 from by omega)]
  exact congrArg₂ (· * ·) (iblk_0 m c t j p _ p (by show 2048 * (t.val % 8) + j.val = _; omega) (by omega))
    (iblk_1 m c t s j q _ _ q (by show 2 * (t.val / 8) + s.val = _; omega) (by show 2048 * (t.val % 8) + j.val = _; omega) (by omega))

/-- The scratch buffer after point `n`: the sum over the blocks of rows of its column block up to it. -/
theorem after_sc (c : Dev nD) (s : Fin 2) (p : Fin 1024) (q : Fin 704) : ∀ (n : ℕ) (hn : n < cfg0.N),
    (outsAt0 m c n hn).2 (ix3 s p q)
      = ∑ b ∈ Finset.range (n % 8 + 1), ∑ j : Fin 2048, term m c (n / 8) s p q (2048 * b + j.val) := by
  intro n
  induction n with
  | zero =>
    intro hn
    obtain ⟨t, ht⟩ : ∃ t : Fin cfg0.N, t = ⟨0, hn⟩ := ⟨_, rfl⟩
    have h0 : t.val % 8 = 0 := by rw [ht]; exact Nat.zero_mod _
    have h1 : ¬ t.val % 8 = 7 := by omega
    have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) s p q
    have e2 := congrArg (fun o => o.2 (ix3 s p q)) (outsAt0_A m c t h0 h1)
    dsimp only at e2
    have e3 := (e2.trans e).trans (part_eq m c t s p q)
    subst ht
    refine e3.trans ?_
    exact Finset.sum_range_one (fun b => ∑ j : Fin 2048, term m c (0 / 8) s p q (2048 * b + j.val)) |>.symm
  | succ n ih =>
    intro hn
    have hn' : n + 1 < 32 := hn
    obtain ⟨t, ht⟩ : ∃ t : Fin cfg0.N, t = ⟨n + 1, hn⟩ := ⟨_, rfl⟩
    have htv : t.val = n + 1 := by rw [ht]
    by_cases h0 : t.val % 8 = 0
    · have h1 : ¬ t.val % 8 = 7 := by omega
      have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) s p q
      have e2 := congrArg (fun o => o.2 (ix3 s p q)) (outsAt0_A m c t h0 h1)
      dsimp only at e2
      have e3 := (e2.trans e).trans (part_eq m c t s p q)
      have h0' : (n + 1) % 8 = 0 := by omega
      subst ht
      refine e3.trans ?_
      rw [h0']
      exact (Finset.sum_range_one (fun b => ∑ j : Fin 2048, term m c ((n + 1) / 8) s p q (2048 * b + j.val))).symm
    · have hd : (n + 1) / 8 = n / 8 := by omega
      have hm : (n + 1) % 8 = n % 8 + 1 := by omega
      by_cases h1 : t.val % 8 = 7
      · have e := sc_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 s p q
        have e2 := congrArg (fun o => o.2 (ix3 s p q)) (outsAt0_C m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl
      · have e := sc_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (X0 m c t) (X1 m c t) (outsAt0 m c (t.val - 1) (Nat.lt_of_le_of_lt (Nat.sub_le _ _) t.isLt)).2 s p q
        have e2 := congrArg (fun o => o.2 (ix3 s p q)) (outsAt0_B m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl

/-- The output block of a column block's last point: the sum over all rows. -/
theorem after_out (c : Dev nD) (t : Fin cfg0.N) (h1 : t.val % 8 = 7) (s : Fin 2) (p : Fin 1024) (q : Fin 704) :
    (outsAt0 m c t.val t.isLt).1 (ix3 s p q) = ∑ r : Fin 16384, term m c (t.val / 8) s p q r.val := by
  have h0 : ¬ t.val % 8 = 0 := by omega
  have ht : t.val < 32 := t.isLt
  have e := out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 s p q
  have e2 := congrArg (fun o => o.1 (ix3 s p q)) (outsAt0_C m c t h0 h1)
  dsimp only at e2
  have e3 := e2.trans e
  rw [part_eq] at e3
  refine e3.trans ?_
  refine Eq.trans (congrArg (· + _) (after_sc m c s p q (t.val - 1) (Nat.lt_of_le_of_lt (Nat.sub_le _ _) t.isLt))) ?_
  have hd : (t.val - 1) / 8 = t.val / 8 := by omega
  have hm : (t.val - 1) % 8 + 1 = 7 := by omega
  rw [hd, hm, h1, ← Finset.sum_range_succ (fun b => ∑ j : Fin 2048, term m c (t.val / 8) s p q (2048 * b + j.val))]
  exact sum_blocks 8 2048 fun r => term m c (t.val / 8) s p q r

/-- An entry of the gradient. -/
def entry (c : Dev nD) (i : S8x1024x704.Idx) : EReal :=
  ∑ r : Fin 16384, arg_0 m c (ix2 r (i 1)) * arg_2 m c (ix2 r (⟨704 * (i 0 : ℕ) + (i 2 : ℕ), by have h0 : (i 0 : ℕ) < 8 := (i 0).isLt; have h2 : (i 2 : ℕ) < 704 := (i 2).isLt; omega⟩ : Fin 5632))

/-- The gradient as an array. -/
def result (c : Dev nD) : Vec Ideal S8x1024x704 .bf16 := fun i => entry m c i

theorem flushed_eq (c : Dev nD) (t : Fin cfg0.N) (hf : (cfg0.win 2).flush t = true) :
    (dats m 0 c).flushed 2 t = ((cfg0.win 2).blk t).view.read (Elt Ideal) (result m c) := by
  rw [Value.flushed2]
  have hi := index_2 t
  have ht : t.val < 32 := t.isLt
  have hl : t.val % 8 = 7 := (flush0_2 t).mp hf
  funext y
  rw [View.read_apply]
  have hy0 : (y 0 : ℕ) < 2 := (y 0).isLt
  have hy1 : (y 1 : ℕ) < 1024 := (y 1).isLt
  have hy2 : (y 2 : ℕ) < 704 := (y 2).isLt
  have e0 : ((((cfg0.win 2).blk t).view.emb y) 0 : ℕ) = (t.val / 8) * 2 + (y 0 : ℕ) := by
    show win0_2.index t 0 * 2 + 1 * (y 0 : ℕ) = _
    rw [hi.1]; omega
  have e1 : ((((cfg0.win 2).blk t).view.emb y) 1 : ℕ) = (0) * 1024 + (y 1 : ℕ) := by
    show win0_2.index t 1 * 1024 + 1 * (y 1 : ℕ) = _
    rw [hi.2.1]; omega
  have e2 : ((((cfg0.win 2).blk t).view.emb y) 2 : ℕ) = (0) * 704 + (y 2 : ℕ) := by
    show win0_2.index t 2 * 704 + 1 * (y 2 : ℕ) = _
    rw [hi.2.2]; omega
  have hy : (y : S2x1024x704.Idx) = ix3 (⟨(y 0 : ℕ), hy0⟩ : Fin 2) (⟨(y 1 : ℕ), hy1⟩ : Fin 1024) (⟨(y 2 : ℕ), hy2⟩ : Fin 704) := by
    funext a
    match a with
    | ⟨0, _⟩ => rfl
    | ⟨1, _⟩ => rfl
    | ⟨2, _⟩ => rfl
  refine eq_of_heq (HEq.trans (heq_of_eq (?_ : (outsAt0 m c t.val t.isLt).1 y = entry m c (((cfg0.win 2).blk t).view.emb y))) (cast_heq _ _).symm)
  rw [show (outsAt0 m c t.val t.isLt).1 y = (outsAt0 m c t.val t.isLt).1 (ix3 (⟨(y 0 : ℕ), hy0⟩ : Fin 2) (⟨(y 1 : ℕ), hy1⟩ : Fin 1024) (⟨(y 2 : ℕ), hy2⟩ : Fin 704)) from congrArg _ hy]
  refine (after_out m c t hl (⟨(y 0 : ℕ), hy0⟩ : Fin 2) (⟨(y 1 : ℕ), hy1⟩ : Fin 1024) (⟨(y 2 : ℕ), hy2⟩ : Fin 704)).trans ?_
  unfold entry
  refine Finset.sum_congr rfl fun r _ => ?_
  unfold term
  have hr := r.isLt
  rw [dif_pos (show t.val / 8 < 4 ∧ r.val < 16384 from by omega), arr_0, arr_1 m c _ _ _ (⟨704 * (2 * (t.val / 8) + (y 0 : ℕ)) + (y 2 : ℕ), by omega⟩ : Fin 5632) rfl]
  refine congrArg₂ (· * ·) (congrArg (fun z => arg_0 m c (ix2 r z)) (Fin.ext ?_)) (congrArg (fun z => arg_2 m c (ix2 r z)) (Fin.ext ?_))
  · show (y 1 : ℕ) = _
    rw [e1]; omega
  · show 704 * (2 * (t.val / 8) + (y 0 : ℕ)) + (y 2 : ℕ) = 704 * (_ : ℕ) + (_ : ℕ)
    rw [e0, e2]; omega

theorem final_eq (c : Dev nD) : (dats m 0 c).arrAt 2 cfg0.N = result m c :=
  (dats m 0 c).arrAt_eq_of_cover 2 (result m c) (flushed_eq m c)
    ((show (cfg0.win 2).Covers by decide +kernel).cover _ (Memref.isWhole_whole _))

/-- The kernel's run, read: the result at its formula, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m c), (h c).2⟩) (Value.run_blocks m ρ)

end Cert.Kernel2Ideal.Prod

end
-- ==== Proof.UpRef.lean ====
/-
  The reference's weight gradient of the up projection, at an index.
-/
module

public import proofs.«01_k».proof.Proof.Gen.Reference2Ideal.Read
public import Idealize.ShloMosaic.Lib.Pointwise

@[expose] public section

set_option maxRecDepth 16384

namespace Cert.Reference2Ideal.Prod

open Cert.Reference2Ideal Cert.Reference2Ideal.Gen Cert.Reference2Ideal.Read Idealize.ShloMosaic Idealize.ShloMosaic.TcCoe

/-- Entry `(k, p, q)`: the sum over all rows of the input's column `p` times the cotangent's column `704 k + q`. -/
theorem read (x0 : Vec Ideal S16384x1024 .f32) (x2 : Vec Ideal S16384x5632 .f32) (k : Fin 8) (p : Fin 1024) (q : Fin 704) (l : Fin 5632) (hl : l.val = 704 * k.val + q.val) :
    val_main_v5 (F := Ideal) x0 x2 (ix3 k p q) = ∑ r : Fin 16384, x0 (ix2 r p) * x2 (ix2 r l) := by
  unfold val_main_v5 val_main_v4 val_main_v3 val_main_v2 val_main_v1
  pointwise
  refine Finset.sum_congr rfl fun r _ => ?_
  rw [mul_comm]
  exact congrArg (fun z => x0 (ix2 r p) * x2 (ix2 r z)) (Fin.ext (by show k.val * 704 + q.val = l.val; omega))

end Cert.Reference2Ideal.Prod

end
-- ==== Proof.DownBlock.lean ====
/-
  What one grid point of the down projection's weight gradient leaves in its scratch buffer and in its output block, at an
  index and over the extended reals: one row block of the gradient at a time, the sum over the rows seen so far.
-/
module

public import proofs.«01_k».proof.Proof.Gen.Kernel3Ideal.Frame
public import proofs.«01_k».proof.Proof.Canon
public import Idealize.ShloMosaic.Lib.Tactic
public import Idealize.ShloMosaic.Lib.Pointwise

@[expose] public section

set_option maxRecDepth 16384

noncomputable section

namespace Cert.Kernel3Ideal.Prod

open Cert.Kernel3Ideal Cert.Kernel3Ideal.Gen Idealize.ShloMosaic Idealize.ShloMosaic.TcCoe Idealize.SL.Sem
open Cert.Canon

theorem hz2 : (![0, 0] : Fin 2 → ℕ) = fun _ => 0 := funext fun a => by fin_cases a <;> rfl
theorem hz3 : (![0, 0, 0] : Fin 3 → ℕ) = fun _ => 0 := funext fun a => by fin_cases a <;> rfl

/-- What a point adds at `(p, q)`: the products of its 2048 rows. -/
def part (x0 : Vec Ideal S1x2048x704 .bf16) (x1 : Vec Ideal S2048x1024 .bf16) (p : Fin 704) (q : Fin 1024) : EReal :=
  ∑ r : Fin 2048, x0 (ix3 0 r p) * x1 (ix2 r q)

/-- The scratch buffer after a point of case A. -/
theorem sc_A (c : Dev nD) (i : grid0.Coords) (arg3 : Memref sig .tc .vmem S1x2048x704 .bf16) (harg3 : arg3.IsWhole) (arg4 : Memref sig .tc .vmem S2048x1024 .bf16) (harg4 : arg4.IsWhole) (arg5 : Memref sig .tc .vmem S1x704x1024 .bf16) (harg5 : arg5.IsWhole) (arg6 : Memref sig .tc .vmem S704x1024 .f32) (harg6 : arg6.IsWhole) (hc0 : cond0_0 i) (hc1 : ¬cond0_1 i)
    (x0 : Vec Ideal S1x2048x704 .bf16) (x1 : Vec Ideal S2048x1024 .bf16) (p : Fin 704) (q : Fin 1024) :
    sout0_A_0 c i arg3 harg3 arg4 harg4 arg5 harg5 arg6 harg6 hc0 hc1 x0 x1 (ix2 p q) = part x0 x1 p q := by
  unfold sout0_A_0
  rw [View.read_writes_junk_eq_canon]
  unfold kernelRun0_A
  dsimp only
  sl_unfold_words
  simp only [View.readAt_eq_ld, harg3.read_unread, harg4.read_unread, harg5.read_unread, harg6.read_unread, View.ld_unit_zero (S := S1x2048x704) hz3, View.ld_unit_zero (S := S2048x1024) hz2, View.ld_unit_zero (S := S704x1024) hz2]
  rw [canon_in (Val := Elt Ideal) (S := S704x1024) (e := .f32) ![0, 0] ![704, 1024] inb_S704x1024_S704x1024_0_0 _ _ _ (ix2 p q) (fun a => by match a with
        | ⟨0, _⟩ => show p.val = 0 + p.val; omega
        | ⟨1, _⟩ => show (q : Fin 1024).val = 0 + (q : Fin 1024).val; omega)]
  pointwise [k0_pay2]
  refine Eq.trans (congrArg₂ (· + ·) (?_ : _ = (0 : EReal)) rfl) (zero_add _)
  rw [View.readCov_eq_canon']
  dsimp only
  rw [canon_in (Val := Elt Ideal) (S := S704x1024) (e := .f32) ![0, 0] ![704, 1024] inb_S704x1024_S704x1024_0_0 _ _ _ (ix2 p q) (fun a => by match a with
        | ⟨0, _⟩ => show 0 + 1 * p.val = 0 + p.val; omega
        | ⟨1, _⟩ => show 0 + 1 * q.val = 0 + q.val; omega)]
  pointwise [k0_pay1]

/-- The scratch buffer after a point of case B. -/
theorem sc_B (c : Dev nD) (i : grid0.Coords) (arg3 : Memref sig .tc .vmem S1x2048x704 .bf16) (harg3 : arg3.IsWhole) (arg4 : Memref sig .tc .vmem S2048x1024 .bf16) (harg4 : arg4.IsWhole) (arg5 : Memref sig .tc .vmem S1x704x1024 .bf16) (harg5 : arg5.IsWhole) (arg6 : Memref sig .tc .vmem S704x1024 .f32) (harg6 : arg6.IsWhole) (hc0 : ¬cond0_0 i) (hc1 : ¬cond0_1 i)
    (x0 : Vec Ideal S1x2048x704 .bf16) (x1 : Vec Ideal S2048x1024 .bf16) (xs0 : Vec Ideal S704x1024 .f32) (p : Fin 704) (q : Fin 1024) :
    sout0_B_0 c i arg3 harg3 arg4 harg4 arg5 harg5 arg6 harg6 hc0 hc1 x0 x1 xs0 (ix2 p q) = xs0 (ix2 p q) + part x0 x1 p q := by
  unfold sout0_B_0
  rw [View.read_writes_junk_eq_canon]
  unfold kernelRun0_B
  dsimp only
  sl_unfold_words
  simp only [View.readAt_eq_ld, harg3.read_unread, harg4.read_unread, harg5.read_unread, harg6.read_unread, View.ld_unit_zero (S := S1x2048x704) hz3, View.ld_unit_zero (S := S2048x1024) hz2, View.ld_unit_zero (S := S704x1024) hz2]
  rw [canon_in (Val := Elt Ideal) (S := S704x1024) (e := .f32) ![0, 0] ![704, 1024] inb_S704x1024_S704x1024_0_0 _ _ _ (ix2 p q) (fun a => by match a with
        | ⟨0, _⟩ => show p.val = 0 + p.val; omega
        | ⟨1, _⟩ => show (q : Fin 1024).val = 0 + (q : Fin 1024).val; omega)]
  pointwise [k0_pay2]
  rfl

/-- The scratch buffer after a point of case C. -/
theorem sc_C (c : Dev nD) (i : grid0.Coords) (arg3 : Memref sig .tc .vmem S1x2048x704 .bf16) (harg3 : arg3.IsWhole) (arg4 : Memref sig .tc .vmem S2048x1024 .bf16) (harg4 : arg4.IsWhole) (arg5 : Memref sig .tc .vmem S1x704x1024 .bf16) (harg5 : arg5.IsWhole) (arg6 : Memref sig .tc .vmem S704x1024 .f32) (harg6 : arg6.IsWhole) (hc0 : ¬cond0_0 i) (hc1 : cond0_1 i)
    (x0 : Vec Ideal S1x2048x704 .bf16) (x1 : Vec Ideal S2048x1024 .bf16) (xs0 : Vec Ideal S704x1024 .f32) (p : Fin 704) (q : Fin 1024) :
    sout0_C_0 c i arg3 harg3 arg4 harg4 arg5 harg5 arg6 harg6 hc0 hc1 x0 x1 xs0 (ix2 p q) = xs0 (ix2 p q) + part x0 x1 p q := by
  unfold sout0_C_0
  rw [View.read_writes_junk_eq_canon]
  unfold kernelRun0_C
  dsimp only
  sl_unfold_words
  simp only [View.readAt_eq_ld, harg3.read_unread, harg4.read_unread, harg5.read_unread, harg6.read_unread, View.ld_unit_zero (S := S1x2048x704) hz3, View.ld_unit_zero (S := S2048x1024) hz2, View.ld_unit_zero (S := S704x1024) hz2]
  rw [canon_in (Val := Elt Ideal) (S := S704x1024) (e := .f32) ![0, 0] ![704, 1024] inb_S704x1024_S704x1024_0_0 _ _ _ (ix2 p q) (fun a => by match a with
        | ⟨0, _⟩ => show p.val = 0 + p.val; omega
        | ⟨1, _⟩ => show (q : Fin 1024).val = 0 + (q : Fin 1024).val; omega)]
  pointwise [k0_pay2]
  rfl

/-- The output block of a point of case C: the scratch buffer's contents. -/
theorem out_C (c : Dev nD) (i : grid0.Coords) (arg3 : Memref sig .tc .vmem S1x2048x704 .bf16) (harg3 : arg3.IsWhole) (arg4 : Memref sig .tc .vmem S2048x1024 .bf16) (harg4 : arg4.IsWhole) (arg5 : Memref sig .tc .vmem S1x704x1024 .bf16) (harg5 : arg5.IsWhole) (arg6 : Memref sig .tc .vmem S704x1024 .f32) (harg6 : arg6.IsWhole) (hc0 : ¬cond0_0 i) (hc1 : cond0_1 i)
    (x0 : Vec Ideal S1x2048x704 .bf16) (x1 : Vec Ideal S2048x1024 .bf16) (xs0 : Vec Ideal S704x1024 .f32) (s : Fin 1) (p : Fin 704) (q : Fin 1024) :
    out0_C_2 c i arg3 harg3 arg4 harg4 arg5 harg5 arg6 harg6 hc0 hc1 x0 x1 xs0 (ix3 s p q) = xs0 (ix2 p q) + part x0 x1 p q := by
  unfold out0_C_2
  rw [View.read_writes_junk_eq_canon]
  unfold kernelRun0_C
  dsimp only
  sl_unfold_words
  simp only [View.readAt_eq_ld, harg3.read_unread, harg4.read_unread, harg5.read_unread, harg6.read_unread, View.ld_unit_zero (S := S1x2048x704) hz3, View.ld_unit_zero (S := S2048x1024) hz2, View.ld_unit_zero (S := S704x1024) hz2]
  obtain rfl : s = (0 : Fin 1) := Subsingleton.elim _ _
  rw [canon_in _ _ _ _ _ _ (ix3 (0 : Fin 1) p q) (fun a => by match a with
        | ⟨0, _⟩ => rfl
        | ⟨1, _⟩ => show p.val = 0 + p.val; omega
        | ⟨2, _⟩ => show q.val = 0 + q.val; omega)]
  pointwise [k0_pay3]
  rw [View.readCov_eq_canon']
  dsimp only
  rw [canon_in (Val := Elt Ideal) (S := S704x1024) (e := .f32) ![0, 0] ![704, 1024] inb_S704x1024_S704x1024_0_0 _ _ _ (ix2 p q) (fun a => by match a with
        | ⟨0, _⟩ => show 0 + 1 * p.val = 0 + p.val; omega
        | ⟨1, _⟩ => show 0 + 1 * q.val = 0 + q.val; omega)]
  pointwise [k0_pay2]
  rfl

end Cert.Kernel3Ideal.Prod

end
-- ==== Proof.DownKernel.lean ====
/-
  The weight gradient of the feed-forward block's down projection, as the accumulating call leaves it: entry `(k, p, q)` is
  the sum over the 16384 rows of the activation's column `704 k + p` times the cotangent's column `q`.
-/
module

public import proofs.«01_k».proof.Proof.Rows
public import Idealize.ShloMosaic.Lib.Pipeline.ValueKit
public import proofs.«01_k».proof.Proof.DownBlock
public import proofs.«01_k».proof.Proof.Gen.Kernel3Ideal.Value

@[expose] public section

set_option maxRecDepth 16384

noncomputable section

namespace Cert.Kernel3Ideal.Prod

open Cert.Kernel3Ideal Cert.Kernel3Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

abbrev arg_0 (c : Dev nD) : Vec Ideal S16384x2816 .f32 := m ((c : Thread nD τ).loc main_arg0)
abbrev arg_1 (c : Dev nD) : Vec Ideal S2816x1024 .f32 := m ((c : Thread nD τ).loc main_arg1)
abbrev arg_2 (c : Dev nD) : Vec Ideal S16384x1024 .f32 := m ((c : Thread nD τ).loc main_arg2)

/-! The arrays that the input windows read, their blocks at point `t`, and both at an index. -/

abbrev Arr0 (c : Dev nD) : Vec Ideal S4x16384x704 .bf16 := V m c main_v2
abbrev X0 (c : Dev nD) (t : Fin cfg0.N) : Vec Ideal S1x2048x704 .bf16 := iblk m c 0 t

theorem arr_0 (c : Dev nD) (k : Fin 4) (r : Fin 16384) (q : Fin 704) (l : Fin 2816) (hl : l.val = 704 * k.val + q.val) :
    Arr0 m c (ix3 k r q) = arg_0 m c (ix2 r l) := by
  unfold Arr0 V
  after_results
  pointwise
  exact congrArg (fun z => arg_0 m c (ix2 r z)) (Fin.ext (by show k.val * 704 + q.val = l.val; omega))

abbrev Arr1 (c : Dev nD) : Vec Ideal S16384x1024 .bf16 := V m c main_v3
abbrev X1 (c : Dev nD) (t : Fin cfg0.N) : Vec Ideal S2048x1024 .bf16 := iblk m c 1 t

theorem arr_1 (c : Dev nD) (r : Fin 16384) (p : Fin 1024) :
    Arr1 m c (ix2 r p) = arg_2 m c (ix2 r p) := by
  unfold Arr1 V
  after_results
  pointwise

theorem index_0 : ∀ t : Fin cfg0.N, win0_0.index t 0 = t.val / 8 ∧ win0_0.index t 1 = t.val % 8 ∧ win0_0.index t 2 = 0 :=
  (by decide +kernel : ∀ t : Fin grid0.N, _)

theorem iblk_0 (c : Dev nD) (t : Fin cfg0.N) (j0 : Fin 1) (j1 : Fin 2048) (j2 : Fin 704) (r0 : Fin 4) (r1 : Fin 16384) (r2 : Fin 704)
    (h0 : r0.val = (t.val / 8) * 1 + j0.val) (h1 : r1.val = (t.val % 8) * 2048 + j1.val) (h2 : r2.val = (0) * 704 + j2.val) :
    X0 m c t (ix3 j0 j1 j2) = Arr0 m c (ix3 r0 r1 r2) := by
  unfold X0 iblk
  rw [View.read_apply]
  exact congrArg (V m c main_v2) (Cert.Rows.ix3_of (index_0 t) h0 h1 h2 rfl rfl rfl)

theorem index_1 : ∀ t : Fin cfg0.N, win0_1.index t 0 = t.val % 8 ∧ win0_1.index t 1 = 0 :=
  (by decide +kernel : ∀ t : Fin grid0.N, _)

theorem iblk_1 (c : Dev nD) (t : Fin cfg0.N) (j0 : Fin 2048) (j1 : Fin 1024) (r0 : Fin 16384) (r1 : Fin 1024)
    (h0 : r0.val = (t.val % 8) * 2048 + j0.val) (h1 : r1.val = (0) * 1024 + j1.val) :
    X1 m c t (ix2 j0 j1) = Arr1 m c (ix2 r0 r1) := by
  unfold X1 iblk
  rw [View.read_apply]
  exact congrArg (V m c main_v3) (Cert.Rows.ix2_of (index_1 t) h0 h1 rfl rfl)

theorem index_2 : ∀ t : Fin cfg0.N, win0_2.index t 0 = t.val / 8 ∧ win0_2.index t 1 = 0 ∧ win0_2.index t 2 = 0 :=
  (by decide +kernel : ∀ t : Fin grid0.N, _)

/-- The product of row `r` that the gradient's entry of column block `k` sums. -/
def term (c : Dev nD) (k : ℕ) (p : Fin 704) (q : Fin 1024) (r : ℕ) : EReal :=
  if h : k < 4 ∧ r < 16384 then Arr0 m c (ix3 ⟨k, h.1⟩ ⟨r, h.2⟩ p) * Arr1 m c (ix2 ⟨r, h.2⟩ q) else 0

/-- What point `t` adds. -/
theorem part_eq (c : Dev nD) (t : Fin cfg0.N) (p : Fin 704) (q : Fin 1024) :
    part (X0 m c t) (X1 m c t) p q = ∑ j : Fin 2048, term m c (t.val / 8) p q (2048 * (t.val % 8) + j.val) := by
  have ht : t.val < 32 := t.isLt
  unfold part term
  refine Finset.sum_congr rfl fun j _ => ?_
  have hj := j.isLt
  rw [dif_pos (show t.val / 8 < 4 ∧ 2048 * (t.val % 8) + j.val < 16384 from by omega)]
  exact congrArg₂ (· * ·) (iblk_0 m c t 0 j p _ _ p (by show t.val / 8 = t.val / 8 * 1 + 0; omega) (by show 2048 * (t.val % 8) + j.val = _; omega) (by omega))
    (iblk_1 m c t j q _ q (by show 2048 * (t.val % 8) + j.val = _; omega) (by omega))

/-- The scratch buffer after point `n`: the sum over the blocks of rows of its column block up to it. -/
theorem after_sc (c : Dev nD) (p : Fin 704) (q : Fin 1024) : ∀ (n : ℕ) (hn : n < cfg0.N),
    (outsAt0 m c n hn).2 (ix2 p q)
      = ∑ b ∈ Finset.range (n % 8 + 1), ∑ j : Fin 2048, term m c (n / 8) p q (2048 * b + j.val) := by
  intro n
  induction n with
  | zero =>
    intro hn
    obtain ⟨t, ht⟩ : ∃ t : Fin cfg0.N, t = ⟨0, hn⟩ := ⟨_, rfl⟩
    have h0 : t.val % 8 = 0 := by rw [ht]; exact Nat.zero_mod _
    have h1 : ¬ t.val % 8 = 7 := by omega
    have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) p q
    have e2 := congrArg (fun o => o.2 (ix2 p q)) (outsAt0_A m c t h0 h1)
    dsimp only at e2
    have e3 := (e2.trans e).trans (part_eq m c t p q)
    subst ht
    refine e3.trans ?_
    exact Finset.sum_range_one (fun b => ∑ j : Fin 2048, term m c (0 / 8) p q (2048 * b + j.val)) |>.symm
  | succ n ih =>
    intro hn
    have hn' : n + 1 < 32 := hn
    obtain ⟨t, ht⟩ : ∃ t : Fin cfg0.N, t = ⟨n + 1, hn⟩ := ⟨_, rfl⟩
    have htv : t.val = n + 1 := by rw [ht]
    by_cases h0 : t.val % 8 = 0
    · have h1 : ¬ t.val % 8 = 7 := by omega
      have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) p q
      have e2 := congrArg (fun o => o.2 (ix2 p q)) (outsAt0_A m c t h0 h1)
      dsimp only at e2
      have e3 := (e2.trans e).trans (part_eq m c t p q)
      have h0' : (n + 1) % 8 = 0 := by omega
      subst ht
      refine e3.trans ?_
      rw [h0']
      exact (Finset.sum_range_one (fun b => ∑ j : Fin 2048, term m c ((n + 1) / 8) p q (2048 * b + j.val))).symm
    · have hd : (n + 1) / 8 = n / 8 := by omega
      have hm : (n + 1) % 8 = n % 8 + 1 := by omega
      by_cases h1 : t.val % 8 = 7
      · have e := sc_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 p q
        have e2 := congrArg (fun o => o.2 (ix2 p q)) (outsAt0_C m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl
      · have e := sc_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (X0 m c t) (X1 m c t) (outsAt0 m c (t.val - 1) (Nat.lt_of_le_of_lt (Nat.sub_le _ _) t.isLt)).2 p q
        have e2 := congrArg (fun o => o.2 (ix2 p q)) (outsAt0_B m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl

/-- The output block of a column block's last point: the sum over all rows. -/
theorem after_out (c : Dev nD) (t : Fin cfg0.N) (h1 : t.val % 8 = 7) (s : Fin 1) (p : Fin 704) (q : Fin 1024) :
    (outsAt0 m c t.val t.isLt).1 (ix3 s p q) = ∑ r : Fin 16384, term m c (t.val / 8) p q r.val := by
  have h0 : ¬ t.val % 8 = 0 := by omega
  have ht : t.val < 32 := t.isLt
  have e := out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 s p q
  have e2 := congrArg (fun o => o.1 (ix3 s p q)) (outsAt0_C m c t h0 h1)
  dsimp only at e2
  have e3 := e2.trans e
  rw [part_eq] at e3
  refine e3.trans ?_
  refine Eq.trans (congrArg (· + _) (after_sc m c p q (t.val - 1) (Nat.lt_of_le_of_lt (Nat.sub_le _ _) t.isLt))) ?_
  have hd : (t.val - 1) / 8 = t.val / 8 := by omega
  have hm : (t.val - 1) % 8 + 1 = 7 := by omega
  rw [hd, hm, h1, ← Finset.sum_range_succ (fun b => ∑ j : Fin 2048, term m c (t.val / 8) p q (2048 * b + j.val))]
  exact sum_blocks 8 2048 fun r => term m c (t.val / 8) p q r

/-- An entry of the gradient. -/
def entry (c : Dev nD) (i : S4x704x1024.Idx) : EReal :=
  ∑ r : Fin 16384, arg_0 m c (ix2 r (⟨704 * (i 0 : ℕ) + (i 1 : ℕ), by have h0 : (i 0 : ℕ) < 4 := (i 0).isLt; have h1 : (i 1 : ℕ) < 704 := (i 1).isLt; omega⟩ : Fin 2816)) * arg_2 m c (ix2 r (i 2))

/-- The gradient as an array. -/
def result (c : Dev nD) : Vec Ideal S4x704x1024 .bf16 := fun i => entry m c i

theorem flushed_eq (c : Dev nD) (t : Fin cfg0.N) (hf : (cfg0.win 2).flush t = true) :
    (dats m 0 c).flushed 2 t = ((cfg0.win 2).blk t).view.read (Elt Ideal) (result m c) := by
  rw [Value.flushed2]
  have hi := index_2 t
  have ht : t.val < 32 := t.isLt
  have hl : t.val % 8 = 7 := (flush0_2 t).mp hf
  funext y
  rw [View.read_apply]
  have hy0 : (y 0 : ℕ) < 1 := (y 0).isLt
  have hy1 : (y 1 : ℕ) < 704 := (y 1).isLt
  have hy2 : (y 2 : ℕ) < 1024 := (y 2).isLt
  have e0 : ((((cfg0.win 2).blk t).view.emb y) 0 : ℕ) = (t.val / 8) * 1 + (y 0 : ℕ) := by
    show win0_2.index t 0 * 1 + 1 * (y 0 : ℕ) = _
    rw [hi.1]; omega
  have e1 : ((((cfg0.win 2).blk t).view.emb y) 1 : ℕ) = (0) * 704 + (y 1 : ℕ) := by
    show win0_2.index t 1 * 704 + 1 * (y 1 : ℕ) = _
    rw [hi.2.1]; omega
  have e2 : ((((cfg0.win 2).blk t).view.emb y) 2 : ℕ) = (0) * 1024 + (y 2 : ℕ) := by
    show win0_2.index t 2 * 1024 + 1 * (y 2 : ℕ) = _
    rw [hi.2.2]; omega
  have hy : (y : S1x704x1024.Idx) = ix3 (⟨(y 0 : ℕ), hy0⟩ : Fin 1) (⟨(y 1 : ℕ), hy1⟩ : Fin 704) (⟨(y 2 : ℕ), hy2⟩ : Fin 1024) := by
    funext a
    match a with
    | ⟨0, _⟩ => rfl
    | ⟨1, _⟩ => rfl
    | ⟨2, _⟩ => rfl
  refine eq_of_heq (HEq.trans (heq_of_eq (?_ : (outsAt0 m c t.val t.isLt).1 y = entry m c (((cfg0.win 2).blk t).view.emb y))) (cast_heq _ _).symm)
  rw [show (outsAt0 m c t.val t.isLt).1 y = (outsAt0 m c t.val t.isLt).1 (ix3 (⟨(y 0 : ℕ), hy0⟩ : Fin 1) (⟨(y 1 : ℕ), hy1⟩ : Fin 704) (⟨(y 2 : ℕ), hy2⟩ : Fin 1024)) from congrArg _ hy]
  refine (after_out m c t hl (⟨(y 0 : ℕ), hy0⟩ : Fin 1) (⟨(y 1 : ℕ), hy1⟩ : Fin 704) (⟨(y 2 : ℕ), hy2⟩ : Fin 1024)).trans ?_
  unfold entry
  refine Finset.sum_congr rfl fun r _ => ?_
  unfold term
  have hr := r.isLt
  rw [dif_pos (show t.val / 8 < 4 ∧ r.val < 16384 from by omega), arr_1, arr_0 m c _ _ _ (⟨704 * (t.val / 8) + (y 1 : ℕ), by omega⟩ : Fin 2816) rfl]
  refine congrArg₂ (· * ·) (congrArg (fun z => arg_0 m c (ix2 r z)) (Fin.ext ?_)) (congrArg (fun z => arg_2 m c (ix2 r z)) (Fin.ext ?_))
  · show 704 * (t.val / 8) + (y 1 : ℕ) = 704 * (_ : ℕ) + (_ : ℕ)
    rw [e0, e1]; omega
  · show (y 2 : ℕ) = _
    rw [e2]; omega

theorem final_eq (c : Dev nD) : (dats m 0 c).arrAt 2 cfg0.N = result m c :=
  (dats m 0 c).arrAt_eq_of_cover 2 (result m c) (flushed_eq m c)
    ((show (cfg0.win 2).Covers by decide +kernel).cover _ (Memref.isWhole_whole _))

/-- The kernel's run, read: the result at its formula, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m c), (h c).2⟩) (Value.run_blocks m ρ)

end Cert.Kernel3Ideal.Prod

end
-- ==== Proof.DownRef.lean ====
/-
  The reference's weight gradient of the down projection, at an index.
-/
module

public import proofs.«01_k».proof.Proof.Gen.Reference3Ideal.Read
public import Idealize.ShloMosaic.Lib.Pointwise

@[expose] public section

set_option maxRecDepth 16384

namespace Cert.Reference3Ideal.Prod

open Cert.Reference3Ideal Cert.Reference3Ideal.Gen Cert.Reference3Ideal.Read Idealize.ShloMosaic Idealize.ShloMosaic.TcCoe

/-- Entry `(k, p, q)`: the sum over all rows of the activation's column `704 k + p` times the cotangent's column `q`. -/
theorem read (x0 : Vec Ideal S16384x2816 .f32) (x2 : Vec Ideal S16384x1024 .f32) (k : Fin 4) (p : Fin 704) (q : Fin 1024) (l : Fin 2816) (hl : l.val = 704 * k.val + p.val) :
    val_main_v4 (F := Ideal) x0 x2 (ix3 k p q) = ∑ r : Fin 16384, x0 (ix2 r l) * x2 (ix2 r q) := by
  unfold val_main_v4 val_main_v3 val_main_v2 val_main_v1
  pointwise
  refine Finset.sum_congr rfl fun r _ => ?_
  rw [mul_comm]
  exact congrArg (fun z => x0 (ix2 r z) * x2 (ix2 r q)) (Fin.ext (by show k.val * 704 + p.val = l.val; omega))

end Cert.Reference3Ideal.Prod

end
-- ==== Proof.InBlock.lean ====
/-
  What one grid point of the input projection's weight gradient leaves in its scratch buffer and in its output block, at an
  index and over the extended reals: 512 columns of the gradient at a time, the sum over the rows seen so far.
-/
module

public import proofs.«01_k».proof.Proof.Gen.Kernel4Ideal.Frame
public import proofs.«01_k».proof.Proof.Canon
public import Idealize.ShloMosaic.Lib.Tactic
public import Idealize.ShloMosaic.Lib.Pointwise

@[expose] public section

set_option maxRecDepth 16384

noncomputable section

namespace Cert.Kernel4Ideal.Prod

open Cert.Kernel4Ideal Cert.Kernel4Ideal.Gen Idealize.ShloMosaic Idealize.ShloMosaic.TcCoe Idealize.SL.Sem
open Cert.Canon

theorem hz2 : (![0, 0] : Fin 2 → ℕ) = fun _ => 0 := funext fun a => by fin_cases a <;> rfl
theorem hz3 : (![0, 0, 0] : Fin 3 → ℕ) = fun _ => 0 := funext fun a => by fin_cases a <;> rfl

/-- What a point adds at `(p, q)`: the products of its 2048 rows. -/
def part (x0 : Vec Ideal S2048x1024 .bf16) (x1 : Vec Ideal S2048x512 .bf16) (p : Fin 1024) (q : Fin 512) : EReal :=
  ∑ r : Fin 2048, x0 (ix2 r p) * x1 (ix2 r q)

/-- The scratch buffer after a point of case A. -/
theorem sc_A (c : Dev nD) (i : grid0.Coords) (arg3 : Memref sig .tc .vmem S2048x1024 .bf16) (harg3 : arg3.IsWhole) (arg4 : Memref sig .tc .vmem S2048x512 .bf16) (harg4 : arg4.IsWhole) (arg5 : Memref sig .tc .vmem S2x1024x256 .bf16) (harg5 : arg5.IsWhole) (arg6 : Memref sig .tc .vmem S1024x512 .f32) (harg6 : arg6.IsWhole) (hc0 : cond0_0 i) (hc1 : ¬cond0_1 i)
    (x0 : Vec Ideal S2048x1024 .bf16) (x1 : Vec Ideal S2048x512 .bf16) (p : Fin 1024) (q : Fin 512) :
    sout0_A_0 c i arg3 harg3 arg4 harg4 arg5 harg5 arg6 harg6 hc0 hc1 x0 x1 (ix2 p q) = part x0 x1 p q := by
  unfold sout0_A_0
  rw [View.read_writes_junk_eq_canon]
  unfold kernelRun0_A
  dsimp only
  sl_unfold_words
  simp only [View.readAt_eq_ld, harg3.read_unread, harg4.read_unread, harg5.read_unread, harg6.read_unread, View.ld_unit_zero (S := S2048x1024) hz2, View.ld_unit_zero (S := S2048x512) hz2, View.ld_unit_zero (S := S1024x512) hz2]
  rw [canon_in (Val := Elt Ideal) (S := S1024x512) (e := .f32) ![0, 0] ![1024, 512] inb_S1024x512_S1024x512_0_0 _ _ _ (ix2 p q) (fun a => by match a with
        | ⟨0, _⟩ => show p.val = 0 + p.val; omega
        | ⟨1, _⟩ => show (q : Fin 512).val = 0 + (q : Fin 512).val; omega)]
  pointwise [k0_pay2]
  refine Eq.trans (congrArg₂ (· + ·) (?_ : _ = (0 : EReal)) rfl) (zero_add _)
  rw [View.readCov_eq_canon']
  dsimp only
  rw [canon_in (Val := Elt Ideal) (S := S1024x512) (e := .f32) ![0, 0] ![1024, 512] inb_S1024x512_S1024x512_0_0 _ _ _ (ix2 p q) (fun a => by match a with
        | ⟨0, _⟩ => show 0 + 1 * p.val = 0 + p.val; omega
        | ⟨1, _⟩ => show 0 + 1 * q.val = 0 + q.val; omega)]
  pointwise [k0_pay1]

/-- The scratch buffer after a point of case B. -/
theorem sc_B (c : Dev nD) (i : grid0.Coords) (arg3 : Memref sig .tc .vmem S2048x1024 .bf16) (harg3 : arg3.IsWhole) (arg4 : Memref sig .tc .vmem S2048x512 .bf16) (harg4 : arg4.IsWhole) (arg5 : Memref sig .tc .vmem S2x1024x256 .bf16) (harg5 : arg5.IsWhole) (arg6 : Memref sig .tc .vmem S1024x512 .f32) (harg6 : arg6.IsWhole) (hc0 : ¬cond0_0 i) (hc1 : ¬cond0_1 i)
    (x0 : Vec Ideal S2048x1024 .bf16) (x1 : Vec Ideal S2048x512 .bf16) (xs0 : Vec Ideal S1024x512 .f32) (p : Fin 1024) (q : Fin 512) :
    sout0_B_0 c i arg3 harg3 arg4 harg4 arg5 harg5 arg6 harg6 hc0 hc1 x0 x1 xs0 (ix2 p q) = xs0 (ix2 p q) + part x0 x1 p q := by
  unfold sout0_B_0
  rw [View.read_writes_junk_eq_canon]
  unfold kernelRun0_B
  dsimp only
  sl_unfold_words
  simp only [View.readAt_eq_ld, harg3.read_unread, harg4.read_unread, harg5.read_unread, harg6.read_unread, View.ld_unit_zero (S := S2048x1024) hz2, View.ld_unit_zero (S := S2048x512) hz2, View.ld_unit_zero (S := S1024x512) hz2]
  rw [canon_in (Val := Elt Ideal) (S := S1024x512) (e := .f32) ![0, 0] ![1024, 512] inb_S1024x512_S1024x512_0_0 _ _ _ (ix2 p q) (fun a => by match a with
        | ⟨0, _⟩ => show p.val = 0 + p.val; omega
        | ⟨1, _⟩ => show (q : Fin 512).val = 0 + (q : Fin 512).val; omega)]
  pointwise [k0_pay2]
  rfl

/-- The scratch buffer after a point of case C. -/
theorem sc_C (c : Dev nD) (i : grid0.Coords) (arg3 : Memref sig .tc .vmem S2048x1024 .bf16) (harg3 : arg3.IsWhole) (arg4 : Memref sig .tc .vmem S2048x512 .bf16) (harg4 : arg4.IsWhole) (arg5 : Memref sig .tc .vmem S2x1024x256 .bf16) (harg5 : arg5.IsWhole) (arg6 : Memref sig .tc .vmem S1024x512 .f32) (harg6 : arg6.IsWhole) (hc0 : ¬cond0_0 i) (hc1 : cond0_1 i)
    (x0 : Vec Ideal S2048x1024 .bf16) (x1 : Vec Ideal S2048x512 .bf16) (xs0 : Vec Ideal S1024x512 .f32) (p : Fin 1024) (q : Fin 512) :
    sout0_C_0 c i arg3 harg3 arg4 harg4 arg5 harg5 arg6 harg6 hc0 hc1 x0 x1 xs0 (ix2 p q) = xs0 (ix2 p q) + part x0 x1 p q := by
  unfold sout0_C_0
  rw [View.read_writes_junk_eq_canon]
  unfold kernelRun0_C
  dsimp only
  sl_unfold_words
  simp only [View.readAt_eq_ld, harg3.read_unread, harg4.read_unread, harg5.read_unread, harg6.read_unread, View.ld_unit_zero (S := S2048x1024) hz2, View.ld_unit_zero (S := S2048x512) hz2, View.ld_unit_zero (S := S1024x512) hz2]
  rw [canon_in (Val := Elt Ideal) (S := S1024x512) (e := .f32) ![0, 0] ![1024, 512] inb_S1024x512_S1024x512_0_0 _ _ _ (ix2 p q) (fun a => by match a with
        | ⟨0, _⟩ => show p.val = 0 + p.val; omega
        | ⟨1, _⟩ => show (q : Fin 512).val = 0 + (q : Fin 512).val; omega)]
  pointwise [k0_pay2]
  rfl

/-- The output block of a point of case C: the scratch buffer's columns, cut into two blocks. -/
theorem out_C (c : Dev nD) (i : grid0.Coords) (arg3 : Memref sig .tc .vmem S2048x1024 .bf16) (harg3 : arg3.IsWhole) (arg4 : Memref sig .tc .vmem S2048x512 .bf16) (harg4 : arg4.IsWhole) (arg5 : Memref sig .tc .vmem S2x1024x256 .bf16) (harg5 : arg5.IsWhole) (arg6 : Memref sig .tc .vmem S1024x512 .f32) (harg6 : arg6.IsWhole) (hc0 : ¬cond0_0 i) (hc1 : cond0_1 i)
    (x0 : Vec Ideal S2048x1024 .bf16) (x1 : Vec Ideal S2048x512 .bf16) (xs0 : Vec Ideal S1024x512 .f32) (s : Fin 2) (p : Fin 1024) (q : Fin 256) (z : Fin 512) (hz : z.val = 256 * s.val + q.val) :
    out0_C_2 c i arg3 harg3 arg4 harg4 arg5 harg5 arg6 harg6 hc0 hc1 x0 x1 xs0 (ix3 s p q) = xs0 (ix2 p z) + part x0 x1 p z := by
  unfold out0_C_2
  rw [View.read_writes_junk_eq_canon]
  unfold kernelRun0_C
  dsimp only
  sl_unfold_words
  simp only [View.readAt_eq_ld, harg3.read_unread, harg4.read_unread, harg5.read_unread, harg6.read_unread, View.ld_unit_zero (S := S2048x1024) hz2, View.ld_unit_zero (S := S2048x512) hz2, View.ld_unit_zero (S := S1024x512) hz2]
  by_cases hs : s.val = 1
  · obtain rfl : s = (1 : Fin 2) := Fin.ext hs
    have hz' : z.val = 256 + q.val := hz
    rw [canon_in _ _ _ _ _ _ (ix3 (0 : Fin 1) p q) (fun a => by match a with
        | ⟨0, _⟩ => rfl
        | ⟨1, _⟩ => show p.val = 0 + p.val; omega
        | ⟨2, _⟩ => show q.val = 0 + q.val; omega)]
    pointwise [k0_pay4]
    rw [View.readCov_eq_canon']
    dsimp only
    rw [canon_in (Val := Elt Ideal) (S := S1024x512) (e := .f32) ![0, 0] ![1024, 512] inb_S1024x512_S1024x512_0_0 _ _ _ (ix2 p z) (fun a => by match a with
        | ⟨0, _⟩ => show 0 + 1 * p.val = 0 + p.val; omega
        | ⟨1, _⟩ => show 256 + 1 * q.val = 0 + z.val; rw [hz']; omega)]
    pointwise [k0_pay2]
    rfl
  · obtain rfl : s = (0 : Fin 2) := Fin.ext (by have := s.isLt; show s.val = 0; omega)
    have hz' : z.val = q.val := hz.trans (Nat.zero_add _)
    rw [canon_out _ _ _ _ _ _ (0 : Fin 3) (by show 0 < 1 ∨ 1 + 1 ≤ 0; omega), canon_in _ _ _ _ _ _ (ix3 (0 : Fin 1) p q) (fun a => by match a with
        | ⟨0, _⟩ => rfl
        | ⟨1, _⟩ => show p.val = 0 + p.val; omega
        | ⟨2, _⟩ => show q.val = 0 + q.val; omega)]
    pointwise [k0_pay3]
    rw [View.readCov_eq_canon']
    dsimp only
    rw [canon_in (Val := Elt Ideal) (S := S1024x512) (e := .f32) ![0, 0] ![1024, 512] inb_S1024x512_S1024x512_0_0 _ _ _ (ix2 p z) (fun a => by match a with
        | ⟨0, _⟩ => show 0 + 1 * p.val = 0 + p.val; omega
        | ⟨1, _⟩ => show 0 + 1 * q.val = 0 + z.val; rw [hz']; omega)]
    pointwise [k0_pay2]
    rfl

end Cert.Kernel4Ideal.Prod

end
-- ==== Proof.InKernel.lean ====
/-
  The weight gradient of the input projection, as the accumulating call leaves it: entry `(k, p, q)` is the sum over the
  16384 rows of the input's column `p` times the cotangent's column `256 k + q`.
-/
module

public import proofs.«01_k».proof.Proof.Rows
public import Idealize.ShloMosaic.Lib.Pipeline.ValueKit
public import proofs.«01_k».proof.Proof.InBlock
public import proofs.«01_k».proof.Proof.Gen.Kernel4Ideal.Value

@[expose] public section

set_option maxRecDepth 16384

noncomputable section

namespace Cert.Kernel4Ideal.Prod

open Cert.Kernel4Ideal Cert.Kernel4Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

abbrev arg_0 (c : Dev nD) : Vec Ideal S16384x1024 .f32 := m ((c : Thread nD τ).loc main_arg0)
abbrev arg_1 (c : Dev nD) : Vec Ideal S1024x2048 .f32 := m ((c : Thread nD τ).loc main_arg1)
abbrev arg_2 (c : Dev nD) : Vec Ideal S16384x2048 .f32 := m ((c : Thread nD τ).loc main_arg2)

/-! The arrays that the input windows read, their blocks at point `t`, and both at an index. -/

abbrev Arr0 (c : Dev nD) : Vec Ideal S16384x1024 .bf16 := V m c main_v0
abbrev X0 (c : Dev nD) (t : Fin cfg0.N) : Vec Ideal S2048x1024 .bf16 := iblk m c 0 t

theorem arr_0 (c : Dev nD) (r : Fin 16384) (p : Fin 1024) :
    Arr0 m c (ix2 r p) = arg_0 m c (ix2 r p) := by
  unfold Arr0 V
  after_results
  pointwise

abbrev Arr1 (c : Dev nD) : Vec Ideal S16384x2048 .bf16 := V m c main_v1
abbrev X1 (c : Dev nD) (t : Fin cfg0.N) : Vec Ideal S2048x512 .bf16 := iblk m c 1 t

theorem arr_1 (c : Dev nD) (r : Fin 16384) (p : Fin 2048) :
    Arr1 m c (ix2 r p) = arg_2 m c (ix2 r p) := by
  unfold Arr1 V
  after_results
  pointwise

theorem index_0 : ∀ t : Fin cfg0.N, win0_0.index t 0 = t.val % 8 ∧ win0_0.index t 1 = 0 :=
  (by decide +kernel : ∀ t : Fin grid0.N, _)

theorem iblk_0 (c : Dev nD) (t : Fin cfg0.N) (j0 : Fin 2048) (j1 : Fin 1024) (r0 : Fin 16384) (r1 : Fin 1024)
    (h0 : r0.val = (t.val % 8) * 2048 + j0.val) (h1 : r1.val = (0) * 1024 + j1.val) :
    X0 m c t (ix2 j0 j1) = Arr0 m c (ix2 r0 r1) := by
  unfold X0 iblk
  rw [View.read_apply]
  exact congrArg (V m c main_v0) (Cert.Rows.ix2_of (index_0 t) h0 h1 rfl rfl)

theorem index_1 : ∀ t : Fin cfg0.N, win0_1.index t 0 = t.val % 8 ∧ win0_1.index t 1 = t.val / 8 :=
  (by decide +kernel : ∀ t : Fin grid0.N, _)

theorem iblk_1 (c : Dev nD) (t : Fin cfg0.N) (j0 : Fin 2048) (j1 : Fin 512) (r0 : Fin 16384) (r1 : Fin 2048)
    (h0 : r0.val = (t.val % 8) * 2048 + j0.val) (h1 : r1.val = (t.val / 8) * 512 + j1.val) :
    X1 m c t (ix2 j0 j1) = Arr1 m c (ix2 r0 r1) := by
  unfold X1 iblk
  rw [View.read_apply]
  exact congrArg (V m c main_v1) (Cert.Rows.ix2_of (index_1 t) h0 h1 rfl rfl)

theorem index_2 : ∀ t : Fin cfg0.N, win0_2.index t 0 = t.val / 8 ∧ win0_2.index t 1 = 0 ∧ win0_2.index t 2 = 0 :=
  (by decide +kernel : ∀ t : Fin grid0.N, _)

/-- The product of row `r` that the gradient's entry of column block `k` sums. -/
def term (c : Dev nD) (k : ℕ) (p : Fin 1024) (q : Fin 512) (r : ℕ) : EReal :=
  if h : k < 4 ∧ r < 16384 then Arr0 m c (ix2 ⟨r, h.2⟩ p) * Arr1 m c (ix2 ⟨r, h.2⟩ ⟨512 * k + q.val, by omega⟩) else 0

/-- What point `t` adds. -/
theorem part_eq (c : Dev nD) (t : Fin cfg0.N) (p : Fin 1024) (q : Fin 512) :
    part (X0 m c t) (X1 m c t) p q = ∑ j : Fin 2048, term m c (t.val / 8) p q (2048 * (t.val % 8) + j.val) := by
  have ht : t.val < 32 := t.isLt
  unfold part term
  refine Finset.sum_congr rfl fun j _ => ?_
  have hj := j.isLt
  rw [dif_pos (show t.val / 8 < 4 ∧ 2048 * (t.val % 8) + j.val < 16384 from by omega)]
  exact congrArg₂ (· * ·) (iblk_0 m c t j p _ p (by show 2048 * (t.val % 8) + j.val = _; omega) (by omega))
    (iblk_1 m c t j q _ _ (by show 2048 * (t.val % 8) + j.val = _; omega) (by show 512 * (t.val / 8) + q.val = _; omega))

/-- The scratch buffer after point `n`: the sum over the blocks of rows of its column block up to it. -/
theorem after_sc (c : Dev nD) (p : Fin 1024) (q : Fin 512) : ∀ (n : ℕ) (hn : n < cfg0.N),
    (outsAt0 m c n hn).2 (ix2 p q)
      = ∑ b ∈ Finset.range (n % 8 + 1), ∑ j : Fin 2048, term m c (n / 8) p q (2048 * b + j.val) := by
  intro n
  induction n with
  | zero =>
    intro hn
    obtain ⟨t, ht⟩ : ∃ t : Fin cfg0.N, t = ⟨0, hn⟩ := ⟨_, rfl⟩
    have h0 : t.val % 8 = 0 := by rw [ht]; exact Nat.zero_mod _
    have h1 : ¬ t.val % 8 = 7 := by omega
    have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) p q
    have e2 := congrArg (fun o => o.2 (ix2 p q)) (outsAt0_A m c t h0 h1)
    dsimp only at e2
    have e3 := (e2.trans e).trans (part_eq m c t p q)
    subst ht
    refine e3.trans ?_
    exact Finset.sum_range_one (fun b => ∑ j : Fin 2048, term m c (0 / 8) p q (2048 * b + j.val)) |>.symm
  | succ n ih =>
    intro hn
    have hn' : n + 1 < 32 := hn
    obtain ⟨t, ht⟩ : ∃ t : Fin cfg0.N, t = ⟨n + 1, hn⟩ := ⟨_, rfl⟩
    have htv : t.val = n + 1 := by rw [ht]
    by_cases h0 : t.val % 8 = 0
    · have h1 : ¬ t.val % 8 = 7 := by omega
      have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) p q
      have e2 := congrArg (fun o => o.2 (ix2 p q)) (outsAt0_A m c t h0 h1)
      dsimp only at e2
      have e3 := (e2.trans e).trans (part_eq m c t p q)
      have h0' : (n + 1) % 8 = 0 := by omega
      subst ht
      refine e3.trans ?_
      rw [h0']
      exact (Finset.sum_range_one (fun b => ∑ j : Fin 2048, term m c ((n + 1) / 8) p q (2048 * b + j.val))).symm
    · have hd : (n + 1) / 8 = n / 8 := by omega
      have hm : (n + 1) % 8 = n % 8 + 1 := by omega
      by_cases h1 : t.val % 8 = 7
      · have e := sc_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 p q
        have e2 := congrArg (fun o => o.2 (ix2 p q)) (outsAt0_C m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl
      · have e := sc_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (X0 m c t) (X1 m c t) (outsAt0 m c (t.val - 1) (Nat.lt_of_le_of_lt (Nat.sub_le _ _) t.isLt)).2 p q
        have e2 := congrArg (fun o => o.2 (ix2 p q)) (outsAt0_B m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl

/-- The output block of a column block's last point: the sum over all rows. -/
theorem after_out (c : Dev nD) (t : Fin cfg0.N) (h1 : t.val % 8 = 7) (s : Fin 2) (p : Fin 1024) (q : Fin 256) (z : Fin 512) (hz : z.val = 256 * s.val + q.val) :
    (outsAt0 m c t.val t.isLt).1 (ix3 s p q) = ∑ r : Fin 16384, term m c (t.val / 8) p z r.val := by
  have h0 : ¬ t.val % 8 = 0 := by omega
  have ht : t.val < 32 := t.isLt
  have e := out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 s p q z hz
  have e2 := congrArg (fun o => o.1 (ix3 s p q)) (outsAt0_C m c t h0 h1)
  dsimp only at e2
  have e3 := e2.trans e
  rw [part_eq] at e3
  refine e3.trans ?_
  refine Eq.trans (congrArg (· + _) (after_sc m c p z (t.val - 1) (Nat.lt_of_le_of_lt (Nat.sub_le _ _) t.isLt))) ?_
  have hd : (t.val - 1) / 8 = t.val / 8 := by omega
  have hm : (t.val - 1) % 8 + 1 = 7 := by omega
  rw [hd, hm, h1, ← Finset.sum_range_succ (fun b => ∑ j : Fin 2048, term m c (t.val / 8) p z (2048 * b + j.val))]
  exact sum_blocks 8 2048 fun r => term m c (t.val / 8) p z r

/-- An entry of the gradient. -/
def entry (c : Dev nD) (i : S8x1024x256.Idx) : EReal :=
  ∑ r : Fin 16384, arg_0 m c (ix2 r (i 1)) * arg_2 m c (ix2 r (⟨256 * (i 0 : ℕ) + (i 2 : ℕ), by have h0 : (i 0 : ℕ) < 8 := (i 0).isLt; have h2 : (i 2 : ℕ) < 256 := (i 2).isLt; omega⟩ : Fin 2048))

/-- The gradient as an array. -/
def result (c : Dev nD) : Vec Ideal S8x1024x256 .bf16 := fun i => entry m c i

theorem flushed_eq (c : Dev nD) (t : Fin cfg0.N) (hf : (cfg0.win 2).flush t = true) :
    (dats m 0 c).flushed 2 t = ((cfg0.win 2).blk t).view.read (Elt Ideal) (result m c) := by
  rw [Value.flushed2]
  have hi := index_2 t
  have ht : t.val < 32 := t.isLt
  have hl : t.val % 8 = 7 := (flush0_2 t).mp hf
  funext y
  rw [View.read_apply]
  have hy0 : (y 0 : ℕ) < 2 := (y 0).isLt
  have hy1 : (y 1 : ℕ) < 1024 := (y 1).isLt
  have hy2 : (y 2 : ℕ) < 256 := (y 2).isLt
  have e0 : ((((cfg0.win 2).blk t).view.emb y) 0 : ℕ) = (t.val / 8) * 2 + (y 0 : ℕ) := by
    show win0_2.index t 0 * 2 + 1 * (y 0 : ℕ) = _
    rw [hi.1]; omega
  have e1 : ((((cfg0.win 2).blk t).view.emb y) 1 : ℕ) = (0) * 1024 + (y 1 : ℕ) := by
    show win0_2.index t 1 * 1024 + 1 * (y 1 : ℕ) = _
    rw [hi.2.1]; omega
  have e2 : ((((cfg0.win 2).blk t).view.emb y) 2 : ℕ) = (0) * 256 + (y 2 : ℕ) := by
    show win0_2.index t 2 * 256 + 1 * (y 2 : ℕ) = _
    rw [hi.2.2]; omega
  have hy : (y : S2x1024x256.Idx) = ix3 (⟨(y 0 : ℕ), hy0⟩ : Fin 2) (⟨(y 1 : ℕ), hy1⟩ : Fin 1024) (⟨(y 2 : ℕ), hy2⟩ : Fin 256) := by
    funext a
    match a with
    | ⟨0, _⟩ => rfl
    | ⟨1, _⟩ => rfl
    | ⟨2, _⟩ => rfl
  refine eq_of_heq (HEq.trans (heq_of_eq (?_ : (outsAt0 m c t.val t.isLt).1 y = entry m c (((cfg0.win 2).blk t).view.emb y))) (cast_heq _ _).symm)
  rw [show (outsAt0 m c t.val t.isLt).1 y = (outsAt0 m c t.val t.isLt).1 (ix3 (⟨(y 0 : ℕ), hy0⟩ : Fin 2) (⟨(y 1 : ℕ), hy1⟩ : Fin 1024) (⟨(y 2 : ℕ), hy2⟩ : Fin 256)) from congrArg _ hy]
  refine (after_out m c t hl (⟨(y 0 : ℕ), hy0⟩ : Fin 2) (⟨(y 1 : ℕ), hy1⟩ : Fin 1024) (⟨(y 2 : ℕ), hy2⟩ : Fin 256) (⟨256 * (y 0 : ℕ) + (y 2 : ℕ), by omega⟩ : Fin 512) rfl).trans ?_
  unfold entry
  refine Finset.sum_congr rfl fun r _ => ?_
  unfold term
  have hr := r.isLt
  rw [dif_pos (show t.val / 8 < 4 ∧ r.val < 16384 from by omega), arr_0, arr_1]
  refine congrArg₂ (· * ·) (congrArg (fun z => arg_0 m c (ix2 r z)) (Fin.ext ?_)) (congrArg (fun z => arg_2 m c (ix2 r z)) (Fin.ext ?_))
  · show (y 1 : ℕ) = _
    rw [e1]; omega
  · show 512 * (t.val / 8) + (256 * (y 0 : ℕ) + (y 2 : ℕ)) = 256 * (_ : ℕ) + (_ : ℕ)
    rw [e0, e2]; omega

theorem final_eq (c : Dev nD) : (dats m 0 c).arrAt 2 cfg0.N = result m c :=
  (dats m 0 c).arrAt_eq_of_cover 2 (result m c) (flushed_eq m c)
    ((show (cfg0.win 2).Covers by decide +kernel).cover _ (Memref.isWhole_whole _))

/-- The kernel's run, read: the result at its formula, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m c), (h c).2⟩) (Value.run_blocks m ρ)

end Cert.Kernel4Ideal.Prod

end
-- ==== Proof.InRef.lean ====
/-
  The reference's weight gradient of the input projection, at an index.
-/
module

public import proofs.«01_k».proof.Proof.Gen.Reference4Ideal.Read
public import Idealize.ShloMosaic.Lib.Pointwise

@[expose] public section

set_option maxRecDepth 16384

namespace Cert.Reference4Ideal.Prod

open Cert.Reference4Ideal Cert.Reference4Ideal.Gen Cert.Reference4Ideal.Read Idealize.ShloMosaic Idealize.ShloMosaic.TcCoe

/-- Entry `(k, p, q)`: the sum over all rows of the input's column `p` times the cotangent's column `256 k + q`. -/
theorem read (x0 : Vec Ideal S16384x1024 .f32) (x2 : Vec Ideal S16384x2048 .f32) (k : Fin 8) (p : Fin 1024) (q : Fin 256) (l : Fin 2048) (hl : l.val = 256 * k.val + q.val) :
    val_main_v5 (F := Ideal) x0 x2 (ix3 k p q) = ∑ r : Fin 16384, x0 (ix2 r p) * x2 (ix2 r l) := by
  unfold val_main_v5 val_main_v4 val_main_v3 val_main_v2 val_main_v1
  pointwise
  refine Finset.sum_congr rfl fun r _ => ?_
  rw [mul_comm]
  exact congrArg (fun z => x0 (ix2 r p) * x2 (ix2 r z)) (Fin.ext (by show k.val * 256 + q.val = l.val; omega))

end Cert.Reference4Ideal.Prod

end
-- ==== Proof.InBwdKernel.lean ====
/-
  The gradient of the input projection's input, as the call leaves it: entry `(r, p)` is the scaled residual cotangent and the
  cotangent's row against the weights' row, summed in eight column blocks.
-/
module

public import proofs.«01_k».proof.Proof.Rows
public import Idealize.ShloMosaic.Lib.Pipeline.ValueKit
public import proofs.«01_k».proof.Proof.Gen.Kernel5Ideal.Value
public import proofs.«01_k».proof.Proof.Canon
public import Idealize.ShloMosaic.Lib.Tactic
public import Idealize.ShloMosaic.Lib.Pointwise

@[expose] public section

set_option maxRecDepth 16384

noncomputable section

namespace Cert.Kernel5Ideal.Prod

open Cert.Kernel5Ideal Cert.Kernel5Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

/-- The residual's scale. -/
def scale : EReal := FloatOps.ofBits (F := Ideal) .f32 0x3FD744FD#32

/-- The products of one block of 256 columns. -/
def slab (x0 : Vec Ideal S512x2048 .bf16) (x1 : Vec Ideal S8x1x1024x256 .bf16) (j : Fin 512) (p : Fin 1024) (k : Fin 8) : EReal :=
  ∑ q : Fin 256, x0 (ix2 j ⟨256 * k.val + q.val, by omega⟩) * x1 (ix4 k 0 p q)

/-- The output block at an index. -/
theorem out_eq (x0 : Vec Ideal S512x2048 .bf16) (x1 : Vec Ideal S8x1x1024x256 .bf16) (x2 : Vec Ideal S512x1024 .f32) (j : Fin 512) (p : Fin 1024) :
    out0_3 x0 x1 x2 (ix2 j p) = scale * x2 (ix2 j p) + ∑ k : Fin 8, slab x0 x1 j p k := by
  unfold out0_3
  rw [canon_in _ _ _ _ _ _ (ix2 j p) (fun a => by match a with
        | ⟨0, _⟩ => show j.val = 0 + j.val; omega
        | ⟨1, _⟩ => show p.val = 0 + p.val; omega)]
  pointwise [k0_pay1, k0_pay2]
  rw [Fin.sum_univ_eight]
  simp only [← add_assoc]
  refine congrArg₂ (· + ·) (congrArg₂ (· + ·) (congrArg₂ (· + ·) (congrArg₂ (· + ·) (congrArg₂ (· + ·) (congrArg₂ (· + ·) (congrArg₂ (· + ·) (congrArg₂ (· + ·) rfl ?_) rfl) rfl) rfl) rfl) rfl) rfl) rfl
  refine Finset.sum_congr rfl fun q _ => congrArg (fun z => x0 (ix2 j z) * x1 (ix4 0 0 p q)) (Fin.ext ?_)
  show q.val = 256 * 0 + q.val
  omega

abbrev arg_0 (c : Dev nD) : Vec Ideal S16384x1024 .f32 := m ((c : Thread nD τ).loc main_arg0)
abbrev arg_1 (c : Dev nD) : Vec Ideal S1024x2048 .f32 := m ((c : Thread nD τ).loc main_arg1)
abbrev arg_2 (c : Dev nD) : Vec Ideal S16384x2048 .f32 := m ((c : Thread nD τ).loc main_arg2)
abbrev arg_3 (c : Dev nD) : Vec Ideal S16384x1024 .f32 := m ((c : Thread nD τ).loc main_arg3)

/-! The arrays that the input windows read, their blocks at point `t`, and both at an index. -/

abbrev Arr0 (c : Dev nD) : Vec Ideal S16384x2048 .bf16 := V m c main_v4
abbrev X0 (c : Dev nD) (t : Fin cfg0.N) : Vec Ideal S512x2048 .bf16 := iblk m c 0 t

theorem arr_0 (c : Dev nD) (r : Fin 16384) (p : Fin 2048) :
    Arr0 m c (ix2 r p) = arg_2 m c (ix2 r p) := by
  unfold Arr0 V
  after_results
  pointwise

abbrev Arr1 (c : Dev nD) : Vec Ideal S8x1x1024x256 .bf16 := V m c main_v3
abbrev X1 (c : Dev nD) (t : Fin cfg0.N) : Vec Ideal S8x1x1024x256 .bf16 := iblk m c 1 t

theorem arr_1 (c : Dev nD) (k : Fin 8) (p : Fin 1024) (q : Fin 256) (l : Fin 2048) (hl : l.val = 256 * k.val + q.val) :
    Arr1 m c (ix4 k 0 p q) = arg_1 m c (ix2 p l) := by
  unfold Arr1 V
  after_results
  pointwise
  exact congrArg (fun z => arg_1 m c (ix2 p z)) (Fin.ext (by show k.val * 256 + q.val = l.val; omega))

abbrev Arr2 (c : Dev nD) : Vec Ideal S16384x1024 .f32 := V m c main_arg3
abbrev X2 (c : Dev nD) (t : Fin cfg0.N) : Vec Ideal S512x1024 .f32 := iblk m c 2 t

theorem arr_2 (c : Dev nD) (r : Fin 16384) (p : Fin 1024) :
    Arr2 m c (ix2 r p) = arg_3 m c (ix2 r p) := by
  unfold Arr2 V
  after_results

theorem index_0 : ∀ t : Fin cfg0.N, win0_0.index t 0 = t.val ∧ win0_0.index t 1 = 0 :=
  (by decide +kernel : ∀ t : Fin grid0.N, _)

theorem iblk_0 (c : Dev nD) (t : Fin cfg0.N) (j0 : Fin 512) (j1 : Fin 2048) (r0 : Fin 16384) (r1 : Fin 2048)
    (h0 : r0.val = (t.val) * 512 + j0.val) (h1 : r1.val = (0) * 2048 + j1.val) :
    X0 m c t (ix2 j0 j1) = Arr0 m c (ix2 r0 r1) := by
  unfold X0 iblk
  rw [View.read_apply]
  exact congrArg (V m c main_v4) (Cert.Rows.ix2_of (index_0 t) h0 h1 rfl rfl)

theorem index_1 : ∀ t : Fin cfg0.N, win0_1.index t 0 = 0 ∧ win0_1.index t 1 = 0 ∧ win0_1.index t 2 = 0 ∧ win0_1.index t 3 = 0 :=
  (by decide +kernel : ∀ t : Fin grid0.N, _)

theorem iblk_1 (c : Dev nD) (t : Fin cfg0.N) (j0 : Fin 8) (j1 : Fin 1) (j2 : Fin 1024) (j3 : Fin 256) (r0 : Fin 8) (r1 : Fin 1) (r2 : Fin 1024) (r3 : Fin 256)
    (h0 : r0.val = (0) * 8 + j0.val) (h1 : r1.val = (0) * 1 + j1.val) (h2 : r2.val = (0) * 1024 + j2.val) (h3 : r3.val = (0) * 256 + j3.val) :
    X1 m c t (ix4 j0 j1 j2 j3) = Arr1 m c (ix4 r0 r1 r2 r3) := by
  have hi := index_1 t
  unfold X1 iblk
  rw [View.read_apply]
  show V m c main_v3 _ = V m c main_v3 _
  congr 1
  funext a
  apply Fin.ext
  match a with
  | ⟨0, _⟩ => show win0_1.index t 0 * 8 + 1 * j0.val = r0.val; rw [hi.1, h0]; omega
  | ⟨1, _⟩ => show win0_1.index t 1 * 1 + 1 * j1.val = r1.val; rw [hi.2.1, h1]; omega
  | ⟨2, _⟩ => show win0_1.index t 2 * 1024 + 1 * j2.val = r2.val; rw [hi.2.2.1, h2]; omega
  | ⟨3, _⟩ => show win0_1.index t 3 * 256 + 1 * j3.val = r3.val; rw [hi.2.2.2, h3]; omega

theorem index_2 : ∀ t : Fin cfg0.N, win0_2.index t 0 = t.val ∧ win0_2.index t 1 = 0 :=
  (by decide +kernel : ∀ t : Fin grid0.N, _)

theorem iblk_2 (c : Dev nD) (t : Fin cfg0.N) (j0 : Fin 512) (j1 : Fin 1024) (r0 : Fin 16384) (r1 : Fin 1024)
    (h0 : r0.val = (t.val) * 512 + j0.val) (h1 : r1.val = (0) * 1024 + j1.val) :
    X2 m c t (ix2 j0 j1) = Arr2 m c (ix2 r0 r1) := by
  unfold X2 iblk
  rw [View.read_apply]
  exact congrArg (V m c main_arg3) (Cert.Rows.ix2_of (index_2 t) h0 h1 rfl rfl)

theorem index_3 : ∀ t : Fin cfg0.N, win0_3.index t 0 = t.val ∧ win0_3.index t 1 = 0 :=
  (by decide +kernel : ∀ t : Fin grid0.N, _)

/-- An entry of the gradient. -/
def entry (c : Dev nD) (i : S16384x1024.Idx) : EReal :=
  scale * arg_3 m c (ix2 (i 0) (i 1)) + ∑ k : Fin 2048, arg_2 m c (ix2 (i 0) k) * arg_1 m c (ix2 (i 1) k)

/-- The product of column `n`. -/
def term (c : Dev nD) (r : Fin 16384) (q : Fin 1024) (n : ℕ) : EReal :=
  if h : n < 2048 then arg_2 m c (ix2 r ⟨n, h⟩) * arg_1 m c (ix2 q ⟨n, h⟩) else 0

/-- The output block of point `t`, read in the arguments. -/
theorem block_eq (c : Dev nD) (t : Fin cfg0.N) (j : Fin 512) (p : Fin 1024) (r : Fin 16384) (q : Fin 1024)
    (hr : r.val = (t.val) * 512 + j.val) (hq : q.val = 0 * 1024 + p.val) :
    out0_3 (X0 m c t) (X1 m c t) (X2 m c t) (ix2 j p) = entry m c (ix2 r q) := by
  obtain rfl : q = p := Fin.ext (by omega)
  refine (out_eq _ _ _ j q).trans ?_
  unfold entry
  refine congrArg₂ (· + ·) (congrArg (scale * ·) ((iblk_2 m c t j q r q hr (by omega)).trans (arr_2 m c r q))) ?_
  have hs : ∀ k : Fin 8, slab (X0 m c t) (X1 m c t) j q k
      = ∑ l : Fin 256, term m c r q (256 * k.val + l.val) := by
    intro k
    unfold slab
    refine Finset.sum_congr rfl fun l _ => ?_
    have hk := k.isLt
    have hl := l.isLt
    unfold term
    rw [dif_pos (show 256 * k.val + l.val < 2048 from by omega)]
    exact congrArg₂ (· * ·) ((iblk_0 m c t j _ r _ hr (by omega)).trans (arr_0 m c r _))
      ((iblk_1 m c t k 0 q l k 0 q l (by omega) (by omega) (by omega) (by omega)).trans (arr_1 m c k q l _ rfl))
  refine (Finset.sum_congr rfl fun k _ => hs k).trans ?_
  refine (Finset.sum_range (fun k => ∑ l : Fin 256, term m c r q (256 * k + l.val))).symm.trans ?_
  refine (sum_blocks 8 256 (term m c r q)).trans ?_
  refine Finset.sum_congr rfl fun n _ => ?_
  exact dif_pos n.isLt

/-- The result as an array. -/
def result (c : Dev nD) : Vec Ideal S16384x1024 .f32 := fun i => entry m c i

theorem flushed_eq (c : Dev nD) (t : Fin cfg0.N) :
    (dats m 0 c).flushed 3 t = ((cfg0.win 3).blk t).view.read (Elt Ideal) (result m c) := by
  rw [Value.flushed3]
  funext y
  rw [View.read_apply]
  exact eq_of_heq (HEq.trans (heq_of_eq (Cert.Rows.at_rows (out0_3 (X0 m c t) (X1 m c t) (X2 m c t)) (entry m c) (index_3 t) (block_eq m c t) y _ rfl rfl)) (cast_heq _ _).symm)

theorem final_eq (c : Dev nD) : (dats m 0 c).arrAt 3 cfg0.N = result m c :=
  (dats m 0 c).arrAt_eq_of_cover 3 (result m c) (fun t _ => flushed_eq m c t)
    ((show (cfg0.win 3).Covers by decide +kernel).cover _ (Memref.isWhole_whole _))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Value.run_blocks m ρ)

end Cert.Kernel5Ideal.Prod

end
-- ==== Proof.InBwdRef.lean ====
/-
  The reference's gradient of the input projection's input, at an index.
-/
module

public import proofs.«01_k».proof.Proof.Gen.Reference5Ideal.Read
public import Idealize.ShloMosaic.Lib.Pointwise

@[expose] public section

set_option maxRecDepth 16384

namespace Cert.Reference5Ideal.Prod

open Cert.Reference5Ideal Cert.Reference5Ideal.Gen Cert.Reference5Ideal.Read Idealize.ShloMosaic Idealize.ShloMosaic.TcCoe

/-- Entry `(r, p)`: the cotangent's row against the weights' row, and the scaled residual cotangent. -/
theorem read (x1 : Vec Ideal S1024x2048 .f32) (x2 : Vec Ideal S16384x2048 .f32) (x3 : Vec Ideal S16384x1024 .f32) (r : Fin 16384) (p : Fin 1024) :
    val_main_v6 (F := Ideal) x1 x2 x3 (ix2 r p) = (∑ k : Fin 2048, x2 (ix2 r k) * x1 (ix2 p k)) + FloatOps.ofBits (F := Ideal) .f32 0x3FD744FD#32 * x3 (ix2 r p) := by
  unfold val_main_v6 val_main_v5 val_main_v4 val_main_v3 val_main_cst_0
  pointwise

end Cert.Reference5Ideal.Prod

end
-- ==== Proof.OutBwdKernel.lean ====
/-
  The gradients of the output projection's two inputs, as the call leaves them: entry `(r, q)` of the first is the cotangent's row
  against the weights' row `q`, and of the second against the weights' row `512 + q`.
-/
module

public import proofs.«01_k».proof.Proof.Rows
public import Idealize.ShloMosaic.Lib.Pipeline.ValueKit
public import proofs.«01_k».proof.Proof.Gen.Kernel6Ideal.Value
public import proofs.«01_k».proof.Proof.Canon
public import Idealize.ShloMosaic.Lib.Tactic
public import Idealize.ShloMosaic.Lib.Pointwise

@[expose] public section

set_option maxRecDepth 16384

noncomputable section

namespace Cert.Kernel6Ideal.Prod

open Cert.Kernel6Ideal Cert.Kernel6Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

/-- The first output block at an index. -/
theorem out2_eq (x0 : Vec Ideal S512x1024 .bf16) (x1 : Vec Ideal S1x1024x1024 .bf16) (j : Fin 512) (q : Fin 512) (l : Fin 1024) (hl : l.val = 0 + q.val) :
    out0_2 x0 x1 (ix2 j q) = ∑ p : Fin 1024, x0 (ix2 j p) * x1 (ix3 0 l p) := by
  unfold out0_2
  rw [canon_in _ _ _ _ _ _ (ix2 j q) (fun a => by match a with
        | ⟨0, _⟩ => show j.val = 0 + j.val; omega
        | ⟨1, _⟩ => show q.val = 0 + q.val; omega)]
  pointwise [k0_pay1, k0_pay2]
  exact Finset.sum_congr rfl fun p _ => congrArg (fun z => x0 (ix2 j p) * x1 (ix3 0 z p)) (Fin.ext (by dsimp only; omega))

/-- The second output block at an index. -/
theorem out3_eq (x0 : Vec Ideal S512x1024 .bf16) (x1 : Vec Ideal S1x1024x1024 .bf16) (j : Fin 512) (q : Fin 512) (l : Fin 1024) (hl : l.val = 512 + q.val) :
    out0_3 x0 x1 (ix2 j q) = ∑ p : Fin 1024, x0 (ix2 j p) * x1 (ix3 0 l p) := by
  unfold out0_3
  rw [canon_in _ _ _ _ _ _ (ix2 j q) (fun a => by match a with
        | ⟨0, _⟩ => show j.val = 0 + j.val; omega
        | ⟨1, _⟩ => show q.val = 0 + q.val; omega)]
  pointwise [k0_pay1, k0_pay3]
  exact Finset.sum_congr rfl fun p _ => congrArg (fun z => x0 (ix2 j p) * x1 (ix3 0 z p)) (Fin.ext (by dsimp only; omega))

abbrev arg_0 (c : Dev nD) : Vec Ideal S16384x512 .f32 := m ((c : Thread nD τ).loc main_arg0)
abbrev arg_1 (c : Dev nD) : Vec Ideal S16384x512 .f32 := m ((c : Thread nD τ).loc main_arg1)
abbrev arg_2 (c : Dev nD) : Vec Ideal S1024x1024 .f32 := m ((c : Thread nD τ).loc main_arg2)
abbrev arg_3 (c : Dev nD) : Vec Ideal S16384x1024 .f32 := m ((c : Thread nD τ).loc main_arg3)

/-! The arrays that the input windows read, their blocks at point `t`, and both at an index. -/

abbrev Arr0 (c : Dev nD) : Vec Ideal S16384x1024 .bf16 := V m c main_v0
abbrev X0 (c : Dev nD) (t : Fin cfg0.N) : Vec Ideal S512x1024 .bf16 := iblk m c 0 t

theorem arr_0 (c : Dev nD) (r : Fin 16384) (p : Fin 1024) :
    Arr0 m c (ix2 r p) = arg_3 m c (ix2 r p) := by
  unfold Arr0 V
  after_results
  pointwise

abbrev Arr1 (c : Dev nD) : Vec Ideal S1x1024x1024 .bf16 := V m c main_v2
abbrev X1 (c : Dev nD) (t : Fin cfg0.N) : Vec Ideal S1x1024x1024 .bf16 := iblk m c 1 t

theorem arr_1 (c : Dev nD) (p : Fin 1024) (q : Fin 1024) :
    Arr1 m c (ix3 0 p q) = arg_2 m c (ix2 p q) := by
  unfold Arr1 V
  after_results
  pointwise

theorem index_0 : ∀ t : Fin cfg0.N, win0_0.index t 0 = t.val ∧ win0_0.index t 1 = 0 :=
  (by decide +kernel : ∀ t : Fin grid0.N, _)

theorem iblk_0 (c : Dev nD) (t : Fin cfg0.N) (j0 : Fin 512) (j1 : Fin 1024) (r0 : Fin 16384) (r1 : Fin 1024)
    (h0 : r0.val = (t.val) * 512 + j0.val) (h1 : r1.val = (0) * 1024 + j1.val) :
    X0 m c t (ix2 j0 j1) = Arr0 m c (ix2 r0 r1) := by
  unfold X0 iblk
  rw [View.read_apply]
  exact congrArg (V m c main_v0) (Cert.Rows.ix2_of (index_0 t) h0 h1 rfl rfl)

theorem index_1 : ∀ t : Fin cfg0.N, win0_1.index t 0 = 0 ∧ win0_1.index t 1 = 0 ∧ win0_1.index t 2 = 0 :=
  (by decide +kernel : ∀ t : Fin grid0.N, _)

theorem iblk_1 (c : Dev nD) (t : Fin cfg0.N) (j0 : Fin 1) (j1 : Fin 1024) (j2 : Fin 1024) (r0 : Fin 1) (r1 : Fin 1024) (r2 : Fin 1024)
    (h0 : r0.val = (0) * 1 + j0.val) (h1 : r1.val = (0) * 1024 + j1.val) (h2 : r2.val = (0) * 1024 + j2.val) :
    X1 m c t (ix3 j0 j1 j2) = Arr1 m c (ix3 r0 r1 r2) := by
  unfold X1 iblk
  rw [View.read_apply]
  exact congrArg (V m c main_v2) (Cert.Rows.ix3_of (index_1 t) h0 h1 h2 rfl rfl rfl)

theorem index_2 : ∀ t : Fin cfg0.N, win0_2.index t 0 = t.val ∧ win0_2.index t 1 = 0 :=
  (by decide +kernel : ∀ t : Fin grid0.N, _)

theorem index_3 : ∀ t : Fin cfg0.N, win0_3.index t 0 = t.val ∧ win0_3.index t 1 = 0 :=
  (by decide +kernel : ∀ t : Fin grid0.N, _)

/-- An entry of the first gradient. -/
def entry_2 (c : Dev nD) (i : S16384x512.Idx) : EReal :=
  ∑ k : Fin 1024, arg_3 m c (ix2 (i 0) k) * arg_2 m c (ix2 (⟨0 + (i 1 : ℕ), by have h : (i 1 : ℕ) < 512 := (i 1).isLt; omega⟩ : Fin 1024) k)

/-- The output block of point `t`, read in the arguments. -/
theorem block_2_eq (c : Dev nD) (t : Fin cfg0.N) (j : Fin 512) (p : Fin 512) (r : Fin 16384) (q : Fin 512)
    (hr : r.val = (t.val) * 512 + j.val) (hq : q.val = 0 * 512 + p.val) :
    out0_2 (X0 m c t) (X1 m c t) (ix2 j p) = entry_2 m c (ix2 r q) := by
  obtain rfl : q = p := Fin.ext (by omega)
  refine (out2_eq _ _ j q ⟨0 + q.val, by omega⟩ rfl).trans ?_
  unfold entry_2
  refine Finset.sum_congr rfl fun l _ => ?_
  exact congrArg₂ (· * ·) ((iblk_0 m c t j l r l hr (by omega)).trans (arr_0 m c r l))
    ((iblk_1 m c t 0 ⟨0 + q.val, by omega⟩ l 0 ⟨0 + q.val, by omega⟩ l (by omega) (by omega) (by omega)).trans (arr_1 m c _ l))

/-- An entry of the second gradient. -/
def entry_3 (c : Dev nD) (i : S16384x512.Idx) : EReal :=
  ∑ k : Fin 1024, arg_3 m c (ix2 (i 0) k) * arg_2 m c (ix2 (⟨512 + (i 1 : ℕ), by have h : (i 1 : ℕ) < 512 := (i 1).isLt; omega⟩ : Fin 1024) k)

/-- The output block of point `t`, read in the arguments. -/
theorem block_3_eq (c : Dev nD) (t : Fin cfg0.N) (j : Fin 512) (p : Fin 512) (r : Fin 16384) (q : Fin 512)
    (hr : r.val = (t.val) * 512 + j.val) (hq : q.val = 0 * 512 + p.val) :
    out0_3 (X0 m c t) (X1 m c t) (ix2 j p) = entry_3 m c (ix2 r q) := by
  obtain rfl : q = p := Fin.ext (by omega)
  refine (out3_eq _ _ j q ⟨512 + q.val, by omega⟩ rfl).trans ?_
  unfold entry_3
  refine Finset.sum_congr rfl fun l _ => ?_
  exact congrArg₂ (· * ·) ((iblk_0 m c t j l r l hr (by omega)).trans (arr_0 m c r l))
    ((iblk_1 m c t 0 ⟨512 + q.val, by omega⟩ l 0 ⟨512 + q.val, by omega⟩ l (by omega) (by omega) (by omega)).trans (arr_1 m c _ l))

/-- The result as an array. -/
def result_2 (c : Dev nD) : Vec Ideal S16384x512 .f32 := fun i => entry_2 m c i

theorem flushed_2_eq (c : Dev nD) (t : Fin cfg0.N) :
    (dats m 0 c).flushed 2 t = ((cfg0.win 2).blk t).view.read (Elt Ideal) (result_2 m c) := by
  rw [Value.flushed2]
  funext y
  rw [View.read_apply]
  exact eq_of_heq (HEq.trans (heq_of_eq (Cert.Rows.at_rows (out0_2 (X0 m c t) (X1 m c t)) (entry_2 m c) (index_2 t) (block_2_eq m c t) y _ rfl rfl)) (cast_heq _ _).symm)

theorem final_2_eq (c : Dev nD) : (dats m 0 c).arrAt 2 cfg0.N = result_2 m c :=
  (dats m 0 c).arrAt_eq_of_cover 2 (result_2 m c) (fun t _ => flushed_2_eq m c t)
    ((show (cfg0.win 2).Covers by decide +kernel).cover _ (Memref.isWhole_whole _))

/-- The result as an array. -/
def result_3 (c : Dev nD) : Vec Ideal S16384x512 .f32 := fun i => entry_3 m c i

theorem flushed_3_eq (c : Dev nD) (t : Fin cfg0.N) :
    (dats m 0 c).flushed 3 t = ((cfg0.win 3).blk t).view.read (Elt Ideal) (result_3 m c) := by
  rw [Value.flushed3]
  funext y
  rw [View.read_apply]
  exact eq_of_heq (HEq.trans (heq_of_eq (Cert.Rows.at_rows (out0_3 (X0 m c t) (X1 m c t)) (entry_3 m c) (index_3 t) (block_3_eq m c t) y _ rfl rfl)) (cast_heq _ _).symm)

theorem final_3_eq (c : Dev nD) : (dats m 0 c).arrAt 3 cfg0.N = result_3 m c :=
  (dats m 0 c).arrAt_eq_of_cover 3 (result_3 m c) (fun t _ => flushed_3_eq m c t)
    ((show (cfg0.win 3).Covers by decide +kernel).cover _ (Memref.isWhole_whole _))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v3_0) = result_2 m c
      ∧ r.2.mem ((c : Thread nD τ).loc main_v3_1) = result_3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_2_eq m c), (h c).2.1.trans (final_3_eq m c), (h c).2.2⟩) (Value.run_blocks m ρ)

end Cert.Kernel6Ideal.Prod

end
-- ==== Proof.OutBwdRef.lean ====
/-
  The reference's gradients of the output projection's two inputs, at an index.
-/
module

public import proofs.«01_k».proof.Proof.Gen.Reference6Ideal.Read
public import Idealize.ShloMosaic.Lib.Pointwise

@[expose] public section

set_option maxRecDepth 16384

namespace Cert.Reference6Ideal.Prod

open Cert.Reference6Ideal Cert.Reference6Ideal.Gen Cert.Reference6Ideal.Read Idealize.ShloMosaic Idealize.ShloMosaic.TcCoe

/-- The first: entry `(r, q)` is the cotangent's row against the weights' row `q`. -/
theorem read3 (x2 : Vec Ideal S1024x1024 .f32) (x3 : Vec Ideal S16384x1024 .f32) (r : Fin 16384) (q : Fin 512) (l : Fin 1024) (hl : l.val = 0 + q.val) :
    val_main_v3 (F := Ideal) x2 x3 (ix2 r q) = ∑ k : Fin 1024, x3 (ix2 r k) * x2 (ix2 l k) := by
  unfold val_main_v3 val_main_v2
  pointwise
  exact Finset.sum_congr rfl fun k _ => congrArg (fun z => x3 (ix2 r k) * x2 (ix2 z k)) (Fin.ext (by dsimp only; omega))

/-- The second: entry `(r, q)` is the cotangent's row against the weights' row `512 + q`. -/
theorem read4 (x2 : Vec Ideal S1024x1024 .f32) (x3 : Vec Ideal S16384x1024 .f32) (r : Fin 16384) (q : Fin 512) (l : Fin 1024) (hl : l.val = 512 + q.val) :
    val_main_v4 (F := Ideal) x2 x3 (ix2 r q) = ∑ k : Fin 1024, x3 (ix2 r k) * x2 (ix2 l k) := by
  unfold val_main_v4 val_main_v2
  pointwise
  exact Finset.sum_congr rfl fun k _ => congrArg (fun z => x3 (ix2 r k) * x2 (ix2 z k)) (Fin.ext (by dsimp only; omega))

end Cert.Reference6Ideal.Prod

end
-- ==== Proof.OutBlock.lean ====
/-
  What one grid point of the weight gradient of half of the output projection leaves in its scratch buffer and in its output
  block, at an index and over the extended reals: the sum over the rows seen so far.
-/
module

public import proofs.«01_k».proof.Proof.Gen.Kernel7Ideal.Frame
public import proofs.«01_k».proof.Proof.Canon
public import Idealize.ShloMosaic.Lib.Tactic
public import Idealize.ShloMosaic.Lib.Pointwise

@[expose] public section

set_option maxRecDepth 16384

noncomputable section

namespace Cert.Kernel7Ideal.Prod

open Cert.Kernel7Ideal Cert.Kernel7Ideal.Gen Idealize.ShloMosaic Idealize.ShloMosaic.TcCoe Idealize.SL.Sem
open Cert.Canon

theorem hz2 : (![0, 0] : Fin 2 → ℕ) = fun _ => 0 := funext fun a => by fin_cases a <;> rfl
theorem hz3 : (![0, 0, 0] : Fin 3 → ℕ) = fun _ => 0 := funext fun a => by fin_cases a <;> rfl

/-- What a point adds at `(p, q)`: the products of its 2048 rows. -/
def part (x0 : Vec Ideal S2048x512 .bf16) (x1 : Vec Ideal S2048x1024 .bf16) (p : Fin 512) (q : Fin 1024) : EReal :=
  ∑ r : Fin 2048, x0 (ix2 r p) * x1 (ix2 r q)

/-- The scratch buffer after a point of case A. -/
theorem sc_A (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .f32) (harg6 : arg6.IsWhole) (hc0 : cond0_0 i) (hc1 : ¬cond0_1 i)
    (x0 : Vec Ideal S2048x512 .bf16) (x1 : Vec Ideal S2048x1024 .bf16) (p : Fin 512) (q : Fin 1024) :
    sout0_A_0 c i arg3 harg3 arg4 harg4 arg5 harg5 arg6 harg6 hc0 hc1 x0 x1 (ix2 p q) = part x0 x1 p q := by
  unfold sout0_A_0
  rw [View.read_writes_junk_eq_canon]
  unfold kernelRun0_A
  dsimp only
  sl_unfold_words
  simp only [View.readAt_eq_ld, harg3.read_unread, harg4.read_unread, harg5.read_unread, harg6.read_unread, View.ld_unit_zero (S := S2048x512) hz2, View.ld_unit_zero (S := S2048x1024) hz2, View.ld_unit_zero (S := S512x1024) hz2]
  rw [canon_in (Val := Elt Ideal) (S := S512x1024) (e := .f32) ![0, 0] ![512, 1024] inb_S512x1024_S512x1024_0_0 _ _ _ (ix2 p q) (fun a => by match a with
        | ⟨0, _⟩ => show p.val = 0 + p.val; omega
        | ⟨1, _⟩ => show (q : Fin 1024).val = 0 + (q : Fin 1024).val; omega)]
  pointwise [k0_pay2]
  refine Eq.trans (congrArg₂ (· + ·) (?_ : _ = (0 : EReal)) rfl) (zero_add _)
  rw [View.readCov_eq_canon']
  dsimp only
  rw [canon_in (Val := Elt Ideal) (S := S512x1024) (e := .f32) ![0, 0] ![512, 1024] inb_S512x1024_S512x1024_0_0 _ _ _ (ix2 p q) (fun a => by match a with
        | ⟨0, _⟩ => show 0 + 1 * p.val = 0 + p.val; omega
        | ⟨1, _⟩ => show 0 + 1 * q.val = 0 + q.val; omega)]
  pointwise [k0_pay1]

/-- The scratch buffer after a point of case B. -/
theorem sc_B (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : ¬cond0_1 i)
    (x0 : Vec Ideal S2048x512 .bf16) (x1 : Vec Ideal S2048x1024 .bf16) (xs0 : Vec Ideal S512x1024 .f32) (p : Fin 512) (q : Fin 1024) :
    sout0_B_0 c i arg3 harg3 arg4 harg4 arg5 harg5 arg6 harg6 hc0 hc1 x0 x1 xs0 (ix2 p q) = xs0 (ix2 p q) + part x0 x1 p q := by
  unfold sout0_B_0
  rw [View.read_writes_junk_eq_canon]
  unfold kernelRun0_B
  dsimp only
  sl_unfold_words
  simp only [View.readAt_eq_ld, harg3.read_unread, harg4.read_unread, harg5.read_unread, harg6.read_unread, View.ld_unit_zero (S := S2048x512) hz2, View.ld_unit_zero (S := S2048x1024) hz2, View.ld_unit_zero (S := S512x1024) hz2]
  rw [canon_in (Val := Elt Ideal) (S := S512x1024) (e := .f32) ![0, 0] ![512, 1024] inb_S512x1024_S512x1024_0_0 _ _ _ (ix2 p q) (fun a => by match a with
        | ⟨0, _⟩ => show p.val = 0 + p.val; omega
        | ⟨1, _⟩ => show (q : Fin 1024).val = 0 + (q : Fin 1024).val; omega)]
  pointwise [k0_pay2]
  rfl

/-- The scratch buffer after a point of case C. -/
theorem sc_C (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec Ideal S2048x512 .bf16) (x1 : Vec Ideal S2048x1024 .bf16) (xs0 : Vec Ideal S512x1024 .f32) (p : Fin 512) (q : Fin 1024) :
    sout0_C_0 c i arg3 harg3 arg4 harg4 arg5 harg5 arg6 harg6 hc0 hc1 x0 x1 xs0 (ix2 p q) = xs0 (ix2 p q) + part x0 x1 p q := by
  unfold sout0_C_0
  rw [View.read_writes_junk_eq_canon]
  unfold kernelRun0_C
  dsimp only
  sl_unfold_words
  simp only [View.readAt_eq_ld, harg3.read_unread, harg4.read_unread, harg5.read_unread, harg6.read_unread, View.ld_unit_zero (S := S2048x512) hz2, View.ld_unit_zero (S := S2048x1024) hz2, View.ld_unit_zero (S := S512x1024) hz2]
  rw [canon_in (Val := Elt Ideal) (S := S512x1024) (e := .f32) ![0, 0] ![512, 1024] inb_S512x1024_S512x1024_0_0 _ _ _ (ix2 p q) (fun a => by match a with
        | ⟨0, _⟩ => show p.val = 0 + p.val; omega
        | ⟨1, _⟩ => show (q : Fin 1024).val = 0 + (q : Fin 1024).val; omega)]
  pointwise [k0_pay2]
  rfl

/-- The output block of a point of case C: the scratch buffer's contents. -/
theorem out_C (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec Ideal S2048x512 .bf16) (x1 : Vec Ideal S2048x1024 .bf16) (xs0 : Vec Ideal S512x1024 .f32) (p : Fin 512) (q : Fin 1024) :
    out0_C_2 c i arg3 harg3 arg4 harg4 arg5 harg5 arg6 harg6 hc0 hc1 x0 x1 xs0 (ix2 p q) = xs0 (ix2 p q) + part x0 x1 p q := by
  unfold out0_C_2
  rw [View.read_writes_junk_eq_canon]
  unfold kernelRun0_C
  dsimp only
  sl_unfold_words
  simp only [View.readAt_eq_ld, harg3.read_unread, harg4.read_unread, harg5.read_unread, harg6.read_unread, View.ld_unit_zero (S := S2048x512) hz2, View.ld_unit_zero (S := S2048x1024) hz2, View.ld_unit_zero (S := S512x1024) hz2]
  rw [canon_in _ _ _ _ _ _ (ix2 p q) (fun a => by match a with
        | ⟨0, _⟩ => show p.val = 0 + p.val; omega
        | ⟨1, _⟩ => show q.val = 0 + q.val; omega)]
  pointwise [k0_pay3]
  rw [View.readCov_eq_canon']
  dsimp only
  rw [canon_in (Val := Elt Ideal) (S := S512x1024) (e := .f32) ![0, 0] ![512, 1024] inb_S512x1024_S512x1024_0_0 _ _ _ (ix2 p q) (fun a => by match a with
        | ⟨0, _⟩ => show 0 + 1 * p.val = 0 + p.val; omega
        | ⟨1, _⟩ => show 0 + 1 * q.val = 0 + q.val; omega)]
  pointwise [k0_pay2]
  rfl

end Cert.Kernel7Ideal.Prod

end
-- ==== Proof.OutKernel.lean ====
/-
  The weight gradient of half of the output projection, as the accumulating call leaves it: entry `(p, q)` is the sum over
  the 16384 rows of the input's column `p` times the cotangent's column `q`.
-/
module

public import proofs.«01_k».proof.Proof.Rows
public import Idealize.ShloMosaic.Lib.Pipeline.ValueKit
public import proofs.«01_k».proof.Proof.OutBlock
public import proofs.«01_k».proof.Proof.Gen.Kernel7Ideal.Value

@[expose] public section

set_option maxRecDepth 16384

noncomputable section

namespace Cert.Kernel7Ideal.Prod

open Cert.Kernel7Ideal Cert.Kernel7Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

abbrev arg_0 (c : Dev nD) : Vec Ideal S16384x512 .f32 := m ((c : Thread nD τ).loc main_arg0)
abbrev arg_1 (c : Dev nD) : Vec Ideal S512x1024 .f32 := m ((c : Thread nD τ).loc main_arg1)
abbrev arg_2 (c : Dev nD) : Vec Ideal S16384x1024 .f32 := m ((c : Thread nD τ).loc main_arg2)

/-! The arrays that the input windows read, their blocks at point `t`, and both at an index. -/

abbrev Arr0 (c : Dev nD) : Vec Ideal S16384x512 .bf16 := V m c main_v0
abbrev X0 (c : Dev nD) (t : Fin cfg0.N) : Vec Ideal S2048x512 .bf16 := iblk m c 0 t

theorem arr_0 (c : Dev nD) (r : Fin 16384) (p : Fin 512) :
    Arr0 m c (ix2 r p) = arg_0 m c (ix2 r p) := by
  unfold Arr0 V
  after_results
  pointwise

abbrev Arr1 (c : Dev nD) : Vec Ideal S16384x1024 .bf16 := V m c main_v1
abbrev X1 (c : Dev nD) (t : Fin cfg0.N) : Vec Ideal S2048x1024 .bf16 := iblk m c 1 t

theorem arr_1 (c : Dev nD) (r : Fin 16384) (p : Fin 1024) :
    Arr1 m c (ix2 r p) = arg_2 m c (ix2 r p) := by
  unfold Arr1 V
  after_results
  pointwise

theorem index_0 : ∀ t : Fin cfg0.N, win0_0.index t 0 = t.val % 8 ∧ win0_0.index t 1 = 0 :=
  (by decide +kernel : ∀ t : Fin grid0.N, _)

theorem iblk_0 (c : Dev nD) (t : Fin cfg0.N) (j0 : Fin 2048) (j1 : Fin 512) (r0 : Fin 16384) (r1 : Fin 512)
    (h0 : r0.val = (t.val % 8) * 2048 + j0.val) (h1 : r1.val = (0) * 512 + j1.val) :
    X0 m c t (ix2 j0 j1) = Arr0 m c (ix2 r0 r1) := by
  unfold X0 iblk
  rw [View.read_apply]
  exact congrArg (V m c main_v0) (Cert.Rows.ix2_of (index_0 t) h0 h1 rfl rfl)

theorem index_1 : ∀ t : Fin cfg0.N, win0_1.index t 0 = t.val % 8 ∧ win0_1.index t 1 = 0 :=
  (by decide +kernel : ∀ t : Fin grid0.N, _)

theorem iblk_1 (c : Dev nD) (t : Fin cfg0.N) (j0 : Fin 2048) (j1 : Fin 1024) (r0 : Fin 16384) (r1 : Fin 1024)
    (h0 : r0.val = (t.val % 8) * 2048 + j0.val) (h1 : r1.val = (0) * 1024 + j1.val) :
    X1 m c t (ix2 j0 j1) = Arr1 m c (ix2 r0 r1) := by
  unfold X1 iblk
  rw [View.read_apply]
  exact congrArg (V m c main_v1) (Cert.Rows.ix2_of (index_1 t) h0 h1 rfl rfl)

theorem index_2 : ∀ t : Fin cfg0.N, win0_2.index t 0 = 0 ∧ win0_2.index t 1 = 0 :=
  (by decide +kernel : ∀ t : Fin grid0.N, _)

/-- The product of row `r` that the gradient's entry of column block `k` sums. -/
def term (c : Dev nD) (k : ℕ) (p : Fin 512) (q : Fin 1024) (r : ℕ) : EReal :=
  if h : k < 1 ∧ r < 16384 then Arr0 m c (ix2 ⟨r, h.2⟩ p) * Arr1 m c (ix2 ⟨r, h.2⟩ q) else 0

/-- What point `t` adds. -/
theorem part_eq (c : Dev nD) (t : Fin cfg0.N) (p : Fin 512) (q : Fin 1024) :
    part (X0 m c t) (X1 m c t) p q = ∑ j : Fin 2048, term m c (t.val / 8) p q (2048 * (t.val % 8) + j.val) := by
  have ht : t.val < 8 := t.isLt
  unfold part term
  refine Finset.sum_congr rfl fun j _ => ?_
  have hj := j.isLt
  rw [dif_pos (show t.val / 8 < 1 ∧ 2048 * (t.val % 8) + j.val < 16384 from by omega)]
  exact congrArg₂ (· * ·) (iblk_0 m c t j p _ p (by show 2048 * (t.val % 8) + j.val = _; omega) (by omega))
    (iblk_1 m c t j q _ q (by show 2048 * (t.val % 8) + j.val = _; omega) (by omega))

/-- The scratch buffer after point `n`: the sum over the blocks of rows of its column block up to it. -/
theorem after_sc (c : Dev nD) (p : Fin 512) (q : Fin 1024) : ∀ (n : ℕ) (hn : n < cfg0.N),
    (outsAt0 m c n hn).2 (ix2 p q)
      = ∑ b ∈ Finset.range (n % 8 + 1), ∑ j : Fin 2048, term m c (n / 8) p q (2048 * b + j.val) := by
  intro n
  induction n with
  | zero =>
    intro hn
    obtain ⟨t, ht⟩ : ∃ t : Fin cfg0.N, t = ⟨0, hn⟩ := ⟨_, rfl⟩
    have h0 : t.val % 8 = 0 := by rw [ht]; exact Nat.zero_mod _
    have h1 : ¬ t.val % 8 = 7 := by omega
    have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) p q
    have e2 := congrArg (fun o => o.2 (ix2 p q)) (outsAt0_A m c t h0 h1)
    dsimp only at e2
    have e3 := (e2.trans e).trans (part_eq m c t p q)
    subst ht
    refine e3.trans ?_
    exact Finset.sum_range_one (fun b => ∑ j : Fin 2048, term m c (0 / 8) p q (2048 * b + j.val)) |>.symm
  | succ n ih =>
    intro hn
    have hn' : n + 1 < 8 := hn
    obtain ⟨t, ht⟩ : ∃ t : Fin cfg0.N, t = ⟨n + 1, hn⟩ := ⟨_, rfl⟩
    have htv : t.val = n + 1 := by rw [ht]
    by_cases h0 : t.val % 8 = 0
    · have h1 : ¬ t.val % 8 = 7 := by omega
      have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) p q
      have e2 := congrArg (fun o => o.2 (ix2 p q)) (outsAt0_A m c t h0 h1)
      dsimp only at e2
      have e3 := (e2.trans e).trans (part_eq m c t p q)
      have h0' : (n + 1) % 8 = 0 := by omega
      subst ht
      refine e3.trans ?_
      rw [h0']
      exact (Finset.sum_range_one (fun b => ∑ j : Fin 2048, term m c ((n + 1) / 8) p q (2048 * b + j.val))).symm
    · have hd : (n + 1) / 8 = n / 8 := by omega
      have hm : (n + 1) % 8 = n % 8 + 1 := by omega
      by_cases h1 : t.val % 8 = 7
      · have e := sc_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 p q
        have e2 := congrArg (fun o => o.2 (ix2 p q)) (outsAt0_C m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl
      · have e := sc_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (X0 m c t) (X1 m c t) (outsAt0 m c (t.val - 1) (Nat.lt_of_le_of_lt (Nat.sub_le _ _) t.isLt)).2 p q
        have e2 := congrArg (fun o => o.2 (ix2 p q)) (outsAt0_B m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl

/-- The output block of a column block's last point: the sum over all rows. -/
theorem after_out (c : Dev nD) (t : Fin cfg0.N) (h1 : t.val % 8 = 7) (p : Fin 512) (q : Fin 1024) :
    (outsAt0 m c t.val t.isLt).1 (ix2 p q) = ∑ r : Fin 16384, term m c (t.val / 8) p q r.val := by
  have h0 : ¬ t.val % 8 = 0 := by omega
  have ht : t.val < 8 := t.isLt
  have e := out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 p q
  have e2 := congrArg (fun o => o.1 (ix2 p q)) (outsAt0_C m c t h0 h1)
  dsimp only at e2
  have e3 := e2.trans e
  rw [part_eq] at e3
  refine e3.trans ?_
  refine Eq.trans (congrArg (· + _) (after_sc m c p q (t.val - 1) (Nat.lt_of_le_of_lt (Nat.sub_le _ _) t.isLt))) ?_
  have hd : (t.val - 1) / 8 = t.val / 8 := by omega
  have hm : (t.val - 1) % 8 + 1 = 7 := by omega
  rw [hd, hm, h1, ← Finset.sum_range_succ (fun b => ∑ j : Fin 2048, term m c (t.val / 8) p q (2048 * b + j.val))]
  exact sum_blocks 8 2048 fun r => term m c (t.val / 8) p q r

/-- An entry of the gradient. -/
def entry (c : Dev nD) (i : S512x1024.Idx) : EReal :=
  ∑ r : Fin 16384, arg_0 m c (ix2 r (i 0)) * arg_2 m c (ix2 r (i 1))

/-- The gradient as an array. -/
def result (c : Dev nD) : Vec Ideal S512x1024 .bf16 := fun i => entry m c i

theorem flushed_eq (c : Dev nD) (t : Fin cfg0.N) (hf : (cfg0.win 2).flush t = true) :
    (dats m 0 c).flushed 2 t = ((cfg0.win 2).blk t).view.read (Elt Ideal) (result m c) := by
  rw [Value.flushed2]
  have hi := index_2 t
  have ht : t.val < 8 := t.isLt
  have hl : t.val % 8 = 7 := (flush0_2 t).mp hf
  funext y
  rw [View.read_apply]
  have hy0 : (y 0 : ℕ) < 512 := (y 0).isLt
  have hy1 : (y 1 : ℕ) < 1024 := (y 1).isLt
  have e0 : ((((cfg0.win 2).blk t).view.emb y) 0 : ℕ) = (0) * 512 + (y 0 : ℕ) := by
    show win0_2.index t 0 * 512 + 1 * (y 0 : ℕ) = _
    rw [hi.1]; omega
  have e1 : ((((cfg0.win 2).blk t).view.emb y) 1 : ℕ) = (0) * 1024 + (y 1 : ℕ) := by
    show win0_2.index t 1 * 1024 + 1 * (y 1 : ℕ) = _
    rw [hi.2]; omega
  have hy : (y : S512x1024.Idx) = ix2 (⟨(y 0 : ℕ), hy0⟩ : Fin 512) (⟨(y 1 : ℕ), hy1⟩ : Fin 1024) := by
    funext a
    match a with
    | ⟨0, _⟩ => rfl
    | ⟨1, _⟩ => rfl
  refine eq_of_heq (HEq.trans (heq_of_eq (?_ : (outsAt0 m c t.val t.isLt).1 y = entry m c (((cfg0.win 2).blk t).view.emb y))) (cast_heq _ _).symm)
  rw [show (outsAt0 m c t.val t.isLt).1 y = (outsAt0 m c t.val t.isLt).1 (ix2 (⟨(y 0 : ℕ), hy0⟩ : Fin 512) (⟨(y 1 : ℕ), hy1⟩ : Fin 1024)) from congrArg _ hy]
  refine (after_out m c t hl (⟨(y 0 : ℕ), hy0⟩ : Fin 512) (⟨(y 1 : ℕ), hy1⟩ : Fin 1024)).trans ?_
  unfold entry
  refine Finset.sum_congr rfl fun r _ => ?_
  unfold term
  have hr := r.isLt
  rw [dif_pos (show t.val / 8 < 1 ∧ r.val < 16384 from by omega), arr_0, arr_1]
  refine congrArg₂ (· * ·) (congrArg (fun z => arg_0 m c (ix2 r z)) (Fin.ext ?_)) (congrArg (fun z => arg_2 m c (ix2 r z)) (Fin.ext ?_))
  · show (y 0 : ℕ) = _
    rw [e0]; omega
  · show (y 1 : ℕ) = _
    rw [e1]; omega

theorem final_eq (c : Dev nD) : (dats m 0 c).arrAt 2 cfg0.N = result m c :=
  (dats m 0 c).arrAt_eq_of_cover 2 (result m c) (flushed_eq m c)
    ((show (cfg0.win 2).Covers by decide +kernel).cover _ (Memref.isWhole_whole _))

/-- The kernel's run, read: the result at its formula, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m c), (h c).2⟩) (Value.run_blocks m ρ)

end Cert.Kernel7Ideal.Prod

end
-- ==== Proof.OutRef.lean ====
/-
  The reference's weight gradient of half of the output projection, at an index.
-/
module

public import proofs.«01_k».proof.Proof.Gen.Reference7Ideal.Read
public import Idealize.ShloMosaic.Lib.Pointwise

@[expose] public section

set_option maxRecDepth 16384

namespace Cert.Reference7Ideal.Prod

open Cert.Reference7Ideal Cert.Reference7Ideal.Gen Cert.Reference7Ideal.Read Idealize.ShloMosaic Idealize.ShloMosaic.TcCoe

/-- Entry `(p, q)`: the sum over all rows of the input's column `p` times the cotangent's column `q`. -/
theorem read (x0 : Vec Ideal S16384x512 .f32) (x2 : Vec Ideal S16384x1024 .f32) (p : Fin 512) (q : Fin 1024) :
    val_main_v3 (F := Ideal) x0 x2 (ix2 p q) = ∑ r : Fin 16384, x0 (ix2 r p) * x2 (ix2 r q) := by
  unfold val_main_v3 val_main_v2 val_main_v1
  pointwise
  refine Finset.sum_congr rfl fun r _ => ?_
  rw [mul_comm]

end Cert.Reference7Ideal.Prod

end
-- ==== Proof.GateBlock.lean ====
/-
  What one grid point of the weight gradient of the gate of the per-layer embedding leaves in its scratch buffer and in its output
  block, at an index and over the extended reals: the sum over the rows seen so far.
-/
module

public import proofs.«01_k».proof.Proof.Gen.Kernel8Ideal.Frame
public import proofs.«01_k».proof.Proof.Canon
public import Idealize.ShloMosaic.Lib.Tactic
public import Idealize.ShloMosaic.Lib.Pointwise

@[expose] public section

set_option maxRecDepth 16384

noncomputable section

namespace Cert.Kernel8Ideal.Prod

open Cert.Kernel8Ideal Cert.Kernel8Ideal.Gen Idealize.ShloMosaic Idealize.ShloMosaic.TcCoe Idealize.SL.Sem
open Cert.Canon

theorem hz2 : (![0, 0] : Fin 2 → ℕ) = fun _ => 0 := funext fun a => by fin_cases a <;> rfl
theorem hz3 : (![0, 0, 0] : Fin 3 → ℕ) = fun _ => 0 := funext fun a => by fin_cases a <;> rfl

/-- What a point adds at `(p, q)`: the products of its 2048 rows. -/
def part (x0 : Vec Ideal S2048x1024 .bf16) (x1 : Vec Ideal S2048x512 .bf16) (p : Fin 1024) (q : Fin 512) : EReal :=
  ∑ r : Fin 2048, x0 (ix2 r p) * x1 (ix2 r q)

/-- The scratch buffer after a point of case A. -/
theorem sc_A (c : Dev nD) (i : grid0.Coords) (arg3 : Memref sig .tc .vmem S2048x1024 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec Ideal S2048x1024 .bf16) (x1 : Vec Ideal S2048x512 .bf16) (p : Fin 1024) (q : Fin 512) :
    sout0_A_0 c i arg3 harg3 arg4 harg4 arg5 harg5 arg6 harg6 hc0 hc1 x0 x1 (ix2 p q) = part x0 x1 p q := by
  unfold sout0_A_0
  rw [View.read_writes_junk_eq_canon]
  unfold kernelRun0_A
  dsimp only
  sl_unfold_words
  simp only [View.readAt_eq_ld, harg3.read_unread, harg4.read_unread, harg5.read_unread, harg6.read_unread, View.ld_unit_zero (S := S2048x1024) hz2, View.ld_unit_zero (S := S2048x512) hz2, View.ld_unit_zero (S := S1024x512) hz2]
  rw [canon_in (Val := Elt Ideal) (S := S1024x512) (e := .f32) ![0, 0] ![1024, 512] inb_S1024x512_S1024x512_0_0 _ _ _ (ix2 p q) (fun a => by match a with
        | ⟨0, _⟩ => show p.val = 0 + p.val; omega
        | ⟨1, _⟩ => show (q : Fin 512).val = 0 + (q : Fin 512).val; omega)]
  pointwise [k0_pay2]
  refine Eq.trans (congrArg₂ (· + ·) (?_ : _ = (0 : EReal)) rfl) (zero_add _)
  rw [View.readCov_eq_canon']
  dsimp only
  rw [canon_in (Val := Elt Ideal) (S := S1024x512) (e := .f32) ![0, 0] ![1024, 512] inb_S1024x512_S1024x512_0_0 _ _ _ (ix2 p q) (fun a => by match a with
        | ⟨0, _⟩ => show 0 + 1 * p.val = 0 + p.val; omega
        | ⟨1, _⟩ => show 0 + 1 * q.val = 0 + q.val; omega)]
  pointwise [k0_pay1]

/-- The scratch buffer after a point of case B. -/
theorem sc_B (c : Dev nD) (i : grid0.Coords) (arg3 : Memref sig .tc .vmem S2048x1024 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : ¬cond0_1 i)
    (x0 : Vec Ideal S2048x1024 .bf16) (x1 : Vec Ideal S2048x512 .bf16) (xs0 : Vec Ideal S1024x512 .f32) (p : Fin 1024) (q : Fin 512) :
    sout0_B_0 c i arg3 harg3 arg4 harg4 arg5 harg5 arg6 harg6 hc0 hc1 x0 x1 xs0 (ix2 p q) = xs0 (ix2 p q) + part x0 x1 p q := by
  unfold sout0_B_0
  rw [View.read_writes_junk_eq_canon]
  unfold kernelRun0_B
  dsimp only
  sl_unfold_words
  simp only [View.readAt_eq_ld, harg3.read_unread, harg4.read_unread, harg5.read_unread, harg6.read_unread, View.ld_unit_zero (S := S2048x1024) hz2, View.ld_unit_zero (S := S2048x512) hz2, View.ld_unit_zero (S := S1024x512) hz2]
  rw [canon_in (Val := Elt Ideal) (S := S1024x512) (e := .f32) ![0, 0] ![1024, 512] inb_S1024x512_S1024x512_0_0 _ _ _ (ix2 p q) (fun a => by match a with
        | ⟨0, _⟩ => show p.val = 0 + p.val; omega
        | ⟨1, _⟩ => show (q : Fin 512).val = 0 + (q : Fin 512).val; omega)]
  pointwise [k0_pay2]
  rfl

/-- The scratch buffer after a point of case C. -/
theorem sc_C (c : Dev nD) (i : grid0.Coords) (arg3 : Memref sig .tc .vmem S2048x1024 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec Ideal S2048x1024 .bf16) (x1 : Vec Ideal S2048x512 .bf16) (xs0 : Vec Ideal S1024x512 .f32) (p : Fin 1024) (q : Fin 512) :
    sout0_C_0 c i arg3 harg3 arg4 harg4 arg5 harg5 arg6 harg6 hc0 hc1 x0 x1 xs0 (ix2 p q) = xs0 (ix2 p q) + part x0 x1 p q := by
  unfold sout0_C_0
  rw [View.read_writes_junk_eq_canon]
  unfold kernelRun0_C
  dsimp only
  sl_unfold_words
  simp only [View.readAt_eq_ld, harg3.read_unread, harg4.read_unread, harg5.read_unread, harg6.read_unread, View.ld_unit_zero (S := S2048x1024) hz2, View.ld_unit_zero (S := S2048x512) hz2, View.ld_unit_zero (S := S1024x512) hz2]
  rw [canon_in (Val := Elt Ideal) (S := S1024x512) (e := .f32) ![0, 0] ![1024, 512] inb_S1024x512_S1024x512_0_0 _ _ _ (ix2 p q) (fun a => by match a with
        | ⟨0, _⟩ => show p.val = 0 + p.val; omega
        | ⟨1, _⟩ => show (q : Fin 512).val = 0 + (q : Fin 512).val; omega)]
  pointwise [k0_pay2]
  rfl

/-- The output block of a point of case C: the scratch buffer's contents. -/
theorem out_C (c : Dev nD) (i : grid0.Coords) (arg3 : Memref sig .tc .vmem S2048x1024 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec Ideal S2048x1024 .bf16) (x1 : Vec Ideal S2048x512 .bf16) (xs0 : Vec Ideal S1024x512 .f32) (p : Fin 1024) (q : Fin 512) :
    out0_C_2 c i arg3 harg3 arg4 harg4 arg5 harg5 arg6 harg6 hc0 hc1 x0 x1 xs0 (ix2 p q) = xs0 (ix2 p q) + part x0 x1 p q := by
  unfold out0_C_2
  rw [View.read_writes_junk_eq_canon]
  unfold kernelRun0_C
  dsimp only
  sl_unfold_words
  simp only [View.readAt_eq_ld, harg3.read_unread, harg4.read_unread, harg5.read_unread, harg6.read_unread, View.ld_unit_zero (S := S2048x1024) hz2, View.ld_unit_zero (S := S2048x512) hz2, View.ld_unit_zero (S := S1024x512) hz2]
  rw [canon_in _ _ _ _ _ _ (ix2 p q) (fun a => by match a with
        | ⟨0, _⟩ => show p.val = 0 + p.val; omega
        | ⟨1, _⟩ => show q.val = 0 + q.val; omega)]
  pointwise [k0_pay3]
  rw [View.readCov_eq_canon']
  dsimp only
  rw [canon_in (Val := Elt Ideal) (S := S1024x512) (e := .f32) ![0, 0] ![1024, 512] inb_S1024x512_S1024x512_0_0 _ _ _ (ix2 p q) (fun a => by match a with
        | ⟨0, _⟩ => show 0 + 1 * p.val = 0 + p.val; omega
        | ⟨1, _⟩ => show 0 + 1 * q.val = 0 + q.val; omega)]
  pointwise [k0_pay2]
  rfl

end Cert.Kernel8Ideal.Prod

end
-- ==== Proof.GateKernel.lean ====
/-
  The weight gradient of the gate of the per-layer embedding, as the accumulating call leaves it: entry `(p, q)` is the sum over
  the 16384 rows of the input's column `p` times the cotangent's column `q`.
-/
module

public import proofs.«01_k».proof.Proof.Rows
public import Idealize.ShloMosaic.Lib.Pipeline.ValueKit
public import proofs.«01_k».proof.Proof.GateBlock
public import proofs.«01_k».proof.Proof.Gen.Kernel8Ideal.Value

@[expose] public section

set_option maxRecDepth 16384

noncomputable section

namespace Cert.Kernel8Ideal.Prod

open Cert.Kernel8Ideal Cert.Kernel8Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

abbrev arg_0 (c : Dev nD) : Vec Ideal S16384x1024 .f32 := m ((c : Thread nD τ).loc main_arg0)
abbrev arg_1 (c : Dev nD) : Vec Ideal S1024x1024 .f32 := m ((c : Thread nD τ).loc main_arg1)
abbrev arg_2 (c : Dev nD) : Vec Ideal S16384x1024 .f32 := m ((c : Thread nD τ).loc main_arg2)

/-! The arrays that the input windows read, their blocks at point `t`, and both at an index. -/

abbrev Arr0 (c : Dev nD) : Vec Ideal S16384x1024 .bf16 := V m c main_v0
abbrev X0 (c : Dev nD) (t : Fin cfg0.N) : Vec Ideal S2048x1024 .bf16 := iblk m c 0 t

theorem arr_0 (c : Dev nD) (r : Fin 16384) (p : Fin 1024) :
    Arr0 m c (ix2 r p) = arg_0 m c (ix2 r p) := by
  unfold Arr0 V
  after_results
  pointwise

abbrev Arr1 (c : Dev nD) : Vec Ideal S16384x1024 .bf16 := V m c main_v1
abbrev X1 (c : Dev nD) (t : Fin cfg0.N) : Vec Ideal S2048x512 .bf16 := iblk m c 1 t

theorem arr_1 (c : Dev nD) (r : Fin 16384) (p : Fin 1024) :
    Arr1 m c (ix2 r p) = arg_2 m c (ix2 r p) := by
  unfold Arr1 V
  after_results
  pointwise

theorem index_0 : ∀ t : Fin cfg0.N, win0_0.index t 0 = t.val % 8 ∧ win0_0.index t 1 = 0 :=
  (by decide +kernel : ∀ t : Fin grid0.N, _)

theorem iblk_0 (c : Dev nD) (t : Fin cfg0.N) (j0 : Fin 2048) (j1 : Fin 1024) (r0 : Fin 16384) (r1 : Fin 1024)
    (h0 : r0.val = (t.val % 8) * 2048 + j0.val) (h1 : r1.val = (0) * 1024 + j1.val) :
    X0 m c t (ix2 j0 j1) = Arr0 m c (ix2 r0 r1) := by
  unfold X0 iblk
  rw [View.read_apply]
  exact congrArg (V m c main_v0) (Cert.Rows.ix2_of (index_0 t) h0 h1 rfl rfl)

theorem index_1 : ∀ t : Fin cfg0.N, win0_1.index t 0 = t.val % 8 ∧ win0_1.index t 1 = t.val / 8 :=
  (by decide +kernel : ∀ t : Fin grid0.N, _)

theorem iblk_1 (c : Dev nD) (t : Fin cfg0.N) (j0 : Fin 2048) (j1 : Fin 512) (r0 : Fin 16384) (r1 : Fin 1024)
    (h0 : r0.val = (t.val % 8) * 2048 + j0.val) (h1 : r1.val = (t.val / 8) * 512 + j1.val) :
    X1 m c t (ix2 j0 j1) = Arr1 m c (ix2 r0 r1) := by
  unfold X1 iblk
  rw [View.read_apply]
  exact congrArg (V m c main_v1) (Cert.Rows.ix2_of (index_1 t) h0 h1 rfl rfl)

theorem index_2 : ∀ t : Fin cfg0.N, win0_2.index t 0 = 0 ∧ win0_2.index t 1 = t.val / 8 :=
  (by decide +kernel : ∀ t : Fin grid0.N, _)

/-- The product of row `r` that the gradient's entry of column block `k` sums. -/
def term (c : Dev nD) (k : ℕ) (p : Fin 1024) (q : Fin 512) (r : ℕ) : EReal :=
  if h : k < 2 ∧ r < 16384 then Arr0 m c (ix2 ⟨r, h.2⟩ p) * Arr1 m c (ix2 ⟨r, h.2⟩ ⟨512 * k + q.val, by omega⟩) else 0

/-- What point `t` adds. -/
theorem part_eq (c : Dev nD) (t : Fin cfg0.N) (p : Fin 1024) (q : Fin 512) :
    part (X0 m c t) (X1 m c t) p q = ∑ j : Fin 2048, term m c (t.val / 8) p q (2048 * (t.val % 8) + j.val) := by
  have ht : t.val < 16 := t.isLt
  unfold part term
  refine Finset.sum_congr rfl fun j _ => ?_
  have hj := j.isLt
  rw [dif_pos (show t.val / 8 < 2 ∧ 2048 * (t.val % 8) + j.val < 16384 from by omega)]
  exact congrArg₂ (· * ·) (iblk_0 m c t j p _ p (by show 2048 * (t.val % 8) + j.val = _; omega) (by omega))
    (iblk_1 m c t j q _ _ (by show 2048 * (t.val % 8) + j.val = _; omega) (by show 512 * (t.val / 8) + q.val = _; omega))

/-- The scratch buffer after point `n`: the sum over the blocks of rows of its column block up to it. -/
theorem after_sc (c : Dev nD) (p : Fin 1024) (q : Fin 512) : ∀ (n : ℕ) (hn : n < cfg0.N),
    (outsAt0 m c n hn).2 (ix2 p q)
      = ∑ b ∈ Finset.range (n % 8 + 1), ∑ j : Fin 2048, term m c (n / 8) p q (2048 * b + j.val) := by
  intro n
  induction n with
  | zero =>
    intro hn
    obtain ⟨t, ht⟩ : ∃ t : Fin cfg0.N, t = ⟨0, hn⟩ := ⟨_, rfl⟩
    have h0 : t.val % 8 = 0 := by rw [ht]; exact Nat.zero_mod _
    have h1 : ¬ t.val % 8 = 7 := by omega
    have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) p q
    have e2 := congrArg (fun o => o.2 (ix2 p q)) (outsAt0_A m c t h0 h1)
    dsimp only at e2
    have e3 := (e2.trans e).trans (part_eq m c t p q)
    subst ht
    refine e3.trans ?_
    exact Finset.sum_range_one (fun b => ∑ j : Fin 2048, term m c (0 / 8) p q (2048 * b + j.val)) |>.symm
  | succ n ih =>
    intro hn
    have hn' : n + 1 < 16 := hn
    obtain ⟨t, ht⟩ : ∃ t : Fin cfg0.N, t = ⟨n + 1, hn⟩ := ⟨_, rfl⟩
    have htv : t.val = n + 1 := by rw [ht]
    by_cases h0 : t.val % 8 = 0
    · have h1 : ¬ t.val % 8 = 7 := by omega
      have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) p q
      have e2 := congrArg (fun o => o.2 (ix2 p q)) (outsAt0_A m c t h0 h1)
      dsimp only at e2
      have e3 := (e2.trans e).trans (part_eq m c t p q)
      have h0' : (n + 1) % 8 = 0 := by omega
      subst ht
      refine e3.trans ?_
      rw [h0']
      exact (Finset.sum_range_one (fun b => ∑ j : Fin 2048, term m c ((n + 1) / 8) p q (2048 * b + j.val))).symm
    · have hd : (n + 1) / 8 = n / 8 := by omega
      have hm : (n + 1) % 8 = n % 8 + 1 := by omega
      by_cases h1 : t.val % 8 = 7
      · have e := sc_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 p q
        have e2 := congrArg (fun o => o.2 (ix2 p q)) (outsAt0_C m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl
      · have e := sc_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (X0 m c t) (X1 m c t) (outsAt0 m c (t.val - 1) (Nat.lt_of_le_of_lt (Nat.sub_le _ _) t.isLt)).2 p q
        have e2 := congrArg (fun o => o.2 (ix2 p q)) (outsAt0_B m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl

/-- The output block of a column block's last point: the sum over all rows. -/
theorem after_out (c : Dev nD) (t : Fin cfg0.N) (h1 : t.val % 8 = 7) (p : Fin 1024) (q : Fin 512) :
    (outsAt0 m c t.val t.isLt).1 (ix2 p q) = ∑ r : Fin 16384, term m c (t.val / 8) p q r.val := by
  have h0 : ¬ t.val % 8 = 0 := by omega
  have ht : t.val < 16 := t.isLt
  have e := out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 p q
  have e2 := congrArg (fun o => o.1 (ix2 p q)) (outsAt0_C m c t h0 h1)
  dsimp only at e2
  have e3 := e2.trans e
  rw [part_eq] at e3
  refine e3.trans ?_
  refine Eq.trans (congrArg (· + _) (after_sc m c p q (t.val - 1) (Nat.lt_of_le_of_lt (Nat.sub_le _ _) t.isLt))) ?_
  have hd : (t.val - 1) / 8 = t.val / 8 := by omega
  have hm : (t.val - 1) % 8 + 1 = 7 := by omega
  rw [hd, hm, h1, ← Finset.sum_range_succ (fun b => ∑ j : Fin 2048, term m c (t.val / 8) p q (2048 * b + j.val))]
  exact sum_blocks 8 2048 fun r => term m c (t.val / 8) p q r

/-- An entry of the gradient. -/
def entry (c : Dev nD) (i : S1024x1024.Idx) : EReal :=
  ∑ r : Fin 16384, arg_0 m c (ix2 r (i 0)) * arg_2 m c (ix2 r (i 1))

/-- The gradient as an array. -/
def result (c : Dev nD) : Vec Ideal S1024x1024 .bf16 := fun i => entry m c i

theorem flushed_eq (c : Dev nD) (t : Fin cfg0.N) (hf : (cfg0.win 2).flush t = true) :
    (dats m 0 c).flushed 2 t = ((cfg0.win 2).blk t).view.read (Elt Ideal) (result m c) := by
  rw [Value.flushed2]
  have hi := index_2 t
  have ht : t.val < 16 := t.isLt
  have hl : t.val % 8 = 7 := (flush0_2 t).mp hf
  funext y
  rw [View.read_apply]
  have hy0 : (y 0 : ℕ) < 1024 := (y 0).isLt
  have hy1 : (y 1 : ℕ) < 512 := (y 1).isLt
  have e0 : ((((cfg0.win 2).blk t).view.emb y) 0 : ℕ) = (0) * 1024 + (y 0 : ℕ) := by
    show win0_2.index t 0 * 1024 + 1 * (y 0 : ℕ) = _
    rw [hi.1]; omega
  have e1 : ((((cfg0.win 2).blk t).view.emb y) 1 : ℕ) = (t.val / 8) * 512 + (y 1 : ℕ) := by
    show win0_2.index t 1 * 512 + 1 * (y 1 : ℕ) = _
    rw [hi.2]; omega
  have hy : (y : S1024x512.Idx) = ix2 (⟨(y 0 : ℕ), hy0⟩ : Fin 1024) (⟨(y 1 : ℕ), hy1⟩ : Fin 512) := by
    funext a
    match a with
    | ⟨0, _⟩ => rfl
    | ⟨1, _⟩ => rfl
  refine eq_of_heq (HEq.trans (heq_of_eq (?_ : (outsAt0 m c t.val t.isLt).1 y = entry m c (((cfg0.win 2).blk t).view.emb y))) (cast_heq _ _).symm)
  rw [show (outsAt0 m c t.val t.isLt).1 y = (outsAt0 m c t.val t.isLt).1 (ix2 (⟨(y 0 : ℕ), hy0⟩ : Fin 1024) (⟨(y 1 : ℕ), hy1⟩ : Fin 512)) from congrArg _ hy]
  refine (after_out m c t hl (⟨(y 0 : ℕ), hy0⟩ : Fin 1024) (⟨(y 1 : ℕ), hy1⟩ : Fin 512)).trans ?_
  unfold entry
  refine Finset.sum_congr rfl fun r _ => ?_
  unfold term
  have hr := r.isLt
  rw [dif_pos (show t.val / 8 < 2 ∧ r.val < 16384 from by omega), arr_0, arr_1]
  refine congrArg₂ (· * ·) (congrArg (fun z => arg_0 m c (ix2 r z)) (Fin.ext ?_)) (congrArg (fun z => arg_2 m c (ix2 r z)) (Fin.ext ?_))
  · show (y 0 : ℕ) = _
    rw [e0]; omega
  · show 512 * (t.val / 8) + (y 1 : ℕ) = _
    rw [e1]; omega

theorem final_eq (c : Dev nD) : (dats m 0 c).arrAt 2 cfg0.N = result m c :=
  (dats m 0 c).arrAt_eq_of_cover 2 (result m c) (flushed_eq m c)
    ((show (cfg0.win 2).Covers by decide +kernel).cover _ (Memref.isWhole_whole _))

/-- The kernel's run, read: the result at its formula, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m c), (h c).2⟩) (Value.run_blocks m ρ)

end Cert.Kernel8Ideal.Prod

end
-- ==== Proof.GateRef.lean ====
/-
  The reference's weight gradient of the gate of the per-layer embedding, at an index.
-/
module

public import proofs.«01_k».proof.Proof.Gen.Reference8Ideal.Read
public import Idealize.ShloMosaic.Lib.Pointwise

@[expose] public section

set_option maxRecDepth 16384

namespace Cert.Reference8Ideal.Prod

open Cert.Reference8Ideal Cert.Reference8Ideal.Gen Cert.Reference8Ideal.Read Idealize.ShloMosaic Idealize.ShloMosaic.TcCoe

/-- Entry `(p, q)`: the sum over all rows of the input's column `p` times the cotangent's column `q`. -/
theorem read (x0 : Vec Ideal S16384x1024 .f32) (x2 : Vec Ideal S16384x1024 .f32) (p : Fin 1024) (q : Fin 1024) :
    val_main_v3 (F := Ideal) x0 x2 (ix2 p q) = ∑ r : Fin 16384, x0 (ix2 r p) * x2 (ix2 r q) := by
  unfold val_main_v3 val_main_v2 val_main_v1
  pointwise
  refine Finset.sum_congr rfl fun r _ => ?_
  rw [mul_comm]

end Cert.Reference8Ideal.Prod

end
-- ==== Proof.EmbBlock.lean ====
/-
  What one grid point of the weight gradient of the projection of the per-layer embedding leaves in its scratch buffer and in its output
  block, at an index and over the extended reals: the sum over the rows seen so far.
-/
module

public import proofs.«01_k».proof.Proof.Gen.Kernel9Ideal.Frame
public import proofs.«01_k».proof.Proof.Canon
public import Idealize.ShloMosaic.Lib.Tactic
public import Idealize.ShloMosaic.Lib.Pointwise

@[expose] public section

set_option maxRecDepth 16384

noncomputable section

namespace Cert.Kernel9Ideal.Prod

open Cert.Kernel9Ideal Cert.Kernel9Ideal.Gen Idealize.ShloMosaic Idealize.ShloMosaic.TcCoe Idealize.SL.Sem
open Cert.Canon

theorem hz2 : (![0, 0] : Fin 2 → ℕ) = fun _ => 0 := funext fun a => by fin_cases a <;> rfl
theorem hz3 : (![0, 0, 0] : Fin 3 → ℕ) = fun _ => 0 := funext fun a => by fin_cases a <;> rfl

/-- What a point adds at `(p, q)`: the products of its 2048 rows. -/
def part (x0 : Vec Ideal S1x2048x256 .f32) (x1 : Vec Ideal S2048x1024 .bf16) (p : Fin 256) (q : Fin 1024) : EReal :=
  ∑ r : Fin 2048, x0 (ix3 0 r p) * x1 (ix2 r q)

/-- The scratch buffer after a point of case A. -/
theorem sc_A (c : Dev nD) (i : grid0.Coords) (arg3 : Memref sig .tc .vmem S1x2048x256 .f32) (harg3 : arg3.IsWhole) (arg4 : Memref sig .tc .vmem S2048x1024 .bf16) (harg4 : arg4.IsWhole) (arg5 : Memref sig .tc .vmem S256x1024 .bf16) (harg5 : arg5.IsWhole) (arg6 : Memref sig .tc .vmem S256x1024 .f32) (harg6 : arg6.IsWhole) (hc0 : cond0_0 i) (hc1 : ¬cond0_1 i)
    (x0 : Vec Ideal S1x2048x256 .f32) (x1 : Vec Ideal S2048x1024 .bf16) (p : Fin 256) (q : Fin 1024) :
    sout0_A_0 c i arg3 harg3 arg4 harg4 arg5 harg5 arg6 harg6 hc0 hc1 x0 x1 (ix2 p q) = part x0 x1 p q := by
  unfold sout0_A_0
  rw [View.read_writes_junk_eq_canon]
  unfold kernelRun0_A
  dsimp only
  sl_unfold_words
  simp only [View.readAt_eq_ld, harg3.read_unread, harg4.read_unread, harg5.read_unread, harg6.read_unread, View.ld_unit_zero (S := S1x2048x256) hz3, View.ld_unit_zero (S := S2048x1024) hz2, View.ld_unit_zero (S := S256x1024) hz2]
  rw [canon_in (Val := Elt Ideal) (S := S256x1024) (e := .f32) ![0, 0] ![256, 1024] inb_S256x1024_S256x1024_0_0 _ _ _ (ix2 p q) (fun a => by match a with
        | ⟨0, _⟩ => show p.val = 0 + p.val; omega
        | ⟨1, _⟩ => show (q : Fin 1024).val = 0 + (q : Fin 1024).val; omega)]
  pointwise [k0_pay2]
  refine Eq.trans (congrArg₂ (· + ·) (?_ : _ = (0 : EReal)) rfl) (zero_add _)
  rw [View.readCov_eq_canon']
  dsimp only
  rw [canon_in (Val := Elt Ideal) (S := S256x1024) (e := .f32) ![0, 0] ![256, 1024] inb_S256x1024_S256x1024_0_0 _ _ _ (ix2 p q) (fun a => by match a with
        | ⟨0, _⟩ => show 0 + 1 * p.val = 0 + p.val; omega
        | ⟨1, _⟩ => show 0 + 1 * q.val = 0 + q.val; omega)]
  pointwise [k0_pay1]

/-- The scratch buffer after a point of case B. -/
theorem sc_B (c : Dev nD) (i : grid0.Coords) (arg3 : Memref sig .tc .vmem S1x2048x256 .f32) (harg3 : arg3.IsWhole) (arg4 : Memref sig .tc .vmem S2048x1024 .bf16) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : ¬cond0_1 i)
    (x0 : Vec Ideal S1x2048x256 .f32) (x1 : Vec Ideal S2048x1024 .bf16) (xs0 : Vec Ideal S256x1024 .f32) (p : Fin 256) (q : Fin 1024) :
    sout0_B_0 c i arg3 harg3 arg4 harg4 arg5 harg5 arg6 harg6 hc0 hc1 x0 x1 xs0 (ix2 p q) = xs0 (ix2 p q) + part x0 x1 p q := by
  unfold sout0_B_0
  rw [View.read_writes_junk_eq_canon]
  unfold kernelRun0_B
  dsimp only
  sl_unfold_words
  simp only [View.readAt_eq_ld, harg3.read_unread, harg4.read_unread, harg5.read_unread, harg6.read_unread, View.ld_unit_zero (S := S1x2048x256) hz3, View.ld_unit_zero (S := S2048x1024) hz2, View.ld_unit_zero (S := S256x1024) hz2]
  rw [canon_in (Val := Elt Ideal) (S := S256x1024) (e := .f32) ![0, 0] ![256, 1024] inb_S256x1024_S256x1024_0_0 _ _ _ (ix2 p q) (fun a => by match a with
        | ⟨0, _⟩ => show p.val = 0 + p.val; omega
        | ⟨1, _⟩ => show (q : Fin 1024).val = 0 + (q : Fin 1024).val; omega)]
  pointwise [k0_pay2]
  rfl

/-- The scratch buffer after a point of case C. -/
theorem sc_C (c : Dev nD) (i : grid0.Coords) (arg3 : Memref sig .tc .vmem S1x2048x256 .f32) (harg3 : arg3.IsWhole) (arg4 : Memref sig .tc .vmem S2048x1024 .bf16) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : cond0_1 i)
    (x0 : Vec Ideal S1x2048x256 .f32) (x1 : Vec Ideal S2048x1024 .bf16) (xs0 : Vec Ideal S256x1024 .f32) (p : Fin 256) (q : Fin 1024) :
    sout0_C_0 c i arg3 harg3 arg4 harg4 arg5 harg5 arg6 harg6 hc0 hc1 x0 x1 xs0 (ix2 p q) = xs0 (ix2 p q) + part x0 x1 p q := by
  unfold sout0_C_0
  rw [View.read_writes_junk_eq_canon]
  unfold kernelRun0_C
  dsimp only
  sl_unfold_words
  simp only [View.readAt_eq_ld, harg3.read_unread, harg4.read_unread, harg5.read_unread, harg6.read_unread, View.ld_unit_zero (S := S1x2048x256) hz3, View.ld_unit_zero (S := S2048x1024) hz2, View.ld_unit_zero (S := S256x1024) hz2]
  rw [canon_in (Val := Elt Ideal) (S := S256x1024) (e := .f32) ![0, 0] ![256, 1024] inb_S256x1024_S256x1024_0_0 _ _ _ (ix2 p q) (fun a => by match a with
        | ⟨0, _⟩ => show p.val = 0 + p.val; omega
        | ⟨1, _⟩ => show (q : Fin 1024).val = 0 + (q : Fin 1024).val; omega)]
  pointwise [k0_pay2]
  rfl

/-- The output block of a point of case C: the scratch buffer's contents. -/
theorem out_C (c : Dev nD) (i : grid0.Coords) (arg3 : Memref sig .tc .vmem S1x2048x256 .f32) (harg3 : arg3.IsWhole) (arg4 : Memref sig .tc .vmem S2048x1024 .bf16) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : cond0_1 i)
    (x0 : Vec Ideal S1x2048x256 .f32) (x1 : Vec Ideal S2048x1024 .bf16) (xs0 : Vec Ideal S256x1024 .f32) (p : Fin 256) (q : Fin 1024) :
    out0_C_2 c i arg3 harg3 arg4 harg4 arg5 harg5 arg6 harg6 hc0 hc1 x0 x1 xs0 (ix2 p q) = xs0 (ix2 p q) + part x0 x1 p q := by
  unfold out0_C_2
  rw [View.read_writes_junk_eq_canon]
  unfold kernelRun0_C
  dsimp only
  sl_unfold_words
  simp only [View.readAt_eq_ld, harg3.read_unread, harg4.read_unread, harg5.read_unread, harg6.read_unread, View.ld_unit_zero (S := S1x2048x256) hz3, View.ld_unit_zero (S := S2048x1024) hz2, View.ld_unit_zero (S := S256x1024) hz2]
  rw [canon_in _ _ _ _ _ _ (ix2 p q) (fun a => by match a with
        | ⟨0, _⟩ => show p.val = 0 + p.val; omega
        | ⟨1, _⟩ => show q.val = 0 + q.val; omega)]
  pointwise [k0_pay3]
  rw [View.readCov_eq_canon']
  dsimp only
  rw [canon_in (Val := Elt Ideal) (S := S256x1024) (e := .f32) ![0, 0] ![256, 1024] inb_S256x1024_S256x1024_0_0 _ _ _ (ix2 p q) (fun a => by match a with
        | ⟨0, _⟩ => show 0 + 1 * p.val = 0 + p.val; omega
        | ⟨1, _⟩ => show 0 + 1 * q.val = 0 + q.val; omega)]
  pointwise [k0_pay2]
  rfl

end Cert.Kernel9Ideal.Prod

end
-- ==== Proof.EmbKernel.lean ====
/-
  The weight gradient of the projection of the per-layer embedding, as the accumulating call leaves it: entry `(p, q)` is the sum over
  the 16384 rows of the input's column `p` times the cotangent's column `q`.
-/
module

public import proofs.«01_k».proof.Proof.Rows
public import Idealize.ShloMosaic.Lib.Pipeline.ValueKit
public import proofs.«01_k».proof.Proof.EmbBlock
public import proofs.«01_k».proof.Proof.Gen.Kernel9Ideal.Value

@[expose] public section

set_option maxRecDepth 16384

noncomputable section

namespace Cert.Kernel9Ideal.Prod

open Cert.Kernel9Ideal Cert.Kernel9Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

abbrev arg_0 (c : Dev nD) : Vec Ideal S4x16384x256 .f32 := m ((c : Thread nD τ).loc main_arg0)
abbrev arg_1 (c : Dev nD) : Vec Ideal S256x1024 .f32 := m ((c : Thread nD τ).loc main_arg1)
abbrev arg_2 (c : Dev nD) : Vec Ideal S16384x1024 .f32 := m ((c : Thread nD τ).loc main_arg2)

/-! The arrays that the input windows read, their blocks at point `t`, and both at an index. -/

abbrev Arr0 (c : Dev nD) : Vec Ideal S4x16384x256 .f32 := V m c main_arg0
abbrev X0 (c : Dev nD) (t : Fin cfg0.N) : Vec Ideal S1x2048x256 .f32 := iblk m c 0 t

theorem arr_0 (c : Dev nD) (k : Fin 4) (r : Fin 16384) (p : Fin 256) :
    Arr0 m c (ix3 k r p) = arg_0 m c (ix3 k r p) := by
  unfold Arr0 V
  after_results

abbrev Arr1 (c : Dev nD) : Vec Ideal S16384x1024 .bf16 := V m c main_v0
abbrev X1 (c : Dev nD) (t : Fin cfg0.N) : Vec Ideal S2048x1024 .bf16 := iblk m c 1 t

theorem arr_1 (c : Dev nD) (r : Fin 16384) (p : Fin 1024) :
    Arr1 m c (ix2 r p) = arg_2 m c (ix2 r p) := by
  unfold Arr1 V
  after_results
  pointwise

theorem index_0 : ∀ t : Fin cfg0.N, win0_0.index t 0 = 0 ∧ win0_0.index t 1 = t.val % 8 ∧ win0_0.index t 2 = 0 :=
  (by decide +kernel : ∀ t : Fin grid0.N, _)

theorem iblk_0 (c : Dev nD) (t : Fin cfg0.N) (j0 : Fin 1) (j1 : Fin 2048) (j2 : Fin 256) (r0 : Fin 4) (r1 : Fin 16384) (r2 : Fin 256)
    (h0 : r0.val = (0) * 1 + j0.val) (h1 : r1.val = (t.val % 8) * 2048 + j1.val) (h2 : r2.val = (0) * 256 + j2.val) :
    X0 m c t (ix3 j0 j1 j2) = Arr0 m c (ix3 r0 r1 r2) := by
  unfold X0 iblk
  rw [View.read_apply]
  exact congrArg (V m c main_arg0) (Cert.Rows.ix3_of (index_0 t) h0 h1 h2 rfl rfl rfl)

theorem index_1 : ∀ t : Fin cfg0.N, win0_1.index t 0 = t.val % 8 ∧ win0_1.index t 1 = 0 :=
  (by decide +kernel : ∀ t : Fin grid0.N, _)

theorem iblk_1 (c : Dev nD) (t : Fin cfg0.N) (j0 : Fin 2048) (j1 : Fin 1024) (r0 : Fin 16384) (r1 : Fin 1024)
    (h0 : r0.val = (t.val % 8) * 2048 + j0.val) (h1 : r1.val = (0) * 1024 + j1.val) :
    X1 m c t (ix2 j0 j1) = Arr1 m c (ix2 r0 r1) := by
  unfold X1 iblk
  rw [View.read_apply]
  exact congrArg (V m c main_v0) (Cert.Rows.ix2_of (index_1 t) h0 h1 rfl rfl)

theorem index_2 : ∀ t : Fin cfg0.N, win0_2.index t 0 = 0 ∧ win0_2.index t 1 = 0 :=
  (by decide +kernel : ∀ t : Fin grid0.N, _)

/-- The product of row `r` that the gradient's entry of column block `k` sums. -/
def term (c : Dev nD) (k : ℕ) (p : Fin 256) (q : Fin 1024) (r : ℕ) : EReal :=
  if h : k < 1 ∧ r < 16384 then Arr0 m c (ix3 (0 : Fin 4) ⟨r, h.2⟩ p) * Arr1 m c (ix2 ⟨r, h.2⟩ q) else 0

/-- What point `t` adds. -/
theorem part_eq (c : Dev nD) (t : Fin cfg0.N) (p : Fin 256) (q : Fin 1024) :
    part (X0 m c t) (X1 m c t) p q = ∑ j : Fin 2048, term m c (t.val / 8) p q (2048 * (t.val % 8) + j.val) := by
  have ht : t.val < 8 := t.isLt
  unfold part term
  refine Finset.sum_congr rfl fun j _ => ?_
  have hj := j.isLt
  rw [dif_pos (show t.val / 8 < 1 ∧ 2048 * (t.val % 8) + j.val < 16384 from by omega)]
  exact congrArg₂ (· * ·) (iblk_0 m c t 0 j p 0 _ p (by show (0 : ℕ) = 0 * 1 + 0; omega) (by show 2048 * (t.val % 8) + j.val = _; omega) (by omega))
    (iblk_1 m c t j q _ q (by show 2048 * (t.val % 8) + j.val = _; omega) (by omega))

/-- The scratch buffer after point `n`: the sum over the blocks of rows of its column block up to it. -/
theorem after_sc (c : Dev nD) (p : Fin 256) (q : Fin 1024) : ∀ (n : ℕ) (hn : n < cfg0.N),
    (outsAt0 m c n hn).2 (ix2 p q)
      = ∑ b ∈ Finset.range (n % 8 + 1), ∑ j : Fin 2048, term m c (n / 8) p q (2048 * b + j.val) := by
  intro n
  induction n with
  | zero =>
    intro hn
    obtain ⟨t, ht⟩ : ∃ t : Fin cfg0.N, t = ⟨0, hn⟩ := ⟨_, rfl⟩
    have h0 : t.val % 8 = 0 := by rw [ht]; exact Nat.zero_mod _
    have h1 : ¬ t.val % 8 = 7 := by omega
    have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) p q
    have e2 := congrArg (fun o => o.2 (ix2 p q)) (outsAt0_A m c t h0 h1)
    dsimp only at e2
    have e3 := (e2.trans e).trans (part_eq m c t p q)
    subst ht
    refine e3.trans ?_
    exact Finset.sum_range_one (fun b => ∑ j : Fin 2048, term m c (0 / 8) p q (2048 * b + j.val)) |>.symm
  | succ n ih =>
    intro hn
    have hn' : n + 1 < 8 := hn
    obtain ⟨t, ht⟩ : ∃ t : Fin cfg0.N, t = ⟨n + 1, hn⟩ := ⟨_, rfl⟩
    have htv : t.val = n + 1 := by rw [ht]
    by_cases h0 : t.val % 8 = 0
    · have h1 : ¬ t.val % 8 = 7 := by omega
      have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) p q
      have e2 := congrArg (fun o => o.2 (ix2 p q)) (outsAt0_A m c t h0 h1)
      dsimp only at e2
      have e3 := (e2.trans e).trans (part_eq m c t p q)
      have h0' : (n + 1) % 8 = 0 := by omega
      subst ht
      refine e3.trans ?_
      rw [h0']
      exact (Finset.sum_range_one (fun b => ∑ j : Fin 2048, term m c ((n + 1) / 8) p q (2048 * b + j.val))).symm
    · have hd : (n + 1) / 8 = n / 8 := by omega
      have hm : (n + 1) % 8 = n % 8 + 1 := by omega
      by_cases h1 : t.val % 8 = 7
      · have e := sc_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 p q
        have e2 := congrArg (fun o => o.2 (ix2 p q)) (outsAt0_C m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl
      · have e := sc_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (X0 m c t) (X1 m c t) (outsAt0 m c (t.val - 1) (Nat.lt_of_le_of_lt (Nat.sub_le _ _) t.isLt)).2 p q
        have e2 := congrArg (fun o => o.2 (ix2 p q)) (outsAt0_B m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl

/-- The output block of a column block's last point: the sum over all rows. -/
theorem after_out (c : Dev nD) (t : Fin cfg0.N) (h1 : t.val % 8 = 7) (p : Fin 256) (q : Fin 1024) :
    (outsAt0 m c t.val t.isLt).1 (ix2 p q) = ∑ r : Fin 16384, term m c (t.val / 8) p q r.val := by
  have h0 : ¬ t.val % 8 = 0 := by omega
  have ht : t.val < 8 := t.isLt
  have e := out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 p q
  have e2 := congrArg (fun o => o.1 (ix2 p q)) (outsAt0_C m c t h0 h1)
  dsimp only at e2
  have e3 := e2.trans e
  rw [part_eq] at e3
  refine e3.trans ?_
  refine Eq.trans (congrArg (· + _) (after_sc m c p q (t.val - 1) (Nat.lt_of_le_of_lt (Nat.sub_le _ _) t.isLt))) ?_
  have hd : (t.val - 1) / 8 = t.val / 8 := by omega
  have hm : (t.val - 1) % 8 + 1 = 7 := by omega
  rw [hd, hm, h1, ← Finset.sum_range_succ (fun b => ∑ j : Fin 2048, term m c (t.val / 8) p q (2048 * b + j.val))]
  exact sum_blocks 8 2048 fun r => term m c (t.val / 8) p q r

/-- An entry of the gradient. -/
def entry (c : Dev nD) (i : S256x1024.Idx) : EReal :=
  ∑ r : Fin 16384, arg_0 m c (ix3 (0 : Fin 4) r (i 0)) * arg_2 m c (ix2 r (i 1))

/-- The gradient as an array. -/
def result (c : Dev nD) : Vec Ideal S256x1024 .bf16 := fun i => entry m c i

theorem flushed_eq (c : Dev nD) (t : Fin cfg0.N) (hf : (cfg0.win 2).flush t = true) :
    (dats m 0 c).flushed 2 t = ((cfg0.win 2).blk t).view.read (Elt Ideal) (result m c) := by
  rw [Value.flushed2]
  have hi := index_2 t
  have ht : t.val < 8 := t.isLt
  have hl : t.val % 8 = 7 := (flush0_2 t).mp hf
  funext y
  rw [View.read_apply]
  have hy0 : (y 0 : ℕ) < 256 := (y 0).isLt
  have hy1 : (y 1 : ℕ) < 1024 := (y 1).isLt
  have e0 : ((((cfg0.win 2).blk t).view.emb y) 0 : ℕ) = (0) * 256 + (y 0 : ℕ) := by
    show win0_2.index t 0 * 256 + 1 * (y 0 : ℕ) = _
    rw [hi.1]; omega
  have e1 : ((((cfg0.win 2).blk t).view.emb y) 1 : ℕ) = (0) * 1024 + (y 1 : ℕ) := by
    show win0_2.index t 1 * 1024 + 1 * (y 1 : ℕ) = _
    rw [hi.2]; omega
  have hy : (y : S256x1024.Idx) = ix2 (⟨(y 0 : ℕ), hy0⟩ : Fin 256) (⟨(y 1 : ℕ), hy1⟩ : Fin 1024) := by
    funext a
    match a with
    | ⟨0, _⟩ => rfl
    | ⟨1, _⟩ => rfl
  refine eq_of_heq (HEq.trans (heq_of_eq (?_ : (outsAt0 m c t.val t.isLt).1 y = entry m c (((cfg0.win 2).blk t).view.emb y))) (cast_heq _ _).symm)
  rw [show (outsAt0 m c t.val t.isLt).1 y = (outsAt0 m c t.val t.isLt).1 (ix2 (⟨(y 0 : ℕ), hy0⟩ : Fin 256) (⟨(y 1 : ℕ), hy1⟩ : Fin 1024)) from congrArg _ hy]
  refine (after_out m c t hl (⟨(y 0 : ℕ), hy0⟩ : Fin 256) (⟨(y 1 : ℕ), hy1⟩ : Fin 1024)).trans ?_
  unfold entry
  refine Finset.sum_congr rfl fun r _ => ?_
  unfold term
  have hr := r.isLt
  rw [dif_pos (show t.val / 8 < 1 ∧ r.val < 16384 from by omega), arr_0, arr_1]
  refine congrArg₂ (· * ·) (congrArg (fun z => arg_0 m c (ix3 (0 : Fin 4) r z)) (Fin.ext ?_)) (congrArg (fun z => arg_2 m c (ix2 r z)) (Fin.ext ?_))
  · show (y 0 : ℕ) = _
    rw [e0]; omega
  · show (y 1 : ℕ) = _
    rw [e1]; omega

theorem final_eq (c : Dev nD) : (dats m 0 c).arrAt 2 cfg0.N = result m c :=
  (dats m 0 c).arrAt_eq_of_cover 2 (result m c) (flushed_eq m c)
    ((show (cfg0.win 2).Covers by decide +kernel).cover _ (Memref.isWhole_whole _))

/-- The kernel's run, read: the result at its formula, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m c), (h c).2⟩) (Value.run_blocks m ρ)

end Cert.Kernel9Ideal.Prod

end
-- ==== Proof.EmbRef.lean ====
/-
  The reference's weight gradient of the projection of the per-layer embedding, at an index.
-/
module

public import proofs.«01_k».proof.Proof.Gen.Reference9Ideal.Read
public import Idealize.ShloMosaic.Lib.Pointwise

@[expose] public section

set_option maxRecDepth 16384

namespace Cert.Reference9Ideal.Prod

open Cert.Reference9Ideal Cert.Reference9Ideal.Gen Cert.Reference9Ideal.Read Idealize.ShloMosaic Idealize.ShloMosaic.TcCoe

/-- Entry `(p, q)`: the sum over all rows of the input's column `p` times the cotangent's column `q`. -/
theorem read (x0 : Vec Ideal S4x16384x256 .f32) (x2 : Vec Ideal S16384x1024 .f32) (p : Fin 256) (q : Fin 1024) :
    val_main_v5 (F := Ideal) x0 x2 (ix2 p q) = ∑ r : Fin 16384, x0 (ix3 (0 : Fin 4) r p) * x2 (ix2 r q) := by
  unfold val_main_v5 val_main_v4 val_main_v3 val_main_v1 val_main_v0
  pointwise
  refine Finset.sum_congr rfl fun r _ => ?_
  rw [mul_comm]

end Cert.Reference9Ideal.Prod

end
-- ==== Proof.GluBlock.lean ====
/-
  What one grid point of the weight gradient of the gated unit of the state space mixer leaves in its scratch buffer and in its output
  block, at an index and over the extended reals: the sum over the rows seen so far.
-/
module

public import proofs.«01_k».proof.Proof.Gen.Kernel10Ideal.Frame
public import proofs.«01_k».proof.Proof.Canon
public import Idealize.ShloMosaic.Lib.Tactic
public import Idealize.ShloMosaic.Lib.Pointwise

@[expose] public section

set_option maxRecDepth 16384

noncomputable section

namespace Cert.Kernel10Ideal.Prod

open Cert.Kernel10Ideal Cert.Kernel10Ideal.Gen Idealize.ShloMosaic Idealize.ShloMosaic.TcCoe Idealize.SL.Sem
open Cert.Canon

theorem hz2 : (![0, 0] : Fin 2 → ℕ) = fun _ => 0 := funext fun a => by fin_cases a <;> rfl
theorem hz3 : (![0, 0, 0] : Fin 3 → ℕ) = fun _ => 0 := funext fun a => by fin_cases a <;> rfl

/-- What a point adds at `(p, q)`: the products of its 2048 rows. -/
def part (x0 : Vec Ideal S2048x512 .bf16) (x1 : Vec Ideal S2048x512 .bf16) (p : Fin 512) (q : Fin 512) : EReal :=
  ∑ r : Fin 2048, x0 (ix2 r p) * x1 (ix2 r q)

/-- The scratch buffer after a point of case A. -/
theorem sc_A (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S512x512 .bf16) (harg5 : arg5.IsWhole) (arg6 : Memref sig .tc .vmem S512x512 .f32) (harg6 : arg6.IsWhole) (hc0 : cond0_0 i) (hc1 : ¬cond0_1 i)
    (x0 : Vec Ideal S2048x512 .bf16) (x1 : Vec Ideal S2048x512 .bf16) (p : Fin 512) (q : Fin 512) :
    sout0_A_0 c i arg3 harg3 arg4 harg4 arg5 harg5 arg6 harg6 hc0 hc1 x0 x1 (ix2 p q) = part x0 x1 p q := by
  unfold sout0_A_0
  rw [View.read_writes_junk_eq_canon]
  unfold kernelRun0_A
  dsimp only
  sl_unfold_words
  simp only [View.readAt_eq_ld, harg3.read_unread, harg4.read_unread, harg5.read_unread, harg6.read_unread, View.ld_unit_zero (S := S2048x512) hz2, View.ld_unit_zero (S := S512x512) hz2]
  rw [canon_in (Val := Elt Ideal) (S := S512x512) (e := .f32) ![0, 0] ![512, 512] inb_S512x512_S512x512_0_0 _ _ _ (ix2 p q) (fun a => by match a with
        | ⟨0, _⟩ => show p.val = 0 + p.val; omega
        | ⟨1, _⟩ => show (q : Fin 512).val = 0 + (q : Fin 512).val; omega)]
  pointwise [k0_pay2]
  refine Eq.trans (congrArg₂ (· + ·) (?_ : _ = (0 : EReal)) rfl) (zero_add _)
  rw [View.readCov_eq_canon']
  dsimp only
  rw [canon_in (Val := Elt Ideal) (S := S512x512) (e := .f32) ![0, 0] ![512, 512] inb_S512x512_S512x512_0_0 _ _ _ (ix2 p q) (fun a => by match a with
        | ⟨0, _⟩ => show 0 + 1 * p.val = 0 + p.val; omega
        | ⟨1, _⟩ => show 0 + 1 * q.val = 0 + q.val; omega)]
  pointwise [k0_pay1]

/-- The scratch buffer after a point of case B. -/
theorem sc_B (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S512x512 .bf16) (harg5 : arg5.IsWhole) (arg6 : Memref sig .tc .vmem S512x512 .f32) (harg6 : arg6.IsWhole) (hc0 : ¬cond0_0 i) (hc1 : ¬cond0_1 i)
    (x0 : Vec Ideal S2048x512 .bf16) (x1 : Vec Ideal S2048x512 .bf16) (xs0 : Vec Ideal S512x512 .f32) (p : Fin 512) (q : Fin 512) :
    sout0_B_0 c i arg3 harg3 arg4 harg4 arg5 harg5 arg6 harg6 hc0 hc1 x0 x1 xs0 (ix2 p q) = xs0 (ix2 p q) + part x0 x1 p q := by
  unfold sout0_B_0
  rw [View.read_writes_junk_eq_canon]
  unfold kernelRun0_B
  dsimp only
  sl_unfold_words
  simp only [View.readAt_eq_ld, harg3.read_unread, harg4.read_unread, harg5.read_unread, harg6.read_unread, View.ld_unit_zero (S := S2048x512) hz2, View.ld_unit_zero (S := S512x512) hz2]
  rw [canon_in (Val := Elt Ideal) (S := S512x512) (e := .f32) ![0, 0] ![512, 512] inb_S512x512_S512x512_0_0 _ _ _ (ix2 p q) (fun a => by match a with
        | ⟨0, _⟩ => show p.val = 0 + p.val; omega
        | ⟨1, _⟩ => show (q : Fin 512).val = 0 + (q : Fin 512).val; omega)]
  pointwise [k0_pay2]
  rfl

/-- The scratch buffer after a point of case C. -/
theorem sc_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S512x512 .bf16) (harg5 : arg5.IsWhole) (arg6 : Memref sig .tc .vmem S512x512 .f32) (harg6 : arg6.IsWhole) (hc0 : ¬cond0_0 i) (hc1 : cond0_1 i)
    (x0 : Vec Ideal S2048x512 .bf16) (x1 : Vec Ideal S2048x512 .bf16) (xs0 : Vec Ideal S512x512 .f32) (p : Fin 512) (q : Fin 512) :
    sout0_C_0 c i arg3 harg3 arg4 harg4 arg5 harg5 arg6 harg6 hc0 hc1 x0 x1 xs0 (ix2 p q) = xs0 (ix2 p q) + part x0 x1 p q := by
  unfold sout0_C_0
  rw [View.read_writes_junk_eq_canon]
  unfold kernelRun0_C
  dsimp only
  sl_unfold_words
  simp only [View.readAt_eq_ld, harg3.read_unread, harg4.read_unread, harg5.read_unread, harg6.read_unread, View.ld_unit_zero (S := S2048x512) hz2, View.ld_unit_zero (S := S512x512) hz2]
  rw [canon_in (Val := Elt Ideal) (S := S512x512) (e := .f32) ![0, 0] ![512, 512] inb_S512x512_S512x512_0_0 _ _ _ (ix2 p q) (fun a => by match a with
        | ⟨0, _⟩ => show p.val = 0 + p.val; omega
        | ⟨1, _⟩ => show (q : Fin 512).val = 0 + (q : Fin 512).val; omega)]
  pointwise [k0_pay2]
  rfl

/-- The output block of a point of case C: the scratch buffer's contents. -/
theorem out_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S512x512 .bf16) (harg5 : arg5.IsWhole) (arg6 : Memref sig .tc .vmem S512x512 .f32) (harg6 : arg6.IsWhole) (hc0 : ¬cond0_0 i) (hc1 : cond0_1 i)
    (x0 : Vec Ideal S2048x512 .bf16) (x1 : Vec Ideal S2048x512 .bf16) (xs0 : Vec Ideal S512x512 .f32) (p : Fin 512) (q : Fin 512) :
    out0_C_2 c i arg3 harg3 arg4 harg4 arg5 harg5 arg6 harg6 hc0 hc1 x0 x1 xs0 (ix2 p q) = xs0 (ix2 p q) + part x0 x1 p q := by
  unfold out0_C_2
  rw [View.read_writes_junk_eq_canon]
  unfold kernelRun0_C
  dsimp only
  sl_unfold_words
  simp only [View.readAt_eq_ld, harg3.read_unread, harg4.read_unread, harg5.read_unread, harg6.read_unread, View.ld_unit_zero (S := S2048x512) hz2, View.ld_unit_zero (S := S512x512) hz2]
  rw [canon_in _ _ _ _ _ _ (ix2 p q) (fun a => by match a with
        | ⟨0, _⟩ => show p.val = 0 + p.val; omega
        | ⟨1, _⟩ => show q.val = 0 + q.val; omega)]
  pointwise [k0_pay3]
  rw [View.readCov_eq_canon']
  dsimp only
  rw [canon_in (Val := Elt Ideal) (S := S512x512) (e := .f32) ![0, 0] ![512, 512] inb_S512x512_S512x512_0_0 _ _ _ (ix2 p q) (fun a => by match a with
        | ⟨0, _⟩ => show 0 + 1 * p.val = 0 + p.val; omega
        | ⟨1, _⟩ => show 0 + 1 * q.val = 0 + q.val; omega)]
  pointwise [k0_pay2]
  rfl

end Cert.Kernel10Ideal.Prod

end
-- ==== Proof.GluKernel.lean ====
/-
  The weight gradient of the gated unit of the state space mixer, as the accumulating call leaves it: entry `(p, q)` is the sum over
  the 16384 rows of the input's column `p` times the cotangent's column `q`.
-/
module

public import proofs.«01_k».proof.Proof.Rows
public import Idealize.ShloMosaic.Lib.Pipeline.ValueKit
public import proofs.«01_k».proof.Proof.GluBlock
public import proofs.«01_k».proof.Proof.Gen.Kernel10Ideal.Value

@[expose] public section

set_option maxRecDepth 16384

noncomputable section

namespace Cert.Kernel10Ideal.Prod

open Cert.Kernel10Ideal Cert.Kernel10Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

abbrev arg_0 (c : Dev nD) : Vec Ideal S16384x512 .f32 := m ((c : Thread nD τ).loc main_arg0)
abbrev arg_1 (c : Dev nD) : Vec Ideal S512x512 .f32 := m ((c : Thread nD τ).loc main_arg1)
abbrev arg_2 (c : Dev nD) : Vec Ideal S16384x512 .f32 := m ((c : Thread nD τ).loc main_arg2)

/-! The arrays that the input windows read, their blocks at point `t`, and both at an index. -/

abbrev Arr0 (c : Dev nD) : Vec Ideal S16384x512 .bf16 := V m c main_v0
abbrev X0 (c : Dev nD) (t : Fin cfg0.N) : Vec Ideal S2048x512 .bf16 := iblk m c 0 t

theorem arr_0 (c : Dev nD) (r : Fin 16384) (p : Fin 512) :
    Arr0 m c (ix2 r p) = arg_0 m c (ix2 r p) := by
  unfold Arr0 V
  after_results
  pointwise

abbrev Arr1 (c : Dev nD) : Vec Ideal S16384x512 .bf16 := V m c main_v1
abbrev X1 (c : Dev nD) (t : Fin cfg0.N) : Vec Ideal S2048x512 .bf16 := iblk m c 1 t

theorem arr_1 (c : Dev nD) (r : Fin 16384) (p : Fin 512) :
    Arr1 m c (ix2 r p) = arg_2 m c (ix2 r p) := by
  unfold Arr1 V
  after_results
  pointwise

theorem index_0 : ∀ t : Fin cfg0.N, win0_0.index t 0 = t.val % 8 ∧ win0_0.index t 1 = 0 :=
  (by decide +kernel : ∀ t : Fin grid0.N, _)

theorem iblk_0 (c : Dev nD) (t : Fin cfg0.N) (j0 : Fin 2048) (j1 : Fin 512) (r0 : Fin 16384) (r1 : Fin 512)
    (h0 : r0.val = (t.val % 8) * 2048 + j0.val) (h1 : r1.val = (0) * 512 + j1.val) :
    X0 m c t (ix2 j0 j1) = Arr0 m c (ix2 r0 r1) := by
  unfold X0 iblk
  rw [View.read_apply]
  exact congrArg (V m c main_v0) (Cert.Rows.ix2_of (index_0 t) h0 h1 rfl rfl)

theorem index_1 : ∀ t : Fin cfg0.N, win0_1.index t 0 = t.val % 8 ∧ win0_1.index t 1 = 0 :=
  (by decide +kernel : ∀ t : Fin grid0.N, _)

theorem iblk_1 (c : Dev nD) (t : Fin cfg0.N) (j0 : Fin 2048) (j1 : Fin 512) (r0 : Fin 16384) (r1 : Fin 512)
    (h0 : r0.val = (t.val % 8) * 2048 + j0.val) (h1 : r1.val = (0) * 512 + j1.val) :
    X1 m c t (ix2 j0 j1) = Arr1 m c (ix2 r0 r1) := by
  unfold X1 iblk
  rw [View.read_apply]
  exact congrArg (V m c main_v1) (Cert.Rows.ix2_of (index_1 t) h0 h1 rfl rfl)

theorem index_2 : ∀ t : Fin cfg0.N, win0_2.index t 0 = 0 ∧ win0_2.index t 1 = 0 :=
  (by decide +kernel : ∀ t : Fin grid0.N, _)

/-- The product of row `r` that the gradient's entry of column block `k` sums. -/
def term (c : Dev nD) (k : ℕ) (p : Fin 512) (q : Fin 512) (r : ℕ) : EReal :=
  if h : k < 1 ∧ r < 16384 then Arr0 m c (ix2 ⟨r, h.2⟩ p) * Arr1 m c (ix2 ⟨r, h.2⟩ q) else 0

/-- What point `t` adds. -/
theorem part_eq (c : Dev nD) (t : Fin cfg0.N) (p : Fin 512) (q : Fin 512) :
    part (X0 m c t) (X1 m c t) p q = ∑ j : Fin 2048, term m c (t.val / 8) p q (2048 * (t.val % 8) + j.val) := by
  have ht : t.val < 8 := t.isLt
  unfold part term
  refine Finset.sum_congr rfl fun j _ => ?_
  have hj := j.isLt
  rw [dif_pos (show t.val / 8 < 1 ∧ 2048 * (t.val % 8) + j.val < 16384 from by omega)]
  exact congrArg₂ (· * ·) (iblk_0 m c t j p _ p (by show 2048 * (t.val % 8) + j.val = _; omega) (by omega))
    (iblk_1 m c t j q _ q (by show 2048 * (t.val % 8) + j.val = _; omega) (by omega))

/-- The scratch buffer after point `n`: the sum over the blocks of rows of its column block up to it. -/
theorem after_sc (c : Dev nD) (p : Fin 512) (q : Fin 512) : ∀ (n : ℕ) (hn : n < cfg0.N),
    (outsAt0 m c n hn).2 (ix2 p q)
      = ∑ b ∈ Finset.range (n % 8 + 1), ∑ j : Fin 2048, term m c (n / 8) p q (2048 * b + j.val) := by
  intro n
  induction n with
  | zero =>
    intro hn
    obtain ⟨t, ht⟩ : ∃ t : Fin cfg0.N, t = ⟨0, hn⟩ := ⟨_, rfl⟩
    have h0 : t.val % 8 = 0 := by rw [ht]; exact Nat.zero_mod _
    have h1 : ¬ t.val % 8 = 7 := by omega
    have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) p q
    have e2 := congrArg (fun o => o.2 (ix2 p q)) (outsAt0_A m c t h0 h1)
    dsimp only at e2
    have e3 := (e2.trans e).trans (part_eq m c t p q)
    subst ht
    refine e3.trans ?_
    exact Finset.sum_range_one (fun b => ∑ j : Fin 2048, term m c (0 / 8) p q (2048 * b + j.val)) |>.symm
  | succ n ih =>
    intro hn
    have hn' : n + 1 < 8 := hn
    obtain ⟨t, ht⟩ : ∃ t : Fin cfg0.N, t = ⟨n + 1, hn⟩ := ⟨_, rfl⟩
    have htv : t.val = n + 1 := by rw [ht]
    by_cases h0 : t.val % 8 = 0
    · have h1 : ¬ t.val % 8 = 7 := by omega
      have e := sc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (X0 m c t) (X1 m c t) p q
      have e2 := congrArg (fun o => o.2 (ix2 p q)) (outsAt0_A m c t h0 h1)
      dsimp only at e2
      have e3 := (e2.trans e).trans (part_eq m c t p q)
      have h0' : (n + 1) % 8 = 0 := by omega
      subst ht
      refine e3.trans ?_
      rw [h0']
      exact (Finset.sum_range_one (fun b => ∑ j : Fin 2048, term m c ((n + 1) / 8) p q (2048 * b + j.val))).symm
    · have hd : (n + 1) / 8 = n / 8 := by omega
      have hm : (n + 1) % 8 = n % 8 + 1 := by omega
      by_cases h1 : t.val % 8 = 7
      · have e := sc_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 p q
        have e2 := congrArg (fun o => o.2 (ix2 p q)) (outsAt0_C m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl
      · have e := sc_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (X0 m c t) (X1 m c t) (outsAt0 m c (t.val - 1) (Nat.lt_of_le_of_lt (Nat.sub_le _ _) t.isLt)).2 p q
        have e2 := congrArg (fun o => o.2 (ix2 p q)) (outsAt0_B m c t h0 h1)
        dsimp only at e2
        have e3 := e2.trans e
        rw [part_eq] at e3
        subst ht
        refine e3.trans ?_
        rw [hd, hm, Finset.sum_range_succ]
        refine congrArg₂ (· + ·) (ih (Nat.lt_of_succ_lt hn)) ?_
        rfl

/-- The output block of a column block's last point: the sum over all rows. -/
theorem after_out (c : Dev nD) (t : Fin cfg0.N) (h1 : t.val % 8 = 7) (p : Fin 512) (q : Fin 512) :
    (outsAt0 m c t.val t.isLt).1 (ix2 p q) = ∑ r : Fin 16384, term m c (t.val / 8) p q r.val := by
  have h0 : ¬ t.val % 8 = 0 := by omega
  have ht : t.val < 8 := t.isLt
  have e := out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (X0 m c t) (X1 m c t) (outsAt0 m c (t.val - 1) (Nat.lt_of_le_of_lt (Nat.sub_le _ _) t.isLt)).2 p q
  have e2 := congrArg (fun o => o.1 (ix2 p q)) (outsAt0_C m c t h0 h1)
  dsimp only at e2
  have e3 := e2.trans e
  rw [part_eq] at e3
  refine e3.trans ?_
  refine Eq.trans (congrArg (· + _) (after_sc m c p q (t.val - 1) (Nat.lt_of_le_of_lt (Nat.sub_le _ _) t.isLt))) ?_
  have hd : (t.val - 1) / 8 = t.val / 8 := by omega
  have hm : (t.val - 1) % 8 + 1 = 7 := by omega
  rw [hd, hm, h1, ← Finset.sum_range_succ (fun b => ∑ j : Fin 2048, term m c (t.val / 8) p q (2048 * b + j.val))]
  exact sum_blocks 8 2048 fun r => term m c (t.val / 8) p q r

/-- An entry of the gradient. -/
def entry (c : Dev nD) (i : S512x512.Idx) : EReal :=
  ∑ r : Fin 16384, arg_0 m c (ix2 r (i 0)) * arg_2 m c (ix2 r (i 1))

/-- The gradient as an array. -/
def result (c : Dev nD) : Vec Ideal S512x512 .bf16 := fun i => entry m c i

theorem flushed_eq (c : Dev nD) (t : Fin cfg0.N) (hf : (cfg0.win 2).flush t = true) :
    (dats m 0 c).flushed 2 t = ((cfg0.win 2).blk t).view.read (Elt Ideal) (result m c) := by
  rw [Value.flushed2]
  have hi := index_2 t
  have ht : t.val < 8 := t.isLt
  have hl : t.val % 8 = 7 := (flush0_2 t).mp hf
  funext y
  rw [View.read_apply]
  have hy0 : (y 0 : ℕ) < 512 := (y 0).isLt
  have hy1 : (y 1 : ℕ) < 512 := (y 1).isLt
  have e0 : ((((cfg0.win 2).blk t).view.emb y) 0 : ℕ) = (0) * 512 + (y 0 : ℕ) := by
    show win0_2.index t 0 * 512 + 1 * (y 0 : ℕ) = _
    rw [hi.1]; omega
  have e1 : ((((cfg0.win 2).blk t).view.emb y) 1 : ℕ) = (0) * 512 + (y 1 : ℕ) := by
    show win0_2.index t 1 * 512 + 1 * (y 1 : ℕ) = _
    rw [hi.2]; omega
  have hy : (y : S512x512.Idx) = ix2 (⟨(y 0 : ℕ), hy0⟩ : Fin 512) (⟨(y 1 : ℕ), hy1⟩ : Fin 512) := by
    funext a
    match a with
    | ⟨0, _⟩ => rfl
    | ⟨1, _⟩ => rfl
  refine eq_of_heq (HEq.trans (heq_of_eq (?_ : (outsAt0 m c t.val t.isLt).1 y = entry m c (((cfg0.win 2).blk t).view.emb y))) (cast_heq _ _).symm)
  rw [show (outsAt0 m c t.val t.isLt).1 y = (outsAt0 m c t.val t.isLt).1 (ix2 (⟨(y 0 : ℕ), hy0⟩ : Fin 512) (⟨(y 1 : ℕ), hy1⟩ : Fin 512)) from congrArg _ hy]
  refine (after_out m c t hl (⟨(y 0 : ℕ), hy0⟩ : Fin 512) (⟨(y 1 : ℕ), hy1⟩ : Fin 512)).trans ?_
  unfold entry
  refine Finset.sum_congr rfl fun r _ => ?_
  unfold term
  have hr := r.isLt
  rw [dif_pos (show t.val / 8 < 1 ∧ r.val < 16384 from by omega), arr_0, arr_1]
  refine congrArg₂ (· * ·) (congrArg (fun z => arg_0 m c (ix2 r z)) (Fin.ext ?_)) (congrArg (fun z => arg_2 m c (ix2 r z)) (Fin.ext ?_))
  · show (y 0 : ℕ) = _
    rw [e0]; omega
  · show (y 1 : ℕ) = _
    rw [e1]; omega

theorem final_eq (c : Dev nD) : (dats m 0 c).arrAt 2 cfg0.N = result m c :=
  (dats m 0 c).arrAt_eq_of_cover 2 (result m c) (flushed_eq m c)
    ((show (cfg0.win 2).Covers by decide +kernel).cover _ (Memref.isWhole_whole _))

/-- The kernel's run, read: the result at its formula, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m c), (h c).2⟩) (Value.run_blocks m ρ)

end Cert.Kernel10Ideal.Prod

end
-- ==== Proof.GluRef.lean ====
/-
  The reference's weight gradient of the gated unit of the state space mixer, at an index.
-/
module

public import proofs.«01_k».proof.Proof.Gen.Reference10Ideal.Read
public import Idealize.ShloMosaic.Lib.Pointwise

@[expose] public section

set_option maxRecDepth 16384

namespace Cert.Reference10Ideal.Prod

open Cert.Reference10Ideal Cert.Reference10Ideal.Gen Cert.Reference10Ideal.Read Idealize.ShloMosaic Idealize.ShloMosaic.TcCoe

/-- Entry `(p, q)`: the sum over all rows of the input's column `p` times the cotangent's column `q`. -/
theorem read (x0 : Vec Ideal S16384x512 .f32) (x2 : Vec Ideal S16384x512 .f32) (p : Fin 512) (q : Fin 512) :
    val_main_v3 (F := Ideal) x0 x2 (ix2 p q) = ∑ r : Fin 16384, x0 (ix2 r p) * x2 (ix2 r q) := by
  unfold val_main_v3 val_main_v2 val_main_v1
  pointwise
  refine Finset.sum_congr rfl fun r _ => ?_
  rw [mul_comm]

end Cert.Reference10Ideal.Prod

end
-- ==== Proof.MmInKernel.lean ====
/-
  The input projection, as the call leaves it: entry `(r, l)` is the input's row against the weights' column, stored in eight
  blocks of 256 columns.
-/
module

public import proofs.«01_k».proof.Proof.Rows
public import Idealize.ShloMosaic.Lib.Pipeline.ValueKit
public import proofs.«01_k».proof.Proof.Gen.Kernel11Ideal.Value
public import proofs.«01_k».proof.Proof.Canon
public import Idealize.ShloMosaic.Lib.Tactic
public import Idealize.ShloMosaic.Lib.Pointwise

@[expose] public section

set_option maxRecDepth 16384

noncomputable section

namespace Cert.Kernel11Ideal.Prod

open Cert.Kernel11Ideal Cert.Kernel11Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

/-- Column block 0 of the output block. -/
theorem col_0 (x0 : Vec Ideal S512x1024 .bf16) (x1 : Vec Ideal S8x1x1024x256 .bf16) (j : Fin 512) (q : Fin 256) (l : Fin 2048) (hl : l.val = 0 + q.val) :
    out0_2 x0 x1 (ix2 j l) = ∑ p : Fin 1024, x0 (ix2 j p) * x1 (ix4 0 0 p q) := by
  have hq := q.isLt
  unfold out0_2
  rw [canon_out _ _ _ _ _ (ix2 j l) (1 : Fin 2) (Or.inl (by show l.val < 1792; omega))]
  rw [canon_out _ _ _ _ _ (ix2 j l) (1 : Fin 2) (Or.inl (by show l.val < 1536; omega))]
  rw [canon_out _ _ _ _ _ (ix2 j l) (1 : Fin 2) (Or.inl (by show l.val < 1280; omega))]
  rw [canon_out _ _ _ _ _ (ix2 j l) (1 : Fin 2) (Or.inl (by show l.val < 1024; omega))]
  rw [canon_out _ _ _ _ _ (ix2 j l) (1 : Fin 2) (Or.inl (by show l.val < 768; omega))]
  rw [canon_out _ _ _ _ _ (ix2 j l) (1 : Fin 2) (Or.inl (by show l.val < 512; omega))]
  rw [canon_out _ _ _ _ _ (ix2 j l) (1 : Fin 2) (Or.inl (by show l.val < 256; omega))]
  rw [canon_in (Val := Elt Ideal) (S := S512x2048) (e := .f32) ![0, 0] S512x256.size _ _ _ (ix2 j l) (ix2 j q) (fun a => by match a with
        | ⟨0, _⟩ => show j.val = 0 + j.val; omega
        | ⟨1, _⟩ => show l.val = 0 + q.val; omega)]
  pointwise [k0_pay6, k0_pay5]

/-- Column block 1 of the output block. -/
theorem col_1 (x0 : Vec Ideal S512x1024 .bf16) (x1 : Vec Ideal S8x1x1024x256 .bf16) (j : Fin 512) (q : Fin 256) (l : Fin 2048) (hl : l.val = 256 + q.val) :
    out0_2 x0 x1 (ix2 j l) = ∑ p : Fin 1024, x0 (ix2 j p) * x1 (ix4 1 0 p q) := by
  have hq := q.isLt
  unfold out0_2
  rw [canon_out _ _ _ _ _ (ix2 j l) (1 : Fin 2) (Or.inl (by show l.val < 1792; omega))]
  rw [canon_out _ _ _ _ _ (ix2 j l) (1 : Fin 2) (Or.inl (by show l.val < 1536; omega))]
  rw [canon_out _ _ _ _ _ (ix2 j l) (1 : Fin 2) (Or.inl (by show l.val < 1280; omega))]
  rw [canon_out _ _ _ _ _ (ix2 j l) (1 : Fin 2) (Or.inl (by show l.val < 1024; omega))]
  rw [canon_out _ _ _ _ _ (ix2 j l) (1 : Fin 2) (Or.inl (by show l.val < 768; omega))]
  rw [canon_out _ _ _ _ _ (ix2 j l) (1 : Fin 2) (Or.inl (by show l.val < 512; omega))]
  rw [canon_in (Val := Elt Ideal) (S := S512x2048) (e := .f32) ![0, 256] S512x256.size _ _ _ (ix2 j l) (ix2 j q) (fun a => by match a with
        | ⟨0, _⟩ => show j.val = 0 + j.val; omega
        | ⟨1, _⟩ => show l.val = 256 + q.val; omega)]
  pointwise [k0_pay7, k0_pay5]

/-- Column block 2 of the output block. -/
theorem col_2 (x0 : Vec Ideal S512x1024 .bf16) (x1 : Vec Ideal S8x1x1024x256 .bf16) (j : Fin 512) (q : Fin 256) (l : Fin 2048) (hl : l.val = 512 + q.val) :
    out0_2 x0 x1 (ix2 j l) = ∑ p : Fin 1024, x0 (ix2 j p) * x1 (ix4 2 0 p q) := by
  have hq := q.isLt
  unfold out0_2
  rw [canon_out _ _ _ _ _ (ix2 j l) (1 : Fin 2) (Or.inl (by show l.val < 1792; omega))]
  rw [canon_out _ _ _ _ _ (ix2 j l) (1 : Fin 2) (Or.inl (by show l.val < 1536; omega))]
  rw [canon_out _ _ _ _ _ (ix2 j l) (1 : Fin 2) (Or.inl (by show l.val < 1280; omega))]
  rw [canon_out _ _ _ _ _ (ix2 j l) (1 : Fin 2) (Or.inl (by show l.val < 1024; omega))]
  rw [canon_out _ _ _ _ _ (ix2 j l) (1 : Fin 2) (Or.inl (by show l.val < 768; omega))]
  rw [canon_in (Val := Elt Ideal) (S := S512x2048) (e := .f32) ![0, 512] S512x256.size _ _ _ (ix2 j l) (ix2 j q) (fun a => by match a with
        | ⟨0, _⟩ => show j.val = 0 + j.val; omega
        | ⟨1, _⟩ => show l.val = 512 + q.val; omega)]
  pointwise [k0_pay8, k0_pay5]

/-- Column block 3 of the output block. -/
theorem col_3 (x0 : Vec Ideal S512x1024 .bf16) (x1 : Vec Ideal S8x1x1024x256 .bf16) (j : Fin 512) (q : Fin 256) (l : Fin 2048) (hl : l.val = 768 + q.val) :
    out0_2 x0 x1 (ix2 j l) = ∑ p : Fin 1024, x0 (ix2 j p) * x1 (ix4 3 0 p q) := by
  have hq := q.isLt
  unfold out0_2
  rw [canon_out _ _ _ _ _ (ix2 j l) (1 : Fin 2) (Or.inl (by show l.val < 1792; omega))]
  rw [canon_out _ _ _ _ _ (ix2 j l) (1 : Fin 2) (Or.inl (by show l.val < 1536; omega))]
  rw [canon_out _ _ _ _ _ (ix2 j l) (1 : Fin 2) (Or.inl (by show l.val < 1280; omega))]
  rw [canon_out _ _ _ _ _ (ix2 j l) (1 : Fin 2) (Or.inl (by show l.val < 1024; omega))]
  rw [canon_in (Val := Elt Ideal) (S := S512x2048) (e := .f32) ![0, 768] S512x256.size _ _ _ (ix2 j l) (ix2 j q) (fun a => by match a with
        | ⟨0, _⟩ => show j.val = 0 + j.val; omega
        | ⟨1, _⟩ => show l.val = 768 + q.val; omega)]
  pointwise [k0_pay9, k0_pay5]

/-- Column block 4 of the output block. -/
theorem col_4 (x0 : Vec Ideal S512x1024 .bf16) (x1 : Vec Ideal S8x1x1024x256 .bf16) (j : Fin 512) (q : Fin 256) (l : Fin 2048) (hl : l.val = 1024 + q.val) :
    out0_2 x0 x1 (ix2 j l) = ∑ p : Fin 1024, x0 (ix2 j p) * x1 (ix4 4 0 p q) := by
  have hq := q.isLt
  unfold out0_2
  rw [canon_out _ _ _ _ _ (ix2 j l) (1 : Fin 2) (Or.inl (by show l.val < 1792; omega))]
  rw [canon_out _ _ _ _ _ (ix2 j l) (1 : Fin 2) (Or.inl (by show l.val < 1536; omega))]
  rw [canon_out _ _ _ _ _ (ix2 j l) (1 : Fin 2) (Or.inl (by show l.val < 1280; omega))]
  rw [canon_in (Val := Elt Ideal) (S := S512x2048) (e := .f32) ![0, 1024] S512x256.size _ _ _ (ix2 j l) (ix2 j q) (fun a => by match a with
        | ⟨0, _⟩ => show j.val = 0 + j.val; omega
        | ⟨1, _⟩ => show l.val = 1024 + q.val; omega)]
  pointwise [k0_pay1, k0_pay10, k0_pay11, k0_pay5]

/-- Column block 5 of the output block. -/
theorem col_5 (x0 : Vec Ideal S512x1024 .bf16) (x1 : Vec Ideal S8x1x1024x256 .bf16) (j : Fin 512) (q : Fin 256) (l : Fin 2048) (hl : l.val = 1280 + q.val) :
    out0_2 x0 x1 (ix2 j l) = ∑ p : Fin 1024, x0 (ix2 j p) * x1 (ix4 5 0 p q) := by
  have hq := q.isLt
  unfold out0_2
  rw [canon_out _ _ _ _ _ (ix2 j l) (1 : Fin 2) (Or.inl (by show l.val < 1792; omega))]
  rw [canon_out _ _ _ _ _ (ix2 j l) (1 : Fin 2) (Or.inl (by show l.val < 1536; omega))]
  rw [canon_in (Val := Elt Ideal) (S := S512x2048) (e := .f32) ![0, 1280] S512x256.size _ _ _ (ix2 j l) (ix2 j q) (fun a => by match a with
        | ⟨0, _⟩ => show j.val = 0 + j.val; omega
        | ⟨1, _⟩ => show l.val = 1280 + q.val; omega)]
  pointwise [k0_pay2, k0_pay11, k0_pay5]

/-- Column block 6 of the output block. -/
theorem col_6 (x0 : Vec Ideal S512x1024 .bf16) (x1 : Vec Ideal S8x1x1024x256 .bf16) (j : Fin 512) (q : Fin 256) (l : Fin 2048) (hl : l.val = 1536 + q.val) :
    out0_2 x0 x1 (ix2 j l) = ∑ p : Fin 1024, x0 (ix2 j p) * x1 (ix4 6 0 p q) := by
  have hq := q.isLt
  unfold out0_2
  rw [canon_out _ _ _ _ _ (ix2 j l) (1 : Fin 2) (Or.inl (by show l.val < 1792; omega))]
  rw [canon_in (Val := Elt Ideal) (S := S512x2048) (e := .f32) ![0, 1536] S512x256.size _ _ _ (ix2 j l) (ix2 j q) (fun a => by match a with
        | ⟨0, _⟩ => show j.val = 0 + j.val; omega
        | ⟨1, _⟩ => show l.val = 1536 + q.val; omega)]
  pointwise [k0_pay3, k0_pay11, k0_pay5]

/-- Column block 7 of the output block. -/
theorem col_7 (x0 : Vec Ideal S512x1024 .bf16) (x1 : Vec Ideal S8x1x1024x256 .bf16) (j : Fin 512) (q : Fin 256) (l : Fin 2048) (hl : l.val = 1792 + q.val) :
    out0_2 x0 x1 (ix2 j l) = ∑ p : Fin 1024, x0 (ix2 j p) * x1 (ix4 7 0 p q) := by
  have hq := q.isLt
  unfold out0_2
  rw [canon_in (Val := Elt Ideal) (S := S512x2048) (e := .f32) ![0, 1792] S512x256.size _ _ _ (ix2 j l) (ix2 j q) (fun a => by match a with
        | ⟨0, _⟩ => show j.val = 0 + j.val; omega
        | ⟨1, _⟩ => show l.val = 1792 + q.val; omega)]
  pointwise [k0_pay4, k0_pay11, k0_pay5]

/-- The output block at an index. -/
theorem out_eq (x0 : Vec Ideal S512x1024 .bf16) (x1 : Vec Ideal S8x1x1024x256 .bf16) (j : Fin 512) (k : Fin 8) (q : Fin 256) (l : Fin 2048)
    (hl : l.val = 256 * k.val + q.val) :
    out0_2 x0 x1 (ix2 j l) = ∑ p : Fin 1024, x0 (ix2 j p) * x1 (ix4 k 0 p q) := by
  match k, hl with
  | ⟨0, _⟩, hl => exact col_0 x0 x1 j q l (by have h : l.val = 256 * 0 + q.val := hl; omega)
  | ⟨1, _⟩, hl => exact col_1 x0 x1 j q l (by have h : l.val = 256 * 1 + q.val := hl; omega)
  | ⟨2, _⟩, hl => exact col_2 x0 x1 j q l (by have h : l.val = 256 * 2 + q.val := hl; omega)
  | ⟨3, _⟩, hl => exact col_3 x0 x1 j q l (by have h : l.val = 256 * 3 + q.val := hl; omega)
  | ⟨4, _⟩, hl => exact col_4 x0 x1 j q l (by have h : l.val = 256 * 4 + q.val := hl; omega)
  | ⟨5, _⟩, hl => exact col_5 x0 x1 j q l (by have h : l.val = 256 * 5 + q.val := hl; omega)
  | ⟨6, _⟩, hl => exact col_6 x0 x1 j q l (by have h : l.val = 256 * 6 + q.val := hl; omega)
  | ⟨7, _⟩, hl => exact col_7 x0 x1 j q l (by have h : l.val = 256 * 7 + q.val := hl; omega)

abbrev arg_0 (c : Dev nD) : Vec Ideal S16384x1024 .f32 := m ((c : Thread nD τ).loc main_arg0)
abbrev arg_1 (c : Dev nD) : Vec Ideal S1024x2048 .f32 := m ((c : Thread nD τ).loc main_arg1)

/-! The arrays that the input windows read, their blocks at point `t`, and both at an index. -/

abbrev Arr0 (c : Dev nD) : Vec Ideal S16384x1024 .bf16 := V m c main_v4
abbrev X0 (c : Dev nD) (t : Fin cfg0.N) : Vec Ideal S512x1024 .bf16 := iblk m c 0 t

theorem arr_0 (c : Dev nD) (r : Fin 16384) (p : Fin 1024) :
    Arr0 m c (ix2 r p) = arg_0 m c (ix2 r p) := by
  unfold Arr0 V
  after_results
  pointwise

abbrev Arr1 (c : Dev nD) : Vec Ideal S8x1x1024x256 .bf16 := V m c main_v3
abbrev X1 (c : Dev nD) (t : Fin cfg0.N) : Vec Ideal S8x1x1024x256 .bf16 := iblk m c 1 t

theorem arr_1 (c : Dev nD) (k : Fin 8) (p : Fin 1024) (q : Fin 256) (l : Fin 2048) (hl : l.val = 256 * k.val + q.val) :
    Arr1 m c (ix4 k 0 p q) = arg_1 m c (ix2 p l) := by
  unfold Arr1 V
  after_results
  pointwise
  exact congrArg (fun z => arg_1 m c (ix2 p z)) (Fin.ext (by show k.val * 256 + q.val = l.val; omega))

theorem index_0 : ∀ t : Fin cfg0.N, win0_0.index t 0 = t.val ∧ win0_0.index t 1 = 0 :=
  (by decide +kernel : ∀ t : Fin grid0.N, _)

theorem iblk_0 (c : Dev nD) (t : Fin cfg0.N) (j0 : Fin 512) (j1 : Fin 1024) (r0 : Fin 16384) (r1 : Fin 1024)
    (h0 : r0.val = (t.val) * 512 + j0.val) (h1 : r1.val = (0) * 1024 + j1.val) :
    X0 m c t (ix2 j0 j1) = Arr0 m c (ix2 r0 r1) := by
  unfold X0 iblk
  rw [View.read_apply]
  exact congrArg (V m c main_v4) (Cert.Rows.ix2_of (index_0 t) h0 h1 rfl rfl)

theorem index_1 : ∀ t : Fin cfg0.N, win0_1.index t 0 = 0 ∧ win0_1.index t 1 = 0 ∧ win0_1.index t 2 = 0 ∧ win0_1.index t 3 = 0 :=
  (by decide +kernel : ∀ t : Fin grid0.N, _)

theorem iblk_1 (c : Dev nD) (t : Fin cfg0.N) (j0 : Fin 8) (j1 : Fin 1) (j2 : Fin 1024) (j3 : Fin 256) (r0 : Fin 8) (r1 : Fin 1) (r2 : Fin 1024) (r3 : Fin 256)
    (h0 : r0.val = (0) * 8 + j0.val) (h1 : r1.val = (0) * 1 + j1.val) (h2 : r2.val = (0) * 1024 + j2.val) (h3 : r3.val = (0) * 256 + j3.val) :
    X1 m c t (ix4 j0 j1 j2 j3) = Arr1 m c (ix4 r0 r1 r2 r3) := by
  have hi := index_1 t
  unfold X1 iblk
  rw [View.read_apply]
  show V m c main_v3 _ = V m c main_v3 _
  congr 1
  funext a
  apply Fin.ext
  match a with
  | ⟨0, _⟩ => show win0_1.index t 0 * 8 + 1 * j0.val = r0.val; rw [hi.1, h0]; omega
  | ⟨1, _⟩ => show win0_1.index t 1 * 1 + 1 * j1.val = r1.val; rw [hi.2.1, h1]; omega
  | ⟨2, _⟩ => show win0_1.index t 2 * 1024 + 1 * j2.val = r2.val; rw [hi.2.2.1, h2]; omega
  | ⟨3, _⟩ => show win0_1.index t 3 * 256 + 1 * j3.val = r3.val; rw [hi.2.2.2, h3]; omega

theorem index_2 : ∀ t : Fin cfg0.N, win0_2.index t 0 = t.val ∧ win0_2.index t 1 = 0 :=
  (by decide +kernel : ∀ t : Fin grid0.N, _)

/-- An entry of the product. -/
def entry (c : Dev nD) (i : S16384x2048.Idx) : EReal :=
  ∑ k : Fin 1024, arg_0 m c (ix2 (i 0) k) * arg_1 m c (ix2 k (i 1))

/-- The output block of point `t`, read in the arguments. -/
theorem block_eq (c : Dev nD) (t : Fin cfg0.N) (j : Fin 512) (p : Fin 2048) (r : Fin 16384) (q : Fin 2048)
    (hr : r.val = (t.val) * 512 + j.val) (hq : q.val = 0 * 2048 + p.val) :
    out0_2 (X0 m c t) (X1 m c t) (ix2 j p) = entry m c (ix2 r q) := by
  obtain rfl : q = p := Fin.ext (by omega)
  have hq' := q.isLt
  refine (out_eq _ _ j ⟨q.val / 256, by omega⟩ ⟨q.val % 256, by omega⟩ q (by show q.val = 256 * (q.val / 256) + q.val % 256; omega)).trans ?_
  unfold entry
  refine Finset.sum_congr rfl fun l _ => ?_
  exact congrArg₂ (· * ·) ((iblk_0 m c t j l r l hr (by omega)).trans (arr_0 m c r l))
    ((iblk_1 m c t ⟨q.val / 256, by omega⟩ 0 l ⟨q.val % 256, by omega⟩ ⟨q.val / 256, by omega⟩ 0 l ⟨q.val % 256, by omega⟩ (by omega) (by omega) (by omega) (by omega)).trans (arr_1 m c _ l _ q (by show q.val = 256 * (q.val / 256) + q.val % 256; omega)))

/-- The result as an array. -/
def result (c : Dev nD) : Vec Ideal S16384x2048 .f32 := fun i => entry m c i

theorem flushed_eq (c : Dev nD) (t : Fin cfg0.N) :
    (dats m 0 c).flushed 2 t = ((cfg0.win 2).blk t).view.read (Elt Ideal) (result m c) := by
  rw [Value.flushed2]
  funext y
  rw [View.read_apply]
  exact eq_of_heq (HEq.trans (heq_of_eq (Cert.Rows.at_rows (out0_2 (X0 m c t) (X1 m c t)) (entry m c) (index_2 t) (block_eq m c t) y _ rfl rfl)) (cast_heq _ _).symm)

theorem final_eq (c : Dev nD) : (dats m 0 c).arrAt 2 cfg0.N = result m c :=
  (dats m 0 c).arrAt_eq_of_cover 2 (result m c) (fun t _ => flushed_eq m c t)
    ((show (cfg0.win 2).Covers by decide +kernel).cover _ (Memref.isWhole_whole _))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_eq m c), (h c).2⟩) (Value.run_blocks m ρ)

end Cert.Kernel11Ideal.Prod

end
-- ==== Proof.MmInRef.lean ====
/-
  The reference's input projection, at an index.
-/
module

public import proofs.«01_k».proof.Proof.Gen.Reference11Ideal.Read
public import Idealize.ShloMosaic.Lib.Pointwise

@[expose] public section

set_option maxRecDepth 16384

namespace Cert.Reference11Ideal.Prod

open Cert.Reference11Ideal Cert.Reference11Ideal.Gen Cert.Reference11Ideal.Read Idealize.ShloMosaic Idealize.ShloMosaic.TcCoe

/-- Entry `(r, q)`: the input's row against the weights' column. -/
theorem read (x0 : Vec Ideal S16384x1024 .f32) (x1 : Vec Ideal S1024x2048 .f32) (r : Fin 16384) (q : Fin 2048) :
    val_main_v0 (F := Ideal) x0 x1 (ix2 r q) = ∑ k : Fin 1024, x0 (ix2 r k) * x1 (ix2 k q) := by
  unfold val_main_v0
  pointwise

end Cert.Reference11Ideal.Prod

end
-- ==== Proof.Sigmoid.lean ====
/-
  The logistic function as a rescaled hyperbolic tangent, over the extended reals.
-/
module

public import Idealize.ShloMosaic.PureOps.Ideal
public import Idealize.ShloMosaic.Lib.IdealHost

@[expose] public section

namespace Cert.Sigmoid

open Idealize.ShloMosaic

/-- The f32 pattern `0x3F000000` is one half. -/
theorem ofBits_half : Ideal.ofBits .f32 0x3F000000#32 = (((1 : ℝ) / 2 : ℝ) : EReal) := by
  simp [Ideal.ofBits, Ideal.ieee, -EReal.coe_mul]; norm_num

/-- The identity on the reals. -/
theorem real_eq (r : ℝ) : 1 / 2 * Real.tanh (1 / 2 * r) + 1 / 2 = (1 + Real.exp (-r))⁻¹ := by
  have hr : Real.exp (-r) = Real.exp (-(1 / 2 * r)) * Real.exp (-(1 / 2 * r)) := by
    rw [← Real.exp_add]
    ring_nf
  have ha := Real.exp_pos (1 / 2 * r)
  have hb := Real.exp_pos (-(1 / 2 * r))
  have hab : Real.exp (1 / 2 * r) * Real.exp (-(1 / 2 * r)) = 1 := by
    rw [← Real.exp_add, add_neg_cancel, Real.exp_zero]
  rw [Real.tanh_eq_sinh_div_cosh, Real.sinh_eq, Real.cosh_eq, hr]
  generalize Real.exp (1 / 2 * r) = a at *
  generalize Real.exp (-(1 / 2 * r)) = b at *
  have h1 : a + b ≠ 0 := by positivity
  have h2 : 1 + b * b ≠ 0 := by positivity
  field_simp
  linear_combination (2 * b) * hab

/-- The identity everywhere: the two ends are `0` and `1`. -/
theorem tanh_eq (z : EReal) :
    Ideal.ofBits .f32 0x3F000000#32 * Ideal.tanh (Ideal.ofBits .f32 0x3F000000#32 * z) + Ideal.ofBits .f32 0x3F000000#32
      = Ideal.logistic z := by
  rw [ofBits_half]
  have hp : (0 : ℝ) < 1 / 2 := by norm_num
  induction z with
  | bot =>
    rw [EReal.coe_mul_bot_of_pos hp, Ideal.tanh_bot, Ideal.logistic_bot, ← EReal.coe_one, ← EReal.coe_neg, ← EReal.coe_mul, ← EReal.coe_add,
      ← EReal.coe_zero]
    norm_num
  | top =>
    rw [EReal.coe_mul_top_of_pos hp, Ideal.tanh_top, Ideal.logistic_top, ← EReal.coe_one, ← EReal.coe_mul, ← EReal.coe_add]
    norm_num
  | coe r =>
    rw [← EReal.coe_mul, Ideal.tanh_coe, ← EReal.coe_mul, ← EReal.coe_add, Ideal.logistic_coe, real_eq]

/-- The derivative of `z` times its logistic function. -/
noncomputable def dsilu (z : EReal) : EReal :=
  Ideal.logistic z * (1 + z * (1 - Ideal.logistic z))

/-- The derivative by the rule for a product, everywhere: at the two ends it is `0` and `1`. -/
theorem dsilu_eq (z : EReal) :
    1 * Ideal.logistic z + z * 1 * (Ideal.logistic z * (1 - Ideal.logistic z)) = dsilu z := by
  unfold dsilu
  induction z with
  | bot =>
    rw [Ideal.logistic_bot]
    simp
  | top =>
    rw [Ideal.logistic_top]
    have h : (1 : EReal) - 1 = 0 := by rw [← EReal.coe_one, ← EReal.coe_sub, sub_self, EReal.coe_zero]
    simp [h]
  | coe r =>
    rw [Ideal.logistic_coe]
    norm_cast
    ring_nf

/-- The Gaussian error linear unit, by its formula through the hyperbolic tangent. -/
noncomputable def gelu (y : EReal) : EReal :=
  y * (Ideal.ofBits .f32 0x3F000000#32 * (1 + Ideal.tanh (Ideal.ofBits .f32 0x3F4C422A#32 * (y + Ideal.ofBits .f32 0x3D372713#32 * (y * y * y)))))

/-- The same unit with its products in another order. -/
theorem gelu_eq (y : EReal) : Ideal.ofBits .f32 0x3F000000#32 * y * (1 + Ideal.tanh (Ideal.ofBits .f32 0x3F4C422A#32
    * (y + Ideal.ofBits .f32 0x3D372713#32 * y * y * y))) = gelu y := by
  unfold gelu
  rw [mul_comm (Ideal.ofBits .f32 0x3F000000#32) y, mul_assoc y, mul_assoc (Ideal.ofBits .f32 0x3D372713#32 * y) y y,
    mul_assoc (Ideal.ofBits .f32 0x3D372713#32) y (y * y), mul_assoc y y y]

end Cert.Sigmoid

end
-- ==== Proof.MmUpKernel.lean ====
/-
  The up projection and its gate, as the call leaves them: the two halves of the product, block by block, and the first half
  times its logistic function times the second.
-/
module

public import proofs.«01_k».proof.Proof.Rows
public import Idealize.ShloMosaic.Lib.Pipeline.ValueKit
public import proofs.«01_k».proof.Proof.Gen.Kernel12Ideal.Value
public import proofs.«01_k».proof.Proof.Canon
public import proofs.«01_k».proof.Proof.Sigmoid
public import Idealize.ShloMosaic.Lib.Tactic
public import Idealize.ShloMosaic.Lib.Pointwise

@[expose] public section

set_option maxRecDepth 16384

noncomputable section

namespace Cert.Kernel12Ideal.Prod

open Cert.Kernel12Ideal Cert.Kernel12Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

/-- The product of one row and one column of half `s`. -/
def lin (x0 : Vec Ideal S1024x1024 .bf16) (x1 : Vec Ideal S2x1x1x1024x704 .bf16) (s : Fin 2) (j : Fin 1024) (q : Fin 704) : EReal :=
  ∑ p : Fin 1024, x0 (ix2 j p) * x1 (ix5 s 0 0 p q)

/-- The first half's block. -/
theorem half_0 (x0 : Vec Ideal S1024x1024 .bf16) (x1 : Vec Ideal S2x1x1x1024x704 .bf16) (j : Fin 1024) (q : Fin 704) :
    out0_2 x0 x1 (ix4 0 0 j q) = lin x0 x1 0 j q := by
  unfold out0_2
  rw [canon_out (Val := Elt Ideal) (S := S2x1x1024x704) (e := .bf16) ![1, 0, 0, 0] S1x1x1024x704.size _ _ _ (ix4 0 0 j q) (0 : Fin 4) (Or.inl (by show (0 : ℕ) < 1; omega))]
  rw [canon_in (Val := Elt Ideal) (S := S2x1x1024x704) (e := .bf16) ![0, 0, 0, 0] S1x1x1024x704.size _ _ _ (ix4 0 0 j q) (ix4 0 0 j q) (fun a => by match a with
        | ⟨0, _⟩ => rfl
        | ⟨1, _⟩ => rfl
        | ⟨2, _⟩ => show j.val = 0 + j.val; omega
        | ⟨3, _⟩ => show q.val = 0 + q.val; omega)]
  pointwise [k0_pay5, k0_pay3, k0_pay2]
  rfl

/-- The second half's block. -/
theorem half_1 (x0 : Vec Ideal S1024x1024 .bf16) (x1 : Vec Ideal S2x1x1x1024x704 .bf16) (j : Fin 1024) (q : Fin 704) :
    out0_2 x0 x1 (ix4 1 0 j q) = lin x0 x1 1 j q := by
  unfold out0_2
  rw [canon_in (Val := Elt Ideal) (S := S2x1x1024x704) (e := .bf16) ![1, 0, 0, 0] S1x1x1024x704.size _ _ _ (ix4 1 0 j q) (ix4 0 0 j q) (fun a => by match a with
        | ⟨0, _⟩ => rfl
        | ⟨1, _⟩ => rfl
        | ⟨2, _⟩ => show j.val = 0 + j.val; omega
        | ⟨3, _⟩ => show q.val = 0 + q.val; omega)]
  pointwise [k0_pay6, k0_pay4, k0_pay2]
  rfl

/-- The first output block at an index. -/
theorem out2_eq (x0 : Vec Ideal S1024x1024 .bf16) (x1 : Vec Ideal S2x1x1x1024x704 .bf16) (s : Fin 2) (j : Fin 1024) (q : Fin 704) :
    out0_2 x0 x1 (ix4 s 0 j q) = lin x0 x1 s j q := by
  match s with
  | ⟨0, _⟩ => exact half_0 x0 x1 j q
  | ⟨1, _⟩ => exact half_1 x0 x1 j q

/-- The second output block at an index. -/
theorem out3_eq (x0 : Vec Ideal S1024x1024 .bf16) (x1 : Vec Ideal S2x1x1x1024x704 .bf16) (j : Fin 1024) (q : Fin 704) :
    out0_3 x0 x1 (ix3 0 j q) = lin x0 x1 0 j q * Ideal.logistic (lin x0 x1 0 j q) * lin x0 x1 1 j q := by
  unfold out0_3
  rw [canon_in (Val := Elt Ideal) (S := S1x1024x704) (e := .bf16) ![0, 0, 0] S1x1024x704.size _ _ _ (ix3 0 j q) (ix3 0 j q) (fun a => by match a with
        | ⟨0, _⟩ => rfl
        | ⟨1, _⟩ => show j.val = 0 + j.val; omega
        | ⟨2, _⟩ => show q.val = 0 + q.val; omega)]
  pointwise [k0_pay1, k0_pay7, k0_pay3, k0_pay4, k0_pay2]
  exact congrArg₂ (· * ·) (congrArg₂ (· * ·) rfl (Cert.Sigmoid.tanh_eq _)) rfl

abbrev arg_0 (c : Dev nD) : Vec Ideal S16384x1024 .f32 := m ((c : Thread nD τ).loc main_arg0)
abbrev arg_1 (c : Dev nD) : Vec Ideal S1024x5632 .f32 := m ((c : Thread nD τ).loc main_arg1)

/-! The arrays that the input windows read, their blocks at point `t`, and both at an index. -/

abbrev Arr0 (c : Dev nD) : Vec Ideal S16384x1024 .bf16 := V m c main_v3
abbrev X0 (c : Dev nD) (t : Fin cfg0.N) : Vec Ideal S1024x1024 .bf16 := iblk m c 0 t

theorem arr_0 (c : Dev nD) (r : Fin 16384) (p : Fin 1024) :
    Arr0 m c (ix2 r p) = arg_0 m c (ix2 r p) := by
  unfold Arr0 V
  after_results
  pointwise

abbrev Arr1 (c : Dev nD) : Vec Ideal S2x4x1x1024x704 .bf16 := V m c main_v4
abbrev X1 (c : Dev nD) (t : Fin cfg0.N) : Vec Ideal S2x1x1x1024x704 .bf16 := iblk m c 1 t

theorem arr_1 (c : Dev nD) (s : Fin 2) (k : Fin 4) (p : Fin 1024) (q : Fin 704) (l : Fin 5632) (hl : l.val = 704 * (4 * s.val + k.val) + q.val) :
    Arr1 m c (ix5 s k 0 p q) = arg_1 m c (ix2 p l) := by
  unfold Arr1 V
  after_results
  pointwise
  exact congrArg (fun z => arg_1 m c (ix2 p z)) (Fin.ext (by dsimp only; omega))

theorem index_0 : ∀ t : Fin cfg0.N, win0_0.index t 0 = t.val % 16 ∧ win0_0.index t 1 = 0 :=
  (by decide +kernel : ∀ t : Fin grid0.N, _)

theorem iblk_0 (c : Dev nD) (t : Fin cfg0.N) (j0 : Fin 1024) (j1 : Fin 1024) (r0 : Fin 16384) (r1 : Fin 1024)
    (h0 : r0.val = (t.val % 16) * 1024 + j0.val) (h1 : r1.val = (0) * 1024 + j1.val) :
    X0 m c t (ix2 j0 j1) = Arr0 m c (ix2 r0 r1) := by
  unfold X0 iblk
  rw [View.read_apply]
  exact congrArg (V m c main_v3) (Cert.Rows.ix2_of (index_0 t) h0 h1 rfl rfl)

theorem index_1 : ∀ t : Fin cfg0.N, win0_1.index t 0 = 0 ∧ win0_1.index t 1 = t.val / 16 ∧ win0_1.index t 2 = 0 ∧ win0_1.index t 3 = 0 ∧ win0_1.index t 4 = 0 :=
  (by decide +kernel : ∀ t : Fin grid0.N, _)

theorem iblk_1 (c : Dev nD) (t : Fin cfg0.N) (j0 : Fin 2) (j1 : Fin 1) (j2 : Fin 1) (j3 : Fin 1024) (j4 : Fin 704) (r0 : Fin 2) (r1 : Fin 4) (r2 : Fin 1) (r3 : Fin 1024) (r4 : Fin 704)
    (h0 : r0.val = (0) * 2 + j0.val) (h1 : r1.val = (t.val / 16) * 1 + j1.val) (h2 : r2.val = (0) * 1 + j2.val) (h3 : r3.val = (0) * 1024 + j3.val) (h4 : r4.val = (0) * 704 + j4.val) :
    X1 m c t (ix5 j0 j1 j2 j3 j4) = Arr1 m c (ix5 r0 r1 r2 r3 r4) := by
  have hi := index_1 t
  unfold X1 iblk
  rw [View.read_apply]
  show V m c main_v4 _ = V m c main_v4 _
  congr 1
  funext a
  apply Fin.ext
  match a with
  | ⟨0, _⟩ => show win0_1.index t 0 * 2 + 1 * j0.val = r0.val; rw [hi.1, h0]; omega
  | ⟨1, _⟩ => show win0_1.index t 1 * 1 + 1 * j1.val = r1.val; rw [hi.2.1, h1]; omega
  | ⟨2, _⟩ => show win0_1.index t 2 * 1 + 1 * j2.val = r2.val; rw [hi.2.2.1, h2]; omega
  | ⟨3, _⟩ => show win0_1.index t 3 * 1024 + 1 * j3.val = r3.val; rw [hi.2.2.2.1, h3]; omega
  | ⟨4, _⟩ => show win0_1.index t 4 * 704 + 1 * j4.val = r4.val; rw [hi.2.2.2.2, h4]; omega

theorem index_2 : ∀ t : Fin cfg0.N, win0_2.index t 0 = 0 ∧ win0_2.index t 1 = t.val / 16 ∧ win0_2.index t 2 = t.val % 16 ∧ win0_2.index t 3 = 0 :=
  (by decide +kernel : ∀ t : Fin grid0.N, _)

theorem index_3 : ∀ t : Fin cfg0.N, win0_3.index t 0 = t.val / 16 ∧ win0_3.index t 1 = t.val % 16 ∧ win0_3.index t 2 = 0 :=
  (by decide +kernel : ∀ t : Fin grid0.N, _)

/-- The product of row `r` and column `l`. -/
def prod (c : Dev nD) (r : Fin 16384) (l : Fin 5632) : EReal :=
  ∑ p : Fin 1024, arg_0 m c (ix2 r p) * arg_1 m c (ix2 p l)

/-- One product of a point's blocks, read in the arguments. -/
theorem lin_eq (c : Dev nD) (t : Fin cfg0.N) (s : Fin 2) (j : Fin 1024) (q : Fin 704) (r : Fin 16384) (k : Fin 4) (l : Fin 5632)
    (hr : r.val = (t.val % 16) * 1024 + j.val) (hk : k.val = t.val / 16) (hl : l.val = 704 * (4 * s.val + k.val) + q.val) :
    lin (X0 m c t) (X1 m c t) s j q = prod m c r l := by
  unfold lin prod
  refine Finset.sum_congr rfl fun p _ => ?_
  exact congrArg₂ (· * ·) ((iblk_0 m c t j p r p hr (by omega)).trans (arr_0 m c r p))
    ((iblk_1 m c t s 0 0 p q s k 0 p q (by omega) (by show k.val = _ * 1 + 0; omega) (by omega) (by omega) (by omega)).trans (arr_1 m c s k p q l hl))

/-- An entry of the two halves. -/
def entry_2 (c : Dev nD) (i : S2x4x16384x704.Idx) : EReal :=
  prod m c (i 2) ⟨704 * (4 * (i 0 : ℕ) + (i 1 : ℕ)) + (i 3 : ℕ), by
    have h0 : (i 0 : ℕ) < 2 := (i 0).isLt
    have h1 : (i 1 : ℕ) < 4 := (i 1).isLt
    have h3 : (i 3 : ℕ) < 704 := (i 3).isLt
    omega⟩

/-- An entry of the gated product. -/
def entry_3 (c : Dev nD) (i : S4x16384x704.Idx) : EReal :=
  have h0 : (i 0 : ℕ) < 4 := (i 0).isLt
  have h2 : (i 2 : ℕ) < 704 := (i 2).isLt
  prod m c (i 1) ⟨704 * (i 0 : ℕ) + (i 2 : ℕ), by omega⟩ * Ideal.logistic (prod m c (i 1) ⟨704 * (i 0 : ℕ) + (i 2 : ℕ), by omega⟩)
    * prod m c (i 1) ⟨2816 + (704 * (i 0 : ℕ) + (i 2 : ℕ)), by omega⟩

/-- The first output block of point `t`, read in the arguments. -/
theorem block_2_eq (c : Dev nD) (t : Fin cfg0.N) (s : Fin 2) (z : Fin 1) (j : Fin 1024) (q : Fin 704) (s' : Fin 2) (k : Fin 4) (r : Fin 16384) (q' : Fin 704)
    (hs : s'.val = 0 * 2 + s.val) (hk : k.val = (t.val / 16) * 1 + z.val) (hr : r.val = (t.val % 16) * 1024 + j.val) (hq : q'.val = 0 * 704 + q.val) :
    out0_2 (X0 m c t) (X1 m c t) (ix4 s z j q) = entry_2 m c (ix4 s' k r q') := by
  obtain rfl : s' = s := Fin.ext (by omega)
  obtain rfl : q' = q := Fin.ext (by omega)
  obtain rfl : z = 0 := Fin.ext (by omega)
  refine (out2_eq _ _ s' j q').trans ?_
  unfold entry_2
  exact lin_eq m c t s' j q' r k _ hr (by have h : k.val = (t.val / 16) * 1 + 0 := hk; omega) rfl

/-- The second output block of point `t`, read in the arguments. -/
theorem block_3_eq (c : Dev nD) (t : Fin cfg0.N) (z : Fin 1) (j : Fin 1024) (q : Fin 704) (k : Fin 4) (r : Fin 16384) (q' : Fin 704)
    (hk : k.val = (t.val / 16) * 1 + z.val) (hr : r.val = (t.val % 16) * 1024 + j.val) (hq : q'.val = 0 * 704 + q.val) :
    out0_3 (X0 m c t) (X1 m c t) (ix3 z j q) = entry_3 m c (ix3 k r q') := by
  obtain rfl : q' = q := Fin.ext (by omega)
  obtain rfl : z = 0 := Fin.ext (by omega)
  have hk' : k.val = t.val / 16 := by have h : k.val = (t.val / 16) * 1 + 0 := hk; omega
  refine (out3_eq _ _ j q').trans ?_
  unfold entry_3
  have hg := lin_eq m c t 0 j q' r k ⟨704 * k.val + q'.val, by omega⟩ hr hk' (by show 704 * k.val + q'.val = 704 * (4 * 0 + k.val) + q'.val; omega)
  have hu := lin_eq m c t 1 j q' r k ⟨2816 + (704 * k.val + q'.val), by omega⟩ hr hk' (by show 2816 + (704 * k.val + q'.val) = 704 * (4 * 1 + k.val) + q'.val; omega)
  rw [hg, hu]
  rfl

/-- The result as an array. -/
def result_2 (c : Dev nD) : Vec Ideal S2x4x16384x704 .bf16 := fun i => entry_2 m c i

theorem flushed_2_eq (c : Dev nD) (t : Fin cfg0.N) :
    (dats m 0 c).flushed 2 t = ((cfg0.win 2).blk t).view.read (Elt Ideal) (result_2 m c) := by
  rw [Value.flushed2]
  have hi := index_2 t
  have ht : t.val < 64 := t.isLt
  funext y
  rw [View.read_apply]
  have hy0 : (y 0 : ℕ) < 2 := (y 0).isLt
  have hy1 : (y 1 : ℕ) < 1 := (y 1).isLt
  have hy2 : (y 2 : ℕ) < 1024 := (y 2).isLt
  have hy3 : (y 3 : ℕ) < 704 := (y 3).isLt
  have e0 : ((((cfg0.win 2).blk t).view.emb y) 0 : ℕ) = (0) * 2 + (y 0 : ℕ) := by
    show win0_2.index t 0 * 2 + 1 * (y 0 : ℕ) = _
    rw [hi.1]; omega
  have e1 : ((((cfg0.win 2).blk t).view.emb y) 1 : ℕ) = (t.val / 16) * 1 + (y 1 : ℕ) := by
    show win0_2.index t 1 * 1 + 1 * (y 1 : ℕ) = _
    rw [hi.2.1]; omega
  have e2 : ((((cfg0.win 2).blk t).view.emb y) 2 : ℕ) = (t.val % 16) * 1024 + (y 2 : ℕ) := by
    show win0_2.index t 2 * 1024 + 1 * (y 2 : ℕ) = _
    rw [hi.2.2.1]; omega
  have e3 : ((((cfg0.win 2).blk t).view.emb y) 3 : ℕ) = (0) * 704 + (y 3 : ℕ) := by
    show win0_2.index t 3 * 704 + 1 * (y 3 : ℕ) = _
    rw [hi.2.2.2]; omega
  have hy : (y : S2x1x1024x704.Idx) = ix4 (⟨(y 0 : ℕ), hy0⟩ : Fin 2) (⟨(y 1 : ℕ), hy1⟩ : Fin 1) (⟨(y 2 : ℕ), hy2⟩ : Fin 1024) (⟨(y 3 : ℕ), hy3⟩ : Fin 704) := by
    funext a
    match a with
    | ⟨0, _⟩ => rfl
    | ⟨1, _⟩ => rfl
    | ⟨2, _⟩ => rfl
    | ⟨3, _⟩ => rfl
  refine eq_of_heq (HEq.trans (heq_of_eq (?_ : (out0_2 (X0 m c t) (X1 m c t)) y = entry_2 m c (((cfg0.win 2).blk t).view.emb y))) (cast_heq _ _).symm)
  rw [show (out0_2 (X0 m c t) (X1 m c t)) y = (out0_2 (X0 m c t) (X1 m c t)) (ix4 (⟨(y 0 : ℕ), hy0⟩ : Fin 2) (⟨(y 1 : ℕ), hy1⟩ : Fin 1) (⟨(y 2 : ℕ), hy2⟩ : Fin 1024) (⟨(y 3 : ℕ), hy3⟩ : Fin 704)) from congrArg _ hy]
  refine (block_2_eq m c t (⟨(y 0 : ℕ), hy0⟩ : Fin 2) (⟨(y 1 : ℕ), hy1⟩ : Fin 1) (⟨(y 2 : ℕ), hy2⟩ : Fin 1024) (⟨(y 3 : ℕ), hy3⟩ : Fin 704) (((cfg0.win 2).blk t).view.emb y 0) (((cfg0.win 2).blk t).view.emb y 1) (((cfg0.win 2).blk t).view.emb y 2) (((cfg0.win 2).blk t).view.emb y 3) e0 e1 e2 e3).trans ?_
  refine congrArg (entry_2 m c) ?_
  funext a
  match a with
  | ⟨0, _⟩ => rfl
  | ⟨1, _⟩ => rfl
  | ⟨2, _⟩ => rfl
  | ⟨3, _⟩ => rfl

theorem final_2_eq (c : Dev nD) : (dats m 0 c).arrAt 2 cfg0.N = result_2 m c :=
  (dats m 0 c).arrAt_eq_of_cover 2 (result_2 m c) (fun t _ => flushed_2_eq m c t)
    ((show (cfg0.win 2).Covers by decide +kernel).cover _ (Memref.isWhole_whole _))

/-- The result as an array. -/
def result_3 (c : Dev nD) : Vec Ideal S4x16384x704 .bf16 := fun i => entry_3 m c i

theorem flushed_3_eq (c : Dev nD) (t : Fin cfg0.N) :
    (dats m 0 c).flushed 3 t = ((cfg0.win 3).blk t).view.read (Elt Ideal) (result_3 m c) := by
  rw [Value.flushed3]
  have hi := index_3 t
  have ht : t.val < 64 := t.isLt
  funext y
  rw [View.read_apply]
  have hy0 : (y 0 : ℕ) < 1 := (y 0).isLt
  have hy1 : (y 1 : ℕ) < 1024 := (y 1).isLt
  have hy2 : (y 2 : ℕ) < 704 := (y 2).isLt
  have e0 : ((((cfg0.win 3).blk t).view.emb y) 0 : ℕ) = (t.val / 16) * 1 + (y 0 : ℕ) := by
    show win0_3.index t 0 * 1 + 1 * (y 0 : ℕ) = _
    rw [hi.1]; omega
  have e1 : ((((cfg0.win 3).blk t).view.emb y) 1 : ℕ) = (t.val % 16) * 1024 + (y 1 : ℕ) := by
    show win0_3.index t 1 * 1024 + 1 * (y 1 : ℕ) = _
    rw [hi.2.1]; omega
  have e2 : ((((cfg0.win 3).blk t).view.emb y) 2 : ℕ) = (0) * 704 + (y 2 : ℕ) := by
    show win0_3.index t 2 * 704 + 1 * (y 2 : ℕ) = _
    rw [hi.2.2]; omega
  have hy : (y : S1x1024x704.Idx) = ix3 (⟨(y 0 : ℕ), hy0⟩ : Fin 1) (⟨(y 1 : ℕ), hy1⟩ : Fin 1024) (⟨(y 2 : ℕ), hy2⟩ : Fin 704) := by
    funext a
    match a with
    | ⟨0, _⟩ => rfl
    | ⟨1, _⟩ => rfl
    | ⟨2, _⟩ => rfl
  refine eq_of_heq (HEq.trans (heq_of_eq (?_ : (out0_3 (X0 m c t) (X1 m c t)) y = entry_3 m c (((cfg0.win 3).blk t).view.emb y))) (cast_heq _ _).symm)
  rw [show (out0_3 (X0 m c t) (X1 m c t)) y = (out0_3 (X0 m c t) (X1 m c t)) (ix3 (⟨(y 0 : ℕ), hy0⟩ : Fin 1) (⟨(y 1 : ℕ), hy1⟩ : Fin 1024) (⟨(y 2 : ℕ), hy2⟩ : Fin 704)) from congrArg _ hy]
  refine (block_3_eq m c t (⟨(y 0 : ℕ), hy0⟩ : Fin 1) (⟨(y 1 : ℕ), hy1⟩ : Fin 1024) (⟨(y 2 : ℕ), hy2⟩ : Fin 704) (((cfg0.win 3).blk t).view.emb y 0) (((cfg0.win 3).blk t).view.emb y 1) (((cfg0.win 3).blk t).view.emb y 2) e0 e1 e2).trans ?_
  refine congrArg (entry_3 m c) ?_
  funext a
  match a with
  | ⟨0, _⟩ => rfl
  | ⟨1, _⟩ => rfl
  | ⟨2, _⟩ => rfl

theorem final_3_eq (c : Dev nD) : (dats m 0 c).arrAt 3 cfg0.N = result_3 m c :=
  (dats m 0 c).arrAt_eq_of_cover 3 (result_3 m c) (fun t _ => flushed_3_eq m c t)
    ((show (cfg0.win 3).Covers by decide +kernel).cover _ (Memref.isWhole_whole _))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v5_0) = result_2 m c
      ∧ r.2.mem ((c : Thread nD τ).loc main_v5_1) = result_3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_2_eq m c), (h c).2.1.trans (final_3_eq m c), (h c).2.2⟩) (Value.run_blocks m ρ)

end Cert.Kernel12Ideal.Prod

end
-- ==== Proof.MmUpRef.lean ====
/-
  The reference's up projection and its gate, at an index.
-/
module

public import proofs.«01_k».proof.Proof.Gen.Reference12Ideal.Read
public import Idealize.ShloMosaic.Lib.Pointwise
public import Idealize.ShloMosaic.Lib.IdealHost

@[expose] public section

set_option maxRecDepth 16384

namespace Cert.Reference12Ideal.Prod

open Cert.Reference12Ideal Cert.Reference12Ideal.Gen Cert.Reference12Ideal.Read Idealize.ShloMosaic Idealize.ShloMosaic.TcCoe

/-- The product of row `r` and column `l`. -/
noncomputable def prod (x0 : Vec Ideal S16384x1024 .f32) (x1 : Vec Ideal S1024x5632 .f32) (r : Fin 16384) (l : Fin 5632) : EReal := ∑ p : Fin 1024, x0 (ix2 r p) * x1 (ix2 p l)

/-- The product at an index. -/
theorem prod_eq (x0 : Vec Ideal S16384x1024 .f32) (x1 : Vec Ideal S1024x5632 .f32) (r : Fin 16384) (l : Fin 5632) : val_main_v0 (F := Ideal) x0 x1 (ix2 r l) = prod x0 x1 r l := by
  unfold val_main_v0
  pointwise
  rfl

/-- The first half. -/
theorem gate_eq (x0 : Vec Ideal S16384x1024 .f32) (x1 : Vec Ideal S1024x5632 .f32) (r : Fin 16384) (q : Fin 2816) (l : Fin 5632) (hl : l.val = 0 + q.val) :
    val_main_v1 (F := Ideal) x0 x1 (ix2 r q) = prod x0 x1 r l := by
  refine Eq.trans ?_ (prod_eq x0 x1 r l)
  unfold val_main_v1
  pointwise
  exact congrArg (fun z => val_main_v0 (F := Ideal) x0 x1 (ix2 r z)) (Fin.ext (by dsimp only; omega))

/-- The second half. -/
theorem up_eq (x0 : Vec Ideal S16384x1024 .f32) (x1 : Vec Ideal S1024x5632 .f32) (r : Fin 16384) (q : Fin 2816) (l : Fin 5632) (hl : l.val = 2816 + q.val) :
    val_main_v2 (F := Ideal) x0 x1 (ix2 r q) = prod x0 x1 r l := by
  refine Eq.trans ?_ (prod_eq x0 x1 r l)
  unfold val_main_v2
  pointwise
  exact congrArg (fun z => val_main_v0 (F := Ideal) x0 x1 (ix2 r z)) (Fin.ext (by dsimp only; omega))

/-- The first half at an index of the stacked result. -/
theorem read10_0 (x0 : Vec Ideal S16384x1024 .f32) (x1 : Vec Ideal S1024x5632 .f32) (k : Fin 4) (r : Fin 16384) (q : Fin 704) (l : Fin 5632) (hl : l.val = 704 * (4 * 0 + k.val) + q.val) :
    val_main_v10 (F := Ideal) x0 x1 (ix4 (0 : Fin 2) k r q) = prod x0 x1 r l := by
  refine Eq.trans ?_ (gate_eq x0 x1 r ⟨704 * k.val + q.val, by omega⟩ l (by show l.val = 0 + (704 * k.val + q.val); omega))
  unfold val_main_v10 val_main_v9 val_main_v8 val_main_v7 val_main_v6 val_main_v5
  pointwise
  exact congrArg (fun z => val_main_v1 (F := Ideal) x0 x1 (ix2 r z)) (Fin.ext (by dsimp only; omega))

/-- The second half at an index of the stacked result. -/
theorem read10_1 (x0 : Vec Ideal S16384x1024 .f32) (x1 : Vec Ideal S1024x5632 .f32) (k : Fin 4) (r : Fin 16384) (q : Fin 704) (l : Fin 5632) (hl : l.val = 704 * (4 * 1 + k.val) + q.val) :
    val_main_v10 (F := Ideal) x0 x1 (ix4 (1 : Fin 2) k r q) = prod x0 x1 r l := by
  refine Eq.trans ?_ (up_eq x0 x1 r ⟨704 * k.val + q.val, by omega⟩ l (by show l.val = 2816 + (704 * k.val + q.val); omega))
  unfold val_main_v10 val_main_v9 val_main_v8 val_main_v7 val_main_v6 val_main_v5
  pointwise
  exact congrArg (fun z => val_main_v2 (F := Ideal) x0 x1 (ix2 r z)) (Fin.ext (by dsimp only; omega))

/-- The stacked result at an index. -/
theorem read10 (x0 : Vec Ideal S16384x1024 .f32) (x1 : Vec Ideal S1024x5632 .f32) (s : Fin 2) (k : Fin 4) (r : Fin 16384) (q : Fin 704) (l : Fin 5632) (hl : l.val = 704 * (4 * s.val + k.val) + q.val) :
    val_main_v10 (F := Ideal) x0 x1 (ix4 s k r q) = prod x0 x1 r l := by
  match s, hl with
  | ⟨0, _⟩, hl => exact read10_0 x0 x1 k r q l hl
  | ⟨1, _⟩, hl => exact read10_1 x0 x1 k r q l hl

/-- The gated product at an index. -/
theorem read13 (x0 : Vec Ideal S16384x1024 .f32) (x1 : Vec Ideal S1024x5632 .f32) (k : Fin 4) (r : Fin 16384) (q : Fin 704) (l : Fin 5632) (hl : l.val = 704 * k.val + q.val)
    (l' : Fin 5632) (hl' : l'.val = 2816 + (704 * k.val + q.val)) :
    val_main_v13 (F := Ideal) x0 x1 (ix3 k r q)
      = prod x0 x1 r l * Ideal.logistic (prod x0 x1 r l) * prod x0 x1 r l' := by
  have h : val_main_v4 (F := Ideal) x0 x1 (ix2 r ⟨704 * k.val + q.val, by omega⟩)
      = prod x0 x1 r l * Ideal.logistic (prod x0 x1 r l) * prod x0 x1 r l' := by
    unfold val_main_v4 val_main_v3 val_main_call0_v5 val_main_call0_v4 val_main_call0_cst_0 val_main_call0_v3 val_main_call0_v2 val_main_call0_cst val_main_call0_v1 val_main_call0_v0
    pointwise
    rw [gate_eq x0 x1 r ⟨704 * k.val + q.val, by omega⟩ l (by show l.val = 0 + (704 * k.val + q.val); omega),
      up_eq x0 x1 r ⟨704 * k.val + q.val, by omega⟩ l' hl']
    unfold Ideal.logistic
    rw [← Ideal.ofBits_one_f32]
  refine Eq.trans ?_ h
  unfold val_main_v13 val_main_v12 val_main_v11
  pointwise
  exact congrArg (fun z => val_main_v4 (F := Ideal) x0 x1 (ix2 r z)) (Fin.ext (by dsimp only; omega))

end Cert.Reference12Ideal.Prod

end
-- ==== Proof.PleKernel.lean ====
/-
  The per-layer embedding, as the call leaves it: the normalised row, scaled and shifted, and the gate's logistic function of
  its product against the gate's weights times the embedding's projection.
-/
module

public import proofs.«01_k».proof.Proof.Rows
public import Idealize.ShloMosaic.Lib.Pipeline.ValueKit
public import proofs.«01_k».proof.Proof.Gen.Kernel13Ideal.Value
public import proofs.«01_k».proof.Proof.Canon
public import proofs.«01_k».proof.Proof.Sigmoid
public import Idealize.ShloMosaic.Lib.Tactic
public import Idealize.ShloMosaic.Lib.Pointwise

@[expose] public section

set_option maxRecDepth 16384

noncomputable section

namespace Cert.Kernel13Ideal.Prod

open Cert.Kernel13Ideal Cert.Kernel13Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

/-- The first output block at an index. -/
theorem out8_eq (x0 : Vec Ideal S512x1024 .bf16) (x1 : Vec Ideal S512x1024 .f32) (x2 x3 : Vec Ideal S1x1x1024 .f32) (x4 : Vec Ideal S1x512x256 .f32) (x5 : Vec Ideal S1x1024x1024 .bf16) (x6 : Vec Ideal S1x1x1024 .f32) (x7 : Vec Ideal S1x256x1024 .bf16) (j : Fin 512) (q : Fin 1024) :
    out0_8 x0 x1 x2 x3 x4 x5 x6 x7 (ix2 j q) = x1 (ix2 j q) * x2 (ix3 0 0 q) + x3 (ix3 0 0 q)
      + Ideal.logistic ((∑ p : Fin 1024, x0 (ix2 j p) * x5 (ix3 0 p q)) + x6 (ix3 0 0 q)) * ∑ l : Fin 256, x4 (ix3 0 j l) * x7 (ix3 0 l q) := by
  unfold out0_8
  rw [canon_in _ _ _ _ _ _ (ix2 j q) (fun a => by match a with
        | ⟨0, _⟩ => show j.val = 0 + j.val; omega
        | ⟨1, _⟩ => show q.val = 0 + q.val; omega)]
  pointwise [k0_pay1, k0_pay5, k0_pay6, k0_pay3, k0_pay4]
  exact congrArg₂ (· + ·) rfl (congrArg₂ (· * ·) (Cert.Sigmoid.tanh_eq _) rfl)

/-- The second output block at an index. -/
theorem out9_eq (x0 : Vec Ideal S512x1024 .bf16) (x1 : Vec Ideal S512x1024 .f32) (x2 x3 : Vec Ideal S1x1x1024 .f32) (x4 : Vec Ideal S1x512x256 .f32) (x5 : Vec Ideal S1x1024x1024 .bf16) (x6 : Vec Ideal S1x1x1024 .f32) (x7 : Vec Ideal S1x256x1024 .bf16) (j : Fin 512) (q : Fin 1024) :
    out0_9 x0 x1 x2 x3 x4 x5 x6 x7 (ix2 j q) = x1 (ix2 j q) * x2 (ix3 0 0 q) + x3 (ix3 0 0 q)
      + Ideal.logistic ((∑ p : Fin 1024, x0 (ix2 j p) * x5 (ix3 0 p q)) + x6 (ix3 0 0 q)) * ∑ l : Fin 256, x4 (ix3 0 j l) * x7 (ix3 0 l q) := by
  unfold out0_9
  rw [canon_in _ _ _ _ _ _ (ix2 j q) (fun a => by match a with
        | ⟨0, _⟩ => show j.val = 0 + j.val; omega
        | ⟨1, _⟩ => show q.val = 0 + q.val; omega)]
  pointwise [k0_pay2, k0_pay1, k0_pay5, k0_pay6, k0_pay3, k0_pay4]
  exact congrArg₂ (· + ·) rfl (congrArg₂ (· * ·) (Cert.Sigmoid.tanh_eq _) rfl)

abbrev arg_0 (c : Dev nD) : Vec Ideal S16384x1024 .f32 := m ((c : Thread nD τ).loc main_arg0)
abbrev arg_1 (c : Dev nD) : Vec Ideal S4x1024 .f32 := m ((c : Thread nD τ).loc main_arg1)
abbrev arg_2 (c : Dev nD) : Vec Ideal S4x1024 .f32 := m ((c : Thread nD τ).loc main_arg2)
abbrev arg_3 (c : Dev nD) : Vec Ideal S4x16384x256 .f32 := m ((c : Thread nD τ).loc main_arg3)
abbrev arg_4 (c : Dev nD) : Vec Ideal S1024x1024 .f32 := m ((c : Thread nD τ).loc main_arg4)
abbrev arg_5 (c : Dev nD) : Vec Ideal S4x1024 .f32 := m ((c : Thread nD τ).loc main_arg5)
abbrev arg_6 (c : Dev nD) : Vec Ideal S4x256x1024 .f32 := m ((c : Thread nD τ).loc main_arg6)

/-! The arrays that the input windows read, their blocks at point `t`, and both at an index. -/

abbrev Arr0 (c : Dev nD) : Vec Ideal S16384x1024 .bf16 := V m c main_v10
abbrev X0 (c : Dev nD) (t : Fin cfg0.N) : Vec Ideal S512x1024 .bf16 := iblk m c 0 t

theorem arr_0 (c : Dev nD) (r : Fin 16384) (p : Fin 1024) :
    Arr0 m c (ix2 r p) = arg_0 m c (ix2 r p) * arg_1 m c (ix2 (0 : Fin 4) p) + arg_2 m c (ix2 (0 : Fin 4) p) := by
  unfold Arr0 V
  after_results
  pointwise

abbrev Arr1 (c : Dev nD) : Vec Ideal S16384x1024 .f32 := V m c main_arg0
abbrev X1 (c : Dev nD) (t : Fin cfg0.N) : Vec Ideal S512x1024 .f32 := iblk m c 1 t

theorem arr_1 (c : Dev nD) (r : Fin 16384) (p : Fin 1024) :
    Arr1 m c (ix2 r p) = arg_0 m c (ix2 r p) := by
  unfold Arr1 V
  after_results

abbrev Arr2 (c : Dev nD) : Vec Ideal S4x1x1024 .f32 := V m c main_v11
abbrev X2 (c : Dev nD) (t : Fin cfg0.N) : Vec Ideal S1x1x1024 .f32 := iblk m c 2 t

theorem arr_2 (c : Dev nD) (k : Fin 4) (q : Fin 1024) :
    Arr2 m c (ix3 k 0 q) = arg_1 m c (ix2 k q) := by
  unfold Arr2 V
  after_results
  pointwise

abbrev Arr3 (c : Dev nD) : Vec Ideal S4x1x1024 .f32 := V m c main_v12
abbrev X3 (c : Dev nD) (t : Fin cfg0.N) : Vec Ideal S1x1x1024 .f32 := iblk m c 3 t

theorem arr_3 (c : Dev nD) (k : Fin 4) (q : Fin 1024) :
    Arr3 m c (ix3 k 0 q) = arg_2 m c (ix2 k q) := by
  unfold Arr3 V
  after_results
  pointwise

abbrev Arr4 (c : Dev nD) : Vec Ideal S4x16384x256 .f32 := V m c main_arg3
abbrev X4 (c : Dev nD) (t : Fin cfg0.N) : Vec Ideal S1x512x256 .f32 := iblk m c 4 t

theorem arr_4 (c : Dev nD) (k : Fin 4) (r : Fin 16384) (p : Fin 256) :
    Arr4 m c (ix3 k r p) = arg_3 m c (ix3 k r p) := by
  unfold Arr4 V
  after_results

abbrev Arr5 (c : Dev nD) : Vec Ideal S1x1024x1024 .bf16 := V m c main_v14
abbrev X5 (c : Dev nD) (t : Fin cfg0.N) : Vec Ideal S1x1024x1024 .bf16 := iblk m c 5 t

theorem arr_5 (c : Dev nD) (p : Fin 1024) (q : Fin 1024) :
    Arr5 m c (ix3 0 p q) = arg_4 m c (ix2 p q) := by
  unfold Arr5 V
  after_results
  pointwise

abbrev Arr6 (c : Dev nD) : Vec Ideal S4x1x1024 .f32 := V m c main_v15
abbrev X6 (c : Dev nD) (t : Fin cfg0.N) : Vec Ideal S1x1x1024 .f32 := iblk m c 6 t

theorem arr_6 (c : Dev nD) (k : Fin 4) (q : Fin 1024) :
    Arr6 m c (ix3 k 0 q) = arg_5 m c (ix2 k q) := by
  unfold Arr6 V
  after_results
  pointwise

abbrev Arr7 (c : Dev nD) : Vec Ideal S4x256x1024 .bf16 := V m c main_v16
abbrev X7 (c : Dev nD) (t : Fin cfg0.N) : Vec Ideal S1x256x1024 .bf16 := iblk m c 7 t

theorem arr_7 (c : Dev nD) (k : Fin 4) (p : Fin 256) (q : Fin 1024) :
    Arr7 m c (ix3 k p q) = arg_6 m c (ix3 k p q) := by
  unfold Arr7 V
  after_results
  pointwise

theorem index_0 : ∀ t : Fin cfg0.N, win0_0.index t 0 = t.val ∧ win0_0.index t 1 = 0 :=
  (by decide +kernel : ∀ t : Fin grid0.N, _)

theorem iblk_0 (c : Dev nD) (t : Fin cfg0.N) (j0 : Fin 512) (j1 : Fin 1024) (r0 : Fin 16384) (r1 : Fin 1024)
    (h0 : r0.val = (t.val) * 512 + j0.val) (h1 : r1.val = (0) * 1024 + j1.val) :
    X0 m c t (ix2 j0 j1) = Arr0 m c (ix2 r0 r1) := by
  unfold X0 iblk
  rw [View.read_apply]
  exact congrArg (V m c main_v10) (Cert.Rows.ix2_of (index_0 t) h0 h1 rfl rfl)

theorem index_1 : ∀ t : Fin cfg0.N, win0_1.index t 0 = t.val ∧ win0_1.index t 1 = 0 :=
  (by decide +kernel : ∀ t : Fin grid0.N, _)

theorem iblk_1 (c : Dev nD) (t : Fin cfg0.N) (j0 : Fin 512) (j1 : Fin 1024) (r0 : Fin 16384) (r1 : Fin 1024)
    (h0 : r0.val = (t.val) * 512 + j0.val) (h1 : r1.val = (0) * 1024 + j1.val) :
    X1 m c t (ix2 j0 j1) = Arr1 m c (ix2 r0 r1) := by
  unfold X1 iblk
  rw [View.read_apply]
  exact congrArg (V m c main_arg0) (Cert.Rows.ix2_of (index_1 t) h0 h1 rfl rfl)

theorem index_2 : ∀ t : Fin cfg0.N, win0_2.index t 0 = 0 ∧ win0_2.index t 1 = 0 ∧ win0_2.index t 2 = 0 :=
  (by decide +kernel : ∀ t : Fin grid0.N, _)

theorem iblk_2 (c : Dev nD) (t : Fin cfg0.N) (j0 : Fin 1) (j1 : Fin 1) (j2 : Fin 1024) (r0 : Fin 4) (r1 : Fin 1) (r2 : Fin 1024)
    (h0 : r0.val = (0) * 1 + j0.val) (h1 : r1.val = (0) * 1 + j1.val) (h2 : r2.val = (0) * 1024 + j2.val) :
    X2 m c t (ix3 j0 j1 j2) = Arr2 m c (ix3 r0 r1 r2) := by
  unfold X2 iblk
  rw [View.read_apply]
  exact congrArg (V m c main_v11) (Cert.Rows.ix3_of (index_2 t) h0 h1 h2 rfl rfl rfl)

theorem index_3 : ∀ t : Fin cfg0.N, win0_3.index t 0 = 0 ∧ win0_3.index t 1 = 0 ∧ win0_3.index t 2 = 0 :=
  (by decide +kernel : ∀ t : Fin grid0.N, _)

theorem iblk_3 (c : Dev nD) (t : Fin cfg0.N) (j0 : Fin 1) (j1 : Fin 1) (j2 : Fin 1024) (r0 : Fin 4) (r1 : Fin 1) (r2 : Fin 1024)
    (h0 : r0.val = (0) * 1 + j0.val) (h1 : r1.val = (0) * 1 + j1.val) (h2 : r2.val = (0) * 1024 + j2.val) :
    X3 m c t (ix3 j0 j1 j2) = Arr3 m c (ix3 r0 r1 r2) := by
  unfold X3 iblk
  rw [View.read_apply]
  exact congrArg (V m c main_v12) (Cert.Rows.ix3_of (index_3 t) h0 h1 h2 rfl rfl rfl)

theorem index_4 : ∀ t : Fin cfg0.N, win0_4.index t 0 = 0 ∧ win0_4.index t 1 = t.val ∧ win0_4.index t 2 = 0 :=
  (by decide +kernel : ∀ t : Fin grid0.N, _)

theorem iblk_4 (c : Dev nD) (t : Fin cfg0.N) (j0 : Fin 1) (j1 : Fin 512) (j2 : Fin 256) (r0 : Fin 4) (r1 : Fin 16384) (r2 : Fin 256)
    (h0 : r0.val = (0) * 1 + j0.val) (h1 : r1.val = (t.val) * 512 + j1.val) (h2 : r2.val = (0) * 256 + j2.val) :
    X4 m c t (ix3 j0 j1 j2) = Arr4 m c (ix3 r0 r1 r2) := by
  unfold X4 iblk
  rw [View.read_apply]
  exact congrArg (V m c main_arg3) (Cert.Rows.ix3_of (index_4 t) h0 h1 h2 rfl rfl rfl)

theorem index_5 : ∀ t : Fin cfg0.N, win0_5.index t 0 = 0 ∧ win0_5.index t 1 = 0 ∧ win0_5.index t 2 = 0 :=
  (by decide +kernel : ∀ t : Fin grid0.N, _)

theorem iblk_5 (c : Dev nD) (t : Fin cfg0.N) (j0 : Fin 1) (j1 : Fin 1024) (j2 : Fin 1024) (r0 : Fin 1) (r1 : Fin 1024) (r2 : Fin 1024)
    (h0 : r0.val = (0) * 1 + j0.val) (h1 : r1.val = (0) * 1024 + j1.val) (h2 : r2.val = (0) * 1024 + j2.val) :
    X5 m c t (ix3 j0 j1 j2) = Arr5 m c (ix3 r0 r1 r2) := by
  unfold X5 iblk
  rw [View.read_apply]
  exact congrArg (V m c main_v14) (Cert.Rows.ix3_of (index_5 t) h0 h1 h2 rfl rfl rfl)

theorem index_6 : ∀ t : Fin cfg0.N, win0_6.index t 0 = 0 ∧ win0_6.index t 1 = 0 ∧ win0_6.index t 2 = 0 :=
  (by decide +kernel : ∀ t : Fin grid0.N, _)

theorem iblk_6 (c : Dev nD) (t : Fin cfg0.N) (j0 : Fin 1) (j1 : Fin 1) (j2 : Fin 1024) (r0 : Fin 4) (r1 : Fin 1) (r2 : Fin 1024)
    (h0 : r0.val = (0) * 1 + j0.val) (h1 : r1.val = (0) * 1 + j1.val) (h2 : r2.val = (0) * 1024 + j2.val) :
    X6 m c t (ix3 j0 j1 j2) = Arr6 m c (ix3 r0 r1 r2) := by
  unfold X6 iblk
  rw [View.read_apply]
  exact congrArg (V m c main_v15) (Cert.Rows.ix3_of (index_6 t) h0 h1 h2 rfl rfl rfl)

theorem index_7 : ∀ t : Fin cfg0.N, win0_7.index t 0 = 0 ∧ win0_7.index t 1 = 0 ∧ win0_7.index t 2 = 0 :=
  (by decide +kernel : ∀ t : Fin grid0.N, _)

theorem iblk_7 (c : Dev nD) (t : Fin cfg0.N) (j0 : Fin 1) (j1 : Fin 256) (j2 : Fin 1024) (r0 : Fin 4) (r1 : Fin 256) (r2 : Fin 1024)
    (h0 : r0.val = (0) * 1 + j0.val) (h1 : r1.val = (0) * 256 + j1.val) (h2 : r2.val = (0) * 1024 + j2.val) :
    X7 m c t (ix3 j0 j1 j2) = Arr7 m c (ix3 r0 r1 r2) := by
  unfold X7 iblk
  rw [View.read_apply]
  exact congrArg (V m c main_v16) (Cert.Rows.ix3_of (index_7 t) h0 h1 h2 rfl rfl rfl)

theorem index_8 : ∀ t : Fin cfg0.N, win0_8.index t 0 = t.val ∧ win0_8.index t 1 = 0 :=
  (by decide +kernel : ∀ t : Fin grid0.N, _)

theorem index_9 : ∀ t : Fin cfg0.N, win0_9.index t 0 = t.val ∧ win0_9.index t 1 = 0 :=
  (by decide +kernel : ∀ t : Fin grid0.N, _)

/-- The layer's input: the normalised row, scaled and shifted. -/
def base (c : Dev nD) (r : Fin 16384) (q : Fin 1024) : EReal :=
  arg_0 m c (ix2 r q) * arg_1 m c (ix2 (0 : Fin 4) q) + arg_2 m c (ix2 (0 : Fin 4) q)

/-- An entry of the first result. -/
def entry_8 (c : Dev nD) (i : S16384x1024.Idx) : EReal :=
  base m c (i 0) (i 1) + Ideal.logistic ((∑ p : Fin 1024, base m c (i 0) p * arg_4 m c (ix2 p (i 1))) + arg_5 m c (ix2 (0 : Fin 4) (i 1)))
    * ∑ l : Fin 256, arg_3 m c (ix3 (0 : Fin 4) (i 0) l) * arg_6 m c (ix3 (0 : Fin 4) l (i 1))

/-- The output block of point `t`, read in the arguments. -/
theorem block_8_eq (c : Dev nD) (t : Fin cfg0.N) (j : Fin 512) (p : Fin 1024) (r : Fin 16384) (q : Fin 1024)
    (hr : r.val = (t.val) * 512 + j.val) (hq : q.val = 0 * 1024 + p.val) :
    out0_8 (X0 m c t) (X1 m c t) (X2 m c t) (X3 m c t) (X4 m c t) (X5 m c t) (X6 m c t) (X7 m c t) (ix2 j p) = entry_8 m c (ix2 r q) := by
  obtain rfl : q = p := Fin.ext (by omega)
  refine (out8_eq _ _ _ _ _ _ _ _ j q).trans ?_
  unfold entry_8 base
  refine congrArg₂ (· + ·) (congrArg₂ (· + ·) (congrArg₂ (· * ·) ((iblk_1 m c t j q r q hr (by omega)).trans (arr_1 m c r q))
      ((iblk_2 m c t 0 0 q 0 0 q (by omega) (by omega) (by omega)).trans (arr_2 m c 0 q)))
      ((iblk_3 m c t 0 0 q 0 0 q (by omega) (by omega) (by omega)).trans (arr_3 m c 0 q)))
    (congrArg₂ (· * ·) (congrArg Ideal.logistic (congrArg₂ (· + ·) (Finset.sum_congr rfl fun p _ => ?_)
      ((iblk_6 m c t 0 0 q 0 0 q (by omega) (by omega) (by omega)).trans (arr_6 m c 0 q)))) (Finset.sum_congr rfl fun l _ => ?_))
  · exact congrArg₂ (· * ·) ((iblk_0 m c t j p r p hr (by omega)).trans (arr_0 m c r p))
      ((iblk_5 m c t 0 p q 0 p q (by omega) (by omega) (by omega)).trans (arr_5 m c p q))
  · exact congrArg₂ (· * ·) ((iblk_4 m c t 0 j l 0 r l (by omega) hr (by omega)).trans (arr_4 m c 0 r l))
      ((iblk_7 m c t 0 l q 0 l q (by omega) (by omega) (by omega)).trans (arr_7 m c 0 l q))

/-- An entry of the second result. -/
def entry_9 (c : Dev nD) (i : S16384x1024.Idx) : EReal :=
  base m c (i 0) (i 1) + Ideal.logistic ((∑ p : Fin 1024, base m c (i 0) p * arg_4 m c (ix2 p (i 1))) + arg_5 m c (ix2 (0 : Fin 4) (i 1)))
    * ∑ l : Fin 256, arg_3 m c (ix3 (0 : Fin 4) (i 0) l) * arg_6 m c (ix3 (0 : Fin 4) l (i 1))

/-- The output block of point `t`, read in the arguments. -/
theorem block_9_eq (c : Dev nD) (t : Fin cfg0.N) (j : Fin 512) (p : Fin 1024) (r : Fin 16384) (q : Fin 1024)
    (hr : r.val = (t.val) * 512 + j.val) (hq : q.val = 0 * 1024 + p.val) :
    out0_9 (X0 m c t) (X1 m c t) (X2 m c t) (X3 m c t) (X4 m c t) (X5 m c t) (X6 m c t) (X7 m c t) (ix2 j p) = entry_9 m c (ix2 r q) := by
  obtain rfl : q = p := Fin.ext (by omega)
  refine (out9_eq _ _ _ _ _ _ _ _ j q).trans ?_
  unfold entry_9 base
  refine congrArg₂ (· + ·) (congrArg₂ (· + ·) (congrArg₂ (· * ·) ((iblk_1 m c t j q r q hr (by omega)).trans (arr_1 m c r q))
      ((iblk_2 m c t 0 0 q 0 0 q (by omega) (by omega) (by omega)).trans (arr_2 m c 0 q)))
      ((iblk_3 m c t 0 0 q 0 0 q (by omega) (by omega) (by omega)).trans (arr_3 m c 0 q)))
    (congrArg₂ (· * ·) (congrArg Ideal.logistic (congrArg₂ (· + ·) (Finset.sum_congr rfl fun p _ => ?_)
      ((iblk_6 m c t 0 0 q 0 0 q (by omega) (by omega) (by omega)).trans (arr_6 m c 0 q)))) (Finset.sum_congr rfl fun l _ => ?_))
  · exact congrArg₂ (· * ·) ((iblk_0 m c t j p r p hr (by omega)).trans (arr_0 m c r p))
      ((iblk_5 m c t 0 p q 0 p q (by omega) (by omega) (by omega)).trans (arr_5 m c p q))
  · exact congrArg₂ (· * ·) ((iblk_4 m c t 0 j l 0 r l (by omega) hr (by omega)).trans (arr_4 m c 0 r l))
      ((iblk_7 m c t 0 l q 0 l q (by omega) (by omega) (by omega)).trans (arr_7 m c 0 l q))

/-- The result as an array. -/
def result_8 (c : Dev nD) : Vec Ideal S16384x1024 .f32 := fun i => entry_8 m c i

theorem flushed_8_eq (c : Dev nD) (t : Fin cfg0.N) :
    (dats m 0 c).flushed 8 t = ((cfg0.win 8).blk t).view.read (Elt Ideal) (result_8 m c) := by
  rw [Value.flushed8]
  funext y
  rw [View.read_apply]
  exact eq_of_heq (HEq.trans (heq_of_eq (Cert.Rows.at_rows (out0_8 (X0 m c t) (X1 m c t) (X2 m c t) (X3 m c t) (X4 m c t) (X5 m c t) (X6 m c t) (X7 m c t)) (entry_8 m c) (index_8 t) (block_8_eq m c t) y _ rfl rfl)) (cast_heq _ _).symm)

theorem final_8_eq (c : Dev nD) : (dats m 0 c).arrAt 8 cfg0.N = result_8 m c :=
  (dats m 0 c).arrAt_eq_of_cover 8 (result_8 m c) (fun t _ => flushed_8_eq m c t)
    ((show (cfg0.win 8).Covers by decide +kernel).cover _ (Memref.isWhole_whole _))

/-- The result as an array. -/
def result_9 (c : Dev nD) : Vec Ideal S16384x1024 .bf16 := fun i => entry_9 m c i

theorem flushed_9_eq (c : Dev nD) (t : Fin cfg0.N) :
    (dats m 0 c).flushed 9 t = ((cfg0.win 9).blk t).view.read (Elt Ideal) (result_9 m c) := by
  rw [Value.flushed9]
  funext y
  rw [View.read_apply]
  exact eq_of_heq (HEq.trans (heq_of_eq (Cert.Rows.at_rows (out0_9 (X0 m c t) (X1 m c t) (X2 m c t) (X3 m c t) (X4 m c t) (X5 m c t) (X6 m c t) (X7 m c t)) (entry_9 m c) (index_9 t) (block_9_eq m c t) y _ rfl rfl)) (cast_heq _ _).symm)

theorem final_9_eq (c : Dev nD) : (dats m 0 c).arrAt 9 cfg0.N = result_9 m c :=
  (dats m 0 c).arrAt_eq_of_cover 9 (result_9 m c) (fun t _ => flushed_9_eq m c t)
    ((show (cfg0.win 9).Covers by decide +kernel).cover _ (Memref.isWhole_whole _))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v17_0) = result_8 m c
      ∧ r.2.mem ((c : Thread nD τ).loc main_v17_1) = result_9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_8_eq m c), (h c).2.1.trans (final_9_eq m c), (h c).2.2⟩) (Value.run_blocks m ρ)

end Cert.Kernel13Ideal.Prod

end
-- ==== Proof.PleRef.lean ====
/-
  The reference's per-layer embedding, at an index.
-/
module

public import proofs.«01_k».proof.Proof.Gen.Reference13Ideal.Read
public import Idealize.ShloMosaic.Lib.Pointwise
public import Idealize.ShloMosaic.Lib.IdealHost

@[expose] public section

set_option maxRecDepth 16384

namespace Cert.Reference13Ideal.Prod

open Cert.Reference13Ideal Cert.Reference13Ideal.Gen Cert.Reference13Ideal.Read Idealize.ShloMosaic Idealize.ShloMosaic.TcCoe

/-- The layer's input: the normalised row, scaled and shifted. -/
noncomputable def base (x0 : Vec Ideal S16384x1024 .f32) (x1 x2 : Vec Ideal S4x1024 .f32) (r : Fin 16384) (q : Fin 1024) : EReal :=
  x0 (ix2 r q) * x1 (ix2 (0 : Fin 4) q) + x2 (ix2 (0 : Fin 4) q)

/-- The layer's input at an index. -/
theorem base_eq (x0 : Vec Ideal S16384x1024 .f32) (x1 x2 : Vec Ideal S4x1024 .f32) (r : Fin 16384) (q : Fin 1024) :
    val_main_v9 (F := Ideal) x0 x1 x2 (ix2 r q) = base x0 x1 x2 r q := by
  unfold val_main_v9 val_main_v8 val_main_v7 val_main_v6 val_main_v5 val_main_v4 val_main_v3 val_main_v2 val_main_v1 val_main_v0
  pointwise
  rfl

/-- The gate at an index. -/
theorem gate_eq (x0 : Vec Ideal S16384x1024 .f32) (x1 x2 : Vec Ideal S4x1024 .f32) (x4 : Vec Ideal S1024x1024 .f32) (x5 : Vec Ideal S4x1024 .f32) (r : Fin 16384) (q : Fin 1024) :
    val_main_v21 (F := Ideal) x0 x1 x2 x4 x5 (ix2 r q)
      = Ideal.logistic ((∑ p : Fin 1024, base x0 x1 x2 r p * x4 (ix2 p q)) + x5 (ix2 (0 : Fin 4) q)) := by
  have h : val_main_v15 (F := Ideal) x0 x1 x2 x4 x5 (ix2 r q)
      = (∑ p : Fin 1024, base x0 x1 x2 r p * x4 (ix2 p q)) + x5 (ix2 (0 : Fin 4) q) := by
    unfold val_main_v15 val_main_v14 val_main_v13 val_main_v12 val_main_v11 val_main_v10
    pointwise
    refine congrArg₂ (· + ·) (Finset.sum_congr rfl fun p _ => ?_) rfl
    exact congrArg (· * x4 (ix2 p q)) (base_eq x0 x1 x2 r p)
  unfold val_main_v21 val_main_v20 val_main_cst_0 val_main_v19 val_main_v18 val_main_cst val_main_v17 val_main_v16
  pointwise
  rw [h]
  unfold Ideal.logistic
  rw [← Ideal.ofBits_one_f32]

/-- The first result at an index. -/
theorem read28 (x0 : Vec Ideal S16384x1024 .f32) (x1 x2 : Vec Ideal S4x1024 .f32) (x3 : Vec Ideal S4x16384x256 .f32) (x4 : Vec Ideal S1024x1024 .f32) (x5 : Vec Ideal S4x1024 .f32) (x6 : Vec Ideal S4x256x1024 .f32) (r : Fin 16384) (q : Fin 1024) :
    val_main_v28 (F := Ideal) x0 x1 x2 x3 x4 x5 x6 (ix2 r q)
      = base x0 x1 x2 r q + Ideal.logistic ((∑ p : Fin 1024, base x0 x1 x2 r p * x4 (ix2 p q)) + x5 (ix2 (0 : Fin 4) q))
        * ∑ l : Fin 256, x3 (ix3 (0 : Fin 4) r l) * x6 (ix3 (0 : Fin 4) l q) := by
  unfold val_main_v28 val_main_v27 val_main_v26 val_main_v25 val_main_v24 val_main_v23 val_main_v22
  pointwise
  exact congrArg₂ (· + ·) (base_eq x0 x1 x2 r q) (congrArg₂ (· * ·) (gate_eq x0 x1 x2 x4 x5 r q) rfl)

/-- The second result is the first. -/
theorem read29 (x0 : Vec Ideal S16384x1024 .f32) (x1 x2 : Vec Ideal S4x1024 .f32) (x3 : Vec Ideal S4x16384x256 .f32) (x4 : Vec Ideal S1024x1024 .f32) (x5 : Vec Ideal S4x1024 .f32) (x6 : Vec Ideal S4x256x1024 .f32) (r : Fin 16384) (q : Fin 1024) :
    val_main_v29 (F := Ideal) x0 x1 x2 x3 x4 x5 x6 (ix2 r q)
      = base x0 x1 x2 r q + Ideal.logistic ((∑ p : Fin 1024, base x0 x1 x2 r p * x4 (ix2 p q)) + x5 (ix2 (0 : Fin 4) q))
        * ∑ l : Fin 256, x3 (ix3 (0 : Fin 4) r l) * x6 (ix3 (0 : Fin 4) l q) := by
  unfold val_main_v29
  pointwise
  exact read28 x0 x1 x2 x3 x4 x5 x6 r q

end Cert.Reference13Ideal.Prod

end
-- ==== Proof.Norm.lean ====
/-
  Layer normalisation of one row of 1024 entries, over the extended reals: the mean, the centred row, the reciprocal of the
  standard deviation and the normalised row.
-/
module

public import Idealize.ShloMosaic.PureOps.Ideal

@[expose] public section

noncomputable section

namespace Cert.Norm

open Idealize.ShloMosaic

/-- The number of entries, as the f32 constant both programs divide by. -/
def count : EReal := FloatOps.ofBits (F := Ideal) .f32 0x44800000#32
/-- The f32 constant added to the variance. -/
def eps : EReal := FloatOps.ofBits (F := Ideal) .f32 0x3727C5AC#32
/-- The mean of a row. -/
def mean (f : Fin 1024 → EReal) : EReal := Ideal.div (∑ k, f k) count
/-- The centred row. -/
def cent (f : Fin 1024 → EReal) (q : Fin 1024) : EReal := f q - mean f
/-- The reciprocal of the row's standard deviation. -/
def rstd (f : Fin 1024 → EReal) : EReal := Ideal.rsqrt (Ideal.div (∑ k, cent f k * cent f k) count + eps)
/-- The normalised row. -/
def xhat (f : Fin 1024 → EReal) (q : Fin 1024) : EReal := cent f q * rstd f

end Cert.Norm

end

end
-- ==== Proof.OutLnKernel.lean ====
/-
  The output projection and the normalisation after it, as the call leaves them: each row's scaled residual and its product
  against the weights, normalised; the reciprocal of its standard deviation; and the normalised row scaled and shifted.
-/
module

public import proofs.«01_k».proof.Proof.Rows
public import Idealize.ShloMosaic.Lib.Pipeline.ValueKit
public import proofs.«01_k».proof.Proof.Gen.Kernel14Ideal.Value
public import proofs.«01_k».proof.Proof.Canon
public import proofs.«01_k».proof.Proof.Norm
public import Idealize.ShloMosaic.Lib.Tactic
public import Idealize.ShloMosaic.Lib.Pointwise

@[expose] public section

set_option maxRecDepth 16384

noncomputable section

namespace Cert.Kernel14Ideal.Prod

open Cert.Kernel14Ideal Cert.Kernel14Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

open Cert.Norm

/-- The residual's scale. -/
def scale : EReal := FloatOps.ofBits (F := Ideal) .f32 0x3FD744FD#32

/-- Row `j` of a point before the normalisation: the scaled residual and the two halves' products. -/
def row (x0 x1 : Vec Ideal S512x512 .bf16) (x2 : Vec Ideal S1x1024x1024 .bf16) (x3 : Vec Ideal S512x1024 .f32) (x4 x5 : Vec Ideal S1x1x1024 .f32) (j : Fin 512) (q : Fin 1024) : EReal :=
  scale * x3 (ix2 j q) + (∑ k : Fin 512, x0 (ix2 j k) * x2 (ix3 0 ⟨k.val, by omega⟩ q))
    + ∑ k : Fin 512, x1 (ix2 j k) * x2 (ix3 0 ⟨512 + k.val, by omega⟩ q)

/-- The centred row. -/
theorem cent_eq (x0 x1 : Vec Ideal S512x512 .bf16) (x2 : Vec Ideal S1x1024x1024 .bf16) (x3 : Vec Ideal S512x1024 .f32) (x4 x5 : Vec Ideal S1x1x1024 .f32) (j : Fin 512) (q : Fin 1024) :
    k0_pay7 x0 x1 x2 x3 x4 x5 (ix2 j q) = cent (row x0 x1 x2 x3 x4 x5 j) q := by
  unfold k0_pay7 k0_pay5
  pointwise
  rfl

/-- The reciprocal of the row's standard deviation. -/
theorem rstd_eq (x0 x1 : Vec Ideal S512x512 .bf16) (x2 : Vec Ideal S1x1024x1024 .bf16) (x3 : Vec Ideal S512x1024 .f32) (x4 x5 : Vec Ideal S1x1x1024 .f32) (j : Fin 512) :
    k0_pay8 x0 x1 x2 x3 x4 x5 (ix2 j 0) = rstd (row x0 x1 x2 x3 x4 x5 j) := by
  have h : ∀ q : Fin 1024, k0_pay5 (View.ld x3 r0_0) (View.ld x0 r0_1) (View.ld x2 r0_2) (View.ld x1 r0_1) (View.ld x2 r0_3) (ix2 j q)
      = cent (row x0 x1 x2 x3 x4 x5 j) q := fun q => cent_eq x0 x1 x2 x3 x4 x5 j q
  unfold k0_pay8 k0_pay6
  pointwise
  simp only [h]
  rfl

/-- The first output block at an index: the normalised row. -/
theorem outA_eq (x0 x1 : Vec Ideal S512x512 .bf16) (x2 : Vec Ideal S1x1024x1024 .bf16) (x3 : Vec Ideal S512x1024 .f32) (x4 x5 : Vec Ideal S1x1x1024 .f32) (j : Fin 512) (q : Fin 1024) :
    out0_6 x0 x1 x2 x3 x4 x5 (ix2 j q) = xhat (row x0 x1 x2 x3 x4 x5 j) q := by
  unfold out0_6
  rw [canon_in _ _ _ _ _ _ (ix2 j q) (fun a => by match a with
        | ⟨0, _⟩ => show j.val = 0 + j.val; omega
        | ⟨1, _⟩ => show q.val = 0 + q.val; omega)]
  pointwise [k0_pay1]
  rw [cent_eq, rstd_eq]
  rfl

/-- The second output block at an index: the reciprocal of the row's standard deviation. -/
theorem outB_eq (x0 x1 : Vec Ideal S512x512 .bf16) (x2 : Vec Ideal S1x1024x1024 .bf16) (x3 : Vec Ideal S512x1024 .f32) (x4 x5 : Vec Ideal S1x1x1024 .f32) (j : Fin 512) :
    out0_7 x0 x1 x2 x3 x4 x5 (ix2 j 0) = rstd (row x0 x1 x2 x3 x4 x5 j) := by
  unfold out0_7
  rw [canon_in _ _ _ _ _ _ (ix2 j 0) (fun a => by match a with
        | ⟨0, _⟩ => show j.val = 0 + j.val; omega
        | ⟨1, _⟩ => rfl)]
  exact rstd_eq _ _ _ _ _ _ j

/-- The third output block at an index: the normalised row, scaled and shifted. -/
theorem outC_eq (x0 x1 : Vec Ideal S512x512 .bf16) (x2 : Vec Ideal S1x1024x1024 .bf16) (x3 : Vec Ideal S512x1024 .f32) (x4 x5 : Vec Ideal S1x1x1024 .f32) (j : Fin 512) (q : Fin 1024) :
    out0_8 x0 x1 x2 x3 x4 x5 (ix2 j q) = xhat (row x0 x1 x2 x3 x4 x5 j) q * x4 (ix3 0 0 q) + x5 (ix3 0 0 q) := by
  unfold out0_8
  rw [canon_in _ _ _ _ _ _ (ix2 j q) (fun a => by match a with
        | ⟨0, _⟩ => show j.val = 0 + j.val; omega
        | ⟨1, _⟩ => show q.val = 0 + q.val; omega)]
  pointwise [k0_pay2, k0_pay1, k0_pay3, k0_pay4]
  rw [cent_eq, rstd_eq]
  rfl

abbrev arg_0 (c : Dev nD) : Vec Ideal S16384x512 .f32 := m ((c : Thread nD τ).loc main_arg0)
abbrev arg_1 (c : Dev nD) : Vec Ideal S16384x512 .f32 := m ((c : Thread nD τ).loc main_arg1)
abbrev arg_2 (c : Dev nD) : Vec Ideal S1024x1024 .f32 := m ((c : Thread nD τ).loc main_arg2)
abbrev arg_3 (c : Dev nD) : Vec Ideal S16384x1024 .f32 := m ((c : Thread nD τ).loc main_arg3)
abbrev arg_4 (c : Dev nD) : Vec Ideal S4x1024 .f32 := m ((c : Thread nD τ).loc main_arg4)
abbrev arg_5 (c : Dev nD) : Vec Ideal S4x1024 .f32 := m ((c : Thread nD τ).loc main_arg5)

/-! The arrays that the input windows read, their blocks at point `t`, and both at an index. -/

abbrev Arr0 (c : Dev nD) : Vec Ideal S16384x512 .bf16 := V m c main_v0
abbrev X0 (c : Dev nD) (t : Fin cfg0.N) : Vec Ideal S512x512 .bf16 := iblk m c 0 t

theorem arr_0 (c : Dev nD) (r : Fin 16384) (p : Fin 512) :
    Arr0 m c (ix2 r p) = arg_0 m c (ix2 r p) := by
  unfold Arr0 V
  after_results
  pointwise

abbrev Arr1 (c : Dev nD) : Vec Ideal S16384x512 .bf16 := V m c main_v1
abbrev X1 (c : Dev nD) (t : Fin cfg0.N) : Vec Ideal S512x512 .bf16 := iblk m c 1 t

theorem arr_1 (c : Dev nD) (r : Fin 16384) (p : Fin 512) :
    Arr1 m c (ix2 r p) = arg_1 m c (ix2 r p) := by
  unfold Arr1 V
  after_results
  pointwise

abbrev Arr2 (c : Dev nD) : Vec Ideal S1x1024x1024 .bf16 := V m c main_v3
abbrev X2 (c : Dev nD) (t : Fin cfg0.N) : Vec Ideal S1x1024x1024 .bf16 := iblk m c 2 t

theorem arr_2 (c : Dev nD) (p : Fin 1024) (q : Fin 1024) :
    Arr2 m c (ix3 0 p q) = arg_2 m c (ix2 p q) := by
  unfold Arr2 V
  after_results
  pointwise

abbrev Arr3 (c : Dev nD) : Vec Ideal S16384x1024 .f32 := V m c main_arg3
abbrev X3 (c : Dev nD) (t : Fin cfg0.N) : Vec Ideal S512x1024 .f32 := iblk m c 3 t

theorem arr_3 (c : Dev nD) (r : Fin 16384) (p : Fin 1024) :
    Arr3 m c (ix2 r p) = arg_3 m c (ix2 r p) := by
  unfold Arr3 V
  after_results

abbrev Arr4 (c : Dev nD) : Vec Ideal S4x1x1024 .f32 := V m c main_v4
abbrev X4 (c : Dev nD) (t : Fin cfg0.N) : Vec Ideal S1x1x1024 .f32 := iblk m c 4 t

theorem arr_4 (c : Dev nD) (k : Fin 4) (q : Fin 1024) :
    Arr4 m c (ix3 k 0 q) = arg_4 m c (ix2 k q) := by
  unfold Arr4 V
  after_results
  pointwise

abbrev Arr5 (c : Dev nD) : Vec Ideal S4x1x1024 .f32 := V m c main_v5
abbrev X5 (c : Dev nD) (t : Fin cfg0.N) : Vec Ideal S1x1x1024 .f32 := iblk m c 5 t

theorem arr_5 (c : Dev nD) (k : Fin 4) (q : Fin 1024) :
    Arr5 m c (ix3 k 0 q) = arg_5 m c (ix2 k q) := by
  unfold Arr5 V
  after_results
  pointwise

theorem index_0 : ∀ t : Fin cfg0.N, win0_0.index t 0 = t.val ∧ win0_0.index t 1 = 0 :=
  (by decide +kernel : ∀ t : Fin grid0.N, _)

theorem iblk_0 (c : Dev nD) (t : Fin cfg0.N) (j0 : Fin 512) (j1 : Fin 512) (r0 : Fin 16384) (r1 : Fin 512)
    (h0 : r0.val = (t.val) * 512 + j0.val) (h1 : r1.val = (0) * 512 + j1.val) :
    X0 m c t (ix2 j0 j1) = Arr0 m c (ix2 r0 r1) := by
  unfold X0 iblk
  rw [View.read_apply]
  exact congrArg (V m c main_v0) (Cert.Rows.ix2_of (index_0 t) h0 h1 rfl rfl)

theorem index_1 : ∀ t : Fin cfg0.N, win0_1.index t 0 = t.val ∧ win0_1.index t 1 = 0 :=
  (by decide +kernel : ∀ t : Fin grid0.N, _)

theorem iblk_1 (c : Dev nD) (t : Fin cfg0.N) (j0 : Fin 512) (j1 : Fin 512) (r0 : Fin 16384) (r1 : Fin 512)
    (h0 : r0.val = (t.val) * 512 + j0.val) (h1 : r1.val = (0) * 512 + j1.val) :
    X1 m c t (ix2 j0 j1) = Arr1 m c (ix2 r0 r1) := by
  unfold X1 iblk
  rw [View.read_apply]
  exact congrArg (V m c main_v1) (Cert.Rows.ix2_of (index_1 t) h0 h1 rfl rfl)

theorem index_2 : ∀ t : Fin cfg0.N, win0_2.index t 0 = 0 ∧ win0_2.index t 1 = 0 ∧ win0_2.index t 2 = 0 :=
  (by decide +kernel : ∀ t : Fin grid0.N, _)

theorem iblk_2 (c : Dev nD) (t : Fin cfg0.N) (j0 : Fin 1) (j1 : Fin 1024) (j2 : Fin 1024) (r0 : Fin 1) (r1 : Fin 1024) (r2 : Fin 1024)
    (h0 : r0.val = (0) * 1 + j0.val) (h1 : r1.val = (0) * 1024 + j1.val) (h2 : r2.val = (0) * 1024 + j2.val) :
    X2 m c t (ix3 j0 j1 j2) = Arr2 m c (ix3 r0 r1 r2) := by
  unfold X2 iblk
  rw [View.read_apply]
  exact congrArg (V m c main_v3) (Cert.Rows.ix3_of (index_2 t) h0 h1 h2 rfl rfl rfl)

theorem index_3 : ∀ t : Fin cfg0.N, win0_3.index t 0 = t.val ∧ win0_3.index t 1 = 0 :=
  (by decide +kernel : ∀ t : Fin grid0.N, _)

theorem iblk_3 (c : Dev nD) (t : Fin cfg0.N) (j0 : Fin 512) (j1 : Fin 1024) (r0 : Fin 16384) (r1 : Fin 1024)
    (h0 : r0.val = (t.val) * 512 + j0.val) (h1 : r1.val = (0) * 1024 + j1.val) :
    X3 m c t (ix2 j0 j1) = Arr3 m c (ix2 r0 r1) := by
  unfold X3 iblk
  rw [View.read_apply]
  exact congrArg (V m c main_arg3) (Cert.Rows.ix2_of (index_3 t) h0 h1 rfl rfl)

theorem index_4 : ∀ t : Fin cfg0.N, win0_4.index t 0 = 0 ∧ win0_4.index t 1 = 0 ∧ win0_4.index t 2 = 0 :=
  (by decide +kernel : ∀ t : Fin grid0.N, _)

theorem iblk_4 (c : Dev nD) (t : Fin cfg0.N) (j0 : Fin 1) (j1 : Fin 1) (j2 : Fin 1024) (r0 : Fin 4) (r1 : Fin 1) (r2 : Fin 1024)
    (h0 : r0.val = (0) * 1 + j0.val) (h1 : r1.val = (0) * 1 + j1.val) (h2 : r2.val = (0) * 1024 + j2.val) :
    X4 m c t (ix3 j0 j1 j2) = Arr4 m c (ix3 r0 r1 r2) := by
  unfold X4 iblk
  rw [View.read_apply]
  exact congrArg (V m c main_v4) (Cert.Rows.ix3_of (index_4 t) h0 h1 h2 rfl rfl rfl)

theorem index_5 : ∀ t : Fin cfg0.N, win0_5.index t 0 = 0 ∧ win0_5.index t 1 = 0 ∧ win0_5.index t 2 = 0 :=
  (by decide +kernel : ∀ t : Fin grid0.N, _)

theorem iblk_5 (c : Dev nD) (t : Fin cfg0.N) (j0 : Fin 1) (j1 : Fin 1) (j2 : Fin 1024) (r0 : Fin 4) (r1 : Fin 1) (r2 : Fin 1024)
    (h0 : r0.val = (0) * 1 + j0.val) (h1 : r1.val = (0) * 1 + j1.val) (h2 : r2.val = (0) * 1024 + j2.val) :
    X5 m c t (ix3 j0 j1 j2) = Arr5 m c (ix3 r0 r1 r2) := by
  unfold X5 iblk
  rw [View.read_apply]
  exact congrArg (V m c main_v5) (Cert.Rows.ix3_of (index_5 t) h0 h1 h2 rfl rfl rfl)

theorem index_6 : ∀ t : Fin cfg0.N, win0_6.index t 0 = t.val ∧ win0_6.index t 1 = 0 :=
  (by decide +kernel : ∀ t : Fin grid0.N, _)

theorem index_7 : ∀ t : Fin cfg0.N, win0_7.index t 0 = t.val ∧ win0_7.index t 1 = 0 :=
  (by decide +kernel : ∀ t : Fin grid0.N, _)

theorem index_8 : ∀ t : Fin cfg0.N, win0_8.index t 0 = t.val ∧ win0_8.index t 1 = 0 :=
  (by decide +kernel : ∀ t : Fin grid0.N, _)

/-- Row `r` before the normalisation. -/
def rowAt (c : Dev nD) (r : Fin 16384) (q : Fin 1024) : EReal :=
  scale * arg_3 m c (ix2 r q) + (∑ k : Fin 512, arg_0 m c (ix2 r k) * arg_2 m c (ix2 ⟨k.val, by omega⟩ q))
    + ∑ k : Fin 512, arg_1 m c (ix2 r k) * arg_2 m c (ix2 ⟨512 + k.val, by omega⟩ q)

/-- A point's row, read in the arguments. -/
theorem row_eq (c : Dev nD) (t : Fin cfg0.N) (j : Fin 512) (r : Fin 16384) (hr : r.val = (t.val) * 512 + j.val) :
    row (X0 m c t) (X1 m c t) (X2 m c t) (X3 m c t) (X4 m c t) (X5 m c t) j = rowAt m c r := by
  funext q
  unfold row rowAt
  refine congrArg₂ (· + ·) (congrArg₂ (· + ·) (congrArg (scale * ·) ((iblk_3 m c t j q r q hr (by omega)).trans (arr_3 m c r q)))
    (Finset.sum_congr rfl fun k _ => ?_)) (Finset.sum_congr rfl fun k _ => ?_)
  · exact congrArg₂ (· * ·) ((iblk_0 m c t j k r k hr (by omega)).trans (arr_0 m c r k))
      ((iblk_2 m c t 0 _ q 0 _ q (by omega) (by omega) (by omega)).trans (arr_2 m c _ q))
  · exact congrArg₂ (· * ·) ((iblk_1 m c t j k r k hr (by omega)).trans (arr_1 m c r k))
      ((iblk_2 m c t 0 _ q 0 _ q (by omega) (by omega) (by omega)).trans (arr_2 m c _ q))

/-- An entry of the normalised result. -/
def entry_6 (c : Dev nD) (i : S16384x1024.Idx) : EReal := xhat (rowAt m c (i 0)) (i 1)
/-- An entry of the deviations' reciprocals. -/
def entry_7 (c : Dev nD) (i : S16384x1.Idx) : EReal := rstd (rowAt m c (i 0))
/-- An entry of the scaled and shifted result. -/
def entry_8 (c : Dev nD) (i : S16384x1024.Idx) : EReal :=
  xhat (rowAt m c (i 0)) (i 1) * arg_4 m c (ix2 (0 : Fin 4) (i 1)) + arg_5 m c (ix2 (0 : Fin 4) (i 1))

/-- The first output block of point `t`, read in the arguments. -/
theorem block_6_eq (c : Dev nD) (t : Fin cfg0.N) (j : Fin 512) (p : Fin 1024) (r : Fin 16384) (q : Fin 1024)
    (hr : r.val = (t.val) * 512 + j.val) (hq : q.val = 0 * 1024 + p.val) :
    out0_6 (X0 m c t) (X1 m c t) (X2 m c t) (X3 m c t) (X4 m c t) (X5 m c t) (ix2 j p) = entry_6 m c (ix2 r q) := by
  obtain rfl : q = p := Fin.ext (by omega)
  refine (outA_eq _ _ _ _ _ _ j q).trans ?_
  unfold entry_6
  rw [row_eq m c t j r hr]
  rfl

/-- The second output block of point `t`, read in the arguments. -/
theorem block_7_eq (c : Dev nD) (t : Fin cfg0.N) (j : Fin 512) (p : Fin 1) (r : Fin 16384) (q : Fin 1)
    (hr : r.val = (t.val) * 512 + j.val) (hq : q.val = 0 * 1 + p.val) :
    out0_7 (X0 m c t) (X1 m c t) (X2 m c t) (X3 m c t) (X4 m c t) (X5 m c t) (ix2 j p) = entry_7 m c (ix2 r q) := by
  obtain rfl : p = 0 := Fin.ext (by omega)
  refine (outB_eq _ _ _ _ _ _ j).trans ?_
  unfold entry_7
  rw [row_eq m c t j r hr]
  rfl

/-- The third output block of point `t`, read in the arguments. -/
theorem block_8_eq (c : Dev nD) (t : Fin cfg0.N) (j : Fin 512) (p : Fin 1024) (r : Fin 16384) (q : Fin 1024)
    (hr : r.val = (t.val) * 512 + j.val) (hq : q.val = 0 * 1024 + p.val) :
    out0_8 (X0 m c t) (X1 m c t) (X2 m c t) (X3 m c t) (X4 m c t) (X5 m c t) (ix2 j p) = entry_8 m c (ix2 r q) := by
  obtain rfl : q = p := Fin.ext (by omega)
  refine (outC_eq _ _ _ _ _ _ j q).trans ?_
  unfold entry_8
  rw [row_eq m c t j r hr]
  exact congrArg₂ (· + ·) (congrArg₂ (· * ·) rfl
      ((iblk_4 m c t 0 0 q 0 0 q (by show 0 = 0 * 1 + 0; omega) (by omega) (by omega)).trans (arr_4 m c 0 q)))
    ((iblk_5 m c t 0 0 q 0 0 q (by show 0 = 0 * 1 + 0; omega) (by omega) (by omega)).trans (arr_5 m c 0 q))

/-- The result as an array. -/
def result_6 (c : Dev nD) : Vec Ideal S16384x1024 .f32 := fun i => entry_6 m c i

theorem flushed_6_eq (c : Dev nD) (t : Fin cfg0.N) :
    (dats m 0 c).flushed 6 t = ((cfg0.win 6).blk t).view.read (Elt Ideal) (result_6 m c) := by
  rw [Value.flushed6]
  funext y
  rw [View.read_apply]
  exact eq_of_heq (HEq.trans (heq_of_eq (Cert.Rows.at_rows (out0_6 (X0 m c t) (X1 m c t) (X2 m c t) (X3 m c t) (X4 m c t) (X5 m c t)) (entry_6 m c) (index_6 t) (block_6_eq m c t) y _ rfl rfl)) (cast_heq _ _).symm)

theorem final_6_eq (c : Dev nD) : (dats m 0 c).arrAt 6 cfg0.N = result_6 m c :=
  (dats m 0 c).arrAt_eq_of_cover 6 (result_6 m c) (fun t _ => flushed_6_eq m c t)
    ((show (cfg0.win 6).Covers by decide +kernel).cover _ (Memref.isWhole_whole _))

/-- The result as an array. -/
def result_7 (c : Dev nD) : Vec Ideal S16384x1 .f32 := fun i => entry_7 m c i

theorem flushed_7_eq (c : Dev nD) (t : Fin cfg0.N) :
    (dats m 0 c).flushed 7 t = ((cfg0.win 7).blk t).view.read (Elt Ideal) (result_7 m c) := by
  rw [Value.flushed7]
  funext y
  rw [View.read_apply]
  exact eq_of_heq (HEq.trans (heq_of_eq (Cert.Rows.at_rows (out0_7 (X0 m c t) (X1 m c t) (X2 m c t) (X3 m c t) (X4 m c t) (X5 m c t)) (entry_7 m c) (index_7 t) (block_7_eq m c t) y _ rfl rfl)) (cast_heq _ _).symm)

theorem final_7_eq (c : Dev nD) : (dats m 0 c).arrAt 7 cfg0.N = result_7 m c :=
  (dats m 0 c).arrAt_eq_of_cover 7 (result_7 m c) (fun t _ => flushed_7_eq m c t)
    ((show (cfg0.win 7).Covers by decide +kernel).cover _ (Memref.isWhole_whole _))

/-- The result as an array. -/
def result_8 (c : Dev nD) : Vec Ideal S16384x1024 .bf16 := fun i => entry_8 m c i

theorem flushed_8_eq (c : Dev nD) (t : Fin cfg0.N) :
    (dats m 0 c).flushed 8 t = ((cfg0.win 8).blk t).view.read (Elt Ideal) (result_8 m c) := by
  rw [Value.flushed8]
  funext y
  rw [View.read_apply]
  exact eq_of_heq (HEq.trans (heq_of_eq (Cert.Rows.at_rows (out0_8 (X0 m c t) (X1 m c t) (X2 m c t) (X3 m c t) (X4 m c t) (X5 m c t)) (entry_8 m c) (index_8 t) (block_8_eq m c t) y _ rfl rfl)) (cast_heq _ _).symm)

theorem final_8_eq (c : Dev nD) : (dats m 0 c).arrAt 8 cfg0.N = result_8 m c :=
  (dats m 0 c).arrAt_eq_of_cover 8 (result_8 m c) (fun t _ => flushed_8_eq m c t)
    ((show (cfg0.win 8).Covers by decide +kernel).cover _ (Memref.isWhole_whole _))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v6_0) = result_6 m c
      ∧ r.2.mem ((c : Thread nD τ).loc main_v6_1) = result_7 m c
      ∧ r.2.mem ((c : Thread nD τ).loc main_v6_2) = result_8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_6_eq m c), (h c).2.1.trans (final_7_eq m c), (h c).2.2.1.trans (final_8_eq m c), (h c).2.2.2⟩) (Value.run_blocks m ρ)

end Cert.Kernel14Ideal.Prod

end
-- ==== Proof.OutLnRef.lean ====
/-
  The reference's normalisation after the output projection, at an index.
-/
module

public import proofs.«01_k».proof.Proof.Gen.Reference14Ideal.Read
public import Idealize.ShloMosaic.Lib.Pointwise
public import proofs.«01_k».proof.Proof.Norm

@[expose] public section

set_option maxRecDepth 16384

namespace Cert.Reference14Ideal.Prod

open Cert.Reference14Ideal Cert.Reference14Ideal.Gen Cert.Reference14Ideal.Read Idealize.ShloMosaic Idealize.ShloMosaic.TcCoe

open Cert.Norm

/-- Row `r` before the normalisation: the scaled residual and the two halves' products. -/
noncomputable def row (x0 x1 : Vec Ideal S16384x512 .f32) (x2 : Vec Ideal S1024x1024 .f32) (x3 : Vec Ideal S16384x1024 .f32) (r : Fin 16384) (q : Fin 1024) : EReal :=
  FloatOps.ofBits (F := Ideal) .f32 0x3FD744FD#32 * x3 (ix2 r q) + (∑ k : Fin 512, x0 (ix2 r k) * x2 (ix2 ⟨k.val, by omega⟩ q))
    + ∑ k : Fin 512, x1 (ix2 r k) * x2 (ix2 ⟨512 + k.val, by omega⟩ q)

/-- The row at an index. -/
theorem row_eq (x0 x1 : Vec Ideal S16384x512 .f32) (x2 : Vec Ideal S1024x1024 .f32) (x3 : Vec Ideal S16384x1024 .f32) (r : Fin 16384) (q : Fin 1024) :
    val_main_v4 (F := Ideal) x0 x1 x2 x3 (ix2 r q) = row x0 x1 x2 x3 r q := by
  unfold val_main_v4 val_main_v3 val_main_v2 val_main_v1 val_main_v0 val_main_cst
  pointwise
  rw [← add_assoc]
  rfl

/-- The centred row, as the variance takes it. -/
theorem cent_eq (x0 x1 : Vec Ideal S16384x512 .f32) (x2 : Vec Ideal S1024x1024 .f32) (x3 : Vec Ideal S16384x1024 .f32) (r : Fin 16384) (q : Fin 1024) :
    val_main_v14 (F := Ideal) x0 x1 x2 x3 (ix2 r q) = cent (row x0 x1 x2 x3 r) q := by
  unfold val_main_v14 val_main_v13 val_main_v12 val_main_v11 val_main_v10 val_main_v9 val_main_cst_1 val_main_cst_0
  pointwise
  simp only [row_eq]
  rfl

/-- The reciprocal of the standard deviation at an index. -/
theorem rstd_eq (x0 x1 : Vec Ideal S16384x512 .f32) (x2 : Vec Ideal S1024x1024 .f32) (x3 : Vec Ideal S16384x1024 .f32) (r : Fin 16384) (z : Fin 1) :
    val_main_v22 (F := Ideal) x0 x1 x2 x3 (ix2 r z) = rstd (row x0 x1 x2 x3 r) := by
  unfold val_main_v22 val_main_v21 val_main_v20 val_main_v19 val_main_v18 val_main_v17 val_main_v16 val_main_v15 val_main_cst_4 val_main_cst_3 val_main_cst_2
  pointwise
  simp only [cent_eq]
  rfl

/-- The normalised row at an index. -/
theorem xhat_eq (x0 x1 : Vec Ideal S16384x512 .f32) (x2 : Vec Ideal S1024x1024 .f32) (x3 : Vec Ideal S16384x1024 .f32) (r : Fin 16384) (q : Fin 1024) :
    val_main_v26 (F := Ideal) x0 x1 x2 x3 (ix2 r q) = xhat (row x0 x1 x2 x3 r) q := by
  have hc : val_main_v24 (F := Ideal) x0 x1 x2 x3 (ix2 r q) = cent (row x0 x1 x2 x3 r) q := by
    unfold val_main_v24 val_main_v23 val_main_v12 val_main_v11 val_main_v10 val_main_v9 val_main_cst_1 val_main_cst_0
    pointwise
    simp only [row_eq]
    rfl
  unfold val_main_v26 val_main_v25
  pointwise
  rw [hc, rstd_eq]
  rfl

/-- The layer's result at an index. -/
theorem out_eq (x0 x1 : Vec Ideal S16384x512 .f32) (x2 : Vec Ideal S1024x1024 .f32) (x3 : Vec Ideal S16384x1024 .f32) (x4 x5 : Vec Ideal S4x1024 .f32) (r : Fin 16384) (q : Fin 1024) :
    val_main_v33 (F := Ideal) x0 x1 x2 x3 x4 x5 (ix2 r q) = xhat (row x0 x1 x2 x3 r) q * x4 (ix2 (0 : Fin 4) q) + x5 (ix2 (0 : Fin 4) q) := by
  unfold val_main_v33 val_main_v32 val_main_v31 val_main_v30 val_main_v29 val_main_v28 val_main_v27 val_main_v6 val_main_v5 val_main_v8 val_main_v7
  pointwise
  rw [xhat_eq]

end Cert.Reference14Ideal.Prod

end
-- ==== Proof.DownLnKernel.lean ====
/-
  The down projection and the normalisation after it, as the call leaves them: each row's scaled residual and its product
  against the weights in four blocks, normalised; the reciprocal of its standard deviation; and the normalised row scaled and
  shifted.
-/
module

public import proofs.«01_k».proof.Proof.Rows
public import Idealize.ShloMosaic.Lib.Pipeline.ValueKit
public import proofs.«01_k».proof.Proof.Gen.Kernel15Ideal.Value
public import proofs.«01_k».proof.Proof.Canon
public import proofs.«01_k».proof.Proof.Norm
public import Idealize.ShloMosaic.Lib.Tactic
public import Idealize.ShloMosaic.Lib.Pointwise

@[expose] public section

set_option maxRecDepth 16384

noncomputable section

namespace Cert.Kernel15Ideal.Prod

open Cert.Kernel15Ideal Cert.Kernel15Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

open Cert.Norm

/-- The residual's scale. -/
def scale : EReal := FloatOps.ofBits (F := Ideal) .f32 0x3FD744FD#32

/-- The products of one block of 704 columns. -/
def slab (x0 : Vec Ideal S4x512x704 .bf16) (x1 : Vec Ideal S1x4x704x1024 .bf16) (j : Fin 512) (q : Fin 1024) (k : Fin 4) : EReal :=
  ∑ p : Fin 704, x0 (ix3 k j p) * x1 (ix4 0 k p q)

/-- Row `j` of a point before the normalisation: the scaled residual and the four blocks' products. -/
def row (x0 : Vec Ideal S4x512x704 .bf16) (x1 : Vec Ideal S1x4x704x1024 .bf16) (x2 : Vec Ideal S512x1024 .f32) (x3 x4 x5 x6 : Vec Ideal S1x1x1024 .f32) (j : Fin 512) (q : Fin 1024) : EReal :=
  scale * (x2 (ix2 j q) * x3 (ix3 0 0 q) + x4 (ix3 0 0 q)) + slab x0 x1 j q 0 + slab x0 x1 j q 1 + slab x0 x1 j q 2 + slab x0 x1 j q 3

/-- The centred row. -/
theorem cent_eq (x0 : Vec Ideal S4x512x704 .bf16) (x1 : Vec Ideal S1x4x704x1024 .bf16) (x2 : Vec Ideal S512x1024 .f32) (x3 x4 x5 x6 : Vec Ideal S1x1x1024 .f32) (j : Fin 512) (q : Fin 1024) :
    k0_pay5 (k0_pay9 x0 x1 x2 x3 x4 x5 x6) (k0_pay10 x0 x1 x2 x3 x4 x5 x6) (k0_pay11 x0 x1 x2 x3 x4 x5 x6) (View.ld x0 r0_8) (View.ld x1 r0_9) (ix2 j q) = cent (row x0 x1 x2 x3 x4 x5 x6 j) q := by
  unfold k0_pay5
  pointwise [k0_pay9, k0_pay2, k0_pay10, k0_pay3, k0_pay11, k0_pay4]
  rfl

/-- The reciprocal of the row's standard deviation. -/
theorem rstd_eq (x0 : Vec Ideal S4x512x704 .bf16) (x1 : Vec Ideal S1x4x704x1024 .bf16) (x2 : Vec Ideal S512x1024 .f32) (x3 x4 x5 x6 : Vec Ideal S1x1x1024 .f32) (j : Fin 512) :
    k0_pay6 (k0_pay9 x0 x1 x2 x3 x4 x5 x6) (k0_pay10 x0 x1 x2 x3 x4 x5 x6) (k0_pay11 x0 x1 x2 x3 x4 x5 x6) (View.ld x0 r0_8) (View.ld x1 r0_9) (ix2 j 0) = rstd (row x0 x1 x2 x3 x4 x5 x6 j) := by
  unfold k0_pay6
  pointwise
  simp only [cent_eq]
  rfl

/-- The first output block at an index: the normalised row. -/
theorem outA_eq (x0 : Vec Ideal S4x512x704 .bf16) (x1 : Vec Ideal S1x4x704x1024 .bf16) (x2 : Vec Ideal S512x1024 .f32) (x3 x4 x5 x6 : Vec Ideal S1x1x1024 .f32) (j : Fin 512) (q : Fin 1024) :
    out0_7 x0 x1 x2 x3 x4 x5 x6 (ix2 j q) = xhat (row x0 x1 x2 x3 x4 x5 x6 j) q := by
  unfold out0_7
  rw [canon_in _ _ _ _ _ _ (ix2 j q) (fun a => by match a with
        | ⟨0, _⟩ => show j.val = 0 + j.val; omega
        | ⟨1, _⟩ => show q.val = 0 + q.val; omega)]
  pointwise [k0_pay7]
  rw [cent_eq, rstd_eq]
  rfl

/-- The second output block at an index: the reciprocal of the row's standard deviation. -/
theorem outB_eq (x0 : Vec Ideal S4x512x704 .bf16) (x1 : Vec Ideal S1x4x704x1024 .bf16) (x2 : Vec Ideal S512x1024 .f32) (x3 x4 x5 x6 : Vec Ideal S1x1x1024 .f32) (j : Fin 512) :
    out0_8 x0 x1 x2 x3 x4 x5 x6 (ix2 j 0) = rstd (row x0 x1 x2 x3 x4 x5 x6 j) := by
  unfold out0_8
  rw [canon_in _ _ _ _ _ _ (ix2 j 0) (fun a => by match a with
        | ⟨0, _⟩ => show j.val = 0 + j.val; omega
        | ⟨1, _⟩ => rfl)]
  exact rstd_eq _ _ _ _ _ _ _ j

/-- The third output block at an index: the normalised row, scaled and shifted. -/
theorem outC_eq (x0 : Vec Ideal S4x512x704 .bf16) (x1 : Vec Ideal S1x4x704x1024 .bf16) (x2 : Vec Ideal S512x1024 .f32) (x3 x4 x5 x6 : Vec Ideal S1x1x1024 .f32) (j : Fin 512) (q : Fin 1024) :
    out0_9 x0 x1 x2 x3 x4 x5 x6 (ix2 j q) = xhat (row x0 x1 x2 x3 x4 x5 x6 j) q * x5 (ix3 0 0 q) + x6 (ix3 0 0 q) := by
  unfold out0_9
  rw [canon_in _ _ _ _ _ _ (ix2 j q) (fun a => by match a with
        | ⟨0, _⟩ => show j.val = 0 + j.val; omega
        | ⟨1, _⟩ => show q.val = 0 + q.val; omega)]
  pointwise [k0_pay1, k0_pay8, k0_pay7]
  rw [cent_eq, rstd_eq]
  rfl

abbrev arg_0 (c : Dev nD) : Vec Ideal S16384x2816 .f32 := m ((c : Thread nD τ).loc main_arg0)
abbrev arg_1 (c : Dev nD) : Vec Ideal S2816x1024 .f32 := m ((c : Thread nD τ).loc main_arg1)
abbrev arg_2 (c : Dev nD) : Vec Ideal S16384x1024 .f32 := m ((c : Thread nD τ).loc main_arg2)
abbrev arg_3 (c : Dev nD) : Vec Ideal S4x1024 .f32 := m ((c : Thread nD τ).loc main_arg3)
abbrev arg_4 (c : Dev nD) : Vec Ideal S4x1024 .f32 := m ((c : Thread nD τ).loc main_arg4)
abbrev arg_5 (c : Dev nD) : Vec Ideal S4x1024 .f32 := m ((c : Thread nD τ).loc main_arg5)
abbrev arg_6 (c : Dev nD) : Vec Ideal S4x1024 .f32 := m ((c : Thread nD τ).loc main_arg6)

/-! The arrays that the input windows read, their blocks at point `t`, and both at an index. -/

abbrev Arr0 (c : Dev nD) : Vec Ideal S4x16384x704 .bf16 := V m c main_v2
abbrev X0 (c : Dev nD) (t : Fin cfg0.N) : Vec Ideal S4x512x704 .bf16 := iblk m c 0 t

theorem arr_0 (c : Dev nD) (k : Fin 4) (r : Fin 16384) (p : Fin 704) (l : Fin 2816) (hl : l.val = 704 * k.val + p.val) :
    Arr0 m c (ix3 k r p) = arg_0 m c (ix2 r l) := by
  unfold Arr0 V
  after_results
  pointwise
  exact congrArg (fun z => arg_0 m c (ix2 r z)) (Fin.ext (by dsimp only; omega))

abbrev Arr1 (c : Dev nD) : Vec Ideal S1x4x704x1024 .bf16 := V m c main_v4
abbrev X1 (c : Dev nD) (t : Fin cfg0.N) : Vec Ideal S1x4x704x1024 .bf16 := iblk m c 1 t

theorem arr_1 (c : Dev nD) (k : Fin 4) (p : Fin 704) (q : Fin 1024) (l : Fin 2816) (hl : l.val = 704 * k.val + p.val) :
    Arr1 m c (ix4 0 k p q) = arg_1 m c (ix2 l q) := by
  unfold Arr1 V
  after_results
  pointwise
  exact congrArg (fun z => arg_1 m c (ix2 z q)) (Fin.ext (by dsimp only; omega))

abbrev Arr2 (c : Dev nD) : Vec Ideal S16384x1024 .f32 := V m c main_arg2
abbrev X2 (c : Dev nD) (t : Fin cfg0.N) : Vec Ideal S512x1024 .f32 := iblk m c 2 t

theorem arr_2 (c : Dev nD) (r : Fin 16384) (p : Fin 1024) :
    Arr2 m c (ix2 r p) = arg_2 m c (ix2 r p) := by
  unfold Arr2 V
  after_results

abbrev Arr3 (c : Dev nD) : Vec Ideal S4x1x1024 .f32 := V m c main_v5
abbrev X3 (c : Dev nD) (t : Fin cfg0.N) : Vec Ideal S1x1x1024 .f32 := iblk m c 3 t

theorem arr_3 (c : Dev nD) (k : Fin 4) (q : Fin 1024) :
    Arr3 m c (ix3 k 0 q) = arg_3 m c (ix2 k q) := by
  unfold Arr3 V
  after_results
  pointwise

abbrev Arr4 (c : Dev nD) : Vec Ideal S4x1x1024 .f32 := V m c main_v6
abbrev X4 (c : Dev nD) (t : Fin cfg0.N) : Vec Ideal S1x1x1024 .f32 := iblk m c 4 t

theorem arr_4 (c : Dev nD) (k : Fin 4) (q : Fin 1024) :
    Arr4 m c (ix3 k 0 q) = arg_4 m c (ix2 k q) := by
  unfold Arr4 V
  after_results
  pointwise

abbrev Arr5 (c : Dev nD) : Vec Ideal S4x1x1024 .f32 := V m c main_v7
abbrev X5 (c : Dev nD) (t : Fin cfg0.N) : Vec Ideal S1x1x1024 .f32 := iblk m c 5 t

theorem arr_5 (c : Dev nD) (k : Fin 4) (q : Fin 1024) :
    Arr5 m c (ix3 k 0 q) = arg_5 m c (ix2 k q) := by
  unfold Arr5 V
  after_results
  pointwise

abbrev Arr6 (c : Dev nD) : Vec Ideal S4x1x1024 .f32 := V m c main_v8
abbrev X6 (c : Dev nD) (t : Fin cfg0.N) : Vec Ideal S1x1x1024 .f32 := iblk m c 6 t

theorem arr_6 (c : Dev nD) (k : Fin 4) (q : Fin 1024) :
    Arr6 m c (ix3 k 0 q) = arg_6 m c (ix2 k q) := by
  unfold Arr6 V
  after_results
  pointwise

theorem index_0 : ∀ t : Fin cfg0.N, win0_0.index t 0 = 0 ∧ win0_0.index t 1 = t.val ∧ win0_0.index t 2 = 0 :=
  (by decide +kernel : ∀ t : Fin grid0.N, _)

theorem iblk_0 (c : Dev nD) (t : Fin cfg0.N) (j0 : Fin 4) (j1 : Fin 512) (j2 : Fin 704) (r0 : Fin 4) (r1 : Fin 16384) (r2 : Fin 704)
    (h0 : r0.val = (0) * 4 + j0.val) (h1 : r1.val = (t.val) * 512 + j1.val) (h2 : r2.val = (0) * 704 + j2.val) :
    X0 m c t (ix3 j0 j1 j2) = Arr0 m c (ix3 r0 r1 r2) := by
  unfold X0 iblk
  rw [View.read_apply]
  exact congrArg (V m c main_v2) (Cert.Rows.ix3_of (index_0 t) h0 h1 h2 rfl rfl rfl)

theorem index_1 : ∀ t : Fin cfg0.N, win0_1.index t 0 = 0 ∧ win0_1.index t 1 = 0 ∧ win0_1.index t 2 = 0 ∧ win0_1.index t 3 = 0 :=
  (by decide +kernel : ∀ t : Fin grid0.N, _)

theorem iblk_1 (c : Dev nD) (t : Fin cfg0.N) (j0 : Fin 1) (j1 : Fin 4) (j2 : Fin 704) (j3 : Fin 1024) (r0 : Fin 1) (r1 : Fin 4) (r2 : Fin 704) (r3 : Fin 1024)
    (h0 : r0.val = (0) * 1 + j0.val) (h1 : r1.val = (0) * 4 + j1.val) (h2 : r2.val = (0) * 704 + j2.val) (h3 : r3.val = (0) * 1024 + j3.val) :
    X1 m c t (ix4 j0 j1 j2 j3) = Arr1 m c (ix4 r0 r1 r2 r3) := by
  have hi := index_1 t
  unfold X1 iblk
  rw [View.read_apply]
  show V m c main_v4 _ = V m c main_v4 _
  congr 1
  funext a
  apply Fin.ext
  match a with
  | ⟨0, _⟩ => show win0_1.index t 0 * 1 + 1 * j0.val = r0.val; rw [hi.1, h0]; omega
  | ⟨1, _⟩ => show win0_1.index t 1 * 4 + 1 * j1.val = r1.val; rw [hi.2.1, h1]; omega
  | ⟨2, _⟩ => show win0_1.index t 2 * 704 + 1 * j2.val = r2.val; rw [hi.2.2.1, h2]; omega
  | ⟨3, _⟩ => show win0_1.index t 3 * 1024 + 1 * j3.val = r3.val; rw [hi.2.2.2, h3]; omega

theorem index_2 : ∀ t : Fin cfg0.N, win0_2.index t 0 = t.val ∧ win0_2.index t 1 = 0 :=
  (by decide +kernel : ∀ t : Fin grid0.N, _)

theorem iblk_2 (c : Dev nD) (t : Fin cfg0.N) (j0 : Fin 512) (j1 : Fin 1024) (r0 : Fin 16384) (r1 : Fin 1024)
    (h0 : r0.val = (t.val) * 512 + j0.val) (h1 : r1.val = (0) * 1024 + j1.val) :
    X2 m c t (ix2 j0 j1) = Arr2 m c (ix2 r0 r1) := by
  unfold X2 iblk
  rw [View.read_apply]
  exact congrArg (V m c main_arg2) (Cert.Rows.ix2_of (index_2 t) h0 h1 rfl rfl)

theorem index_3 : ∀ t : Fin cfg0.N, win0_3.index t 0 = 3 ∧ win0_3.index t 1 = 0 ∧ win0_3.index t 2 = 0 :=
  (by decide +kernel : ∀ t : Fin grid0.N, _)

theorem iblk_3 (c : Dev nD) (t : Fin cfg0.N) (j0 : Fin 1) (j1 : Fin 1) (j2 : Fin 1024) (r0 : Fin 4) (r1 : Fin 1) (r2 : Fin 1024)
    (h0 : r0.val = (3) * 1 + j0.val) (h1 : r1.val = (0) * 1 + j1.val) (h2 : r2.val = (0) * 1024 + j2.val) :
    X3 m c t (ix3 j0 j1 j2) = Arr3 m c (ix3 r0 r1 r2) := by
  unfold X3 iblk
  rw [View.read_apply]
  exact congrArg (V m c main_v5) (Cert.Rows.ix3_of (index_3 t) h0 h1 h2 rfl rfl rfl)

theorem index_4 : ∀ t : Fin cfg0.N, win0_4.index t 0 = 3 ∧ win0_4.index t 1 = 0 ∧ win0_4.index t 2 = 0 :=
  (by decide +kernel : ∀ t : Fin grid0.N, _)

theorem iblk_4 (c : Dev nD) (t : Fin cfg0.N) (j0 : Fin 1) (j1 : Fin 1) (j2 : Fin 1024) (r0 : Fin 4) (r1 : Fin 1) (r2 : Fin 1024)
    (h0 : r0.val = (3) * 1 + j0.val) (h1 : r1.val = (0) * 1 + j1.val) (h2 : r2.val = (0) * 1024 + j2.val) :
    X4 m c t (ix3 j0 j1 j2) = Arr4 m c (ix3 r0 r1 r2) := by
  unfold X4 iblk
  rw [View.read_apply]
  exact congrArg (V m c main_v6) (Cert.Rows.ix3_of (index_4 t) h0 h1 h2 rfl rfl rfl)

theorem index_5 : ∀ t : Fin cfg0.N, win0_5.index t 0 = 3 ∧ win0_5.index t 1 = 0 ∧ win0_5.index t 2 = 0 :=
  (by decide +kernel : ∀ t : Fin grid0.N, _)

theorem iblk_5 (c : Dev nD) (t : Fin cfg0.N) (j0 : Fin 1) (j1 : Fin 1) (j2 : Fin 1024) (r0 : Fin 4) (r1 : Fin 1) (r2 : Fin 1024)
    (h0 : r0.val = (3) * 1 + j0.val) (h1 : r1.val = (0) * 1 + j1.val) (h2 : r2.val = (0) * 1024 + j2.val) :
    X5 m c t (ix3 j0 j1 j2) = Arr5 m c (ix3 r0 r1 r2) := by
  unfold X5 iblk
  rw [View.read_apply]
  exact congrArg (V m c main_v7) (Cert.Rows.ix3_of (index_5 t) h0 h1 h2 rfl rfl rfl)

theorem index_6 : ∀ t : Fin cfg0.N, win0_6.index t 0 = 3 ∧ win0_6.index t 1 = 0 ∧ win0_6.index t 2 = 0 :=
  (by decide +kernel : ∀ t : Fin grid0.N, _)

theorem iblk_6 (c : Dev nD) (t : Fin cfg0.N) (j0 : Fin 1) (j1 : Fin 1) (j2 : Fin 1024) (r0 : Fin 4) (r1 : Fin 1) (r2 : Fin 1024)
    (h0 : r0.val = (3) * 1 + j0.val) (h1 : r1.val = (0) * 1 + j1.val) (h2 : r2.val = (0) * 1024 + j2.val) :
    X6 m c t (ix3 j0 j1 j2) = Arr6 m c (ix3 r0 r1 r2) := by
  unfold X6 iblk
  rw [View.read_apply]
  exact congrArg (V m c main_v8) (Cert.Rows.ix3_of (index_6 t) h0 h1 h2 rfl rfl rfl)

theorem index_7 : ∀ t : Fin cfg0.N, win0_7.index t 0 = t.val ∧ win0_7.index t 1 = 0 :=
  (by decide +kernel : ∀ t : Fin grid0.N, _)

theorem index_8 : ∀ t : Fin cfg0.N, win0_8.index t 0 = t.val ∧ win0_8.index t 1 = 0 :=
  (by decide +kernel : ∀ t : Fin grid0.N, _)

theorem index_9 : ∀ t : Fin cfg0.N, win0_9.index t 0 = t.val ∧ win0_9.index t 1 = 0 :=
  (by decide +kernel : ∀ t : Fin grid0.N, _)

/-- The product of column `n`. -/
def term (c : Dev nD) (r : Fin 16384) (q : Fin 1024) (n : ℕ) : EReal :=
  if h : n < 2816 then arg_0 m c (ix2 r ⟨n, h⟩) * arg_1 m c (ix2 ⟨n, h⟩ q) else 0

/-- Row `r` before the normalisation. -/
def rowAt (c : Dev nD) (r : Fin 16384) (q : Fin 1024) : EReal :=
  scale * (arg_2 m c (ix2 r q) * arg_3 m c (ix2 (3 : Fin 4) q) + arg_4 m c (ix2 (3 : Fin 4) q))
    + ∑ k : Fin 2816, arg_0 m c (ix2 r k) * arg_1 m c (ix2 k q)

/-- A point's row, read in the arguments. -/
theorem row_eq (c : Dev nD) (t : Fin cfg0.N) (j : Fin 512) (r : Fin 16384) (hr : r.val = (t.val) * 512 + j.val) :
    row (X0 m c t) (X1 m c t) (X2 m c t) (X3 m c t) (X4 m c t) (X5 m c t) (X6 m c t) j = rowAt m c r := by
  funext q
  unfold row rowAt
  have hs : ∀ k : Fin 4, slab (X0 m c t) (X1 m c t) j q k = ∑ l : Fin 704, term m c r q (704 * k.val + l.val) := by
    intro k
    unfold slab
    refine Finset.sum_congr rfl fun l _ => ?_
    have hk := k.isLt
    have hl := l.isLt
    unfold term
    rw [dif_pos (show 704 * k.val + l.val < 2816 from by omega)]
    exact congrArg₂ (· * ·) ((iblk_0 m c t k j l k r l (by omega) hr (by omega)).trans (arr_0 m c k r l _ rfl))
      ((iblk_1 m c t 0 k l q 0 k l q (by omega) (by omega) (by omega) (by omega)).trans (arr_1 m c k l q _ rfl))
  have ht : slab (X0 m c t) (X1 m c t) j q 0 + slab (X0 m c t) (X1 m c t) j q 1 + slab (X0 m c t) (X1 m c t) j q 2 + slab (X0 m c t) (X1 m c t) j q 3
      = ∑ k : Fin 2816, arg_0 m c (ix2 r k) * arg_1 m c (ix2 k q) := by
    refine (Fin.sum_univ_four (fun k => slab (X0 m c t) (X1 m c t) j q k)).symm.trans ?_
    refine (Finset.sum_congr rfl fun k _ => hs k).trans ?_
    refine (Finset.sum_range (fun k => ∑ l : Fin 704, term m c r q (704 * k + l.val))).symm.trans ?_
    refine (sum_blocks 4 704 (term m c r q)).trans ?_
    refine Finset.sum_congr rfl fun n _ => ?_
    exact dif_pos n.isLt
  rw [← ht]
  simp only [← add_assoc]
  refine congrArg₂ (· + ·) (congrArg₂ (· + ·) (congrArg₂ (· + ·) (congrArg₂ (· + ·) (congrArg (scale * ·) ?_) rfl) rfl) rfl) rfl
  exact congrArg₂ (· + ·) (congrArg₂ (· * ·) ((iblk_2 m c t j q r q hr (by omega)).trans (arr_2 m c r q))
      ((iblk_3 m c t 0 0 q 3 0 q (by show 3 = 3 * 1 + 0; omega) (by omega) (by omega)).trans (arr_3 m c 3 q)))
    ((iblk_4 m c t 0 0 q 3 0 q (by show 3 = 3 * 1 + 0; omega) (by omega) (by omega)).trans (arr_4 m c 3 q))

/-- An entry of the normalised result. -/
def entry_7 (c : Dev nD) (i : S16384x1024.Idx) : EReal := xhat (rowAt m c (i 0)) (i 1)
/-- An entry of the deviations' reciprocals. -/
def entry_8 (c : Dev nD) (i : S16384x1.Idx) : EReal := rstd (rowAt m c (i 0))
/-- An entry of the scaled and shifted result. -/
def entry_9 (c : Dev nD) (i : S16384x1024.Idx) : EReal :=
  xhat (rowAt m c (i 0)) (i 1) * arg_5 m c (ix2 (3 : Fin 4) (i 1)) + arg_6 m c (ix2 (3 : Fin 4) (i 1))

/-- The first output block of point `t`, read in the arguments. -/
theorem block_7_eq (c : Dev nD) (t : Fin cfg0.N) (j : Fin 512) (p : Fin 1024) (r : Fin 16384) (q : Fin 1024)
    (hr : r.val = (t.val) * 512 + j.val) (hq : q.val = 0 * 1024 + p.val) :
    out0_7 (X0 m c t) (X1 m c t) (X2 m c t) (X3 m c t) (X4 m c t) (X5 m c t) (X6 m c t) (ix2 j p) = entry_7 m c (ix2 r q) := by
  obtain rfl : q = p := Fin.ext (by omega)
  refine (outA_eq _ _ _ _ _ _ _ j q).trans ?_
  unfold entry_7
  rw [row_eq m c t j r hr]
  rfl

/-- The second output block of point `t`, read in the arguments. -/
theorem block_8_eq (c : Dev nD) (t : Fin cfg0.N) (j : Fin 512) (p : Fin 1) (r : Fin 16384) (q : Fin 1)
    (hr : r.val = (t.val) * 512 + j.val) (hq : q.val = 0 * 1 + p.val) :
    out0_8 (X0 m c t) (X1 m c t) (X2 m c t) (X3 m c t) (X4 m c t) (X5 m c t) (X6 m c t) (ix2 j p) = entry_8 m c (ix2 r q) := by
  obtain rfl : p = 0 := Fin.ext (by omega)
  refine (outB_eq _ _ _ _ _ _ _ j).trans ?_
  unfold entry_8
  rw [row_eq m c t j r hr]
  rfl

/-- The third output block of point `t`, read in the arguments. -/
theorem block_9_eq (c : Dev nD) (t : Fin cfg0.N) (j : Fin 512) (p : Fin 1024) (r : Fin 16384) (q : Fin 1024)
    (hr : r.val = (t.val) * 512 + j.val) (hq : q.val = 0 * 1024 + p.val) :
    out0_9 (X0 m c t) (X1 m c t) (X2 m c t) (X3 m c t) (X4 m c t) (X5 m c t) (X6 m c t) (ix2 j p) = entry_9 m c (ix2 r q) := by
  obtain rfl : q = p := Fin.ext (by omega)
  refine (outC_eq _ _ _ _ _ _ _ j q).trans ?_
  unfold entry_9
  rw [row_eq m c t j r hr]
  exact congrArg₂ (· + ·) (congrArg₂ (· * ·) rfl
      ((iblk_5 m c t 0 0 q 3 0 q (by show 3 = 3 * 1 + 0; omega) (by omega) (by omega)).trans (arr_5 m c 3 q)))
    ((iblk_6 m c t 0 0 q 3 0 q (by show 3 = 3 * 1 + 0; omega) (by omega) (by omega)).trans (arr_6 m c 3 q))

/-- The result as an array. -/
def result_7 (c : Dev nD) : Vec Ideal S16384x1024 .f32 := fun i => entry_7 m c i

theorem flushed_7_eq (c : Dev nD) (t : Fin cfg0.N) :
    (dats m 0 c).flushed 7 t = ((cfg0.win 7).blk t).view.read (Elt Ideal) (result_7 m c) := by
  rw [Value.flushed7]
  funext y
  rw [View.read_apply]
  exact eq_of_heq (HEq.trans (heq_of_eq (Cert.Rows.at_rows (out0_7 (X0 m c t) (X1 m c t) (X2 m c t) (X3 m c t) (X4 m c t) (X5 m c t) (X6 m c t)) (entry_7 m c) (index_7 t) (block_7_eq m c t) y _ rfl rfl)) (cast_heq _ _).symm)

theorem final_7_eq (c : Dev nD) : (dats m 0 c).arrAt 7 cfg0.N = result_7 m c :=
  (dats m 0 c).arrAt_eq_of_cover 7 (result_7 m c) (fun t _ => flushed_7_eq m c t)
    ((show (cfg0.win 7).Covers by decide +kernel).cover _ (Memref.isWhole_whole _))

/-- The result as an array. -/
def result_8 (c : Dev nD) : Vec Ideal S16384x1 .f32 := fun i => entry_8 m c i

theorem flushed_8_eq (c : Dev nD) (t : Fin cfg0.N) :
    (dats m 0 c).flushed 8 t = ((cfg0.win 8).blk t).view.read (Elt Ideal) (result_8 m c) := by
  rw [Value.flushed8]
  funext y
  rw [View.read_apply]
  exact eq_of_heq (HEq.trans (heq_of_eq (Cert.Rows.at_rows (out0_8 (X0 m c t) (X1 m c t) (X2 m c t) (X3 m c t) (X4 m c t) (X5 m c t) (X6 m c t)) (entry_8 m c) (index_8 t) (block_8_eq m c t) y _ rfl rfl)) (cast_heq _ _).symm)

theorem final_8_eq (c : Dev nD) : (dats m 0 c).arrAt 8 cfg0.N = result_8 m c :=
  (dats m 0 c).arrAt_eq_of_cover 8 (result_8 m c) (fun t _ => flushed_8_eq m c t)
    ((show (cfg0.win 8).Covers by decide +kernel).cover _ (Memref.isWhole_whole _))

/-- The result as an array. -/
def result_9 (c : Dev nD) : Vec Ideal S16384x1024 .bf16 := fun i => entry_9 m c i

theorem flushed_9_eq (c : Dev nD) (t : Fin cfg0.N) :
    (dats m 0 c).flushed 9 t = ((cfg0.win 9).blk t).view.read (Elt Ideal) (result_9 m c) := by
  rw [Value.flushed9]
  funext y
  rw [View.read_apply]
  exact eq_of_heq (HEq.trans (heq_of_eq (Cert.Rows.at_rows (out0_9 (X0 m c t) (X1 m c t) (X2 m c t) (X3 m c t) (X4 m c t) (X5 m c t) (X6 m c t)) (entry_9 m c) (index_9 t) (block_9_eq m c t) y _ rfl rfl)) (cast_heq _ _).symm)

theorem final_9_eq (c : Dev nD) : (dats m 0 c).arrAt 9 cfg0.N = result_9 m c :=
  (dats m 0 c).arrAt_eq_of_cover 9 (result_9 m c) (fun t _ => flushed_9_eq m c t)
    ((show (cfg0.win 9).Covers by decide +kernel).cover _ (Memref.isWhole_whole _))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v9_0) = result_7 m c
      ∧ r.2.mem ((c : Thread nD τ).loc main_v9_1) = result_8 m c
      ∧ r.2.mem ((c : Thread nD τ).loc main_v9_2) = result_9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_7_eq m c), (h c).2.1.trans (final_8_eq m c), (h c).2.2.1.trans (final_9_eq m c), (h c).2.2.2⟩) (Value.run_blocks m ρ)

end Cert.Kernel15Ideal.Prod

end
-- ==== Proof.DownLnRef.lean ====
/-
  The reference's normalisation after the down projection, at an index.
-/
module

public import proofs.«01_k».proof.Proof.Gen.Reference15Ideal.Read
public import Idealize.ShloMosaic.Lib.Pointwise
public import proofs.«01_k».proof.Proof.Norm

@[expose] public section

set_option maxRecDepth 16384

namespace Cert.Reference15Ideal.Prod

open Cert.Reference15Ideal Cert.Reference15Ideal.Gen Cert.Reference15Ideal.Read Idealize.ShloMosaic Idealize.ShloMosaic.TcCoe

open Cert.Norm

/-- Row `r` before the normalisation: the scaled residual, which is the layer before it scaled and shifted, and the product. -/
noncomputable def row (x0 : Vec Ideal S16384x2816 .f32) (x1 : Vec Ideal S2816x1024 .f32) (x2 : Vec Ideal S16384x1024 .f32) (x3 x4 : Vec Ideal S4x1024 .f32) (r : Fin 16384) (q : Fin 1024) : EReal :=
  FloatOps.ofBits (F := Ideal) .f32 0x3FD744FD#32 * (x2 (ix2 r q) * x3 (ix2 (3 : Fin 4) q) + x4 (ix2 (3 : Fin 4) q))
    + ∑ k : Fin 2816, x0 (ix2 r k) * x1 (ix2 k q)

/-- The row at an index. -/
theorem row_eq (x0 : Vec Ideal S16384x2816 .f32) (x1 : Vec Ideal S2816x1024 .f32) (x2 : Vec Ideal S16384x1024 .f32) (x3 x4 : Vec Ideal S4x1024 .f32) (r : Fin 16384) (q : Fin 1024) :
    val_main_v13 (F := Ideal) x0 x1 x2 x3 x4 (ix2 r q) = row x0 x1 x2 x3 x4 r q := by
  unfold val_main_v13 val_main_v12 val_main_v11 val_main_v10 val_main_cst val_main_v9 val_main_v8 val_main_v7 val_main_v6 val_main_v5 val_main_v4 val_main_v3 val_main_v2 val_main_v1 val_main_v0
  pointwise
  rfl

/-- The centred row, as the variance takes it. -/
theorem cent_eq (x0 : Vec Ideal S16384x2816 .f32) (x1 : Vec Ideal S2816x1024 .f32) (x2 : Vec Ideal S16384x1024 .f32) (x3 x4 : Vec Ideal S4x1024 .f32) (r : Fin 16384) (q : Fin 1024) :
    val_main_v23 (F := Ideal) x0 x1 x2 x3 x4 (ix2 r q) = cent (row x0 x1 x2 x3 x4 r) q := by
  unfold val_main_v23 val_main_v22 val_main_v21 val_main_v20 val_main_v19 val_main_v18 val_main_cst_1 val_main_cst_0
  pointwise
  simp only [row_eq]
  rfl

/-- The reciprocal of the standard deviation at an index. -/
theorem rstd_eq (x0 : Vec Ideal S16384x2816 .f32) (x1 : Vec Ideal S2816x1024 .f32) (x2 : Vec Ideal S16384x1024 .f32) (x3 x4 : Vec Ideal S4x1024 .f32) (r : Fin 16384) (z : Fin 1) :
    val_main_v31 (F := Ideal) x0 x1 x2 x3 x4 (ix2 r z) = rstd (row x0 x1 x2 x3 x4 r) := by
  unfold val_main_v31 val_main_v30 val_main_v29 val_main_v28 val_main_v27 val_main_v26 val_main_v25 val_main_v24 val_main_cst_4 val_main_cst_3 val_main_cst_2
  pointwise
  simp only [cent_eq]
  rfl

/-- The normalised row at an index. -/
theorem xhat_eq (x0 : Vec Ideal S16384x2816 .f32) (x1 : Vec Ideal S2816x1024 .f32) (x2 : Vec Ideal S16384x1024 .f32) (x3 x4 : Vec Ideal S4x1024 .f32) (r : Fin 16384) (q : Fin 1024) :
    val_main_v35 (F := Ideal) x0 x1 x2 x3 x4 (ix2 r q) = xhat (row x0 x1 x2 x3 x4 r) q := by
  have hc : val_main_v33 (F := Ideal) x0 x1 x2 x3 x4 (ix2 r q) = cent (row x0 x1 x2 x3 x4 r) q := by
    unfold val_main_v33 val_main_v32 val_main_v21 val_main_v20 val_main_v19 val_main_v18 val_main_cst_1 val_main_cst_0
    pointwise
    simp only [row_eq]
    rfl
  unfold val_main_v35 val_main_v34
  pointwise
  rw [hc, rstd_eq]
  rfl

/-- The layer's result at an index. -/
theorem out_eq (x0 : Vec Ideal S16384x2816 .f32) (x1 : Vec Ideal S2816x1024 .f32) (x2 : Vec Ideal S16384x1024 .f32) (x3 x4 : Vec Ideal S4x1024 .f32) (x5 x6 : Vec Ideal S4x1024 .f32) (r : Fin 16384) (q : Fin 1024) :
    val_main_v42 (F := Ideal) x0 x1 x2 x3 x4 x5 x6 (ix2 r q) = xhat (row x0 x1 x2 x3 x4 r) q * x5 (ix2 (3 : Fin 4) q) + x6 (ix2 (3 : Fin 4) q) := by
  unfold val_main_v42 val_main_v41 val_main_v40 val_main_v39 val_main_v38 val_main_v37 val_main_v36 val_main_v15 val_main_v14 val_main_v17 val_main_v16
  pointwise
  rw [xhat_eq]

end Cert.Reference15Ideal.Prod

end
-- ==== Proof.FfnBwdKernel.lean ====
/-
  The gradient of the up projection's two halves, as the call leaves it: the cotangent against the down projection's weights,
  times the derivative of the gated product.
-/
module

public import proofs.«01_k».proof.Proof.Rows
public import Idealize.ShloMosaic.Lib.Pipeline.ValueKit
public import proofs.«01_k».proof.Proof.Gen.Kernel16Ideal.Value
public import proofs.«01_k».proof.Proof.Canon
public import proofs.«01_k».proof.Proof.Sigmoid
public import Idealize.ShloMosaic.Lib.Tactic
public import Idealize.ShloMosaic.Lib.Pointwise

@[expose] public section

set_option maxRecDepth 16384

noncomputable section

namespace Cert.Kernel16Ideal.Prod

open Cert.Kernel16Ideal Cert.Kernel16Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

/-- The cotangent's row against one row of the weights. -/
def lin (x0 : Vec Ideal S1024x1024 .bf16) (x1 : Vec Ideal S1x1x704x1024 .bf16) (j : Fin 1024) (q : Fin 704) : EReal :=
  ∑ p : Fin 1024, x0 (ix2 j p) * x1 (ix4 0 0 q p)

/-- The first half's block. -/
theorem half_0 (x0 : Vec Ideal S1024x1024 .bf16) (x1 : Vec Ideal S1x1x704x1024 .bf16) (x2 : Vec Ideal S2x1x1024x704 .bf16) (j : Fin 1024) (q : Fin 704) :
    out0_3 x0 x1 x2 (ix4 0 0 j q) = lin x0 x1 j q * x2 (ix4 1 0 j q) * Cert.Sigmoid.dsilu (x2 (ix4 0 0 j q)) := by
  unfold out0_3
  rw [canon_out (Val := Elt Ideal) (S := S2x1x1024x704) (e := .bf16) ![1, 0, 0, 0] S1x1x1024x704.size _ _ _ (ix4 0 0 j q) (0 : Fin 4) (Or.inl (by show (0 : ℕ) < 1; omega))]
  rw [canon_in (Val := Elt Ideal) (S := S2x1x1024x704) (e := .bf16) ![0, 0, 0, 0] S1x1x1024x704.size _ _ _ (ix4 0 0 j q) (ix4 0 0 j q) (fun a => by match a with
        | ⟨0, _⟩ => rfl
        | ⟨1, _⟩ => rfl
        | ⟨2, _⟩ => show j.val = 0 + j.val; omega
        | ⟨3, _⟩ => show q.val = 0 + q.val; omega)]
  pointwise [k0_pay5, k0_pay4, k0_pay3, k0_pay2]
  unfold Cert.Sigmoid.dsilu lin
  rw [← Cert.Sigmoid.tanh_eq]

/-- The second half's block. -/
theorem half_1 (x0 : Vec Ideal S1024x1024 .bf16) (x1 : Vec Ideal S1x1x704x1024 .bf16) (x2 : Vec Ideal S2x1x1024x704 .bf16) (j : Fin 1024) (q : Fin 704) :
    out0_3 x0 x1 x2 (ix4 1 0 j q) = lin x0 x1 j q * (x2 (ix4 0 0 j q) * Ideal.logistic (x2 (ix4 0 0 j q))) := by
  unfold out0_3
  rw [canon_in (Val := Elt Ideal) (S := S2x1x1024x704) (e := .bf16) ![1, 0, 0, 0] S1x1x1024x704.size _ _ _ (ix4 1 0 j q) (ix4 0 0 j q) (fun a => by match a with
        | ⟨0, _⟩ => rfl
        | ⟨1, _⟩ => rfl
        | ⟨2, _⟩ => show j.val = 0 + j.val; omega
        | ⟨3, _⟩ => show q.val = 0 + q.val; omega)]
  pointwise [k0_pay1, k0_pay6, k0_pay4, k0_pay3, k0_pay2]
  unfold lin
  rw [← Cert.Sigmoid.tanh_eq]

abbrev arg_0 (c : Dev nD) : Vec Ideal S16384x5632 .f32 := m ((c : Thread nD τ).loc main_arg0)
abbrev arg_1 (c : Dev nD) : Vec Ideal S2816x1024 .f32 := m ((c : Thread nD τ).loc main_arg1)
abbrev arg_2 (c : Dev nD) : Vec Ideal S16384x1024 .f32 := m ((c : Thread nD τ).loc main_arg2)

/-! The arrays that the input windows read, their blocks at point `t`, and both at an index. -/

abbrev Arr0 (c : Dev nD) : Vec Ideal S16384x1024 .bf16 := V m c main_v3
abbrev X0 (c : Dev nD) (t : Fin cfg0.N) : Vec Ideal S1024x1024 .bf16 := iblk m c 0 t

theorem arr_0 (c : Dev nD) (r : Fin 16384) (p : Fin 1024) :
    Arr0 m c (ix2 r p) = arg_2 m c (ix2 r p) := by
  unfold Arr0 V
  after_results
  pointwise

abbrev Arr1 (c : Dev nD) : Vec Ideal S1x4x704x1024 .bf16 := V m c main_v5
abbrev X1 (c : Dev nD) (t : Fin cfg0.N) : Vec Ideal S1x1x704x1024 .bf16 := iblk m c 1 t

theorem arr_1 (c : Dev nD) (k : Fin 4) (p : Fin 704) (q : Fin 1024) (l : Fin 2816) (hl : l.val = 704 * k.val + p.val) :
    Arr1 m c (ix4 0 k p q) = arg_1 m c (ix2 l q) := by
  unfold Arr1 V
  after_results
  pointwise
  exact congrArg (fun z => arg_1 m c (ix2 z q)) (Fin.ext (by dsimp only; omega))

abbrev Arr2 (c : Dev nD) : Vec Ideal S2x4x16384x704 .bf16 := V m c main_v2
abbrev X2 (c : Dev nD) (t : Fin cfg0.N) : Vec Ideal S2x1x1024x704 .bf16 := iblk m c 2 t

theorem arr_2 (c : Dev nD) (s : Fin 2) (k : Fin 4) (r : Fin 16384) (q : Fin 704) (l : Fin 5632) (hl : l.val = 704 * (4 * s.val + k.val) + q.val) :
    Arr2 m c (ix4 s k r q) = arg_0 m c (ix2 r l) := by
  unfold Arr2 V
  after_results
  pointwise
  exact congrArg (fun z => arg_0 m c (ix2 r z)) (Fin.ext (by dsimp only; omega))

theorem index_0 : ∀ t : Fin cfg0.N, win0_0.index t 0 = t.val % 16 ∧ win0_0.index t 1 = 0 :=
  (by decide +kernel : ∀ t : Fin grid0.N, _)

theorem iblk_0 (c : Dev nD) (t : Fin cfg0.N) (j0 : Fin 1024) (j1 : Fin 1024) (r0 : Fin 16384) (r1 : Fin 1024)
    (h0 : r0.val = (t.val % 16) * 1024 + j0.val) (h1 : r1.val = (0) * 1024 + j1.val) :
    X0 m c t (ix2 j0 j1) = Arr0 m c (ix2 r0 r1) := by
  unfold X0 iblk
  rw [View.read_apply]
  exact congrArg (V m c main_v3) (Cert.Rows.ix2_of (index_0 t) h0 h1 rfl rfl)

theorem index_1 : ∀ t : Fin cfg0.N, win0_1.index t 0 = 0 ∧ win0_1.index t 1 = t.val / 16 ∧ win0_1.index t 2 = 0 ∧ win0_1.index t 3 = 0 :=
  (by decide +kernel : ∀ t : Fin grid0.N, _)

theorem iblk_1 (c : Dev nD) (t : Fin cfg0.N) (j0 : Fin 1) (j1 : Fin 1) (j2 : Fin 704) (j3 : Fin 1024) (r0 : Fin 1) (r1 : Fin 4) (r2 : Fin 704) (r3 : Fin 1024)
    (h0 : r0.val = (0) * 1 + j0.val) (h1 : r1.val = (t.val / 16) * 1 + j1.val) (h2 : r2.val = (0) * 704 + j2.val) (h3 : r3.val = (0) * 1024 + j3.val) :
    X1 m c t (ix4 j0 j1 j2 j3) = Arr1 m c (ix4 r0 r1 r2 r3) := by
  have hi := index_1 t
  unfold X1 iblk
  rw [View.read_apply]
  show V m c main_v5 _ = V m c main_v5 _
  congr 1
  funext a
  apply Fin.ext
  match a with
  | ⟨0, _⟩ => show win0_1.index t 0 * 1 + 1 * j0.val = r0.val; rw [hi.1, h0]; omega
  | ⟨1, _⟩ => show win0_1.index t 1 * 1 + 1 * j1.val = r1.val; rw [hi.2.1, h1]; omega
  | ⟨2, _⟩ => show win0_1.index t 2 * 704 + 1 * j2.val = r2.val; rw [hi.2.2.1, h2]; omega
  | ⟨3, _⟩ => show win0_1.index t 3 * 1024 + 1 * j3.val = r3.val; rw [hi.2.2.2, h3]; omega

theorem index_2 : ∀ t : Fin cfg0.N, win0_2.index t 0 = 0 ∧ win0_2.index t 1 = t.val / 16 ∧ win0_2.index t 2 = t.val % 16 ∧ win0_2.index t 3 = 0 :=
  (by decide +kernel : ∀ t : Fin grid0.N, _)

theorem iblk_2 (c : Dev nD) (t : Fin cfg0.N) (j0 : Fin 2) (j1 : Fin 1) (j2 : Fin 1024) (j3 : Fin 704) (r0 : Fin 2) (r1 : Fin 4) (r2 : Fin 16384) (r3 : Fin 704)
    (h0 : r0.val = (0) * 2 + j0.val) (h1 : r1.val = (t.val / 16) * 1 + j1.val) (h2 : r2.val = (t.val % 16) * 1024 + j2.val) (h3 : r3.val = (0) * 704 + j3.val) :
    X2 m c t (ix4 j0 j1 j2 j3) = Arr2 m c (ix4 r0 r1 r2 r3) := by
  have hi := index_2 t
  unfold X2 iblk
  rw [View.read_apply]
  show V m c main_v2 _ = V m c main_v2 _
  congr 1
  funext a
  apply Fin.ext
  match a with
  | ⟨0, _⟩ => show win0_2.index t 0 * 2 + 1 * j0.val = r0.val; rw [hi.1, h0]; omega
  | ⟨1, _⟩ => show win0_2.index t 1 * 1 + 1 * j1.val = r1.val; rw [hi.2.1, h1]; omega
  | ⟨2, _⟩ => show win0_2.index t 2 * 1024 + 1 * j2.val = r2.val; rw [hi.2.2.1, h2]; omega
  | ⟨3, _⟩ => show win0_2.index t 3 * 704 + 1 * j3.val = r3.val; rw [hi.2.2.2, h3]; omega

theorem index_3 : ∀ t : Fin cfg0.N, win0_3.index t 0 = 0 ∧ win0_3.index t 1 = t.val / 16 ∧ win0_3.index t 2 = t.val % 16 ∧ win0_3.index t 3 = 0 :=
  (by decide +kernel : ∀ t : Fin grid0.N, _)

/-- The cotangent's row `r` against the weights' row `l`. -/
def prod (c : Dev nD) (r : Fin 16384) (l : Fin 2816) : EReal :=
  ∑ p : Fin 1024, arg_2 m c (ix2 r p) * arg_1 m c (ix2 l p)

/-- One product of a point's blocks, read in the arguments. -/
theorem lin_eq (c : Dev nD) (t : Fin cfg0.N) (j : Fin 1024) (q : Fin 704) (r : Fin 16384) (k : Fin 4) (l : Fin 2816)
    (hr : r.val = (t.val % 16) * 1024 + j.val) (hk : k.val = t.val / 16) (hl : l.val = 704 * k.val + q.val) :
    lin (X0 m c t) (X1 m c t) j q = prod m c r l := by
  unfold lin prod
  refine Finset.sum_congr rfl fun p _ => ?_
  exact congrArg₂ (· * ·) ((iblk_0 m c t j p r p hr (by omega)).trans (arr_0 m c r p))
    ((iblk_1 m c t 0 0 q p 0 k q p (by omega) (by show k.val = _ * 1 + 0; omega) (by omega) (by omega)).trans (arr_1 m c k q p l hl))

/-- The saved halves of a point, read in the argument. -/
theorem saved_eq (c : Dev nD) (t : Fin cfg0.N) (s : Fin 2) (j : Fin 1024) (q : Fin 704) (r : Fin 16384) (k : Fin 4) (l : Fin 5632)
    (hr : r.val = (t.val % 16) * 1024 + j.val) (hk : k.val = t.val / 16) (hl : l.val = 704 * (4 * s.val + k.val) + q.val) :
    X2 m c t (ix4 s 0 j q) = arg_0 m c (ix2 r l) :=
  (iblk_2 m c t s 0 j q s k r q (by omega) (by show k.val = _ * 1 + 0; omega) hr (by omega)).trans (arr_2 m c s k r q l hl)

/-- An entry of the result: the first half's at `s = 0`, the second's at `s = 1`. -/
def entryAt (c : Dev nD) (s : Fin 2) (k : Fin 4) (r : Fin 16384) (q : Fin 704) : EReal :=
  if s = 0 then prod m c r ⟨704 * k.val + q.val, by omega⟩ * arg_0 m c (ix2 r ⟨2816 + (704 * k.val + q.val), by omega⟩)
      * Cert.Sigmoid.dsilu (arg_0 m c (ix2 r ⟨704 * k.val + q.val, by omega⟩))
  else prod m c r ⟨704 * k.val + q.val, by omega⟩
      * (arg_0 m c (ix2 r ⟨704 * k.val + q.val, by omega⟩) * Ideal.logistic (arg_0 m c (ix2 r ⟨704 * k.val + q.val, by omega⟩)))

/-- An entry of the result. -/
def entry (c : Dev nD) (i : S2x4x16384x704.Idx) : EReal := entryAt m c (i 0) (i 1) (i 2) (i 3)

/-- The output block of point `t`, read in the arguments. -/
theorem block_eq (c : Dev nD) (t : Fin cfg0.N) (s : Fin 2) (z : Fin 1) (j : Fin 1024) (q : Fin 704) (s' : Fin 2) (k : Fin 4) (r : Fin 16384) (q' : Fin 704)
    (hs : s'.val = 0 * 2 + s.val) (hk : k.val = (t.val / 16) * 1 + z.val) (hr : r.val = (t.val % 16) * 1024 + j.val) (hq : q'.val = 0 * 704 + q.val) :
    out0_3 (X0 m c t) (X1 m c t) (X2 m c t) (ix4 s z j q) = entry m c (ix4 s' k r q') := by
  obtain rfl : s' = s := Fin.ext (by omega)
  obtain rfl : q' = q := Fin.ext (by omega)
  obtain rfl : z = 0 := Fin.ext (by omega)
  have hk' : k.val = t.val / 16 := by have h : k.val = (t.val / 16) * 1 + 0 := hk; omega
  have hp := lin_eq m c t j q' r k ⟨704 * k.val + q'.val, by omega⟩ hr hk' rfl
  have hg := saved_eq m c t 0 j q' r k ⟨704 * k.val + q'.val, by omega⟩ hr hk' (by show 704 * k.val + q'.val = 704 * (4 * 0 + k.val) + q'.val; omega)
  have hu := saved_eq m c t 1 j q' r k ⟨2816 + (704 * k.val + q'.val), by omega⟩ hr hk' (by show 2816 + (704 * k.val + q'.val) = 704 * (4 * 1 + k.val) + q'.val; omega)
  match s', hs with
  | ⟨0, _⟩, _ =>
    refine (half_0 _ _ _ j q').trans ?_
    rw [hp, hg, hu]
    rfl
  | ⟨1, _⟩, _ =>
    refine (half_1 _ _ _ j q').trans ?_
    rw [hp, hg]
    rfl

/-- The result as an array. -/
def result (c : Dev nD) : Vec Ideal S2x4x16384x704 .bf16 := fun i => entry m c i

theorem flushed_eq (c : Dev nD) (t : Fin cfg0.N) :
    (dats m 0 c).flushed 3 t = ((cfg0.win 3).blk t).view.read (Elt Ideal) (result m c) := by
  rw [Value.flushed3]
  have hi := index_3 t
  have ht : t.val < 64 := t.isLt
  funext y
  rw [View.read_apply]
  have hy0 : (y 0 : ℕ) < 2 := (y 0).isLt
  have hy1 : (y 1 : ℕ) < 1 := (y 1).isLt
  have hy2 : (y 2 : ℕ) < 1024 := (y 2).isLt
  have hy3 : (y 3 : ℕ) < 704 := (y 3).isLt
  have e0 : ((((cfg0.win 3).blk t).view.emb y) 0 : ℕ) = (0) * 2 + (y 0 : ℕ) := by
    show win0_3.index t 0 * 2 + 1 * (y 0 : ℕ) = _
    rw [hi.1]; omega
  have e1 : ((((cfg0.win 3).blk t).view.emb y) 1 : ℕ) = (t.val / 16) * 1 + (y 1 : ℕ) := by
    show win0_3.index t 1 * 1 + 1 * (y 1 : ℕ) = _
    rw [hi.2.1]; omega
  have e2 : ((((cfg0.win 3).blk t).view.emb y) 2 : ℕ) = (t.val % 16) * 1024 + (y 2 : ℕ) := by
    show win0_3.index t 2 * 1024 + 1 * (y 2 : ℕ) = _
    rw [hi.2.2.1]; omega
  have e3 : ((((cfg0.win 3).blk t).view.emb y) 3 : ℕ) = (0) * 704 + (y 3 : ℕ) := by
    show win0_3.index t 3 * 704 + 1 * (y 3 : ℕ) = _
    rw [hi.2.2.2]; omega
  have hy : (y : S2x1x1024x704.Idx) = ix4 (⟨(y 0 : ℕ), hy0⟩ : Fin 2) (⟨(y 1 : ℕ), hy1⟩ : Fin 1) (⟨(y 2 : ℕ), hy2⟩ : Fin 1024) (⟨(y 3 : ℕ), hy3⟩ : Fin 704) := by
    funext a
    match a with
    | ⟨0, _⟩ => rfl
    | ⟨1, _⟩ => rfl
    | ⟨2, _⟩ => rfl
    | ⟨3, _⟩ => rfl
  refine eq_of_heq (HEq.trans (heq_of_eq (?_ : (out0_3 (X0 m c t) (X1 m c t) (X2 m c t)) y = entry m c (((cfg0.win 3).blk t).view.emb y))) (cast_heq _ _).symm)
  rw [show (out0_3 (X0 m c t) (X1 m c t) (X2 m c t)) y = (out0_3 (X0 m c t) (X1 m c t) (X2 m c t)) (ix4 (⟨(y 0 : ℕ), hy0⟩ : Fin 2) (⟨(y 1 : ℕ), hy1⟩ : Fin 1) (⟨(y 2 : ℕ), hy2⟩ : Fin 1024) (⟨(y 3 : ℕ), hy3⟩ : Fin 704)) from congrArg _ hy]
  refine (block_eq m c t (⟨(y 0 : ℕ), hy0⟩ : Fin 2) (⟨(y 1 : ℕ), hy1⟩ : Fin 1) (⟨(y 2 : ℕ), hy2⟩ : Fin 1024) (⟨(y 3 : ℕ), hy3⟩ : Fin 704) (((cfg0.win 3).blk t).view.emb y 0) (((cfg0.win 3).blk t).view.emb y 1) (((cfg0.win 3).blk t).view.emb y 2) (((cfg0.win 3).blk t).view.emb y 3) e0 e1 e2 e3).trans ?_
  refine congrArg (entry m c) ?_
  funext a
  match a with
  | ⟨0, _⟩ => rfl
  | ⟨1, _⟩ => rfl
  | ⟨2, _⟩ => rfl
  | ⟨3, _⟩ => rfl

theorem final_eq (c : Dev nD) : (dats m 0 c).arrAt 3 cfg0.N = result m c :=
  (dats m 0 c).arrAt_eq_of_cover 3 (result m c) (fun t _ => flushed_eq m c t)
    ((show (cfg0.win 3).Covers by decide +kernel).cover _ (Memref.isWhole_whole _))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m c), (h c).2⟩) (Value.run_blocks m ρ)

end Cert.Kernel16Ideal.Prod

end
-- ==== Proof.FfnBwdRef.lean ====
/-
  The reference's gradient of the up projection's two halves, at an index.
-/
module

public import proofs.«01_k».proof.Proof.Gen.Reference16Ideal.Read
public import proofs.«01_k».proof.Proof.Sigmoid
public import Idealize.ShloMosaic.Lib.Pointwise
public import Idealize.ShloMosaic.Lib.IdealHost

@[expose] public section

set_option maxRecDepth 16384

namespace Cert.Reference16Ideal.Prod

open Cert.Reference16Ideal Cert.Reference16Ideal.Gen Cert.Reference16Ideal.Read Idealize.ShloMosaic Idealize.ShloMosaic.TcCoe

/-- The cotangent's row `r` against the weights' row `l`. -/
noncomputable def prod (x1 : Vec Ideal S2816x1024 .f32) (x2 : Vec Ideal S16384x1024 .f32) (r : Fin 16384) (l : Fin 2816) : EReal :=
  ∑ p : Fin 1024, x2 (ix2 r p) * x1 (ix2 l p)

/-- The product at an index. -/
theorem prod_eq (x1 : Vec Ideal S2816x1024 .f32) (x2 : Vec Ideal S16384x1024 .f32) (r : Fin 16384) (l : Fin 2816) :
    val_main_v7 (F := Ideal) x1 x2 (ix2 r l) = prod x1 x2 r l := by
  unfold val_main_v7
  pointwise
  rfl

/-- The first saved half. -/
theorem gate_eq (x0 : Vec Ideal S16384x5632 .f32) (r : Fin 16384) (q : Fin 2816) (l : Fin 5632) (hl : l.val = q.val) :
    val_main_v0 (F := Ideal) x0 (ix2 r q) = x0 (ix2 r l) := by
  unfold val_main_v0
  pointwise
  exact congrArg (fun z => x0 (ix2 r z)) (Fin.ext (by dsimp only; omega))

/-- The second saved half. -/
theorem up_eq (x0 : Vec Ideal S16384x5632 .f32) (r : Fin 16384) (q : Fin 2816) (l : Fin 5632) (hl : l.val = 2816 + q.val) :
    val_main_v1 (F := Ideal) x0 (ix2 r q) = x0 (ix2 r l) := by
  unfold val_main_v1
  pointwise
  exact congrArg (fun z => x0 (ix2 r z)) (Fin.ext (by dsimp only; omega))

/-- The logistic function of the first half. -/
theorem sg_eq (x0 : Vec Ideal S16384x5632 .f32) (r : Fin 16384) (q : Fin 2816) (l : Fin 5632) (hl : l.val = q.val) :
    val_main_v2_2 (F := Ideal) x0 (ix2 r q) = Ideal.logistic (x0 (ix2 r l)) := by
  unfold val_main_v2_2 val_main_call0_v4 val_main_call0_cst_0 val_main_call0_v3 val_main_call0_v2 val_main_call0_cst val_main_call0_v1 val_main_call0_v0
  pointwise
  rw [gate_eq x0 r q l hl]
  unfold Ideal.logistic
  rw [← Ideal.ofBits_one_f32]

/-- The first half times its logistic function. -/
theorem silu_eq (x0 : Vec Ideal S16384x5632 .f32) (r : Fin 16384) (q : Fin 2816) (l : Fin 5632) (hl : l.val = q.val) :
    val_main_v2_0 (F := Ideal) x0 (ix2 r q) = x0 (ix2 r l) * Ideal.logistic (x0 (ix2 r l)) := by
  unfold val_main_v2_0
  pointwise
  rw [gate_eq x0 r q l hl, sg_eq x0 r q l hl]

/-- Its derivative. -/
theorem dsilu_eq (x0 : Vec Ideal S16384x5632 .f32) (r : Fin 16384) (q : Fin 2816) (l : Fin 5632) (hl : l.val = q.val) :
    val_main_v4 (F := Ideal) x0 (ix2 r q) = Cert.Sigmoid.dsilu (x0 (ix2 r l)) := by
  rw [← Cert.Sigmoid.dsilu_eq]
  unfold val_main_v4 val_main_call1_v1 val_main_call1_v2 val_main_call1_v0 val_main_v3 val_main_cst val_main_v2_1 val_main_call0_v7 val_main_call0_v6 val_main_call0_cst_1
  pointwise
  rw [gate_eq x0 r q l hl, sg_eq x0 r q l hl]

/-- The first half of the stacked result. -/
theorem read16_0 (x0 : Vec Ideal S16384x5632 .f32) (x1 : Vec Ideal S2816x1024 .f32) (x2 : Vec Ideal S16384x1024 .f32) (k : Fin 4) (r : Fin 16384) (q : Fin 704)
    (l : Fin 2816) (hl : l.val = 704 * k.val + q.val) (lg lu : Fin 5632) (hg : lg.val = l.val) (hu : lu.val = 2816 + l.val) :
    val_main_v16 (F := Ideal) x0 x1 x2 (ix4 (0 : Fin 2) k r q) = prod x1 x2 r l * x0 (ix2 r lu) * Cert.Sigmoid.dsilu (x0 (ix2 r lg)) := by
  have h : val_main_v9 (F := Ideal) x0 x1 x2 (ix2 r l) = prod x1 x2 r l * x0 (ix2 r lu) * Cert.Sigmoid.dsilu (x0 (ix2 r lg)) := by
    unfold val_main_v9 val_main_v8
    pointwise
    rw [prod_eq, up_eq x0 r l lu hu, dsilu_eq x0 r l lg hg]
  refine Eq.trans ?_ h
  unfold val_main_v16 val_main_v15 val_main_v14 val_main_v13 val_main_v12 val_main_v11
  pointwise
  exact congrArg (fun z => val_main_v9 (F := Ideal) x0 x1 x2 (ix2 r z)) (Fin.ext (by dsimp only; omega))

/-- The second half of the stacked result. -/
theorem read16_1 (x0 : Vec Ideal S16384x5632 .f32) (x1 : Vec Ideal S2816x1024 .f32) (x2 : Vec Ideal S16384x1024 .f32) (k : Fin 4) (r : Fin 16384) (q : Fin 704)
    (l : Fin 2816) (hl : l.val = 704 * k.val + q.val) (lg : Fin 5632) (hg : lg.val = l.val) :
    val_main_v16 (F := Ideal) x0 x1 x2 (ix4 (1 : Fin 2) k r q) = prod x1 x2 r l * (x0 (ix2 r lg) * Ideal.logistic (x0 (ix2 r lg))) := by
  have h : val_main_v10 (F := Ideal) x0 x1 x2 (ix2 r l) = prod x1 x2 r l * (x0 (ix2 r lg) * Ideal.logistic (x0 (ix2 r lg))) := by
    unfold val_main_v10
    pointwise
    rw [prod_eq, silu_eq x0 r l lg hg]
  refine Eq.trans ?_ h
  unfold val_main_v16 val_main_v15 val_main_v14 val_main_v13 val_main_v12 val_main_v11
  pointwise
  exact congrArg (fun z => val_main_v10 (F := Ideal) x0 x1 x2 (ix2 r z)) (Fin.ext (by dsimp only; omega))

/-- The stacked result at an index. -/
theorem read16 (x0 : Vec Ideal S16384x5632 .f32) (x1 : Vec Ideal S2816x1024 .f32) (x2 : Vec Ideal S16384x1024 .f32) (s : Fin 2) (k : Fin 4) (r : Fin 16384) (q : Fin 704)
    (l : Fin 2816) (hl : l.val = 704 * k.val + q.val) (lg lu : Fin 5632) (hg : lg.val = l.val) (hu : lu.val = 2816 + l.val) :
    val_main_v16 (F := Ideal) x0 x1 x2 (ix4 s k r q) = if s = 0 then prod x1 x2 r l * x0 (ix2 r lu) * Cert.Sigmoid.dsilu (x0 (ix2 r lg))
      else prod x1 x2 r l * (x0 (ix2 r lg) * Ideal.logistic (x0 (ix2 r lg))) := by
  match s with
  | ⟨0, _⟩ => exact read16_0 x0 x1 x2 k r q l hl lg lu hg hu
  | ⟨1, _⟩ => exact read16_1 x0 x1 x2 k r q l hl lg hg

end Cert.Reference16Ideal.Prod

end
-- ==== Proof.PleRow.lean ====
/-
  One row of the per-layer embedding's gradient, from the row's data and the weights.
-/
module

public import proofs.«01_k».proof.Proof.Norm

@[expose] public section

noncomputable section

namespace Cert.PleRow

open Idealize.ShloMosaic

variable (d x : Fin 1024 → EReal) (e : Fin 256 → EReal) (w : Fin 1024 → Fin 1024 → EReal) (b : Fin 1024 → EReal)
  (wp : Fin 256 → Fin 1024 → EReal) (xh : Fin 1024 → EReal) (rs : EReal) (g : Fin 1024 → EReal)

/-- The gate: the logistic function of the row's product against the gate's weights. -/
def gate (q : Fin 1024) : EReal := Ideal.logistic ((∑ p : Fin 1024, x p * w p q) + b q)
/-- The embedding's projection. -/
def emb (q : Fin 1024) : EReal := ∑ l : Fin 256, e l * wp l q
/-- The gradient before the gate's logistic function. -/
def dpre (q : Fin 1024) : EReal := d q * emb e wp q * gate x w b q * (1 - gate x w b q)
/-- The gradient of the projection. -/
def dpp (q : Fin 1024) : EReal := d q * gate x w b q
/-- The gradient of the layer's input. -/
def dx (q : Fin 1024) : EReal := d q + ∑ p : Fin 1024, dpre d x e w b wp p * w q p
/-- The gradient of the normalised row. -/
def dxh (q : Fin 1024) : EReal := dx d x e w b wp q * g q
/-- The gradient of the row before the normalisation. -/
def dr (q : Fin 1024) : EReal := rs * (dxh d x e w b wp g q - Cert.Norm.mean (dxh d x e w b wp g)
  - xh q * Cert.Norm.mean fun p => dxh d x e w b wp g p * xh p)

end Cert.PleRow

end
-- ==== Proof.PleBwdBlock.lean ====
/-
  The gradient of the per-layer embedding, block by block: what a grid point leaves in each result's block, at an index.
-/
module

public import proofs.«01_k».proof.Proof.Gen.Kernel17Ideal.Value
public import proofs.«01_k».proof.Proof.Canon
public import proofs.«01_k».proof.Proof.Sigmoid
public import proofs.«01_k».proof.Proof.PleRow
public import Idealize.ShloMosaic.Lib.Tactic
public import Idealize.ShloMosaic.Lib.Pointwise

@[expose] public section

set_option maxRecDepth 16384

noncomputable section

namespace Cert.Kernel17Ideal.Prod

open Cert.Kernel17Ideal Cert.Kernel17Ideal.Gen Idealize.ShloMosaic Idealize.ShloMosaic.TcCoe Idealize.SL.Sem
open Idealize.ShloMosaic.Pipeline (Dat)
open Cert.Canon

theorem hz : (![0, 0] : Fin 2 → ℕ) = fun _ => 0 := funext fun a => by fin_cases a <;> rfl
theorem hz3 : (![0, 0, 0] : Fin 3 → ℕ) = fun _ => 0 := funext fun a => by fin_cases a <;> rfl

section
variable {x0 : Vec Ideal S512x1024 .f32} {x1 : Vec Ideal S512x1024 .bf16} {x2 : Vec Ideal S1x512x256 .f32} {x3 : Vec Ideal S1x1024x1024 .bf16} {x4 : Vec Ideal S1x1x1024 .f32} {x5 : Vec Ideal S1x256x1024 .bf16} {x6 : Vec Ideal S512x1024 .f32} {x7 : Vec Ideal S512x1 .f32} {x8 : Vec Ideal S1x1x1024 .f32}

/-- The gate at an index. -/
theorem gate_eq (j : Fin 512) (q : Fin 1024) : k0_pay4 x1 x3 x4 (ix2 j q) = Cert.PleRow.gate (fun p => x1 (ix2 j p)) (fun p q => x3 (ix3 0 p q)) (fun q => x4 (ix3 0 0 q)) q := by
  pointwise [k0_pay4]
  exact Cert.Sigmoid.tanh_eq _

/-- The gradient before the logistic function, at an index. -/
theorem dpre_eq (j : Fin 512) (q : Fin 1024) : k0_pay5 x0 x1 x3 x4 x2 x5 (ix2 j q) = Cert.PleRow.dpre (fun p => x0 (ix2 j p)) (fun p => x1 (ix2 j p)) (fun l => x2 (ix3 0 j l)) (fun p q => x3 (ix3 0 p q)) (fun q => x4 (ix3 0 0 q)) (fun l q => x5 (ix3 0 l q)) q := by
  pointwise [k0_pay5]
  rw [gate_eq]
  rfl

/-- Rounded, it is the same. -/
theorem dpreh_eq (j : Fin 512) (q : Fin 1024) : k0_pay6 x0 x1 x3 x4 x2 x5 (ix2 j q) = Cert.PleRow.dpre (fun p => x0 (ix2 j p)) (fun p => x1 (ix2 j p)) (fun l => x2 (ix3 0 j l)) (fun p q => x3 (ix3 0 p q)) (fun q => x4 (ix3 0 0 q)) (fun l q => x5 (ix3 0 l q)) q := by
  pointwise [k0_pay6]
  exact dpre_eq j q

/-- The projection's gradient at an index. -/
theorem dpp_eq (j : Fin 512) (q : Fin 1024) : k0_pay7 x0 x1 x3 x4 (ix2 j q) = Cert.PleRow.dpp (fun p => x0 (ix2 j p)) (fun p => x1 (ix2 j p)) (fun p q => x3 (ix3 0 p q)) (fun q => x4 (ix3 0 0 q)) q := by
  pointwise [k0_pay7]
  rw [gate_eq]
  rfl

/-- The gradient of the layer's input at an index. -/
theorem dx_eq (j : Fin 512) (q : Fin 1024) : k0_pay8 x0 (k0_pay6 x0 x1 x3 x4 x2 x5) x3 (ix2 j q) = Cert.PleRow.dx (fun p => x0 (ix2 j p)) (fun p => x1 (ix2 j p)) (fun l => x2 (ix3 0 j l)) (fun p q => x3 (ix3 0 p q)) (fun q => x4 (ix3 0 0 q)) (fun l q => x5 (ix3 0 l q)) q := by
  pointwise [k0_pay8]
  exact congrArg₂ (· + ·) rfl (Finset.sum_congr rfl fun p _ => congrArg (· * x3 (ix3 0 q p)) (dpreh_eq j p))

/-- The gradient of the row at an index. -/
theorem dr_eq (j : Fin 512) (q : Fin 1024) : k0_pay9 x0 (k0_pay6 x0 x1 x3 x4 x2 x5) x3 x6 x7 x8 (ix2 j q)
    = Cert.PleRow.dr (fun p => x0 (ix2 j p)) (fun p => x1 (ix2 j p)) (fun l => x2 (ix3 0 j l)) (fun p q => x3 (ix3 0 p q)) (fun q => x4 (ix3 0 0 q)) (fun l q => x5 (ix3 0 l q)) (fun p => x6 (ix2 j p)) (x7 (ix2 j 0)) (fun q => x8 (ix3 0 0 q)) q := by
  pointwise [k0_pay9]
  simp only [dx_eq]
  rfl

/-- Rounded, it is the same. -/
theorem drh_eq (j : Fin 512) (q : Fin 1024) : k0_pay10 x0 (k0_pay6 x0 x1 x3 x4 x2 x5) x3 x6 x7 x8 (ix2 j q)
    = Cert.PleRow.dr (fun p => x0 (ix2 j p)) (fun p => x1 (ix2 j p)) (fun l => x2 (ix3 0 j l)) (fun p q => x3 (ix3 0 p q)) (fun q => x4 (ix3 0 0 q)) (fun l q => x5 (ix3 0 l q)) (fun p => x6 (ix2 j p)) (x7 (ix2 j 0)) (fun q => x8 (ix3 0 0 q)) q := by
  pointwise [k0_pay10]
  exact dr_eq j q

/-- What a point adds to the bias' gradient. -/
theorem add_b_eq (v : Vec Ideal S1x1024 .f32) (q : Fin 1024) : k0_pay1 (k0_pay5 x0 x1 x3 x4 x2 x5) v (ix2 0 q)
    = v (ix2 0 q) + ∑ j : Fin 512, Cert.PleRow.dpre (fun p => x0 (ix2 j p)) (fun p => x1 (ix2 j p)) (fun l => x2 (ix3 0 j l)) (fun p q => x3 (ix3 0 p q)) (fun q => x4 (ix3 0 0 q)) (fun l q => x5 (ix3 0 l q)) q := by
  pointwise [k0_pay1]
  exact congrArg₂ (· + ·) rfl (Finset.sum_congr rfl fun j _ => dpre_eq j q)

/-- What a point adds to the scale's gradient. -/
theorem add_g_eq (v : Vec Ideal S1x1024 .f32) (q : Fin 1024) : k0_pay2 (k0_pay8 x0 (k0_pay6 x0 x1 x3 x4 x2 x5) x3) x6 v (ix2 0 q)
    = v (ix2 0 q) + ∑ j : Fin 512, Cert.PleRow.dx (fun p => x0 (ix2 j p)) (fun p => x1 (ix2 j p)) (fun l => x2 (ix3 0 j l)) (fun p q => x3 (ix3 0 p q)) (fun q => x4 (ix3 0 0 q)) (fun l q => x5 (ix3 0 l q)) q * x6 (ix2 j q) := by
  pointwise [k0_pay2]
  exact congrArg₂ (· + ·) rfl (Finset.sum_congr rfl fun j _ => congrArg (· * x6 (ix2 j q)) (dx_eq j q))

/-- What a point adds to the shift's gradient. -/
theorem add_s_eq (v : Vec Ideal S1x1024 .f32) (q : Fin 1024) : k0_pay3 (k0_pay8 x0 (k0_pay6 x0 x1 x3 x4 x2 x5) x3) v (ix2 0 q)
    = v (ix2 0 q) + ∑ j : Fin 512, Cert.PleRow.dx (fun p => x0 (ix2 j p)) (fun p => x1 (ix2 j p)) (fun l => x2 (ix3 0 j l)) (fun p q => x3 (ix3 0 p q)) (fun q => x4 (ix3 0 0 q)) (fun l q => x5 (ix3 0 l q)) q := by
  pointwise [k0_pay3]
  exact congrArg₂ (· + ·) rfl (Finset.sum_congr rfl fun j _ => dx_eq j q)

end

section
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1x512x256 .f32) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x256x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (x0 : Vec Ideal S512x1024 .f32) (x1 : Vec Ideal S512x1024 .bf16) (x2 : Vec Ideal S1x512x256 .f32) (x3 : Vec Ideal S1x1024x1024 .bf16) (x4 : Vec Ideal S1x1x1024 .f32) (x5 : Vec Ideal S1x256x1024 .bf16) (x6 : Vec Ideal S512x1024 .f32) (x7 : Vec Ideal S512x1 .f32) (x8 : Vec Ideal S1x1x1024 .f32)

/-- What the first point leaves of the row's gradient. -/
theorem out_A_9 (j : Fin 512) (q : Fin 1024) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 j q) = Cert.PleRow.dr (fun p => x0 (ix2 j p)) (fun p => x1 (ix2 j p)) (fun l => x2 (ix3 0 j l)) (fun p q => x3 (ix3 0 p q)) (fun q => x4 (ix3 0 0 q)) (fun l q => x5 (ix3 0 l q)) (fun p => x6 (ix2 j p)) (x7 (ix2 j 0)) (fun q => x8 (ix3 0 0 q)) q := by
  unfold out0_A_9
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S512x1024) (e := .f32) ![0, 0] ![512, 1024] inb_S512x1024_S512x1024_0_0 _ _ (ix2 j q) (ix2 j q) (fun a => by match a with
        | ⟨0, _⟩ => show j.val = 0 + j.val; omega
        | ⟨1, _⟩ => show q.val = 0 + q.val; omega)]
  exact dr_eq j q

/-- What the first point leaves of the row's gradient, rounded. -/
theorem out_A_10 (j : Fin 512) (q : Fin 1024) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 j q) = Cert.PleRow.dr (fun p => x0 (ix2 j p)) (fun p => x1 (ix2 j p)) (fun l => x2 (ix3 0 j l)) (fun p q => x3 (ix3 0 p q)) (fun q => x4 (ix3 0 0 q)) (fun l q => x5 (ix3 0 l q)) (fun p => x6 (ix2 j p)) (x7 (ix2 j 0)) (fun q => x8 (ix3 0 0 q)) q := by
  unfold out0_A_10
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S512x1024) (e := .bf16) ![0, 0] ![512, 1024] inb_S512x1024_S512x1024_0_0 _ _ (ix2 j q) (ix2 j q) (fun a => by match a with
        | ⟨0, _⟩ => show j.val = 0 + j.val; omega
        | ⟨1, _⟩ => show q.val = 0 + q.val; omega)]
  exact drh_eq j q

/-- What the first point leaves of the gradient before the logistic function. -/
theorem out_A_11 (j : Fin 512) (q : Fin 1024) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 j q) = Cert.PleRow.dpre (fun p => x0 (ix2 j p)) (fun p => x1 (ix2 j p)) (fun l => x2 (ix3 0 j l)) (fun p q => x3 (ix3 0 p q)) (fun q => x4 (ix3 0 0 q)) (fun l q => x5 (ix3 0 l q)) q := by
  unfold out0_A_11
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S512x1024) (e := .bf16) ![0, 0] ![512, 1024] inb_S512x1024_S512x1024_0_0 _ _ (ix2 j q) (ix2 j q) (fun a => by match a with
        | ⟨0, _⟩ => show j.val = 0 + j.val; omega
        | ⟨1, _⟩ => show q.val = 0 + q.val; omega)]
  exact dpreh_eq j q

/-- What the first point leaves of the projection's gradient. -/
theorem out_A_12 (j : Fin 512) (q : Fin 1024) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 j q) = Cert.PleRow.dpp (fun p => x0 (ix2 j p)) (fun p => x1 (ix2 j p)) (fun p q => x3 (ix3 0 p q)) (fun q => x4 (ix3 0 0 q)) q := by
  unfold out0_A_12
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S512x1024) (e := .bf16) ![0, 0] ![512, 1024] inb_S512x1024_S512x1024_0_0 _ _ (ix2 j q) (ix2 j q) (fun a => by match a with
        | ⟨0, _⟩ => show j.val = 0 + j.val; omega
        | ⟨1, _⟩ => show q.val = 0 + q.val; omega)]
  exact dpp_eq j q

/-- What the first point leaves of the bias' gradient. -/
theorem out_A_13 (q : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 0 q) = 0 + ∑ j : Fin 512, Cert.PleRow.dpre (fun p => x0 (ix2 j p)) (fun p => x1 (ix2 j p)) (fun l => x2 (ix3 0 j l)) (fun p q => x3 (ix3 0 p q)) (fun q => x4 (ix3 0 0 q)) (fun l q => x5 (ix3 0 l q)) q := by
  unfold out0_A_13
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S1x1024) (e := .f32) ![0, 0] ![1, 1024] inb_S1x1024_S1x1024_0_0 _ _ (ix2 0 q) (ix2 0 q) (fun a => by match a with
        | ⟨0, _⟩ => rfl
        | ⟨1, _⟩ => show q.val = 0 + q.val; omega)]
  rw [add_b_eq]
  refine congrArg₂ (· + ·) ?_ rfl
  rw [View.readCov_eq_canon']
  dsimp only
  rw [canon_in (Val := Elt Ideal) (S := S1x1024) (e := .f32) ![0, 0] ![1, 1024] inb_S1x1024_S1x1024_0_0 _ _ _ (ix2 0 q) (fun a => by match a with
        | ⟨0, _⟩ => rfl
        | ⟨1, _⟩ => show 0 + 1 * q.val = 0 + q.val; omega)]
  pointwise [k0_pay11]

/-- What the first point leaves of the scale's gradient. -/
theorem out_A_14 (q : Fin 1024) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 0 q) = 0 + ∑ j : Fin 512, Cert.PleRow.dx (fun p => x0 (ix2 j p)) (fun p => x1 (ix2 j p)) (fun l => x2 (ix3 0 j l)) (fun p q => x3 (ix3 0 p q)) (fun q => x4 (ix3 0 0 q)) (fun l q => x5 (ix3 0 l q)) q * x6 (ix2 j q) := by
  unfold out0_A_14
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S1x1024) (e := .f32) ![0, 0] ![1, 1024] inb_S1x1024_S1x1024_0_0 _ _ (ix2 0 q) (ix2 0 q) (fun a => by match a with
        | ⟨0, _⟩ => rfl
        | ⟨1, _⟩ => show q.val = 0 + q.val; omega)]
  rw [add_g_eq]
  refine congrArg₂ (· + ·) ?_ rfl
  rw [View.readCov_eq_canon']
  dsimp only
  rw [canon_in (Val := Elt Ideal) (S := S1x1024) (e := .f32) ![0, 0] ![1, 1024] inb_S1x1024_S1x1024_0_0 _ _ _ (ix2 0 q) (fun a => by match a with
        | ⟨0, _⟩ => rfl
        | ⟨1, _⟩ => show 0 + 1 * q.val = 0 + q.val; omega)]
  pointwise [k0_pay12]

/-- What the first point leaves of the shift's gradient. -/
theorem out_A_15 (q : Fin 1024) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 0 q) = 0 + ∑ j : Fin 512, Cert.PleRow.dx (fun p => x0 (ix2 j p)) (fun p => x1 (ix2 j p)) (fun l => x2 (ix3 0 j l)) (fun p q => x3 (ix3 0 p q)) (fun q => x4 (ix3 0 0 q)) (fun l q => x5 (ix3 0 l q)) q := by
  unfold out0_A_15
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S1x1024) (e := .f32) ![0, 0] ![1, 1024] inb_S1x1024_S1x1024_0_0 _ _ (ix2 0 q) (ix2 0 q) (fun a => by match a with
        | ⟨0, _⟩ => rfl
        | ⟨1, _⟩ => show q.val = 0 + q.val; omega)]
  rw [add_s_eq]
  refine congrArg₂ (· + ·) ?_ rfl
  rw [View.readCov_eq_canon']
  dsimp only
  rw [canon_in (Val := Elt Ideal) (S := S1x1024) (e := .f32) ![0, 0] ![1, 1024] inb_S1x1024_S1x1024_0_0 _ _ _ (ix2 0 q) (fun a => by match a with
        | ⟨0, _⟩ => rfl
        | ⟨1, _⟩ => show 0 + 1 * q.val = 0 + q.val; omega)]
  pointwise [k0_pay13]

end

section
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1x512x256 .f32) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x256x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (x0 : Vec Ideal S512x1024 .f32) (x1 : Vec Ideal S512x1024 .bf16) (x2 : Vec Ideal S1x512x256 .f32) (x3 : Vec Ideal S1x1024x1024 .bf16) (x4 : Vec Ideal S1x1x1024 .f32) (x5 : Vec Ideal S1x256x1024 .bf16) (x6 : Vec Ideal S512x1024 .f32) (x7 : Vec Ideal S512x1 .f32) (x8 : Vec Ideal S1x1x1024 .f32) (xo13 : Vec Ideal S1x1024 .f32) (xo14 : Vec Ideal S1x1024 .f32) (xo15 : Vec Ideal S1x1024 .f32)

/-- What a later point leaves of the row's gradient. -/
theorem out_B_9 (j : Fin 512) (q : Fin 1024) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo13 xo14 xo15 (ix2 j q) = Cert.PleRow.dr (fun p => x0 (ix2 j p)) (fun p => x1 (ix2 j p)) (fun l => x2 (ix3 0 j l)) (fun p q => x3 (ix3 0 p q)) (fun q => x4 (ix3 0 0 q)) (fun l q => x5 (ix3 0 l q)) (fun p => x6 (ix2 j p)) (x7 (ix2 j 0)) (fun q => x8 (ix3 0 0 q)) q := by
  unfold out0_B_9
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S512x1024) (e := .f32) ![0, 0] ![512, 1024] inb_S512x1024_S512x1024_0_0 _ _ (ix2 j q) (ix2 j q) (fun a => by match a with
        | ⟨0, _⟩ => show j.val = 0 + j.val; omega
        | ⟨1, _⟩ => show q.val = 0 + q.val; omega)]
  exact dr_eq j q

/-- What a later point leaves of the row's gradient, rounded. -/
theorem out_B_10 (j : Fin 512) (q : Fin 1024) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo13 xo14 xo15 (ix2 j q) = Cert.PleRow.dr (fun p => x0 (ix2 j p)) (fun p => x1 (ix2 j p)) (fun l => x2 (ix3 0 j l)) (fun p q => x3 (ix3 0 p q)) (fun q => x4 (ix3 0 0 q)) (fun l q => x5 (ix3 0 l q)) (fun p => x6 (ix2 j p)) (x7 (ix2 j 0)) (fun q => x8 (ix3 0 0 q)) q := by
  unfold out0_B_10
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S512x1024) (e := .bf16) ![0, 0] ![512, 1024] inb_S512x1024_S512x1024_0_0 _ _ (ix2 j q) (ix2 j q) (fun a => by match a with
        | ⟨0, _⟩ => show j.val = 0 + j.val; omega
        | ⟨1, _⟩ => show q.val = 0 + q.val; omega)]
  exact drh_eq j q

/-- What a later point leaves of the gradient before the logistic function. -/
theorem out_B_11 (j : Fin 512) (q : Fin 1024) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo13 xo14 xo15 (ix2 j q) = Cert.PleRow.dpre (fun p => x0 (ix2 j p)) (fun p => x1 (ix2 j p)) (fun l => x2 (ix3 0 j l)) (fun p q => x3 (ix3 0 p q)) (fun q => x4 (ix3 0 0 q)) (fun l q => x5 (ix3 0 l q)) q := by
  unfold out0_B_11
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S512x1024) (e := .bf16) ![0, 0] ![512, 1024] inb_S512x1024_S512x1024_0_0 _ _ (ix2 j q) (ix2 j q) (fun a => by match a with
        | ⟨0, _⟩ => show j.val = 0 + j.val; omega
        | ⟨1, _⟩ => show q.val = 0 + q.val; omega)]
  exact dpreh_eq j q

/-- What a later point leaves of the projection's gradient. -/
theorem out_B_12 (j : Fin 512) (q : Fin 1024) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo13 xo14 xo15 (ix2 j q) = Cert.PleRow.dpp (fun p => x0 (ix2 j p)) (fun p => x1 (ix2 j p)) (fun p q => x3 (ix3 0 p q)) (fun q => x4 (ix3 0 0 q)) q := by
  unfold out0_B_12
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S512x1024) (e := .bf16) ![0, 0] ![512, 1024] inb_S512x1024_S512x1024_0_0 _ _ (ix2 j q) (ix2 j q) (fun a => by match a with
        | ⟨0, _⟩ => show j.val = 0 + j.val; omega
        | ⟨1, _⟩ => show q.val = 0 + q.val; omega)]
  exact dpp_eq j q

/-- What a later point leaves of the bias' gradient. -/
theorem out_B_13 (q : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo13 xo14 xo15 (ix2 0 q) = xo13 (ix2 0 q) + ∑ j : Fin 512, Cert.PleRow.dpre (fun p => x0 (ix2 j p)) (fun p => x1 (ix2 j p)) (fun l => x2 (ix3 0 j l)) (fun p q => x3 (ix3 0 p q)) (fun q => x4 (ix3 0 0 q)) (fun l q => x5 (ix3 0 l q)) q := by
  unfold out0_B_13
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S1x1024) (e := .f32) ![0, 0] ![1, 1024] inb_S1x1024_S1x1024_0_0 _ _ (ix2 0 q) (ix2 0 q) (fun a => by match a with
        | ⟨0, _⟩ => rfl
        | ⟨1, _⟩ => show q.val = 0 + q.val; omega)]
  exact add_b_eq _ q

/-- What a later point leaves of the scale's gradient. -/
theorem out_B_14 (q : Fin 1024) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo13 xo14 xo15 (ix2 0 q) = xo14 (ix2 0 q) + ∑ j : Fin 512, Cert.PleRow.dx (fun p => x0 (ix2 j p)) (fun p => x1 (ix2 j p)) (fun l => x2 (ix3 0 j l)) (fun p q => x3 (ix3 0 p q)) (fun q => x4 (ix3 0 0 q)) (fun l q => x5 (ix3 0 l q)) q * x6 (ix2 j q) := by
  unfold out0_B_14
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S1x1024) (e := .f32) ![0, 0] ![1, 1024] inb_S1x1024_S1x1024_0_0 _ _ (ix2 0 q) (ix2 0 q) (fun a => by match a with
        | ⟨0, _⟩ => rfl
        | ⟨1, _⟩ => show q.val = 0 + q.val; omega)]
  exact add_g_eq _ q

/-- What a later point leaves of the shift's gradient. -/
theorem out_B_15 (q : Fin 1024) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo13 xo14 xo15 (ix2 0 q) = xo15 (ix2 0 q) + ∑ j : Fin 512, Cert.PleRow.dx (fun p => x0 (ix2 j p)) (fun p => x1 (ix2 j p)) (fun l => x2 (ix3 0 j l)) (fun p q => x3 (ix3 0 p q)) (fun q => x4 (ix3 0 0 q)) (fun l q => x5 (ix3 0 l q)) q := by
  unfold out0_B_15
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz, View.ld_unit_zero (S := S512x1) hz, View.ld_unit_zero (S := S1x1024) hz, View.ld_unit_zero (S := S1x512x256) hz3, View.ld_unit_zero (S := S1x1024x1024) hz3, View.ld_unit_zero (S := S1x1x1024) hz3, View.ld_unit_zero (S := S1x256x1024) hz3]
  rw [canon_in (Val := Elt Ideal) (S := S1x1024) (e := .f32) ![0, 0] ![1, 1024] inb_S1x1024_S1x1024_0_0 _ _ (ix2 0 q) (ix2 0 q) (fun a => by match a with
        | ⟨0, _⟩ => rfl
        | ⟨1, _⟩ => show q.val = 0 + q.val; omega)]
  exact add_s_eq _ q

end

end Cert.Kernel17Ideal.Prod

end
-- ==== Proof.PleBwdKernel.lean ====
/-
  The gradient of the per-layer embedding, as the call leaves it: the row's gradient twice, the two products' gradients, and
  the gradients of the bias, the scale and the shift, which the grid accumulates block by block.
-/
module

public import proofs.«01_k».proof.Proof.Rows
public import Idealize.ShloMosaic.Lib.Pipeline.ValueKit
public import proofs.«01_k».proof.Proof.PleBwdBlock
public import Idealize.ShloMosaic.Lib.Tactic
public import Idealize.ShloMosaic.Lib.Pointwise

@[expose] public section

set_option maxRecDepth 16384

noncomputable section

namespace Cert.Kernel17Ideal.Prod

open Cert.Kernel17Ideal Cert.Kernel17Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

abbrev arg_0 (c : Dev nD) : Vec Ideal S16384x1024 .f32 := m ((c : Thread nD τ).loc main_arg0)
abbrev arg_1 (c : Dev nD) : Vec Ideal S16384x1024 .f32 := m ((c : Thread nD τ).loc main_arg1)
abbrev arg_2 (c : Dev nD) : Vec Ideal S16384x1 .f32 := m ((c : Thread nD τ).loc main_arg2)
abbrev arg_3 (c : Dev nD) : Vec Ideal S4x1024 .f32 := m ((c : Thread nD τ).loc main_arg3)
abbrev arg_4 (c : Dev nD) : Vec Ideal S4x1024 .f32 := m ((c : Thread nD τ).loc main_arg4)
abbrev arg_5 (c : Dev nD) : Vec Ideal S4x16384x256 .f32 := m ((c : Thread nD τ).loc main_arg5)
abbrev arg_6 (c : Dev nD) : Vec Ideal S1024x1024 .f32 := m ((c : Thread nD τ).loc main_arg6)
abbrev arg_7 (c : Dev nD) : Vec Ideal S4x1024 .f32 := m ((c : Thread nD τ).loc main_arg7)
abbrev arg_8 (c : Dev nD) : Vec Ideal S4x256x1024 .f32 := m ((c : Thread nD τ).loc main_arg8)

/-! The arrays that the input windows read, their blocks at point `t`, and both at an index. -/

abbrev Arr0 (c : Dev nD) : Vec Ideal S16384x1024 .f32 := V m c main_arg0
abbrev X0 (c : Dev nD) (t : Fin cfg0.N) : Vec Ideal S512x1024 .f32 := iblk m c 0 t

theorem arr_0 (c : Dev nD) (r : Fin 16384) (p : Fin 1024) :
    Arr0 m c (ix2 r p) = arg_0 m c (ix2 r p) := by
  unfold Arr0 V
  after_results

abbrev Arr1 (c : Dev nD) : Vec Ideal S16384x1024 .bf16 := V m c main_v10
abbrev X1 (c : Dev nD) (t : Fin cfg0.N) : Vec Ideal S512x1024 .bf16 := iblk m c 1 t

theorem arr_1 (c : Dev nD) (r : Fin 16384) (p : Fin 1024) :
    Arr1 m c (ix2 r p) = arg_1 m c (ix2 r p) * arg_3 m c (ix2 (0 : Fin 4) p) + arg_4 m c (ix2 (0 : Fin 4) p) := by
  unfold Arr1 V
  after_results
  pointwise

abbrev Arr2 (c : Dev nD) : Vec Ideal S4x16384x256 .f32 := V m c main_arg5
abbrev X2 (c : Dev nD) (t : Fin cfg0.N) : Vec Ideal S1x512x256 .f32 := iblk m c 2 t

theorem arr_2 (c : Dev nD) (k : Fin 4) (r : Fin 16384) (p : Fin 256) :
    Arr2 m c (ix3 k r p) = arg_5 m c (ix3 k r p) := by
  unfold Arr2 V
  after_results

abbrev Arr3 (c : Dev nD) : Vec Ideal S1x1024x1024 .bf16 := V m c main_v12
abbrev X3 (c : Dev nD) (t : Fin cfg0.N) : Vec Ideal S1x1024x1024 .bf16 := iblk m c 3 t

theorem arr_3 (c : Dev nD) (p : Fin 1024) (q : Fin 1024) :
    Arr3 m c (ix3 0 p q) = arg_6 m c (ix2 p q) := by
  unfold Arr3 V
  after_results
  pointwise

abbrev Arr4 (c : Dev nD) : Vec Ideal S4x1x1024 .f32 := V m c main_v13
abbrev X4 (c : Dev nD) (t : Fin cfg0.N) : Vec Ideal S1x1x1024 .f32 := iblk m c 4 t

theorem arr_4 (c : Dev nD) (k : Fin 4) (q : Fin 1024) :
    Arr4 m c (ix3 k 0 q) = arg_7 m c (ix2 k q) := by
  unfold Arr4 V
  after_results
  pointwise

abbrev Arr5 (c : Dev nD) : Vec Ideal S4x256x1024 .bf16 := V m c main_v14
abbrev X5 (c : Dev nD) (t : Fin cfg0.N) : Vec Ideal S1x256x1024 .bf16 := iblk m c 5 t

theorem arr_5 (c : Dev nD) (k : Fin 4) (p : Fin 256) (q : Fin 1024) :
    Arr5 m c (ix3 k p q) = arg_8 m c (ix3 k p q) := by
  unfold Arr5 V
  after_results
  pointwise

abbrev Arr6 (c : Dev nD) : Vec Ideal S16384x1024 .f32 := V m c main_arg1
abbrev X6 (c : Dev nD) (t : Fin cfg0.N) : Vec Ideal S512x1024 .f32 := iblk m c 6 t

theorem arr_6 (c : Dev nD) (r : Fin 16384) (p : Fin 1024) :
    Arr6 m c (ix2 r p) = arg_1 m c (ix2 r p) := by
  unfold Arr6 V
  after_results

abbrev Arr7 (c : Dev nD) : Vec Ideal S16384x1 .f32 := V m c main_arg2
abbrev X7 (c : Dev nD) (t : Fin cfg0.N) : Vec Ideal S512x1 .f32 := iblk m c 7 t

theorem arr_7 (c : Dev nD) (r : Fin 16384) :
    Arr7 m c (ix2 r 0) = arg_2 m c (ix2 r 0) := by
  unfold Arr7 V
  after_results

abbrev Arr8 (c : Dev nD) : Vec Ideal S4x1x1024 .f32 := V m c main_v15
abbrev X8 (c : Dev nD) (t : Fin cfg0.N) : Vec Ideal S1x1x1024 .f32 := iblk m c 8 t

theorem arr_8 (c : Dev nD) (k : Fin 4) (q : Fin 1024) :
    Arr8 m c (ix3 k 0 q) = arg_3 m c (ix2 k q) := by
  unfold Arr8 V
  after_results
  pointwise

theorem index_0 : ∀ t : Fin cfg0.N, win0_0.index t 0 = t.val ∧ win0_0.index t 1 = 0 :=
  (by decide +kernel : ∀ t : Fin grid0.N, _)

theorem iblk_0 (c : Dev nD) (t : Fin cfg0.N) (j0 : Fin 512) (j1 : Fin 1024) (r0 : Fin 16384) (r1 : Fin 1024)
    (h0 : r0.val = (t.val) * 512 + j0.val) (h1 : r1.val = (0) * 1024 + j1.val) :
    X0 m c t (ix2 j0 j1) = Arr0 m c (ix2 r0 r1) := by
  unfold X0 iblk
  rw [View.read_apply]
  exact congrArg (V m c main_arg0) (Cert.Rows.ix2_of (index_0 t) h0 h1 rfl rfl)

theorem index_1 : ∀ t : Fin cfg0.N, win0_1.index t 0 = t.val ∧ win0_1.index t 1 = 0 :=
  (by decide +kernel : ∀ t : Fin grid0.N, _)

theorem iblk_1 (c : Dev nD) (t : Fin cfg0.N) (j0 : Fin 512) (j1 : Fin 1024) (r0 : Fin 16384) (r1 : Fin 1024)
    (h0 : r0.val = (t.val) * 512 + j0.val) (h1 : r1.val = (0) * 1024 + j1.val) :
    X1 m c t (ix2 j0 j1) = Arr1 m c (ix2 r0 r1) := by
  unfold X1 iblk
  rw [View.read_apply]
  exact congrArg (V m c main_v10) (Cert.Rows.ix2_of (index_1 t) h0 h1 rfl rfl)

theorem index_2 : ∀ t : Fin cfg0.N, win0_2.index t 0 = 0 ∧ win0_2.index t 1 = t.val ∧ win0_2.index t 2 = 0 :=
  (by decide +kernel : ∀ t : Fin grid0.N, _)

theorem iblk_2 (c : Dev nD) (t : Fin cfg0.N) (j0 : Fin 1) (j1 : Fin 512) (j2 : Fin 256) (r0 : Fin 4) (r1 : Fin 16384) (r2 : Fin 256)
    (h0 : r0.val = (0) * 1 + j0.val) (h1 : r1.val = (t.val) * 512 + j1.val) (h2 : r2.val = (0) * 256 + j2.val) :
    X2 m c t (ix3 j0 j1 j2) = Arr2 m c (ix3 r0 r1 r2) := by
  unfold X2 iblk
  rw [View.read_apply]
  exact congrArg (V m c main_arg5) (Cert.Rows.ix3_of (index_2 t) h0 h1 h2 rfl rfl rfl)

theorem index_3 : ∀ t : Fin cfg0.N, win0_3.index t 0 = 0 ∧ win0_3.index t 1 = 0 ∧ win0_3.index t 2 = 0 :=
  (by decide +kernel : ∀ t : Fin grid0.N, _)

theorem iblk_3 (c : Dev nD) (t : Fin cfg0.N) (j0 : Fin 1) (j1 : Fin 1024) (j2 : Fin 1024) (r0 : Fin 1) (r1 : Fin 1024) (r2 : Fin 1024)
    (h0 : r0.val = (0) * 1 + j0.val) (h1 : r1.val = (0) * 1024 + j1.val) (h2 : r2.val = (0) * 1024 + j2.val) :
    X3 m c t (ix3 j0 j1 j2) = Arr3 m c (ix3 r0 r1 r2) := by
  unfold X3 iblk
  rw [View.read_apply]
  exact congrArg (V m c main_v12) (Cert.Rows.ix3_of (index_3 t) h0 h1 h2 rfl rfl rfl)

theorem index_4 : ∀ t : Fin cfg0.N, win0_4.index t 0 = 0 ∧ win0_4.index t 1 = 0 ∧ win0_4.index t 2 = 0 :=
  (by decide +kernel : ∀ t : Fin grid0.N, _)

theorem iblk_4 (c : Dev nD) (t : Fin cfg0.N) (j0 : Fin 1) (j1 : Fin 1) (j2 : Fin 1024) (r0 : Fin 4) (r1 : Fin 1) (r2 : Fin 1024)
    (h0 : r0.val = (0) * 1 + j0.val) (h1 : r1.val = (0) * 1 + j1.val) (h2 : r2.val = (0) * 1024 + j2.val) :
    X4 m c t (ix3 j0 j1 j2) = Arr4 m c (ix3 r0 r1 r2) := by
  unfold X4 iblk
  rw [View.read_apply]
  exact congrArg (V m c main_v13) (Cert.Rows.ix3_of (index_4 t) h0 h1 h2 rfl rfl rfl)

theorem index_5 : ∀ t : Fin cfg0.N, win0_5.index t 0 = 0 ∧ win0_5.index t 1 = 0 ∧ win0_5.index t 2 = 0 :=
  (by decide +kernel : ∀ t : Fin grid0.N, _)

theorem iblk_5 (c : Dev nD) (t : Fin cfg0.N) (j0 : Fin 1) (j1 : Fin 256) (j2 : Fin 1024) (r0 : Fin 4) (r1 : Fin 256) (r2 : Fin 1024)
    (h0 : r0.val = (0) * 1 + j0.val) (h1 : r1.val = (0) * 256 + j1.val) (h2 : r2.val = (0) * 1024 + j2.val) :
    X5 m c t (ix3 j0 j1 j2) = Arr5 m c (ix3 r0 r1 r2) := by
  unfold X5 iblk
  rw [View.read_apply]
  exact congrArg (V m c main_v14) (Cert.Rows.ix3_of (index_5 t) h0 h1 h2 rfl rfl rfl)

theorem index_6 : ∀ t : Fin cfg0.N, win0_6.index t 0 = t.val ∧ win0_6.index t 1 = 0 :=
  (by decide +kernel : ∀ t : Fin grid0.N, _)

theorem iblk_6 (c : Dev nD) (t : Fin cfg0.N) (j0 : Fin 512) (j1 : Fin 1024) (r0 : Fin 16384) (r1 : Fin 1024)
    (h0 : r0.val = (t.val) * 512 + j0.val) (h1 : r1.val = (0) * 1024 + j1.val) :
    X6 m c t (ix2 j0 j1) = Arr6 m c (ix2 r0 r1) := by
  unfold X6 iblk
  rw [View.read_apply]
  exact congrArg (V m c main_arg1) (Cert.Rows.ix2_of (index_6 t) h0 h1 rfl rfl)

theorem index_7 : ∀ t : Fin cfg0.N, win0_7.index t 0 = t.val ∧ win0_7.index t 1 = 0 :=
  (by decide +kernel : ∀ t : Fin grid0.N, _)

theorem iblk_7 (c : Dev nD) (t : Fin cfg0.N) (j0 : Fin 512) (j1 : Fin 1) (r0 : Fin 16384) (r1 : Fin 1)
    (h0 : r0.val = (t.val) * 512 + j0.val) (h1 : r1.val = (0) * 1 + j1.val) :
    X7 m c t (ix2 j0 j1) = Arr7 m c (ix2 r0 r1) := by
  unfold X7 iblk
  rw [View.read_apply]
  exact congrArg (V m c main_arg2) (Cert.Rows.ix2_of (index_7 t) h0 h1 rfl rfl)

theorem index_8 : ∀ t : Fin cfg0.N, win0_8.index t 0 = 0 ∧ win0_8.index t 1 = 0 ∧ win0_8.index t 2 = 0 :=
  (by decide +kernel : ∀ t : Fin grid0.N, _)

theorem iblk_8 (c : Dev nD) (t : Fin cfg0.N) (j0 : Fin 1) (j1 : Fin 1) (j2 : Fin 1024) (r0 : Fin 4) (r1 : Fin 1) (r2 : Fin 1024)
    (h0 : r0.val = (0) * 1 + j0.val) (h1 : r1.val = (0) * 1 + j1.val) (h2 : r2.val = (0) * 1024 + j2.val) :
    X8 m c t (ix3 j0 j1 j2) = Arr8 m c (ix3 r0 r1 r2) := by
  unfold X8 iblk
  rw [View.read_apply]
  exact congrArg (V m c main_v15) (Cert.Rows.ix3_of (index_8 t) h0 h1 h2 rfl rfl rfl)

theorem index_9 : ∀ t : Fin cfg0.N, win0_9.index t 0 = t.val ∧ win0_9.index t 1 = 0 :=
  (by decide +kernel : ∀ t : Fin grid0.N, _)

theorem index_10 : ∀ t : Fin cfg0.N, win0_10.index t 0 = t.val ∧ win0_10.index t 1 = 0 :=
  (by decide +kernel : ∀ t : Fin grid0.N, _)

theorem index_11 : ∀ t : Fin cfg0.N, win0_11.index t 0 = t.val ∧ win0_11.index t 1 = 0 :=
  (by decide +kernel : ∀ t : Fin grid0.N, _)

theorem index_12 : ∀ t : Fin cfg0.N, win0_12.index t 0 = t.val ∧ win0_12.index t 1 = 0 :=
  (by decide +kernel : ∀ t : Fin grid0.N, _)

theorem index_13 : ∀ t : Fin cfg0.N, win0_13.index t 0 = 0 ∧ win0_13.index t 1 = 0 :=
  (by decide +kernel : ∀ t : Fin grid0.N, _)

theorem index_14 : ∀ t : Fin cfg0.N, win0_14.index t 0 = 0 ∧ win0_14.index t 1 = 0 :=
  (by decide +kernel : ∀ t : Fin grid0.N, _)

theorem index_15 : ∀ t : Fin cfg0.N, win0_15.index t 0 = 0 ∧ win0_15.index t 1 = 0 :=
  (by decide +kernel : ∀ t : Fin grid0.N, _)

/-- Row `r` of the cotangent. -/
def rowD (c : Dev nD) (r : Fin 16384) (p : Fin 1024) : EReal := arg_0 m c (ix2 r p)
/-- Row `r` of the layer's input: the normalised row, scaled and shifted. -/
def rowX (c : Dev nD) (r : Fin 16384) (p : Fin 1024) : EReal := arg_1 m c (ix2 r p) * arg_3 m c (ix2 (0 : Fin 4) p) + arg_4 m c (ix2 (0 : Fin 4) p)
/-- Row `r` of the embedding. -/
def rowE (c : Dev nD) (r : Fin 16384) (l : Fin 256) : EReal := arg_5 m c (ix3 (0 : Fin 4) r l)
/-- The gate's weights. -/
def wG (c : Dev nD) (p q : Fin 1024) : EReal := arg_6 m c (ix2 p q)
/-- The gate's bias. -/
def bG (c : Dev nD) (q : Fin 1024) : EReal := arg_7 m c (ix2 (0 : Fin 4) q)
/-- The projection's weights. -/
def wP (c : Dev nD) (l : Fin 256) (q : Fin 1024) : EReal := arg_8 m c (ix3 (0 : Fin 4) l q)
/-- Row `r` of the normalised rows. -/
def rowH (c : Dev nD) (r : Fin 16384) (p : Fin 1024) : EReal := arg_1 m c (ix2 r p)
/-- The scale. -/
def gN (c : Dev nD) (q : Fin 1024) : EReal := arg_3 m c (ix2 (0 : Fin 4) q)

section
variable (c : Dev nD) (t : Fin cfg0.N) (j : Fin 512) (r : Fin 16384)

theorem rowD_eq (hr : r.val = 512 * t.val + j.val) : (fun p => X0 m c t (ix2 j p)) = rowD m c r :=
  funext fun p => (iblk_0 m c t j p r p (by omega) (by omega)).trans (arr_0 m c r p)
theorem rowX_eq (hr : r.val = 512 * t.val + j.val) : (fun p => X1 m c t (ix2 j p)) = rowX m c r :=
  funext fun p => (iblk_1 m c t j p r p (by omega) (by omega)).trans (arr_1 m c r p)
theorem rowE_eq (hr : r.val = 512 * t.val + j.val) : (fun l => X2 m c t (ix3 0 j l)) = rowE m c r :=
  funext fun l => (iblk_2 m c t 0 j l 0 r l (by omega) (by omega) (by omega)).trans (arr_2 m c 0 r l)
theorem wG_eq : (fun p q => X3 m c t (ix3 0 p q)) = wG m c :=
  funext fun p => funext fun q => (iblk_3 m c t 0 p q 0 p q (by omega) (by omega) (by omega)).trans (arr_3 m c p q)
theorem bG_eq : (fun q => X4 m c t (ix3 0 0 q)) = bG m c :=
  funext fun q => (iblk_4 m c t 0 0 q 0 0 q (by omega) (by omega) (by omega)).trans (arr_4 m c 0 q)
theorem wP_eq : (fun l q => X5 m c t (ix3 0 l q)) = wP m c :=
  funext fun l => funext fun q => (iblk_5 m c t 0 l q 0 l q (by omega) (by omega) (by omega)).trans (arr_5 m c 0 l q)
theorem rowH_eq (hr : r.val = 512 * t.val + j.val) : (fun p => X6 m c t (ix2 j p)) = rowH m c r :=
  funext fun p => (iblk_6 m c t j p r p (by omega) (by omega)).trans (arr_6 m c r p)
theorem rS_eq (hr : r.val = 512 * t.val + j.val) : X7 m c t (ix2 j 0) = arg_2 m c (ix2 r 0) :=
  (iblk_7 m c t j 0 r 0 (by omega) (by omega)).trans (arr_7 m c r)
theorem gN_eq : (fun q => X8 m c t (ix3 0 0 q)) = gN m c :=
  funext fun q => (iblk_8 m c t 0 0 q 0 0 q (by omega) (by omega) (by omega)).trans (arr_8 m c 0 q)
end

/-- The gradient before the gate's logistic function. -/
def dpreAt (c : Dev nD) (r : Fin 16384) (q : Fin 1024) : EReal :=
  Cert.PleRow.dpre (rowD m c r) (rowX m c r) (rowE m c r) (wG m c) (bG m c) (wP m c) q
/-- The gradient of the layer's input. -/
def dxAt (c : Dev nD) (r : Fin 16384) (q : Fin 1024) : EReal :=
  Cert.PleRow.dx (rowD m c r) (rowX m c r) (rowE m c r) (wG m c) (bG m c) (wP m c) q
/-- An entry of the row's gradient. -/
def entry_9 (c : Dev nD) (i : S16384x1024.Idx) : EReal :=
  Cert.PleRow.dr (rowD m c (i 0)) (rowX m c (i 0)) (rowE m c (i 0)) (wG m c) (bG m c) (wP m c) (rowH m c (i 0)) (arg_2 m c (ix2 (i 0) 0)) (gN m c) (i 1)
/-- An entry of the row's gradient, rounded. -/
def entry_10 (c : Dev nD) (i : S16384x1024.Idx) : EReal := entry_9 m c i
/-- An entry of the gradient before the logistic function. -/
def entry_11 (c : Dev nD) (i : S16384x1024.Idx) : EReal := dpreAt m c (i 0) (i 1)
/-- An entry of the projection's gradient. -/
def entry_12 (c : Dev nD) (i : S16384x1024.Idx) : EReal :=
  Cert.PleRow.dpp (rowD m c (i 0)) (rowX m c (i 0)) (wG m c) (bG m c) (i 1)
/-- What row `n` adds to the bias' gradient. -/
def term_13 (c : Dev nD) (q : Fin 1024) (n : ℕ) : EReal := if h : n < 16384 then dpreAt m c ⟨n, h⟩ q else 0
/-- What row `n` adds to the scale's gradient. -/
def term_14 (c : Dev nD) (q : Fin 1024) (n : ℕ) : EReal := if h : n < 16384 then dxAt m c ⟨n, h⟩ q * rowH m c ⟨n, h⟩ q else 0
/-- What row `n` adds to the shift's gradient. -/
def term_15 (c : Dev nD) (q : Fin 1024) (n : ℕ) : EReal := if h : n < 16384 then dxAt m c ⟨n, h⟩ q else 0
/-- An entry of the bias' gradient. -/
def entry_13 (c : Dev nD) (i : S1x1024.Idx) : EReal := ∑ r : Fin 16384, dpreAt m c r (i 1)
/-- An entry of the scale's gradient. -/
def entry_14 (c : Dev nD) (i : S1x1024.Idx) : EReal := ∑ r : Fin 16384, dxAt m c r (i 1) * rowH m c r (i 1)
/-- An entry of the shift's gradient. -/
def entry_15 (c : Dev nD) (i : S1x1024.Idx) : EReal := ∑ r : Fin 16384, dxAt m c r (i 1)

/-- What point `t` leaves in the block of result 1, read in the arguments. -/
theorem after_9 (c : Dev nD) (t : Fin cfg0.N) (j : Fin 512) (p : Fin 1024) (r : Fin 16384) (q : Fin 1024)
    (hr : r.val = t.val * 512 + j.val) (hq : q.val = 0 * 1024 + p.val) :
    (outsAt0 m c t.val t.isLt).1 (ix2 j p) = entry_9 m c (ix2 r q) := by
  obtain rfl : q = p := Fin.ext (by omega)
  replace hr : r.val = 512 * t.val + j.val := by omega
  unfold entry_9
  by_cases h0 : t.val % 32 = 0
  · have e2 := congrArg (fun o => o.1 (ix2 j q)) (outsAt0_A m c t h0)
    dsimp only at e2
    have e := e2.trans (out_A_9 (x7 := X7 m c t) (x8 := X8 m c t) ..)
    rw [rowD_eq m c t j r hr, rowX_eq m c t j r hr, rowE_eq m c t j r hr, wG_eq m c t, bG_eq m c t, wP_eq m c t, rowH_eq m c t j r hr, rS_eq m c t j r hr, gN_eq m c t] at e
    exact e
  · have e2 := congrArg (fun o => o.1 (ix2 j q)) (outsAt0_B m c t h0)
    dsimp only at e2
    have e := e2.trans (out_B_9 (x7 := X7 m c t) (x8 := X8 m c t) ..)
    rw [rowD_eq m c t j r hr, rowX_eq m c t j r hr, rowE_eq m c t j r hr, wG_eq m c t, bG_eq m c t, wP_eq m c t, rowH_eq m c t j r hr, rS_eq m c t j r hr, gN_eq m c t] at e
    exact e

/-- What point `t` leaves in the block of result 2, read in the arguments. -/
theorem after_10 (c : Dev nD) (t : Fin cfg0.N) (j : Fin 512) (p : Fin 1024) (r : Fin 16384) (q : Fin 1024)
    (hr : r.val = t.val * 512 + j.val) (hq : q.val = 0 * 1024 + p.val) :
    (outsAt0 m c t.val t.isLt).2.1 (ix2 j p) = entry_10 m c (ix2 r q) := by
  obtain rfl : q = p := Fin.ext (by omega)
  replace hr : r.val = 512 * t.val + j.val := by omega
  unfold entry_10 entry_9
  by_cases h0 : t.val % 32 = 0
  · have e2 := congrArg (fun o => o.2.1 (ix2 j q)) (outsAt0_A m c t h0)
    dsimp only at e2
    have e := e2.trans (out_A_10 (x7 := X7 m c t) (x8 := X8 m c t) ..)
    rw [rowD_eq m c t j r hr, rowX_eq m c t j r hr, rowE_eq m c t j r hr, wG_eq m c t, bG_eq m c t, wP_eq m c t, rowH_eq m c t j r hr, rS_eq m c t j r hr, gN_eq m c t] at e
    exact e
  · have e2 := congrArg (fun o => o.2.1 (ix2 j q)) (outsAt0_B m c t h0)
    dsimp only at e2
    have e := e2.trans (out_B_10 (x7 := X7 m c t) (x8 := X8 m c t) ..)
    rw [rowD_eq m c t j r hr, rowX_eq m c t j r hr, rowE_eq m c t j r hr, wG_eq m c t, bG_eq m c t, wP_eq m c t, rowH_eq m c t j r hr, rS_eq m c t j r hr, gN_eq m c t] at e
    exact e

/-- What point `t` leaves in the block of result 3, read in the arguments. -/
theorem after_11 (c : Dev nD) (t : Fin cfg0.N) (j : Fin 512) (p : Fin 1024) (r : Fin 16384) (q : Fin 1024)
    (hr : r.val = t.val * 512 + j.val) (hq : q.val = 0 * 1024 + p.val) :
    (outsAt0 m c t.val t.isLt).2.2.1 (ix2 j p) = entry_11 m c (ix2 r q) := by
  obtain rfl : q = p := Fin.ext (by omega)
  replace hr : r.val = 512 * t.val + j.val := by omega
  unfold entry_11 dpreAt
  by_cases h0 : t.val % 32 = 0
  · have e2 := congrArg (fun o => o.2.2.1 (ix2 j q)) (outsAt0_A m c t h0)
    dsimp only at e2
    have e := e2.trans (out_A_11 ..)
    rw [rowD_eq m c t j r hr, rowX_eq m c t j r hr, rowE_eq m c t j r hr, wG_eq m c t, bG_eq m c t, wP_eq m c t] at e
    exact e
  · have e2 := congrArg (fun o => o.2.2.1 (ix2 j q)) (outsAt0_B m c t h0)
    dsimp only at e2
    have e := e2.trans (out_B_11 ..)
    rw [rowD_eq m c t j r hr, rowX_eq m c t j r hr, rowE_eq m c t j r hr, wG_eq m c t, bG_eq m c t, wP_eq m c t] at e
    exact e

/-- What point `t` leaves in the block of result 4, read in the arguments. -/
theorem after_12 (c : Dev nD) (t : Fin cfg0.N) (j : Fin 512) (p : Fin 1024) (r : Fin 16384) (q : Fin 1024)
    (hr : r.val = t.val * 512 + j.val) (hq : q.val = 0 * 1024 + p.val) :
    (outsAt0 m c t.val t.isLt).2.2.2.1 (ix2 j p) = entry_12 m c (ix2 r q) := by
  obtain rfl : q = p := Fin.ext (by omega)
  replace hr : r.val = 512 * t.val + j.val := by omega
  unfold entry_12
  by_cases h0 : t.val % 32 = 0
  · have e2 := congrArg (fun o => o.2.2.2.1 (ix2 j q)) (outsAt0_A m c t h0)
    dsimp only at e2
    have e := e2.trans (out_A_12 ..)
    rw [rowD_eq m c t j r hr, rowX_eq m c t j r hr, wG_eq m c t, bG_eq m c t] at e
    exact e
  · have e2 := congrArg (fun o => o.2.2.2.1 (ix2 j q)) (outsAt0_B m c t h0)
    dsimp only at e2
    have e := e2.trans (out_B_12 ..)
    rw [rowD_eq m c t j r hr, rowX_eq m c t j r hr, wG_eq m c t, bG_eq m c t] at e
    exact e

/-- The result as an array. -/
def result_9 (c : Dev nD) : Vec Ideal S16384x1024 .f32 := fun i => entry_9 m c i

theorem flushed_9_eq (c : Dev nD) (t : Fin cfg0.N) :
    (dats m 0 c).flushed 9 t = ((cfg0.win 9).blk t).view.read (Elt Ideal) (result_9 m c) := by
  rw [Value.flushed9]
  funext y
  rw [View.read_apply]
  exact eq_of_heq (HEq.trans (heq_of_eq (Cert.Rows.at_rows ((outsAt0 m c t.val t.isLt).1) (entry_9 m c) (index_9 t) (after_9 m c t) y _ rfl rfl)) (cast_heq _ _).symm)

theorem final_9_eq (c : Dev nD) : (dats m 0 c).arrAt 9 cfg0.N = result_9 m c :=
  (dats m 0 c).arrAt_eq_of_cover 9 (result_9 m c) (fun t _ => flushed_9_eq m c t)
    ((show (cfg0.win 9).Covers by decide +kernel).cover _ (Memref.isWhole_whole _))

/-- The result as an array. -/
def result_10 (c : Dev nD) : Vec Ideal S16384x1024 .bf16 := fun i => entry_10 m c i

theorem flushed_10_eq (c : Dev nD) (t : Fin cfg0.N) :
    (dats m 0 c).flushed 10 t = ((cfg0.win 10).blk t).view.read (Elt Ideal) (result_10 m c) := by
  rw [Value.flushed10]
  funext y
  rw [View.read_apply]
  exact eq_of_heq (HEq.trans (heq_of_eq (Cert.Rows.at_rows ((outsAt0 m c t.val t.isLt).2.1) (entry_10 m c) (index_10 t) (after_10 m c t) y _ rfl rfl)) (cast_heq _ _).symm)

theorem final_10_eq (c : Dev nD) : (dats m 0 c).arrAt 10 cfg0.N = result_10 m c :=
  (dats m 0 c).arrAt_eq_of_cover 10 (result_10 m c) (fun t _ => flushed_10_eq m c t)
    ((show (cfg0.win 10).Covers by decide +kernel).cover _ (Memref.isWhole_whole _))

/-- The result as an array. -/
def result_11 (c : Dev nD) : Vec Ideal S16384x1024 .bf16 := fun i => entry_11 m c i

theorem flushed_11_eq (c : Dev nD) (t : Fin cfg0.N) :
    (dats m 0 c).flushed 11 t = ((cfg0.win 11).blk t).view.read (Elt Ideal) (result_11 m c) := by
  rw [Value.flushed11]
  funext y
  rw [View.read_apply]
  exact eq_of_heq (HEq.trans (heq_of_eq (Cert.Rows.at_rows ((outsAt0 m c t.val t.isLt).2.2.1) (entry_11 m c) (index_11 t) (after_11 m c t) y _ rfl rfl)) (cast_heq _ _).symm)

theorem final_11_eq (c : Dev nD) : (dats m 0 c).arrAt 11 cfg0.N = result_11 m c :=
  (dats m 0 c).arrAt_eq_of_cover 11 (result_11 m c) (fun t _ => flushed_11_eq m c t)
    ((show (cfg0.win 11).Covers by decide +kernel).cover _ (Memref.isWhole_whole _))

/-- The result as an array. -/
def result_12 (c : Dev nD) : Vec Ideal S16384x1024 .bf16 := fun i => entry_12 m c i

theorem flushed_12_eq (c : Dev nD) (t : Fin cfg0.N) :
    (dats m 0 c).flushed 12 t = ((cfg0.win 12).blk t).view.read (Elt Ideal) (result_12 m c) := by
  rw [Value.flushed12]
  funext y
  rw [View.read_apply]
  exact eq_of_heq (HEq.trans (heq_of_eq (Cert.Rows.at_rows ((outsAt0 m c t.val t.isLt).2.2.2.1) (entry_12 m c) (index_12 t) (after_12 m c t) y _ rfl rfl)) (cast_heq _ _).symm)

theorem final_12_eq (c : Dev nD) : (dats m 0 c).arrAt 12 cfg0.N = result_12 m c :=
  (dats m 0 c).arrAt_eq_of_cover 12 (result_12 m c) (fun t _ => flushed_12_eq m c t)
    ((show (cfg0.win 12).Covers by decide +kernel).cover _ (Memref.isWhole_whole _))

/-- What point `t` adds to result 5. -/
theorem part_13 (c : Dev nD) (t : Fin cfg0.N) (q : Fin 1024) :
    (∑ j : Fin 512, Cert.PleRow.dpre (fun p => X0 m c t (ix2 j p)) (fun p => X1 m c t (ix2 j p)) (fun l => X2 m c t (ix3 0 j l)) (fun p q => X3 m c t (ix3 0 p q)) (fun q => X4 m c t (ix3 0 0 q)) (fun l q => X5 m c t (ix3 0 l q)) q) = ∑ j : Fin 512, term_13 m c q (512 * t.val + j.val) := by
  refine Finset.sum_congr rfl fun j _ => ?_
  have ht : t.val < 32 := t.isLt
  have hj := j.isLt
  have hn : 512 * t.val + j.val < 16384 := by omega
  unfold term_13 dpreAt
  rw [dif_pos hn, rowD_eq m c t j ⟨_, hn⟩ rfl, rowX_eq m c t j ⟨_, hn⟩ rfl, rowE_eq m c t j ⟨_, hn⟩ rfl, wG_eq m c t, bG_eq m c t, wP_eq m c t]

/-- What the block of result 5 holds after point `n`: the sum over the points up to it. -/
theorem after_13 (c : Dev nD) (q : Fin 1024) : ∀ (n : ℕ) (hn : n < cfg0.N),
    (outsAt0 m c n hn).2.2.2.2.1 (ix2 0 q) = ∑ p ∈ Finset.range (n + 1), ∑ j : Fin 512, term_13 m c q (512 * p + j.val)
  | 0, hn => by
    obtain ⟨t, ht⟩ : ∃ t : Fin cfg0.N, t = ⟨0, hn⟩ := ⟨_, rfl⟩
    have h0 : t.val % 32 = 0 := by rw [ht]; rfl
    have e2 := congrArg (fun o => o.2.2.2.2.1 (ix2 0 q)) (outsAt0_A m c t h0)
    dsimp only at e2
    have e := e2.trans (out_A_13 ..)
    have e3 := e.trans (congrArg (0 + ·) (part_13 m c t q))
    subst ht
    refine e3.trans ?_
    rw [Finset.sum_range_one, zero_add]
  | n + 1, hn => by
    obtain ⟨t, ht⟩ : ∃ t : Fin cfg0.N, t = ⟨n + 1, hn⟩ := ⟨_, rfl⟩
    have hn' : n + 1 < 32 := hn
    have h0 : ¬ t.val % 32 = 0 := by rw [ht]; show ¬ (n + 1) % 32 = 0; omega
    have e2 := congrArg (fun o => o.2.2.2.2.1 (ix2 0 q)) (outsAt0_B m c t h0)
    dsimp only at e2
    have e := e2.trans (out_B_13 ..)
    have e3 := e.trans (congrArg (_ + ·) (part_13 m c t q))
    subst ht
    refine e3.trans ?_
    rw [Finset.sum_range_succ]
    exact congrArg (· + _) (after_13 c q n (Nat.lt_of_succ_lt hn))

/-- Result 5 as an array. -/
def result_13 (c : Dev nD) : Vec Ideal S1x1024 .f32 := fun i => entry_13 m c i

/-- After the last point the block holds the sum over all rows. -/
theorem last_13 (c : Dev nD) (n : ℕ) (h : n < cfg0.N) (hn : n = 31) (z : Fin 1) (q : Fin 1024) :
    (outsAt0 m c n h).2.2.2.2.1 (ix2 z q) = entry_13 m c (ix2 z q) := by
  subst hn
  obtain rfl : z = 0 := Fin.ext (by omega)
  rw [after_13]
  refine (sum_blocks 32 512 (term_13 m c q)).trans ?_
  unfold entry_13
  refine Finset.sum_congr rfl fun r _ => ?_
  unfold term_13
  rw [dif_pos r.isLt]
  rfl

theorem flushed_13 (c : Dev nD) (t : Fin cfg0.N) (hf : (cfg0.win 13).flush t = true) :
    (dats m 0 c).flushed 13 t = ((cfg0.win 13).blk t).view.read (Elt Ideal) (result_13 m c) := by
  rw [Value.flushed13]
  have hi := index_13 t
  have ht : t.val < 32 := t.isLt
  have hl : t.val = 31 := by have := (flush0_13 t).mp hf; omega
  funext y
  rw [View.read_apply]
  have hy0 : (y 0 : ℕ) < 1 := (y 0).isLt
  have hy1 : (y 1 : ℕ) < 1024 := (y 1).isLt
  have e0 : ((((cfg0.win 13).blk t).view.emb y) 0 : ℕ) = (y 0 : ℕ) := by
    show win0_13.index t 0 * 1 + 1 * (y 0 : ℕ) = _
    rw [hi.1]; omega
  have e1 : ((((cfg0.win 13).blk t).view.emb y) 1 : ℕ) = (y 1 : ℕ) := by
    show win0_13.index t 1 * 1024 + 1 * (y 1 : ℕ) = _
    rw [hi.2]; omega
  have hy : (y : S1x1024.Idx) = ix2 (⟨(y 0 : ℕ), hy0⟩ : Fin 1) (⟨(y 1 : ℕ), hy1⟩ : Fin 1024) := by
    funext a
    match a with
    | ⟨0, _⟩ => rfl
    | ⟨1, _⟩ => rfl
  refine eq_of_heq (HEq.trans (heq_of_eq (?_ : (outsAt0 m c t.val t.isLt).2.2.2.2.1 y = entry_13 m c (((cfg0.win 13).blk t).view.emb y))) (cast_heq _ _).symm)
  rw [show (outsAt0 m c t.val t.isLt).2.2.2.2.1 y = (outsAt0 m c t.val t.isLt).2.2.2.2.1 (ix2 (⟨(y 0 : ℕ), hy0⟩ : Fin 1) (⟨(y 1 : ℕ), hy1⟩ : Fin 1024)) from congrArg _ hy]
  refine (last_13 m c t.val t.isLt hl (⟨(y 0 : ℕ), hy0⟩ : Fin 1) (⟨(y 1 : ℕ), hy1⟩ : Fin 1024)).trans ?_
  refine congrArg (entry_13 m c) ?_
  funext a
  match a with
  | ⟨0, _⟩ => exact Fin.ext e0.symm
  | ⟨1, _⟩ => exact Fin.ext e1.symm

theorem final_13_eq (c : Dev nD) : (dats m 0 c).arrAt 13 cfg0.N = result_13 m c :=
  (dats m 0 c).arrAt_eq_of_cover 13 (result_13 m c) (flushed_13 m c)
    ((show (cfg0.win 13).Covers by decide +kernel).cover _ (Memref.isWhole_whole _))

/-- What point `t` adds to result 6. -/
theorem part_14 (c : Dev nD) (t : Fin cfg0.N) (q : Fin 1024) :
    (∑ j : Fin 512, Cert.PleRow.dx (fun p => X0 m c t (ix2 j p)) (fun p => X1 m c t (ix2 j p)) (fun l => X2 m c t (ix3 0 j l)) (fun p q => X3 m c t (ix3 0 p q)) (fun q => X4 m c t (ix3 0 0 q)) (fun l q => X5 m c t (ix3 0 l q)) q * X6 m c t (ix2 j q)) = ∑ j : Fin 512, term_14 m c q (512 * t.val + j.val) := by
  refine Finset.sum_congr rfl fun j _ => ?_
  have ht : t.val < 32 := t.isLt
  have hj := j.isLt
  have hn : 512 * t.val + j.val < 16384 := by omega
  unfold term_14 dxAt
  rw [dif_pos hn, rowD_eq m c t j ⟨_, hn⟩ rfl, rowX_eq m c t j ⟨_, hn⟩ rfl, rowE_eq m c t j ⟨_, hn⟩ rfl, wG_eq m c t, bG_eq m c t, wP_eq m c t]
  exact congrArg (_ * ·) (congrFun (rowH_eq m c t j ⟨_, hn⟩ rfl) q)

/-- What the block of result 6 holds after point `n`: the sum over the points up to it. -/
theorem after_14 (c : Dev nD) (q : Fin 1024) : ∀ (n : ℕ) (hn : n < cfg0.N),
    (outsAt0 m c n hn).2.2.2.2.2.1 (ix2 0 q) = ∑ p ∈ Finset.range (n + 1), ∑ j : Fin 512, term_14 m c q (512 * p + j.val)
  | 0, hn => by
    obtain ⟨t, ht⟩ : ∃ t : Fin cfg0.N, t = ⟨0, hn⟩ := ⟨_, rfl⟩
    have h0 : t.val % 32 = 0 := by rw [ht]; rfl
    have e2 := congrArg (fun o => o.2.2.2.2.2.1 (ix2 0 q)) (outsAt0_A m c t h0)
    dsimp only at e2
    have e := e2.trans (out_A_14 ..)
    have e3 := e.trans (congrArg (0 + ·) (part_14 m c t q))
    subst ht
    refine e3.trans ?_
    rw [Finset.sum_range_one, zero_add]
  | n + 1, hn => by
    obtain ⟨t, ht⟩ : ∃ t : Fin cfg0.N, t = ⟨n + 1, hn⟩ := ⟨_, rfl⟩
    have hn' : n + 1 < 32 := hn
    have h0 : ¬ t.val % 32 = 0 := by rw [ht]; show ¬ (n + 1) % 32 = 0; omega
    have e2 := congrArg (fun o => o.2.2.2.2.2.1 (ix2 0 q)) (outsAt0_B m c t h0)
    dsimp only at e2
    have e := e2.trans (out_B_14 ..)
    have e3 := e.trans (congrArg (_ + ·) (part_14 m c t q))
    subst ht
    refine e3.trans ?_
    rw [Finset.sum_range_succ]
    exact congrArg (· + _) (after_14 c q n (Nat.lt_of_succ_lt hn))

/-- Result 6 as an array. -/
def result_14 (c : Dev nD) : Vec Ideal S1x1024 .f32 := fun i => entry_14 m c i

/-- After the last point the block holds the sum over all rows. -/
theorem last_14 (c : Dev nD) (n : ℕ) (h : n < cfg0.N) (hn : n = 31) (z : Fin 1) (q : Fin 1024) :
    (outsAt0 m c n h).2.2.2.2.2.1 (ix2 z q) = entry_14 m c (ix2 z q) := by
  subst hn
  obtain rfl : z = 0 := Fin.ext (by omega)
  rw [after_14]
  refine (sum_blocks 32 512 (term_14 m c q)).trans ?_
  unfold entry_14
  refine Finset.sum_congr rfl fun r _ => ?_
  unfold term_14
  rw [dif_pos r.isLt]
  rfl

theorem flushed_14 (c : Dev nD) (t : Fin cfg0.N) (hf : (cfg0.win 14).flush t = true) :
    (dats m 0 c).flushed 14 t = ((cfg0.win 14).blk t).view.read (Elt Ideal) (result_14 m c) := by
  rw [Value.flushed14]
  have hi := index_14 t
  have ht : t.val < 32 := t.isLt
  have hl : t.val = 31 := by have := (flush0_14 t).mp hf; omega
  funext y
  rw [View.read_apply]
  have hy0 : (y 0 : ℕ) < 1 := (y 0).isLt
  have hy1 : (y 1 : ℕ) < 1024 := (y 1).isLt
  have e0 : ((((cfg0.win 14).blk t).view.emb y) 0 : ℕ) = (y 0 : ℕ) := by
    show win0_14.index t 0 * 1 + 1 * (y 0 : ℕ) = _
    rw [hi.1]; omega
  have e1 : ((((cfg0.win 14).blk t).view.emb y) 1 : ℕ) = (y 1 : ℕ) := by
    show win0_14.index t 1 * 1024 + 1 * (y 1 : ℕ) = _
    rw [hi.2]; omega
  have hy : (y : S1x1024.Idx) = ix2 (⟨(y 0 : ℕ), hy0⟩ : Fin 1) (⟨(y 1 : ℕ), hy1⟩ : Fin 1024) := by
    funext a
    match a with
    | ⟨0, _⟩ => rfl
    | ⟨1, _⟩ => rfl
  refine eq_of_heq (HEq.trans (heq_of_eq (?_ : (outsAt0 m c t.val t.isLt).2.2.2.2.2.1 y = entry_14 m c (((cfg0.win 14).blk t).view.emb y))) (cast_heq _ _).symm)
  rw [show (outsAt0 m c t.val t.isLt).2.2.2.2.2.1 y = (outsAt0 m c t.val t.isLt).2.2.2.2.2.1 (ix2 (⟨(y 0 : ℕ), hy0⟩ : Fin 1) (⟨(y 1 : ℕ), hy1⟩ : Fin 1024)) from congrArg _ hy]
  refine (last_14 m c t.val t.isLt hl (⟨(y 0 : ℕ), hy0⟩ : Fin 1) (⟨(y 1 : ℕ), hy1⟩ : Fin 1024)).trans ?_
  refine congrArg (entry_14 m c) ?_
  funext a
  match a with
  | ⟨0, _⟩ => exact Fin.ext e0.symm
  | ⟨1, _⟩ => exact Fin.ext e1.symm

theorem final_14_eq (c : Dev nD) : (dats m 0 c).arrAt 14 cfg0.N = result_14 m c :=
  (dats m 0 c).arrAt_eq_of_cover 14 (result_14 m c) (flushed_14 m c)
    ((show (cfg0.win 14).Covers by decide +kernel).cover _ (Memref.isWhole_whole _))

/-- What point `t` adds to result 7. -/
theorem part_15 (c : Dev nD) (t : Fin cfg0.N) (q : Fin 1024) :
    (∑ j : Fin 512, Cert.PleRow.dx (fun p => X0 m c t (ix2 j p)) (fun p => X1 m c t (ix2 j p)) (fun l => X2 m c t (ix3 0 j l)) (fun p q => X3 m c t (ix3 0 p q)) (fun q => X4 m c t (ix3 0 0 q)) (fun l q => X5 m c t (ix3 0 l q)) q) = ∑ j : Fin 512, term_15 m c q (512 * t.val + j.val) := by
  refine Finset.sum_congr rfl fun j _ => ?_
  have ht : t.val < 32 := t.isLt
  have hj := j.isLt
  have hn : 512 * t.val + j.val < 16384 := by omega
  unfold term_15 dxAt
  rw [dif_pos hn, rowD_eq m c t j ⟨_, hn⟩ rfl, rowX_eq m c t j ⟨_, hn⟩ rfl, rowE_eq m c t j ⟨_, hn⟩ rfl, wG_eq m c t, bG_eq m c t, wP_eq m c t]

/-- What the block of result 7 holds after point `n`: the sum over the points up to it. -/
theorem after_15 (c : Dev nD) (q : Fin 1024) : ∀ (n : ℕ) (hn : n < cfg0.N),
    (outsAt0 m c n hn).2.2.2.2.2.2 (ix2 0 q) = ∑ p ∈ Finset.range (n + 1), ∑ j : Fin 512, term_15 m c q (512 * p + j.val)
  | 0, hn => by
    obtain ⟨t, ht⟩ : ∃ t : Fin cfg0.N, t = ⟨0, hn⟩ := ⟨_, rfl⟩
    have h0 : t.val % 32 = 0 := by rw [ht]; rfl
    have e2 := congrArg (fun o => o.2.2.2.2.2.2 (ix2 0 q)) (outsAt0_A m c t h0)
    dsimp only at e2
    have e := e2.trans (out_A_15 ..)
    have e3 := e.trans (congrArg (0 + ·) (part_15 m c t q))
    subst ht
    refine e3.trans ?_
    rw [Finset.sum_range_one, zero_add]
  | n + 1, hn => by
    obtain ⟨t, ht⟩ : ∃ t : Fin cfg0.N, t = ⟨n + 1, hn⟩ := ⟨_, rfl⟩
    have hn' : n + 1 < 32 := hn
    have h0 : ¬ t.val % 32 = 0 := by rw [ht]; show ¬ (n + 1) % 32 = 0; omega
    have e2 := congrArg (fun o => o.2.2.2.2.2.2 (ix2 0 q)) (outsAt0_B m c t h0)
    dsimp only at e2
    have e := e2.trans (out_B_15 ..)
    have e3 := e.trans (congrArg (_ + ·) (part_15 m c t q))
    subst ht
    refine e3.trans ?_
    rw [Finset.sum_range_succ]
    exact congrArg (· + _) (after_15 c q n (Nat.lt_of_succ_lt hn))

/-- Result 7 as an array. -/
def result_15 (c : Dev nD) : Vec Ideal S1x1024 .f32 := fun i => entry_15 m c i

/-- After the last point the block holds the sum over all rows. -/
theorem last_15 (c : Dev nD) (n : ℕ) (h : n < cfg0.N) (hn : n = 31) (z : Fin 1) (q : Fin 1024) :
    (outsAt0 m c n h).2.2.2.2.2.2 (ix2 z q) = entry_15 m c (ix2 z q) := by
  subst hn
  obtain rfl : z = 0 := Fin.ext (by omega)
  rw [after_15]
  refine (sum_blocks 32 512 (term_15 m c q)).trans ?_
  unfold entry_15
  refine Finset.sum_congr rfl fun r _ => ?_
  unfold term_15
  rw [dif_pos r.isLt]
  rfl

theorem flushed_15 (c : Dev nD) (t : Fin cfg0.N) (hf : (cfg0.win 15).flush t = true) :
    (dats m 0 c).flushed 15 t = ((cfg0.win 15).blk t).view.read (Elt Ideal) (result_15 m c) := by
  rw [Value.flushed15]
  have hi := index_15 t
  have ht : t.val < 32 := t.isLt
  have hl : t.val = 31 := by have := (flush0_15 t).mp hf; omega
  funext y
  rw [View.read_apply]
  have hy0 : (y 0 : ℕ) < 1 := (y 0).isLt
  have hy1 : (y 1 : ℕ) < 1024 := (y 1).isLt
  have e0 : ((((cfg0.win 15).blk t).view.emb y) 0 : ℕ) = (y 0 : ℕ) := by
    show win0_15.index t 0 * 1 + 1 * (y 0 : ℕ) = _
    rw [hi.1]; omega
  have e1 : ((((cfg0.win 15).blk t).view.emb y) 1 : ℕ) = (y 1 : ℕ) := by
    show win0_15.index t 1 * 1024 + 1 * (y 1 : ℕ) = _
    rw [hi.2]; omega
  have hy : (y : S1x1024.Idx) = ix2 (⟨(y 0 : ℕ), hy0⟩ : Fin 1) (⟨(y 1 : ℕ), hy1⟩ : Fin 1024) := by
    funext a
    match a with
    | ⟨0, _⟩ => rfl
    | ⟨1, _⟩ => rfl
  refine eq_of_heq (HEq.trans (heq_of_eq (?_ : (outsAt0 m c t.val t.isLt).2.2.2.2.2.2 y = entry_15 m c (((cfg0.win 15).blk t).view.emb y))) (cast_heq _ _).symm)
  rw [show (outsAt0 m c t.val t.isLt).2.2.2.2.2.2 y = (outsAt0 m c t.val t.isLt).2.2.2.2.2.2 (ix2 (⟨(y 0 : ℕ), hy0⟩ : Fin 1) (⟨(y 1 : ℕ), hy1⟩ : Fin 1024)) from congrArg _ hy]
  refine (last_15 m c t.val t.isLt hl (⟨(y 0 : ℕ), hy0⟩ : Fin 1) (⟨(y 1 : ℕ), hy1⟩ : Fin 1024)).trans ?_
  refine congrArg (entry_15 m c) ?_
  funext a
  match a with
  | ⟨0, _⟩ => exact Fin.ext e0.symm
  | ⟨1, _⟩ => exact Fin.ext e1.symm

theorem final_15_eq (c : Dev nD) : (dats m 0 c).arrAt 15 cfg0.N = result_15 m c :=
  (dats m 0 c).arrAt_eq_of_cover 15 (result_15 m c) (flushed_15 m c)
    ((show (cfg0.win 15).Covers by decide +kernel).cover _ (Memref.isWhole_whole _))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v16_0) = result_9 m c
      ∧ r.2.mem ((c : Thread nD τ).loc main_v16_1) = result_10 m c
      ∧ r.2.mem ((c : Thread nD τ).loc main_v16_2) = result_11 m c
      ∧ r.2.mem ((c : Thread nD τ).loc main_v16_3) = result_12 m c
      ∧ r.2.mem ((c : Thread nD τ).loc main_v16_4) = result_13 m c
      ∧ r.2.mem ((c : Thread nD τ).loc main_v16_5) = result_14 m c
      ∧ r.2.mem ((c : Thread nD τ).loc main_v16_6) = result_15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final_9_eq m c), (h c).2.1.trans (final_10_eq m c), (h c).2.2.1.trans (final_11_eq m c), (h c).2.2.2.1.trans (final_12_eq m c), (h c).2.2.2.2.1.trans (final_13_eq m c), (h c).2.2.2.2.2.1.trans (final_14_eq m c), (h c).2.2.2.2.2.2.1.trans (final_15_eq m c), (h c).2.2.2.2.2.2.2⟩) (Value.run_blocks m ρ)

end Cert.Kernel17Ideal.Prod

end
-- ==== Proof.PleBwdRef.lean ====
/-
  The reference's gradient of the per-layer embedding, at an index.
-/
module

public import proofs.«01_k».proof.Proof.Gen.Reference17Ideal.Read
public import proofs.«01_k».proof.Proof.PleRow
public import Idealize.ShloMosaic.Lib.Pointwise
public import Idealize.ShloMosaic.Lib.IdealHost

@[expose] public section

set_option maxRecDepth 16384

namespace Cert.Reference17Ideal.Prod

open Cert.Reference17Ideal Cert.Reference17Ideal.Gen Cert.Reference17Ideal.Read Idealize.ShloMosaic Idealize.ShloMosaic.TcCoe

/-- The layer's input at an index. -/
theorem base_eq (x1 : Vec Ideal S16384x1024 .f32) (x3 x4 : Vec Ideal S4x1024 .f32) (r : Fin 16384) (q : Fin 1024) :
    val_main_v9 (F := Ideal) x1 x3 x4 (ix2 r q) = (fun p => x1 (ix2 r p) * x3 (ix2 (0 : Fin 4) p) + x4 (ix2 (0 : Fin 4) p)) q := by
  unfold val_main_v9 val_main_v8 val_main_v7 val_main_v6 val_main_v5 val_main_v4 val_main_v3 val_main_v2 val_main_v1 val_main_v0
  pointwise

/-- The gate at an index. -/
theorem gate_eq (x1 : Vec Ideal S16384x1024 .f32) (x3 x4 : Vec Ideal S4x1024 .f32) (x6 : Vec Ideal S1024x1024 .f32) (x7 : Vec Ideal S4x1024 .f32) (r : Fin 16384) (q : Fin 1024) :
    val_main_v26 (F := Ideal) x1 x3 x4 x6 x7 (ix2 r q) = Cert.PleRow.gate (fun p => x1 (ix2 r p) * x3 (ix2 (0 : Fin 4) p) + x4 (ix2 (0 : Fin 4) p)) (fun p q => x6 (ix2 p q)) (fun q => x7 (ix2 (0 : Fin 4) q)) q := by
  have h : val_main_v15 (F := Ideal) x1 x3 x4 x6 x7 (ix2 r q) = (∑ p : Fin 1024, (fun p => x1 (ix2 r p) * x3 (ix2 (0 : Fin 4) p) + x4 (ix2 (0 : Fin 4) p)) p * x6 (ix2 p q)) + x7 (ix2 (0 : Fin 4) q) := by
    unfold val_main_v15 val_main_v14 val_main_v13 val_main_v12 val_main_v11 val_main_v10
    pointwise
    refine congrArg₂ (· + ·) (Finset.sum_congr rfl fun p _ => ?_) rfl
    exact congrArg (· * x6 (ix2 p q)) (base_eq x1 x3 x4 r p)
  unfold val_main_v26 val_main_v25 val_main_cst_0 val_main_v24 val_main_v23 val_main_cst val_main_v22 val_main_v21
  pointwise
  rw [h]
  unfold Cert.PleRow.gate Ideal.logistic
  rw [← Ideal.ofBits_one_f32]

/-- The projection at an index. -/
theorem emb_eq (x5 : Vec Ideal S4x16384x256 .f32) (x8 : Vec Ideal S4x256x1024 .f32) (r : Fin 16384) (q : Fin 1024) :
    val_main_v20 (F := Ideal) x5 x8 (ix2 r q) = Cert.PleRow.emb (fun l => x5 (ix3 (0 : Fin 4) r l)) (fun l q => x8 (ix3 (0 : Fin 4) l q)) q := by
  unfold val_main_v20 val_main_v19 val_main_v18 val_main_v17 val_main_v16
  pointwise
  rfl

/-- The gradient before the gate's logistic function. -/
theorem dpre_eq (x0 x1 : Vec Ideal S16384x1024 .f32) (x3 x4 : Vec Ideal S4x1024 .f32) (x5 : Vec Ideal S4x16384x256 .f32) (x6 : Vec Ideal S1024x1024 .f32) (x7 : Vec Ideal S4x1024 .f32) (x8 : Vec Ideal S4x256x1024 .f32) (r : Fin 16384) (q : Fin 1024) :
    val_main_v36 (F := Ideal) x0 x1 x3 x4 x5 x6 x7 x8 (ix2 r q) = Cert.PleRow.dpre (fun p => x0 (ix2 r p)) (fun p => x1 (ix2 r p) * x3 (ix2 (0 : Fin 4) p) + x4 (ix2 (0 : Fin 4) p)) (fun l => x5 (ix3 (0 : Fin 4) r l)) (fun p q => x6 (ix2 p q)) (fun q => x7 (ix2 (0 : Fin 4) q)) (fun l q => x8 (ix3 (0 : Fin 4) l q)) q := by
  unfold val_main_v36 val_main_v35 val_main_v33 val_main_v29 val_main_v28 val_main_v27 val_main_cst_1
  pointwise
  rw [gate_eq, emb_eq]
  unfold Cert.PleRow.dpre
  simp only [mul_assoc]

/-- The gradient of the layer's input. -/
theorem dx_eq (x0 x1 : Vec Ideal S16384x1024 .f32) (x3 x4 : Vec Ideal S4x1024 .f32) (x5 : Vec Ideal S4x16384x256 .f32) (x6 : Vec Ideal S1024x1024 .f32) (x7 : Vec Ideal S4x1024 .f32) (x8 : Vec Ideal S4x256x1024 .f32) (r : Fin 16384) (q : Fin 1024) :
    val_main_v41 (F := Ideal) x0 x1 x3 x4 x5 x6 x7 x8 (ix2 r q) = Cert.PleRow.dx (fun p => x0 (ix2 r p)) (fun p => x1 (ix2 r p) * x3 (ix2 (0 : Fin 4) p) + x4 (ix2 (0 : Fin 4) p)) (fun l => x5 (ix3 (0 : Fin 4) r l)) (fun p q => x6 (ix2 p q)) (fun q => x7 (ix2 (0 : Fin 4) q)) (fun l q => x8 (ix3 (0 : Fin 4) l q)) q := by
  unfold val_main_v41 val_main_v40 val_main_v32
  pointwise
  exact congrArg₂ (· + ·) rfl (Finset.sum_congr rfl fun p _ => congrArg (· * x6 (ix2 q p)) (dpre_eq x0 x1 x3 x4 x5 x6 x7 x8 r p))

/-- The gradient of the normalised row. -/
theorem dxh_eq (x0 x1 : Vec Ideal S16384x1024 .f32) (x3 x4 : Vec Ideal S4x1024 .f32) (x5 : Vec Ideal S4x16384x256 .f32) (x6 : Vec Ideal S1024x1024 .f32) (x7 : Vec Ideal S4x1024 .f32) (x8 : Vec Ideal S4x256x1024 .f32) (r : Fin 16384) (q : Fin 1024) :
    val_main_v49 (F := Ideal) x0 x1 x3 x4 x5 x6 x7 x8 (ix2 r q) = Cert.PleRow.dxh (fun p => x0 (ix2 r p)) (fun p => x1 (ix2 r p) * x3 (ix2 (0 : Fin 4) p) + x4 (ix2 (0 : Fin 4) p)) (fun l => x5 (ix3 (0 : Fin 4) r l)) (fun p q => x6 (ix2 p q)) (fun q => x7 (ix2 (0 : Fin 4) q)) (fun l q => x8 (ix3 (0 : Fin 4) l q)) (fun q => x3 (ix2 (0 : Fin 4) q)) q := by
  unfold val_main_v49 val_main_v48 val_main_v4 val_main_v1 val_main_v0
  pointwise
  exact congrArg (· * x3 (ix2 (0 : Fin 4) q)) (dx_eq x0 x1 x3 x4 x5 x6 x7 x8 r q)

/-- The gradient of the row. -/
theorem read66 (x0 x1 : Vec Ideal S16384x1024 .f32) (x2 : Vec Ideal S16384x1 .f32) (x3 x4 : Vec Ideal S4x1024 .f32) (x5 : Vec Ideal S4x16384x256 .f32) (x6 : Vec Ideal S1024x1024 .f32) (x7 : Vec Ideal S4x1024 .f32) (x8 : Vec Ideal S4x256x1024 .f32) (r : Fin 16384) (q : Fin 1024) :
    val_main_v66 (F := Ideal) x0 x1 x2 x3 x4 x5 x6 x7 x8 (ix2 r q) = Cert.PleRow.dr (fun p => x0 (ix2 r p)) (fun p => x1 (ix2 r p) * x3 (ix2 (0 : Fin 4) p) + x4 (ix2 (0 : Fin 4) p)) (fun l => x5 (ix3 (0 : Fin 4) r l)) (fun p q => x6 (ix2 p q)) (fun q => x7 (ix2 (0 : Fin 4) q)) (fun l q => x8 (ix3 (0 : Fin 4) l q)) (fun p => x1 (ix2 r p)) (x2 (ix2 r 0)) (fun q => x3 (ix2 (0 : Fin 4) q)) q := by
  unfold val_main_v66 val_main_v65 val_main_v64 val_main_v63 val_main_v62 val_main_v61 val_main_v60 val_main_v59 val_main_v58 val_main_v57 val_main_v56 val_main_v55 val_main_v54 val_main_v53 val_main_v52 val_main_v51 val_main_cst_8 val_main_cst_9 val_main_cst_10 val_main_cst_11
  pointwise
  simp only [dxh_eq]
  rfl

/-- The gradient of the row, rounded. -/
theorem read67 (x0 x1 : Vec Ideal S16384x1024 .f32) (x2 : Vec Ideal S16384x1 .f32) (x3 x4 : Vec Ideal S4x1024 .f32) (x5 : Vec Ideal S4x16384x256 .f32) (x6 : Vec Ideal S1024x1024 .f32) (x7 : Vec Ideal S4x1024 .f32) (x8 : Vec Ideal S4x256x1024 .f32) (r : Fin 16384) (q : Fin 1024) :
    val_main_v67 (F := Ideal) x0 x1 x2 x3 x4 x5 x6 x7 x8 (ix2 r q) = Cert.PleRow.dr (fun p => x0 (ix2 r p)) (fun p => x1 (ix2 r p) * x3 (ix2 (0 : Fin 4) p) + x4 (ix2 (0 : Fin 4) p)) (fun l => x5 (ix3 (0 : Fin 4) r l)) (fun p q => x6 (ix2 p q)) (fun q => x7 (ix2 (0 : Fin 4) q)) (fun l q => x8 (ix3 (0 : Fin 4) l q)) (fun p => x1 (ix2 r p)) (x2 (ix2 r 0)) (fun q => x3 (ix2 (0 : Fin 4) q)) q := by
  unfold val_main_v67
  pointwise
  exact read66 _ _ _ _ _ _ _ _ _ r q

/-- The gradient before the logistic function, rounded. -/
theorem read68 (x0 x1 : Vec Ideal S16384x1024 .f32) (x3 x4 : Vec Ideal S4x1024 .f32) (x5 : Vec Ideal S4x16384x256 .f32) (x6 : Vec Ideal S1024x1024 .f32) (x7 : Vec Ideal S4x1024 .f32) (x8 : Vec Ideal S4x256x1024 .f32) (r : Fin 16384) (q : Fin 1024) :
    val_main_v68 (F := Ideal) x0 x1 x3 x4 x5 x6 x7 x8 (ix2 r q) = Cert.PleRow.dpre (fun p => x0 (ix2 r p)) (fun p => x1 (ix2 r p) * x3 (ix2 (0 : Fin 4) p) + x4 (ix2 (0 : Fin 4) p)) (fun l => x5 (ix3 (0 : Fin 4) r l)) (fun p q => x6 (ix2 p q)) (fun q => x7 (ix2 (0 : Fin 4) q)) (fun l q => x8 (ix3 (0 : Fin 4) l q)) q := by
  unfold val_main_v68
  pointwise
  exact dpre_eq _ _ _ _ _ _ _ _ r q

/-- The gradient of the projection. -/
theorem read69 (x0 x1 : Vec Ideal S16384x1024 .f32) (x3 x4 : Vec Ideal S4x1024 .f32) (x6 : Vec Ideal S1024x1024 .f32) (x7 : Vec Ideal S4x1024 .f32) (r : Fin 16384) (q : Fin 1024) :
    val_main_v69 (F := Ideal) x0 x1 x3 x4 x6 x7 (ix2 r q) = Cert.PleRow.dpp (fun p => x0 (ix2 r p)) (fun p => x1 (ix2 r p) * x3 (ix2 (0 : Fin 4) p) + x4 (ix2 (0 : Fin 4) p)) (fun p q => x6 (ix2 p q)) (fun q => x7 (ix2 (0 : Fin 4) q)) q := by
  unfold val_main_v69 val_main_v34 val_main_v33
  pointwise
  rw [gate_eq]
  exact mul_comm _ _

/-- The gradient of the bias. -/
theorem read70 (x0 x1 : Vec Ideal S16384x1024 .f32) (x3 x4 : Vec Ideal S4x1024 .f32) (x5 : Vec Ideal S4x16384x256 .f32) (x6 : Vec Ideal S1024x1024 .f32) (x7 : Vec Ideal S4x1024 .f32) (x8 : Vec Ideal S4x256x1024 .f32) (z : Fin 1) (q : Fin 1024) :
    val_main_v70 (F := Ideal) x0 x1 x3 x4 x5 x6 x7 x8 (ix2 z q) = ∑ r : Fin 16384, Cert.PleRow.dpre (fun p => x0 (ix2 r p)) (fun p => x1 (ix2 r p) * x3 (ix2 (0 : Fin 4) p) + x4 (ix2 (0 : Fin 4) p)) (fun l => x5 (ix3 (0 : Fin 4) r l)) (fun p q => x6 (ix2 p q)) (fun q => x7 (ix2 (0 : Fin 4) q)) (fun l q => x8 (ix3 (0 : Fin 4) l q)) q := by
  unfold val_main_v70 val_main_v39 val_main_v38 val_main_v37 val_main_cst_2 val_main_cst_3
  pointwise
  simp only [dpre_eq]
  exact Fin.sum_univ_one _

/-- The gradient of the scale. -/
theorem read71 (x0 x1 : Vec Ideal S16384x1024 .f32) (x3 x4 : Vec Ideal S4x1024 .f32) (x5 : Vec Ideal S4x16384x256 .f32) (x6 : Vec Ideal S1024x1024 .f32) (x7 : Vec Ideal S4x1024 .f32) (x8 : Vec Ideal S4x256x1024 .f32) (z : Fin 1) (q : Fin 1024) :
    val_main_v71 (F := Ideal) x0 x1 x3 x4 x5 x6 x7 x8 (ix2 z q) = ∑ r : Fin 16384, Cert.PleRow.dx (fun p => x0 (ix2 r p)) (fun p => x1 (ix2 r p) * x3 (ix2 (0 : Fin 4) p) + x4 (ix2 (0 : Fin 4) p)) (fun l => x5 (ix3 (0 : Fin 4) r l)) (fun p q => x6 (ix2 p q)) (fun q => x7 (ix2 (0 : Fin 4) q)) (fun l q => x8 (ix3 (0 : Fin 4) l q)) q * x1 (ix2 r q) := by
  unfold val_main_v71 val_main_v50 val_main_v47 val_main_v46 val_main_v45 val_main_cst_6 val_main_cst_7
  pointwise
  simp only [dx_eq]
  refine (Fin.sum_univ_one _).trans (Finset.sum_congr rfl fun r _ => mul_comm _ _)

/-- The gradient of the shift. -/
theorem read72 (x0 x1 : Vec Ideal S16384x1024 .f32) (x3 x4 : Vec Ideal S4x1024 .f32) (x5 : Vec Ideal S4x16384x256 .f32) (x6 : Vec Ideal S1024x1024 .f32) (x7 : Vec Ideal S4x1024 .f32) (x8 : Vec Ideal S4x256x1024 .f32) (z : Fin 1) (q : Fin 1024) :
    val_main_v72 (F := Ideal) x0 x1 x3 x4 x5 x6 x7 x8 (ix2 z q) = ∑ r : Fin 16384, Cert.PleRow.dx (fun p => x0 (ix2 r p)) (fun p => x1 (ix2 r p) * x3 (ix2 (0 : Fin 4) p) + x4 (ix2 (0 : Fin 4) p)) (fun l => x5 (ix3 (0 : Fin 4) r l)) (fun p q => x6 (ix2 p q)) (fun q => x7 (ix2 (0 : Fin 4) q)) (fun l q => x8 (ix3 (0 : Fin 4) l q)) q := by
  unfold val_main_v72 val_main_v44 val_main_v43 val_main_v42 val_main_cst_4 val_main_cst_5
  pointwise
  simp only [dx_eq]
  exact Fin.sum_univ_one _

end Cert.Reference17Ideal.Prod

end
-- ==== Proof.GluFwdKernel.lean ====
/-
  The gated linear unit, as the call leaves it: the activation of the row, and that activation times the gate's logistic
  function of its product against the gate's weights.
-/
module

public import proofs.«01_k».proof.Proof.Rows
public import Idealize.ShloMosaic.Lib.Pipeline.ValueKit
public import proofs.«01_k».proof.Proof.Gen.Kernel18Ideal.Value
public import proofs.«01_k».proof.Proof.Canon
public import proofs.«01_k».proof.Proof.Sigmoid
public import Idealize.ShloMosaic.Lib.Tactic
public import Idealize.ShloMosaic.Lib.Pointwise

@[expose] public section

set_option maxRecDepth 16384

noncomputable section

namespace Cert.Kernel18Ideal.Prod

open Cert.Kernel18Ideal Cert.Kernel18Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

/-- The second output block at an index. -/
theorem out4_eq (x0 : Vec Ideal S512x512 .f32) (x1 : Vec Ideal S1x512x512 .bf16) (x2 : Vec Ideal S1x1x512 .f32) (j : Fin 512) (q : Fin 512) :
    out0_4 x0 x1 x2 (ix2 j q) = Cert.Sigmoid.gelu (x0 (ix2 j q)) := by
  unfold out0_4
  rw [canon_in _ _ _ _ _ _ (ix2 j q) (fun a => by match a with
        | ⟨0, _⟩ => show j.val = 0 + j.val; omega
        | ⟨1, _⟩ => show q.val = 0 + q.val; omega)]
  pointwise [k0_pay2, k0_pay1]
  exact Cert.Sigmoid.gelu_eq _

/-- The first output block at an index. -/
theorem out3_eq (x0 : Vec Ideal S512x512 .f32) (x1 : Vec Ideal S1x512x512 .bf16) (x2 : Vec Ideal S1x1x512 .f32) (j : Fin 512) (q : Fin 512) :
    out0_3 x0 x1 x2 (ix2 j q) = Cert.Sigmoid.gelu (x0 (ix2 j q))
      * Ideal.logistic ((∑ p : Fin 512, Cert.Sigmoid.gelu (x0 (ix2 j p)) * x1 (ix3 0 p q)) + x2 (ix3 0 0 q)) := by
  unfold out0_3
  rw [canon_in _ _ _ _ _ _ (ix2 j q) (fun a => by match a with
        | ⟨0, _⟩ => show j.val = 0 + j.val; omega
        | ⟨1, _⟩ => show q.val = 0 + q.val; omega)]
  pointwise [k0_pay3, k0_pay2, k0_pay1]
  refine congrArg₂ (· * ·) (Cert.Sigmoid.gelu_eq _) ((Cert.Sigmoid.tanh_eq _).trans (congrArg Ideal.logistic
    (congrArg₂ (· + ·) (Finset.sum_congr rfl fun p _ => congrArg₂ (· * ·) (Cert.Sigmoid.gelu_eq _) rfl) rfl)))

abbrev arg_0 (c : Dev nD) : Vec Ideal S16384x512 .f32 := m ((c : Thread nD τ).loc main_arg0)
abbrev arg_1 (c : Dev nD) : Vec Ideal S2x512x512 .f32 := m ((c : Thread nD τ).loc main_arg1)
abbrev arg_2 (c : Dev nD) : Vec Ideal S2x512 .f32 := m ((c : Thread nD τ).loc main_arg2)

/-! The arrays that the input windows read, their blocks at point `t`, and both at an index. -/

abbrev Arr0 (c : Dev nD) : Vec Ideal S16384x512 .f32 := V m c main_arg0
abbrev X0 (c : Dev nD) (t : Fin cfg0.N) : Vec Ideal S512x512 .f32 := iblk m c 0 t

theorem arr_0 (c : Dev nD) (r : Fin 16384) (p : Fin 512) :
    Arr0 m c (ix2 r p) = arg_0 m c (ix2 r p) := by
  unfold Arr0 V
  after_results

abbrev Arr1 (c : Dev nD) : Vec Ideal S2x512x512 .bf16 := V m c main_v0
abbrev X1 (c : Dev nD) (t : Fin cfg0.N) : Vec Ideal S1x512x512 .bf16 := iblk m c 1 t

theorem arr_1 (c : Dev nD) (k : Fin 2) (p : Fin 512) (q : Fin 512) :
    Arr1 m c (ix3 k p q) = arg_1 m c (ix3 k p q) := by
  unfold Arr1 V
  after_results
  pointwise

abbrev Arr2 (c : Dev nD) : Vec Ideal S2x1x512 .f32 := V m c main_v1
abbrev X2 (c : Dev nD) (t : Fin cfg0.N) : Vec Ideal S1x1x512 .f32 := iblk m c 2 t

theorem arr_2 (c : Dev nD) (k : Fin 2) (q : Fin 512) :
    Arr2 m c (ix3 k 0 q) = arg_2 m c (ix2 k q) := by
  unfold Arr2 V
  after_results
  pointwise

theorem index_0 : ∀ t : Fin cfg0.N, win0_0.index t 0 = t.val ∧ win0_0.index t 1 = 0 :=
  (by decide +kernel : ∀ t : Fin grid0.N, _)

theorem iblk_0 (c : Dev nD) (t : Fin cfg0.N) (j0 : Fin 512) (j1 : Fin 512) (r0 : Fin 16384) (r1 : Fin 512)
    (h0 : r0.val = (t.val) * 512 + j0.val) (h1 : r1.val = (0) * 512 + j1.val) :
    X0 m c t (ix2 j0 j1) = Arr0 m c (ix2 r0 r1) := by
  unfold X0 iblk
  rw [View.read_apply]
  exact congrArg (V m c main_arg0) (Cert.Rows.ix2_of (index_0 t) h0 h1 rfl rfl)

theorem index_1 : ∀ t : Fin cfg0.N, win0_1.index t 0 = 0 ∧ win0_1.index t 1 = 0 ∧ win0_1.index t 2 = 0 :=
  (by decide +kernel : ∀ t : Fin grid0.N, _)

theorem iblk_1 (c : Dev nD) (t : Fin cfg0.N) (j0 : Fin 1) (j1 : Fin 512) (j2 : Fin 512) (r0 : Fin 2) (r1 : Fin 512) (r2 : Fin 512)
    (h0 : r0.val = (0) * 1 + j0.val) (h1 : r1.val = (0) * 512 + j1.val) (h2 : r2.val = (0) * 512 + j2.val) :
    X1 m c t (ix3 j0 j1 j2) = Arr1 m c (ix3 r0 r1 r2) := by
  unfold X1 iblk
  rw [View.read_apply]
  exact congrArg (V m c main_v0) (Cert.Rows.ix3_of (index_1 t) h0 h1 h2 rfl rfl rfl)

theorem index_2 : ∀ t : Fin cfg0.N, win0_2.index t 0 = 0 ∧ win0_2.index t 1 = 0 ∧ win0_2.index t 2 = 0 :=
  (by decide +kernel : ∀ t : Fin grid0.N, _)

theorem iblk_2 (c : Dev nD) (t : Fin cfg0.N) (j0 : Fin 1) (j1 : Fin 1) (j2 : Fin 512) (r0 : Fin 2) (r1 : Fin 1) (r2 : Fin 512)
    (h0 : r0.val = (0) * 1 + j0.val) (h1 : r1.val = (0) * 1 + j1.val) (h2 : r2.val = (0) * 512 + j2.val) :
    X2 m c t (ix3 j0 j1 j2) = Arr2 m c (ix3 r0 r1 r2) := by
  unfold X2 iblk
  rw [View.read_apply]
  exact congrArg (V m c main_v1) (Cert.Rows.ix3_of (index_2 t) h0 h1 h2 rfl rfl rfl)

theorem index_3 : ∀ t : Fin cfg0.N, win0_3.index t 0 = t.val ∧ win0_3.index t 1 = 0 :=
  (by decide +kernel : ∀ t : Fin grid0.N, _)

theorem index_4 : ∀ t : Fin cfg0.N, win0_4.index t 0 = t.val ∧ win0_4.index t 1 = 0 :=
  (by decide +kernel : ∀ t : Fin grid0.N, _)

/-- An entry of the first result. -/
def entry_3 (c : Dev nD) (i : S16384x512.Idx) : EReal :=
  Cert.Sigmoid.gelu (arg_0 m c (ix2 (i 0) (i 1)))
    * Ideal.logistic ((∑ p : Fin 512, Cert.Sigmoid.gelu (arg_0 m c (ix2 (i 0) p)) * arg_1 m c (ix3 (0 : Fin 2) p (i 1)))
      + arg_2 m c (ix2 (0 : Fin 2) (i 1)))

/-- An entry of the second result. -/
def entry_4 (c : Dev nD) (i : S16384x512.Idx) : EReal := Cert.Sigmoid.gelu (arg_0 m c (ix2 (i 0) (i 1)))

/-- The first output block of point `t`, read in the arguments. -/
theorem block_3_eq (c : Dev nD) (t : Fin cfg0.N) (j : Fin 512) (p : Fin 512) (r : Fin 16384) (q : Fin 512)
    (hr : r.val = (t.val) * 512 + j.val) (hq : q.val = (0) * 512 + p.val) :
    out0_3 (X0 m c t) (X1 m c t) (X2 m c t) (ix2 j p) = entry_3 m c (ix2 r q) := by
  obtain rfl : q = p := Fin.ext (by omega)
  refine (out3_eq _ _ _ j q).trans ?_
  unfold entry_3
  exact congrArg₂ (· * ·) (congrArg Cert.Sigmoid.gelu ((iblk_0 m c t j q r q hr (by omega)).trans (arr_0 m c r q)))
    (congrArg Ideal.logistic (congrArg₂ (· + ·) (Finset.sum_congr rfl fun p _ => congrArg₂ (· * ·)
      (congrArg Cert.Sigmoid.gelu ((iblk_0 m c t j p r p hr (by omega)).trans (arr_0 m c r p)))
      ((iblk_1 m c t 0 p q 0 p q (by omega) (by omega) (by omega)).trans (arr_1 m c 0 p q)))
      ((iblk_2 m c t 0 0 q 0 0 q (by omega) (by omega) (by omega)).trans (arr_2 m c 0 q))))

/-- The second output block of point `t`, read in the arguments. -/
theorem block_4_eq (c : Dev nD) (t : Fin cfg0.N) (j : Fin 512) (p : Fin 512) (r : Fin 16384) (q : Fin 512)
    (hr : r.val = (t.val) * 512 + j.val) (hq : q.val = (0) * 512 + p.val) :
    out0_4 (X0 m c t) (X1 m c t) (X2 m c t) (ix2 j p) = entry_4 m c (ix2 r q) := by
  obtain rfl : q = p := Fin.ext (by omega)
  refine (out4_eq _ _ _ j q).trans ?_
  exact congrArg Cert.Sigmoid.gelu ((iblk_0 m c t j q r q hr (by omega)).trans (arr_0 m c r q))

/-- The result as an array. -/
def result_3 (c : Dev nD) : Vec Ideal S16384x512 .bf16 := fun i => entry_3 m c i

theorem flushed_3_eq (c : Dev nD) (t : Fin cfg0.N) :
    (dats m 0 c).flushed 3 t = ((cfg0.win 3).blk t).view.read (Elt Ideal) (result_3 m c) := by
  rw [Value.flushed3]
  funext y
  rw [View.read_apply]
  exact eq_of_heq (HEq.trans (heq_of_eq (Cert.Rows.at_rows (out0_3 (X0 m c t) (X1 m c t) (X2 m c t)) (entry_3 m c) (index_3 t) (block_3_eq m c t) y _ rfl rfl)) (cast_heq _ _).symm)

theorem final_3_eq (c : Dev nD) : (dats m 0 c).arrAt 3 cfg0.N = result_3 m c :=
  (dats m 0 c).arrAt_eq_of_cover 3 (result_3 m c) (fun t _ => flushed_3_eq m c t)
    ((show (cfg0.win 3).Covers by decide +kernel).cover _ (Memref.isWhole_whole _))

/-- The result as an array. -/
def result_4 (c : Dev nD) : Vec Ideal S16384x512 .bf16 := fun i => entry_4 m c i

theorem flushed_4_eq (c : Dev nD) (t : Fin cfg0.N) :
    (dats m 0 c).flushed 4 t = ((cfg0.win 4).blk t).view.read (Elt Ideal) (result_4 m c) := by
  rw [Value.flushed4]
  funext y
  rw [View.read_apply]
  exact eq_of_heq (HEq.trans (heq_of_eq (Cert.Rows.at_rows (out0_4 (X0 m c t) (X1 m c t) (X2 m c t)) (entry_4 m c) (index_4 t) (block_4_eq m c t) y _ rfl rfl)) (cast_heq _ _).symm)

theorem final_4_eq (c : Dev nD) : (dats m 0 c).arrAt 4 cfg0.N = result_4 m c :=
  (dats m 0 c).arrAt_eq_of_cover 4 (result_4 m c) (fun t _ => flushed_4_eq m c t)
    ((show (cfg0.win 4).Covers by decide +kernel).cover _ (Memref.isWhole_whole _))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v2_0) = result_3 m c
      ∧ r.2.mem ((c : Thread nD τ).loc main_v2_1) = result_4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_3_eq m c), (h c).2.1.trans (final_4_eq m c), (h c).2.2⟩) (Value.run_blocks m ρ)

end Cert.Kernel18Ideal.Prod

end
-- ==== Proof.GluFwdRef.lean ====
/-
  The reference's gated linear unit, at an index.
-/
module

public import proofs.«01_k».proof.Proof.Gen.Reference18Ideal.Read
public import proofs.«01_k».proof.Proof.Sigmoid
public import Idealize.ShloMosaic.Lib.Pointwise
public import Idealize.ShloMosaic.Lib.IdealHost

@[expose] public section

set_option maxRecDepth 16384

namespace Cert.Reference18Ideal.Prod

open Cert.Reference18Ideal Cert.Reference18Ideal.Gen Cert.Reference18Ideal.Read Idealize.ShloMosaic Idealize.ShloMosaic.TcCoe

/-- The activation at an index. -/
theorem act_eq (x0 : Vec Ideal S16384x512 .f32) (r : Fin 16384) (q : Fin 512) :
    val_main_v12 (F := Ideal) x0 (ix2 r q) = Cert.Sigmoid.gelu (x0 (ix2 r q)) := by
  unfold val_main_v12 val_main_v11 val_main_v10 val_main_cst_2 val_main_v9 val_main_v8 val_main_cst_1 val_main_v7 val_main_v6 val_main_v5 val_main_cst_0 val_main_v4 val_main_v3 val_main_v2 val_main_cst val_main_v1 val_main_v0
  pointwise
  rfl

/-- The gate at an index. -/
theorem gate_eq (x0 : Vec Ideal S16384x512 .f32) (x1 : Vec Ideal S2x512x512 .f32) (x2 : Vec Ideal S2x512 .f32) (r : Fin 16384) (q : Fin 512) :
    val_main_v26 (F := Ideal) x0 x1 x2 (ix2 r q) = Ideal.logistic
      ((∑ p : Fin 512, Cert.Sigmoid.gelu (x0 (ix2 r p)) * x1 (ix3 (0 : Fin 2) p q)) + x2 (ix2 (0 : Fin 2) q)) := by
  have h : val_main_v20 (F := Ideal) x0 x1 x2 (ix2 r q)
      = (∑ p : Fin 512, Cert.Sigmoid.gelu (x0 (ix2 r p)) * x1 (ix3 (0 : Fin 2) p q)) + x2 (ix2 (0 : Fin 2) q) := by
    unfold val_main_v20 val_main_v19 val_main_v18 val_main_v17 val_main_v16 val_main_v15 val_main_v14 val_main_v13
    pointwise
    refine congrArg₂ (· + ·) (Finset.sum_congr rfl fun p _ => ?_) rfl
    exact congrArg₂ (· * ·) (act_eq x0 r p) rfl
  unfold val_main_v26 val_main_v25 val_main_cst_4 val_main_v24 val_main_v23 val_main_cst_3 val_main_v22 val_main_v21
  pointwise
  rw [h]
  unfold Ideal.logistic
  rw [← Ideal.ofBits_one_f32]

/-- The first result at an index. -/
theorem read28 (x0 : Vec Ideal S16384x512 .f32) (x1 : Vec Ideal S2x512x512 .f32) (x2 : Vec Ideal S2x512 .f32) (r : Fin 16384) (q : Fin 512) :
    val_main_v28 (F := Ideal) x0 x1 x2 (ix2 r q) = Cert.Sigmoid.gelu (x0 (ix2 r q)) * Ideal.logistic
      ((∑ p : Fin 512, Cert.Sigmoid.gelu (x0 (ix2 r p)) * x1 (ix3 (0 : Fin 2) p q)) + x2 (ix2 (0 : Fin 2) q)) := by
  unfold val_main_v28 val_main_v27
  pointwise
  exact congrArg₂ (· * ·) (act_eq x0 r q) (gate_eq x0 x1 x2 r q)

/-- The second result at an index. -/
theorem read29 (x0 : Vec Ideal S16384x512 .f32) (r : Fin 16384) (q : Fin 512) :
    val_main_v29 (F := Ideal) x0 (ix2 r q) = Cert.Sigmoid.gelu (x0 (ix2 r q)) := by
  unfold val_main_v29
  pointwise
  exact act_eq x0 r q

end Cert.Reference18Ideal.Prod

end
-- ==== Proof.ConvFwdKernel.lean ====
/-
  The convolution's forward call, as the call leaves it: the gate's column block times the filter's three taps over the products
  of the other two column blocks, each row reading the two rows before it.
-/
module

public import proofs.«01_k».proof.Proof.Rows
public import Idealize.ShloMosaic.Lib.Pipeline.ValueKit
public import proofs.«01_k».proof.Proof.Gen.Kernel19Ideal.Value
public import proofs.«01_k».proof.Proof.Canon
public import Idealize.ShloMosaic.Lib.Tactic
public import Idealize.ShloMosaic.Lib.Pointwise

@[expose] public section

set_option maxRecDepth 16384

noncomputable section

namespace Cert.Kernel19Ideal.Prod

open Cert.Kernel19Ideal Cert.Kernel19Ideal.Gen Idealize.ShloMosaic Idealize.ShloMosaic.TcCoe Idealize.SL.Sem
open Idealize.ShloMosaic.Pipeline (Dat)
open Cert.Canon

variable (m : (ℓ : Loc nD τ sig) → Buf (Elt Ideal) ℓ) (ρ : Dev nD → PrngReg)

/-- Row `n` of the scratch buffer: the products of the 8 rows before the block (zero at the first block), then those of the
    block's own rows. -/
def above (i : grid0.Coords) (x1 x2 : Vec Ideal S512x512 .f32) (x3 x4 : Vec Ideal S8x512 .f32) (n : ℕ) (l : Fin 512) : EReal :=
  if h : n < 8 then (if 0 < (i 0).val then x3 (ix2 ⟨n, h⟩ l) * x4 (ix2 ⟨n, h⟩ l) else 0)
  else if h' : n - 8 < 512 then x1 (ix2 ⟨n - 8, h'⟩ l) * x2 (ix2 ⟨n - 8, h'⟩ l) else 0

/-- The three taps at row `j` of the block. -/
def conv (w : Vec Ideal S1x3x512 .f32) (z : ℕ → Fin 512 → EReal) (j : ℕ) (l : Fin 512) : EReal :=
  w (ix3 0 0 l) * z (j + 6) l + w (ix3 0 1 l) * z (j + 7) l + w (ix3 0 2 l) * z (j + 8) l

/-- The guard of the rows before the block: the point's coordinate is positive. -/
theorem guard_above (i : grid0.Coords) (a b : EReal) :
    Scalar.select (Scalar.cmpi .sgt (BitVec.ofNat 32 (i 0).val) 0#32) a b = if 0 < (i 0).val then a else b := by
  have hi : (i 0).val < 32 := (i 0).isLt
  generalize (i 0).val = n at hi
  interval_cases n <;> rfl

/-- A read of 512 rows of the scratch buffer from row `k` on (`k` at most 8). -/
theorem read_above (v : View sig .tc .vmem S520x512 .f32) (i : grid0.Coords) (x1 x2 : Vec Ideal S512x512 .f32)
    (x3 x4 : Vec Ideal S8x512 .f32) (k : ℕ) (hk : k ≤ 8) (i1 i2 i3) (j l : Fin 512) :
    v.readCov (Val := Elt Ideal) [⟨Rect.unit ![8, 0] S512x512.size i1, k0_pay4 x1 x2⟩, ⟨Rect.unit ![0, 0] S8x512.size i2, k0_pay3 i x3 x4⟩]
      (Rect.unit (s := S520x512) ![k, 0] S512x512.size i3).toLoadRect (ix2 j l) = above i x1 x2 x3 x4 (j.val + k) l := by
  rw [View.readCov_eq_canon']
  dsimp only
  unfold above
  have hj := j.isLt
  by_cases h : j.val + k < 8
  · rw [dif_pos h, canon_out _ _ _ _ _ _ (0 : Fin 2) (Or.inl (by show k + 1 * j.val < 8; omega)),
      canon_in (Val := Elt Ideal) (S := S520x512) (e := .f32) ![0, 0] ![8, 512] i2 (k0_pay3 i x3 x4) [] _ (ix2 (⟨j.val + k, h⟩ : Fin 8) l)
        (fun a => by match a with
          | ⟨0, _⟩ => show k + 1 * j.val = 0 + (j.val + k); omega
          | ⟨1, _⟩ => show 0 + 1 * l.val = 0 + l.val; omega)]
    pointwise [k0_pay3]
    exact guard_above i _ _
  · have h' : j.val + k - 8 < 512 := by omega
    rw [dif_neg h, dif_pos h', canon_in (Val := Elt Ideal) (S := S520x512) (e := .f32) ![8, 0] ![512, 512] i1 (k0_pay4 x1 x2) _ _ (ix2 (⟨j.val + k - 8, h'⟩ : Fin 512) l)
        (fun a => by match a with
          | ⟨0, _⟩ => show k + 1 * j.val = 8 + (j.val + k - 8); omega
          | ⟨1, _⟩ => show 0 + 1 * l.val = 0 + l.val; omega)]
    pointwise [k0_pay4, k0_pay2]

theorem hz : (![0, 0] : Fin 2 → ℕ) = fun _ => 0 := funext fun a => by fin_cases a <;> rfl

/-- At the block's own rows the buffer holds the block's products. -/
theorem above_own (i : grid0.Coords) (x1 x2 : Vec Ideal S512x512 .f32) (x3 x4 : Vec Ideal S8x512 .f32) (j l : Fin 512) :
    above i x1 x2 x3 x4 (j.val + 8) l = x1 (ix2 j l) * x2 (ix2 j l) := by
  unfold above
  rw [dif_neg (by omega), dif_pos (by have := j.isLt; omega)]
  simp only [Nat.add_sub_cancel]

/-- The output block at an index. -/
theorem out_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S1x3x512 .f32) (harg6 : arg6.IsWhole) (arg7 : Memref sig .tc .vmem S512x512 .bf16) (harg7 : arg7.IsWhole) (arg8 : Memref sig .tc .vmem S520x512 .f32) (harg8 : arg8.IsWhole) (x0 : Vec Ideal S512x512 .f32) (x1 : Vec Ideal S512x512 .f32) (x2 : Vec Ideal S512x512 .f32) (x3 : Vec Ideal S8x512 .f32) (x4 : Vec Ideal S8x512 .f32) (x5 : Vec Ideal S1x3x512 .f32) (j q : Fin 512) :
    out0_A_6 c i arg1 harg1 arg2 harg2 arg3 harg3 arg4 harg4 arg5 harg5 arg6 harg6 arg7 harg7 arg8 harg8 x0 x1 x2 x3 x4 x5 (ix2 j q) = x0 (ix2 j q) * conv x5 (above i x1 x2 x3 x4) j.val q := by
  unfold out0_A_6
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S512x512) hz, View.ld_unit_zero (S := S8x512) hz]
  rw [canon_in (Val := Elt Ideal) (S := S512x512) (e := .bf16) ![0, 0] ![512, 512] inb_S512x512_S512x512_0_0 _ _ (ix2 j q) (ix2 j q) (fun a => by match a with
        | ⟨0, _⟩ => show j.val = 0 + j.val; omega
        | ⟨1, _⟩ => show q.val = 0 + q.val; omega)]
  unfold conv
  rw [above_own]
  pointwise [k0_pay1, k0_pay5, k0_pay6, k0_pay2]
  rw [read_above _ _ _ _ _ _ 6 (by omega), read_above _ _ _ _ _ _ 7 (by omega)]

abbrev arg_0 (c : Dev nD) : Vec Ideal S16384x2048 .f32 := m ((c : Thread nD τ).loc main_arg0)
abbrev arg_1 (c : Dev nD) : Vec Ideal S2x3x512 .f32 := m ((c : Thread nD τ).loc main_arg1)

/-! The arrays that the input windows read, their blocks at point `t`, and both at an index. -/

abbrev Arr0 (c : Dev nD) : Vec Ideal S16384x2048 .f32 := V m c main_arg0
abbrev X0 (c : Dev nD) (t : Fin cfg0.N) : Vec Ideal S512x512 .f32 := iblk m c 0 t

theorem arr_0 (c : Dev nD) (r : Fin 16384) (p : Fin 2048) :
    Arr0 m c (ix2 r p) = arg_0 m c (ix2 r p) := by
  unfold Arr0 V
  after_results

abbrev Arr1 (c : Dev nD) : Vec Ideal S16384x2048 .f32 := V m c main_arg0
abbrev X1 (c : Dev nD) (t : Fin cfg0.N) : Vec Ideal S512x512 .f32 := iblk m c 1 t

theorem arr_1 (c : Dev nD) (r : Fin 16384) (p : Fin 2048) :
    Arr1 m c (ix2 r p) = arg_0 m c (ix2 r p) := by
  unfold Arr1 V
  after_results

abbrev Arr2 (c : Dev nD) : Vec Ideal S16384x2048 .f32 := V m c main_arg0
abbrev X2 (c : Dev nD) (t : Fin cfg0.N) : Vec Ideal S512x512 .f32 := iblk m c 2 t

theorem arr_2 (c : Dev nD) (r : Fin 16384) (p : Fin 2048) :
    Arr2 m c (ix2 r p) = arg_0 m c (ix2 r p) := by
  unfold Arr2 V
  after_results

abbrev Arr3 (c : Dev nD) : Vec Ideal S16384x2048 .f32 := V m c main_arg0
abbrev X3 (c : Dev nD) (t : Fin cfg0.N) : Vec Ideal S8x512 .f32 := iblk m c 3 t

theorem arr_3 (c : Dev nD) (r : Fin 16384) (p : Fin 2048) :
    Arr3 m c (ix2 r p) = arg_0 m c (ix2 r p) := by
  unfold Arr3 V
  after_results

abbrev Arr4 (c : Dev nD) : Vec Ideal S16384x2048 .f32 := V m c main_arg0
abbrev X4 (c : Dev nD) (t : Fin cfg0.N) : Vec Ideal S8x512 .f32 := iblk m c 4 t

theorem arr_4 (c : Dev nD) (r : Fin 16384) (p : Fin 2048) :
    Arr4 m c (ix2 r p) = arg_0 m c (ix2 r p) := by
  unfold Arr4 V
  after_results

abbrev Arr5 (c : Dev nD) : Vec Ideal S2x3x512 .f32 := V m c main_arg1
abbrev X5 (c : Dev nD) (t : Fin cfg0.N) : Vec Ideal S1x3x512 .f32 := iblk m c 5 t

theorem arr_5 (c : Dev nD) (k : Fin 2) (p : Fin 3) (q : Fin 512) :
    Arr5 m c (ix3 k p q) = arg_1 m c (ix3 k p q) := by
  unfold Arr5 V
  after_results

theorem index_0 : ∀ t : Fin cfg0.N, win0_0.index t 0 = t.val ∧ win0_0.index t 1 = 1 :=
  (by decide +kernel : ∀ t : Fin grid0.N, _)

theorem iblk_0 (c : Dev nD) (t : Fin cfg0.N) (j0 : Fin 512) (j1 : Fin 512) (r0 : Fin 16384) (r1 : Fin 2048)
    (h0 : r0.val = (t.val) * 512 + j0.val) (h1 : r1.val = (1) * 512 + j1.val) :
    X0 m c t (ix2 j0 j1) = Arr0 m c (ix2 r0 r1) := by
  unfold X0 iblk
  rw [View.read_apply]
  exact congrArg (V m c main_arg0) (Cert.Rows.ix2_of (index_0 t) h0 h1 rfl rfl)

theorem index_1 : ∀ t : Fin cfg0.N, win0_1.index t 0 = t.val ∧ win0_1.index t 1 = 2 :=
  (by decide +kernel : ∀ t : Fin grid0.N, _)

theorem iblk_1 (c : Dev nD) (t : Fin cfg0.N) (j0 : Fin 512) (j1 : Fin 512) (r0 : Fin 16384) (r1 : Fin 2048)
    (h0 : r0.val = (t.val) * 512 + j0.val) (h1 : r1.val = (2) * 512 + j1.val) :
    X1 m c t (ix2 j0 j1) = Arr1 m c (ix2 r0 r1) := by
  unfold X1 iblk
  rw [View.read_apply]
  exact congrArg (V m c main_arg0) (Cert.Rows.ix2_of (index_1 t) h0 h1 rfl rfl)

theorem index_2 : ∀ t : Fin cfg0.N, win0_2.index t 0 = t.val ∧ win0_2.index t 1 = 3 :=
  (by decide +kernel : ∀ t : Fin grid0.N, _)

theorem iblk_2 (c : Dev nD) (t : Fin cfg0.N) (j0 : Fin 512) (j1 : Fin 512) (r0 : Fin 16384) (r1 : Fin 2048)
    (h0 : r0.val = (t.val) * 512 + j0.val) (h1 : r1.val = (3) * 512 + j1.val) :
    X2 m c t (ix2 j0 j1) = Arr2 m c (ix2 r0 r1) := by
  unfold X2 iblk
  rw [View.read_apply]
  exact congrArg (V m c main_arg0) (Cert.Rows.ix2_of (index_2 t) h0 h1 rfl rfl)

theorem index_3 : ∀ t : Fin cfg0.N, win0_3.index t 0 = 64 * t.val - 1 ∧ win0_3.index t 1 = 2 :=
  (by decide +kernel : ∀ t : Fin grid0.N, _)

theorem iblk_3 (c : Dev nD) (t : Fin cfg0.N) (j0 : Fin 8) (j1 : Fin 512) (r0 : Fin 16384) (r1 : Fin 2048)
    (h0 : r0.val = (64 * t.val - 1) * 8 + j0.val) (h1 : r1.val = (2) * 512 + j1.val) :
    X3 m c t (ix2 j0 j1) = Arr3 m c (ix2 r0 r1) := by
  unfold X3 iblk
  rw [View.read_apply]
  exact congrArg (V m c main_arg0) (Cert.Rows.ix2_of (index_3 t) h0 h1 rfl rfl)

theorem index_4 : ∀ t : Fin cfg0.N, win0_4.index t 0 = 64 * t.val - 1 ∧ win0_4.index t 1 = 3 :=
  (by decide +kernel : ∀ t : Fin grid0.N, _)

theorem iblk_4 (c : Dev nD) (t : Fin cfg0.N) (j0 : Fin 8) (j1 : Fin 512) (r0 : Fin 16384) (r1 : Fin 2048)
    (h0 : r0.val = (64 * t.val - 1) * 8 + j0.val) (h1 : r1.val = (3) * 512 + j1.val) :
    X4 m c t (ix2 j0 j1) = Arr4 m c (ix2 r0 r1) := by
  unfold X4 iblk
  rw [View.read_apply]
  exact congrArg (V m c main_arg0) (Cert.Rows.ix2_of (index_4 t) h0 h1 rfl rfl)

theorem index_5 : ∀ t : Fin cfg0.N, win0_5.index t 0 = 0 ∧ win0_5.index t 1 = 0 ∧ win0_5.index t 2 = 0 :=
  (by decide +kernel : ∀ t : Fin grid0.N, _)

theorem iblk_5 (c : Dev nD) (t : Fin cfg0.N) (j0 : Fin 1) (j1 : Fin 3) (j2 : Fin 512) (r0 : Fin 2) (r1 : Fin 3) (r2 : Fin 512)
    (h0 : r0.val = (0) * 1 + j0.val) (h1 : r1.val = (0) * 3 + j1.val) (h2 : r2.val = (0) * 512 + j2.val) :
    X5 m c t (ix3 j0 j1 j2) = Arr5 m c (ix3 r0 r1 r2) := by
  unfold X5 iblk
  rw [View.read_apply]
  exact congrArg (V m c main_arg1) (Cert.Rows.ix3_of (index_5 t) h0 h1 h2 rfl rfl rfl)

theorem index_6 : ∀ t : Fin cfg0.N, win0_6.index t 0 = t.val ∧ win0_6.index t 1 = 0 :=
  (by decide +kernel : ∀ t : Fin grid0.N, _)

theorem coord_0 : ∀ t : Fin cfg0.N, (grid0.coords t 0).val = t.val :=
  (by decide +kernel : ∀ t : Fin grid0.N, (grid0.coords t 0).val = t.val)

/-- Row `n` of the padded products of `h`'s last two column blocks: two zero rows, then the 16384 rows. -/
def zp (h : Vec Ideal S16384x2048 .f32) (n : ℕ) (l : Fin 512) : EReal :=
  if hn : 2 ≤ n ∧ n - 2 < 16384 then h (ix2 ⟨n - 2, hn.2⟩ ⟨1024 + l.val, by omega⟩) * h (ix2 ⟨n - 2, hn.2⟩ ⟨1536 + l.val, by omega⟩) else 0

/-- The three taps at row `r`. -/
def yAt (w : Vec Ideal S2x3x512 .f32) (z : ℕ → Fin 512 → EReal) (r : ℕ) (l : Fin 512) : EReal :=
  w (ix3 0 0 l) * z r l + w (ix3 0 1 l) * z (r + 1) l + w (ix3 0 2 l) * z (r + 2) l

/-- The convolution, gated. -/
def outOf (h : Vec Ideal S16384x2048 .f32) (w : Vec Ideal S2x3x512 .f32) (r : Fin 16384) (q : Fin 512) : EReal :=
  h (ix2 r ⟨512 + q.val, by omega⟩) * yAt w (zp h) r.val q

/-- An entry of the result. -/
def entry (c : Dev nD) (i : S16384x512.Idx) : EReal := outOf (arg_0 m c) (arg_1 m c) (i 0) (i 1)

section
variable (c : Dev nD) (t : Fin cfg0.N)
theorem col_0 (j l : Fin 512) (r : Fin 16384) (q : Fin 2048) (hr : r.val = t.val * 512 + j.val) (hq : q.val = 512 + l.val) :
    X0 m c t (ix2 j l) = arg_0 m c (ix2 r q) := (iblk_0 m c t j l r q (by omega) (by omega)).trans (arr_0 m c r q)
theorem col_1 (j l : Fin 512) (r : Fin 16384) (q : Fin 2048) (hr : r.val = t.val * 512 + j.val) (hq : q.val = 1024 + l.val) :
    X1 m c t (ix2 j l) = arg_0 m c (ix2 r q) := (iblk_1 m c t j l r q (by omega) (by omega)).trans (arr_1 m c r q)
theorem col_2 (j l : Fin 512) (r : Fin 16384) (q : Fin 2048) (hr : r.val = t.val * 512 + j.val) (hq : q.val = 1536 + l.val) :
    X2 m c t (ix2 j l) = arg_0 m c (ix2 r q) := (iblk_2 m c t j l r q (by omega) (by omega)).trans (arr_2 m c r q)
theorem col_3 (j : Fin 8) (l : Fin 512) (r : Fin 16384) (q : Fin 2048) (hr : r.val = (64 * t.val - 1) * 8 + j.val) (hq : q.val = 1024 + l.val) :
    X3 m c t (ix2 j l) = arg_0 m c (ix2 r q) := (iblk_3 m c t j l r q (by omega) (by omega)).trans (arr_3 m c r q)
theorem col_4 (j : Fin 8) (l : Fin 512) (r : Fin 16384) (q : Fin 2048) (hr : r.val = (64 * t.val - 1) * 8 + j.val) (hq : q.val = 1536 + l.val) :
    X4 m c t (ix2 j l) = arg_0 m c (ix2 r q) := (iblk_4 m c t j l r q (by omega) (by omega)).trans (arr_4 m c r q)
theorem tap_eq (k : Fin 3) (l : Fin 512) : X5 m c t (ix3 0 k l) = arg_1 m c (ix3 0 k l) :=
  (iblk_5 m c t 0 k l 0 k l (by omega) (by omega) (by omega)).trans (arr_5 m c 0 k l)
end

/-- The scratch buffer at point `t` holds rows `512 t - 6` on of the padded products. -/
theorem above_eq (c : Dev nD) (t : Fin cfg0.N) (n : ℕ) (h6 : 6 ≤ n) (hn : n < 520) (l : Fin 512) :
    above (grid0.coords t) (X1 m c t) (X2 m c t) (X3 m c t) (X4 m c t) n l = zp (arg_0 m c) (512 * t.val + n - 6) l := by
  have ht : t.val < 32 := t.isLt
  have hl := l.isLt
  unfold above zp
  rw [coord_0]
  by_cases h : n < 8
  · rw [dif_pos h]
    by_cases h0 : 0 < t.val
    · rw [if_pos h0, dif_pos (by omega)]
      rw [col_3 m c t ⟨n, h⟩ l ⟨512 * t.val + n - 6 - 2, by omega⟩ ⟨1024 + l.val, by omega⟩ (by show 512 * t.val + n - 6 - 2 = (64 * t.val - 1) * 8 + n; omega) rfl,
        col_4 m c t ⟨n, h⟩ l ⟨512 * t.val + n - 6 - 2, by omega⟩ ⟨1536 + l.val, by omega⟩ (by show 512 * t.val + n - 6 - 2 = (64 * t.val - 1) * 8 + n; omega) rfl]
    · rw [if_neg h0, dif_neg (by omega)]
  · have h' : n - 8 < 512 := by omega
    rw [dif_neg h, dif_pos h', dif_pos (by omega)]
    rw [col_1 m c t ⟨n - 8, h'⟩ l ⟨512 * t.val + n - 6 - 2, by omega⟩ ⟨1024 + l.val, by omega⟩ (by show 512 * t.val + n - 6 - 2 = t.val * 512 + (n - 8); omega) rfl,
      col_2 m c t ⟨n - 8, h'⟩ l ⟨512 * t.val + n - 6 - 2, by omega⟩ ⟨1536 + l.val, by omega⟩ (by show 512 * t.val + n - 6 - 2 = t.val * 512 + (n - 8); omega) rfl]

/-- The output block of point `t`, read in the arguments. -/
theorem after_eq (c : Dev nD) (t : Fin cfg0.N) (j p : Fin 512) (r : Fin 16384) (q : Fin 512)
    (hr : r.val = (t.val) * 512 + j.val) (hq : q.val = (0) * 512 + p.val) :
    outsAt0 m c t (ix2 j p) = entry m c (ix2 r q) := by
  obtain rfl : q = p := Fin.ext (by omega)
  have hj := j.isLt
  unfold outsAt0 entry outOf
  refine (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (X0 m c t) (X1 m c t) (X2 m c t) (X3 m c t) (X4 m c t) (X5 m c t) j q).trans ?_
  refine congrArg₂ (· * ·) (col_0 m c t j q r ⟨512 + q.val, by omega⟩ hr rfl) ?_
  show conv _ _ _ _ = yAt (arg_1 m c) (zp (arg_0 m c)) r.val q
  unfold conv yAt
  rw [above_eq m c t _ (by omega) (by omega), above_eq m c t _ (by omega) (by omega), above_eq m c t _ (by omega) (by omega), tap_eq, tap_eq, tap_eq, hr,
    show 512 * t.val + (j.val + 6) - 6 = t.val * 512 + j.val from by omega, show 512 * t.val + (j.val + 7) - 6 = t.val * 512 + j.val + 1 from by omega,
    show 512 * t.val + (j.val + 8) - 6 = t.val * 512 + j.val + 2 from by omega]

/-- The result as an array. -/
def result (c : Dev nD) : Vec Ideal S16384x512 .bf16 := fun i => entry m c i

theorem flushed_eq (c : Dev nD) (t : Fin cfg0.N) :
    (dats m 0 c).flushed 6 t = ((cfg0.win 6).blk t).view.read (Elt Ideal) (result m c) := by
  rw [Value.flushed6]
  have hi := index_6 t
  have ht : t.val < 32 := t.isLt
  funext y
  rw [View.read_apply]
  have hy0 : (y 0 : ℕ) < 512 := (y 0).isLt
  have hy1 : (y 1 : ℕ) < 512 := (y 1).isLt
  have e0 : ((((cfg0.win 6).blk t).view.emb y) 0 : ℕ) = (t.val) * 512 + (y 0 : ℕ) := by
    show win0_6.index t 0 * 512 + 1 * (y 0 : ℕ) = _
    rw [hi.1]; omega
  have e1 : ((((cfg0.win 6).blk t).view.emb y) 1 : ℕ) = (0) * 512 + (y 1 : ℕ) := by
    show win0_6.index t 1 * 512 + 1 * (y 1 : ℕ) = _
    rw [hi.2]; omega
  have hy : (y : S512x512.Idx) = ix2 (⟨(y 0 : ℕ), hy0⟩ : Fin 512) (⟨(y 1 : ℕ), hy1⟩ : Fin 512) := by
    funext a
    match a with
    | ⟨0, _⟩ => rfl
    | ⟨1, _⟩ => rfl
  refine eq_of_heq (HEq.trans (heq_of_eq (?_ : (outsAt0 m c t) y = entry m c (((cfg0.win 6).blk t).view.emb y))) (cast_heq _ _).symm)
  rw [show (outsAt0 m c t) y = (outsAt0 m c t) (ix2 (⟨(y 0 : ℕ), hy0⟩ : Fin 512) (⟨(y 1 : ℕ), hy1⟩ : Fin 512)) from congrArg _ hy]
  refine (after_eq m c t (⟨(y 0 : ℕ), hy0⟩ : Fin 512) (⟨(y 1 : ℕ), hy1⟩ : Fin 512) (((cfg0.win 6).blk t).view.emb y 0) (((cfg0.win 6).blk t).view.emb y 1) e0 e1).trans ?_
  refine congrArg (entry m c) ?_
  funext a
  match a with
  | ⟨0, _⟩ => rfl
  | ⟨1, _⟩ => rfl

theorem final_eq (c : Dev nD) : (dats m 0 c).arrAt 6 cfg0.N = result m c :=
  (dats m 0 c).arrAt_eq_of_cover 6 (result m c) (fun t _ => flushed_eq m c t)
    ((show (cfg0.win 6).Covers by decide +kernel).cover _ (Memref.isWhole_whole _))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_eq m c), (h c).2⟩) (Value.run_blocks m ρ)

end Cert.Kernel19Ideal.Prod

end
-- ==== Proof.ConvFwdRef.lean ====
/-
  The reference's convolution, at an index.
-/
module

public import proofs.«01_k».proof.Proof.Gen.Reference19Ideal.Read
public import proofs.«01_k».proof.Proof.ConvFwdKernel

@[expose] public section

set_option maxRecDepth 16384

noncomputable section

namespace Cert.Reference19Ideal.Prod

open Cert.Reference19Ideal Cert.Reference19Ideal.Gen Cert.Reference19Ideal.Read Idealize.ShloMosaic Idealize.ShloMosaic.TcCoe

open Cert.Kernel19Ideal.Prod (zp yAt outOf)

variable (h : Vec Ideal S16384x2048 .f32) (w : Vec Ideal S2x3x512 .f32)

/-- The padded products. -/
theorem zp_ref (n : Fin 16386) (l : Fin 512) : val_main_v5 (F := Ideal) h (ix2 n l) = zp h n.val l := by
  have hn := n.isLt
  pointwise [val_main_v5, val_main_v4, val_main_v3, val_main_v2, val_main_call0_v0, val_main_c]
  unfold zp
  by_cases h2 : 2 ≤ n.val ∧ n.val - 2 < 16384
  · refine Eq.trans (dif_pos h2) ?_
    rw [dif_pos h2]
  · refine (dif_neg h2).trans (Eq.trans ?_ (dif_neg h2).symm)
    show (((0#32).toInt : ℝ) : EReal) = 0
    simp

/-- The result at an index. -/
theorem read27 (r : Fin 16384) (q : Fin 512) : val_main_v27 (F := Ideal) h w (ix2 r q) = outOf h w r q := by
  have hr := r.isLt
  unfold val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v1
  pointwise
  simp only [zp_ref]
  unfold outOf yAt
  rw [Nat.add_comm 1 r.val, Nat.add_comm 2 r.val]

end Cert.Reference19Ideal.Prod

end
-- ==== Proof.AdamW.lean ====
/-
  One entry of the optimiser's step, with the constants as the programs write them: the gradient summed over the devices, the
  two running means, and the change of the weight.
-/
module

public import Idealize.ShloMosaic.Lib.Pointwise

@[expose] public section

noncomputable section

namespace Cert.AdamW

open Idealize.ShloMosaic

/-- The sum of the eight devices' gradients. -/
def grad (p : Fin 8 → EReal) : EReal := p 0 + p 1 + p 2 + p 3 + p 4 + p 5 + p 6 + p 7

/-- The running mean of the gradients. -/
def mean (g m : EReal) : EReal := Ideal.ofBits .f32 0x3F666666#32 * m + Ideal.ofBits .f32 0x3DCCCCCD#32 * g

/-- The running mean of the gradients' squares. -/
def var (g v : EReal) : EReal := Ideal.ofBits .f32 0x3F7FBE77#32 * v + Ideal.ofBits .f32 0x3A83126F#32 * (g * g)

/-- The change of the weight. -/
def delta (g w m v : EReal) : EReal :=
  Ideal.ofBits .f32 0xBA83126F#32 * (Ideal.div (Ideal.div (mean g m) (Ideal.ofBits .f32 0x3F26BD02#32))
      (Ideal.sqrt (Ideal.div (var g v) (Ideal.ofBits .f32 0x3C231ACC#32)) + Ideal.ofBits .f32 0x322BCC77#32)
    + Ideal.ofBits .f32 0x3C23D70A#32 * w)

end Cert.AdamW

end
-- ==== Proof.AdamUpKernel.lean ====
/-
  The optimiser's step, as the call leaves it: the sum of the devices' gradients, the change of the weights and the two
  running means.
-/
module

public import proofs.«01_k».proof.Proof.Gen.Kernel20Ideal.Value
public import proofs.«01_k».proof.Proof.Canon
public import proofs.«01_k».proof.Proof.Rows
public import proofs.«01_k».proof.Proof.AdamW
public import Idealize.ShloMosaic.Lib.Tactic
public import Idealize.ShloMosaic.Lib.Pipeline.ValueKit

@[expose] public section

set_option maxRecDepth 16384

noncomputable section

namespace Cert.Kernel20Ideal.Prod

open Cert.Kernel20Ideal Cert.Kernel20Ideal.Gen Idealize.ShloMosaic Idealize.ShloMosaic.TcCoe Idealize.SL.Sem
open Cert.Canon Cert.AdamW Cert.Rows

/-- Device `n`'s gradient at row `r` of the layers' rows, one layer after another. -/
def part (g0 g1 g2 g3 : Vec Ideal S8x1024x704 .bf16) (r : Fin 4096) (q : Fin 704) (n : Fin 8) : EReal :=
  if h : r.val < 1024 then g0 (ix3 n ⟨r.val, by omega⟩ q)
  else if h : r.val - 1024 < 1024 then g1 (ix3 n ⟨r.val - 1024, by omega⟩ q)
  else if h : r.val - 1024 - 1024 < 1024 then g2 (ix3 n ⟨r.val - 1024 - 1024, by omega⟩ q)
  else g3 (ix3 n ⟨r.val - 1024 - 1024 - 1024, by omega⟩ q)

/-- A layered array at row `r` of the layers' rows. -/
abbrev at_ (x : Vec Ideal S4x1024x704 .f32) (r : Fin 4096) (q : Fin 704) : EReal := x (ix3 ⟨r.val / 1024, by omega⟩ ⟨r.val % 1024, by omega⟩ q)

/-- The blocks that a point leaves, at an index. -/
theorem out_eq (x0 : Vec Ideal S8x128x704 .bf16) (x1 x2 x3 : Vec Ideal S128x704 .f32) (j : Fin 128) (p : Fin 704) :
    out0_4 x0 x1 x2 x3 (ix2 j p) = grad (fun n => x0 (ix3 n j p))
    ∧ out0_5 x0 x1 x2 x3 (ix2 j p) = delta (grad (fun n => x0 (ix3 n j p))) (x1 (ix2 j p)) (x2 (ix2 j p)) (x3 (ix2 j p))
    ∧ out0_6 x0 x1 x2 x3 (ix2 j p) = mean (grad (fun n => x0 (ix3 n j p))) (x2 (ix2 j p))
    ∧ out0_7 x0 x1 x2 x3 (ix2 j p) = var (grad (fun n => x0 (ix3 n j p))) (x3 (ix2 j p)) := by
  unfold out0_4 out0_5 out0_6 out0_7
  refine ⟨?_, ?_, ?_, ?_⟩ <;>
  · rw [canon_in _ _ _ _ _ _ (ix2 j p) (fun a => by match a with
        | ⟨0, _⟩ => show j.val = 0 + j.val; omega
        | ⟨1, _⟩ => show p.val = 0 + p.val; omega)]
    pointwise [k0_pay1, k0_pay2, k0_pay3, k0_pay4, k0_pay5, k0_pay6, k0_pay7]
    rfl

variable (m : (ℓ : Loc nD τ sig) → Buf (Elt Ideal) ℓ) (ρ : Dev nD → PrngReg) (c : Dev nD)

/-! The arguments, and the blocks that a point reads. -/

abbrev arg_0 : Vec Ideal S8x1024x704 .bf16 := m ((c : Thread nD τ).loc main_arg0)
abbrev arg_1 : Vec Ideal S8x1024x704 .bf16 := m ((c : Thread nD τ).loc main_arg1)
abbrev arg_2 : Vec Ideal S8x1024x704 .bf16 := m ((c : Thread nD τ).loc main_arg2)
abbrev arg_3 : Vec Ideal S8x1024x704 .bf16 := m ((c : Thread nD τ).loc main_arg3)
abbrev arg_4 : Vec Ideal S4x1024x704 .f32 := m ((c : Thread nD τ).loc main_arg4)
abbrev arg_5 : Vec Ideal S4x1024x704 .f32 := m ((c : Thread nD τ).loc main_arg5)
abbrev arg_6 : Vec Ideal S4x1024x704 .f32 := m ((c : Thread nD τ).loc main_arg6)
abbrev X0 (t : Fin cfg0.N) : Vec Ideal S8x128x704 .bf16 := iblk m c 0 t
abbrev X1 (t : Fin cfg0.N) : Vec Ideal S128x704 .f32 := iblk m c 1 t
abbrev X2 (t : Fin cfg0.N) : Vec Ideal S128x704 .f32 := iblk m c 2 t
abbrev X3 (t : Fin cfg0.N) : Vec Ideal S128x704 .f32 := iblk m c 3 t

theorem index_0 : ∀ t : Fin cfg0.N, win0_0.index t 0 = 0 ∧ win0_0.index t 1 = t.val ∧ win0_0.index t 2 = 0 :=
  (by decide +kernel : ∀ t : Fin grid0.N, _)
theorem index_1 : ∀ t : Fin cfg0.N, win0_1.index t 0 = t.val ∧ win0_1.index t 1 = 0 :=
  (by decide +kernel : ∀ t : Fin grid0.N, _)
theorem index_2 : ∀ t : Fin cfg0.N, win0_2.index t 0 = t.val ∧ win0_2.index t 1 = 0 :=
  (by decide +kernel : ∀ t : Fin grid0.N, _)
theorem index_3 : ∀ t : Fin cfg0.N, win0_3.index t 0 = t.val ∧ win0_3.index t 1 = 0 :=
  (by decide +kernel : ∀ t : Fin grid0.N, _)
theorem index_4 : ∀ t : Fin cfg0.N, win0_4.index t 0 = t.val ∧ win0_4.index t 1 = 0 :=
  (by decide +kernel : ∀ t : Fin grid0.N, _)
theorem index_5 : ∀ t : Fin cfg0.N, win0_5.index t 0 = t.val ∧ win0_5.index t 1 = 0 :=
  (by decide +kernel : ∀ t : Fin grid0.N, _)
theorem index_6 : ∀ t : Fin cfg0.N, win0_6.index t 0 = t.val ∧ win0_6.index t 1 = 0 :=
  (by decide +kernel : ∀ t : Fin grid0.N, _)
theorem index_7 : ∀ t : Fin cfg0.N, win0_7.index t 0 = t.val ∧ win0_7.index t 1 = 0 :=
  (by decide +kernel : ∀ t : Fin grid0.N, _)

section
variable (t : Fin cfg0.N) (j : Fin 128) (p : Fin 704) (r : Fin 4096) (q : Fin 704) (hr : r.val = t.val * 128 + j.val) (hq : q.val = 0 * 704 + p.val)
include hr hq

theorem in_0 : (fun n => X0 m c t (ix3 n j p)) = part (arg_0 m c) (arg_1 m c) (arg_2 m c) (arg_3 m c) r q := funext fun n => by
  unfold X0 iblk
  rw [View.read_apply]
  refine (congrArg (V m c main_v0) (ix3_of (r0 := n) (index_0 t) (show n.val = 0 * 8 + n.val by omega) hr hq rfl rfl rfl)).trans ?_
  unfold V
  after_results
  pointwise
  unfold part
  split_ifs <;> after_results_simp

theorem in_1 : X1 m c t (ix2 j p) = at_ (arg_4 m c) r q := by
  unfold X1 iblk
  rw [View.read_apply]
  refine (congrArg (V m c main_v1) (ix2_of (index_1 t) hr hq rfl rfl)).trans ?_
  unfold V
  after_results
  pointwise

theorem in_2 : X2 m c t (ix2 j p) = at_ (arg_5 m c) r q := by
  unfold X2 iblk
  rw [View.read_apply]
  refine (congrArg (V m c main_v2) (ix2_of (index_2 t) hr hq rfl rfl)).trans ?_
  unfold V
  after_results
  pointwise

theorem in_3 : X3 m c t (ix2 j p) = at_ (arg_6 m c) r q := by
  unfold X3 iblk
  rw [View.read_apply]
  refine (congrArg (V m c main_v3) (ix2_of (index_3 t) hr hq rfl rfl)).trans ?_
  unfold V
  after_results
  pointwise
end

/-- The summed gradient. -/
def entry_4 (r : Fin 4096) (q : Fin 704) : EReal := grad (part (arg_0 m c) (arg_1 m c) (arg_2 m c) (arg_3 m c) r q)
def result_4 : Vec Ideal S4096x704 .f32 := fun i => entry_4 m c (i 0) (i 1)

theorem final_4_eq : (dats m 0 c).arrAt 4 cfg0.N = result_4 m c :=
  (dats m 0 c).arrAt_eq_of_covers 4 (result_4 m c) (by decide +kernel) fun t _ y => by
    rw [after0_4]
    exact eq_of_heq ((cast_heq _ _).trans (heq_of_eq (at_rows (out0_4 (X0 m c t) (X1 m c t) (X2 m c t) (X3 m c t)) (result_4 m c) (index_4 t)
      (fun j p r q hr hq => (out_eq _ _ _ _ j p).1.trans (by rw [in_0 m c t j p r q hr hq]; rfl)) y _ rfl rfl)))

/-- The change of the weights. -/
def entry_5 (r : Fin 4096) (q : Fin 704) : EReal := delta (grad (part (arg_0 m c) (arg_1 m c) (arg_2 m c) (arg_3 m c) r q)) (at_ (arg_4 m c) r q) (at_ (arg_5 m c) r q) (at_ (arg_6 m c) r q)
def result_5 : Vec Ideal S4096x704 .f32 := fun i => entry_5 m c (i 0) (i 1)

theorem final_5_eq : (dats m 0 c).arrAt 5 cfg0.N = result_5 m c :=
  (dats m 0 c).arrAt_eq_of_covers 5 (result_5 m c) (by decide +kernel) fun t _ y => by
    rw [after0_5]
    exact eq_of_heq ((cast_heq _ _).trans (heq_of_eq (at_rows (out0_5 (X0 m c t) (X1 m c t) (X2 m c t) (X3 m c t)) (result_5 m c) (index_5 t)
      (fun j p r q hr hq => (out_eq _ _ _ _ j p).2.1.trans (by rw [in_0 m c t j p r q hr hq, in_1 m c t j p r q hr hq, in_2 m c t j p r q hr hq, in_3 m c t j p r q hr hq]; rfl)) y _ rfl rfl)))

/-- The mean of the gradients. -/
def entry_6 (r : Fin 4096) (q : Fin 704) : EReal := mean (grad (part (arg_0 m c) (arg_1 m c) (arg_2 m c) (arg_3 m c) r q)) (at_ (arg_5 m c) r q)
def result_6 : Vec Ideal S4096x704 .f32 := fun i => entry_6 m c (i 0) (i 1)

theorem final_6_eq : (dats m 0 c).arrAt 6 cfg0.N = result_6 m c :=
  (dats m 0 c).arrAt_eq_of_covers 6 (result_6 m c) (by decide +kernel) fun t _ y => by
    rw [after0_6]
    exact eq_of_heq ((cast_heq _ _).trans (heq_of_eq (at_rows (out0_6 (X0 m c t) (X1 m c t) (X2 m c t) (X3 m c t)) (result_6 m c) (index_6 t)
      (fun j p r q hr hq => (out_eq _ _ _ _ j p).2.2.1.trans (by rw [in_0 m c t j p r q hr hq, in_2 m c t j p r q hr hq]; rfl)) y _ rfl rfl)))

/-- The mean of the gradients' squares. -/
def entry_7 (r : Fin 4096) (q : Fin 704) : EReal := var (grad (part (arg_0 m c) (arg_1 m c) (arg_2 m c) (arg_3 m c) r q)) (at_ (arg_6 m c) r q)
def result_7 : Vec Ideal S4096x704 .f32 := fun i => entry_7 m c (i 0) (i 1)

theorem final_7_eq : (dats m 0 c).arrAt 7 cfg0.N = result_7 m c :=
  (dats m 0 c).arrAt_eq_of_covers 7 (result_7 m c) (by decide +kernel) fun t _ y => by
    rw [after0_7]
    exact eq_of_heq ((cast_heq _ _).trans (heq_of_eq (at_rows (out0_7 (X0 m c t) (X1 m c t) (X2 m c t) (X3 m c t)) (result_7 m c) (index_7 t)
      (fun j p r q hr hq => (out_eq _ _ _ _ j p).2.2.2.trans (by rw [in_0 m c t j p r q hr hq, in_3 m c t j p r q hr hq]; rfl)) y _ rfl rfl)))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v4_0) = result_4 m c
      ∧ r.2.mem ((c : Thread nD τ).loc main_v4_1) = result_5 m c
      ∧ r.2.mem ((c : Thread nD τ).loc main_v4_2) = result_6 m c
      ∧ r.2.mem ((c : Thread nD τ).loc main_v4_3) = result_7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_4_eq m c), (h c).2.1.trans (final_5_eq m c), (h c).2.2.1.trans (final_6_eq m c), (h c).2.2.2.1.trans (final_7_eq m c), (h c).2.2.2.2⟩) (Value.run_blocks m ρ)

end Cert.Kernel20Ideal.Prod

end
-- ==== Proof.AdamUpRef.lean ====
/-
  The reference's optimiser step, at an index.
-/
module

public import proofs.«01_k».proof.Proof.Gen.Reference20Ideal.Read
public import proofs.«01_k».proof.Proof.AdamUpKernel

@[expose] public section

set_option maxRecDepth 16384

noncomputable section

namespace Cert.Reference20Ideal.Prod

open Cert.Reference20Ideal Cert.Reference20Ideal.Gen Cert.Reference20Ideal.Read Idealize.ShloMosaic Idealize.ShloMosaic.TcCoe
open Cert.AdamW
open Cert.Kernel20Ideal.Prod (part at_)

variable (x0 x1 x2 x3 : Vec Ideal S8x1024x704 .bf16) (x4 x5 x6 : Vec Ideal S4x1024x704 .f32) (r : Fin 4096) (q : Fin 704)

/-- The summed gradient. -/
theorem read_grad : val_main_v8 (F := Ideal) x0 x1 x2 x3 (ix2 r q) = grad (part x0 x1 x2 x3 r q) := by
  unfold val_main_v8 val_main_v7 val_main_cst_2 val_main_v6 val_main_v5 val_main_cst_1 val_main_v4 val_main_v3 val_main_cst_0 val_main_v2 val_main_v1 val_main_cst val_main_v0
  pointwise
  unfold part grad
  split_ifs <;> exact Fin.sum_univ_eight _

/-- The change of the weights. -/
theorem read_delta : val_main_v35 (F := Ideal) x0 x1 x2 x3 x4 x5 x6 (ix2 r q) = delta (grad (part x0 x1 x2 x3 r q)) (at_ x4 r q) (at_ x5 r q) (at_ x6 r q) := by
  unfold val_main_v35 val_main_v34 val_main_cst_11 val_main_v33 val_main_v32 val_main_v31 val_main_cst_10 val_main_v30 val_main_v29 val_main_v28 val_main_cst_9 val_main_v27 val_main_v26 val_main_v25 val_main_cst_8 val_main_v24 val_main_v23 val_main_cst_7 val_main_v22 val_main_v21 val_main_v20 val_main_cst_6 val_main_v19 val_main_v18 val_main_v17 val_main_cst_5 val_main_v16 val_main_v15 val_main_v14 val_main_cst_4 val_main_v13 val_main_v12 val_main_cst_3 val_main_v11 val_main_v10 val_main_v9
  pointwise
  rw [read_grad]
  rfl

/-- The mean of the gradients. -/
theorem read_mean : val_main_v16 (F := Ideal) x0 x1 x2 x3 x5 (ix2 r q) = mean (grad (part x0 x1 x2 x3 r q)) (at_ x5 r q) := by
  unfold val_main_v16 val_main_v15 val_main_v14 val_main_cst_4 val_main_v13 val_main_v12 val_main_cst_3 val_main_v10
  pointwise
  rw [read_grad]
  rfl

/-- The mean of the gradients' squares. -/
theorem read_var : val_main_v22 (F := Ideal) x0 x1 x2 x3 x6 (ix2 r q) = var (grad (part x0 x1 x2 x3 r q)) (at_ x6 r q) := by
  unfold val_main_v22 val_main_v21 val_main_v20 val_main_cst_6 val_main_v19 val_main_v18 val_main_v17 val_main_cst_5 val_main_v11
  pointwise
  rw [read_grad]
  rfl

end Cert.Reference20Ideal.Prod

end
-- ==== Proof.AdamInKernel.lean ====
/-
  The optimiser's step, as the call leaves it: the sum of the devices' gradients, the change of the weights and the two
  running means.
-/
module

public import proofs.«01_k».proof.Proof.Gen.Kernel21Ideal.Value
public import proofs.«01_k».proof.Proof.Canon
public import proofs.«01_k».proof.Proof.Rows
public import proofs.«01_k».proof.Proof.AdamW
public import Idealize.ShloMosaic.Lib.Tactic
public import Idealize.ShloMosaic.Lib.Pipeline.ValueKit

@[expose] public section

set_option maxRecDepth 16384

noncomputable section

namespace Cert.Kernel21Ideal.Prod

open Cert.Kernel21Ideal Cert.Kernel21Ideal.Gen Idealize.ShloMosaic Idealize.ShloMosaic.TcCoe Idealize.SL.Sem
open Cert.Canon Cert.AdamW Cert.Rows

/-- Device `n`'s gradient at row `r` of the layers' rows, one layer after another. -/
def part (g0 g1 : Vec Ideal S8x1024x256 .bf16) (r : Fin 2048) (q : Fin 256) (n : Fin 8) : EReal :=
  if h : r.val < 1024 then g0 (ix3 n ⟨r.val, by omega⟩ q)
  else g1 (ix3 n ⟨r.val - 1024, by omega⟩ q)

/-- A layered array at row `r` of the layers' rows. -/
abbrev at_ (x : Vec Ideal S2x1024x256 .f32) (r : Fin 2048) (q : Fin 256) : EReal := x (ix3 ⟨r.val / 1024, by omega⟩ ⟨r.val % 1024, by omega⟩ q)

/-- The blocks that a point leaves, at an index. -/
theorem out_eq (x0 : Vec Ideal S8x512x256 .bf16) (x1 x2 x3 : Vec Ideal S512x256 .f32) (j : Fin 512) (p : Fin 256) :
    out0_4 x0 x1 x2 x3 (ix2 j p) = grad (fun n => x0 (ix3 n j p))
    ∧ out0_5 x0 x1 x2 x3 (ix2 j p) = delta (grad (fun n => x0 (ix3 n j p))) (x1 (ix2 j p)) (x2 (ix2 j p)) (x3 (ix2 j p))
    ∧ out0_6 x0 x1 x2 x3 (ix2 j p) = mean (grad (fun n => x0 (ix3 n j p))) (x2 (ix2 j p))
    ∧ out0_7 x0 x1 x2 x3 (ix2 j p) = var (grad (fun n => x0 (ix3 n j p))) (x3 (ix2 j p)) := by
  unfold out0_4 out0_5 out0_6 out0_7
  refine ⟨?_, ?_, ?_, ?_⟩ <;>
  · rw [canon_in _ _ _ _ _ _ (ix2 j p) (fun a => by match a with
        | ⟨0, _⟩ => show j.val = 0 + j.val; omega
        | ⟨1, _⟩ => show p.val = 0 + p.val; omega)]
    pointwise [k0_pay1, k0_pay2, k0_pay3, k0_pay4, k0_pay5, k0_pay6, k0_pay7]
    rfl

variable (m : (ℓ : Loc nD τ sig) → Buf (Elt Ideal) ℓ) (ρ : Dev nD → PrngReg) (c : Dev nD)

/-! The arguments, and the blocks that a point reads. -/

abbrev arg_0 : Vec Ideal S8x1024x256 .bf16 := m ((c : Thread nD τ).loc main_arg0)
abbrev arg_1 : Vec Ideal S8x1024x256 .bf16 := m ((c : Thread nD τ).loc main_arg1)
abbrev arg_2 : Vec Ideal S2x1024x256 .f32 := m ((c : Thread nD τ).loc main_arg2)
abbrev arg_3 : Vec Ideal S2x1024x256 .f32 := m ((c : Thread nD τ).loc main_arg3)
abbrev arg_4 : Vec Ideal S2x1024x256 .f32 := m ((c : Thread nD τ).loc main_arg4)
abbrev X0 (t : Fin cfg0.N) : Vec Ideal S8x512x256 .bf16 := iblk m c 0 t
abbrev X1 (t : Fin cfg0.N) : Vec Ideal S512x256 .f32 := iblk m c 1 t
abbrev X2 (t : Fin cfg0.N) : Vec Ideal S512x256 .f32 := iblk m c 2 t
abbrev X3 (t : Fin cfg0.N) : Vec Ideal S512x256 .f32 := iblk m c 3 t

theorem index_0 : ∀ t : Fin cfg0.N, win0_0.index t 0 = 0 ∧ win0_0.index t 1 = t.val ∧ win0_0.index t 2 = 0 :=
  (by decide +kernel : ∀ t : Fin grid0.N, _)
theorem index_1 : ∀ t : Fin cfg0.N, win0_1.index t 0 = t.val ∧ win0_1.index t 1 = 0 :=
  (by decide +kernel : ∀ t : Fin grid0.N, _)
theorem index_2 : ∀ t : Fin cfg0.N, win0_2.index t 0 = t.val ∧ win0_2.index t 1 = 0 :=
  (by decide +kernel : ∀ t : Fin grid0.N, _)
theorem index_3 : ∀ t : Fin cfg0.N, win0_3.index t 0 = t.val ∧ win0_3.index t 1 = 0 :=
  (by decide +kernel : ∀ t : Fin grid0.N, _)
theorem index_4 : ∀ t : Fin cfg0.N, win0_4.index t 0 = t.val ∧ win0_4.index t 1 = 0 :=
  (by decide +kernel : ∀ t : Fin grid0.N, _)
theorem index_5 : ∀ t : Fin cfg0.N, win0_5.index t 0 = t.val ∧ win0_5.index t 1 = 0 :=
  (by decide +kernel : ∀ t : Fin grid0.N, _)
theorem index_6 : ∀ t : Fin cfg0.N, win0_6.index t 0 = t.val ∧ win0_6.index t 1 = 0 :=
  (by decide +kernel : ∀ t : Fin grid0.N, _)
theorem index_7 : ∀ t : Fin cfg0.N, win0_7.index t 0 = t.val ∧ win0_7.index t 1 = 0 :=
  (by decide +kernel : ∀ t : Fin grid0.N, _)

section
variable (t : Fin cfg0.N) (j : Fin 512) (p : Fin 256) (r : Fin 2048) (q : Fin 256) (hr : r.val = t.val * 512 + j.val) (hq : q.val = 0 * 256 + p.val)
include hr hq

theorem in_0 : (fun n => X0 m c t (ix3 n j p)) = part (arg_0 m c) (arg_1 m c) r q := funext fun n => by
  unfold X0 iblk
  rw [View.read_apply]
  refine (congrArg (V m c main_v0) (ix3_of (r0 := n) (index_0 t) (show n.val = 0 * 8 + n.val by omega) hr hq rfl rfl rfl)).trans ?_
  unfold V
  after_results
  pointwise
  unfold part
  split_ifs <;> after_results_simp

theorem in_1 : X1 m c t (ix2 j p) = at_ (arg_2 m c) r q := by
  unfold X1 iblk
  rw [View.read_apply]
  refine (congrArg (V m c main_v1) (ix2_of (index_1 t) hr hq rfl rfl)).trans ?_
  unfold V
  after_results
  pointwise

theorem in_2 : X2 m c t (ix2 j p) = at_ (arg_3 m c) r q := by
  unfold X2 iblk
  rw [View.read_apply]
  refine (congrArg (V m c main_v2) (ix2_of (index_2 t) hr hq rfl rfl)).trans ?_
  unfold V
  after_results
  pointwise

theorem in_3 : X3 m c t (ix2 j p) = at_ (arg_4 m c) r q := by
  unfold X3 iblk
  rw [View.read_apply]
  refine (congrArg (V m c main_v3) (ix2_of (index_3 t) hr hq rfl rfl)).trans ?_
  unfold V
  after_results
  pointwise
end

/-- The summed gradient. -/
def entry_4 (r : Fin 2048) (q : Fin 256) : EReal := grad (part (arg_0 m c) (arg_1 m c) r q)
def result_4 : Vec Ideal S2048x256 .f32 := fun i => entry_4 m c (i 0) (i 1)

theorem final_4_eq : (dats m 0 c).arrAt 4 cfg0.N = result_4 m c :=
  (dats m 0 c).arrAt_eq_of_covers 4 (result_4 m c) (by decide +kernel) fun t _ y => by
    rw [after0_4]
    exact eq_of_heq ((cast_heq _ _).trans (heq_of_eq (at_rows (out0_4 (X0 m c t) (X1 m c t) (X2 m c t) (X3 m c t)) (result_4 m c) (index_4 t)
      (fun j p r q hr hq => (out_eq _ _ _ _ j p).1.trans (by rw [in_0 m c t j p r q hr hq]; rfl)) y _ rfl rfl)))

/-- The change of the weights. -/
def entry_5 (r : Fin 2048) (q : Fin 256) : EReal := delta (grad (part (arg_0 m c) (arg_1 m c) r q)) (at_ (arg_2 m c) r q) (at_ (arg_3 m c) r q) (at_ (arg_4 m c) r q)
def result_5 : Vec Ideal S2048x256 .f32 := fun i => entry_5 m c (i 0) (i 1)

theorem final_5_eq : (dats m 0 c).arrAt 5 cfg0.N = result_5 m c :=
  (dats m 0 c).arrAt_eq_of_covers 5 (result_5 m c) (by decide +kernel) fun t _ y => by
    rw [after0_5]
    exact eq_of_heq ((cast_heq _ _).trans (heq_of_eq (at_rows (out0_5 (X0 m c t) (X1 m c t) (X2 m c t) (X3 m c t)) (result_5 m c) (index_5 t)
      (fun j p r q hr hq => (out_eq _ _ _ _ j p).2.1.trans (by rw [in_0 m c t j p r q hr hq, in_1 m c t j p r q hr hq, in_2 m c t j p r q hr hq, in_3 m c t j p r q hr hq]; rfl)) y _ rfl rfl)))

/-- The mean of the gradients. -/
def entry_6 (r : Fin 2048) (q : Fin 256) : EReal := mean (grad (part (arg_0 m c) (arg_1 m c) r q)) (at_ (arg_3 m c) r q)
def result_6 : Vec Ideal S2048x256 .f32 := fun i => entry_6 m c (i 0) (i 1)

theorem final_6_eq : (dats m 0 c).arrAt 6 cfg0.N = result_6 m c :=
  (dats m 0 c).arrAt_eq_of_covers 6 (result_6 m c) (by decide +kernel) fun t _ y => by
    rw [after0_6]
    exact eq_of_heq ((cast_heq _ _).trans (heq_of_eq (at_rows (out0_6 (X0 m c t) (X1 m c t) (X2 m c t) (X3 m c t)) (result_6 m c) (index_6 t)
      (fun j p r q hr hq => (out_eq _ _ _ _ j p).2.2.1.trans (by rw [in_0 m c t j p r q hr hq, in_2 m c t j p r q hr hq]; rfl)) y _ rfl rfl)))

/-- The mean of the gradients' squares. -/
def entry_7 (r : Fin 2048) (q : Fin 256) : EReal := var (grad (part (arg_0 m c) (arg_1 m c) r q)) (at_ (arg_4 m c) r q)
def result_7 : Vec Ideal S2048x256 .f32 := fun i => entry_7 m c (i 0) (i 1)

theorem final_7_eq : (dats m 0 c).arrAt 7 cfg0.N = result_7 m c :=
  (dats m 0 c).arrAt_eq_of_covers 7 (result_7 m c) (by decide +kernel) fun t _ y => by
    rw [after0_7]
    exact eq_of_heq ((cast_heq _ _).trans (heq_of_eq (at_rows (out0_7 (X0 m c t) (X1 m c t) (X2 m c t) (X3 m c t)) (result_7 m c) (index_7 t)
      (fun j p r q hr hq => (out_eq _ _ _ _ j p).2.2.2.trans (by rw [in_0 m c t j p r q hr hq, in_3 m c t j p r q hr hq]; rfl)) y _ rfl rfl)))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v4_0) = result_4 m c
      ∧ r.2.mem ((c : Thread nD τ).loc main_v4_1) = result_5 m c
      ∧ r.2.mem ((c : Thread nD τ).loc main_v4_2) = result_6 m c
      ∧ r.2.mem ((c : Thread nD τ).loc main_v4_3) = result_7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_4_eq m c), (h c).2.1.trans (final_5_eq m c), (h c).2.2.1.trans (final_6_eq m c), (h c).2.2.2.1.trans (final_7_eq m c), (h c).2.2.2.2⟩) (Value.run_blocks m ρ)

end Cert.Kernel21Ideal.Prod

end
-- ==== Proof.AdamInRef.lean ====
/-
  The reference's optimiser step, at an index.
-/
module

public import proofs.«01_k».proof.Proof.Gen.Reference21Ideal.Read
public import proofs.«01_k».proof.Proof.AdamInKernel

@[expose] public section

set_option maxRecDepth 16384

noncomputable section

namespace Cert.Reference21Ideal.Prod

open Cert.Reference21Ideal Cert.Reference21Ideal.Gen Cert.Reference21Ideal.Read Idealize.ShloMosaic Idealize.ShloMosaic.TcCoe
open Cert.AdamW
open Cert.Kernel21Ideal.Prod (part at_)

variable (x0 x1 : Vec Ideal S8x1024x256 .bf16) (x2 x3 x4 : Vec Ideal S2x1024x256 .f32) (r : Fin 2048) (q : Fin 256)

/-- The summed gradient. -/
theorem read_grad : val_main_v4 (F := Ideal) x0 x1 (ix2 r q) = grad (part x0 x1 r q) := by
  unfold val_main_v4 val_main_v3 val_main_cst_0 val_main_v2 val_main_v1 val_main_cst val_main_v0
  pointwise
  unfold part grad
  split_ifs <;> exact Fin.sum_univ_eight _

/-- The change of the weights. -/
theorem read_delta : val_main_v31 (F := Ideal) x0 x1 x2 x3 x4 (ix2 r q) = delta (grad (part x0 x1 r q)) (at_ x2 r q) (at_ x3 r q) (at_ x4 r q) := by
  unfold val_main_v31 val_main_v30 val_main_cst_9 val_main_v29 val_main_v28 val_main_v27 val_main_cst_8 val_main_v26 val_main_v25 val_main_v24 val_main_cst_7 val_main_v23 val_main_v22 val_main_v21 val_main_cst_6 val_main_v20 val_main_v19 val_main_cst_5 val_main_v18 val_main_v17 val_main_v16 val_main_cst_4 val_main_v15 val_main_v14 val_main_v13 val_main_cst_3 val_main_v12 val_main_v11 val_main_v10 val_main_cst_2 val_main_v9 val_main_v8 val_main_cst_1 val_main_v7 val_main_v6 val_main_v5
  pointwise
  rw [read_grad]
  rfl

/-- The mean of the gradients. -/
theorem read_mean : val_main_v12 (F := Ideal) x0 x1 x3 (ix2 r q) = mean (grad (part x0 x1 r q)) (at_ x3 r q) := by
  unfold val_main_v12 val_main_v11 val_main_v10 val_main_cst_2 val_main_v9 val_main_v8 val_main_cst_1 val_main_v6
  pointwise
  rw [read_grad]
  rfl

/-- The mean of the gradients' squares. -/
theorem read_var : val_main_v18 (F := Ideal) x0 x1 x4 (ix2 r q) = var (grad (part x0 x1 r q)) (at_ x4 r q) := by
  unfold val_main_v18 val_main_v17 val_main_v16 val_main_cst_4 val_main_v15 val_main_v14 val_main_v13 val_main_cst_3 val_main_v7
  pointwise
  rw [read_grad]
  rfl

end Cert.Reference21Ideal.Prod

end
-- ==== Proof.AdamOutKernel.lean ====
/-
  The optimiser's step, as the call leaves it: the sum of the devices' gradients, the change of the weights and the two
  running means.
-/
module

public import proofs.«01_k».proof.Proof.Gen.Kernel22Ideal.Value
public import proofs.«01_k».proof.Proof.Canon
public import proofs.«01_k».proof.Proof.Rows
public import proofs.«01_k».proof.Proof.AdamW
public import Idealize.ShloMosaic.Lib.Tactic
public import Idealize.ShloMosaic.Lib.Pipeline.ValueKit

@[expose] public section

set_option maxRecDepth 16384

noncomputable section

namespace Cert.Kernel22Ideal.Prod

open Cert.Kernel22Ideal Cert.Kernel22Ideal.Gen Idealize.ShloMosaic Idealize.ShloMosaic.TcCoe Idealize.SL.Sem
open Cert.Canon Cert.AdamW Cert.Rows

/-- Device `n`'s gradient at row `r` of the layers' rows, one layer after another. -/
def part (g0 g1 : Vec Ideal S8x128x1024 .bf16) (r : Fin 256) (q : Fin 1024) (n : Fin 8) : EReal :=
  if h : r.val < 128 then g0 (ix3 n ⟨r.val, by omega⟩ q)
  else g1 (ix3 n ⟨r.val - 128, by omega⟩ q)

/-- A layered array at row `r` of the layers' rows. -/
abbrev at_ (x : Vec Ideal S2x128x1024 .f32) (r : Fin 256) (q : Fin 1024) : EReal := x (ix3 ⟨r.val / 128, by omega⟩ ⟨r.val % 128, by omega⟩ q)

/-- The blocks that a point leaves, at an index. -/
theorem out_eq (x0 : Vec Ideal S8x128x1024 .bf16) (x1 x2 x3 : Vec Ideal S128x1024 .f32) (j : Fin 128) (p : Fin 1024) :
    out0_4 x0 x1 x2 x3 (ix2 j p) = grad (fun n => x0 (ix3 n j p))
    ∧ out0_5 x0 x1 x2 x3 (ix2 j p) = delta (grad (fun n => x0 (ix3 n j p))) (x1 (ix2 j p)) (x2 (ix2 j p)) (x3 (ix2 j p))
    ∧ out0_6 x0 x1 x2 x3 (ix2 j p) = mean (grad (fun n => x0 (ix3 n j p))) (x2 (ix2 j p))
    ∧ out0_7 x0 x1 x2 x3 (ix2 j p) = var (grad (fun n => x0 (ix3 n j p))) (x3 (ix2 j p)) := by
  unfold out0_4 out0_5 out0_6 out0_7
  refine ⟨?_, ?_, ?_, ?_⟩ <;>
  · rw [canon_in _ _ _ _ _ _ (ix2 j p) (fun a => by match a with
        | ⟨0, _⟩ => show j.val = 0 + j.val; omega
        | ⟨1, _⟩ => show p.val = 0 + p.val; omega)]
    pointwise [k0_pay1, k0_pay2, k0_pay3, k0_pay4, k0_pay5, k0_pay6, k0_pay7]
    rfl

variable (m : (ℓ : Loc nD τ sig) → Buf (Elt Ideal) ℓ) (ρ : Dev nD → PrngReg) (c : Dev nD)

/-! The arguments, and the blocks that a point reads. -/

abbrev arg_0 : Vec Ideal S8x128x1024 .bf16 := m ((c : Thread nD τ).loc main_arg0)
abbrev arg_1 : Vec Ideal S8x128x1024 .bf16 := m ((c : Thread nD τ).loc main_arg1)
abbrev arg_2 : Vec Ideal S2x128x1024 .f32 := m ((c : Thread nD τ).loc main_arg2)
abbrev arg_3 : Vec Ideal S2x128x1024 .f32 := m ((c : Thread nD τ).loc main_arg3)
abbrev arg_4 : Vec Ideal S2x128x1024 .f32 := m ((c : Thread nD τ).loc main_arg4)
abbrev X0 (t : Fin cfg0.N) : Vec Ideal S8x128x1024 .bf16 := iblk m c 0 t
abbrev X1 (t : Fin cfg0.N) : Vec Ideal S128x1024 .f32 := iblk m c 1 t
abbrev X2 (t : Fin cfg0.N) : Vec Ideal S128x1024 .f32 := iblk m c 2 t
abbrev X3 (t : Fin cfg0.N) : Vec Ideal S128x1024 .f32 := iblk m c 3 t

theorem index_0 : ∀ t : Fin cfg0.N, win0_0.index t 0 = 0 ∧ win0_0.index t 1 = t.val ∧ win0_0.index t 2 = 0 :=
  (by decide +kernel : ∀ t : Fin grid0.N, _)
theorem index_1 : ∀ t : Fin cfg0.N, win0_1.index t 0 = t.val ∧ win0_1.index t 1 = 0 :=
  (by decide +kernel : ∀ t : Fin grid0.N, _)
theorem index_2 : ∀ t : Fin cfg0.N, win0_2.index t 0 = t.val ∧ win0_2.index t 1 = 0 :=
  (by decide +kernel : ∀ t : Fin grid0.N, _)
theorem index_3 : ∀ t : Fin cfg0.N, win0_3.index t 0 = t.val ∧ win0_3.index t 1 = 0 :=
  (by decide +kernel : ∀ t : Fin grid0.N, _)
theorem index_4 : ∀ t : Fin cfg0.N, win0_4.index t 0 = t.val ∧ win0_4.index t 1 = 0 :=
  (by decide +kernel : ∀ t : Fin grid0.N, _)
theorem index_5 : ∀ t : Fin cfg0.N, win0_5.index t 0 = t.val ∧ win0_5.index t 1 = 0 :=
  (by decide +kernel : ∀ t : Fin grid0.N, _)
theorem index_6 : ∀ t : Fin cfg0.N, win0_6.index t 0 = t.val ∧ win0_6.index t 1 = 0 :=
  (by decide +kernel : ∀ t : Fin grid0.N, _)
theorem index_7 : ∀ t : Fin cfg0.N, win0_7.index t 0 = t.val ∧ win0_7.index t 1 = 0 :=
  (by decide +kernel : ∀ t : Fin grid0.N, _)

section
variable (t : Fin cfg0.N) (j : Fin 128) (p : Fin 1024) (r : Fin 256) (q : Fin 1024) (hr : r.val = t.val * 128 + j.val) (hq : q.val = 0 * 1024 + p.val)
include hr hq

theorem in_0 : (fun n => X0 m c t (ix3 n j p)) = part (arg_0 m c) (arg_1 m c) r q := funext fun n => by
  unfold X0 iblk
  rw [View.read_apply]
  refine (congrArg (V m c main_v0) (ix3_of (r0 := n) (index_0 t) (show n.val = 0 * 8 + n.val by omega) hr hq rfl rfl rfl)).trans ?_
  unfold V
  after_results
  pointwise
  unfold part
  split_ifs <;> after_results_simp

theorem in_1 : X1 m c t (ix2 j p) = at_ (arg_2 m c) r q := by
  unfold X1 iblk
  rw [View.read_apply]
  refine (congrArg (V m c main_v1) (ix2_of (index_1 t) hr hq rfl rfl)).trans ?_
  unfold V
  after_results
  pointwise

theorem in_2 : X2 m c t (ix2 j p) = at_ (arg_3 m c) r q := by
  unfold X2 iblk
  rw [View.read_apply]
  refine (congrArg (V m c main_v2) (ix2_of (index_2 t) hr hq rfl rfl)).trans ?_
  unfold V
  after_results
  pointwise

theorem in_3 : X3 m c t (ix2 j p) = at_ (arg_4 m c) r q := by
  unfold X3 iblk
  rw [View.read_apply]
  refine (congrArg (V m c main_v3) (ix2_of (index_3 t) hr hq rfl rfl)).trans ?_
  unfold V
  after_results
  pointwise
end

/-- The summed gradient. -/
def entry_4 (r : Fin 256) (q : Fin 1024) : EReal := grad (part (arg_0 m c) (arg_1 m c) r q)
def result_4 : Vec Ideal S256x1024 .f32 := fun i => entry_4 m c (i 0) (i 1)

theorem final_4_eq : (dats m 0 c).arrAt 4 cfg0.N = result_4 m c :=
  (dats m 0 c).arrAt_eq_of_covers 4 (result_4 m c) (by decide +kernel) fun t _ y => by
    rw [after0_4]
    exact eq_of_heq ((cast_heq _ _).trans (heq_of_eq (at_rows (out0_4 (X0 m c t) (X1 m c t) (X2 m c t) (X3 m c t)) (result_4 m c) (index_4 t)
      (fun j p r q hr hq => (out_eq _ _ _ _ j p).1.trans (by rw [in_0 m c t j p r q hr hq]; rfl)) y _ rfl rfl)))

/-- The change of the weights. -/
def entry_5 (r : Fin 256) (q : Fin 1024) : EReal := delta (grad (part (arg_0 m c) (arg_1 m c) r q)) (at_ (arg_2 m c) r q) (at_ (arg_3 m c) r q) (at_ (arg_4 m c) r q)
def result_5 : Vec Ideal S256x1024 .f32 := fun i => entry_5 m c (i 0) (i 1)

theorem final_5_eq : (dats m 0 c).arrAt 5 cfg0.N = result_5 m c :=
  (dats m 0 c).arrAt_eq_of_covers 5 (result_5 m c) (by decide +kernel) fun t _ y => by
    rw [after0_5]
    exact eq_of_heq ((cast_heq _ _).trans (heq_of_eq (at_rows (out0_5 (X0 m c t) (X1 m c t) (X2 m c t) (X3 m c t)) (result_5 m c) (index_5 t)
      (fun j p r q hr hq => (out_eq _ _ _ _ j p).2.1.trans (by rw [in_0 m c t j p r q hr hq, in_1 m c t j p r q hr hq, in_2 m c t j p r q hr hq, in_3 m c t j p r q hr hq]; rfl)) y _ rfl rfl)))

/-- The mean of the gradients. -/
def entry_6 (r : Fin 256) (q : Fin 1024) : EReal := mean (grad (part (arg_0 m c) (arg_1 m c) r q)) (at_ (arg_3 m c) r q)
def result_6 : Vec Ideal S256x1024 .f32 := fun i => entry_6 m c (i 0) (i 1)

theorem final_6_eq : (dats m 0 c).arrAt 6 cfg0.N = result_6 m c :=
  (dats m 0 c).arrAt_eq_of_covers 6 (result_6 m c) (by decide +kernel) fun t _ y => by
    rw [after0_6]
    exact eq_of_heq ((cast_heq _ _).trans (heq_of_eq (at_rows (out0_6 (X0 m c t) (X1 m c t) (X2 m c t) (X3 m c t)) (result_6 m c) (index_6 t)
      (fun j p r q hr hq => (out_eq _ _ _ _ j p).2.2.1.trans (by rw [in_0 m c t j p r q hr hq, in_2 m c t j p r q hr hq]; rfl)) y _ rfl rfl)))

/-- The mean of the gradients' squares. -/
def entry_7 (r : Fin 256) (q : Fin 1024) : EReal := var (grad (part (arg_0 m c) (arg_1 m c) r q)) (at_ (arg_4 m c) r q)
def result_7 : Vec Ideal S256x1024 .f32 := fun i => entry_7 m c (i 0) (i 1)

theorem final_7_eq : (dats m 0 c).arrAt 7 cfg0.N = result_7 m c :=
  (dats m 0 c).arrAt_eq_of_covers 7 (result_7 m c) (by decide +kernel) fun t _ y => by
    rw [after0_7]
    exact eq_of_heq ((cast_heq _ _).trans (heq_of_eq (at_rows (out0_7 (X0 m c t) (X1 m c t) (X2 m c t) (X3 m c t)) (result_7 m c) (index_7 t)
      (fun j p r q hr hq => (out_eq _ _ _ _ j p).2.2.2.trans (by rw [in_0 m c t j p r q hr hq, in_3 m c t j p r q hr hq]; rfl)) y _ rfl rfl)))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v4_0) = result_4 m c
      ∧ r.2.mem ((c : Thread nD τ).loc main_v4_1) = result_5 m c
      ∧ r.2.mem ((c : Thread nD τ).loc main_v4_2) = result_6 m c
      ∧ r.2.mem ((c : Thread nD τ).loc main_v4_3) = result_7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_4_eq m c), (h c).2.1.trans (final_5_eq m c), (h c).2.2.1.trans (final_6_eq m c), (h c).2.2.2.1.trans (final_7_eq m c), (h c).2.2.2.2⟩) (Value.run_blocks m ρ)

end Cert.Kernel22Ideal.Prod

end
-- ==== Proof.AdamOutRef.lean ====
/-
  The reference's optimiser step, at an index.
-/
module

public import proofs.«01_k».proof.Proof.Gen.Reference22Ideal.Read
public import proofs.«01_k».proof.Proof.AdamOutKernel

@[expose] public section

set_option maxRecDepth 16384

noncomputable section

namespace Cert.Reference22Ideal.Prod

open Cert.Reference22Ideal Cert.Reference22Ideal.Gen Cert.Reference22Ideal.Read Idealize.ShloMosaic Idealize.ShloMosaic.TcCoe
open Cert.AdamW
open Cert.Kernel22Ideal.Prod (part at_)

variable (x0 x1 : Vec Ideal S8x128x1024 .bf16) (x2 x3 x4 : Vec Ideal S2x128x1024 .f32) (r : Fin 256) (q : Fin 1024)

/-- The summed gradient. -/
theorem read_grad : val_main_v4 (F := Ideal) x0 x1 (ix2 r q) = grad (part x0 x1 r q) := by
  unfold val_main_v4 val_main_v3 val_main_cst_0 val_main_v2 val_main_v1 val_main_cst val_main_v0
  pointwise
  unfold part grad
  split_ifs <;> exact Fin.sum_univ_eight _

/-- The change of the weights. -/
theorem read_delta : val_main_v31 (F := Ideal) x0 x1 x2 x3 x4 (ix2 r q) = delta (grad (part x0 x1 r q)) (at_ x2 r q) (at_ x3 r q) (at_ x4 r q) := by
  unfold val_main_v31 val_main_v30 val_main_cst_9 val_main_v29 val_main_v28 val_main_v27 val_main_cst_8 val_main_v26 val_main_v25 val_main_v24 val_main_cst_7 val_main_v23 val_main_v22 val_main_v21 val_main_cst_6 val_main_v20 val_main_v19 val_main_cst_5 val_main_v18 val_main_v17 val_main_v16 val_main_cst_4 val_main_v15 val_main_v14 val_main_v13 val_main_cst_3 val_main_v12 val_main_v11 val_main_v10 val_main_cst_2 val_main_v9 val_main_v8 val_main_cst_1 val_main_v7 val_main_v6 val_main_v5
  pointwise
  rw [read_grad]
  rfl

/-- The mean of the gradients. -/
theorem read_mean : val_main_v12 (F := Ideal) x0 x1 x3 (ix2 r q) = mean (grad (part x0 x1 r q)) (at_ x3 r q) := by
  unfold val_main_v12 val_main_v11 val_main_v10 val_main_cst_2 val_main_v9 val_main_v8 val_main_cst_1 val_main_v6
  pointwise
  rw [read_grad]
  rfl

/-- The mean of the gradients' squares. -/
theorem read_var : val_main_v18 (F := Ideal) x0 x1 x4 (ix2 r q) = var (grad (part x0 x1 r q)) (at_ x4 r q) := by
  unfold val_main_v18 val_main_v17 val_main_v16 val_main_cst_4 val_main_v15 val_main_v14 val_main_v13 val_main_cst_3 val_main_v7
  pointwise
  rw [read_grad]
  rfl

end Cert.Reference22Ideal.Prod

end
-- ==== Proof.AdamDownKernel.lean ====
/-
  The optimiser's step, as the call leaves it: the sum of the devices' gradients, the change of the weights and the two
  running means.
-/
module

public import proofs.«01_k».proof.Proof.Gen.Kernel23Ideal.Value
public import proofs.«01_k».proof.Proof.Canon
public import proofs.«01_k».proof.Proof.Rows
public import proofs.«01_k».proof.Proof.AdamW
public import Idealize.ShloMosaic.Lib.Tactic
public import Idealize.ShloMosaic.Lib.Pipeline.ValueKit

@[expose] public section

set_option maxRecDepth 16384

noncomputable section

namespace Cert.Kernel23Ideal.Prod

open Cert.Kernel23Ideal Cert.Kernel23Ideal.Gen Idealize.ShloMosaic Idealize.ShloMosaic.TcCoe Idealize.SL.Sem
open Cert.Canon Cert.AdamW Cert.Rows

/-- Device `n`'s gradient at row `r` of the layers' rows, one layer after another. -/
def part (g0 g1 g2 g3 : Vec Ideal S8x480x1024 .bf16) (r : Fin 1408) (q : Fin 1024) (n : Fin 8) : EReal :=
  if h : r.val < 352 then g0 (ix3 n ⟨r.val, by omega⟩ q)
  else if h : r.val - 352 < 352 then g1 (ix3 n ⟨r.val - 352, by omega⟩ q)
  else if h : r.val - 352 - 352 < 352 then g2 (ix3 n ⟨r.val - 352 - 352, by omega⟩ q)
  else g3 (ix3 n ⟨r.val - 352 - 352 - 352, by omega⟩ q)

/-- A layered array at row `r` of the layers' rows. -/
abbrev at_ (x : Vec Ideal S4x352x1024 .f32) (r : Fin 1408) (q : Fin 1024) : EReal := x (ix3 ⟨r.val / 352, by omega⟩ ⟨r.val % 352, by omega⟩ q)

/-- The blocks that a point leaves, at an index. -/
theorem out_eq (x0 : Vec Ideal S8x128x1024 .bf16) (x1 x2 x3 : Vec Ideal S128x1024 .f32) (j : Fin 128) (p : Fin 1024) :
    out0_4 x0 x1 x2 x3 (ix2 j p) = grad (fun n => x0 (ix3 n j p))
    ∧ out0_5 x0 x1 x2 x3 (ix2 j p) = delta (grad (fun n => x0 (ix3 n j p))) (x1 (ix2 j p)) (x2 (ix2 j p)) (x3 (ix2 j p))
    ∧ out0_6 x0 x1 x2 x3 (ix2 j p) = mean (grad (fun n => x0 (ix3 n j p))) (x2 (ix2 j p))
    ∧ out0_7 x0 x1 x2 x3 (ix2 j p) = var (grad (fun n => x0 (ix3 n j p))) (x3 (ix2 j p)) := by
  unfold out0_4 out0_5 out0_6 out0_7
  refine ⟨?_, ?_, ?_, ?_⟩ <;>
  · rw [canon_in _ _ _ _ _ _ (ix2 j p) (fun a => by match a with
        | ⟨0, _⟩ => show j.val = 0 + j.val; omega
        | ⟨1, _⟩ => show p.val = 0 + p.val; omega)]
    pointwise [k0_pay1, k0_pay2, k0_pay3, k0_pay4, k0_pay5, k0_pay6, k0_pay7]
    rfl

variable (m : (ℓ : Loc nD τ sig) → Buf (Elt Ideal) ℓ) (ρ : Dev nD → PrngReg) (c : Dev nD)

/-! The arguments, and the blocks that a point reads. -/

abbrev arg_0 : Vec Ideal S8x480x1024 .bf16 := m ((c : Thread nD τ).loc main_arg0)
abbrev arg_1 : Vec Ideal S8x480x1024 .bf16 := m ((c : Thread nD τ).loc main_arg1)
abbrev arg_2 : Vec Ideal S8x480x1024 .bf16 := m ((c : Thread nD τ).loc main_arg2)
abbrev arg_3 : Vec Ideal S8x480x1024 .bf16 := m ((c : Thread nD τ).loc main_arg3)
abbrev arg_4 : Vec Ideal S4x352x1024 .f32 := m ((c : Thread nD τ).loc main_arg4)
abbrev arg_5 : Vec Ideal S4x352x1024 .f32 := m ((c : Thread nD τ).loc main_arg5)
abbrev arg_6 : Vec Ideal S4x352x1024 .f32 := m ((c : Thread nD τ).loc main_arg6)
abbrev X0 (t : Fin cfg0.N) : Vec Ideal S8x128x1024 .bf16 := iblk m c 0 t
abbrev X1 (t : Fin cfg0.N) : Vec Ideal S128x1024 .f32 := iblk m c 1 t
abbrev X2 (t : Fin cfg0.N) : Vec Ideal S128x1024 .f32 := iblk m c 2 t
abbrev X3 (t : Fin cfg0.N) : Vec Ideal S128x1024 .f32 := iblk m c 3 t

theorem index_0 : ∀ t : Fin cfg0.N, win0_0.index t 0 = 0 ∧ win0_0.index t 1 = t.val ∧ win0_0.index t 2 = 0 :=
  (by decide +kernel : ∀ t : Fin grid0.N, _)
theorem index_1 : ∀ t : Fin cfg0.N, win0_1.index t 0 = t.val ∧ win0_1.index t 1 = 0 :=
  (by decide +kernel : ∀ t : Fin grid0.N, _)
theorem index_2 : ∀ t : Fin cfg0.N, win0_2.index t 0 = t.val ∧ win0_2.index t 1 = 0 :=
  (by decide +kernel : ∀ t : Fin grid0.N, _)
theorem index_3 : ∀ t : Fin cfg0.N, win0_3.index t 0 = t.val ∧ win0_3.index t 1 = 0 :=
  (by decide +kernel : ∀ t : Fin grid0.N, _)
theorem index_4 : ∀ t : Fin cfg0.N, win0_4.index t 0 = t.val ∧ win0_4.index t 1 = 0 :=
  (by decide +kernel : ∀ t : Fin grid0.N, _)
theorem index_5 : ∀ t : Fin cfg0.N, win0_5.index t 0 = t.val ∧ win0_5.index t 1 = 0 :=
  (by decide +kernel : ∀ t : Fin grid0.N, _)
theorem index_6 : ∀ t : Fin cfg0.N, win0_6.index t 0 = t.val ∧ win0_6.index t 1 = 0 :=
  (by decide +kernel : ∀ t : Fin grid0.N, _)
theorem index_7 : ∀ t : Fin cfg0.N, win0_7.index t 0 = t.val ∧ win0_7.index t 1 = 0 :=
  (by decide +kernel : ∀ t : Fin grid0.N, _)

section
variable (t : Fin cfg0.N) (j : Fin 128) (p : Fin 1024) (r : Fin 1408) (q : Fin 1024) (hr : r.val = t.val * 128 + j.val) (hq : q.val = 0 * 1024 + p.val)
include hr hq

theorem in_0 : (fun n => X0 m c t (ix3 n j p)) = part (arg_0 m c) (arg_1 m c) (arg_2 m c) (arg_3 m c) r q := funext fun n => by
  unfold X0 iblk
  rw [View.read_apply]
  refine (congrArg (V m c main_v4) (ix3_of (r0 := n) (index_0 t) (show n.val = 0 * 8 + n.val by omega) hr hq rfl rfl rfl)).trans ?_
  unfold V
  after_results
  pointwise
  unfold part
  split_ifs <;> (after_results_simp; pointwise)

theorem in_1 : X1 m c t (ix2 j p) = at_ (arg_4 m c) r q := by
  unfold X1 iblk
  rw [View.read_apply]
  refine (congrArg (V m c main_v5) (ix2_of (index_1 t) hr hq rfl rfl)).trans ?_
  unfold V
  after_results
  pointwise

theorem in_2 : X2 m c t (ix2 j p) = at_ (arg_5 m c) r q := by
  unfold X2 iblk
  rw [View.read_apply]
  refine (congrArg (V m c main_v6) (ix2_of (index_2 t) hr hq rfl rfl)).trans ?_
  unfold V
  after_results
  pointwise

theorem in_3 : X3 m c t (ix2 j p) = at_ (arg_6 m c) r q := by
  unfold X3 iblk
  rw [View.read_apply]
  refine (congrArg (V m c main_v7) (ix2_of (index_3 t) hr hq rfl rfl)).trans ?_
  unfold V
  after_results
  pointwise
end

/-- The summed gradient. -/
def entry_4 (r : Fin 1408) (q : Fin 1024) : EReal := grad (part (arg_0 m c) (arg_1 m c) (arg_2 m c) (arg_3 m c) r q)
def result_4 : Vec Ideal S1408x1024 .f32 := fun i => entry_4 m c (i 0) (i 1)

theorem final_4_eq : (dats m 0 c).arrAt 4 cfg0.N = result_4 m c :=
  (dats m 0 c).arrAt_eq_of_covers 4 (result_4 m c) (by decide +kernel) fun t _ y => by
    rw [after0_4]
    exact eq_of_heq ((cast_heq _ _).trans (heq_of_eq (at_rows (out0_4 (X0 m c t) (X1 m c t) (X2 m c t) (X3 m c t)) (result_4 m c) (index_4 t)
      (fun j p r q hr hq => (out_eq _ _ _ _ j p).1.trans (by rw [in_0 m c t j p r q hr hq]; rfl)) y _ rfl rfl)))

/-- The change of the weights. -/
def entry_5 (r : Fin 1408) (q : Fin 1024) : EReal := delta (grad (part (arg_0 m c) (arg_1 m c) (arg_2 m c) (arg_3 m c) r q)) (at_ (arg_4 m c) r q) (at_ (arg_5 m c) r q) (at_ (arg_6 m c) r q)
def result_5 : Vec Ideal S1408x1024 .f32 := fun i => entry_5 m c (i 0) (i 1)

theorem final_5_eq : (dats m 0 c).arrAt 5 cfg0.N = result_5 m c :=
  (dats m 0 c).arrAt_eq_of_covers 5 (result_5 m c) (by decide +kernel) fun t _ y => by
    rw [after0_5]
    exact eq_of_heq ((cast_heq _ _).trans (heq_of_eq (at_rows (out0_5 (X0 m c t) (X1 m c t) (X2 m c t) (X3 m c t)) (result_5 m c) (index_5 t)
      (fun j p r q hr hq => (out_eq _ _ _ _ j p).2.1.trans (by rw [in_0 m c t j p r q hr hq, in_1 m c t j p r q hr hq, in_2 m c t j p r q hr hq, in_3 m c t j p r q hr hq]; rfl)) y _ rfl rfl)))

/-- The mean of the gradients. -/
def entry_6 (r : Fin 1408) (q : Fin 1024) : EReal := mean (grad (part (arg_0 m c) (arg_1 m c) (arg_2 m c) (arg_3 m c) r q)) (at_ (arg_5 m c) r q)
def result_6 : Vec Ideal S1408x1024 .f32 := fun i => entry_6 m c (i 0) (i 1)

theorem final_6_eq : (dats m 0 c).arrAt 6 cfg0.N = result_6 m c :=
  (dats m 0 c).arrAt_eq_of_covers 6 (result_6 m c) (by decide +kernel) fun t _ y => by
    rw [after0_6]
    exact eq_of_heq ((cast_heq _ _).trans (heq_of_eq (at_rows (out0_6 (X0 m c t) (X1 m c t) (X2 m c t) (X3 m c t)) (result_6 m c) (index_6 t)
      (fun j p r q hr hq => (out_eq _ _ _ _ j p).2.2.1.trans (by rw [in_0 m c t j p r q hr hq, in_2 m c t j p r q hr hq]; rfl)) y _ rfl rfl)))

/-- The mean of the gradients' squares. -/
def entry_7 (r : Fin 1408) (q : Fin 1024) : EReal := var (grad (part (arg_0 m c) (arg_1 m c) (arg_2 m c) (arg_3 m c) r q)) (at_ (arg_6 m c) r q)
def result_7 : Vec Ideal S1408x1024 .f32 := fun i => entry_7 m c (i 0) (i 1)

theorem final_7_eq : (dats m 0 c).arrAt 7 cfg0.N = result_7 m c :=
  (dats m 0 c).arrAt_eq_of_covers 7 (result_7 m c) (by decide +kernel) fun t _ y => by
    rw [after0_7]
    exact eq_of_heq ((cast_heq _ _).trans (heq_of_eq (at_rows (out0_7 (X0 m c t) (X1 m c t) (X2 m c t) (X3 m c t)) (result_7 m c) (index_7 t)
      (fun j p r q hr hq => (out_eq _ _ _ _ j p).2.2.2.trans (by rw [in_0 m c t j p r q hr hq, in_3 m c t j p r q hr hq]; rfl)) y _ rfl rfl)))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v8_0) = result_4 m c
      ∧ r.2.mem ((c : Thread nD τ).loc main_v8_1) = result_5 m c
      ∧ r.2.mem ((c : Thread nD τ).loc main_v8_2) = result_6 m c
      ∧ r.2.mem ((c : Thread nD τ).loc main_v8_3) = result_7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_4_eq m c), (h c).2.1.trans (final_5_eq m c), (h c).2.2.1.trans (final_6_eq m c), (h c).2.2.2.1.trans (final_7_eq m c), (h c).2.2.2.2⟩) (Value.run_blocks m ρ)

end Cert.Kernel23Ideal.Prod

end
-- ==== Proof.AdamDownRef.lean ====
/-
  The reference's optimiser step, at an index.
-/
module

public import proofs.«01_k».proof.Proof.Gen.Reference23Ideal.Read
public import proofs.«01_k».proof.Proof.AdamDownKernel

@[expose] public section

set_option maxRecDepth 16384

noncomputable section

namespace Cert.Reference23Ideal.Prod

open Cert.Reference23Ideal Cert.Reference23Ideal.Gen Cert.Reference23Ideal.Read Idealize.ShloMosaic Idealize.ShloMosaic.TcCoe
open Cert.AdamW
open Cert.Kernel23Ideal.Prod (part at_)

variable (x0 x1 x2 x3 : Vec Ideal S8x480x1024 .bf16) (x4 x5 x6 : Vec Ideal S4x352x1024 .f32) (r : Fin 1408) (q : Fin 1024)

/-- The summed gradient. -/
theorem read_grad : val_main_v12 (F := Ideal) x0 x1 x2 x3 (ix2 r q) = grad (part x0 x1 x2 x3 r q) := by
  unfold val_main_v12 val_main_v11 val_main_cst_2 val_main_v10 val_main_v9 val_main_v8 val_main_cst_1 val_main_v7 val_main_v6 val_main_v5 val_main_cst_0 val_main_v4 val_main_v3 val_main_v2 val_main_cst val_main_v1 val_main_v0
  pointwise
  unfold part grad
  split_ifs <;> exact Fin.sum_univ_eight _

/-- The change of the weights. -/
theorem read_delta : val_main_v39 (F := Ideal) x0 x1 x2 x3 x4 x5 x6 (ix2 r q) = delta (grad (part x0 x1 x2 x3 r q)) (at_ x4 r q) (at_ x5 r q) (at_ x6 r q) := by
  unfold val_main_v39 val_main_v38 val_main_cst_11 val_main_v37 val_main_v36 val_main_v35 val_main_cst_10 val_main_v34 val_main_v33 val_main_v32 val_main_cst_9 val_main_v31 val_main_v30 val_main_v29 val_main_cst_8 val_main_v28 val_main_v27 val_main_cst_7 val_main_v26 val_main_v25 val_main_v24 val_main_cst_6 val_main_v23 val_main_v22 val_main_v21 val_main_cst_5 val_main_v20 val_main_v19 val_main_v18 val_main_cst_4 val_main_v17 val_main_v16 val_main_cst_3 val_main_v15 val_main_v14 val_main_v13
  pointwise
  rw [read_grad]
  rfl

/-- The mean of the gradients. -/
theorem read_mean : val_main_v20 (F := Ideal) x0 x1 x2 x3 x5 (ix2 r q) = mean (grad (part x0 x1 x2 x3 r q)) (at_ x5 r q) := by
  unfold val_main_v20 val_main_v19 val_main_v18 val_main_cst_4 val_main_v17 val_main_v16 val_main_cst_3 val_main_v14
  pointwise
  rw [read_grad]
  rfl

/-- The mean of the gradients' squares. -/
theorem read_var : val_main_v26 (F := Ideal) x0 x1 x2 x3 x6 (ix2 r q) = var (grad (part x0 x1 x2 x3 r q)) (at_ x6 r q) := by
  unfold val_main_v26 val_main_v25 val_main_v24 val_main_cst_6 val_main_v23 val_main_v22 val_main_v21 val_main_cst_5 val_main_v15
  pointwise
  rw [read_grad]
  rfl

end Cert.Reference23Ideal.Prod

end
-- ==== Proof.AdamGateKernel.lean ====
/-
  The optimiser's step, as the call leaves it: the sum of the devices' gradients, the change of the weights and the two
  running means.
-/
module

public import proofs.«01_k».proof.Proof.Gen.Kernel24Ideal.Value
public import proofs.«01_k».proof.Proof.Canon
public import proofs.«01_k».proof.Proof.Rows
public import proofs.«01_k».proof.Proof.AdamW
public import Idealize.ShloMosaic.Lib.Tactic
public import Idealize.ShloMosaic.Lib.Pipeline.ValueKit

@[expose] public section

set_option maxRecDepth 16384

noncomputable section

namespace Cert.Kernel24Ideal.Prod

open Cert.Kernel24Ideal Cert.Kernel24Ideal.Gen Idealize.ShloMosaic Idealize.ShloMosaic.TcCoe Idealize.SL.Sem
open Cert.Canon Cert.AdamW Cert.Rows

/-- Device `n`'s gradient at row `r` of the layers' rows, one layer after another. -/
def part (g0 g1 g2 g3 : Vec Ideal S8x480x1024 .bf16) (r : Fin 512) (q : Fin 1024) (n : Fin 8) : EReal :=
  if h : r.val < 128 then g0 (ix3 n ⟨352 + (r.val), by omega⟩ q)
  else if h : r.val - 128 < 128 then g1 (ix3 n ⟨352 + (r.val - 128), by omega⟩ q)
  else if h : r.val - 128 - 128 < 128 then g2 (ix3 n ⟨352 + (r.val - 128 - 128), by omega⟩ q)
  else g3 (ix3 n ⟨352 + (r.val - 128 - 128 - 128), by omega⟩ q)

/-- A layered array at row `r` of the layers' rows. -/
abbrev at_ (x : Vec Ideal S4x128x1024 .f32) (r : Fin 512) (q : Fin 1024) : EReal := x (ix3 ⟨r.val / 128, by omega⟩ ⟨r.val % 128, by omega⟩ q)

/-- The blocks that a point leaves, at an index. -/
theorem out_eq (x0 : Vec Ideal S8x128x1024 .bf16) (x1 x2 x3 : Vec Ideal S128x1024 .f32) (j : Fin 128) (p : Fin 1024) :
    out0_4 x0 x1 x2 x3 (ix2 j p) = grad (fun n => x0 (ix3 n j p))
    ∧ out0_5 x0 x1 x2 x3 (ix2 j p) = delta (grad (fun n => x0 (ix3 n j p))) (x1 (ix2 j p)) (x2 (ix2 j p)) (x3 (ix2 j p))
    ∧ out0_6 x0 x1 x2 x3 (ix2 j p) = mean (grad (fun n => x0 (ix3 n j p))) (x2 (ix2 j p))
    ∧ out0_7 x0 x1 x2 x3 (ix2 j p) = var (grad (fun n => x0 (ix3 n j p))) (x3 (ix2 j p)) := by
  unfold out0_4 out0_5 out0_6 out0_7
  refine ⟨?_, ?_, ?_, ?_⟩ <;>
  · rw [canon_in _ _ _ _ _ _ (ix2 j p) (fun a => by match a with
        | ⟨0, _⟩ => show j.val = 0 + j.val; omega
        | ⟨1, _⟩ => show p.val = 0 + p.val; omega)]
    pointwise [k0_pay1, k0_pay2, k0_pay3, k0_pay4, k0_pay5, k0_pay6, k0_pay7]
    rfl

variable (m : (ℓ : Loc nD τ sig) → Buf (Elt Ideal) ℓ) (ρ : Dev nD → PrngReg) (c : Dev nD)

/-! The arguments, and the blocks that a point reads. -/

abbrev arg_0 : Vec Ideal S8x480x1024 .bf16 := m ((c : Thread nD τ).loc main_arg0)
abbrev arg_1 : Vec Ideal S8x480x1024 .bf16 := m ((c : Thread nD τ).loc main_arg1)
abbrev arg_2 : Vec Ideal S8x480x1024 .bf16 := m ((c : Thread nD τ).loc main_arg2)
abbrev arg_3 : Vec Ideal S8x480x1024 .bf16 := m ((c : Thread nD τ).loc main_arg3)
abbrev arg_4 : Vec Ideal S4x128x1024 .f32 := m ((c : Thread nD τ).loc main_arg4)
abbrev arg_5 : Vec Ideal S4x128x1024 .f32 := m ((c : Thread nD τ).loc main_arg5)
abbrev arg_6 : Vec Ideal S4x128x1024 .f32 := m ((c : Thread nD τ).loc main_arg6)
abbrev X0 (t : Fin cfg0.N) : Vec Ideal S8x128x1024 .bf16 := iblk m c 0 t
abbrev X1 (t : Fin cfg0.N) : Vec Ideal S128x1024 .f32 := iblk m c 1 t
abbrev X2 (t : Fin cfg0.N) : Vec Ideal S128x1024 .f32 := iblk m c 2 t
abbrev X3 (t : Fin cfg0.N) : Vec Ideal S128x1024 .f32 := iblk m c 3 t

theorem index_0 : ∀ t : Fin cfg0.N, win0_0.index t 0 = 0 ∧ win0_0.index t 1 = t.val ∧ win0_0.index t 2 = 0 :=
  (by decide +kernel : ∀ t : Fin grid0.N, _)
theorem index_1 : ∀ t : Fin cfg0.N, win0_1.index t 0 = t.val ∧ win0_1.index t 1 = 0 :=
  (by decide +kernel : ∀ t : Fin grid0.N, _)
theorem index_2 : ∀ t : Fin cfg0.N, win0_2.index t 0 = t.val ∧ win0_2.index t 1 = 0 :=
  (by decide +kernel : ∀ t : Fin grid0.N, _)
theorem index_3 : ∀ t : Fin cfg0.N, win0_3.index t 0 = t.val ∧ win0_3.index t 1 = 0 :=
  (by decide +kernel : ∀ t : Fin grid0.N, _)
theorem index_4 : ∀ t : Fin cfg0.N, win0_4.index t 0 = t.val ∧ win0_4.index t 1 = 0 :=
  (by decide +kernel : ∀ t : Fin grid0.N, _)
theorem index_5 : ∀ t : Fin cfg0.N, win0_5.index t 0 = t.val ∧ win0_5.index t 1 = 0 :=
  (by decide +kernel : ∀ t : Fin grid0.N, _)
theorem index_6 : ∀ t : Fin cfg0.N, win0_6.index t 0 = t.val ∧ win0_6.index t 1 = 0 :=
  (by decide +kernel : ∀ t : Fin grid0.N, _)
theorem index_7 : ∀ t : Fin cfg0.N, win0_7.index t 0 = t.val ∧ win0_7.index t 1 = 0 :=
  (by decide +kernel : ∀ t : Fin grid0.N, _)

section
variable (t : Fin cfg0.N) (j : Fin 128) (p : Fin 1024) (r : Fin 512) (q : Fin 1024) (hr : r.val = t.val * 128 + j.val) (hq : q.val = 0 * 1024 + p.val)
include hr hq

theorem in_0 : (fun n => X0 m c t (ix3 n j p)) = part (arg_0 m c) (arg_1 m c) (arg_2 m c) (arg_3 m c) r q := funext fun n => by
  unfold X0 iblk
  rw [View.read_apply]
  refine (congrArg (V m c main_v4) (ix3_of (r0 := n) (index_0 t) (show n.val = 0 * 8 + n.val by omega) hr hq rfl rfl rfl)).trans ?_
  unfold V
  after_results
  pointwise
  unfold part
  split_ifs <;> (after_results_simp; pointwise)

theorem in_1 : X1 m c t (ix2 j p) = at_ (arg_4 m c) r q := by
  unfold X1 iblk
  rw [View.read_apply]
  refine (congrArg (V m c main_v5) (ix2_of (index_1 t) hr hq rfl rfl)).trans ?_
  unfold V
  after_results
  pointwise

theorem in_2 : X2 m c t (ix2 j p) = at_ (arg_5 m c) r q := by
  unfold X2 iblk
  rw [View.read_apply]
  refine (congrArg (V m c main_v6) (ix2_of (index_2 t) hr hq rfl rfl)).trans ?_
  unfold V
  after_results
  pointwise

theorem in_3 : X3 m c t (ix2 j p) = at_ (arg_6 m c) r q := by
  unfold X3 iblk
  rw [View.read_apply]
  refine (congrArg (V m c main_v7) (ix2_of (index_3 t) hr hq rfl rfl)).trans ?_
  unfold V
  after_results
  pointwise
end

/-- The summed gradient. -/
def entry_4 (r : Fin 512) (q : Fin 1024) : EReal := grad (part (arg_0 m c) (arg_1 m c) (arg_2 m c) (arg_3 m c) r q)
def result_4 : Vec Ideal S512x1024 .f32 := fun i => entry_4 m c (i 0) (i 1)

theorem final_4_eq : (dats m 0 c).arrAt 4 cfg0.N = result_4 m c :=
  (dats m 0 c).arrAt_eq_of_covers 4 (result_4 m c) (by decide +kernel) fun t _ y => by
    rw [after0_4]
    exact eq_of_heq ((cast_heq _ _).trans (heq_of_eq (at_rows (out0_4 (X0 m c t) (X1 m c t) (X2 m c t) (X3 m c t)) (result_4 m c) (index_4 t)
      (fun j p r q hr hq => (out_eq _ _ _ _ j p).1.trans (by rw [in_0 m c t j p r q hr hq]; rfl)) y _ rfl rfl)))

/-- The change of the weights. -/
def entry_5 (r : Fin 512) (q : Fin 1024) : EReal := delta (grad (part (arg_0 m c) (arg_1 m c) (arg_2 m c) (arg_3 m c) r q)) (at_ (arg_4 m c) r q) (at_ (arg_5 m c) r q) (at_ (arg_6 m c) r q)
def result_5 : Vec Ideal S512x1024 .f32 := fun i => entry_5 m c (i 0) (i 1)

theorem final_5_eq : (dats m 0 c).arrAt 5 cfg0.N = result_5 m c :=
  (dats m 0 c).arrAt_eq_of_covers 5 (result_5 m c) (by decide +kernel) fun t _ y => by
    rw [after0_5]
    exact eq_of_heq ((cast_heq _ _).trans (heq_of_eq (at_rows (out0_5 (X0 m c t) (X1 m c t) (X2 m c t) (X3 m c t)) (result_5 m c) (index_5 t)
      (fun j p r q hr hq => (out_eq _ _ _ _ j p).2.1.trans (by rw [in_0 m c t j p r q hr hq, in_1 m c t j p r q hr hq, in_2 m c t j p r q hr hq, in_3 m c t j p r q hr hq]; rfl)) y _ rfl rfl)))

/-- The mean of the gradients. -/
def entry_6 (r : Fin 512) (q : Fin 1024) : EReal := mean (grad (part (arg_0 m c) (arg_1 m c) (arg_2 m c) (arg_3 m c) r q)) (at_ (arg_5 m c) r q)
def result_6 : Vec Ideal S512x1024 .f32 := fun i => entry_6 m c (i 0) (i 1)

theorem final_6_eq : (dats m 0 c).arrAt 6 cfg0.N = result_6 m c :=
  (dats m 0 c).arrAt_eq_of_covers 6 (result_6 m c) (by decide +kernel) fun t _ y => by
    rw [after0_6]
    exact eq_of_heq ((cast_heq _ _).trans (heq_of_eq (at_rows (out0_6 (X0 m c t) (X1 m c t) (X2 m c t) (X3 m c t)) (result_6 m c) (index_6 t)
      (fun j p r q hr hq => (out_eq _ _ _ _ j p).2.2.1.trans (by rw [in_0 m c t j p r q hr hq, in_2 m c t j p r q hr hq]; rfl)) y _ rfl rfl)))

/-- The mean of the gradients' squares. -/
def entry_7 (r : Fin 512) (q : Fin 1024) : EReal := var (grad (part (arg_0 m c) (arg_1 m c) (arg_2 m c) (arg_3 m c) r q)) (at_ (arg_6 m c) r q)
def result_7 : Vec Ideal S512x1024 .f32 := fun i => entry_7 m c (i 0) (i 1)

theorem final_7_eq : (dats m 0 c).arrAt 7 cfg0.N = result_7 m c :=
  (dats m 0 c).arrAt_eq_of_covers 7 (result_7 m c) (by decide +kernel) fun t _ y => by
    rw [after0_7]
    exact eq_of_heq ((cast_heq _ _).trans (heq_of_eq (at_rows (out0_7 (X0 m c t) (X1 m c t) (X2 m c t) (X3 m c t)) (result_7 m c) (index_7 t)
      (fun j p r q hr hq => (out_eq _ _ _ _ j p).2.2.2.trans (by rw [in_0 m c t j p r q hr hq, in_3 m c t j p r q hr hq]; rfl)) y _ rfl rfl)))

/-- The kernel's run, read: every result at its formula, the arguments unchanged. -/
theorem run : θ_run defs (onTc (τ := τ) (main (F := Ideal))) ⟨m, fun _ => 0, ρ⟩ fun r => ∀ c : Dev nD,
      r.2.mem ((c : Thread nD τ).loc main_v8_0) = result_4 m c
      ∧ r.2.mem ((c : Thread nD τ).loc main_v8_1) = result_5 m c
      ∧ r.2.mem ((c : Thread nD τ).loc main_v8_2) = result_6 m c
      ∧ r.2.mem ((c : Thread nD τ).loc main_v8_3) = result_7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_4_eq m c), (h c).2.1.trans (final_5_eq m c), (h c).2.2.1.trans (final_6_eq m c), (h c).2.2.2.1.trans (final_7_eq m c), (h c).2.2.2.2⟩) (Value.run_blocks m ρ)

end Cert.Kernel24Ideal.Prod

end
-- ==== Proof.AdamGateRef.lean ====
/-
  The reference's optimiser step, at an index.
-/
module

public import proofs.«01_k».proof.Proof.Gen.Reference24Ideal.Read
public import proofs.«01_k».proof.Proof.AdamGateKernel

@[expose] public section

set_option maxRecDepth 16384

noncomputable section

namespace Cert.Reference24Ideal.Prod

open Cert.Reference24Ideal Cert.Reference24Ideal.Gen Cert.Reference24Ideal.Read Idealize.ShloMosaic Idealize.ShloMosaic.TcCoe
open Cert.AdamW
open Cert.Kernel24Ideal.Prod (part at_)

variable (x0 x1 x2 x3 : Vec Ideal S8x480x1024 .bf16) (x4 x5 x6 : Vec Ideal S4x128x1024 .f32) (r : Fin 512) (q : Fin 1024)

/-- The summed gradient. -/
theorem read_grad : val_main_v12 (F := Ideal) x0 x1 x2 x3 (ix2 r q) = grad (part x0 x1 x2 x3 r q) := by
  unfold val_main_v12 val_main_v11 val_main_cst_2 val_main_v10 val_main_v9 val_main_v8 val_main_cst_1 val_main_v7 val_main_v6 val_main_v5 val_main_cst_0 val_main_v4 val_main_v3 val_main_v2 val_main_cst val_main_v1 val_main_v0
  pointwise
  unfold part grad
  split_ifs <;> exact Fin.sum_univ_eight _

/-- The change of the weights. -/
theorem read_delta : val_main_v39 (F := Ideal) x0 x1 x2 x3 x4 x5 x6 (ix2 r q) = delta (grad (part x0 x1 x2 x3 r q)) (at_ x4 r q) (at_ x5 r q) (at_ x6 r q) := by
  unfold val_main_v39 val_main_v38 val_main_cst_11 val_main_v37 val_main_v36 val_main_v35 val_main_cst_10 val_main_v34 val_main_v33 val_main_v32 val_main_cst_9 val_main_v31 val_main_v30 val_main_v29 val_main_cst_8 val_main_v28 val_main_v27 val_main_cst_7 val_main_v26 val_main_v25 val_main_v24 val_main_cst_6 val_main_v23 val_main_v22 val_main_v21 val_main_cst_5 val_main_v20 val_main_v19 val_main_v18 val_main_cst_4 val_main_v17 val_main_v16 val_main_cst_3 val_main_v15 val_main_v14 val_main_v13
  pointwise
  rw [read_grad]
  rfl

/-- The mean of the gradients. -/
theorem read_mean : val_main_v20 (F := Ideal) x0 x1 x2 x3 x5 (ix2 r q) = mean (grad (part x0 x1 x2 x3 r q)) (at_ x5 r q) := by
  unfold val_main_v20 val_main_v19 val_main_v18 val_main_cst_4 val_main_v17 val_main_v16 val_main_cst_3 val_main_v14
  pointwise
  rw [read_grad]
  rfl

/-- The mean of the gradients' squares. -/
theorem read_var : val_main_v26 (F := Ideal) x0 x1 x2 x3 x6 (ix2 r q) = var (grad (part x0 x1 x2 x3 r q)) (at_ x6 r q) := by
  unfold val_main_v26 val_main_v25 val_main_v24 val_main_cst_6 val_main_v23 val_main_v22 val_main_v21 val_main_cst_5 val_main_v15
  pointwise
  rw [read_grad]
  rfl

end Cert.Reference24Ideal.Prod

end
-- ==== Proof.AdamSmall.lean ====
/-
  The optimiser's step of the weights packed into one array, as the call leaves it and as the reference computes it.
-/
module

public import proofs.«01_k».proof.Proof.Gen.Kernel25Ideal.Value
public import proofs.«01_k».proof.Proof.Gen.Reference25Ideal.Read
public import proofs.«01_k».proof.Proof.Canon
public import proofs.«01_k».proof.Proof.Rows
public import proofs.«01_k».proof.Proof.AdamW
public import Idealize.ShloMosaic.Lib.Tactic
public import Idealize.ShloMosaic.Lib.Pipeline.ValueKit

@[expose] public section

set_option maxRecDepth 16384

noncomputable section

namespace Cert.Kernel25Ideal.Prod

open Cert.Kernel25Ideal Cert.Kernel25Ideal.Gen Idealize.ShloMosaic Idealize.ShloMosaic.TcCoe Idealize.SL.Sem
open Cert.Canon Cert.AdamW Cert.Rows

/-- The blocks that a point leaves, at an index. -/
theorem out_eq (x0 : Vec Ideal S8x128x1024 .bf16) (x1 x2 x3 : Vec Ideal S128x1024 .f32) (j : Fin 128) (p : Fin 1024) :
    out0_4 x0 x1 x2 x3 (ix2 j p) = (grad fun n => x0 (ix3 n j p))
    ∧ out0_5 x0 x1 x2 x3 (ix2 j p) = delta (grad fun n => x0 (ix3 n j p)) (x1 (ix2 j p)) (x2 (ix2 j p)) (x3 (ix2 j p))
    ∧ out0_6 x0 x1 x2 x3 (ix2 j p) = mean (grad fun n => x0 (ix3 n j p)) (x2 (ix2 j p))
    ∧ out0_7 x0 x1 x2 x3 (ix2 j p) = var (grad fun n => x0 (ix3 n j p)) (x3 (ix2 j p)) := by
  unfold out0_4 out0_5 out0_6 out0_7
  refine ⟨?_, ?_, ?_, ?_⟩ <;>
  · rw [canon_in _ _ _ _ _ _ (ix2 j p) (fun a => by match a with
        | ⟨0, _⟩ => show j.val = 0 + j.val; omega
        | ⟨1, _⟩ => show p.val = 0 + p.val; omega)]
    pointwise [k0_pay1, k0_pay2, k0_pay3, k0_pay4, k0_pay5, k0_pay6, k0_pay7]
    rfl

variable (m : (ℓ : Loc nD τ sig) → Buf (Elt Ideal) ℓ) (c : Dev nD)

/-- An argument's array. -/
abbrev arg (b : Ref sig .tc) : Buf (Elt Ideal) ((c : Thread nD τ).loc b) := m ((c : Thread nD τ).loc b)

/-! The packed weights and their packed running means, laid out as the reference lays them out. -/

def packed_1 : Vec Ideal S256x1024 .f32 := Cert.Reference25Ideal.Read.val_main_v15 (F := Ideal) (arg m c main_arg1) (arg m c main_arg2) (arg m c main_arg3) (arg m c main_arg4)
set_option maxHeartbeats 2000000 in
theorem packed_1_eq : V m c main_v13 = packed_1 m c := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil,
    StableHlo.TRef.binary, StableHlo.TRef.unary, StableHlo.TRef.toBuf, StableHlo.TRef.ofBuf, cast_eq]
  after_results
  rfl

def packed_2 : Vec Ideal S256x1024 .f32 := Cert.Reference25Ideal.Read.val_main_v29 (F := Ideal) (arg m c main_arg5) (arg m c main_arg6) (arg m c main_arg7) (arg m c main_arg8)
set_option maxHeartbeats 2000000 in
theorem packed_2_eq : V m c main_v27 = packed_2 m c := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil,
    StableHlo.TRef.binary, StableHlo.TRef.unary, StableHlo.TRef.toBuf, StableHlo.TRef.ofBuf, cast_eq]
  after_results
  rfl

def packed_3 : Vec Ideal S256x1024 .f32 := Cert.Reference25Ideal.Read.val_main_v43 (F := Ideal) (arg m c main_arg9) (arg m c main_arg10) (arg m c main_arg11) (arg m c main_arg12)
set_option maxHeartbeats 2000000 in
theorem packed_3_eq : V m c main_v41 = packed_3 m c := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil,
    StableHlo.TRef.binary, StableHlo.TRef.unary, StableHlo.TRef.toBuf, StableHlo.TRef.ofBuf, cast_eq]
  after_results
  rfl

abbrev X0 (t : Fin cfg0.N) : Vec Ideal S8x128x1024 .bf16 := iblk m c 0 t
abbrev X1 (t : Fin cfg0.N) : Vec Ideal S128x1024 .f32 := iblk m c 1 t
abbrev X2 (t : Fin cfg0.N) : Vec Ideal S128x1024 .f32 := iblk m c 2 t
abbrev X3 (t : Fin cfg0.N) : Vec Ideal S128x1024 .f32 := iblk m c 3 t

theorem index_0 : ∀ t : Fin cfg0.N, win0_0.index t 0 = 0 ∧ win0_0.index t 1 = t.val ∧ win0_0.index t 2 = 0 :=
  (by decide +kernel : ∀ t : Fin grid0.N, _)
theorem index_1 : ∀ t : Fin cfg0.N, win0_1.index t 0 = t.val ∧ win0_1.index t 1 = 0 :=
  (by decide +kernel : ∀ t : Fin grid0.N, _)
theorem index_2 : ∀ t : Fin cfg0.N, win0_2.index t 0 = t.val ∧ win0_2.index t 1 = 0 :=
  (by decide +kernel : ∀ t : Fin grid0.N, _)
theorem index_3 : ∀ t : Fin cfg0.N, win0_3.index t 0 = t.val ∧ win0_3.index t 1 = 0 :=
  (by decide +kernel : ∀ t : Fin grid0.N, _)
theorem index_4 : ∀ t : Fin cfg0.N, win0_4.index t 0 = t.val ∧ win0_4.index t 1 = 0 :=
  (by decide +kernel : ∀ t : Fin grid0.N, _)
theorem index_5 : ∀ t : Fin cfg0.N, win0_5.index t 0 = t.val ∧ win0_5.index t 1 = 0 :=
  (by decide +kernel : ∀ t : Fin grid0.N, _)
theorem index_6 : ∀ t : Fin cfg0.N, win0_6.index t 0 = t.val ∧ win0_6.index t 1 = 0 :=
  (by decide +kernel : ∀ t : Fin grid0.N, _)
theorem index_7 : ∀ t : Fin cfg0.N, win0_7.index t 0 = t.val ∧ win0_7.index t 1 = 0 :=
  (by decide +kernel : ∀ t : Fin grid0.N, _)

section
variable (t : Fin cfg0.N) (j : Fin 128) (p : Fin 1024) (r : Fin 256) (q : Fin 1024) (hr : r.val = t.val * 128 + j.val) (hq : q.val = 0 * 1024 + p.val)
include hr hq

theorem in_0 (n : Fin 8) : X0 m c t (ix3 n j p) = arg m c main_arg0 (ix3 n r q) := by
  unfold X0 iblk
  rw [View.read_apply]
  refine (congrArg (V m c main_arg0) (ix3_of (r0 := n) (index_0 t) (show n.val = 0 * 8 + n.val by omega) hr hq rfl rfl rfl)).trans ?_
  rw [V_main_arg0]

theorem in_1 : X1 m c t (ix2 j p) = packed_1 m c (ix2 r q) := by
  unfold X1 iblk
  rw [View.read_apply]
  refine (congrArg (V m c main_v13) (ix2_of (index_1 t) hr hq rfl rfl)).trans ?_
  rw [packed_1_eq]

theorem in_2 : X2 m c t (ix2 j p) = packed_2 m c (ix2 r q) := by
  unfold X2 iblk
  rw [View.read_apply]
  refine (congrArg (V m c main_v27) (ix2_of (index_2 t) hr hq rfl rfl)).trans ?_
  rw [packed_2_eq]

theorem in_3 : X3 m c t (ix2 j p) = packed_3 m c (ix2 r q) := by
  unfold X3 iblk
  rw [View.read_apply]
  refine (congrArg (V m c main_v41) (ix2_of (index_3 t) hr hq rfl rfl)).trans ?_
  rw [packed_3_eq]
end

/-- The summed gradient. -/
def entry_4 (r : Fin 256) (q : Fin 1024) : EReal := grad fun n => (arg m c main_arg0) (ix3 n r q)
def result_4 : Vec Ideal S256x1024 .f32 := fun i => entry_4 m c (i 0) (i 1)

theorem final_4_eq : (dats m 0 c).arrAt 4 cfg0.N = result_4 m c :=
  (dats m 0 c).arrAt_eq_of_covers 4 (result_4 m c) (by decide +kernel) fun t _ y => by
    rw [after0_4]
    exact eq_of_heq ((cast_heq _ _).trans (heq_of_eq (at_rows (out0_4 (X0 m c t) (X1 m c t) (X2 m c t) (X3 m c t)) (result_4 m c) (index_4 t)
      (fun j p r q hr hq => (out_eq _ _ _ _ j p).1.trans (by rw [funext fun n => in_0 m c t j p r q hr hq n]; rfl)) y _ rfl rfl)))

/-- The change of the weights. -/
def entry_5 (r : Fin 256) (q : Fin 1024) : EReal := delta (grad fun n => (arg m c main_arg0) (ix3 n r q)) ((packed_1 m c) (ix2 r q)) ((packed_2 m c) (ix2 r q)) ((packed_3 m c) (ix2 r q))
def result_5 : Vec Ideal S256x1024 .f32 := fun i => entry_5 m c (i 0) (i 1)

theorem final_5_eq : (dats m 0 c).arrAt 5 cfg0.N = result_5 m c :=
  (dats m 0 c).arrAt_eq_of_covers 5 (result_5 m c) (by decide +kernel) fun t _ y => by
    rw [after0_5]
    exact eq_of_heq ((cast_heq _ _).trans (heq_of_eq (at_rows (out0_5 (X0 m c t) (X1 m c t) (X2 m c t) (X3 m c t)) (result_5 m c) (index_5 t)
      (fun j p r q hr hq => (out_eq _ _ _ _ j p).2.1.trans (by rw [funext fun n => in_0 m c t j p r q hr hq n, in_1 m c t j p r q hr hq, in_2 m c t j p r q hr hq, in_3 m c t j p r q hr hq]; rfl)) y _ rfl rfl)))

/-- The mean of the gradients. -/
def entry_6 (r : Fin 256) (q : Fin 1024) : EReal := mean (grad fun n => (arg m c main_arg0) (ix3 n r q)) ((packed_2 m c) (ix2 r q))
def result_6 : Vec Ideal S256x1024 .f32 := fun i => entry_6 m c (i 0) (i 1)

theorem final_6_eq : (dats m 0 c).arrAt 6 cfg0.N = result_6 m c :=
  (dats m 0 c).arrAt_eq_of_covers 6 (result_6 m c) (by decide +kernel) fun t _ y => by
    rw [after0_6]
    exact eq_of_heq ((cast_heq _ _).trans (heq_of_eq (at_rows (out0_6 (X0 m c t) (X1 m c t) (X2 m c t) (X3 m c t)) (result_6 m c) (index_6 t)
      (fun j p r q hr hq => (out_eq _ _ _ _ j p).2.2.1.trans (by rw [funext fun n => in_0 m c t j p r q hr hq n, in_2 m c t j p r q hr hq]; rfl)) y _ rfl rfl)))

/-- The mean of the gradients' squares. -/
def entry_7 (r : Fin 256) (q : Fin 1024) : EReal := var (grad fun n => (arg m c main_arg0) (ix3 n r q)) ((packed_3 m c) (ix2 r q))
def result_7 : Vec Ideal S256x1024 .f32 := fun i => entry_7 m c (i 0) (i 1)

theorem final_7_eq : (dats m 0 c).arrAt 7 cfg0.N = result_7 m c :=
  (dats m 0 c).arrAt_eq_of_covers 7 (result_7 m c) (by decide +kernel) fun t _ y => by
    rw [after0_7]
    exact eq_of_heq ((cast_heq _ _).trans (heq_of_eq (at_rows (out0_7 (X0 m c t) (X1 m c t) (X2 m c t) (X3 m c t)) (result_7 m c) (index_7 t)
      (fun j p r q hr hq => (out_eq _ _ _ _ j p).2.2.2.trans (by rw [funext fun n => in_0 m c t j p r q hr hq n, in_3 m c t j p r q hr hq]; rfl)) y _ rfl rfl)))

end Cert.Kernel25Ideal.Prod

namespace Cert.Reference25Ideal.Prod

open Cert.Reference25Ideal Cert.Reference25Ideal.Gen Cert.Reference25Ideal.Read Idealize.ShloMosaic Idealize.ShloMosaic.TcCoe
open Cert.AdamW

variable (x0 : Vec Ideal S8x256x1024 .bf16) (x1 : Vec Ideal S2x64x512 .f32) (x2 : Vec Ideal S2x3x64 .f32) (x3 : Vec Ideal S2x64 .f32) (x4 : Vec Ideal S4x256x128 .f32) (x5 : Vec Ideal S2x64x512 .f32) (x6 : Vec Ideal S2x3x64 .f32) (x7 : Vec Ideal S2x64 .f32) (x8 : Vec Ideal S4x256x128 .f32) (x9 : Vec Ideal S2x64x512 .f32) (x10 : Vec Ideal S2x3x64 .f32) (x11 : Vec Ideal S2x64 .f32) (x12 : Vec Ideal S4x256x128 .f32) (r : Fin 256) (q : Fin 1024)

theorem read_grad : val_main_v1 (F := Ideal) x0 (ix2 r q) = grad fun n => x0 (ix3 n r q) := by
  unfold val_main_v1 val_main_cst val_main_v0
  pointwise
  unfold grad
  exact Fin.sum_univ_eight _

theorem read_delta : val_main_v67 (F := Ideal) x0 x1 x2 x3 x4 x5 x6 x7 x8 x9 x10 x11 x12 (ix2 r q) = delta (grad fun n => x0 (ix3 n r q)) ((val_main_v15 (F := Ideal) x1 x2 x3 x4) (ix2 r q)) ((val_main_v29 (F := Ideal) x5 x6 x7 x8) (ix2 r q)) ((val_main_v43 (F := Ideal) x9 x10 x11 x12) (ix2 r q)) := by
  unfold val_main_v67 val_main_v66 val_main_cst_22 val_main_v65 val_main_v64 val_main_v63 val_main_cst_21 val_main_v62 val_main_v61 val_main_v60 val_main_cst_20 val_main_v59 val_main_v58 val_main_v57 val_main_cst_19 val_main_v56 val_main_v55 val_main_cst_18 val_main_v54 val_main_v53 val_main_v52 val_main_cst_17 val_main_v51 val_main_v50 val_main_v49 val_main_cst_16 val_main_v48 val_main_v47 val_main_v46 val_main_cst_15 val_main_v45 val_main_v44 val_main_cst_14
  pointwise
  rw [read_grad]
  rfl

theorem read_mean : val_main_v48 (F := Ideal) x0 x5 x6 x7 x8 (ix2 r q) = mean (grad fun n => x0 (ix3 n r q)) ((val_main_v29 (F := Ideal) x5 x6 x7 x8) (ix2 r q)) := by
  unfold val_main_v48 val_main_v47 val_main_v46 val_main_cst_15 val_main_v45 val_main_v44 val_main_cst_14
  pointwise
  rw [read_grad]
  rfl

theorem read_var : val_main_v54 (F := Ideal) x0 x9 x10 x11 x12 (ix2 r q) = var (grad fun n => x0 (ix3 n r q)) ((val_main_v43 (F := Ideal) x9 x10 x11 x12) (ix2 r q)) := by
  unfold val_main_v54 val_main_v53 val_main_v52 val_main_cst_17 val_main_v51 val_main_v50 val_main_v49 val_main_cst_16
  pointwise
  rw [read_grad]
  rfl

end Cert.Reference25Ideal.Prod

end
-- ==== Proof.AdamReplicated.lean ====
/-
  The optimiser's step of the weights packed into one array, as the call leaves it and as the reference computes it.
-/
module

public import proofs.«01_k».proof.Proof.Gen.Kernel26Ideal.Value
public import proofs.«01_k».proof.Proof.Gen.Reference26Ideal.Read
public import proofs.«01_k».proof.Proof.Canon
public import proofs.«01_k».proof.Proof.Rows
public import proofs.«01_k».proof.Proof.AdamW
public import Idealize.ShloMosaic.Lib.Tactic
public import Idealize.ShloMosaic.Lib.Pipeline.ValueKit

@[expose] public section

set_option maxRecDepth 16384

noncomputable section

namespace Cert.Kernel26Ideal.Prod

open Cert.Kernel26Ideal Cert.Kernel26Ideal.Gen Idealize.ShloMosaic Idealize.ShloMosaic.TcCoe Idealize.SL.Sem
open Cert.Canon Cert.AdamW Cert.Rows

/-- The blocks that a point leaves, at an index. -/
theorem out_eq (x0 : Vec Ideal S8x64x1024 .f32) (x1 x2 x3 : Vec Ideal S64x1024 .f32) (j : Fin 64) (p : Fin 1024) :
    out0_4 x0 x1 x2 x3 (ix2 j p) = (grad fun n => x0 (ix3 n j p))
    ∧ out0_5 x0 x1 x2 x3 (ix2 j p) = delta (grad fun n => x0 (ix3 n j p)) (x1 (ix2 j p)) (x2 (ix2 j p)) (x3 (ix2 j p))
    ∧ out0_6 x0 x1 x2 x3 (ix2 j p) = mean (grad fun n => x0 (ix3 n j p)) (x2 (ix2 j p))
    ∧ out0_7 x0 x1 x2 x3 (ix2 j p) = var (grad fun n => x0 (ix3 n j p)) (x3 (ix2 j p)) := by
  unfold out0_4 out0_5 out0_6 out0_7
  refine ⟨?_, ?_, ?_, ?_⟩ <;>
  · rw [canon_in _ _ _ _ _ _ (ix2 j p) (fun a => by match a with
        | ⟨0, _⟩ => show j.val = 0 + j.val; omega
        | ⟨1, _⟩ => show p.val = 0 + p.val; omega)]
    pointwise [k0_pay1, k0_pay2, k0_pay3, k0_pay4, k0_pay5, k0_pay6]
    rfl

variable (m : (ℓ : Loc nD τ sig) → Buf (Elt Ideal) ℓ) (c : Dev nD)

/-- An argument's array. -/
abbrev arg (b : Ref sig .tc) : Buf (Elt Ideal) ((c : Thread nD τ).loc b) := m ((c : Thread nD τ).loc b)

/-! The packed weights and their packed running means, laid out as the reference lays them out. -/

def packed_1 : Vec Ideal S768x1024 .f32 := Cert.Reference26Ideal.Read.val_main_v56 (F := Ideal) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16)
set_option maxHeartbeats 2000000 in
theorem packed_1_eq : V m c main_v55 = packed_1 m c := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, List.flatten_cons, List.flatten_nil, List.cons_append, List.nil_append, List.append_nil,
    StableHlo.TRef.binary, StableHlo.TRef.unary, StableHlo.TRef.toBuf, StableHlo.TRef.ofBuf, cast_eq]
  after_results
  rfl

def packed_2 : Vec Ideal S768x1024 .f32 := Cert.Reference26Ideal.Read.val_main_v111 (F := Ideal) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) (arg m c main_arg29) (arg m c main_arg30) (arg m c main_arg31) (arg m c main_arg32)
set_option maxHeartbeats 2000000 in
theorem packed_2_eq : V m c main_v110 = packed_2 m c := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, List.flatten_cons, List.flatten_nil, List.cons_append, List.nil_append, List.append_nil,
    StableHlo.TRef.binary, StableHlo.TRef.unary, StableHlo.TRef.toBuf, StableHlo.TRef.ofBuf, cast_eq]
  after_results
  rfl

def packed_3 : Vec Ideal S768x1024 .f32 := Cert.Reference26Ideal.Read.val_main_v166 (F := Ideal) (arg m c main_arg33) (arg m c main_arg34) (arg m c main_arg35) (arg m c main_arg36) (arg m c main_arg37) (arg m c main_arg38) (arg m c main_arg39) (arg m c main_arg40) (arg m c main_arg41) (arg m c main_arg42) (arg m c main_arg43) (arg m c main_arg44) (arg m c main_arg45) (arg m c main_arg46) (arg m c main_arg47) (arg m c main_arg48)
set_option maxHeartbeats 2000000 in
theorem packed_3_eq : V m c main_v165 = packed_3 m c := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, List.flatten_cons, List.flatten_nil, List.cons_append, List.nil_append, List.append_nil,
    StableHlo.TRef.binary, StableHlo.TRef.unary, StableHlo.TRef.toBuf, StableHlo.TRef.ofBuf, cast_eq]
  after_results
  rfl

abbrev X0 (t : Fin cfg0.N) : Vec Ideal S8x64x1024 .f32 := iblk m c 0 t
abbrev X1 (t : Fin cfg0.N) : Vec Ideal S64x1024 .f32 := iblk m c 1 t
abbrev X2 (t : Fin cfg0.N) : Vec Ideal S64x1024 .f32 := iblk m c 2 t
abbrev X3 (t : Fin cfg0.N) : Vec Ideal S64x1024 .f32 := iblk m c 3 t

theorem index_0 : ∀ t : Fin cfg0.N, win0_0.index t 0 = 0 ∧ win0_0.index t 1 = t.val ∧ win0_0.index t 2 = 0 :=
  (by decide +kernel : ∀ t : Fin grid0.N, _)
theorem index_1 : ∀ t : Fin cfg0.N, win0_1.index t 0 = t.val ∧ win0_1.index t 1 = 0 :=
  (by decide +kernel : ∀ t : Fin grid0.N, _)
theorem index_2 : ∀ t : Fin cfg0.N, win0_2.index t 0 = t.val ∧ win0_2.index t 1 = 0 :=
  (by decide +kernel : ∀ t : Fin grid0.N, _)
theorem index_3 : ∀ t : Fin cfg0.N, win0_3.index t 0 = t.val ∧ win0_3.index t 1 = 0 :=
  (by decide +kernel : ∀ t : Fin grid0.N, _)
theorem index_4 : ∀ t : Fin cfg0.N, win0_4.index t 0 = t.val ∧ win0_4.index t 1 = 0 :=
  (by decide +kernel : ∀ t : Fin grid0.N, _)
theorem index_5 : ∀ t : Fin cfg0.N, win0_5.index t 0 = t.val ∧ win0_5.index t 1 = 0 :=
  (by decide +kernel : ∀ t : Fin grid0.N, _)
theorem index_6 : ∀ t : Fin cfg0.N, win0_6.index t 0 = t.val ∧ win0_6.index t 1 = 0 :=
  (by decide +kernel : ∀ t : Fin grid0.N, _)
theorem index_7 : ∀ t : Fin cfg0.N, win0_7.index t 0 = t.val ∧ win0_7.index t 1 = 0 :=
  (by decide +kernel : ∀ t : Fin grid0.N, _)

section
variable (t : Fin cfg0.N) (j : Fin 64) (p : Fin 1024) (r : Fin 768) (q : Fin 1024) (hr : r.val = t.val * 64 + j.val) (hq : q.val = 0 * 1024 + p.val)
include hr hq

theorem in_0 (n : Fin 8) : X0 m c t (ix3 n j p) = arg m c main_arg0 (ix3 n r q) := by
  unfold X0 iblk
  rw [View.read_apply]
  refine (congrArg (V m c main_arg0) (ix3_of (r0 := n) (index_0 t) (show n.val = 0 * 8 + n.val by omega) hr hq rfl rfl rfl)).trans ?_
  rw [V_main_arg0]

theorem in_1 : X1 m c t (ix2 j p) = packed_1 m c (ix2 r q) := by
  unfold X1 iblk
  rw [View.read_apply]
  refine (congrArg (V m c main_v55) (ix2_of (index_1 t) hr hq rfl rfl)).trans ?_
  rw [packed_1_eq]

theorem in_2 : X2 m c t (ix2 j p) = packed_2 m c (ix2 r q) := by
  unfold X2 iblk
  rw [View.read_apply]
  refine (congrArg (V m c main_v110) (ix2_of (index_2 t) hr hq rfl rfl)).trans ?_
  rw [packed_2_eq]

theorem in_3 : X3 m c t (ix2 j p) = packed_3 m c (ix2 r q) := by
  unfold X3 iblk
  rw [View.read_apply]
  refine (congrArg (V m c main_v165) (ix2_of (index_3 t) hr hq rfl rfl)).trans ?_
  rw [packed_3_eq]
end

/-- The summed gradient. -/
def entry_4 (r : Fin 768) (q : Fin 1024) : EReal := grad fun n => (arg m c main_arg0) (ix3 n r q)
def result_4 : Vec Ideal S768x1024 .f32 := fun i => entry_4 m c (i 0) (i 1)

theorem final_4_eq : (dats m 0 c).arrAt 4 cfg0.N = result_4 m c :=
  (dats m 0 c).arrAt_eq_of_covers 4 (result_4 m c) (by decide +kernel) fun t _ y => by
    rw [after0_4]
    exact eq_of_heq ((cast_heq _ _).trans (heq_of_eq (at_rows (out0_4 (X0 m c t) (X1 m c t) (X2 m c t) (X3 m c t)) (result_4 m c) (index_4 t)
      (fun j p r q hr hq => (out_eq _ _ _ _ j p).1.trans (by rw [funext fun n => in_0 m c t j p r q hr hq n]; rfl)) y _ rfl rfl)))

/-- The change of the weights. -/
def entry_5 (r : Fin 768) (q : Fin 1024) : EReal := delta (grad fun n => (arg m c main_arg0) (ix3 n r q)) ((packed_1 m c) (ix2 r q)) ((packed_2 m c) (ix2 r q)) ((packed_3 m c) (ix2 r q))
def result_5 : Vec Ideal S768x1024 .f32 := fun i => entry_5 m c (i 0) (i 1)

theorem final_5_eq : (dats m 0 c).arrAt 5 cfg0.N = result_5 m c :=
  (dats m 0 c).arrAt_eq_of_covers 5 (result_5 m c) (by decide +kernel) fun t _ y => by
    rw [after0_5]
    exact eq_of_heq ((cast_heq _ _).trans (heq_of_eq (at_rows (out0_5 (X0 m c t) (X1 m c t) (X2 m c t) (X3 m c t)) (result_5 m c) (index_5 t)
      (fun j p r q hr hq => (out_eq _ _ _ _ j p).2.1.trans (by rw [funext fun n => in_0 m c t j p r q hr hq n, in_1 m c t j p r q hr hq, in_2 m c t j p r q hr hq, in_3 m c t j p r q hr hq]; rfl)) y _ rfl rfl)))

/-- The mean of the gradients. -/
def entry_6 (r : Fin 768) (q : Fin 1024) : EReal := mean (grad fun n => (arg m c main_arg0) (ix3 n r q)) ((packed_2 m c) (ix2 r q))
def result_6 : Vec Ideal S768x1024 .f32 := fun i => entry_6 m c (i 0) (i 1)

theorem final_6_eq : (dats m 0 c).arrAt 6 cfg0.N = result_6 m c :=
  (dats m 0 c).arrAt_eq_of_covers 6 (result_6 m c) (by decide +kernel) fun t _ y => by
    rw [after0_6]
    exact eq_of_heq ((cast_heq _ _).trans (heq_of_eq (at_rows (out0_6 (X0 m c t) (X1 m c t) (X2 m c t) (X3 m c t)) (result_6 m c) (index_6 t)
      (fun j p r q hr hq => (out_eq _ _ _ _ j p).2.2.1.trans (by rw [funext fun n => in_0 m c t j p r q hr hq n, in_2 m c t j p r q hr hq]; rfl)) y _ rfl rfl)))

/-- The mean of the gradients' squares. -/
def entry_7 (r : Fin 768) (q : Fin 1024) : EReal := var (grad fun n => (arg m c main_arg0) (ix3 n r q)) ((packed_3 m c) (ix2 r q))
def result_7 : Vec Ideal S768x1024 .f32 := fun i => entry_7 m c (i 0) (i 1)

theorem final_7_eq : (dats m 0 c).arrAt 7 cfg0.N = result_7 m c :=
  (dats m 0 c).arrAt_eq_of_covers 7 (result_7 m c) (by decide +kernel) fun t _ y => by
    rw [after0_7]
    exact eq_of_heq ((cast_heq _ _).trans (heq_of_eq (at_rows (out0_7 (X0 m c t) (X1 m c t) (X2 m c t) (X3 m c t)) (result_7 m c) (index_7 t)
      (fun j p r q hr hq => (out_eq _ _ _ _ j p).2.2.2.trans (by rw [funext fun n => in_0 m c t j p r q hr hq n, in_3 m c t j p r q hr hq]; rfl)) y _ rfl rfl)))

end Cert.Kernel26Ideal.Prod

namespace Cert.Reference26Ideal.Prod

open Cert.Reference26Ideal Cert.Reference26Ideal.Gen Cert.Reference26Ideal.Read Idealize.ShloMosaic Idealize.ShloMosaic.TcCoe
open Cert.AdamW

variable (x0 : Vec Ideal S8x768x1024 .f32) (x1 x2 : Vec Ideal S2x32x64 .f32) (x3 : Vec Ideal S2x32 .f32) (x4 x5 : Vec Ideal S2x32x64x16 .f32) (x6 x7 : Vec Ideal S2x32x16x64 .f32) (x8 x9 : Vec Ideal S2x512 .f32) (x10 : Vec Ideal S2x8x257 .f32) (x11 : Vec Ideal S2x4x128x128 .f32) (x12 x13 x14 x15 x16 : Vec Ideal S4x1024 .f32) (x17 x18 : Vec Ideal S2x32x64 .f32) (x19 : Vec Ideal S2x32 .f32) (x20 x21 : Vec Ideal S2x32x64x16 .f32) (x22 x23 : Vec Ideal S2x32x16x64 .f32) (x24 x25 : Vec Ideal S2x512 .f32) (x26 : Vec Ideal S2x8x257 .f32) (x27 : Vec Ideal S2x4x128x128 .f32) (x28 x29 x30 x31 x32 : Vec Ideal S4x1024 .f32) (x33 x34 : Vec Ideal S2x32x64 .f32) (x35 : Vec Ideal S2x32 .f32) (x36 x37 : Vec Ideal S2x32x64x16 .f32) (x38 x39 : Vec Ideal S2x32x16x64 .f32) (x40 x41 : Vec Ideal S2x512 .f32) (x42 : Vec Ideal S2x8x257 .f32) (x43 : Vec Ideal S2x4x128x128 .f32) (x44 x45 x46 x47 x48 : Vec Ideal S4x1024 .f32) (r : Fin 768) (q : Fin 1024)

theorem read_grad : val_main_v1 (F := Ideal) x0 (ix2 r q) = grad fun n => x0 (ix3 n r q) := by
  unfold val_main_v1 val_main_cst_0
  pointwise
  unfold grad
  exact Fin.sum_univ_eight _

theorem read_delta : val_main_v190 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 (ix2 r q) = delta (grad fun n => x0 (ix3 n r q)) ((val_main_v56 (F := Ideal) x1 x2 x3 x4 x5 x6 x7 x8 x9 x10 x11 x12 x13 x14 x15 x16) (ix2 r q)) ((val_main_v111 (F := Ideal) x17 x18 x19 x20 x21 x22 x23 x24 x25 x26 x27 x28 x29 x30 x31 x32) (ix2 r q)) ((val_main_v166 (F := Ideal) x33 x34 x35 x36 x37 x38 x39 x40 x41 x42 x43 x44 x45 x46 x47 x48) (ix2 r q)) := by
  unfold val_main_v190 val_main_v189 val_main_cst_62 val_main_v188 val_main_v187 val_main_v186 val_main_cst_61 val_main_v185 val_main_v184 val_main_v183 val_main_cst_60 val_main_v182 val_main_v181 val_main_v180 val_main_cst_59 val_main_v179 val_main_v178 val_main_cst_58 val_main_v177 val_main_v176 val_main_v175 val_main_cst_57 val_main_v174 val_main_v173 val_main_v172 val_main_cst_56 val_main_v171 val_main_v170 val_main_v169 val_main_cst_55 val_main_v168 val_main_v167 val_main_cst_54
  pointwise
  rw [read_grad]
  rfl

theorem read_mean : val_main_v171 (F := Ideal) x0 x17 x18 x19 x20 x21 x22 x23 x24 x25 x26 x27 x28 x29 x30 x31 x32 (ix2 r q) = mean (grad fun n => x0 (ix3 n r q)) ((val_main_v111 (F := Ideal) x17 x18 x19 x20 x21 x22 x23 x24 x25 x26 x27 x28 x29 x30 x31 x32) (ix2 r q)) := by
  unfold val_main_v171 val_main_v170 val_main_v169 val_main_cst_55 val_main_v168 val_main_v167 val_main_cst_54
  pointwise
  rw [read_grad]
  rfl

theorem read_var : val_main_v177 (F := Ideal) x0 x33 x34 x35 x36 x37 x38 x39 x40 x41 x42 x43 x44 x45 x46 x47 x48 (ix2 r q) = var (grad fun n => x0 (ix3 n r q)) ((val_main_v166 (F := Ideal) x33 x34 x35 x36 x37 x38 x39 x40 x41 x42 x43 x44 x45 x46 x47 x48) (ix2 r q)) := by
  unfold val_main_v177 val_main_v176 val_main_v175 val_main_cst_57 val_main_v174 val_main_v173 val_main_v172 val_main_cst_56
  pointwise
  rw [read_grad]
  rfl

end Cert.Reference26Ideal.Prod

end
-- ==== Proof.lean ====
/-
  The certificate: the convolution's backward call, the calls that multiply matrices and the optimiser's step. The kernel programs' frames are their
  generated runs; each reference is a straight line of host operations. Each value claim reads the results of both programs at
  an index (`Proof/…Kernel.lean`, `Proof/…Ref.lean`) and finds the same formulas over the extended reals.
-/
module

public import proofs.«01_k».proof.Defs
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.ConvKernel
public import proofs.«01_k».proof.Proof.ConvRef
public import proofs.«01_k».proof.Proof.UpKernel
public import proofs.«01_k».proof.Proof.UpRef
public import proofs.«01_k».proof.Proof.DownKernel
public import proofs.«01_k».proof.Proof.DownRef
public import proofs.«01_k».proof.Proof.InKernel
public import proofs.«01_k».proof.Proof.InRef
public import proofs.«01_k».proof.Proof.InBwdKernel
public import proofs.«01_k».proof.Proof.InBwdRef
public import proofs.«01_k».proof.Proof.OutBwdKernel
public import proofs.«01_k».proof.Proof.OutBwdRef
public import proofs.«01_k».proof.Proof.OutKernel
public import proofs.«01_k».proof.Proof.OutRef
public import proofs.«01_k».proof.Proof.GateKernel
public import proofs.«01_k».proof.Proof.GateRef
public import proofs.«01_k».proof.Proof.EmbKernel
public import proofs.«01_k».proof.Proof.EmbRef
public import proofs.«01_k».proof.Proof.GluKernel
public import proofs.«01_k».proof.Proof.GluRef
public import proofs.«01_k».proof.Proof.MmInKernel
public import proofs.«01_k».proof.Proof.MmInRef
public import proofs.«01_k».proof.Proof.MmUpKernel
public import proofs.«01_k».proof.Proof.MmUpRef
public import proofs.«01_k».proof.Proof.PleKernel
public import proofs.«01_k».proof.Proof.PleRef
public import proofs.«01_k».proof.Proof.OutLnKernel
public import proofs.«01_k».proof.Proof.OutLnRef
public import proofs.«01_k».proof.Proof.DownLnKernel
public import proofs.«01_k».proof.Proof.DownLnRef
public import proofs.«01_k».proof.Proof.FfnBwdKernel
public import proofs.«01_k».proof.Proof.FfnBwdRef
public import proofs.«01_k».proof.Proof.PleBwdBlock
public import proofs.«01_k».proof.Proof.PleBwdKernel
public import proofs.«01_k».proof.Proof.PleBwdRef
public import proofs.«01_k».proof.Proof.GluFwdKernel
public import proofs.«01_k».proof.Proof.GluFwdRef
public import proofs.«01_k».proof.Proof.ConvFwdKernel
public import proofs.«01_k».proof.Proof.ConvFwdRef
public import proofs.«01_k».proof.Proof.AdamUpKernel
public import proofs.«01_k».proof.Proof.AdamUpRef
public import proofs.«01_k».proof.Proof.AdamInKernel
public import proofs.«01_k».proof.Proof.AdamInRef
public import proofs.«01_k».proof.Proof.AdamOutKernel
public import proofs.«01_k».proof.Proof.AdamOutRef
public import proofs.«01_k».proof.Proof.AdamDownKernel
public import proofs.«01_k».proof.Proof.AdamDownRef
public import proofs.«01_k».proof.Proof.AdamGateKernel
public import proofs.«01_k».proof.Proof.AdamGateRef
public import proofs.«01_k».proof.Proof.AdamSmall
public import proofs.«01_k».proof.Proof.AdamReplicated

@[expose] public section

set_option maxRecDepth 16384

namespace Cert.Proof

open Idealize.ShloMosaic Idealize.ShloMosaic.TcCoe Idealize.SL.Sem

/-- Every index of a matrix is a row and a column. -/
theorem idx_eq {n0 n1 : ℕ} (i : (⟨2, ![n0, n1]⟩ : Shape).Idx) : i = ix2 (i 0) (i 1) := by
  funext a
  match a with
  | ⟨0, _⟩ => rfl
  | ⟨1, _⟩ => rfl

/-- Every index of an array of three axes is its three coordinates. -/
theorem idx3_eq {n0 n1 n2 : ℕ} (i : (⟨3, ![n0, n1, n2]⟩ : Shape).Idx) : i = ix3 (i 0) (i 1) (i 2) := by
  funext a
  match a with
  | ⟨0, _⟩ => rfl
  | ⟨1, _⟩ => rfl
  | ⟨2, _⟩ => rfl

/-- Every index of an array of four axes is its four coordinates. -/
theorem idx4_eq {n0 n1 n2 n3 : ℕ} (i : (⟨4, ![n0, n1, n2, n3]⟩ : Shape).Idx) : i = ix4 (i 0) (i 1) (i 2) (i 3) := by
  funext a
  match a with
  | ⟨0, _⟩ => rfl
  | ⟨1, _⟩ => rfl
  | ⟨2, _⟩ => rfl
  | ⟨3, _⟩ => rfl

/-- The convolution's reference's frame: its run read at the arguments; it declares no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Program 2's reference's frame: its run read at the arguments; it declares no semaphore. -/
theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Program 3's reference's frame: its run read at the arguments; it declares no semaphore. -/
theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Program 4's reference's frame: its run read at the arguments; it declares no semaphore. -/
theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- Program 5's reference's frame: its run read at the arguments; it declares no semaphore. -/
theorem frame_reference5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- Program 6's reference's frame: its run read at the arguments; it declares no semaphore. -/
theorem frame_reference6 : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

/-- Program 7's reference's frame: its run read at the arguments; it declares no semaphore. -/
theorem frame_reference7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- Program 8's reference's frame: its run read at the arguments; it declares no semaphore. -/
theorem frame_reference8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- Program 9's reference's frame: its run read at the arguments; it declares no semaphore. -/
theorem frame_reference9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- Program 10's reference's frame: its run read at the arguments; it declares no semaphore. -/
theorem frame_reference10 : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- Program 11's reference's frame: its run read at the arguments; it declares no semaphore. -/
theorem frame_reference11 : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- Program 12's reference's frame: its run read at the arguments; it declares no semaphore. -/
theorem frame_reference12 : Cert.quiescent_Reference12Ideal := fun m ρ _ =>
  (θ_run Cert.Reference12Ideal.defs _ _).mono (fun r h => ⟨fun c => (h c).2.2,
      Idealize.ShloMosaic.sem_eq_zero_of_no_sems (by decide) r.2⟩)
    (Cert.Reference12Ideal.Value.run (F := Ideal) m ρ)

/-- Program 13's reference's frame: its run read at the arguments; it declares no semaphore. -/
theorem frame_reference13 : Cert.quiescent_Reference13Ideal := fun m ρ _ =>
  (θ_run Cert.Reference13Ideal.defs _ _).mono (fun r h => ⟨fun c => (h c).2.2,
      Idealize.ShloMosaic.sem_eq_zero_of_no_sems (by decide) r.2⟩)
    (Cert.Reference13Ideal.Value.run (F := Ideal) m ρ)

/-- Program 14's reference's frame: its run read at the arguments; it declares no semaphore. -/
theorem frame_reference14 : Cert.quiescent_Reference14Ideal := fun m ρ _ =>
  (θ_run Cert.Reference14Ideal.defs _ _).mono (fun r h => ⟨fun c => (h c).2.2.2,
      Idealize.ShloMosaic.sem_eq_zero_of_no_sems (by decide) r.2⟩)
    (Cert.Reference14Ideal.Value.run (F := Ideal) m ρ)

/-- Program 15's reference's frame: its run read at the arguments; it declares no semaphore. -/
theorem frame_reference15 : Cert.quiescent_Reference15Ideal := fun m ρ _ =>
  (θ_run Cert.Reference15Ideal.defs _ _).mono (fun r h => ⟨fun c => (h c).2.2.2,
      Idealize.ShloMosaic.sem_eq_zero_of_no_sems (by decide) r.2⟩)
    (Cert.Reference15Ideal.Value.run (F := Ideal) m ρ)

/-- Program 16's reference's frame: its run read at the arguments; it declares no semaphore. -/
theorem frame_reference16 : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

/-- Program 17's reference's frame: its run read at the arguments; it declares no semaphore. -/
theorem frame_reference17 : Cert.quiescent_Reference17Ideal := fun m ρ _ =>
  (θ_run Cert.Reference17Ideal.defs _ _).mono (fun r h => ⟨fun c => (h c).2.2.2.2.2.2.2,
      Idealize.ShloMosaic.sem_eq_zero_of_no_sems (by decide) r.2⟩)
    (Cert.Reference17Ideal.Value.run (F := Ideal) m ρ)

/-- Program 18's reference's frame: its run read at the arguments; it declares no semaphore. -/
theorem frame_reference18 : Cert.quiescent_Reference18Ideal := fun m ρ _ =>
  (θ_run Cert.Reference18Ideal.defs _ _).mono (fun r h => ⟨fun c => (h c).2.2,
      Idealize.ShloMosaic.sem_eq_zero_of_no_sems (by decide) r.2⟩)
    (Cert.Reference18Ideal.Value.run (F := Ideal) m ρ)

/-- Program 19's reference's frame: its run read at the arguments; it declares no semaphore. -/
theorem frame_reference19 : Cert.quiescent_Reference19Ideal := fun m ρ _ =>
  (θ_run Cert.Reference19Ideal.defs _ _).mono (fun r h => ⟨fun c => (h c).2,
      Idealize.ShloMosaic.sem_eq_zero_of_no_sems (by decide) r.2⟩)
    (Cert.Reference19Ideal.Value.run (F := Ideal) m ρ)

/-- Program 20's reference's frame: its run read at the arguments; it declares no semaphore. -/
theorem frame_reference20 : Cert.quiescent_Reference20Ideal := fun m ρ _ =>
  (θ_run Cert.Reference20Ideal.defs _ _).mono (fun r h => ⟨fun c => (h c).2.2.2.2,
      Idealize.ShloMosaic.sem_eq_zero_of_no_sems (by decide) r.2⟩)
    (Cert.Reference20Ideal.Value.run (F := Ideal) m ρ)

/-- Program 21's reference's frame: its run read at the arguments; it declares no semaphore. -/
theorem frame_reference21 : Cert.quiescent_Reference21Ideal := fun m ρ _ =>
  (θ_run Cert.Reference21Ideal.defs _ _).mono (fun r h => ⟨fun c => (h c).2.2.2.2,
      Idealize.ShloMosaic.sem_eq_zero_of_no_sems (by decide) r.2⟩)
    (Cert.Reference21Ideal.Value.run (F := Ideal) m ρ)

/-- Program 22's reference's frame: its run read at the arguments; it declares no semaphore. -/
theorem frame_reference22 : Cert.quiescent_Reference22Ideal := fun m ρ _ =>
  (θ_run Cert.Reference22Ideal.defs _ _).mono (fun r h => ⟨fun c => (h c).2.2.2.2,
      Idealize.ShloMosaic.sem_eq_zero_of_no_sems (by decide) r.2⟩)
    (Cert.Reference22Ideal.Value.run (F := Ideal) m ρ)

/-- Program 23's reference's frame: its run read at the arguments; it declares no semaphore. -/
theorem frame_reference23 : Cert.quiescent_Reference23Ideal := fun m ρ _ =>
  (θ_run Cert.Reference23Ideal.defs _ _).mono (fun r h => ⟨fun c => (h c).2.2.2.2,
      Idealize.ShloMosaic.sem_eq_zero_of_no_sems (by decide) r.2⟩)
    (Cert.Reference23Ideal.Value.run (F := Ideal) m ρ)

/-- Program 24's reference's frame: its run read at the arguments; it declares no semaphore. -/
theorem frame_reference24 : Cert.quiescent_Reference24Ideal := fun m ρ _ =>
  (θ_run Cert.Reference24Ideal.defs _ _).mono (fun r h => ⟨fun c => (h c).2.2.2.2,
      Idealize.ShloMosaic.sem_eq_zero_of_no_sems (by decide) r.2⟩)
    (Cert.Reference24Ideal.Value.run (F := Ideal) m ρ)

/-- Program 25's reference's frame: its run read at the arguments; it declares no semaphore. -/
theorem frame_reference25 : Cert.quiescent_Reference25Ideal := fun m ρ _ =>
  (θ_run Cert.Reference25Ideal.defs _ _).mono (fun r h => ⟨fun c => (h c).2.2.2.2,
      Idealize.ShloMosaic.sem_eq_zero_of_no_sems (by decide) r.2⟩)
    (Cert.Reference25Ideal.Value.run (F := Ideal) m ρ)

/-- Program 26's reference's frame: its run read at the arguments; it declares no semaphore. -/
theorem frame_reference26 : Cert.quiescent_Reference26Ideal := fun m ρ _ =>
  (θ_run Cert.Reference26Ideal.defs _ _).mono (fun r h => ⟨fun c => (h c).2.2.2.2,
      Idealize.ShloMosaic.sem_eq_zero_of_no_sems (by decide) r.2⟩)
    (Cert.Reference26Ideal.Value.run (F := Ideal) m ρ)

/-- The convolution: both programs end with the same gradients of `h` and of the filter. -/
theorem value : Cert.algebraic_KernelIdeal_ReferenceIdeal := by
  intro m ρ m' ρ' _ hagree
  refine ⟨Cert.KernelIdeal.Conv.resultDh m, Cert.KernelIdeal.Conv.resultDw m, Cert.KernelIdeal.Conv.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v75_eq, (hagree c).1, (hagree c).2.1, (hagree c).2.2.1, (hagree c).2.2.2]
    funext i
    rw [idx_eq (n0 := 16384) (n1 := 2048) i]
    exact Cert.ReferenceIdeal.Conv.dh_ref _ _ _ _ (i 0) (i 1)
  · rw [Cert.ReferenceIdeal.Read.val_main_v78_eq, (hagree c).1, (hagree c).2.1]
    funext i
    rw [idx_eq (n0 := 8) (n1 := 512) i]
    exact Cert.ReferenceIdeal.Conv.dw_ref _ _ (i 0) (i 1)

/-- The up projection's weight gradient. -/
theorem value2 : Cert.algebraic_Kernel2Ideal_Reference2Ideal := by
  intro m ρ m' ρ' _ hagree
  refine ⟨Cert.Kernel2Ideal.Prod.result m, Cert.Kernel2Ideal.Prod.run m ρ, ?_⟩
  refine (θ_run Cert.Reference2Ideal.defs _ _).mono (fun r h c => ⟨(h c).1.trans ?_, (h c).2⟩)
    (Cert.Reference2Ideal.Value.run (F := Ideal) m' ρ')
  · rw [Cert.Reference2Ideal.Read.val_main_v5_eq]
    rw [(hagree c).1, (hagree c).2.2]
    funext i
    rw [idx3_eq (n0 := 8) (n1 := 1024) (n2 := 704) i]
    refine Eq.trans (Cert.Reference2Ideal.Prod.read _ _ (i 0) (i 1) (i 2) ⟨704 * (i 0 : ℕ) + (i 2 : ℕ), by have h0 : (i 0 : ℕ) < 8 := (i 0).isLt; have h2 : (i 2 : ℕ) < 704 := (i 2).isLt; omega⟩ rfl) ?_
    unfold Cert.Kernel2Ideal.Prod.result Cert.Kernel2Ideal.Prod.entry
    rfl

/-- The down projection's weight gradient. -/
theorem value3 : Cert.algebraic_Kernel3Ideal_Reference3Ideal := by
  intro m ρ m' ρ' _ hagree
  refine ⟨Cert.Kernel3Ideal.Prod.result m, Cert.Kernel3Ideal.Prod.run m ρ, ?_⟩
  refine (θ_run Cert.Reference3Ideal.defs _ _).mono (fun r h c => ⟨(h c).1.trans ?_, (h c).2⟩)
    (Cert.Reference3Ideal.Value.run (F := Ideal) m' ρ')
  · rw [Cert.Reference3Ideal.Read.val_main_v4_eq]
    rw [(hagree c).1, (hagree c).2.2]
    funext i
    rw [idx3_eq (n0 := 4) (n1 := 704) (n2 := 1024) i]
    refine Eq.trans (Cert.Reference3Ideal.Prod.read _ _ (i 0) (i 1) (i 2) ⟨704 * (i 0 : ℕ) + (i 1 : ℕ), by have h0 : (i 0 : ℕ) < 4 := (i 0).isLt; have h1 : (i 1 : ℕ) < 704 := (i 1).isLt; omega⟩ rfl) ?_
    unfold Cert.Kernel3Ideal.Prod.result Cert.Kernel3Ideal.Prod.entry
    rfl

/-- The input projection's weight gradient. -/
theorem value4 : Cert.algebraic_Kernel4Ideal_Reference4Ideal := by
  intro m ρ m' ρ' _ hagree
  refine ⟨Cert.Kernel4Ideal.Prod.result m, Cert.Kernel4Ideal.Prod.run m ρ, ?_⟩
  refine (θ_run Cert.Reference4Ideal.defs _ _).mono (fun r h c => ⟨(h c).1.trans ?_, (h c).2⟩)
    (Cert.Reference4Ideal.Value.run (F := Ideal) m' ρ')
  · rw [Cert.Reference4Ideal.Read.val_main_v5_eq]
    rw [(hagree c).1, (hagree c).2.2]
    funext i
    rw [idx3_eq (n0 := 8) (n1 := 1024) (n2 := 256) i]
    refine Eq.trans (Cert.Reference4Ideal.Prod.read _ _ (i 0) (i 1) (i 2) ⟨256 * (i 0 : ℕ) + (i 2 : ℕ), by have h0 : (i 0 : ℕ) < 8 := (i 0).isLt; have h2 : (i 2 : ℕ) < 256 := (i 2).isLt; omega⟩ rfl) ?_
    unfold Cert.Kernel4Ideal.Prod.result Cert.Kernel4Ideal.Prod.entry
    rfl

/-- The gradient of the input projection's input. -/
theorem value5 : Cert.algebraic_Kernel5Ideal_Reference5Ideal := by
  intro m ρ m' ρ' _ hagree
  refine ⟨Cert.Kernel5Ideal.Prod.result m, Cert.Kernel5Ideal.Prod.run m ρ, ?_⟩
  refine (θ_run Cert.Reference5Ideal.defs _ _).mono (fun r h c => ⟨(h c).1.trans ?_, (h c).2⟩)
    (Cert.Reference5Ideal.Value.run (F := Ideal) m' ρ')
  · rw [Cert.Reference5Ideal.Read.val_main_v6_eq]
    rw [(hagree c).2.1, (hagree c).2.2.1, (hagree c).2.2.2]
    funext i
    rw [idx_eq (n0 := 16384) (n1 := 1024) i]
    refine Eq.trans ((Cert.Reference5Ideal.Prod.read _ _ _ (i 0) (i 1)).trans (add_comm _ _)) ?_
    unfold Cert.Kernel5Ideal.Prod.result Cert.Kernel5Ideal.Prod.entry
    rfl

/-- The gradients of the output projection's inputs. -/
theorem value6 : Cert.algebraic_Kernel6Ideal_Reference6Ideal := by
  intro m ρ m' ρ' _ hagree
  refine ⟨Cert.Kernel6Ideal.Prod.result_2 m, Cert.Kernel6Ideal.Prod.result_3 m, Cert.Kernel6Ideal.Prod.run m ρ, ?_⟩
  refine (θ_run Cert.Reference6Ideal.defs _ _).mono (fun r h c => ⟨(h c).1.trans ?_, (h c).2.1.trans ?_, (h c).2.2⟩)
    (Cert.Reference6Ideal.Value.run (F := Ideal) m' ρ')
  · rw [Cert.Reference6Ideal.Read.val_main_v3_eq]
    rw [(hagree c).2.2.1, (hagree c).2.2.2]
    funext i
    rw [idx_eq (n0 := 16384) (n1 := 512) i]
    refine Eq.trans (Cert.Reference6Ideal.Prod.read3 _ _ (i 0) (i 1) ⟨0 + (i 1 : ℕ), by have h1 : (i 1 : ℕ) < 512 := (i 1).isLt; omega⟩ rfl) ?_
    unfold Cert.Kernel6Ideal.Prod.result_2 Cert.Kernel6Ideal.Prod.entry_2
    rfl
  · rw [Cert.Reference6Ideal.Read.val_main_v4_eq]
    rw [(hagree c).2.2.1, (hagree c).2.2.2]
    funext i
    rw [idx_eq (n0 := 16384) (n1 := 512) i]
    refine Eq.trans (Cert.Reference6Ideal.Prod.read4 _ _ (i 0) (i 1) ⟨512 + (i 1 : ℕ), by have h1 : (i 1 : ℕ) < 512 := (i 1).isLt; omega⟩ rfl) ?_
    unfold Cert.Kernel6Ideal.Prod.result_3 Cert.Kernel6Ideal.Prod.entry_3
    rfl

/-- The output projection's weight gradient, one half. -/
theorem value7 : Cert.algebraic_Kernel7Ideal_Reference7Ideal := by
  intro m ρ m' ρ' _ hagree
  refine ⟨Cert.Kernel7Ideal.Prod.result m, Cert.Kernel7Ideal.Prod.run m ρ, ?_⟩
  refine (θ_run Cert.Reference7Ideal.defs _ _).mono (fun r h c => ⟨(h c).1.trans ?_, (h c).2⟩)
    (Cert.Reference7Ideal.Value.run (F := Ideal) m' ρ')
  · rw [Cert.Reference7Ideal.Read.val_main_v3_eq]
    rw [(hagree c).1, (hagree c).2.2]
    funext i
    rw [idx_eq (n0 := 512) (n1 := 1024) i]
    refine Eq.trans (Cert.Reference7Ideal.Prod.read _ _ (i 0) (i 1)) ?_
    unfold Cert.Kernel7Ideal.Prod.result Cert.Kernel7Ideal.Prod.entry
    rfl

/-- The per-layer embedding's gate's weight gradient. -/
theorem value8 : Cert.algebraic_Kernel8Ideal_Reference8Ideal := by
  intro m ρ m' ρ' _ hagree
  refine ⟨Cert.Kernel8Ideal.Prod.result m, Cert.Kernel8Ideal.Prod.run m ρ, ?_⟩
  refine (θ_run Cert.Reference8Ideal.defs _ _).mono (fun r h c => ⟨(h c).1.trans ?_, (h c).2⟩)
    (Cert.Reference8Ideal.Value.run (F := Ideal) m' ρ')
  · rw [Cert.Reference8Ideal.Read.val_main_v3_eq]
    rw [(hagree c).1, (hagree c).2.2]
    funext i
    rw [idx_eq (n0 := 1024) (n1 := 1024) i]
    refine Eq.trans (Cert.Reference8Ideal.Prod.read _ _ (i 0) (i 1)) ?_
    unfold Cert.Kernel8Ideal.Prod.result Cert.Kernel8Ideal.Prod.entry
    rfl

/-- The per-layer embedding's projection's weight gradient. -/
theorem value9 : Cert.algebraic_Kernel9Ideal_Reference9Ideal := by
  intro m ρ m' ρ' _ hagree
  refine ⟨Cert.Kernel9Ideal.Prod.result m, Cert.Kernel9Ideal.Prod.run m ρ, ?_⟩
  refine (θ_run Cert.Reference9Ideal.defs _ _).mono (fun r h c => ⟨(h c).1.trans ?_, (h c).2⟩)
    (Cert.Reference9Ideal.Value.run (F := Ideal) m' ρ')
  · rw [Cert.Reference9Ideal.Read.val_main_v5_eq]
    rw [(hagree c).1, (hagree c).2.2]
    funext i
    rw [idx_eq (n0 := 256) (n1 := 1024) i]
    refine Eq.trans (Cert.Reference9Ideal.Prod.read _ _ (i 0) (i 1)) ?_
    unfold Cert.Kernel9Ideal.Prod.result Cert.Kernel9Ideal.Prod.entry
    rfl

/-- The gated unit's weight gradient. -/
theorem value10 : Cert.algebraic_Kernel10Ideal_Reference10Ideal := by
  intro m ρ m' ρ' _ hagree
  refine ⟨Cert.Kernel10Ideal.Prod.result m, Cert.Kernel10Ideal.Prod.run m ρ, ?_⟩
  refine (θ_run Cert.Reference10Ideal.defs _ _).mono (fun r h c => ⟨(h c).1.trans ?_, (h c).2⟩)
    (Cert.Reference10Ideal.Value.run (F := Ideal) m' ρ')
  · rw [Cert.Reference10Ideal.Read.val_main_v3_eq]
    rw [(hagree c).1, (hagree c).2.2]
    funext i
    rw [idx_eq (n0 := 512) (n1 := 512) i]
    refine Eq.trans (Cert.Reference10Ideal.Prod.read _ _ (i 0) (i 1)) ?_
    unfold Cert.Kernel10Ideal.Prod.result Cert.Kernel10Ideal.Prod.entry
    rfl

/-- The input projection. -/
theorem value11 : Cert.algebraic_Kernel11Ideal_Reference11Ideal := by
  intro m ρ m' ρ' _ hagree
  refine ⟨Cert.Kernel11Ideal.Prod.result m, Cert.Kernel11Ideal.Prod.run m ρ, ?_⟩
  refine (θ_run Cert.Reference11Ideal.defs _ _).mono (fun r h c => ⟨(h c).1.trans ?_, (h c).2⟩)
    (Cert.Reference11Ideal.Value.run (F := Ideal) m' ρ')
  · rw [Cert.Reference11Ideal.Read.val_main_v0_eq]
    rw [(hagree c).1, (hagree c).2]
    funext i
    rw [idx_eq (n0 := 16384) (n1 := 2048) i]
    refine Eq.trans (Cert.Reference11Ideal.Prod.read _ _ (i 0) (i 1)) ?_
    unfold Cert.Kernel11Ideal.Prod.result Cert.Kernel11Ideal.Prod.entry
    rfl

/-- The up projection and its gate. -/
theorem value12 : Cert.algebraic_Kernel12Ideal_Reference12Ideal := by
  intro m ρ m' ρ' _ hagree
  refine ⟨Cert.Kernel12Ideal.Prod.result_2 m, Cert.Kernel12Ideal.Prod.result_3 m, Cert.Kernel12Ideal.Prod.run m ρ, ?_⟩
  refine (θ_run Cert.Reference12Ideal.defs _ _).mono (fun r h c => ⟨(h c).1.trans ?_, (h c).2.1.trans ?_, (h c).2.2⟩)
    (Cert.Reference12Ideal.Value.run (F := Ideal) m' ρ')
  · rw [Cert.Reference12Ideal.Read.val_main_v10_eq]
    rw [(hagree c).1, (hagree c).2]
    funext i
    rw [idx4_eq (n0 := 2) (n1 := 4) (n2 := 16384) (n3 := 704) i]
    refine Eq.trans (Cert.Reference12Ideal.Prod.read10 _ _ (i 0) (i 1) (i 2) (i 3) ⟨704 * (4 * (i 0 : ℕ) + (i 1 : ℕ)) + (i 3 : ℕ), by have h0 : (i 0 : ℕ) < 2 := (i 0).isLt; have h1 : (i 1 : ℕ) < 4 := (i 1).isLt; have h3 : (i 3 : ℕ) < 704 := (i 3).isLt; omega⟩ rfl) ?_
    unfold Cert.Kernel12Ideal.Prod.result_2 Cert.Kernel12Ideal.Prod.entry_2
    rfl
  · rw [Cert.Reference12Ideal.Read.val_main_v13_eq]
    rw [(hagree c).1, (hagree c).2]
    funext i
    rw [idx3_eq (n0 := 4) (n1 := 16384) (n2 := 704) i]
    refine Eq.trans (Cert.Reference12Ideal.Prod.read13 _ _ (i 0) (i 1) (i 2) ⟨704 * (i 0 : ℕ) + (i 2 : ℕ), by have h0 : (i 0 : ℕ) < 4 := (i 0).isLt; have h2 : (i 2 : ℕ) < 704 := (i 2).isLt; omega⟩ rfl ⟨2816 + (704 * (i 0 : ℕ) + (i 2 : ℕ)), by have h0 : (i 0 : ℕ) < 4 := (i 0).isLt; have h2 : (i 2 : ℕ) < 704 := (i 2).isLt; omega⟩ rfl) ?_
    unfold Cert.Kernel12Ideal.Prod.result_3 Cert.Kernel12Ideal.Prod.entry_3
    rfl

/-- The per-layer embedding. -/
theorem value13 : Cert.algebraic_Kernel13Ideal_Reference13Ideal := by
  intro m ρ m' ρ' _ hagree
  refine ⟨Cert.Kernel13Ideal.Prod.result_8 m, Cert.Kernel13Ideal.Prod.result_9 m, Cert.Kernel13Ideal.Prod.run m ρ, ?_⟩
  refine (θ_run Cert.Reference13Ideal.defs _ _).mono (fun r h c => ⟨(h c).1.trans ?_, (h c).2.1.trans ?_, (h c).2.2⟩)
    (Cert.Reference13Ideal.Value.run (F := Ideal) m' ρ')
  · rw [Cert.Reference13Ideal.Read.val_main_v28_eq]
    rw [(hagree c).1, (hagree c).2.1, (hagree c).2.2.1, (hagree c).2.2.2.1, (hagree c).2.2.2.2.1, (hagree c).2.2.2.2.2.1, (hagree c).2.2.2.2.2.2]
    funext i
    rw [idx_eq (n0 := 16384) (n1 := 1024) i]
    refine Eq.trans (Cert.Reference13Ideal.Prod.read28 _ _ _ _ _ _ _ (i 0) (i 1)) ?_
    unfold Cert.Kernel13Ideal.Prod.result_8 Cert.Kernel13Ideal.Prod.entry_8
    rfl
  · rw [Cert.Reference13Ideal.Read.val_main_v29_eq]
    rw [(hagree c).1, (hagree c).2.1, (hagree c).2.2.1, (hagree c).2.2.2.1, (hagree c).2.2.2.2.1, (hagree c).2.2.2.2.2.1, (hagree c).2.2.2.2.2.2]
    funext i
    rw [idx_eq (n0 := 16384) (n1 := 1024) i]
    refine Eq.trans (Cert.Reference13Ideal.Prod.read29 _ _ _ _ _ _ _ (i 0) (i 1)) ?_
    unfold Cert.Kernel13Ideal.Prod.result_9 Cert.Kernel13Ideal.Prod.entry_9
    rfl

/-- The output projection and the normalisation after it. -/
theorem value14 : Cert.algebraic_Kernel14Ideal_Reference14Ideal := by
  intro m ρ m' ρ' _ hagree
  refine ⟨Cert.Kernel14Ideal.Prod.result_6 m, Cert.Kernel14Ideal.Prod.result_7 m, Cert.Kernel14Ideal.Prod.result_8 m, Cert.Kernel14Ideal.Prod.run m ρ, ?_⟩
  refine (θ_run Cert.Reference14Ideal.defs _ _).mono (fun r h c => ⟨(h c).1.trans ?_, (h c).2.1.trans ?_, (h c).2.2.1.trans ?_, (h c).2.2.2⟩)
    (Cert.Reference14Ideal.Value.run (F := Ideal) m' ρ')
  · rw [Cert.Reference14Ideal.Read.val_main_v26_eq]
    rw [(hagree c).1, (hagree c).2.1, (hagree c).2.2.1, (hagree c).2.2.2.1]
    funext i
    rw [idx_eq (n0 := 16384) (n1 := 1024) i]
    refine Eq.trans (Cert.Reference14Ideal.Prod.xhat_eq _ _ _ _ (i 0) (i 1)) ?_
    unfold Cert.Kernel14Ideal.Prod.result_6 Cert.Kernel14Ideal.Prod.entry_6
    rfl
  · rw [Cert.Reference14Ideal.Read.val_main_v22_eq]
    rw [(hagree c).1, (hagree c).2.1, (hagree c).2.2.1, (hagree c).2.2.2.1]
    funext i
    rw [idx_eq (n0 := 16384) (n1 := 1) i]
    refine Eq.trans (Cert.Reference14Ideal.Prod.rstd_eq _ _ _ _ (i 0) (i 1)) ?_
    unfold Cert.Kernel14Ideal.Prod.result_7 Cert.Kernel14Ideal.Prod.entry_7
    rfl
  · rw [Cert.Reference14Ideal.Read.val_main_v33_eq]
    rw [(hagree c).1, (hagree c).2.1, (hagree c).2.2.1, (hagree c).2.2.2.1, (hagree c).2.2.2.2.1, (hagree c).2.2.2.2.2]
    funext i
    rw [idx_eq (n0 := 16384) (n1 := 1024) i]
    refine Eq.trans (Cert.Reference14Ideal.Prod.out_eq _ _ _ _ _ _ (i 0) (i 1)) ?_
    unfold Cert.Kernel14Ideal.Prod.result_8 Cert.Kernel14Ideal.Prod.entry_8
    rfl

/-- The down projection and the normalisation after it. -/
theorem value15 : Cert.algebraic_Kernel15Ideal_Reference15Ideal := by
  intro m ρ m' ρ' _ hagree
  refine ⟨Cert.Kernel15Ideal.Prod.result_7 m, Cert.Kernel15Ideal.Prod.result_8 m, Cert.Kernel15Ideal.Prod.result_9 m, Cert.Kernel15Ideal.Prod.run m ρ, ?_⟩
  refine (θ_run Cert.Reference15Ideal.defs _ _).mono (fun r h c => ⟨(h c).1.trans ?_, (h c).2.1.trans ?_, (h c).2.2.1.trans ?_, (h c).2.2.2⟩)
    (Cert.Reference15Ideal.Value.run (F := Ideal) m' ρ')
  · rw [Cert.Reference15Ideal.Read.val_main_v35_eq]
    rw [(hagree c).1, (hagree c).2.1, (hagree c).2.2.1, (hagree c).2.2.2.1, (hagree c).2.2.2.2.1]
    funext i
    rw [idx_eq (n0 := 16384) (n1 := 1024) i]
    refine Eq.trans (Cert.Reference15Ideal.Prod.xhat_eq _ _ _ _ _ (i 0) (i 1)) ?_
    unfold Cert.Kernel15Ideal.Prod.result_7 Cert.Kernel15Ideal.Prod.entry_7
    rfl
  · rw [Cert.Reference15Ideal.Read.val_main_v31_eq]
    rw [(hagree c).1, (hagree c).2.1, (hagree c).2.2.1, (hagree c).2.2.2.1, (hagree c).2.2.2.2.1]
    funext i
    rw [idx_eq (n0 := 16384) (n1 := 1) i]
    refine Eq.trans (Cert.Reference15Ideal.Prod.rstd_eq _ _ _ _ _ (i 0) (i 1)) ?_
    unfold Cert.Kernel15Ideal.Prod.result_8 Cert.Kernel15Ideal.Prod.entry_8
    rfl
  · rw [Cert.Reference15Ideal.Read.val_main_v42_eq]
    rw [(hagree c).1, (hagree c).2.1, (hagree c).2.2.1, (hagree c).2.2.2.1, (hagree c).2.2.2.2.1, (hagree c).2.2.2.2.2.1, (hagree c).2.2.2.2.2.2]
    funext i
    rw [idx_eq (n0 := 16384) (n1 := 1024) i]
    refine Eq.trans (Cert.Reference15Ideal.Prod.out_eq _ _ _ _ _ _ _ (i 0) (i 1)) ?_
    unfold Cert.Kernel15Ideal.Prod.result_9 Cert.Kernel15Ideal.Prod.entry_9
    rfl

/-- The gradient of the up projection's two halves. -/
theorem value16 : Cert.algebraic_Kernel16Ideal_Reference16Ideal := by
  intro m ρ m' ρ' _ hagree
  refine ⟨Cert.Kernel16Ideal.Prod.result m, Cert.Kernel16Ideal.Prod.run m ρ, ?_⟩
  refine (θ_run Cert.Reference16Ideal.defs _ _).mono (fun r h c => ⟨(h c).1.trans ?_, (h c).2⟩)
    (Cert.Reference16Ideal.Value.run (F := Ideal) m' ρ')
  · rw [Cert.Reference16Ideal.Read.val_main_v16_eq]
    rw [(hagree c).1, (hagree c).2.1, (hagree c).2.2]
    funext i
    rw [idx4_eq (n0 := 2) (n1 := 4) (n2 := 16384) (n3 := 704) i]
    refine Eq.trans (Cert.Reference16Ideal.Prod.read16 _ _ _ (i 0) (i 1) (i 2) (i 3) ⟨704 * (i 1 : ℕ) + (i 3 : ℕ), by have h1 : (i 1 : ℕ) < 4 := (i 1).isLt; have h3 : (i 3 : ℕ) < 704 := (i 3).isLt; omega⟩ rfl ⟨704 * (i 1 : ℕ) + (i 3 : ℕ), by have h1 : (i 1 : ℕ) < 4 := (i 1).isLt; have h3 : (i 3 : ℕ) < 704 := (i 3).isLt; omega⟩ ⟨2816 + (704 * (i 1 : ℕ) + (i 3 : ℕ)), by have h1 : (i 1 : ℕ) < 4 := (i 1).isLt; have h3 : (i 3 : ℕ) < 704 := (i 3).isLt; omega⟩ rfl rfl) ?_
    unfold Cert.Kernel16Ideal.Prod.result Cert.Kernel16Ideal.Prod.entry
    rfl

/-- The gradient of the per-layer embedding. -/
theorem value17 : Cert.algebraic_Kernel17Ideal_Reference17Ideal := by
  intro m ρ m' ρ' _ hagree
  refine ⟨Cert.Kernel17Ideal.Prod.result_9 m, Cert.Kernel17Ideal.Prod.result_10 m, Cert.Kernel17Ideal.Prod.result_11 m, Cert.Kernel17Ideal.Prod.result_12 m, Cert.Kernel17Ideal.Prod.result_13 m, Cert.Kernel17Ideal.Prod.result_14 m, Cert.Kernel17Ideal.Prod.result_15 m, Cert.Kernel17Ideal.Prod.run m ρ, ?_⟩
  refine (θ_run Cert.Reference17Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
    (Cert.Reference17Ideal.Value.run (F := Ideal) m' ρ')
  · rw [Cert.Reference17Ideal.Read.val_main_v66_eq]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    funext i
    rw [idx_eq (n0 := 16384) (n1 := 1024) i]
    refine Eq.trans (Cert.Reference17Ideal.Prod.read66 _ _ _ _ _ _ _ _ _ (i 0) (i 1)) ?_
    unfold Cert.Kernel17Ideal.Prod.result_9 Cert.Kernel17Ideal.Prod.entry_9
    rfl
  · rw [Cert.Reference17Ideal.Read.val_main_v67_eq]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    funext i
    rw [idx_eq (n0 := 16384) (n1 := 1024) i]
    refine Eq.trans (Cert.Reference17Ideal.Prod.read67 _ _ _ _ _ _ _ _ _ (i 0) (i 1)) ?_
    unfold Cert.Kernel17Ideal.Prod.result_10 Cert.Kernel17Ideal.Prod.entry_10
    rfl
  · refine (Cert.Reference17Ideal.Read.val_main_v68_eq ..).trans ?_
    rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2]
    funext i
    rw [idx_eq (n0 := 16384) (n1 := 1024) i]
    refine Eq.trans (Cert.Reference17Ideal.Prod.read68 _ _ _ _ _ _ _ _ (i 0) (i 1)) ?_
    unfold Cert.Kernel17Ideal.Prod.result_11 Cert.Kernel17Ideal.Prod.entry_11
    rfl
  · refine (Cert.Reference17Ideal.Read.val_main_v69_eq ..).trans ?_
    rw [(hagree c).1, (hagree c).2.1, (hagree c).2.2.2.1, (hagree c).2.2.2.2.1, (hagree c).2.2.2.2.2.2.1, (hagree c).2.2.2.2.2.2.2.1]
    funext i
    rw [idx_eq (n0 := 16384) (n1 := 1024) i]
    refine Eq.trans (Cert.Reference17Ideal.Prod.read69 _ _ _ _ _ _ (i 0) (i 1)) ?_
    unfold Cert.Kernel17Ideal.Prod.result_12 Cert.Kernel17Ideal.Prod.entry_12
    rfl
  · refine (Cert.Reference17Ideal.Read.val_main_v70_eq ..).trans ?_
    rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2]
    funext i
    rw [idx_eq (n0 := 1) (n1 := 1024) i]
    refine Eq.trans (Cert.Reference17Ideal.Prod.read70 _ _ _ _ _ _ _ _ (i 0) (i 1)) ?_
    unfold Cert.Kernel17Ideal.Prod.result_13 Cert.Kernel17Ideal.Prod.entry_13
    rfl
  · refine (Cert.Reference17Ideal.Read.val_main_v71_eq ..).trans ?_
    rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2]
    funext i
    rw [idx_eq (n0 := 1) (n1 := 1024) i]
    refine Eq.trans (Cert.Reference17Ideal.Prod.read71 _ _ _ _ _ _ _ _ (i 0) (i 1)) ?_
    unfold Cert.Kernel17Ideal.Prod.result_14 Cert.Kernel17Ideal.Prod.entry_14
    rfl
  · refine (Cert.Reference17Ideal.Read.val_main_v72_eq ..).trans ?_
    rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2]
    funext i
    rw [idx_eq (n0 := 1) (n1 := 1024) i]
    refine Eq.trans (Cert.Reference17Ideal.Prod.read72 _ _ _ _ _ _ _ _ (i 0) (i 1)) ?_
    unfold Cert.Kernel17Ideal.Prod.result_15 Cert.Kernel17Ideal.Prod.entry_15
    rfl

/-- The gated linear unit. -/
theorem value18 : Cert.algebraic_Kernel18Ideal_Reference18Ideal := by
  intro m ρ m' ρ' _ hagree
  refine ⟨Cert.Kernel18Ideal.Prod.result_3 m, Cert.Kernel18Ideal.Prod.result_4 m, Cert.Kernel18Ideal.Prod.run m ρ, ?_⟩
  refine (θ_run Cert.Reference18Ideal.defs _ _).mono (fun r h c => ⟨(h c).1.trans ?_, (h c).2.1.trans ?_, (h c).2.2⟩)
    (Cert.Reference18Ideal.Value.run (F := Ideal) m' ρ')
  · rw [Cert.Reference18Ideal.Read.val_main_v28_eq]
    rw [(hagree c).1, (hagree c).2.1, (hagree c).2.2]
    funext i
    rw [idx_eq (n0 := 16384) (n1 := 512) i]
    refine Eq.trans (Cert.Reference18Ideal.Prod.read28 _ _ _ (i 0) (i 1)) ?_
    unfold Cert.Kernel18Ideal.Prod.result_3 Cert.Kernel18Ideal.Prod.entry_3
    rfl
  · rw [Cert.Reference18Ideal.Read.val_main_v29_eq]
    rw [(hagree c).1]
    funext i
    rw [idx_eq (n0 := 16384) (n1 := 512) i]
    refine Eq.trans (Cert.Reference18Ideal.Prod.read29 _ (i 0) (i 1)) ?_
    unfold Cert.Kernel18Ideal.Prod.result_4 Cert.Kernel18Ideal.Prod.entry_4
    rfl

/-- The convolution, forward. -/
theorem value19 : Cert.algebraic_Kernel19Ideal_Reference19Ideal := by
  intro m ρ m' ρ' _ hagree
  refine ⟨Cert.Kernel19Ideal.Prod.result m, Cert.Kernel19Ideal.Prod.run m ρ, ?_⟩
  refine (θ_run Cert.Reference19Ideal.defs _ _).mono (fun r h c => ⟨(h c).1.trans ?_, (h c).2⟩)
    (Cert.Reference19Ideal.Value.run (F := Ideal) m' ρ')
  · rw [Cert.Reference19Ideal.Read.val_main_v27_eq]
    rw [(hagree c).1, (hagree c).2]
    funext i
    rw [idx_eq (n0 := 16384) (n1 := 512) i]
    refine Eq.trans (Cert.Reference19Ideal.Prod.read27 _ _ (i 0) (i 1)) ?_
    unfold Cert.Kernel19Ideal.Prod.result Cert.Kernel19Ideal.Prod.entry
    rfl

/-- The optimiser's step. -/
theorem value20 : Cert.algebraic_Kernel20Ideal_Reference20Ideal := by
  intro m ρ m' ρ' _ hagree
  refine ⟨Cert.Kernel20Ideal.Prod.result_4 m, Cert.Kernel20Ideal.Prod.result_5 m, Cert.Kernel20Ideal.Prod.result_6 m, Cert.Kernel20Ideal.Prod.result_7 m, Cert.Kernel20Ideal.Prod.run m ρ, ?_⟩
  refine (θ_run Cert.Reference20Ideal.defs _ _).mono (fun r h c => ⟨(h c).1.trans ?_, (h c).2.1.trans ?_, (h c).2.2.1.trans ?_, (h c).2.2.2.1.trans ?_, (h c).2.2.2.2⟩)
    (Cert.Reference20Ideal.Value.run (F := Ideal) m' ρ')
  · refine (Cert.Reference20Ideal.Read.val_main_v8_eq ..).trans ?_
    rw [(hagree c).1, (hagree c).2.1, (hagree c).2.2.1, (hagree c).2.2.2.1]
    funext i
    rw [idx_eq (n0 := 4096) (n1 := 704) i]
    refine Eq.trans (Cert.Reference20Ideal.Prod.read_grad _ _ _ _ (i 0) (i 1)) ?_
    unfold Cert.Kernel20Ideal.Prod.result_4 Cert.Kernel20Ideal.Prod.entry_4
    rfl
  · rw [Cert.Reference20Ideal.Read.val_main_v35_eq]
    rw [(hagree c).1, (hagree c).2.1, (hagree c).2.2.1, (hagree c).2.2.2.1, (hagree c).2.2.2.2.1, (hagree c).2.2.2.2.2.1, (hagree c).2.2.2.2.2.2]
    funext i
    rw [idx_eq (n0 := 4096) (n1 := 704) i]
    refine Eq.trans (Cert.Reference20Ideal.Prod.read_delta _ _ _ _ _ _ _ (i 0) (i 1)) ?_
    unfold Cert.Kernel20Ideal.Prod.result_5 Cert.Kernel20Ideal.Prod.entry_5
    rfl
  · refine (Cert.Reference20Ideal.Read.val_main_v16_eq ..).trans ?_
    rw [(hagree c).1, (hagree c).2.1, (hagree c).2.2.1, (hagree c).2.2.2.1, (hagree c).2.2.2.2.2.1]
    funext i
    rw [idx_eq (n0 := 4096) (n1 := 704) i]
    refine Eq.trans (Cert.Reference20Ideal.Prod.read_mean _ _ _ _ _ (i 0) (i 1)) ?_
    unfold Cert.Kernel20Ideal.Prod.result_6 Cert.Kernel20Ideal.Prod.entry_6
    rfl
  · refine (Cert.Reference20Ideal.Read.val_main_v22_eq ..).trans ?_
    rw [(hagree c).1, (hagree c).2.1, (hagree c).2.2.1, (hagree c).2.2.2.1, (hagree c).2.2.2.2.2.2]
    funext i
    rw [idx_eq (n0 := 4096) (n1 := 704) i]
    refine Eq.trans (Cert.Reference20Ideal.Prod.read_var _ _ _ _ _ (i 0) (i 1)) ?_
    unfold Cert.Kernel20Ideal.Prod.result_7 Cert.Kernel20Ideal.Prod.entry_7
    rfl

/-- The optimiser's step. -/
theorem value21 : Cert.algebraic_Kernel21Ideal_Reference21Ideal := by
  intro m ρ m' ρ' _ hagree
  refine ⟨Cert.Kernel21Ideal.Prod.result_4 m, Cert.Kernel21Ideal.Prod.result_5 m, Cert.Kernel21Ideal.Prod.result_6 m, Cert.Kernel21Ideal.Prod.result_7 m, Cert.Kernel21Ideal.Prod.run m ρ, ?_⟩
  refine (θ_run Cert.Reference21Ideal.defs _ _).mono (fun r h c => ⟨(h c).1.trans ?_, (h c).2.1.trans ?_, (h c).2.2.1.trans ?_, (h c).2.2.2.1.trans ?_, (h c).2.2.2.2⟩)
    (Cert.Reference21Ideal.Value.run (F := Ideal) m' ρ')
  · refine (Cert.Reference21Ideal.Read.val_main_v4_eq ..).trans ?_
    rw [(hagree c).1, (hagree c).2.1]
    funext i
    rw [idx_eq (n0 := 2048) (n1 := 256) i]
    refine Eq.trans (Cert.Reference21Ideal.Prod.read_grad _ _ (i 0) (i 1)) ?_
    unfold Cert.Kernel21Ideal.Prod.result_4 Cert.Kernel21Ideal.Prod.entry_4
    rfl
  · rw [Cert.Reference21Ideal.Read.val_main_v31_eq]
    rw [(hagree c).1, (hagree c).2.1, (hagree c).2.2.1, (hagree c).2.2.2.1, (hagree c).2.2.2.2]
    funext i
    rw [idx_eq (n0 := 2048) (n1 := 256) i]
    refine Eq.trans (Cert.Reference21Ideal.Prod.read_delta _ _ _ _ _ (i 0) (i 1)) ?_
    unfold Cert.Kernel21Ideal.Prod.result_5 Cert.Kernel21Ideal.Prod.entry_5
    rfl
  · refine (Cert.Reference21Ideal.Read.val_main_v12_eq ..).trans ?_
    rw [(hagree c).1, (hagree c).2.1, (hagree c).2.2.2.1]
    funext i
    rw [idx_eq (n0 := 2048) (n1 := 256) i]
    refine Eq.trans (Cert.Reference21Ideal.Prod.read_mean _ _ _ (i 0) (i 1)) ?_
    unfold Cert.Kernel21Ideal.Prod.result_6 Cert.Kernel21Ideal.Prod.entry_6
    rfl
  · refine (Cert.Reference21Ideal.Read.val_main_v18_eq ..).trans ?_
    rw [(hagree c).1, (hagree c).2.1, (hagree c).2.2.2.2]
    funext i
    rw [idx_eq (n0 := 2048) (n1 := 256) i]
    refine Eq.trans (Cert.Reference21Ideal.Prod.read_var _ _ _ (i 0) (i 1)) ?_
    unfold Cert.Kernel21Ideal.Prod.result_7 Cert.Kernel21Ideal.Prod.entry_7
    rfl

/-- The optimiser's step. -/
theorem value22 : Cert.algebraic_Kernel22Ideal_Reference22Ideal := by
  intro m ρ m' ρ' _ hagree
  refine ⟨Cert.Kernel22Ideal.Prod.result_4 m, Cert.Kernel22Ideal.Prod.result_5 m, Cert.Kernel22Ideal.Prod.result_6 m, Cert.Kernel22Ideal.Prod.result_7 m, Cert.Kernel22Ideal.Prod.run m ρ, ?_⟩
  refine (θ_run Cert.Reference22Ideal.defs _ _).mono (fun r h c => ⟨(h c).1.trans ?_, (h c).2.1.trans ?_, (h c).2.2.1.trans ?_, (h c).2.2.2.1.trans ?_, (h c).2.2.2.2⟩)
    (Cert.Reference22Ideal.Value.run (F := Ideal) m' ρ')
  · refine (Cert.Reference22Ideal.Read.val_main_v4_eq ..).trans ?_
    rw [(hagree c).1, (hagree c).2.1]
    funext i
    rw [idx_eq (n0 := 256) (n1 := 1024) i]
    refine Eq.trans (Cert.Reference22Ideal.Prod.read_grad _ _ (i 0) (i 1)) ?_
    unfold Cert.Kernel22Ideal.Prod.result_4 Cert.Kernel22Ideal.Prod.entry_4
    rfl
  · rw [Cert.Reference22Ideal.Read.val_main_v31_eq]
    rw [(hagree c).1, (hagree c).2.1, (hagree c).2.2.1, (hagree c).2.2.2.1, (hagree c).2.2.2.2]
    funext i
    rw [idx_eq (n0 := 256) (n1 := 1024) i]
    refine Eq.trans (Cert.Reference22Ideal.Prod.read_delta _ _ _ _ _ (i 0) (i 1)) ?_
    unfold Cert.Kernel22Ideal.Prod.result_5 Cert.Kernel22Ideal.Prod.entry_5
    rfl
  · refine (Cert.Reference22Ideal.Read.val_main_v12_eq ..).trans ?_
    rw [(hagree c).1, (hagree c).2.1, (hagree c).2.2.2.1]
    funext i
    rw [idx_eq (n0 := 256) (n1 := 1024) i]
    refine Eq.trans (Cert.Reference22Ideal.Prod.read_mean _ _ _ (i 0) (i 1)) ?_
    unfold Cert.Kernel22Ideal.Prod.result_6 Cert.Kernel22Ideal.Prod.entry_6
    rfl
  · refine (Cert.Reference22Ideal.Read.val_main_v18_eq ..).trans ?_
    rw [(hagree c).1, (hagree c).2.1, (hagree c).2.2.2.2]
    funext i
    rw [idx_eq (n0 := 256) (n1 := 1024) i]
    refine Eq.trans (Cert.Reference22Ideal.Prod.read_var _ _ _ (i 0) (i 1)) ?_
    unfold Cert.Kernel22Ideal.Prod.result_7 Cert.Kernel22Ideal.Prod.entry_7
    rfl

/-- The optimiser's step. -/
theorem value23 : Cert.algebraic_Kernel23Ideal_Reference23Ideal := by
  intro m ρ m' ρ' _ hagree
  refine ⟨Cert.Kernel23Ideal.Prod.result_4 m, Cert.Kernel23Ideal.Prod.result_5 m, Cert.Kernel23Ideal.Prod.result_6 m, Cert.Kernel23Ideal.Prod.result_7 m, Cert.Kernel23Ideal.Prod.run m ρ, ?_⟩
  refine (θ_run Cert.Reference23Ideal.defs _ _).mono (fun r h c => ⟨(h c).1.trans ?_, (h c).2.1.trans ?_, (h c).2.2.1.trans ?_, (h c).2.2.2.1.trans ?_, (h c).2.2.2.2⟩)
    (Cert.Reference23Ideal.Value.run (F := Ideal) m' ρ')
  · refine (Cert.Reference23Ideal.Read.val_main_v12_eq ..).trans ?_
    rw [(hagree c).1, (hagree c).2.1, (hagree c).2.2.1, (hagree c).2.2.2.1]
    funext i
    rw [idx_eq (n0 := 1408) (n1 := 1024) i]
    refine Eq.trans (Cert.Reference23Ideal.Prod.read_grad _ _ _ _ (i 0) (i 1)) ?_
    unfold Cert.Kernel23Ideal.Prod.result_4 Cert.Kernel23Ideal.Prod.entry_4
    rfl
  · rw [Cert.Reference23Ideal.Read.val_main_v39_eq]
    rw [(hagree c).1, (hagree c).2.1, (hagree c).2.2.1, (hagree c).2.2.2.1, (hagree c).2.2.2.2.1, (hagree c).2.2.2.2.2.1, (hagree c).2.2.2.2.2.2]
    funext i
    rw [idx_eq (n0 := 1408) (n1 := 1024) i]
    refine Eq.trans (Cert.Reference23Ideal.Prod.read_delta _ _ _ _ _ _ _ (i 0) (i 1)) ?_
    unfold Cert.Kernel23Ideal.Prod.result_5 Cert.Kernel23Ideal.Prod.entry_5
    rfl
  · refine (Cert.Reference23Ideal.Read.val_main_v20_eq ..).trans ?_
    rw [(hagree c).1, (hagree c).2.1, (hagree c).2.2.1, (hagree c).2.2.2.1, (hagree c).2.2.2.2.2.1]
    funext i
    rw [idx_eq (n0 := 1408) (n1 := 1024) i]
    refine Eq.trans (Cert.Reference23Ideal.Prod.read_mean _ _ _ _ _ (i 0) (i 1)) ?_
    unfold Cert.Kernel23Ideal.Prod.result_6 Cert.Kernel23Ideal.Prod.entry_6
    rfl
  · refine (Cert.Reference23Ideal.Read.val_main_v26_eq ..).trans ?_
    rw [(hagree c).1, (hagree c).2.1, (hagree c).2.2.1, (hagree c).2.2.2.1, (hagree c).2.2.2.2.2.2]
    funext i
    rw [idx_eq (n0 := 1408) (n1 := 1024) i]
    refine Eq.trans (Cert.Reference23Ideal.Prod.read_var _ _ _ _ _ (i 0) (i 1)) ?_
    unfold Cert.Kernel23Ideal.Prod.result_7 Cert.Kernel23Ideal.Prod.entry_7
    rfl

/-- The optimiser's step. -/
theorem value24 : Cert.algebraic_Kernel24Ideal_Reference24Ideal := by
  intro m ρ m' ρ' _ hagree
  refine ⟨Cert.Kernel24Ideal.Prod.result_4 m, Cert.Kernel24Ideal.Prod.result_5 m, Cert.Kernel24Ideal.Prod.result_6 m, Cert.Kernel24Ideal.Prod.result_7 m, Cert.Kernel24Ideal.Prod.run m ρ, ?_⟩
  refine (θ_run Cert.Reference24Ideal.defs _ _).mono (fun r h c => ⟨(h c).1.trans ?_, (h c).2.1.trans ?_, (h c).2.2.1.trans ?_, (h c).2.2.2.1.trans ?_, (h c).2.2.2.2⟩)
    (Cert.Reference24Ideal.Value.run (F := Ideal) m' ρ')
  · refine (Cert.Reference24Ideal.Read.val_main_v12_eq ..).trans ?_
    rw [(hagree c).1, (hagree c).2.1, (hagree c).2.2.1, (hagree c).2.2.2.1]
    funext i
    rw [idx_eq (n0 := 512) (n1 := 1024) i]
    refine Eq.trans (Cert.Reference24Ideal.Prod.read_grad _ _ _ _ (i 0) (i 1)) ?_
    unfold Cert.Kernel24Ideal.Prod.result_4 Cert.Kernel24Ideal.Prod.entry_4
    rfl
  · rw [Cert.Reference24Ideal.Read.val_main_v39_eq]
    rw [(hagree c).1, (hagree c).2.1, (hagree c).2.2.1, (hagree c).2.2.2.1, (hagree c).2.2.2.2.1, (hagree c).2.2.2.2.2.1, (hagree c).2.2.2.2.2.2]
    funext i
    rw [idx_eq (n0 := 512) (n1 := 1024) i]
    refine Eq.trans (Cert.Reference24Ideal.Prod.read_delta _ _ _ _ _ _ _ (i 0) (i 1)) ?_
    unfold Cert.Kernel24Ideal.Prod.result_5 Cert.Kernel24Ideal.Prod.entry_5
    rfl
  · refine (Cert.Reference24Ideal.Read.val_main_v20_eq ..).trans ?_
    rw [(hagree c).1, (hagree c).2.1, (hagree c).2.2.1, (hagree c).2.2.2.1, (hagree c).2.2.2.2.2.1]
    funext i
    rw [idx_eq (n0 := 512) (n1 := 1024) i]
    refine Eq.trans (Cert.Reference24Ideal.Prod.read_mean _ _ _ _ _ (i 0) (i 1)) ?_
    unfold Cert.Kernel24Ideal.Prod.result_6 Cert.Kernel24Ideal.Prod.entry_6
    rfl
  · refine (Cert.Reference24Ideal.Read.val_main_v26_eq ..).trans ?_
    rw [(hagree c).1, (hagree c).2.1, (hagree c).2.2.1, (hagree c).2.2.2.1, (hagree c).2.2.2.2.2.2]
    funext i
    rw [idx_eq (n0 := 512) (n1 := 1024) i]
    refine Eq.trans (Cert.Reference24Ideal.Prod.read_var _ _ _ _ _ (i 0) (i 1)) ?_
    unfold Cert.Kernel24Ideal.Prod.result_7 Cert.Kernel24Ideal.Prod.entry_7
    rfl

open Cert.Kernel25Ideal in
/-- The optimiser's step of the packed sharded weights. -/
theorem value25 : Cert.algebraic_Kernel25Ideal_Reference25Ideal := by
  intro m ρ m' ρ' _ hagree
  refine ⟨Prod.result_4 m, Prod.result_5 m, Prod.result_6 m, Prod.result_7 m, (θ_run defs _ _).mono (fun r h c => ⟨(h c).1.trans (Prod.final_4_eq m c), (h c).2.1.trans (Prod.final_5_eq m c),
    (h c).2.2.1.trans (Prod.final_6_eq m c), (h c).2.2.2.1.trans (Prod.final_7_eq m c), (h c).2.2.2.2⟩) (Value.run_blocks m ρ), ?_⟩
  refine (θ_run Cert.Reference25Ideal.defs _ _).mono (fun r h c => ?_) (Cert.Reference25Ideal.Value.run (F := Ideal) m' ρ')
  obtain ⟨h0, h1, h2, h3, h4, h5, h6, h7, h8, h9, h10, h11, h12⟩ := hagree c
  refine ⟨(h c).1.trans ?_, (h c).2.1.trans ?_, (h c).2.2.1.trans ?_, (h c).2.2.2.1.trans ?_, (h c).2.2.2.2⟩
  · refine (Cert.Reference25Ideal.Read.val_main_v1_eq ..).trans ?_
    rw [h0]
    funext i
    rw [idx_eq (n0 := 256) (n1 := 1024) i]
    exact Cert.Reference25Ideal.Prod.read_grad _ (i 0) (i 1)
  · rw [Cert.Reference25Ideal.Read.val_main_v67_eq]
    rw [h0, h1, h2, h3, h4, h5, h6, h7, h8, h9, h10, h11, h12]
    funext i
    rw [idx_eq (n0 := 256) (n1 := 1024) i]
    exact Cert.Reference25Ideal.Prod.read_delta _ _ _ _ _ _ _ _ _ _ _ _ _ (i 0) (i 1)
  · refine (Cert.Reference25Ideal.Read.val_main_v48_eq ..).trans ?_
    rw [h0, h5, h6, h7, h8]
    funext i
    rw [idx_eq (n0 := 256) (n1 := 1024) i]
    exact Cert.Reference25Ideal.Prod.read_mean _ _ _ _ _ (i 0) (i 1)
  · refine (Cert.Reference25Ideal.Read.val_main_v54_eq ..).trans ?_
    rw [h0, h9, h10, h11, h12]
    funext i
    rw [idx_eq (n0 := 256) (n1 := 1024) i]
    exact Cert.Reference25Ideal.Prod.read_var _ _ _ _ _ (i 0) (i 1)

open Cert.Kernel26Ideal in
/-- The optimiser's step of the packed replicated weights. -/
theorem value26 : Cert.algebraic_Kernel26Ideal_Reference26Ideal := by
  intro m ρ m' ρ' _ hagree
  refine ⟨Prod.result_4 m, Prod.result_5 m, Prod.result_6 m, Prod.result_7 m, (θ_run defs _ _).mono (fun r h c => ⟨(h c).1.trans (Prod.final_4_eq m c), (h c).2.1.trans (Prod.final_5_eq m c),
    (h c).2.2.1.trans (Prod.final_6_eq m c), (h c).2.2.2.1.trans (Prod.final_7_eq m c), (h c).2.2.2.2⟩) (Value.run_blocks m ρ), ?_⟩
  refine (θ_run Cert.Reference26Ideal.defs _ _).mono (fun r h c => ?_) (Cert.Reference26Ideal.Value.run (F := Ideal) m' ρ')
  have hl : ∀ b, StableHlo.launchContents m' c (Proc.devRef .tc b) = m' ((c.tc : Thread Cert.Reference26Ideal.nD Cert.Reference26Ideal.τ).loc b) := fun _ => rfl
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48⟩ := hagree c
  refine ⟨(h c).1.trans ?_, (h c).2.1.trans ?_, (h c).2.2.1.trans ?_, (h c).2.2.2.1.trans ?_, (h c).2.2.2.2⟩
  · refine (Cert.Reference26Ideal.Read.val_main_v1_eq ..).trans ?_
    simp only [hl]
    rw [h0]
    funext i
    rw [idx_eq (n0 := 768) (n1 := 1024) i]
    exact Cert.Reference26Ideal.Prod.read_grad _ (i 0) (i 1)
  · refine (Cert.Reference26Ideal.Read.val_main_v190_eq ..).trans ?_
    simp only [hl]
    rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48]
    funext i
    rw [idx_eq (n0 := 768) (n1 := 1024) i]
    exact Cert.Reference26Ideal.Prod.read_delta _ _ _ _ _ _ _ _ _ _ _ _ _ _ _ _ _ _ _ _ _ _ _ _ _ _ _ _ _ _ _ _ _ _ _ _ _ _ _ _ _ _ _ _ _ _ _ _ _ (i 0) (i 1)
  · refine (Cert.Reference26Ideal.Read.val_main_v171_eq ..).trans ?_
    simp only [hl]
    rw [h0, h17, h18, h19, h20, h21, h22, h23, h24, h25, h26, h27, h28, h29, h30, h31, h32]
    funext i
    rw [idx_eq (n0 := 768) (n1 := 1024) i]
    exact Cert.Reference26Ideal.Prod.read_mean _ _ _ _ _ _ _ _ _ _ _ _ _ _ _ _ _ (i 0) (i 1)
  · refine (Cert.Reference26Ideal.Read.val_main_v177_eq ..).trans ?_
    simp only [hl]
    rw [h0, h33, h34, h35, h36, h37, h38, h39, h40, h41, h42, h43, h44, h45, h46, h47, h48]
    funext i
    rw [idx_eq (n0 := 768) (n1 := 1024) i]
    exact Cert.Reference26Ideal.Prod.read_var _ _ _ _ _ _ _ _ _ _ _ _ _ _ _ _ _ (i 0) (i 1)

/-- The claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    fun m ρ _ => Cert.Kernel23.Gen.frame m ρ, fun m ρ _ => Cert.Kernel23Ideal.Gen.frame m ρ, frame_reference23,
    fun m ρ _ => Cert.Kernel24.Gen.frame m ρ, fun m ρ _ => Cert.Kernel24Ideal.Gen.frame m ρ, frame_reference24,
    fun m ρ _ => Cert.Kernel25.Gen.frame m ρ, fun m ρ _ => Cert.Kernel25Ideal.Gen.frame m ρ, frame_reference25,
    fun m ρ _ => Cert.Kernel26.Gen.frame m ρ, fun m ρ _ => Cert.Kernel26Ideal.Gen.frame m ρ, frame_reference26,
    trivial, value,
    trivial, value2,
    trivial, value3,
    trivial, value4,
    trivial, value5,
    trivial, value6,
    trivial, value7,
    trivial, value8,
    trivial, value9,
    trivial, value10,
    trivial, value11,
    trivial, value12,
    trivial, value13,
    trivial, value14,
    trivial, value15,
    trivial, value16,
    trivial, value17,
    trivial, value18,
    trivial, value19,
    trivial, value20,
    trivial, value21,
    trivial, value22,
    trivial, value23,
    trivial, value24,
    trivial, value25,
    trivial, value26⟩

end Cert.Proof

end
